-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x15104 : Shape := ⟨3, ![128, 1, 15104]⟩
abbrev S7552x3840 : Shape := ⟨2, ![7552, 3840]⟩
abbrev S944x3840 : Shape := ⟨2, ![944, 3840]⟩
abbrev S_ : Shape := ⟨0, ![]⟩
abbrev S128x15104 : Shape := ⟨2, ![128, 15104]⟩
abbrev S1x1 : Shape := ⟨2, ![1, 1]⟩
abbrev S128x3840 : Shape := ⟨2, ![128, 3840]⟩
abbrev S59x2x128x128 : Shape := ⟨4, ![59, 2, 128, 128]⟩
abbrev S7x5 : Shape := ⟨2, ![7, 5]⟩
abbrev S5 : Shape := ⟨1, ![5]⟩
abbrev S15 : Shape := ⟨1, ![15]⟩
abbrev S128x1024 : Shape := ⟨2, ![128, 1024]⟩
abbrev S64x3840 : Shape := ⟨2, ![64, 3840]⟩
abbrev S1024x3840 : Shape := ⟨2, ![1024, 3840]⟩
abbrev S1 : Shape := ⟨1, ![1]⟩
abbrev S128x384 : Shape := ⟨2, ![128, 384]⟩
abbrev S24x3840 : Shape := ⟨2, ![24, 3840]⟩
abbrev S384x3840 : Shape := ⟨2, ![384, 3840]⟩
abbrev S128x256 : Shape := ⟨2, ![128, 256]⟩
abbrev S128x128 : Shape := ⟨2, ![128, 128]⟩
abbrev S128x128x1 : Shape := ⟨3, ![128, 128, 1]⟩
abbrev S1x1x128x128 : Shape := ⟨4, ![1, 1, 128, 128]⟩
abbrev S256x256 : Shape := ⟨2, ![256, 256]⟩
abbrev S8x256 : Shape := ⟨2, ![8, 256]⟩
abbrev S16x256 : Shape := ⟨2, ![16, 256]⟩
abbrev S1x256 : Shape := ⟨2, ![1, 256]⟩

abbrev nBuf : Space → Nat
  | .hbm => 7
  | .vmem => 5
  | .smem => 1
  | _ => 0

abbrev bufTy : (tb : Table) → Fin (tcTables nBuf tb) → BufTy
  | .hbm, ⟨0, _⟩ => ⟨S128x1x15104, .bf16⟩
  | .hbm, ⟨1, _⟩ => ⟨S7552x3840, .i8⟩
  | .hbm, ⟨2, _⟩ => ⟨S944x3840, .fp8e4m3⟩
  | .hbm, ⟨3, _⟩ => ⟨S_, .f32⟩
  | .hbm, ⟨4, _⟩ => ⟨S128x15104, .bf16⟩
  | .hbm, ⟨5, _⟩ => ⟨S1x1, .f32⟩
  | .hbm, ⟨6, _⟩ => ⟨S128x3840, .bf16⟩
  | .local _ .vmem, ⟨0, _⟩ => ⟨S128x15104, .bf16⟩
  | .local _ .vmem, ⟨1, _⟩ => ⟨S7552x3840, .i8⟩
  | .local _ .vmem, ⟨2, _⟩ => ⟨S944x3840, .fp8e4m3⟩
  | .local _ .vmem, ⟨3, _⟩ => ⟨S59x2x128x128, .bf16⟩
  | .local _ .vmem, ⟨4, _⟩ => ⟨S128x3840, .bf16⟩
  | .local _ .smem, ⟨0, _⟩ => ⟨S1x1, .f32⟩
  | _, _ => ⟨S128x1x15104, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_199_r0 : BitVec 32 := 0#32
  let c7_i32_r0 : BitVec 32 := 7#32
  let v176_r0 : BitVec 32 := Scalar.addi c0_i32_199_r0 c7_i32_r0
  let c1_i32_200_r0 : BitVec 32 := 1#32
  ⟨c0_i32_199_r0, v176_r0, c1_i32_200_r0⟩
def k0_mult1 (k0_t1 : Fin k0_t1_loop.trips) : BitVec 32 :=
  let c0_i32_1810_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_1808_r0 : BitVec 32 := 8#32
  let v5612_r0 : BitVec 32 := Scalar.muli arg13_r0 c8_i32_1808_r0
  let c128_i32_1809_r0 : BitVec 32 := 128#32
  let v5613_r0 : BitVec 32 := Scalar.muli v5612_r0 c128_i32_1809_r0
  let v5614_r0 : BitVec 32 := Scalar.addi c0_i32_1810_r0 v5613_r0
  v5614_r0
def k0_mult2 (k0_t1 : Fin k0_t1_loop.trips) : BitVec 32 :=
  let c7552_i32_1812_r0 : BitVec 32 := 7552#32
  let c0_i32_199_r0 : BitVec 32 := 0#32
  let c1_i32_200_r0 : BitVec 32 := 1#32
  let arg13_r0 : BitVec 32 := Scf.iv c0_i32_199_r0 c1_i32_200_r0 k0_t1
  let c8_i32_1808_r0 : BitVec 32 := 8#32
  let v5612_r0 : BitVec 32 := Scalar.muli arg13_r0 c8_i32_1808_r0
  let c128_i32_1811_r0 : BitVec 32 := 128#32
  let v5616_r0 : BitVec 32 := Scalar.muli v5612_r0 c128_i32_1811_r0
  let v5617_r0 : BitVec 32 := Scalar.addi c7552_i32_1812_r0 v5616_r0
  v5617_r0
def k0_mult3 (k0_t1 : Fin k0_t1_loop.trips) : BitVec 32 :=
  let c0_i32_1814_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_1808_r0 : BitVec 32 := 8#32
  let v5612_r0 : BitVec 32 := Scalar.muli arg13_r0 c8_i32_1808_r0
  let c8_i32_1813_r0 : BitVec 32 := 8#32
  let v5619_r0 : BitVec 32 := Scalar.muli v5612_r0 c8_i32_1813_r0
  let v5620_r0 : BitVec 32 := Scalar.addi c0_i32_1814_r0 v5619_r0
  v5620_r0
def k0_mult4 (k0_t1 : Fin k0_t1_loop.trips) : BitVec 32 :=
  let c472_i32_1816_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_1808_r0 : BitVec 32 := 8#32
  let v5612_r0 : BitVec 32 := Scalar.muli arg13_r0 c8_i32_1808_r0
  let c8_i32_1815_r0 : BitVec 32 := 8#32
  let v5622_r0 : BitVec 32 := Scalar.muli v5612_r0 c8_i32_1815_r0
  let v5623_r0 : BitVec 32 := Scalar.addi c472_i32_1816_r0 v5622_r0
  v5623_r0
def k0_mult5 (k0_t1 : Fin k0_t1_loop.trips) : BitVec 32 :=
  let c0_i32_1818_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_1808_r0 : BitVec 32 := 8#32
  let v5612_r0 : BitVec 32 := Scalar.muli arg13_r0 c8_i32_1808_r0
  let c128_i32_1817_r0 : BitVec 32 := 128#32
  let v5625_r0 : BitVec 32 := Scalar.muli v5612_r0 c128_i32_1817_r0
  let v5626_r0 : BitVec 32 := Scalar.addi c0_i32_1818_r0 v5625_r0
  v5626_r0
def k0_off1 (k0_t1 : Fin k0_t1_loop.trips) : Fin 2 → Nat :=
  let c0_i32_199_r0 : BitVec 32 := 0#32
  let c1_i32_200_r0 : BitVec 32 := 1#32
  let arg13_r0 : BitVec 32 := Scf.iv c0_i32_199_r0 c1_i32_200_r0 k0_t1
  let c0_i32_1819_r0 : BitVec 32 := 0#32
  ![arg13_r0.toNat, 0]
def k0_off2 (k0_t1 : Fin k0_t1_loop.trips) (c0_i32_1810_r0 : BitVec 32) : Fin 2 → Nat :=
  let c0_i32_1820_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_1808_r0 : BitVec 32 := 8#32
  let v5612_r0 : BitVec 32 := Scalar.muli arg13_r0 c8_i32_1808_r0
  let c128_i32_1809_r0 : BitVec 32 := 128#32
  let v5613_r0 : BitVec 32 := Scalar.muli v5612_r0 c128_i32_1809_r0
  let v5614_r0 : BitVec 32 := Scalar.addi c0_i32_1810_r0 v5613_r0
  let v5615_r0 : BitVec 32 := v5614_r0
  ![0, v5615_r0.toNat]
def k0_off3 (k0_t1 : Fin k0_t1_loop.trips) : Fin 2 → Nat :=
  let c0_i32_199_r0 : BitVec 32 := 0#32
  let c1_i32_200_r0 : BitVec 32 := 1#32
  let arg13_r0 : BitVec 32 := Scf.iv c0_i32_199_r0 c1_i32_200_r0 k0_t1
  let c1_i32_1822_r0 : BitVec 32 := 1#32
  ![arg13_r0.toNat, 1]
def k0_off4 (k0_t1 : Fin k0_t1_loop.trips) : Fin 2 → Nat :=
  let c0_i32_199_r0 : BitVec 32 := 0#32
  let c1_i32_200_r0 : BitVec 32 := 1#32
  let arg13_r0 : BitVec 32 := Scf.iv c0_i32_199_r0 c1_i32_200_r0 k0_t1
  let c2_i32_1825_r0 : BitVec 32 := 2#32
  ![arg13_r0.toNat, 2]
def k0_off5 (k0_t1 : Fin k0_t1_loop.trips) (c0_i32_1814_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_1808_r0 : BitVec 32 := 8#32
  let v5612_r0 : BitVec 32 := Scalar.muli arg13_r0 c8_i32_1808_r0
  let c8_i32_1813_r0 : BitVec 32 := 8#32
  let v5619_r0 : BitVec 32 := Scalar.muli v5612_r0 c8_i32_1813_r0
  let v5620_r0 : BitVec 32 := Scalar.addi c0_i32_1814_r0 v5619_r0
  let v5621_r0 : BitVec 32 := v5620_r0
  let c0_i32_1826_r0 : BitVec 32 := 0#32
  ![v5621_r0.toNat, 0]
def k0_off6 (k0_t1 : Fin k0_t1_loop.trips) : Fin 2 → Nat :=
  let c0_i32_199_r0 : BitVec 32 := 0#32
  let c1_i32_200_r0 : BitVec 32 := 1#32
  let arg13_r0 : BitVec 32 := Scf.iv c0_i32_199_r0 c1_i32_200_r0 k0_t1
  let c3_i32_1828_r0 : BitVec 32 := 3#32
  ![arg13_r0.toNat, 3]
def k0_off7 (k0_t1 : Fin k0_t1_loop.trips) : Fin 2 → Nat :=
  let c0_i32_199_r0 : BitVec 32 := 0#32
  let c1_i32_200_r0 : BitVec 32 := 1#32
  let arg13_r0 : BitVec 32 := Scf.iv c0_i32_199_r0 c1_i32_200_r0 k0_t1
  let c4_i32_1831_r0 : BitVec 32 := 4#32
  ![arg13_r0.toNat, 4]
def k0_off8 (k0_t1 : Fin k0_t1_loop.trips) : Fin 2 → Nat :=
  let c0_i32_1818_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_1808_r0 : BitVec 32 := 8#32
  let v5612_r0 : BitVec 32 := Scalar.muli arg13_r0 c8_i32_1808_r0
  let c128_i32_1817_r0 : BitVec 32 := 128#32
  let v5625_r0 : BitVec 32 := Scalar.muli v5612_r0 c128_i32_1817_r0
  let v5626_r0 : BitVec 32 := Scalar.addi c0_i32_1818_r0 v5625_r0
  let v5627_r0 : BitVec 32 := v5626_r0
  let c0_i32_1832_r0 : BitVec 32 := 0#32
  ![v5627_r0.toNat, 0]
def k0_mult6 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_1834_r0 : BitVec 32 := 8#32
  let v5648_r0 : BitVec 32 := Scalar.muli arg13_r0 c8_i32_1834_r0
  let c0_i32_1835_r0 : BitVec 32 := 0#32
  let v5649_r0 : BitVec 32 := Scalar.addi v5648_r0 c0_i32_1835_r0
  let c128_i32_1836_r0 : BitVec 32 := 128#32
  let v5650_r0 : BitVec 32 := Scalar.muli v5649_r0 c128_i32_1836_r0
  v5650_r0
def k0_off9 (k0_t1 : Fin k0_t1_loop.trips) (c0_i32_1835_r0 : BitVec 32) : Fin 2 → Nat :=
  let c0_1837_r0 : Index := 0#32
  let c0_i32_199_r0 : BitVec 32 := 0#32
  let c1_i32_200_r0 : BitVec 32 := 1#32
  let arg13_r0 : BitVec 32 := Scf.iv c0_i32_199_r0 c1_i32_200_r0 k0_t1
  let c8_i32_1834_r0 : BitVec 32 := 8#32
  let v5648_r0 : BitVec 32 := Scalar.muli arg13_r0 c8_i32_1834_r0
  let v5649_r0 : BitVec 32 := Scalar.addi v5648_r0 c0_i32_1835_r0
  let c128_i32_1836_r0 : BitVec 32 := 128#32
  let v5650_r0 : BitVec 32 := Scalar.muli v5649_r0 c128_i32_1836_r0
  let v5651_r0 : BitVec 32 := v5650_r0
  let v5652_r0 : Index := Scalar.indexCast v5651_r0
  ![0, v5652_r0.toNat]
def k0_mult7 (k0_t1 : Fin k0_t1_loop.trips) : BitVec 32 :=
  let c7552_i32_1839_r0 : BitVec 32 := 7552#32
  let c0_i32_199_r0 : BitVec 32 := 0#32
  let c1_i32_200_r0 : BitVec 32 := 1#32
  let arg13_r0 : BitVec 32 := Scf.iv c0_i32_199_r0 c1_i32_200_r0 k0_t1
  let c8_i32_1834_r0 : BitVec 32 := 8#32
  let v5648_r0 : BitVec 32 := Scalar.muli arg13_r0 c8_i32_1834_r0
  let c0_i32_1835_r0 : BitVec 32 := 0#32
  let v5649_r0 : BitVec 32 := Scalar.addi v5648_r0 c0_i32_1835_r0
  let c128_i32_1838_r0 : BitVec 32 := 128#32
  let v5655_r0 : BitVec 32 := Scalar.muli v5649_r0 c128_i32_1838_r0
  let v5656_r0 : BitVec 32 := Scalar.addi c7552_i32_1839_r0 v5655_r0
  v5656_r0
def k0_off10 (k0_t1 : Fin k0_t1_loop.trips) (c0_i32_1835_r0 : BitVec 32) : Fin 2 → Nat :=
  let c0_1840_r0 : Index := 0#32
  let c7552_i32_1839_r0 : BitVec 32 := 7552#32
  let c0_i32_199_r0 : BitVec 32 := 0#32
  let c1_i32_200_r0 : BitVec 32 := 1#32
  let arg13_r0 : BitVec 32 := Scf.iv c0_i32_199_r0 c1_i32_200_r0 k0_t1
  let c8_i32_1834_r0 : BitVec 32 := 8#32
  let v5648_r0 : BitVec 32 := Scalar.muli arg13_r0 c8_i32_1834_r0
  let v5649_r0 : BitVec 32 := Scalar.addi v5648_r0 c0_i32_1835_r0
  let c128_i32_1838_r0 : BitVec 32 := 128#32
  let v5655_r0 : BitVec 32 := Scalar.muli v5649_r0 c128_i32_1838_r0
  let v5656_r0 : BitVec 32 := Scalar.addi c7552_i32_1839_r0 v5655_r0
  let v5657_r0 : BitVec 32 := v5656_r0
  let v5658_r0 : Index := Scalar.indexCast v5657_r0
  ![0, v5658_r0.toNat]
def k0_off11 (k0_t1 : Fin k0_t1_loop.trips) (c0_i32_1835_r0 : BitVec 32) : Fin 4 → Nat :=
  let c0_i32_199_r0 : BitVec 32 := 0#32
  let c1_i32_200_r0 : BitVec 32 := 1#32
  let arg13_r0 : BitVec 32 := Scf.iv c0_i32_199_r0 c1_i32_200_r0 k0_t1
  let c8_i32_1834_r0 : BitVec 32 := 8#32
  let v5648_r0 : BitVec 32 := Scalar.muli arg13_r0 c8_i32_1834_r0
  let v5649_r0 : BitVec 32 := Scalar.addi v5648_r0 c0_i32_1835_r0
  let v5729_r0 : Index := Scalar.indexCast v5649_r0
  let c0_1862_r0 : Index := 0#32
  let c0_1863_r0 : Index := 0#32
  let c0_1864_r0 : Index := 0#32
  ![v5729_r0.toNat, 0, 0, 0]
def k0_off12 (k0_t1 : Fin k0_t1_loop.trips) (c0_i32_1835_r0 : BitVec 32) : Fin 4 → Nat :=
  let c0_i32_199_r0 : BitVec 32 := 0#32
  let c1_i32_200_r0 : BitVec 32 := 1#32
  let arg13_r0 : BitVec 32 := Scf.iv c0_i32_199_r0 c1_i32_200_r0 k0_t1
  let c8_i32_1834_r0 : BitVec 32 := 8#32
  let v5648_r0 : BitVec 32 := Scalar.muli arg13_r0 c8_i32_1834_r0
  let v5649_r0 : BitVec 32 := Scalar.addi v5648_r0 c0_i32_1835_r0
  let v5734_r0 : Index := Scalar.indexCast v5649_r0
  let c1_1865_r0 : Index := 1#32
  let c0_1866_r0 : Index := 0#32
  let c0_1867_r0 : Index := 0#32
  ![v5734_r0.toNat, 1, 0, 0]
def k0_mult8 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_1868_r0 : BitVec 32 := 8#32
  let v5738_r0 : BitVec 32 := Scalar.muli arg13_r0 c8_i32_1868_r0
  let c1_i32_1869_r0 : BitVec 32 := 1#32
  let v5739_r0 : BitVec 32 := Scalar.addi v5738_r0 c1_i32_1869_r0
  let c128_i32_1870_r0 : BitVec 32 := 128#32
  let v5740_r0 : BitVec 32 := Scalar.muli v5739_r0 c128_i32_1870_r0
  v5740_r0
def k0_mult9 (k0_t1 : Fin k0_t1_loop.trips) : BitVec 32 :=
  let c7552_i32_1873_r0 : BitVec 32 := 7552#32
  let c0_i32_199_r0 : BitVec 32 := 0#32
  let c1_i32_200_r0 : BitVec 32 := 1#32
  let arg13_r0 : BitVec 32 := Scf.iv c0_i32_199_r0 c1_i32_200_r0 k0_t1
  let c8_i32_1868_r0 : BitVec 32 := 8#32
  let v5738_r0 : BitVec 32 := Scalar.muli arg13_r0 c8_i32_1868_r0
  let c1_i32_1869_r0 : BitVec 32 := 1#32
  let v5739_r0 : BitVec 32 := Scalar.addi v5738_r0 c1_i32_1869_r0
  let c128_i32_1872_r0 : BitVec 32 := 128#32
  let v5745_r0 : BitVec 32 := Scalar.muli v5739_r0 c128_i32_1872_r0
  let v5746_r0 : BitVec 32 := Scalar.addi c7552_i32_1873_r0 v5745_r0
  v5746_r0
def k0_mult10 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_1902_r0 : BitVec 32 := 8#32
  let v5828_r0 : BitVec 32 := Scalar.muli arg13_r0 c8_i32_1902_r0
  let c2_i32_1903_r0 : BitVec 32 := 2#32
  let v5829_r0 : BitVec 32 := Scalar.addi v5828_r0 c2_i32_1903_r0
  let c128_i32_1904_r0 : BitVec 32 := 128#32
  let v5830_r0 : BitVec 32 := Scalar.muli v5829_r0 c128_i32_1904_r0
  v5830_r0
def k0_mult11 (k0_t1 : Fin k0_t1_loop.trips) : BitVec 32 :=
  let c7552_i32_1907_r0 : BitVec 32 := 7552#32
  let c0_i32_199_r0 : BitVec 32 := 0#32
  let c1_i32_200_r0 : BitVec 32 := 1#32
  let arg13_r0 : BitVec 32 := Scf.iv c0_i32_199_r0 c1_i32_200_r0 k0_t1
  let c8_i32_1902_r0 : BitVec 32 := 8#32
  let v5828_r0 : BitVec 32 := Scalar.muli arg13_r0 c8_i32_1902_r0
  let c2_i32_1903_r0 : BitVec 32 := 2#32
  let v5829_r0 : BitVec 32 := Scalar.addi v5828_r0 c2_i32_1903_r0
  let c128_i32_1906_r0 : BitVec 32 := 128#32
  let v5835_r0 : BitVec 32 := Scalar.muli v5829_r0 c128_i32_1906_r0
  let v5836_r0 : BitVec 32 := Scalar.addi c7552_i32_1907_r0 v5835_r0
  v5836_r0
def k0_mult12 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_1936_r0 : BitVec 32 := 8#32
  let v5918_r0 : BitVec 32 := Scalar.muli arg13_r0 c8_i32_1936_r0
  let c3_i32_1937_r0 : BitVec 32 := 3#32
  let v5919_r0 : BitVec 32 := Scalar.addi v5918_r0 c3_i32_1937_r0
  let c128_i32_1938_r0 : BitVec 32 := 128#32
  let v5920_r0 : BitVec 32 := Scalar.muli v5919_r0 c128_i32_1938_r0
  v5920_r0
def k0_mult13 (k0_t1 : Fin k0_t1_loop.trips) : BitVec 32 :=
  let c7552_i32_1941_r0 : BitVec 32 := 7552#32
  let c0_i32_199_r0 : BitVec 32 := 0#32
  let c1_i32_200_r0 : BitVec 32 := 1#32
  let arg13_r0 : BitVec 32 := Scf.iv c0_i32_199_r0 c1_i32_200_r0 k0_t1
  let c8_i32_1936_r0 : BitVec 32 := 8#32
  let v5918_r0 : BitVec 32 := Scalar.muli arg13_r0 c8_i32_1936_r0
  let c3_i32_1937_r0 : BitVec 32 := 3#32
  let v5919_r0 : BitVec 32 := Scalar.addi v5918_r0 c3_i32_1937_r0
  let c128_i32_1940_r0 : BitVec 32 := 128#32
  let v5925_r0 : BitVec 32 := Scalar.muli v5919_r0 c128_i32_1940_r0
  let v5926_r0 : BitVec 32 := Scalar.addi c7552_i32_1941_r0 v5925_r0
  v5926_r0
def k0_mult14 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_1970_r0 : BitVec 32 := 8#32
  let v6008_r0 : BitVec 32 := Scalar.muli arg13_r0 c8_i32_1970_r0
  let c4_i32_1971_r0 : BitVec 32 := 4#32
  let v6009_r0 : BitVec 32 := Scalar.addi v6008_r0 c4_i32_1971_r0
  let c128_i32_1972_r0 : BitVec 32 := 128#32
  let v6010_r0 : BitVec 32 := Scalar.muli v6009_r0 c128_i32_1972_r0
  v6010_r0
def k0_mult15 (k0_t1 : Fin k0_t1_loop.trips) : BitVec 32 :=
  let c7552_i32_1975_r0 : BitVec 32 := 7552#32
  let c0_i32_199_r0 : BitVec 32 := 0#32
  let c1_i32_200_r0 : BitVec 32 := 1#32
  let arg13_r0 : BitVec 32 := Scf.iv c0_i32_199_r0 c1_i32_200_r0 k0_t1
  let c8_i32_1970_r0 : BitVec 32 := 8#32
  let v6008_r0 : BitVec 32 := Scalar.muli arg13_r0 c8_i32_1970_r0
  let c4_i32_1971_r0 : BitVec 32 := 4#32
  let v6009_r0 : BitVec 32 := Scalar.addi v6008_r0 c4_i32_1971_r0
  let c128_i32_1974_r0 : BitVec 32 := 128#32
  let v6015_r0 : BitVec 32 := Scalar.muli v6009_r0 c128_i32_1974_r0
  let v6016_r0 : BitVec 32 := Scalar.addi c7552_i32_1975_r0 v6015_r0
  v6016_r0
def k0_mult16 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2004_r0 : BitVec 32 := 8#32
  let v6098_r0 : BitVec 32 := Scalar.muli arg13_r0 c8_i32_2004_r0
  let c5_i32_2005_r0 : BitVec 32 := 5#32
  let v6099_r0 : BitVec 32 := Scalar.addi v6098_r0 c5_i32_2005_r0
  let c128_i32_2006_r0 : BitVec 32 := 128#32
  let v6100_r0 : BitVec 32 := Scalar.muli v6099_r0 c128_i32_2006_r0
  v6100_r0
def k0_mult17 (k0_t1 : Fin k0_t1_loop.trips) : BitVec 32 :=
  let c7552_i32_2009_r0 : BitVec 32 := 7552#32
  let c0_i32_199_r0 : BitVec 32 := 0#32
  let c1_i32_200_r0 : BitVec 32 := 1#32
  let arg13_r0 : BitVec 32 := Scf.iv c0_i32_199_r0 c1_i32_200_r0 k0_t1
  let c8_i32_2004_r0 : BitVec 32 := 8#32
  let v6098_r0 : BitVec 32 := Scalar.muli arg13_r0 c8_i32_2004_r0
  let c5_i32_2005_r0 : BitVec 32 := 5#32
  let v6099_r0 : BitVec 32 := Scalar.addi v6098_r0 c5_i32_2005_r0
  let c128_i32_2008_r0 : BitVec 32 := 128#32
  let v6105_r0 : BitVec 32 := Scalar.muli v6099_r0 c128_i32_2008_r0
  let v6106_r0 : BitVec 32 := Scalar.addi c7552_i32_2009_r0 v6105_r0
  v6106_r0
def k0_mult18 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2038_r0 : BitVec 32 := 8#32
  let v6188_r0 : BitVec 32 := Scalar.muli arg13_r0 c8_i32_2038_r0
  let c6_i32_2039_r0 : BitVec 32 := 6#32
  let v6189_r0 : BitVec 32 := Scalar.addi v6188_r0 c6_i32_2039_r0
  let c128_i32_2040_r0 : BitVec 32 := 128#32
  let v6190_r0 : BitVec 32 := Scalar.muli v6189_r0 c128_i32_2040_r0
  v6190_r0
def k0_mult19 (k0_t1 : Fin k0_t1_loop.trips) : BitVec 32 :=
  let c7552_i32_2043_r0 : BitVec 32 := 7552#32
  let c0_i32_199_r0 : BitVec 32 := 0#32
  let c1_i32_200_r0 : BitVec 32 := 1#32
  let arg13_r0 : BitVec 32 := Scf.iv c0_i32_199_r0 c1_i32_200_r0 k0_t1
  let c8_i32_2038_r0 : BitVec 32 := 8#32
  let v6188_r0 : BitVec 32 := Scalar.muli arg13_r0 c8_i32_2038_r0
  let c6_i32_2039_r0 : BitVec 32 := 6#32
  let v6189_r0 : BitVec 32 := Scalar.addi v6188_r0 c6_i32_2039_r0
  let c128_i32_2042_r0 : BitVec 32 := 128#32
  let v6195_r0 : BitVec 32 := Scalar.muli v6189_r0 c128_i32_2042_r0
  let v6196_r0 : BitVec 32 := Scalar.addi c7552_i32_2043_r0 v6195_r0
  v6196_r0
def k0_mult20 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2072_r0 : BitVec 32 := 8#32
  let v6278_r0 : BitVec 32 := Scalar.muli arg13_r0 c8_i32_2072_r0
  let c7_i32_2073_r0 : BitVec 32 := 7#32
  let v6279_r0 : BitVec 32 := Scalar.addi v6278_r0 c7_i32_2073_r0
  let c128_i32_2074_r0 : BitVec 32 := 128#32
  let v6280_r0 : BitVec 32 := Scalar.muli v6279_r0 c128_i32_2074_r0
  v6280_r0
def k0_mult21 (k0_t1 : Fin k0_t1_loop.trips) : BitVec 32 :=
  let c7552_i32_2077_r0 : BitVec 32 := 7552#32
  let c0_i32_199_r0 : BitVec 32 := 0#32
  let c1_i32_200_r0 : BitVec 32 := 1#32
  let arg13_r0 : BitVec 32 := Scf.iv c0_i32_199_r0 c1_i32_200_r0 k0_t1
  let c8_i32_2072_r0 : BitVec 32 := 8#32
  let v6278_r0 : BitVec 32 := Scalar.muli arg13_r0 c8_i32_2072_r0
  let c7_i32_2073_r0 : BitVec 32 := 7#32
  let v6279_r0 : BitVec 32 := Scalar.addi v6278_r0 c7_i32_2073_r0
  let c128_i32_2076_r0 : BitVec 32 := 128#32
  let v6285_r0 : BitVec 32 := Scalar.muli v6279_r0 c128_i32_2076_r0
  let v6286_r0 : BitVec 32 := Scalar.addi c7552_i32_2077_r0 v6285_r0
  v6286_r0
def k0_mult22 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2108_r0 : BitVec 32 := 128#32
  let v6370_r0 : BitVec 32 := Scalar.muli v6369_r0 c128_i32_2108_r0
  v6370_r0
def k0_off13 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2108_r0 : BitVec 32 := 128#32
  let v6370_r0 : BitVec 32 := Scalar.muli v6369_r0 c128_i32_2108_r0
  let v6371_r0 : BitVec 32 := v6370_r0
  let v6372_r0 : Index := Scalar.indexCast v6371_r0
  let c0_2109_r0 : Index := 0#32
  ![v6372_r0.toNat, 0]
def k0_mult23 (k0_t1 : Fin k0_t1_loop.trips) : BitVec 32 :=
  let c0_i32_2125_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2124_r0 : BitVec 32 := 8#32
  let v6409_r0 : BitVec 32 := Scalar.muli v6369_r0 c8_i32_2124_r0
  let v6410_r0 : BitVec 32 := Scalar.addi c0_i32_2125_r0 v6409_r0
  v6410_r0
def k0_off14 (k0_t1 : Fin k0_t1_loop.trips) (c0_i32_2125_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2124_r0 : BitVec 32 := 8#32
  let v6409_r0 : BitVec 32 := Scalar.muli v6369_r0 c8_i32_2124_r0
  let v6410_r0 : BitVec 32 := Scalar.addi c0_i32_2125_r0 v6409_r0
  let v6411_r0 : BitVec 32 := v6410_r0
  let v6412_r0 : Index := Scalar.indexCast v6411_r0
  let c0_2126_r0 : Index := 0#32
  ![v6412_r0.toNat, 0]
def k0_mult24 (k0_t1 : Fin k0_t1_loop.trips) : BitVec 32 :=
  let c472_i32_2128_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2127_r0 : BitVec 32 := 8#32
  let v6416_r0 : BitVec 32 := Scalar.muli v6369_r0 c8_i32_2127_r0
  let v6417_r0 : BitVec 32 := Scalar.addi c472_i32_2128_r0 v6416_r0
  v6417_r0
def k0_mult25 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2138_r0 : BitVec 32 := 128#32
  let v6493_r0 : BitVec 32 := Scalar.muli v6369_r0 c128_i32_2138_r0
  v6493_r0
def k0_off15 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2138_r0 : BitVec 32 := 128#32
  let v6493_r0 : BitVec 32 := Scalar.muli v6369_r0 c128_i32_2138_r0
  let v6494_r0 : BitVec 32 := v6493_r0
  let v6495_r0 : Index := Scalar.indexCast v6494_r0
  let c256_2139_r0 : Index := 256#32
  ![v6495_r0.toNat, 256]
def k0_mult26 (k0_t1 : Fin k0_t1_loop.trips) : BitVec 32 :=
  let c0_i32_2155_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2154_r0 : BitVec 32 := 8#32
  let v6532_r0 : BitVec 32 := Scalar.muli v6369_r0 c8_i32_2154_r0
  let v6533_r0 : BitVec 32 := Scalar.addi c0_i32_2155_r0 v6532_r0
  v6533_r0
def k0_off16 (k0_t1 : Fin k0_t1_loop.trips) (c0_i32_2155_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2154_r0 : BitVec 32 := 8#32
  let v6532_r0 : BitVec 32 := Scalar.muli v6369_r0 c8_i32_2154_r0
  let v6533_r0 : BitVec 32 := Scalar.addi c0_i32_2155_r0 v6532_r0
  let v6534_r0 : BitVec 32 := v6533_r0
  let v6535_r0 : Index := Scalar.indexCast v6534_r0
  let c256_2156_r0 : Index := 256#32
  ![v6535_r0.toNat, 256]
def k0_mult27 (k0_t1 : Fin k0_t1_loop.trips) : BitVec 32 :=
  let c472_i32_2158_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2157_r0 : BitVec 32 := 8#32
  let v6539_r0 : BitVec 32 := Scalar.muli v6369_r0 c8_i32_2157_r0
  let v6540_r0 : BitVec 32 := Scalar.addi c472_i32_2158_r0 v6539_r0
  v6540_r0
def k0_mult28 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2168_r0 : BitVec 32 := 128#32
  let v6616_r0 : BitVec 32 := Scalar.muli v6369_r0 c128_i32_2168_r0
  v6616_r0
def k0_off17 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2168_r0 : BitVec 32 := 128#32
  let v6616_r0 : BitVec 32 := Scalar.muli v6369_r0 c128_i32_2168_r0
  let v6617_r0 : BitVec 32 := v6616_r0
  let v6618_r0 : Index := Scalar.indexCast v6617_r0
  let c512_2169_r0 : Index := 512#32
  ![v6618_r0.toNat, 512]
def k0_mult29 (k0_t1 : Fin k0_t1_loop.trips) : BitVec 32 :=
  let c0_i32_2185_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2184_r0 : BitVec 32 := 8#32
  let v6655_r0 : BitVec 32 := Scalar.muli v6369_r0 c8_i32_2184_r0
  let v6656_r0 : BitVec 32 := Scalar.addi c0_i32_2185_r0 v6655_r0
  v6656_r0
def k0_off18 (k0_t1 : Fin k0_t1_loop.trips) (c0_i32_2185_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2184_r0 : BitVec 32 := 8#32
  let v6655_r0 : BitVec 32 := Scalar.muli v6369_r0 c8_i32_2184_r0
  let v6656_r0 : BitVec 32 := Scalar.addi c0_i32_2185_r0 v6655_r0
  let v6657_r0 : BitVec 32 := v6656_r0
  let v6658_r0 : Index := Scalar.indexCast v6657_r0
  let c512_2186_r0 : Index := 512#32
  ![v6658_r0.toNat, 512]
def k0_mult30 (k0_t1 : Fin k0_t1_loop.trips) : BitVec 32 :=
  let c472_i32_2188_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2187_r0 : BitVec 32 := 8#32
  let v6662_r0 : BitVec 32 := Scalar.muli v6369_r0 c8_i32_2187_r0
  let v6663_r0 : BitVec 32 := Scalar.addi c472_i32_2188_r0 v6662_r0
  v6663_r0
def k0_mult31 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2198_r0 : BitVec 32 := 128#32
  let v6739_r0 : BitVec 32 := Scalar.muli v6369_r0 c128_i32_2198_r0
  v6739_r0
def k0_off19 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2198_r0 : BitVec 32 := 128#32
  let v6739_r0 : BitVec 32 := Scalar.muli v6369_r0 c128_i32_2198_r0
  let v6740_r0 : BitVec 32 := v6739_r0
  let v6741_r0 : Index := Scalar.indexCast v6740_r0
  let c768_2199_r0 : Index := 768#32
  ![v6741_r0.toNat, 768]
def k0_mult32 (k0_t1 : Fin k0_t1_loop.trips) : BitVec 32 :=
  let c0_i32_2215_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2214_r0 : BitVec 32 := 8#32
  let v6778_r0 : BitVec 32 := Scalar.muli v6369_r0 c8_i32_2214_r0
  let v6779_r0 : BitVec 32 := Scalar.addi c0_i32_2215_r0 v6778_r0
  v6779_r0
def k0_off20 (k0_t1 : Fin k0_t1_loop.trips) (c0_i32_2215_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2214_r0 : BitVec 32 := 8#32
  let v6778_r0 : BitVec 32 := Scalar.muli v6369_r0 c8_i32_2214_r0
  let v6779_r0 : BitVec 32 := Scalar.addi c0_i32_2215_r0 v6778_r0
  let v6780_r0 : BitVec 32 := v6779_r0
  let v6781_r0 : Index := Scalar.indexCast v6780_r0
  let c768_2216_r0 : Index := 768#32
  ![v6781_r0.toNat, 768]
def k0_mult33 (k0_t1 : Fin k0_t1_loop.trips) : BitVec 32 :=
  let c472_i32_2218_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2217_r0 : BitVec 32 := 8#32
  let v6785_r0 : BitVec 32 := Scalar.muli v6369_r0 c8_i32_2217_r0
  let v6786_r0 : BitVec 32 := Scalar.addi c472_i32_2218_r0 v6785_r0
  v6786_r0
def k0_mult34 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2228_r0 : BitVec 32 := 128#32
  let v6862_r0 : BitVec 32 := Scalar.muli v6369_r0 c128_i32_2228_r0
  v6862_r0
def k0_off21 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2228_r0 : BitVec 32 := 128#32
  let v6862_r0 : BitVec 32 := Scalar.muli v6369_r0 c128_i32_2228_r0
  let v6863_r0 : BitVec 32 := v6862_r0
  let v6864_r0 : Index := Scalar.indexCast v6863_r0
  let c1024_2229_r0 : Index := 1024#32
  ![v6864_r0.toNat, 1024]
def k0_mult35 (k0_t1 : Fin k0_t1_loop.trips) : BitVec 32 :=
  let c0_i32_2245_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2244_r0 : BitVec 32 := 8#32
  let v6901_r0 : BitVec 32 := Scalar.muli v6369_r0 c8_i32_2244_r0
  let v6902_r0 : BitVec 32 := Scalar.addi c0_i32_2245_r0 v6901_r0
  v6902_r0
def k0_off22 (k0_t1 : Fin k0_t1_loop.trips) (c0_i32_2245_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2244_r0 : BitVec 32 := 8#32
  let v6901_r0 : BitVec 32 := Scalar.muli v6369_r0 c8_i32_2244_r0
  let v6902_r0 : BitVec 32 := Scalar.addi c0_i32_2245_r0 v6901_r0
  let v6903_r0 : BitVec 32 := v6902_r0
  let v6904_r0 : Index := Scalar.indexCast v6903_r0
  let c1024_2246_r0 : Index := 1024#32
  ![v6904_r0.toNat, 1024]
def k0_mult36 (k0_t1 : Fin k0_t1_loop.trips) : BitVec 32 :=
  let c472_i32_2248_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2247_r0 : BitVec 32 := 8#32
  let v6908_r0 : BitVec 32 := Scalar.muli v6369_r0 c8_i32_2247_r0
  let v6909_r0 : BitVec 32 := Scalar.addi c472_i32_2248_r0 v6908_r0
  v6909_r0
def k0_mult37 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2258_r0 : BitVec 32 := 128#32
  let v6985_r0 : BitVec 32 := Scalar.muli v6369_r0 c128_i32_2258_r0
  v6985_r0
def k0_off23 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2258_r0 : BitVec 32 := 128#32
  let v6985_r0 : BitVec 32 := Scalar.muli v6369_r0 c128_i32_2258_r0
  let v6986_r0 : BitVec 32 := v6985_r0
  let v6987_r0 : Index := Scalar.indexCast v6986_r0
  let c1280_2259_r0 : Index := 1280#32
  ![v6987_r0.toNat, 1280]
def k0_mult38 (k0_t1 : Fin k0_t1_loop.trips) : BitVec 32 :=
  let c0_i32_2275_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2274_r0 : BitVec 32 := 8#32
  let v7024_r0 : BitVec 32 := Scalar.muli v6369_r0 c8_i32_2274_r0
  let v7025_r0 : BitVec 32 := Scalar.addi c0_i32_2275_r0 v7024_r0
  v7025_r0
def k0_off24 (k0_t1 : Fin k0_t1_loop.trips) (c0_i32_2275_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2274_r0 : BitVec 32 := 8#32
  let v7024_r0 : BitVec 32 := Scalar.muli v6369_r0 c8_i32_2274_r0
  let v7025_r0 : BitVec 32 := Scalar.addi c0_i32_2275_r0 v7024_r0
  let v7026_r0 : BitVec 32 := v7025_r0
  let v7027_r0 : Index := Scalar.indexCast v7026_r0
  let c1280_2276_r0 : Index := 1280#32
  ![v7027_r0.toNat, 1280]
def k0_mult39 (k0_t1 : Fin k0_t1_loop.trips) : BitVec 32 :=
  let c472_i32_2278_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2277_r0 : BitVec 32 := 8#32
  let v7031_r0 : BitVec 32 := Scalar.muli v6369_r0 c8_i32_2277_r0
  let v7032_r0 : BitVec 32 := Scalar.addi c472_i32_2278_r0 v7031_r0
  v7032_r0
def k0_mult40 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2288_r0 : BitVec 32 := 128#32
  let v7108_r0 : BitVec 32 := Scalar.muli v6369_r0 c128_i32_2288_r0
  v7108_r0
def k0_off25 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2288_r0 : BitVec 32 := 128#32
  let v7108_r0 : BitVec 32 := Scalar.muli v6369_r0 c128_i32_2288_r0
  let v7109_r0 : BitVec 32 := v7108_r0
  let v7110_r0 : Index := Scalar.indexCast v7109_r0
  let c1536_2289_r0 : Index := 1536#32
  ![v7110_r0.toNat, 1536]
def k0_mult41 (k0_t1 : Fin k0_t1_loop.trips) : BitVec 32 :=
  let c0_i32_2305_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2304_r0 : BitVec 32 := 8#32
  let v7147_r0 : BitVec 32 := Scalar.muli v6369_r0 c8_i32_2304_r0
  let v7148_r0 : BitVec 32 := Scalar.addi c0_i32_2305_r0 v7147_r0
  v7148_r0
def k0_off26 (k0_t1 : Fin k0_t1_loop.trips) (c0_i32_2305_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2304_r0 : BitVec 32 := 8#32
  let v7147_r0 : BitVec 32 := Scalar.muli v6369_r0 c8_i32_2304_r0
  let v7148_r0 : BitVec 32 := Scalar.addi c0_i32_2305_r0 v7147_r0
  let v7149_r0 : BitVec 32 := v7148_r0
  let v7150_r0 : Index := Scalar.indexCast v7149_r0
  let c1536_2306_r0 : Index := 1536#32
  ![v7150_r0.toNat, 1536]
def k0_mult42 (k0_t1 : Fin k0_t1_loop.trips) : BitVec 32 :=
  let c472_i32_2308_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2307_r0 : BitVec 32 := 8#32
  let v7154_r0 : BitVec 32 := Scalar.muli v6369_r0 c8_i32_2307_r0
  let v7155_r0 : BitVec 32 := Scalar.addi c472_i32_2308_r0 v7154_r0
  v7155_r0
def k0_mult43 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2318_r0 : BitVec 32 := 128#32
  let v7231_r0 : BitVec 32 := Scalar.muli v6369_r0 c128_i32_2318_r0
  v7231_r0
def k0_off27 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2318_r0 : BitVec 32 := 128#32
  let v7231_r0 : BitVec 32 := Scalar.muli v6369_r0 c128_i32_2318_r0
  let v7232_r0 : BitVec 32 := v7231_r0
  let v7233_r0 : Index := Scalar.indexCast v7232_r0
  let c1792_2319_r0 : Index := 1792#32
  ![v7233_r0.toNat, 1792]
def k0_mult44 (k0_t1 : Fin k0_t1_loop.trips) : BitVec 32 :=
  let c0_i32_2335_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2334_r0 : BitVec 32 := 8#32
  let v7270_r0 : BitVec 32 := Scalar.muli v6369_r0 c8_i32_2334_r0
  let v7271_r0 : BitVec 32 := Scalar.addi c0_i32_2335_r0 v7270_r0
  v7271_r0
def k0_off28 (k0_t1 : Fin k0_t1_loop.trips) (c0_i32_2335_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2334_r0 : BitVec 32 := 8#32
  let v7270_r0 : BitVec 32 := Scalar.muli v6369_r0 c8_i32_2334_r0
  let v7271_r0 : BitVec 32 := Scalar.addi c0_i32_2335_r0 v7270_r0
  let v7272_r0 : BitVec 32 := v7271_r0
  let v7273_r0 : Index := Scalar.indexCast v7272_r0
  let c1792_2336_r0 : Index := 1792#32
  ![v7273_r0.toNat, 1792]
def k0_mult45 (k0_t1 : Fin k0_t1_loop.trips) : BitVec 32 :=
  let c472_i32_2338_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2337_r0 : BitVec 32 := 8#32
  let v7277_r0 : BitVec 32 := Scalar.muli v6369_r0 c8_i32_2337_r0
  let v7278_r0 : BitVec 32 := Scalar.addi c472_i32_2338_r0 v7277_r0
  v7278_r0
def k0_mult46 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2348_r0 : BitVec 32 := 128#32
  let v7354_r0 : BitVec 32 := Scalar.muli v6369_r0 c128_i32_2348_r0
  v7354_r0
def k0_off29 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2348_r0 : BitVec 32 := 128#32
  let v7354_r0 : BitVec 32 := Scalar.muli v6369_r0 c128_i32_2348_r0
  let v7355_r0 : BitVec 32 := v7354_r0
  let v7356_r0 : Index := Scalar.indexCast v7355_r0
  let c2048_2349_r0 : Index := 2048#32
  ![v7356_r0.toNat, 2048]
def k0_mult47 (k0_t1 : Fin k0_t1_loop.trips) : BitVec 32 :=
  let c0_i32_2365_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2364_r0 : BitVec 32 := 8#32
  let v7393_r0 : BitVec 32 := Scalar.muli v6369_r0 c8_i32_2364_r0
  let v7394_r0 : BitVec 32 := Scalar.addi c0_i32_2365_r0 v7393_r0
  v7394_r0
def k0_off30 (k0_t1 : Fin k0_t1_loop.trips) (c0_i32_2365_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2364_r0 : BitVec 32 := 8#32
  let v7393_r0 : BitVec 32 := Scalar.muli v6369_r0 c8_i32_2364_r0
  let v7394_r0 : BitVec 32 := Scalar.addi c0_i32_2365_r0 v7393_r0
  let v7395_r0 : BitVec 32 := v7394_r0
  let v7396_r0 : Index := Scalar.indexCast v7395_r0
  let c2048_2366_r0 : Index := 2048#32
  ![v7396_r0.toNat, 2048]
def k0_mult48 (k0_t1 : Fin k0_t1_loop.trips) : BitVec 32 :=
  let c472_i32_2368_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2367_r0 : BitVec 32 := 8#32
  let v7400_r0 : BitVec 32 := Scalar.muli v6369_r0 c8_i32_2367_r0
  let v7401_r0 : BitVec 32 := Scalar.addi c472_i32_2368_r0 v7400_r0
  v7401_r0
def k0_mult49 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2378_r0 : BitVec 32 := 128#32
  let v7477_r0 : BitVec 32 := Scalar.muli v6369_r0 c128_i32_2378_r0
  v7477_r0
def k0_off31 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2378_r0 : BitVec 32 := 128#32
  let v7477_r0 : BitVec 32 := Scalar.muli v6369_r0 c128_i32_2378_r0
  let v7478_r0 : BitVec 32 := v7477_r0
  let v7479_r0 : Index := Scalar.indexCast v7478_r0
  let c2304_2379_r0 : Index := 2304#32
  ![v7479_r0.toNat, 2304]
def k0_mult50 (k0_t1 : Fin k0_t1_loop.trips) : BitVec 32 :=
  let c0_i32_2395_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2394_r0 : BitVec 32 := 8#32
  let v7516_r0 : BitVec 32 := Scalar.muli v6369_r0 c8_i32_2394_r0
  let v7517_r0 : BitVec 32 := Scalar.addi c0_i32_2395_r0 v7516_r0
  v7517_r0
def k0_off32 (k0_t1 : Fin k0_t1_loop.trips) (c0_i32_2395_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2394_r0 : BitVec 32 := 8#32
  let v7516_r0 : BitVec 32 := Scalar.muli v6369_r0 c8_i32_2394_r0
  let v7517_r0 : BitVec 32 := Scalar.addi c0_i32_2395_r0 v7516_r0
  let v7518_r0 : BitVec 32 := v7517_r0
  let v7519_r0 : Index := Scalar.indexCast v7518_r0
  let c2304_2396_r0 : Index := 2304#32
  ![v7519_r0.toNat, 2304]
def k0_mult51 (k0_t1 : Fin k0_t1_loop.trips) : BitVec 32 :=
  let c472_i32_2398_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2397_r0 : BitVec 32 := 8#32
  let v7523_r0 : BitVec 32 := Scalar.muli v6369_r0 c8_i32_2397_r0
  let v7524_r0 : BitVec 32 := Scalar.addi c472_i32_2398_r0 v7523_r0
  v7524_r0
def k0_mult52 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2408_r0 : BitVec 32 := 128#32
  let v7600_r0 : BitVec 32 := Scalar.muli v6369_r0 c128_i32_2408_r0
  v7600_r0
def k0_off33 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2408_r0 : BitVec 32 := 128#32
  let v7600_r0 : BitVec 32 := Scalar.muli v6369_r0 c128_i32_2408_r0
  let v7601_r0 : BitVec 32 := v7600_r0
  let v7602_r0 : Index := Scalar.indexCast v7601_r0
  let c2560_2409_r0 : Index := 2560#32
  ![v7602_r0.toNat, 2560]
def k0_mult53 (k0_t1 : Fin k0_t1_loop.trips) : BitVec 32 :=
  let c0_i32_2425_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2424_r0 : BitVec 32 := 8#32
  let v7639_r0 : BitVec 32 := Scalar.muli v6369_r0 c8_i32_2424_r0
  let v7640_r0 : BitVec 32 := Scalar.addi c0_i32_2425_r0 v7639_r0
  v7640_r0
def k0_off34 (k0_t1 : Fin k0_t1_loop.trips) (c0_i32_2425_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2424_r0 : BitVec 32 := 8#32
  let v7639_r0 : BitVec 32 := Scalar.muli v6369_r0 c8_i32_2424_r0
  let v7640_r0 : BitVec 32 := Scalar.addi c0_i32_2425_r0 v7639_r0
  let v7641_r0 : BitVec 32 := v7640_r0
  let v7642_r0 : Index := Scalar.indexCast v7641_r0
  let c2560_2426_r0 : Index := 2560#32
  ![v7642_r0.toNat, 2560]
def k0_mult54 (k0_t1 : Fin k0_t1_loop.trips) : BitVec 32 :=
  let c472_i32_2428_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2427_r0 : BitVec 32 := 8#32
  let v7646_r0 : BitVec 32 := Scalar.muli v6369_r0 c8_i32_2427_r0
  let v7647_r0 : BitVec 32 := Scalar.addi c472_i32_2428_r0 v7646_r0
  v7647_r0
def k0_mult55 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2438_r0 : BitVec 32 := 128#32
  let v7723_r0 : BitVec 32 := Scalar.muli v6369_r0 c128_i32_2438_r0
  v7723_r0
def k0_off35 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2438_r0 : BitVec 32 := 128#32
  let v7723_r0 : BitVec 32 := Scalar.muli v6369_r0 c128_i32_2438_r0
  let v7724_r0 : BitVec 32 := v7723_r0
  let v7725_r0 : Index := Scalar.indexCast v7724_r0
  let c2816_2439_r0 : Index := 2816#32
  ![v7725_r0.toNat, 2816]
def k0_mult56 (k0_t1 : Fin k0_t1_loop.trips) : BitVec 32 :=
  let c0_i32_2455_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2454_r0 : BitVec 32 := 8#32
  let v7762_r0 : BitVec 32 := Scalar.muli v6369_r0 c8_i32_2454_r0
  let v7763_r0 : BitVec 32 := Scalar.addi c0_i32_2455_r0 v7762_r0
  v7763_r0
def k0_off36 (k0_t1 : Fin k0_t1_loop.trips) (c0_i32_2455_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2454_r0 : BitVec 32 := 8#32
  let v7762_r0 : BitVec 32 := Scalar.muli v6369_r0 c8_i32_2454_r0
  let v7763_r0 : BitVec 32 := Scalar.addi c0_i32_2455_r0 v7762_r0
  let v7764_r0 : BitVec 32 := v7763_r0
  let v7765_r0 : Index := Scalar.indexCast v7764_r0
  let c2816_2456_r0 : Index := 2816#32
  ![v7765_r0.toNat, 2816]
def k0_mult57 (k0_t1 : Fin k0_t1_loop.trips) : BitVec 32 :=
  let c472_i32_2458_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2457_r0 : BitVec 32 := 8#32
  let v7769_r0 : BitVec 32 := Scalar.muli v6369_r0 c8_i32_2457_r0
  let v7770_r0 : BitVec 32 := Scalar.addi c472_i32_2458_r0 v7769_r0
  v7770_r0
def k0_mult58 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2468_r0 : BitVec 32 := 128#32
  let v7846_r0 : BitVec 32 := Scalar.muli v6369_r0 c128_i32_2468_r0
  v7846_r0
def k0_off37 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2468_r0 : BitVec 32 := 128#32
  let v7846_r0 : BitVec 32 := Scalar.muli v6369_r0 c128_i32_2468_r0
  let v7847_r0 : BitVec 32 := v7846_r0
  let v7848_r0 : Index := Scalar.indexCast v7847_r0
  let c3072_2469_r0 : Index := 3072#32
  ![v7848_r0.toNat, 3072]
def k0_mult59 (k0_t1 : Fin k0_t1_loop.trips) : BitVec 32 :=
  let c0_i32_2485_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2484_r0 : BitVec 32 := 8#32
  let v7885_r0 : BitVec 32 := Scalar.muli v6369_r0 c8_i32_2484_r0
  let v7886_r0 : BitVec 32 := Scalar.addi c0_i32_2485_r0 v7885_r0
  v7886_r0
def k0_off38 (k0_t1 : Fin k0_t1_loop.trips) (c0_i32_2485_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2484_r0 : BitVec 32 := 8#32
  let v7885_r0 : BitVec 32 := Scalar.muli v6369_r0 c8_i32_2484_r0
  let v7886_r0 : BitVec 32 := Scalar.addi c0_i32_2485_r0 v7885_r0
  let v7887_r0 : BitVec 32 := v7886_r0
  let v7888_r0 : Index := Scalar.indexCast v7887_r0
  let c3072_2486_r0 : Index := 3072#32
  ![v7888_r0.toNat, 3072]
def k0_mult60 (k0_t1 : Fin k0_t1_loop.trips) : BitVec 32 :=
  let c472_i32_2488_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2487_r0 : BitVec 32 := 8#32
  let v7892_r0 : BitVec 32 := Scalar.muli v6369_r0 c8_i32_2487_r0
  let v7893_r0 : BitVec 32 := Scalar.addi c472_i32_2488_r0 v7892_r0
  v7893_r0
def k0_mult61 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2498_r0 : BitVec 32 := 128#32
  let v7969_r0 : BitVec 32 := Scalar.muli v6369_r0 c128_i32_2498_r0
  v7969_r0
def k0_off39 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2498_r0 : BitVec 32 := 128#32
  let v7969_r0 : BitVec 32 := Scalar.muli v6369_r0 c128_i32_2498_r0
  let v7970_r0 : BitVec 32 := v7969_r0
  let v7971_r0 : Index := Scalar.indexCast v7970_r0
  let c3328_2499_r0 : Index := 3328#32
  ![v7971_r0.toNat, 3328]
def k0_mult62 (k0_t1 : Fin k0_t1_loop.trips) : BitVec 32 :=
  let c0_i32_2515_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2514_r0 : BitVec 32 := 8#32
  let v8008_r0 : BitVec 32 := Scalar.muli v6369_r0 c8_i32_2514_r0
  let v8009_r0 : BitVec 32 := Scalar.addi c0_i32_2515_r0 v8008_r0
  v8009_r0
def k0_off40 (k0_t1 : Fin k0_t1_loop.trips) (c0_i32_2515_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2514_r0 : BitVec 32 := 8#32
  let v8008_r0 : BitVec 32 := Scalar.muli v6369_r0 c8_i32_2514_r0
  let v8009_r0 : BitVec 32 := Scalar.addi c0_i32_2515_r0 v8008_r0
  let v8010_r0 : BitVec 32 := v8009_r0
  let v8011_r0 : Index := Scalar.indexCast v8010_r0
  let c3328_2516_r0 : Index := 3328#32
  ![v8011_r0.toNat, 3328]
def k0_mult63 (k0_t1 : Fin k0_t1_loop.trips) : BitVec 32 :=
  let c472_i32_2518_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2517_r0 : BitVec 32 := 8#32
  let v8015_r0 : BitVec 32 := Scalar.muli v6369_r0 c8_i32_2517_r0
  let v8016_r0 : BitVec 32 := Scalar.addi c472_i32_2518_r0 v8015_r0
  v8016_r0
def k0_mult64 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c128_i32_2528_r0 : BitVec 32 := 128#32
  let v8092_r0 : BitVec 32 := Scalar.muli v6369_r0 c128_i32_2528_r0
  v8092_r0
def k0_off41 (k0_t1 : Fin k0_t1_loop.trips) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c128_i32_2528_r0 : BitVec 32 := 128#32
  let v8092_r0 : BitVec 32 := Scalar.muli v6369_r0 c128_i32_2528_r0
  let v8093_r0 : BitVec 32 := v8092_r0
  let v8094_r0 : Index := Scalar.indexCast v8093_r0
  let c3584_2529_r0 : Index := 3584#32
  ![v8094_r0.toNat, 3584]
def k0_mult65 (k0_t1 : Fin k0_t1_loop.trips) : BitVec 32 :=
  let c0_i32_2545_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2544_r0 : BitVec 32 := 8#32
  let v8131_r0 : BitVec 32 := Scalar.muli v6369_r0 c8_i32_2544_r0
  let v8132_r0 : BitVec 32 := Scalar.addi c0_i32_2545_r0 v8131_r0
  v8132_r0
def k0_off42 (k0_t1 : Fin k0_t1_loop.trips) (c0_i32_2545_r0 : BitVec 32) (c0_i32_2107_r0 : BitVec 32) : Fin 2 → Nat :=
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let v6369_r0 : BitVec 32 := Scalar.addi v6368_r0 c0_i32_2107_r0
  let c8_i32_2544_r0 : BitVec 32 := 8#32
  let v8131_r0 : BitVec 32 := Scalar.muli v6369_r0 c8_i32_2544_r0
  let v8132_r0 : BitVec 32 := Scalar.addi c0_i32_2545_r0 v8131_r0
  let v8133_r0 : BitVec 32 := v8132_r0
  let v8134_r0 : Index := Scalar.indexCast v8133_r0
  let c3584_2546_r0 : Index := 3584#32
  ![v8134_r0.toNat, 3584]
def k0_mult66 (k0_t1 : Fin k0_t1_loop.trips) : BitVec 32 :=
  let c472_i32_2548_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2106_r0 : BitVec 32 := 8#32
  let v6368_r0 : BitVec 32 := Scalar.muli arg13_r0 c8_i32_2106_r0
  let c0_i32_2107_r0 : BitVec 32 := 0#32
  let v6369_r0 : BitVec 32 := Scalar.addi v6368_r0 c0_i32_2107_r0
  let c8_i32_2547_r0 : BitVec 32 := 8#32
  let v8138_r0 : BitVec 32 := Scalar.muli v6369_r0 c8_i32_2547_r0
  let v8139_r0 : BitVec 32 := Scalar.addi c472_i32_2548_r0 v8138_r0
  v8139_r0
def k0_mult67 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2560_r0 : BitVec 32 := 128#32
  let v8217_r0 : BitVec 32 := Scalar.muli v8216_r0 c128_i32_2560_r0
  v8217_r0
def k0_mult68 (k0_t1 : Fin k0_t1_loop.trips) : BitVec 32 :=
  let c0_i32_2577_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2576_r0 : BitVec 32 := 8#32
  let v8256_r0 : BitVec 32 := Scalar.muli v8216_r0 c8_i32_2576_r0
  let v8257_r0 : BitVec 32 := Scalar.addi c0_i32_2577_r0 v8256_r0
  v8257_r0
def k0_mult69 (k0_t1 : Fin k0_t1_loop.trips) : BitVec 32 :=
  let c472_i32_2580_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2579_r0 : BitVec 32 := 8#32
  let v8263_r0 : BitVec 32 := Scalar.muli v8216_r0 c8_i32_2579_r0
  let v8264_r0 : BitVec 32 := Scalar.addi c472_i32_2580_r0 v8263_r0
  v8264_r0
def k0_mult70 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2590_r0 : BitVec 32 := 128#32
  let v8340_r0 : BitVec 32 := Scalar.muli v8216_r0 c128_i32_2590_r0
  v8340_r0
def k0_mult71 (k0_t1 : Fin k0_t1_loop.trips) : BitVec 32 :=
  let c0_i32_2607_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2606_r0 : BitVec 32 := 8#32
  let v8379_r0 : BitVec 32 := Scalar.muli v8216_r0 c8_i32_2606_r0
  let v8380_r0 : BitVec 32 := Scalar.addi c0_i32_2607_r0 v8379_r0
  v8380_r0
def k0_mult72 (k0_t1 : Fin k0_t1_loop.trips) : BitVec 32 :=
  let c472_i32_2610_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2609_r0 : BitVec 32 := 8#32
  let v8386_r0 : BitVec 32 := Scalar.muli v8216_r0 c8_i32_2609_r0
  let v8387_r0 : BitVec 32 := Scalar.addi c472_i32_2610_r0 v8386_r0
  v8387_r0
def k0_mult73 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2620_r0 : BitVec 32 := 128#32
  let v8463_r0 : BitVec 32 := Scalar.muli v8216_r0 c128_i32_2620_r0
  v8463_r0
def k0_mult74 (k0_t1 : Fin k0_t1_loop.trips) : BitVec 32 :=
  let c0_i32_2637_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2636_r0 : BitVec 32 := 8#32
  let v8502_r0 : BitVec 32 := Scalar.muli v8216_r0 c8_i32_2636_r0
  let v8503_r0 : BitVec 32 := Scalar.addi c0_i32_2637_r0 v8502_r0
  v8503_r0
def k0_mult75 (k0_t1 : Fin k0_t1_loop.trips) : BitVec 32 :=
  let c472_i32_2640_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2639_r0 : BitVec 32 := 8#32
  let v8509_r0 : BitVec 32 := Scalar.muli v8216_r0 c8_i32_2639_r0
  let v8510_r0 : BitVec 32 := Scalar.addi c472_i32_2640_r0 v8509_r0
  v8510_r0
def k0_mult76 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2650_r0 : BitVec 32 := 128#32
  let v8586_r0 : BitVec 32 := Scalar.muli v8216_r0 c128_i32_2650_r0
  v8586_r0
def k0_mult77 (k0_t1 : Fin k0_t1_loop.trips) : BitVec 32 :=
  let c0_i32_2667_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2666_r0 : BitVec 32 := 8#32
  let v8625_r0 : BitVec 32 := Scalar.muli v8216_r0 c8_i32_2666_r0
  let v8626_r0 : BitVec 32 := Scalar.addi c0_i32_2667_r0 v8625_r0
  v8626_r0
def k0_mult78 (k0_t1 : Fin k0_t1_loop.trips) : BitVec 32 :=
  let c472_i32_2670_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2669_r0 : BitVec 32 := 8#32
  let v8632_r0 : BitVec 32 := Scalar.muli v8216_r0 c8_i32_2669_r0
  let v8633_r0 : BitVec 32 := Scalar.addi c472_i32_2670_r0 v8632_r0
  v8633_r0
def k0_mult79 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2680_r0 : BitVec 32 := 128#32
  let v8709_r0 : BitVec 32 := Scalar.muli v8216_r0 c128_i32_2680_r0
  v8709_r0
def k0_mult80 (k0_t1 : Fin k0_t1_loop.trips) : BitVec 32 :=
  let c0_i32_2697_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2696_r0 : BitVec 32 := 8#32
  let v8748_r0 : BitVec 32 := Scalar.muli v8216_r0 c8_i32_2696_r0
  let v8749_r0 : BitVec 32 := Scalar.addi c0_i32_2697_r0 v8748_r0
  v8749_r0
def k0_mult81 (k0_t1 : Fin k0_t1_loop.trips) : BitVec 32 :=
  let c472_i32_2700_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2699_r0 : BitVec 32 := 8#32
  let v8755_r0 : BitVec 32 := Scalar.muli v8216_r0 c8_i32_2699_r0
  let v8756_r0 : BitVec 32 := Scalar.addi c472_i32_2700_r0 v8755_r0
  v8756_r0
def k0_mult82 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2710_r0 : BitVec 32 := 128#32
  let v8832_r0 : BitVec 32 := Scalar.muli v8216_r0 c128_i32_2710_r0
  v8832_r0
def k0_mult83 (k0_t1 : Fin k0_t1_loop.trips) : BitVec 32 :=
  let c0_i32_2727_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2726_r0 : BitVec 32 := 8#32
  let v8871_r0 : BitVec 32 := Scalar.muli v8216_r0 c8_i32_2726_r0
  let v8872_r0 : BitVec 32 := Scalar.addi c0_i32_2727_r0 v8871_r0
  v8872_r0
def k0_mult84 (k0_t1 : Fin k0_t1_loop.trips) : BitVec 32 :=
  let c472_i32_2730_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2729_r0 : BitVec 32 := 8#32
  let v8878_r0 : BitVec 32 := Scalar.muli v8216_r0 c8_i32_2729_r0
  let v8879_r0 : BitVec 32 := Scalar.addi c472_i32_2730_r0 v8878_r0
  v8879_r0
def k0_mult85 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2740_r0 : BitVec 32 := 128#32
  let v8955_r0 : BitVec 32 := Scalar.muli v8216_r0 c128_i32_2740_r0
  v8955_r0
def k0_mult86 (k0_t1 : Fin k0_t1_loop.trips) : BitVec 32 :=
  let c0_i32_2757_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2756_r0 : BitVec 32 := 8#32
  let v8994_r0 : BitVec 32 := Scalar.muli v8216_r0 c8_i32_2756_r0
  let v8995_r0 : BitVec 32 := Scalar.addi c0_i32_2757_r0 v8994_r0
  v8995_r0
def k0_mult87 (k0_t1 : Fin k0_t1_loop.trips) : BitVec 32 :=
  let c472_i32_2760_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2759_r0 : BitVec 32 := 8#32
  let v9001_r0 : BitVec 32 := Scalar.muli v8216_r0 c8_i32_2759_r0
  let v9002_r0 : BitVec 32 := Scalar.addi c472_i32_2760_r0 v9001_r0
  v9002_r0
def k0_mult88 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2770_r0 : BitVec 32 := 128#32
  let v9078_r0 : BitVec 32 := Scalar.muli v8216_r0 c128_i32_2770_r0
  v9078_r0
def k0_mult89 (k0_t1 : Fin k0_t1_loop.trips) : BitVec 32 :=
  let c0_i32_2787_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2786_r0 : BitVec 32 := 8#32
  let v9117_r0 : BitVec 32 := Scalar.muli v8216_r0 c8_i32_2786_r0
  let v9118_r0 : BitVec 32 := Scalar.addi c0_i32_2787_r0 v9117_r0
  v9118_r0
def k0_mult90 (k0_t1 : Fin k0_t1_loop.trips) : BitVec 32 :=
  let c472_i32_2790_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2789_r0 : BitVec 32 := 8#32
  let v9124_r0 : BitVec 32 := Scalar.muli v8216_r0 c8_i32_2789_r0
  let v9125_r0 : BitVec 32 := Scalar.addi c472_i32_2790_r0 v9124_r0
  v9125_r0
def k0_mult91 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2800_r0 : BitVec 32 := 128#32
  let v9201_r0 : BitVec 32 := Scalar.muli v8216_r0 c128_i32_2800_r0
  v9201_r0
def k0_mult92 (k0_t1 : Fin k0_t1_loop.trips) : BitVec 32 :=
  let c0_i32_2817_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2816_r0 : BitVec 32 := 8#32
  let v9240_r0 : BitVec 32 := Scalar.muli v8216_r0 c8_i32_2816_r0
  let v9241_r0 : BitVec 32 := Scalar.addi c0_i32_2817_r0 v9240_r0
  v9241_r0
def k0_mult93 (k0_t1 : Fin k0_t1_loop.trips) : BitVec 32 :=
  let c472_i32_2820_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2819_r0 : BitVec 32 := 8#32
  let v9247_r0 : BitVec 32 := Scalar.muli v8216_r0 c8_i32_2819_r0
  let v9248_r0 : BitVec 32 := Scalar.addi c472_i32_2820_r0 v9247_r0
  v9248_r0
def k0_mult94 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2830_r0 : BitVec 32 := 128#32
  let v9324_r0 : BitVec 32 := Scalar.muli v8216_r0 c128_i32_2830_r0
  v9324_r0
def k0_mult95 (k0_t1 : Fin k0_t1_loop.trips) : BitVec 32 :=
  let c0_i32_2847_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2846_r0 : BitVec 32 := 8#32
  let v9363_r0 : BitVec 32 := Scalar.muli v8216_r0 c8_i32_2846_r0
  let v9364_r0 : BitVec 32 := Scalar.addi c0_i32_2847_r0 v9363_r0
  v9364_r0
def k0_mult96 (k0_t1 : Fin k0_t1_loop.trips) : BitVec 32 :=
  let c472_i32_2850_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2849_r0 : BitVec 32 := 8#32
  let v9370_r0 : BitVec 32 := Scalar.muli v8216_r0 c8_i32_2849_r0
  let v9371_r0 : BitVec 32 := Scalar.addi c472_i32_2850_r0 v9370_r0
  v9371_r0
def k0_mult97 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2860_r0 : BitVec 32 := 128#32
  let v9447_r0 : BitVec 32 := Scalar.muli v8216_r0 c128_i32_2860_r0
  v9447_r0
def k0_mult98 (k0_t1 : Fin k0_t1_loop.trips) : BitVec 32 :=
  let c0_i32_2877_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2876_r0 : BitVec 32 := 8#32
  let v9486_r0 : BitVec 32 := Scalar.muli v8216_r0 c8_i32_2876_r0
  let v9487_r0 : BitVec 32 := Scalar.addi c0_i32_2877_r0 v9486_r0
  v9487_r0
def k0_mult99 (k0_t1 : Fin k0_t1_loop.trips) : BitVec 32 :=
  let c472_i32_2880_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2879_r0 : BitVec 32 := 8#32
  let v9493_r0 : BitVec 32 := Scalar.muli v8216_r0 c8_i32_2879_r0
  let v9494_r0 : BitVec 32 := Scalar.addi c472_i32_2880_r0 v9493_r0
  v9494_r0
def k0_mult100 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2890_r0 : BitVec 32 := 128#32
  let v9570_r0 : BitVec 32 := Scalar.muli v8216_r0 c128_i32_2890_r0
  v9570_r0
def k0_mult101 (k0_t1 : Fin k0_t1_loop.trips) : BitVec 32 :=
  let c0_i32_2907_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2906_r0 : BitVec 32 := 8#32
  let v9609_r0 : BitVec 32 := Scalar.muli v8216_r0 c8_i32_2906_r0
  let v9610_r0 : BitVec 32 := Scalar.addi c0_i32_2907_r0 v9609_r0
  v9610_r0
def k0_mult102 (k0_t1 : Fin k0_t1_loop.trips) : BitVec 32 :=
  let c472_i32_2910_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2909_r0 : BitVec 32 := 8#32
  let v9616_r0 : BitVec 32 := Scalar.muli v8216_r0 c8_i32_2909_r0
  let v9617_r0 : BitVec 32 := Scalar.addi c472_i32_2910_r0 v9616_r0
  v9617_r0
def k0_mult103 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2920_r0 : BitVec 32 := 128#32
  let v9693_r0 : BitVec 32 := Scalar.muli v8216_r0 c128_i32_2920_r0
  v9693_r0
def k0_mult104 (k0_t1 : Fin k0_t1_loop.trips) : BitVec 32 :=
  let c0_i32_2937_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2936_r0 : BitVec 32 := 8#32
  let v9732_r0 : BitVec 32 := Scalar.muli v8216_r0 c8_i32_2936_r0
  let v9733_r0 : BitVec 32 := Scalar.addi c0_i32_2937_r0 v9732_r0
  v9733_r0
def k0_mult105 (k0_t1 : Fin k0_t1_loop.trips) : BitVec 32 :=
  let c472_i32_2940_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2939_r0 : BitVec 32 := 8#32
  let v9739_r0 : BitVec 32 := Scalar.muli v8216_r0 c8_i32_2939_r0
  let v9740_r0 : BitVec 32 := Scalar.addi c472_i32_2940_r0 v9739_r0
  v9740_r0
def k0_mult106 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2950_r0 : BitVec 32 := 128#32
  let v9816_r0 : BitVec 32 := Scalar.muli v8216_r0 c128_i32_2950_r0
  v9816_r0
def k0_mult107 (k0_t1 : Fin k0_t1_loop.trips) : BitVec 32 :=
  let c0_i32_2967_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2966_r0 : BitVec 32 := 8#32
  let v9855_r0 : BitVec 32 := Scalar.muli v8216_r0 c8_i32_2966_r0
  let v9856_r0 : BitVec 32 := Scalar.addi c0_i32_2967_r0 v9855_r0
  v9856_r0
def k0_mult108 (k0_t1 : Fin k0_t1_loop.trips) : BitVec 32 :=
  let c472_i32_2970_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2969_r0 : BitVec 32 := 8#32
  let v9862_r0 : BitVec 32 := Scalar.muli v8216_r0 c8_i32_2969_r0
  let v9863_r0 : BitVec 32 := Scalar.addi c472_i32_2970_r0 v9862_r0
  v9863_r0
def k0_mult109 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c128_i32_2980_r0 : BitVec 32 := 128#32
  let v9939_r0 : BitVec 32 := Scalar.muli v8216_r0 c128_i32_2980_r0
  v9939_r0
def k0_mult110 (k0_t1 : Fin k0_t1_loop.trips) : BitVec 32 :=
  let c0_i32_2997_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2996_r0 : BitVec 32 := 8#32
  let v9978_r0 : BitVec 32 := Scalar.muli v8216_r0 c8_i32_2996_r0
  let v9979_r0 : BitVec 32 := Scalar.addi c0_i32_2997_r0 v9978_r0
  v9979_r0
def k0_mult111 (k0_t1 : Fin k0_t1_loop.trips) : BitVec 32 :=
  let c472_i32_3000_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_2558_r0 : BitVec 32 := 8#32
  let v8215_r0 : BitVec 32 := Scalar.muli arg13_r0 c8_i32_2558_r0
  let c1_i32_2559_r0 : BitVec 32 := 1#32
  let v8216_r0 : BitVec 32 := Scalar.addi v8215_r0 c1_i32_2559_r0
  let c8_i32_2999_r0 : BitVec 32 := 8#32
  let v9985_r0 : BitVec 32 := Scalar.muli v8216_r0 c8_i32_2999_r0
  let v9986_r0 : BitVec 32 := Scalar.addi c472_i32_3000_r0 v9985_r0
  v9986_r0
def k0_mult112 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3012_r0 : BitVec 32 := 128#32
  let v10064_r0 : BitVec 32 := Scalar.muli v10063_r0 c128_i32_3012_r0
  v10064_r0
def k0_mult113 (k0_t1 : Fin k0_t1_loop.trips) : BitVec 32 :=
  let c0_i32_3029_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3028_r0 : BitVec 32 := 8#32
  let v10103_r0 : BitVec 32 := Scalar.muli v10063_r0 c8_i32_3028_r0
  let v10104_r0 : BitVec 32 := Scalar.addi c0_i32_3029_r0 v10103_r0
  v10104_r0
def k0_mult114 (k0_t1 : Fin k0_t1_loop.trips) : BitVec 32 :=
  let c472_i32_3032_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3031_r0 : BitVec 32 := 8#32
  let v10110_r0 : BitVec 32 := Scalar.muli v10063_r0 c8_i32_3031_r0
  let v10111_r0 : BitVec 32 := Scalar.addi c472_i32_3032_r0 v10110_r0
  v10111_r0
def k0_mult115 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3042_r0 : BitVec 32 := 128#32
  let v10187_r0 : BitVec 32 := Scalar.muli v10063_r0 c128_i32_3042_r0
  v10187_r0
def k0_mult116 (k0_t1 : Fin k0_t1_loop.trips) : BitVec 32 :=
  let c0_i32_3059_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3058_r0 : BitVec 32 := 8#32
  let v10226_r0 : BitVec 32 := Scalar.muli v10063_r0 c8_i32_3058_r0
  let v10227_r0 : BitVec 32 := Scalar.addi c0_i32_3059_r0 v10226_r0
  v10227_r0
def k0_mult117 (k0_t1 : Fin k0_t1_loop.trips) : BitVec 32 :=
  let c472_i32_3062_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3061_r0 : BitVec 32 := 8#32
  let v10233_r0 : BitVec 32 := Scalar.muli v10063_r0 c8_i32_3061_r0
  let v10234_r0 : BitVec 32 := Scalar.addi c472_i32_3062_r0 v10233_r0
  v10234_r0
def k0_mult118 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3072_r0 : BitVec 32 := 128#32
  let v10310_r0 : BitVec 32 := Scalar.muli v10063_r0 c128_i32_3072_r0
  v10310_r0
def k0_mult119 (k0_t1 : Fin k0_t1_loop.trips) : BitVec 32 :=
  let c0_i32_3089_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3088_r0 : BitVec 32 := 8#32
  let v10349_r0 : BitVec 32 := Scalar.muli v10063_r0 c8_i32_3088_r0
  let v10350_r0 : BitVec 32 := Scalar.addi c0_i32_3089_r0 v10349_r0
  v10350_r0
def k0_mult120 (k0_t1 : Fin k0_t1_loop.trips) : BitVec 32 :=
  let c472_i32_3092_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3091_r0 : BitVec 32 := 8#32
  let v10356_r0 : BitVec 32 := Scalar.muli v10063_r0 c8_i32_3091_r0
  let v10357_r0 : BitVec 32 := Scalar.addi c472_i32_3092_r0 v10356_r0
  v10357_r0
def k0_mult121 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3102_r0 : BitVec 32 := 128#32
  let v10433_r0 : BitVec 32 := Scalar.muli v10063_r0 c128_i32_3102_r0
  v10433_r0
def k0_mult122 (k0_t1 : Fin k0_t1_loop.trips) : BitVec 32 :=
  let c0_i32_3119_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3118_r0 : BitVec 32 := 8#32
  let v10472_r0 : BitVec 32 := Scalar.muli v10063_r0 c8_i32_3118_r0
  let v10473_r0 : BitVec 32 := Scalar.addi c0_i32_3119_r0 v10472_r0
  v10473_r0
def k0_mult123 (k0_t1 : Fin k0_t1_loop.trips) : BitVec 32 :=
  let c472_i32_3122_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3121_r0 : BitVec 32 := 8#32
  let v10479_r0 : BitVec 32 := Scalar.muli v10063_r0 c8_i32_3121_r0
  let v10480_r0 : BitVec 32 := Scalar.addi c472_i32_3122_r0 v10479_r0
  v10480_r0
def k0_mult124 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3132_r0 : BitVec 32 := 128#32
  let v10556_r0 : BitVec 32 := Scalar.muli v10063_r0 c128_i32_3132_r0
  v10556_r0
def k0_mult125 (k0_t1 : Fin k0_t1_loop.trips) : BitVec 32 :=
  let c0_i32_3149_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3148_r0 : BitVec 32 := 8#32
  let v10595_r0 : BitVec 32 := Scalar.muli v10063_r0 c8_i32_3148_r0
  let v10596_r0 : BitVec 32 := Scalar.addi c0_i32_3149_r0 v10595_r0
  v10596_r0
def k0_mult126 (k0_t1 : Fin k0_t1_loop.trips) : BitVec 32 :=
  let c472_i32_3152_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3151_r0 : BitVec 32 := 8#32
  let v10602_r0 : BitVec 32 := Scalar.muli v10063_r0 c8_i32_3151_r0
  let v10603_r0 : BitVec 32 := Scalar.addi c472_i32_3152_r0 v10602_r0
  v10603_r0
def k0_mult127 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3162_r0 : BitVec 32 := 128#32
  let v10679_r0 : BitVec 32 := Scalar.muli v10063_r0 c128_i32_3162_r0
  v10679_r0
def k0_mult128 (k0_t1 : Fin k0_t1_loop.trips) : BitVec 32 :=
  let c0_i32_3179_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3178_r0 : BitVec 32 := 8#32
  let v10718_r0 : BitVec 32 := Scalar.muli v10063_r0 c8_i32_3178_r0
  let v10719_r0 : BitVec 32 := Scalar.addi c0_i32_3179_r0 v10718_r0
  v10719_r0
def k0_mult129 (k0_t1 : Fin k0_t1_loop.trips) : BitVec 32 :=
  let c472_i32_3182_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3181_r0 : BitVec 32 := 8#32
  let v10725_r0 : BitVec 32 := Scalar.muli v10063_r0 c8_i32_3181_r0
  let v10726_r0 : BitVec 32 := Scalar.addi c472_i32_3182_r0 v10725_r0
  v10726_r0
def k0_mult130 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3192_r0 : BitVec 32 := 128#32
  let v10802_r0 : BitVec 32 := Scalar.muli v10063_r0 c128_i32_3192_r0
  v10802_r0
def k0_mult131 (k0_t1 : Fin k0_t1_loop.trips) : BitVec 32 :=
  let c0_i32_3209_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3208_r0 : BitVec 32 := 8#32
  let v10841_r0 : BitVec 32 := Scalar.muli v10063_r0 c8_i32_3208_r0
  let v10842_r0 : BitVec 32 := Scalar.addi c0_i32_3209_r0 v10841_r0
  v10842_r0
def k0_mult132 (k0_t1 : Fin k0_t1_loop.trips) : BitVec 32 :=
  let c472_i32_3212_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3211_r0 : BitVec 32 := 8#32
  let v10848_r0 : BitVec 32 := Scalar.muli v10063_r0 c8_i32_3211_r0
  let v10849_r0 : BitVec 32 := Scalar.addi c472_i32_3212_r0 v10848_r0
  v10849_r0
def k0_mult133 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3222_r0 : BitVec 32 := 128#32
  let v10925_r0 : BitVec 32 := Scalar.muli v10063_r0 c128_i32_3222_r0
  v10925_r0
def k0_mult134 (k0_t1 : Fin k0_t1_loop.trips) : BitVec 32 :=
  let c0_i32_3239_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3238_r0 : BitVec 32 := 8#32
  let v10964_r0 : BitVec 32 := Scalar.muli v10063_r0 c8_i32_3238_r0
  let v10965_r0 : BitVec 32 := Scalar.addi c0_i32_3239_r0 v10964_r0
  v10965_r0
def k0_mult135 (k0_t1 : Fin k0_t1_loop.trips) : BitVec 32 :=
  let c472_i32_3242_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3241_r0 : BitVec 32 := 8#32
  let v10971_r0 : BitVec 32 := Scalar.muli v10063_r0 c8_i32_3241_r0
  let v10972_r0 : BitVec 32 := Scalar.addi c472_i32_3242_r0 v10971_r0
  v10972_r0
def k0_mult136 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3252_r0 : BitVec 32 := 128#32
  let v11048_r0 : BitVec 32 := Scalar.muli v10063_r0 c128_i32_3252_r0
  v11048_r0
def k0_mult137 (k0_t1 : Fin k0_t1_loop.trips) : BitVec 32 :=
  let c0_i32_3269_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3268_r0 : BitVec 32 := 8#32
  let v11087_r0 : BitVec 32 := Scalar.muli v10063_r0 c8_i32_3268_r0
  let v11088_r0 : BitVec 32 := Scalar.addi c0_i32_3269_r0 v11087_r0
  v11088_r0
def k0_mult138 (k0_t1 : Fin k0_t1_loop.trips) : BitVec 32 :=
  let c472_i32_3272_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3271_r0 : BitVec 32 := 8#32
  let v11094_r0 : BitVec 32 := Scalar.muli v10063_r0 c8_i32_3271_r0
  let v11095_r0 : BitVec 32 := Scalar.addi c472_i32_3272_r0 v11094_r0
  v11095_r0
def k0_mult139 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3282_r0 : BitVec 32 := 128#32
  let v11171_r0 : BitVec 32 := Scalar.muli v10063_r0 c128_i32_3282_r0
  v11171_r0
def k0_mult140 (k0_t1 : Fin k0_t1_loop.trips) : BitVec 32 :=
  let c0_i32_3299_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3298_r0 : BitVec 32 := 8#32
  let v11210_r0 : BitVec 32 := Scalar.muli v10063_r0 c8_i32_3298_r0
  let v11211_r0 : BitVec 32 := Scalar.addi c0_i32_3299_r0 v11210_r0
  v11211_r0
def k0_mult141 (k0_t1 : Fin k0_t1_loop.trips) : BitVec 32 :=
  let c472_i32_3302_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3301_r0 : BitVec 32 := 8#32
  let v11217_r0 : BitVec 32 := Scalar.muli v10063_r0 c8_i32_3301_r0
  let v11218_r0 : BitVec 32 := Scalar.addi c472_i32_3302_r0 v11217_r0
  v11218_r0
def k0_mult142 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3312_r0 : BitVec 32 := 128#32
  let v11294_r0 : BitVec 32 := Scalar.muli v10063_r0 c128_i32_3312_r0
  v11294_r0
def k0_mult143 (k0_t1 : Fin k0_t1_loop.trips) : BitVec 32 :=
  let c0_i32_3329_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3328_r0 : BitVec 32 := 8#32
  let v11333_r0 : BitVec 32 := Scalar.muli v10063_r0 c8_i32_3328_r0
  let v11334_r0 : BitVec 32 := Scalar.addi c0_i32_3329_r0 v11333_r0
  v11334_r0
def k0_mult144 (k0_t1 : Fin k0_t1_loop.trips) : BitVec 32 :=
  let c472_i32_3332_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3331_r0 : BitVec 32 := 8#32
  let v11340_r0 : BitVec 32 := Scalar.muli v10063_r0 c8_i32_3331_r0
  let v11341_r0 : BitVec 32 := Scalar.addi c472_i32_3332_r0 v11340_r0
  v11341_r0
def k0_mult145 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3342_r0 : BitVec 32 := 128#32
  let v11417_r0 : BitVec 32 := Scalar.muli v10063_r0 c128_i32_3342_r0
  v11417_r0
def k0_mult146 (k0_t1 : Fin k0_t1_loop.trips) : BitVec 32 :=
  let c0_i32_3359_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3358_r0 : BitVec 32 := 8#32
  let v11456_r0 : BitVec 32 := Scalar.muli v10063_r0 c8_i32_3358_r0
  let v11457_r0 : BitVec 32 := Scalar.addi c0_i32_3359_r0 v11456_r0
  v11457_r0
def k0_mult147 (k0_t1 : Fin k0_t1_loop.trips) : BitVec 32 :=
  let c472_i32_3362_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3361_r0 : BitVec 32 := 8#32
  let v11463_r0 : BitVec 32 := Scalar.muli v10063_r0 c8_i32_3361_r0
  let v11464_r0 : BitVec 32 := Scalar.addi c472_i32_3362_r0 v11463_r0
  v11464_r0
def k0_mult148 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3372_r0 : BitVec 32 := 128#32
  let v11540_r0 : BitVec 32 := Scalar.muli v10063_r0 c128_i32_3372_r0
  v11540_r0
def k0_mult149 (k0_t1 : Fin k0_t1_loop.trips) : BitVec 32 :=
  let c0_i32_3389_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3388_r0 : BitVec 32 := 8#32
  let v11579_r0 : BitVec 32 := Scalar.muli v10063_r0 c8_i32_3388_r0
  let v11580_r0 : BitVec 32 := Scalar.addi c0_i32_3389_r0 v11579_r0
  v11580_r0
def k0_mult150 (k0_t1 : Fin k0_t1_loop.trips) : BitVec 32 :=
  let c472_i32_3392_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3391_r0 : BitVec 32 := 8#32
  let v11586_r0 : BitVec 32 := Scalar.muli v10063_r0 c8_i32_3391_r0
  let v11587_r0 : BitVec 32 := Scalar.addi c472_i32_3392_r0 v11586_r0
  v11587_r0
def k0_mult151 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3402_r0 : BitVec 32 := 128#32
  let v11663_r0 : BitVec 32 := Scalar.muli v10063_r0 c128_i32_3402_r0
  v11663_r0
def k0_mult152 (k0_t1 : Fin k0_t1_loop.trips) : BitVec 32 :=
  let c0_i32_3419_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3418_r0 : BitVec 32 := 8#32
  let v11702_r0 : BitVec 32 := Scalar.muli v10063_r0 c8_i32_3418_r0
  let v11703_r0 : BitVec 32 := Scalar.addi c0_i32_3419_r0 v11702_r0
  v11703_r0
def k0_mult153 (k0_t1 : Fin k0_t1_loop.trips) : BitVec 32 :=
  let c472_i32_3422_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3421_r0 : BitVec 32 := 8#32
  let v11709_r0 : BitVec 32 := Scalar.muli v10063_r0 c8_i32_3421_r0
  let v11710_r0 : BitVec 32 := Scalar.addi c472_i32_3422_r0 v11709_r0
  v11710_r0
def k0_mult154 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c128_i32_3432_r0 : BitVec 32 := 128#32
  let v11786_r0 : BitVec 32 := Scalar.muli v10063_r0 c128_i32_3432_r0
  v11786_r0
def k0_mult155 (k0_t1 : Fin k0_t1_loop.trips) : BitVec 32 :=
  let c0_i32_3449_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3448_r0 : BitVec 32 := 8#32
  let v11825_r0 : BitVec 32 := Scalar.muli v10063_r0 c8_i32_3448_r0
  let v11826_r0 : BitVec 32 := Scalar.addi c0_i32_3449_r0 v11825_r0
  v11826_r0
def k0_mult156 (k0_t1 : Fin k0_t1_loop.trips) : BitVec 32 :=
  let c472_i32_3452_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3010_r0 : BitVec 32 := 8#32
  let v10062_r0 : BitVec 32 := Scalar.muli arg13_r0 c8_i32_3010_r0
  let c2_i32_3011_r0 : BitVec 32 := 2#32
  let v10063_r0 : BitVec 32 := Scalar.addi v10062_r0 c2_i32_3011_r0
  let c8_i32_3451_r0 : BitVec 32 := 8#32
  let v11832_r0 : BitVec 32 := Scalar.muli v10063_r0 c8_i32_3451_r0
  let v11833_r0 : BitVec 32 := Scalar.addi c472_i32_3452_r0 v11832_r0
  v11833_r0
def k0_mult157 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3464_r0 : BitVec 32 := 128#32
  let v11911_r0 : BitVec 32 := Scalar.muli v11910_r0 c128_i32_3464_r0
  v11911_r0
def k0_mult158 (k0_t1 : Fin k0_t1_loop.trips) : BitVec 32 :=
  let c0_i32_3481_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3480_r0 : BitVec 32 := 8#32
  let v11950_r0 : BitVec 32 := Scalar.muli v11910_r0 c8_i32_3480_r0
  let v11951_r0 : BitVec 32 := Scalar.addi c0_i32_3481_r0 v11950_r0
  v11951_r0
def k0_mult159 (k0_t1 : Fin k0_t1_loop.trips) : BitVec 32 :=
  let c472_i32_3484_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3483_r0 : BitVec 32 := 8#32
  let v11957_r0 : BitVec 32 := Scalar.muli v11910_r0 c8_i32_3483_r0
  let v11958_r0 : BitVec 32 := Scalar.addi c472_i32_3484_r0 v11957_r0
  v11958_r0
def k0_mult160 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3494_r0 : BitVec 32 := 128#32
  let v12034_r0 : BitVec 32 := Scalar.muli v11910_r0 c128_i32_3494_r0
  v12034_r0
def k0_mult161 (k0_t1 : Fin k0_t1_loop.trips) : BitVec 32 :=
  let c0_i32_3511_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3510_r0 : BitVec 32 := 8#32
  let v12073_r0 : BitVec 32 := Scalar.muli v11910_r0 c8_i32_3510_r0
  let v12074_r0 : BitVec 32 := Scalar.addi c0_i32_3511_r0 v12073_r0
  v12074_r0
def k0_mult162 (k0_t1 : Fin k0_t1_loop.trips) : BitVec 32 :=
  let c472_i32_3514_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3513_r0 : BitVec 32 := 8#32
  let v12080_r0 : BitVec 32 := Scalar.muli v11910_r0 c8_i32_3513_r0
  let v12081_r0 : BitVec 32 := Scalar.addi c472_i32_3514_r0 v12080_r0
  v12081_r0
def k0_mult163 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3524_r0 : BitVec 32 := 128#32
  let v12157_r0 : BitVec 32 := Scalar.muli v11910_r0 c128_i32_3524_r0
  v12157_r0
def k0_mult164 (k0_t1 : Fin k0_t1_loop.trips) : BitVec 32 :=
  let c0_i32_3541_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3540_r0 : BitVec 32 := 8#32
  let v12196_r0 : BitVec 32 := Scalar.muli v11910_r0 c8_i32_3540_r0
  let v12197_r0 : BitVec 32 := Scalar.addi c0_i32_3541_r0 v12196_r0
  v12197_r0
def k0_mult165 (k0_t1 : Fin k0_t1_loop.trips) : BitVec 32 :=
  let c472_i32_3544_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3543_r0 : BitVec 32 := 8#32
  let v12203_r0 : BitVec 32 := Scalar.muli v11910_r0 c8_i32_3543_r0
  let v12204_r0 : BitVec 32 := Scalar.addi c472_i32_3544_r0 v12203_r0
  v12204_r0
def k0_mult166 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3554_r0 : BitVec 32 := 128#32
  let v12280_r0 : BitVec 32 := Scalar.muli v11910_r0 c128_i32_3554_r0
  v12280_r0
def k0_mult167 (k0_t1 : Fin k0_t1_loop.trips) : BitVec 32 :=
  let c0_i32_3571_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3570_r0 : BitVec 32 := 8#32
  let v12319_r0 : BitVec 32 := Scalar.muli v11910_r0 c8_i32_3570_r0
  let v12320_r0 : BitVec 32 := Scalar.addi c0_i32_3571_r0 v12319_r0
  v12320_r0
def k0_mult168 (k0_t1 : Fin k0_t1_loop.trips) : BitVec 32 :=
  let c472_i32_3574_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3573_r0 : BitVec 32 := 8#32
  let v12326_r0 : BitVec 32 := Scalar.muli v11910_r0 c8_i32_3573_r0
  let v12327_r0 : BitVec 32 := Scalar.addi c472_i32_3574_r0 v12326_r0
  v12327_r0
def k0_mult169 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3584_r0 : BitVec 32 := 128#32
  let v12403_r0 : BitVec 32 := Scalar.muli v11910_r0 c128_i32_3584_r0
  v12403_r0
def k0_mult170 (k0_t1 : Fin k0_t1_loop.trips) : BitVec 32 :=
  let c0_i32_3601_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3600_r0 : BitVec 32 := 8#32
  let v12442_r0 : BitVec 32 := Scalar.muli v11910_r0 c8_i32_3600_r0
  let v12443_r0 : BitVec 32 := Scalar.addi c0_i32_3601_r0 v12442_r0
  v12443_r0
def k0_mult171 (k0_t1 : Fin k0_t1_loop.trips) : BitVec 32 :=
  let c472_i32_3604_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3603_r0 : BitVec 32 := 8#32
  let v12449_r0 : BitVec 32 := Scalar.muli v11910_r0 c8_i32_3603_r0
  let v12450_r0 : BitVec 32 := Scalar.addi c472_i32_3604_r0 v12449_r0
  v12450_r0
def k0_mult172 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3614_r0 : BitVec 32 := 128#32
  let v12526_r0 : BitVec 32 := Scalar.muli v11910_r0 c128_i32_3614_r0
  v12526_r0
def k0_mult173 (k0_t1 : Fin k0_t1_loop.trips) : BitVec 32 :=
  let c0_i32_3631_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3630_r0 : BitVec 32 := 8#32
  let v12565_r0 : BitVec 32 := Scalar.muli v11910_r0 c8_i32_3630_r0
  let v12566_r0 : BitVec 32 := Scalar.addi c0_i32_3631_r0 v12565_r0
  v12566_r0
def k0_mult174 (k0_t1 : Fin k0_t1_loop.trips) : BitVec 32 :=
  let c472_i32_3634_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3633_r0 : BitVec 32 := 8#32
  let v12572_r0 : BitVec 32 := Scalar.muli v11910_r0 c8_i32_3633_r0
  let v12573_r0 : BitVec 32 := Scalar.addi c472_i32_3634_r0 v12572_r0
  v12573_r0
def k0_mult175 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3644_r0 : BitVec 32 := 128#32
  let v12649_r0 : BitVec 32 := Scalar.muli v11910_r0 c128_i32_3644_r0
  v12649_r0
def k0_mult176 (k0_t1 : Fin k0_t1_loop.trips) : BitVec 32 :=
  let c0_i32_3661_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3660_r0 : BitVec 32 := 8#32
  let v12688_r0 : BitVec 32 := Scalar.muli v11910_r0 c8_i32_3660_r0
  let v12689_r0 : BitVec 32 := Scalar.addi c0_i32_3661_r0 v12688_r0
  v12689_r0
def k0_mult177 (k0_t1 : Fin k0_t1_loop.trips) : BitVec 32 :=
  let c472_i32_3664_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3663_r0 : BitVec 32 := 8#32
  let v12695_r0 : BitVec 32 := Scalar.muli v11910_r0 c8_i32_3663_r0
  let v12696_r0 : BitVec 32 := Scalar.addi c472_i32_3664_r0 v12695_r0
  v12696_r0
def k0_mult178 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3674_r0 : BitVec 32 := 128#32
  let v12772_r0 : BitVec 32 := Scalar.muli v11910_r0 c128_i32_3674_r0
  v12772_r0
def k0_mult179 (k0_t1 : Fin k0_t1_loop.trips) : BitVec 32 :=
  let c0_i32_3691_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3690_r0 : BitVec 32 := 8#32
  let v12811_r0 : BitVec 32 := Scalar.muli v11910_r0 c8_i32_3690_r0
  let v12812_r0 : BitVec 32 := Scalar.addi c0_i32_3691_r0 v12811_r0
  v12812_r0
def k0_mult180 (k0_t1 : Fin k0_t1_loop.trips) : BitVec 32 :=
  let c472_i32_3694_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3693_r0 : BitVec 32 := 8#32
  let v12818_r0 : BitVec 32 := Scalar.muli v11910_r0 c8_i32_3693_r0
  let v12819_r0 : BitVec 32 := Scalar.addi c472_i32_3694_r0 v12818_r0
  v12819_r0
def k0_mult181 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3704_r0 : BitVec 32 := 128#32
  let v12895_r0 : BitVec 32 := Scalar.muli v11910_r0 c128_i32_3704_r0
  v12895_r0
def k0_mult182 (k0_t1 : Fin k0_t1_loop.trips) : BitVec 32 :=
  let c0_i32_3721_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3720_r0 : BitVec 32 := 8#32
  let v12934_r0 : BitVec 32 := Scalar.muli v11910_r0 c8_i32_3720_r0
  let v12935_r0 : BitVec 32 := Scalar.addi c0_i32_3721_r0 v12934_r0
  v12935_r0
def k0_mult183 (k0_t1 : Fin k0_t1_loop.trips) : BitVec 32 :=
  let c472_i32_3724_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3723_r0 : BitVec 32 := 8#32
  let v12941_r0 : BitVec 32 := Scalar.muli v11910_r0 c8_i32_3723_r0
  let v12942_r0 : BitVec 32 := Scalar.addi c472_i32_3724_r0 v12941_r0
  v12942_r0
def k0_mult184 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3734_r0 : BitVec 32 := 128#32
  let v13018_r0 : BitVec 32 := Scalar.muli v11910_r0 c128_i32_3734_r0
  v13018_r0
def k0_mult185 (k0_t1 : Fin k0_t1_loop.trips) : BitVec 32 :=
  let c0_i32_3751_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3750_r0 : BitVec 32 := 8#32
  let v13057_r0 : BitVec 32 := Scalar.muli v11910_r0 c8_i32_3750_r0
  let v13058_r0 : BitVec 32 := Scalar.addi c0_i32_3751_r0 v13057_r0
  v13058_r0
def k0_mult186 (k0_t1 : Fin k0_t1_loop.trips) : BitVec 32 :=
  let c472_i32_3754_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3753_r0 : BitVec 32 := 8#32
  let v13064_r0 : BitVec 32 := Scalar.muli v11910_r0 c8_i32_3753_r0
  let v13065_r0 : BitVec 32 := Scalar.addi c472_i32_3754_r0 v13064_r0
  v13065_r0
def k0_mult187 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3764_r0 : BitVec 32 := 128#32
  let v13141_r0 : BitVec 32 := Scalar.muli v11910_r0 c128_i32_3764_r0
  v13141_r0
def k0_mult188 (k0_t1 : Fin k0_t1_loop.trips) : BitVec 32 :=
  let c0_i32_3781_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3780_r0 : BitVec 32 := 8#32
  let v13180_r0 : BitVec 32 := Scalar.muli v11910_r0 c8_i32_3780_r0
  let v13181_r0 : BitVec 32 := Scalar.addi c0_i32_3781_r0 v13180_r0
  v13181_r0
def k0_mult189 (k0_t1 : Fin k0_t1_loop.trips) : BitVec 32 :=
  let c472_i32_3784_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3783_r0 : BitVec 32 := 8#32
  let v13187_r0 : BitVec 32 := Scalar.muli v11910_r0 c8_i32_3783_r0
  let v13188_r0 : BitVec 32 := Scalar.addi c472_i32_3784_r0 v13187_r0
  v13188_r0
def k0_mult190 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3794_r0 : BitVec 32 := 128#32
  let v13264_r0 : BitVec 32 := Scalar.muli v11910_r0 c128_i32_3794_r0
  v13264_r0
def k0_mult191 (k0_t1 : Fin k0_t1_loop.trips) : BitVec 32 :=
  let c0_i32_3811_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3810_r0 : BitVec 32 := 8#32
  let v13303_r0 : BitVec 32 := Scalar.muli v11910_r0 c8_i32_3810_r0
  let v13304_r0 : BitVec 32 := Scalar.addi c0_i32_3811_r0 v13303_r0
  v13304_r0
def k0_mult192 (k0_t1 : Fin k0_t1_loop.trips) : BitVec 32 :=
  let c472_i32_3814_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3813_r0 : BitVec 32 := 8#32
  let v13310_r0 : BitVec 32 := Scalar.muli v11910_r0 c8_i32_3813_r0
  let v13311_r0 : BitVec 32 := Scalar.addi c472_i32_3814_r0 v13310_r0
  v13311_r0
def k0_mult193 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3824_r0 : BitVec 32 := 128#32
  let v13387_r0 : BitVec 32 := Scalar.muli v11910_r0 c128_i32_3824_r0
  v13387_r0
def k0_mult194 (k0_t1 : Fin k0_t1_loop.trips) : BitVec 32 :=
  let c0_i32_3841_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3840_r0 : BitVec 32 := 8#32
  let v13426_r0 : BitVec 32 := Scalar.muli v11910_r0 c8_i32_3840_r0
  let v13427_r0 : BitVec 32 := Scalar.addi c0_i32_3841_r0 v13426_r0
  v13427_r0
def k0_mult195 (k0_t1 : Fin k0_t1_loop.trips) : BitVec 32 :=
  let c472_i32_3844_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3843_r0 : BitVec 32 := 8#32
  let v13433_r0 : BitVec 32 := Scalar.muli v11910_r0 c8_i32_3843_r0
  let v13434_r0 : BitVec 32 := Scalar.addi c472_i32_3844_r0 v13433_r0
  v13434_r0
def k0_mult196 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3854_r0 : BitVec 32 := 128#32
  let v13510_r0 : BitVec 32 := Scalar.muli v11910_r0 c128_i32_3854_r0
  v13510_r0
def k0_mult197 (k0_t1 : Fin k0_t1_loop.trips) : BitVec 32 :=
  let c0_i32_3871_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3870_r0 : BitVec 32 := 8#32
  let v13549_r0 : BitVec 32 := Scalar.muli v11910_r0 c8_i32_3870_r0
  let v13550_r0 : BitVec 32 := Scalar.addi c0_i32_3871_r0 v13549_r0
  v13550_r0
def k0_mult198 (k0_t1 : Fin k0_t1_loop.trips) : BitVec 32 :=
  let c472_i32_3874_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3873_r0 : BitVec 32 := 8#32
  let v13556_r0 : BitVec 32 := Scalar.muli v11910_r0 c8_i32_3873_r0
  let v13557_r0 : BitVec 32 := Scalar.addi c472_i32_3874_r0 v13556_r0
  v13557_r0
def k0_mult199 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c128_i32_3884_r0 : BitVec 32 := 128#32
  let v13633_r0 : BitVec 32 := Scalar.muli v11910_r0 c128_i32_3884_r0
  v13633_r0
def k0_mult200 (k0_t1 : Fin k0_t1_loop.trips) : BitVec 32 :=
  let c0_i32_3901_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3900_r0 : BitVec 32 := 8#32
  let v13672_r0 : BitVec 32 := Scalar.muli v11910_r0 c8_i32_3900_r0
  let v13673_r0 : BitVec 32 := Scalar.addi c0_i32_3901_r0 v13672_r0
  v13673_r0
def k0_mult201 (k0_t1 : Fin k0_t1_loop.trips) : BitVec 32 :=
  let c472_i32_3904_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3462_r0 : BitVec 32 := 8#32
  let v11909_r0 : BitVec 32 := Scalar.muli arg13_r0 c8_i32_3462_r0
  let c3_i32_3463_r0 : BitVec 32 := 3#32
  let v11910_r0 : BitVec 32 := Scalar.addi v11909_r0 c3_i32_3463_r0
  let c8_i32_3903_r0 : BitVec 32 := 8#32
  let v13679_r0 : BitVec 32 := Scalar.muli v11910_r0 c8_i32_3903_r0
  let v13680_r0 : BitVec 32 := Scalar.addi c472_i32_3904_r0 v13679_r0
  v13680_r0
def k0_mult202 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_3916_r0 : BitVec 32 := 128#32
  let v13758_r0 : BitVec 32 := Scalar.muli v13757_r0 c128_i32_3916_r0
  v13758_r0
def k0_mult203 (k0_t1 : Fin k0_t1_loop.trips) : BitVec 32 :=
  let c0_i32_3933_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_3932_r0 : BitVec 32 := 8#32
  let v13797_r0 : BitVec 32 := Scalar.muli v13757_r0 c8_i32_3932_r0
  let v13798_r0 : BitVec 32 := Scalar.addi c0_i32_3933_r0 v13797_r0
  v13798_r0
def k0_mult204 (k0_t1 : Fin k0_t1_loop.trips) : BitVec 32 :=
  let c472_i32_3936_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_3935_r0 : BitVec 32 := 8#32
  let v13804_r0 : BitVec 32 := Scalar.muli v13757_r0 c8_i32_3935_r0
  let v13805_r0 : BitVec 32 := Scalar.addi c472_i32_3936_r0 v13804_r0
  v13805_r0
def k0_mult205 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_3946_r0 : BitVec 32 := 128#32
  let v13881_r0 : BitVec 32 := Scalar.muli v13757_r0 c128_i32_3946_r0
  v13881_r0
def k0_mult206 (k0_t1 : Fin k0_t1_loop.trips) : BitVec 32 :=
  let c0_i32_3963_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_3962_r0 : BitVec 32 := 8#32
  let v13920_r0 : BitVec 32 := Scalar.muli v13757_r0 c8_i32_3962_r0
  let v13921_r0 : BitVec 32 := Scalar.addi c0_i32_3963_r0 v13920_r0
  v13921_r0
def k0_mult207 (k0_t1 : Fin k0_t1_loop.trips) : BitVec 32 :=
  let c472_i32_3966_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_3965_r0 : BitVec 32 := 8#32
  let v13927_r0 : BitVec 32 := Scalar.muli v13757_r0 c8_i32_3965_r0
  let v13928_r0 : BitVec 32 := Scalar.addi c472_i32_3966_r0 v13927_r0
  v13928_r0
def k0_mult208 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_3976_r0 : BitVec 32 := 128#32
  let v14004_r0 : BitVec 32 := Scalar.muli v13757_r0 c128_i32_3976_r0
  v14004_r0
def k0_mult209 (k0_t1 : Fin k0_t1_loop.trips) : BitVec 32 :=
  let c0_i32_3993_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_3992_r0 : BitVec 32 := 8#32
  let v14043_r0 : BitVec 32 := Scalar.muli v13757_r0 c8_i32_3992_r0
  let v14044_r0 : BitVec 32 := Scalar.addi c0_i32_3993_r0 v14043_r0
  v14044_r0
def k0_mult210 (k0_t1 : Fin k0_t1_loop.trips) : BitVec 32 :=
  let c472_i32_3996_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_3995_r0 : BitVec 32 := 8#32
  let v14050_r0 : BitVec 32 := Scalar.muli v13757_r0 c8_i32_3995_r0
  let v14051_r0 : BitVec 32 := Scalar.addi c472_i32_3996_r0 v14050_r0
  v14051_r0
def k0_mult211 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4006_r0 : BitVec 32 := 128#32
  let v14127_r0 : BitVec 32 := Scalar.muli v13757_r0 c128_i32_4006_r0
  v14127_r0
def k0_mult212 (k0_t1 : Fin k0_t1_loop.trips) : BitVec 32 :=
  let c0_i32_4023_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4022_r0 : BitVec 32 := 8#32
  let v14166_r0 : BitVec 32 := Scalar.muli v13757_r0 c8_i32_4022_r0
  let v14167_r0 : BitVec 32 := Scalar.addi c0_i32_4023_r0 v14166_r0
  v14167_r0
def k0_mult213 (k0_t1 : Fin k0_t1_loop.trips) : BitVec 32 :=
  let c472_i32_4026_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4025_r0 : BitVec 32 := 8#32
  let v14173_r0 : BitVec 32 := Scalar.muli v13757_r0 c8_i32_4025_r0
  let v14174_r0 : BitVec 32 := Scalar.addi c472_i32_4026_r0 v14173_r0
  v14174_r0
def k0_mult214 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4036_r0 : BitVec 32 := 128#32
  let v14250_r0 : BitVec 32 := Scalar.muli v13757_r0 c128_i32_4036_r0
  v14250_r0
def k0_mult215 (k0_t1 : Fin k0_t1_loop.trips) : BitVec 32 :=
  let c0_i32_4053_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4052_r0 : BitVec 32 := 8#32
  let v14289_r0 : BitVec 32 := Scalar.muli v13757_r0 c8_i32_4052_r0
  let v14290_r0 : BitVec 32 := Scalar.addi c0_i32_4053_r0 v14289_r0
  v14290_r0
def k0_mult216 (k0_t1 : Fin k0_t1_loop.trips) : BitVec 32 :=
  let c472_i32_4056_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4055_r0 : BitVec 32 := 8#32
  let v14296_r0 : BitVec 32 := Scalar.muli v13757_r0 c8_i32_4055_r0
  let v14297_r0 : BitVec 32 := Scalar.addi c472_i32_4056_r0 v14296_r0
  v14297_r0
def k0_mult217 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4066_r0 : BitVec 32 := 128#32
  let v14373_r0 : BitVec 32 := Scalar.muli v13757_r0 c128_i32_4066_r0
  v14373_r0
def k0_mult218 (k0_t1 : Fin k0_t1_loop.trips) : BitVec 32 :=
  let c0_i32_4083_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4082_r0 : BitVec 32 := 8#32
  let v14412_r0 : BitVec 32 := Scalar.muli v13757_r0 c8_i32_4082_r0
  let v14413_r0 : BitVec 32 := Scalar.addi c0_i32_4083_r0 v14412_r0
  v14413_r0
def k0_mult219 (k0_t1 : Fin k0_t1_loop.trips) : BitVec 32 :=
  let c472_i32_4086_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4085_r0 : BitVec 32 := 8#32
  let v14419_r0 : BitVec 32 := Scalar.muli v13757_r0 c8_i32_4085_r0
  let v14420_r0 : BitVec 32 := Scalar.addi c472_i32_4086_r0 v14419_r0
  v14420_r0
def k0_mult220 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4096_r0 : BitVec 32 := 128#32
  let v14496_r0 : BitVec 32 := Scalar.muli v13757_r0 c128_i32_4096_r0
  v14496_r0
def k0_mult221 (k0_t1 : Fin k0_t1_loop.trips) : BitVec 32 :=
  let c0_i32_4113_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4112_r0 : BitVec 32 := 8#32
  let v14535_r0 : BitVec 32 := Scalar.muli v13757_r0 c8_i32_4112_r0
  let v14536_r0 : BitVec 32 := Scalar.addi c0_i32_4113_r0 v14535_r0
  v14536_r0
def k0_mult222 (k0_t1 : Fin k0_t1_loop.trips) : BitVec 32 :=
  let c472_i32_4116_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4115_r0 : BitVec 32 := 8#32
  let v14542_r0 : BitVec 32 := Scalar.muli v13757_r0 c8_i32_4115_r0
  let v14543_r0 : BitVec 32 := Scalar.addi c472_i32_4116_r0 v14542_r0
  v14543_r0
def k0_mult223 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4126_r0 : BitVec 32 := 128#32
  let v14619_r0 : BitVec 32 := Scalar.muli v13757_r0 c128_i32_4126_r0
  v14619_r0
def k0_mult224 (k0_t1 : Fin k0_t1_loop.trips) : BitVec 32 :=
  let c0_i32_4143_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4142_r0 : BitVec 32 := 8#32
  let v14658_r0 : BitVec 32 := Scalar.muli v13757_r0 c8_i32_4142_r0
  let v14659_r0 : BitVec 32 := Scalar.addi c0_i32_4143_r0 v14658_r0
  v14659_r0
def k0_mult225 (k0_t1 : Fin k0_t1_loop.trips) : BitVec 32 :=
  let c472_i32_4146_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4145_r0 : BitVec 32 := 8#32
  let v14665_r0 : BitVec 32 := Scalar.muli v13757_r0 c8_i32_4145_r0
  let v14666_r0 : BitVec 32 := Scalar.addi c472_i32_4146_r0 v14665_r0
  v14666_r0
def k0_mult226 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4156_r0 : BitVec 32 := 128#32
  let v14742_r0 : BitVec 32 := Scalar.muli v13757_r0 c128_i32_4156_r0
  v14742_r0
def k0_mult227 (k0_t1 : Fin k0_t1_loop.trips) : BitVec 32 :=
  let c0_i32_4173_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4172_r0 : BitVec 32 := 8#32
  let v14781_r0 : BitVec 32 := Scalar.muli v13757_r0 c8_i32_4172_r0
  let v14782_r0 : BitVec 32 := Scalar.addi c0_i32_4173_r0 v14781_r0
  v14782_r0
def k0_mult228 (k0_t1 : Fin k0_t1_loop.trips) : BitVec 32 :=
  let c472_i32_4176_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4175_r0 : BitVec 32 := 8#32
  let v14788_r0 : BitVec 32 := Scalar.muli v13757_r0 c8_i32_4175_r0
  let v14789_r0 : BitVec 32 := Scalar.addi c472_i32_4176_r0 v14788_r0
  v14789_r0
def k0_mult229 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4186_r0 : BitVec 32 := 128#32
  let v14865_r0 : BitVec 32 := Scalar.muli v13757_r0 c128_i32_4186_r0
  v14865_r0
def k0_mult230 (k0_t1 : Fin k0_t1_loop.trips) : BitVec 32 :=
  let c0_i32_4203_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4202_r0 : BitVec 32 := 8#32
  let v14904_r0 : BitVec 32 := Scalar.muli v13757_r0 c8_i32_4202_r0
  let v14905_r0 : BitVec 32 := Scalar.addi c0_i32_4203_r0 v14904_r0
  v14905_r0
def k0_mult231 (k0_t1 : Fin k0_t1_loop.trips) : BitVec 32 :=
  let c472_i32_4206_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4205_r0 : BitVec 32 := 8#32
  let v14911_r0 : BitVec 32 := Scalar.muli v13757_r0 c8_i32_4205_r0
  let v14912_r0 : BitVec 32 := Scalar.addi c472_i32_4206_r0 v14911_r0
  v14912_r0
def k0_mult232 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4216_r0 : BitVec 32 := 128#32
  let v14988_r0 : BitVec 32 := Scalar.muli v13757_r0 c128_i32_4216_r0
  v14988_r0
def k0_mult233 (k0_t1 : Fin k0_t1_loop.trips) : BitVec 32 :=
  let c0_i32_4233_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4232_r0 : BitVec 32 := 8#32
  let v15027_r0 : BitVec 32 := Scalar.muli v13757_r0 c8_i32_4232_r0
  let v15028_r0 : BitVec 32 := Scalar.addi c0_i32_4233_r0 v15027_r0
  v15028_r0
def k0_mult234 (k0_t1 : Fin k0_t1_loop.trips) : BitVec 32 :=
  let c472_i32_4236_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4235_r0 : BitVec 32 := 8#32
  let v15034_r0 : BitVec 32 := Scalar.muli v13757_r0 c8_i32_4235_r0
  let v15035_r0 : BitVec 32 := Scalar.addi c472_i32_4236_r0 v15034_r0
  v15035_r0
def k0_mult235 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4246_r0 : BitVec 32 := 128#32
  let v15111_r0 : BitVec 32 := Scalar.muli v13757_r0 c128_i32_4246_r0
  v15111_r0
def k0_mult236 (k0_t1 : Fin k0_t1_loop.trips) : BitVec 32 :=
  let c0_i32_4263_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4262_r0 : BitVec 32 := 8#32
  let v15150_r0 : BitVec 32 := Scalar.muli v13757_r0 c8_i32_4262_r0
  let v15151_r0 : BitVec 32 := Scalar.addi c0_i32_4263_r0 v15150_r0
  v15151_r0
def k0_mult237 (k0_t1 : Fin k0_t1_loop.trips) : BitVec 32 :=
  let c472_i32_4266_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4265_r0 : BitVec 32 := 8#32
  let v15157_r0 : BitVec 32 := Scalar.muli v13757_r0 c8_i32_4265_r0
  let v15158_r0 : BitVec 32 := Scalar.addi c472_i32_4266_r0 v15157_r0
  v15158_r0
def k0_mult238 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4276_r0 : BitVec 32 := 128#32
  let v15234_r0 : BitVec 32 := Scalar.muli v13757_r0 c128_i32_4276_r0
  v15234_r0
def k0_mult239 (k0_t1 : Fin k0_t1_loop.trips) : BitVec 32 :=
  let c0_i32_4293_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4292_r0 : BitVec 32 := 8#32
  let v15273_r0 : BitVec 32 := Scalar.muli v13757_r0 c8_i32_4292_r0
  let v15274_r0 : BitVec 32 := Scalar.addi c0_i32_4293_r0 v15273_r0
  v15274_r0
def k0_mult240 (k0_t1 : Fin k0_t1_loop.trips) : BitVec 32 :=
  let c472_i32_4296_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4295_r0 : BitVec 32 := 8#32
  let v15280_r0 : BitVec 32 := Scalar.muli v13757_r0 c8_i32_4295_r0
  let v15281_r0 : BitVec 32 := Scalar.addi c472_i32_4296_r0 v15280_r0
  v15281_r0
def k0_mult241 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4306_r0 : BitVec 32 := 128#32
  let v15357_r0 : BitVec 32 := Scalar.muli v13757_r0 c128_i32_4306_r0
  v15357_r0
def k0_mult242 (k0_t1 : Fin k0_t1_loop.trips) : BitVec 32 :=
  let c0_i32_4323_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4322_r0 : BitVec 32 := 8#32
  let v15396_r0 : BitVec 32 := Scalar.muli v13757_r0 c8_i32_4322_r0
  let v15397_r0 : BitVec 32 := Scalar.addi c0_i32_4323_r0 v15396_r0
  v15397_r0
def k0_mult243 (k0_t1 : Fin k0_t1_loop.trips) : BitVec 32 :=
  let c472_i32_4326_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4325_r0 : BitVec 32 := 8#32
  let v15403_r0 : BitVec 32 := Scalar.muli v13757_r0 c8_i32_4325_r0
  let v15404_r0 : BitVec 32 := Scalar.addi c472_i32_4326_r0 v15403_r0
  v15404_r0
def k0_mult244 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c128_i32_4336_r0 : BitVec 32 := 128#32
  let v15480_r0 : BitVec 32 := Scalar.muli v13757_r0 c128_i32_4336_r0
  v15480_r0
def k0_mult245 (k0_t1 : Fin k0_t1_loop.trips) : BitVec 32 :=
  let c0_i32_4353_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4352_r0 : BitVec 32 := 8#32
  let v15519_r0 : BitVec 32 := Scalar.muli v13757_r0 c8_i32_4352_r0
  let v15520_r0 : BitVec 32 := Scalar.addi c0_i32_4353_r0 v15519_r0
  v15520_r0
def k0_mult246 (k0_t1 : Fin k0_t1_loop.trips) : BitVec 32 :=
  let c472_i32_4356_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_3914_r0 : BitVec 32 := 8#32
  let v13756_r0 : BitVec 32 := Scalar.muli arg13_r0 c8_i32_3914_r0
  let c4_i32_3915_r0 : BitVec 32 := 4#32
  let v13757_r0 : BitVec 32 := Scalar.addi v13756_r0 c4_i32_3915_r0
  let c8_i32_4355_r0 : BitVec 32 := 8#32
  let v15526_r0 : BitVec 32 := Scalar.muli v13757_r0 c8_i32_4355_r0
  let v15527_r0 : BitVec 32 := Scalar.addi c472_i32_4356_r0 v15526_r0
  v15527_r0
def k0_mult247 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4368_r0 : BitVec 32 := 128#32
  let v15605_r0 : BitVec 32 := Scalar.muli v15604_r0 c128_i32_4368_r0
  v15605_r0
def k0_mult248 (k0_t1 : Fin k0_t1_loop.trips) : BitVec 32 :=
  let c0_i32_4385_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4384_r0 : BitVec 32 := 8#32
  let v15644_r0 : BitVec 32 := Scalar.muli v15604_r0 c8_i32_4384_r0
  let v15645_r0 : BitVec 32 := Scalar.addi c0_i32_4385_r0 v15644_r0
  v15645_r0
def k0_mult249 (k0_t1 : Fin k0_t1_loop.trips) : BitVec 32 :=
  let c472_i32_4388_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4387_r0 : BitVec 32 := 8#32
  let v15651_r0 : BitVec 32 := Scalar.muli v15604_r0 c8_i32_4387_r0
  let v15652_r0 : BitVec 32 := Scalar.addi c472_i32_4388_r0 v15651_r0
  v15652_r0
def k0_mult250 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4398_r0 : BitVec 32 := 128#32
  let v15728_r0 : BitVec 32 := Scalar.muli v15604_r0 c128_i32_4398_r0
  v15728_r0
def k0_mult251 (k0_t1 : Fin k0_t1_loop.trips) : BitVec 32 :=
  let c0_i32_4415_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4414_r0 : BitVec 32 := 8#32
  let v15767_r0 : BitVec 32 := Scalar.muli v15604_r0 c8_i32_4414_r0
  let v15768_r0 : BitVec 32 := Scalar.addi c0_i32_4415_r0 v15767_r0
  v15768_r0
def k0_mult252 (k0_t1 : Fin k0_t1_loop.trips) : BitVec 32 :=
  let c472_i32_4418_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4417_r0 : BitVec 32 := 8#32
  let v15774_r0 : BitVec 32 := Scalar.muli v15604_r0 c8_i32_4417_r0
  let v15775_r0 : BitVec 32 := Scalar.addi c472_i32_4418_r0 v15774_r0
  v15775_r0
def k0_mult253 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4428_r0 : BitVec 32 := 128#32
  let v15851_r0 : BitVec 32 := Scalar.muli v15604_r0 c128_i32_4428_r0
  v15851_r0
def k0_mult254 (k0_t1 : Fin k0_t1_loop.trips) : BitVec 32 :=
  let c0_i32_4445_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4444_r0 : BitVec 32 := 8#32
  let v15890_r0 : BitVec 32 := Scalar.muli v15604_r0 c8_i32_4444_r0
  let v15891_r0 : BitVec 32 := Scalar.addi c0_i32_4445_r0 v15890_r0
  v15891_r0
def k0_mult255 (k0_t1 : Fin k0_t1_loop.trips) : BitVec 32 :=
  let c472_i32_4448_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4447_r0 : BitVec 32 := 8#32
  let v15897_r0 : BitVec 32 := Scalar.muli v15604_r0 c8_i32_4447_r0
  let v15898_r0 : BitVec 32 := Scalar.addi c472_i32_4448_r0 v15897_r0
  v15898_r0
def k0_mult256 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4458_r0 : BitVec 32 := 128#32
  let v15974_r0 : BitVec 32 := Scalar.muli v15604_r0 c128_i32_4458_r0
  v15974_r0
def k0_mult257 (k0_t1 : Fin k0_t1_loop.trips) : BitVec 32 :=
  let c0_i32_4475_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4474_r0 : BitVec 32 := 8#32
  let v16013_r0 : BitVec 32 := Scalar.muli v15604_r0 c8_i32_4474_r0
  let v16014_r0 : BitVec 32 := Scalar.addi c0_i32_4475_r0 v16013_r0
  v16014_r0
def k0_mult258 (k0_t1 : Fin k0_t1_loop.trips) : BitVec 32 :=
  let c472_i32_4478_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4477_r0 : BitVec 32 := 8#32
  let v16020_r0 : BitVec 32 := Scalar.muli v15604_r0 c8_i32_4477_r0
  let v16021_r0 : BitVec 32 := Scalar.addi c472_i32_4478_r0 v16020_r0
  v16021_r0
def k0_mult259 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4488_r0 : BitVec 32 := 128#32
  let v16097_r0 : BitVec 32 := Scalar.muli v15604_r0 c128_i32_4488_r0
  v16097_r0
def k0_mult260 (k0_t1 : Fin k0_t1_loop.trips) : BitVec 32 :=
  let c0_i32_4505_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4504_r0 : BitVec 32 := 8#32
  let v16136_r0 : BitVec 32 := Scalar.muli v15604_r0 c8_i32_4504_r0
  let v16137_r0 : BitVec 32 := Scalar.addi c0_i32_4505_r0 v16136_r0
  v16137_r0
def k0_mult261 (k0_t1 : Fin k0_t1_loop.trips) : BitVec 32 :=
  let c472_i32_4508_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4507_r0 : BitVec 32 := 8#32
  let v16143_r0 : BitVec 32 := Scalar.muli v15604_r0 c8_i32_4507_r0
  let v16144_r0 : BitVec 32 := Scalar.addi c472_i32_4508_r0 v16143_r0
  v16144_r0
def k0_mult262 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4518_r0 : BitVec 32 := 128#32
  let v16220_r0 : BitVec 32 := Scalar.muli v15604_r0 c128_i32_4518_r0
  v16220_r0
def k0_mult263 (k0_t1 : Fin k0_t1_loop.trips) : BitVec 32 :=
  let c0_i32_4535_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4534_r0 : BitVec 32 := 8#32
  let v16259_r0 : BitVec 32 := Scalar.muli v15604_r0 c8_i32_4534_r0
  let v16260_r0 : BitVec 32 := Scalar.addi c0_i32_4535_r0 v16259_r0
  v16260_r0
def k0_mult264 (k0_t1 : Fin k0_t1_loop.trips) : BitVec 32 :=
  let c472_i32_4538_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4537_r0 : BitVec 32 := 8#32
  let v16266_r0 : BitVec 32 := Scalar.muli v15604_r0 c8_i32_4537_r0
  let v16267_r0 : BitVec 32 := Scalar.addi c472_i32_4538_r0 v16266_r0
  v16267_r0
def k0_mult265 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4548_r0 : BitVec 32 := 128#32
  let v16343_r0 : BitVec 32 := Scalar.muli v15604_r0 c128_i32_4548_r0
  v16343_r0
def k0_mult266 (k0_t1 : Fin k0_t1_loop.trips) : BitVec 32 :=
  let c0_i32_4565_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4564_r0 : BitVec 32 := 8#32
  let v16382_r0 : BitVec 32 := Scalar.muli v15604_r0 c8_i32_4564_r0
  let v16383_r0 : BitVec 32 := Scalar.addi c0_i32_4565_r0 v16382_r0
  v16383_r0
def k0_mult267 (k0_t1 : Fin k0_t1_loop.trips) : BitVec 32 :=
  let c472_i32_4568_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4567_r0 : BitVec 32 := 8#32
  let v16389_r0 : BitVec 32 := Scalar.muli v15604_r0 c8_i32_4567_r0
  let v16390_r0 : BitVec 32 := Scalar.addi c472_i32_4568_r0 v16389_r0
  v16390_r0
def k0_mult268 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4578_r0 : BitVec 32 := 128#32
  let v16466_r0 : BitVec 32 := Scalar.muli v15604_r0 c128_i32_4578_r0
  v16466_r0
def k0_mult269 (k0_t1 : Fin k0_t1_loop.trips) : BitVec 32 :=
  let c0_i32_4595_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4594_r0 : BitVec 32 := 8#32
  let v16505_r0 : BitVec 32 := Scalar.muli v15604_r0 c8_i32_4594_r0
  let v16506_r0 : BitVec 32 := Scalar.addi c0_i32_4595_r0 v16505_r0
  v16506_r0
def k0_mult270 (k0_t1 : Fin k0_t1_loop.trips) : BitVec 32 :=
  let c472_i32_4598_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4597_r0 : BitVec 32 := 8#32
  let v16512_r0 : BitVec 32 := Scalar.muli v15604_r0 c8_i32_4597_r0
  let v16513_r0 : BitVec 32 := Scalar.addi c472_i32_4598_r0 v16512_r0
  v16513_r0
def k0_mult271 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4608_r0 : BitVec 32 := 128#32
  let v16589_r0 : BitVec 32 := Scalar.muli v15604_r0 c128_i32_4608_r0
  v16589_r0
def k0_mult272 (k0_t1 : Fin k0_t1_loop.trips) : BitVec 32 :=
  let c0_i32_4625_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4624_r0 : BitVec 32 := 8#32
  let v16628_r0 : BitVec 32 := Scalar.muli v15604_r0 c8_i32_4624_r0
  let v16629_r0 : BitVec 32 := Scalar.addi c0_i32_4625_r0 v16628_r0
  v16629_r0
def k0_mult273 (k0_t1 : Fin k0_t1_loop.trips) : BitVec 32 :=
  let c472_i32_4628_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4627_r0 : BitVec 32 := 8#32
  let v16635_r0 : BitVec 32 := Scalar.muli v15604_r0 c8_i32_4627_r0
  let v16636_r0 : BitVec 32 := Scalar.addi c472_i32_4628_r0 v16635_r0
  v16636_r0
def k0_mult274 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4638_r0 : BitVec 32 := 128#32
  let v16712_r0 : BitVec 32 := Scalar.muli v15604_r0 c128_i32_4638_r0
  v16712_r0
def k0_mult275 (k0_t1 : Fin k0_t1_loop.trips) : BitVec 32 :=
  let c0_i32_4655_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4654_r0 : BitVec 32 := 8#32
  let v16751_r0 : BitVec 32 := Scalar.muli v15604_r0 c8_i32_4654_r0
  let v16752_r0 : BitVec 32 := Scalar.addi c0_i32_4655_r0 v16751_r0
  v16752_r0
def k0_mult276 (k0_t1 : Fin k0_t1_loop.trips) : BitVec 32 :=
  let c472_i32_4658_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4657_r0 : BitVec 32 := 8#32
  let v16758_r0 : BitVec 32 := Scalar.muli v15604_r0 c8_i32_4657_r0
  let v16759_r0 : BitVec 32 := Scalar.addi c472_i32_4658_r0 v16758_r0
  v16759_r0
def k0_mult277 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4668_r0 : BitVec 32 := 128#32
  let v16835_r0 : BitVec 32 := Scalar.muli v15604_r0 c128_i32_4668_r0
  v16835_r0
def k0_mult278 (k0_t1 : Fin k0_t1_loop.trips) : BitVec 32 :=
  let c0_i32_4685_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4684_r0 : BitVec 32 := 8#32
  let v16874_r0 : BitVec 32 := Scalar.muli v15604_r0 c8_i32_4684_r0
  let v16875_r0 : BitVec 32 := Scalar.addi c0_i32_4685_r0 v16874_r0
  v16875_r0
def k0_mult279 (k0_t1 : Fin k0_t1_loop.trips) : BitVec 32 :=
  let c472_i32_4688_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4687_r0 : BitVec 32 := 8#32
  let v16881_r0 : BitVec 32 := Scalar.muli v15604_r0 c8_i32_4687_r0
  let v16882_r0 : BitVec 32 := Scalar.addi c472_i32_4688_r0 v16881_r0
  v16882_r0
def k0_mult280 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4698_r0 : BitVec 32 := 128#32
  let v16958_r0 : BitVec 32 := Scalar.muli v15604_r0 c128_i32_4698_r0
  v16958_r0
def k0_mult281 (k0_t1 : Fin k0_t1_loop.trips) : BitVec 32 :=
  let c0_i32_4715_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4714_r0 : BitVec 32 := 8#32
  let v16997_r0 : BitVec 32 := Scalar.muli v15604_r0 c8_i32_4714_r0
  let v16998_r0 : BitVec 32 := Scalar.addi c0_i32_4715_r0 v16997_r0
  v16998_r0
def k0_mult282 (k0_t1 : Fin k0_t1_loop.trips) : BitVec 32 :=
  let c472_i32_4718_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4717_r0 : BitVec 32 := 8#32
  let v17004_r0 : BitVec 32 := Scalar.muli v15604_r0 c8_i32_4717_r0
  let v17005_r0 : BitVec 32 := Scalar.addi c472_i32_4718_r0 v17004_r0
  v17005_r0
def k0_mult283 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4728_r0 : BitVec 32 := 128#32
  let v17081_r0 : BitVec 32 := Scalar.muli v15604_r0 c128_i32_4728_r0
  v17081_r0
def k0_mult284 (k0_t1 : Fin k0_t1_loop.trips) : BitVec 32 :=
  let c0_i32_4745_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4744_r0 : BitVec 32 := 8#32
  let v17120_r0 : BitVec 32 := Scalar.muli v15604_r0 c8_i32_4744_r0
  let v17121_r0 : BitVec 32 := Scalar.addi c0_i32_4745_r0 v17120_r0
  v17121_r0
def k0_mult285 (k0_t1 : Fin k0_t1_loop.trips) : BitVec 32 :=
  let c472_i32_4748_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4747_r0 : BitVec 32 := 8#32
  let v17127_r0 : BitVec 32 := Scalar.muli v15604_r0 c8_i32_4747_r0
  let v17128_r0 : BitVec 32 := Scalar.addi c472_i32_4748_r0 v17127_r0
  v17128_r0
def k0_mult286 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4758_r0 : BitVec 32 := 128#32
  let v17204_r0 : BitVec 32 := Scalar.muli v15604_r0 c128_i32_4758_r0
  v17204_r0
def k0_mult287 (k0_t1 : Fin k0_t1_loop.trips) : BitVec 32 :=
  let c0_i32_4775_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4774_r0 : BitVec 32 := 8#32
  let v17243_r0 : BitVec 32 := Scalar.muli v15604_r0 c8_i32_4774_r0
  let v17244_r0 : BitVec 32 := Scalar.addi c0_i32_4775_r0 v17243_r0
  v17244_r0
def k0_mult288 (k0_t1 : Fin k0_t1_loop.trips) : BitVec 32 :=
  let c472_i32_4778_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4777_r0 : BitVec 32 := 8#32
  let v17250_r0 : BitVec 32 := Scalar.muli v15604_r0 c8_i32_4777_r0
  let v17251_r0 : BitVec 32 := Scalar.addi c472_i32_4778_r0 v17250_r0
  v17251_r0
def k0_mult289 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c128_i32_4788_r0 : BitVec 32 := 128#32
  let v17327_r0 : BitVec 32 := Scalar.muli v15604_r0 c128_i32_4788_r0
  v17327_r0
def k0_mult290 (k0_t1 : Fin k0_t1_loop.trips) : BitVec 32 :=
  let c0_i32_4805_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4804_r0 : BitVec 32 := 8#32
  let v17366_r0 : BitVec 32 := Scalar.muli v15604_r0 c8_i32_4804_r0
  let v17367_r0 : BitVec 32 := Scalar.addi c0_i32_4805_r0 v17366_r0
  v17367_r0
def k0_mult291 (k0_t1 : Fin k0_t1_loop.trips) : BitVec 32 :=
  let c472_i32_4808_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4366_r0 : BitVec 32 := 8#32
  let v15603_r0 : BitVec 32 := Scalar.muli arg13_r0 c8_i32_4366_r0
  let c5_i32_4367_r0 : BitVec 32 := 5#32
  let v15604_r0 : BitVec 32 := Scalar.addi v15603_r0 c5_i32_4367_r0
  let c8_i32_4807_r0 : BitVec 32 := 8#32
  let v17373_r0 : BitVec 32 := Scalar.muli v15604_r0 c8_i32_4807_r0
  let v17374_r0 : BitVec 32 := Scalar.addi c472_i32_4808_r0 v17373_r0
  v17374_r0
def k0_mult292 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_4820_r0 : BitVec 32 := 128#32
  let v17452_r0 : BitVec 32 := Scalar.muli v17451_r0 c128_i32_4820_r0
  v17452_r0
def k0_mult293 (k0_t1 : Fin k0_t1_loop.trips) : BitVec 32 :=
  let c0_i32_4837_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4836_r0 : BitVec 32 := 8#32
  let v17491_r0 : BitVec 32 := Scalar.muli v17451_r0 c8_i32_4836_r0
  let v17492_r0 : BitVec 32 := Scalar.addi c0_i32_4837_r0 v17491_r0
  v17492_r0
def k0_mult294 (k0_t1 : Fin k0_t1_loop.trips) : BitVec 32 :=
  let c472_i32_4840_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4839_r0 : BitVec 32 := 8#32
  let v17498_r0 : BitVec 32 := Scalar.muli v17451_r0 c8_i32_4839_r0
  let v17499_r0 : BitVec 32 := Scalar.addi c472_i32_4840_r0 v17498_r0
  v17499_r0
def k0_mult295 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_4850_r0 : BitVec 32 := 128#32
  let v17575_r0 : BitVec 32 := Scalar.muli v17451_r0 c128_i32_4850_r0
  v17575_r0
def k0_mult296 (k0_t1 : Fin k0_t1_loop.trips) : BitVec 32 :=
  let c0_i32_4867_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4866_r0 : BitVec 32 := 8#32
  let v17614_r0 : BitVec 32 := Scalar.muli v17451_r0 c8_i32_4866_r0
  let v17615_r0 : BitVec 32 := Scalar.addi c0_i32_4867_r0 v17614_r0
  v17615_r0
def k0_mult297 (k0_t1 : Fin k0_t1_loop.trips) : BitVec 32 :=
  let c472_i32_4870_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4869_r0 : BitVec 32 := 8#32
  let v17621_r0 : BitVec 32 := Scalar.muli v17451_r0 c8_i32_4869_r0
  let v17622_r0 : BitVec 32 := Scalar.addi c472_i32_4870_r0 v17621_r0
  v17622_r0
def k0_mult298 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_4880_r0 : BitVec 32 := 128#32
  let v17698_r0 : BitVec 32 := Scalar.muli v17451_r0 c128_i32_4880_r0
  v17698_r0
def k0_mult299 (k0_t1 : Fin k0_t1_loop.trips) : BitVec 32 :=
  let c0_i32_4897_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4896_r0 : BitVec 32 := 8#32
  let v17737_r0 : BitVec 32 := Scalar.muli v17451_r0 c8_i32_4896_r0
  let v17738_r0 : BitVec 32 := Scalar.addi c0_i32_4897_r0 v17737_r0
  v17738_r0
def k0_mult300 (k0_t1 : Fin k0_t1_loop.trips) : BitVec 32 :=
  let c472_i32_4900_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4899_r0 : BitVec 32 := 8#32
  let v17744_r0 : BitVec 32 := Scalar.muli v17451_r0 c8_i32_4899_r0
  let v17745_r0 : BitVec 32 := Scalar.addi c472_i32_4900_r0 v17744_r0
  v17745_r0
def k0_mult301 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_4910_r0 : BitVec 32 := 128#32
  let v17821_r0 : BitVec 32 := Scalar.muli v17451_r0 c128_i32_4910_r0
  v17821_r0
def k0_mult302 (k0_t1 : Fin k0_t1_loop.trips) : BitVec 32 :=
  let c0_i32_4927_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4926_r0 : BitVec 32 := 8#32
  let v17860_r0 : BitVec 32 := Scalar.muli v17451_r0 c8_i32_4926_r0
  let v17861_r0 : BitVec 32 := Scalar.addi c0_i32_4927_r0 v17860_r0
  v17861_r0
def k0_mult303 (k0_t1 : Fin k0_t1_loop.trips) : BitVec 32 :=
  let c472_i32_4930_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4929_r0 : BitVec 32 := 8#32
  let v17867_r0 : BitVec 32 := Scalar.muli v17451_r0 c8_i32_4929_r0
  let v17868_r0 : BitVec 32 := Scalar.addi c472_i32_4930_r0 v17867_r0
  v17868_r0
def k0_mult304 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_4940_r0 : BitVec 32 := 128#32
  let v17944_r0 : BitVec 32 := Scalar.muli v17451_r0 c128_i32_4940_r0
  v17944_r0
def k0_mult305 (k0_t1 : Fin k0_t1_loop.trips) : BitVec 32 :=
  let c0_i32_4957_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4956_r0 : BitVec 32 := 8#32
  let v17983_r0 : BitVec 32 := Scalar.muli v17451_r0 c8_i32_4956_r0
  let v17984_r0 : BitVec 32 := Scalar.addi c0_i32_4957_r0 v17983_r0
  v17984_r0
def k0_mult306 (k0_t1 : Fin k0_t1_loop.trips) : BitVec 32 :=
  let c472_i32_4960_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4959_r0 : BitVec 32 := 8#32
  let v17990_r0 : BitVec 32 := Scalar.muli v17451_r0 c8_i32_4959_r0
  let v17991_r0 : BitVec 32 := Scalar.addi c472_i32_4960_r0 v17990_r0
  v17991_r0
def k0_mult307 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_4970_r0 : BitVec 32 := 128#32
  let v18067_r0 : BitVec 32 := Scalar.muli v17451_r0 c128_i32_4970_r0
  v18067_r0
def k0_mult308 (k0_t1 : Fin k0_t1_loop.trips) : BitVec 32 :=
  let c0_i32_4987_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4986_r0 : BitVec 32 := 8#32
  let v18106_r0 : BitVec 32 := Scalar.muli v17451_r0 c8_i32_4986_r0
  let v18107_r0 : BitVec 32 := Scalar.addi c0_i32_4987_r0 v18106_r0
  v18107_r0
def k0_mult309 (k0_t1 : Fin k0_t1_loop.trips) : BitVec 32 :=
  let c472_i32_4990_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_4989_r0 : BitVec 32 := 8#32
  let v18113_r0 : BitVec 32 := Scalar.muli v17451_r0 c8_i32_4989_r0
  let v18114_r0 : BitVec 32 := Scalar.addi c472_i32_4990_r0 v18113_r0
  v18114_r0
def k0_mult310 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_5000_r0 : BitVec 32 := 128#32
  let v18190_r0 : BitVec 32 := Scalar.muli v17451_r0 c128_i32_5000_r0
  v18190_r0
def k0_mult311 (k0_t1 : Fin k0_t1_loop.trips) : BitVec 32 :=
  let c0_i32_5017_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5016_r0 : BitVec 32 := 8#32
  let v18229_r0 : BitVec 32 := Scalar.muli v17451_r0 c8_i32_5016_r0
  let v18230_r0 : BitVec 32 := Scalar.addi c0_i32_5017_r0 v18229_r0
  v18230_r0
def k0_mult312 (k0_t1 : Fin k0_t1_loop.trips) : BitVec 32 :=
  let c472_i32_5020_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5019_r0 : BitVec 32 := 8#32
  let v18236_r0 : BitVec 32 := Scalar.muli v17451_r0 c8_i32_5019_r0
  let v18237_r0 : BitVec 32 := Scalar.addi c472_i32_5020_r0 v18236_r0
  v18237_r0
def k0_mult313 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_5030_r0 : BitVec 32 := 128#32
  let v18313_r0 : BitVec 32 := Scalar.muli v17451_r0 c128_i32_5030_r0
  v18313_r0
def k0_mult314 (k0_t1 : Fin k0_t1_loop.trips) : BitVec 32 :=
  let c0_i32_5047_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5046_r0 : BitVec 32 := 8#32
  let v18352_r0 : BitVec 32 := Scalar.muli v17451_r0 c8_i32_5046_r0
  let v18353_r0 : BitVec 32 := Scalar.addi c0_i32_5047_r0 v18352_r0
  v18353_r0
def k0_mult315 (k0_t1 : Fin k0_t1_loop.trips) : BitVec 32 :=
  let c472_i32_5050_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5049_r0 : BitVec 32 := 8#32
  let v18359_r0 : BitVec 32 := Scalar.muli v17451_r0 c8_i32_5049_r0
  let v18360_r0 : BitVec 32 := Scalar.addi c472_i32_5050_r0 v18359_r0
  v18360_r0
def k0_mult316 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_5060_r0 : BitVec 32 := 128#32
  let v18436_r0 : BitVec 32 := Scalar.muli v17451_r0 c128_i32_5060_r0
  v18436_r0
def k0_mult317 (k0_t1 : Fin k0_t1_loop.trips) : BitVec 32 :=
  let c0_i32_5077_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5076_r0 : BitVec 32 := 8#32
  let v18475_r0 : BitVec 32 := Scalar.muli v17451_r0 c8_i32_5076_r0
  let v18476_r0 : BitVec 32 := Scalar.addi c0_i32_5077_r0 v18475_r0
  v18476_r0
def k0_mult318 (k0_t1 : Fin k0_t1_loop.trips) : BitVec 32 :=
  let c472_i32_5080_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5079_r0 : BitVec 32 := 8#32
  let v18482_r0 : BitVec 32 := Scalar.muli v17451_r0 c8_i32_5079_r0
  let v18483_r0 : BitVec 32 := Scalar.addi c472_i32_5080_r0 v18482_r0
  v18483_r0
def k0_mult319 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_5090_r0 : BitVec 32 := 128#32
  let v18559_r0 : BitVec 32 := Scalar.muli v17451_r0 c128_i32_5090_r0
  v18559_r0
def k0_mult320 (k0_t1 : Fin k0_t1_loop.trips) : BitVec 32 :=
  let c0_i32_5107_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5106_r0 : BitVec 32 := 8#32
  let v18598_r0 : BitVec 32 := Scalar.muli v17451_r0 c8_i32_5106_r0
  let v18599_r0 : BitVec 32 := Scalar.addi c0_i32_5107_r0 v18598_r0
  v18599_r0
def k0_mult321 (k0_t1 : Fin k0_t1_loop.trips) : BitVec 32 :=
  let c472_i32_5110_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5109_r0 : BitVec 32 := 8#32
  let v18605_r0 : BitVec 32 := Scalar.muli v17451_r0 c8_i32_5109_r0
  let v18606_r0 : BitVec 32 := Scalar.addi c472_i32_5110_r0 v18605_r0
  v18606_r0
def k0_mult322 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_5120_r0 : BitVec 32 := 128#32
  let v18682_r0 : BitVec 32 := Scalar.muli v17451_r0 c128_i32_5120_r0
  v18682_r0
def k0_mult323 (k0_t1 : Fin k0_t1_loop.trips) : BitVec 32 :=
  let c0_i32_5137_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5136_r0 : BitVec 32 := 8#32
  let v18721_r0 : BitVec 32 := Scalar.muli v17451_r0 c8_i32_5136_r0
  let v18722_r0 : BitVec 32 := Scalar.addi c0_i32_5137_r0 v18721_r0
  v18722_r0
def k0_mult324 (k0_t1 : Fin k0_t1_loop.trips) : BitVec 32 :=
  let c472_i32_5140_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5139_r0 : BitVec 32 := 8#32
  let v18728_r0 : BitVec 32 := Scalar.muli v17451_r0 c8_i32_5139_r0
  let v18729_r0 : BitVec 32 := Scalar.addi c472_i32_5140_r0 v18728_r0
  v18729_r0
def k0_mult325 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_5150_r0 : BitVec 32 := 128#32
  let v18805_r0 : BitVec 32 := Scalar.muli v17451_r0 c128_i32_5150_r0
  v18805_r0
def k0_mult326 (k0_t1 : Fin k0_t1_loop.trips) : BitVec 32 :=
  let c0_i32_5167_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5166_r0 : BitVec 32 := 8#32
  let v18844_r0 : BitVec 32 := Scalar.muli v17451_r0 c8_i32_5166_r0
  let v18845_r0 : BitVec 32 := Scalar.addi c0_i32_5167_r0 v18844_r0
  v18845_r0
def k0_mult327 (k0_t1 : Fin k0_t1_loop.trips) : BitVec 32 :=
  let c472_i32_5170_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5169_r0 : BitVec 32 := 8#32
  let v18851_r0 : BitVec 32 := Scalar.muli v17451_r0 c8_i32_5169_r0
  let v18852_r0 : BitVec 32 := Scalar.addi c472_i32_5170_r0 v18851_r0
  v18852_r0
def k0_mult328 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_5180_r0 : BitVec 32 := 128#32
  let v18928_r0 : BitVec 32 := Scalar.muli v17451_r0 c128_i32_5180_r0
  v18928_r0
def k0_mult329 (k0_t1 : Fin k0_t1_loop.trips) : BitVec 32 :=
  let c0_i32_5197_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5196_r0 : BitVec 32 := 8#32
  let v18967_r0 : BitVec 32 := Scalar.muli v17451_r0 c8_i32_5196_r0
  let v18968_r0 : BitVec 32 := Scalar.addi c0_i32_5197_r0 v18967_r0
  v18968_r0
def k0_mult330 (k0_t1 : Fin k0_t1_loop.trips) : BitVec 32 :=
  let c472_i32_5200_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5199_r0 : BitVec 32 := 8#32
  let v18974_r0 : BitVec 32 := Scalar.muli v17451_r0 c8_i32_5199_r0
  let v18975_r0 : BitVec 32 := Scalar.addi c472_i32_5200_r0 v18974_r0
  v18975_r0
def k0_mult331 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_5210_r0 : BitVec 32 := 128#32
  let v19051_r0 : BitVec 32 := Scalar.muli v17451_r0 c128_i32_5210_r0
  v19051_r0
def k0_mult332 (k0_t1 : Fin k0_t1_loop.trips) : BitVec 32 :=
  let c0_i32_5227_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5226_r0 : BitVec 32 := 8#32
  let v19090_r0 : BitVec 32 := Scalar.muli v17451_r0 c8_i32_5226_r0
  let v19091_r0 : BitVec 32 := Scalar.addi c0_i32_5227_r0 v19090_r0
  v19091_r0
def k0_mult333 (k0_t1 : Fin k0_t1_loop.trips) : BitVec 32 :=
  let c472_i32_5230_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5229_r0 : BitVec 32 := 8#32
  let v19097_r0 : BitVec 32 := Scalar.muli v17451_r0 c8_i32_5229_r0
  let v19098_r0 : BitVec 32 := Scalar.addi c472_i32_5230_r0 v19097_r0
  v19098_r0
def k0_mult334 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c128_i32_5240_r0 : BitVec 32 := 128#32
  let v19174_r0 : BitVec 32 := Scalar.muli v17451_r0 c128_i32_5240_r0
  v19174_r0
def k0_mult335 (k0_t1 : Fin k0_t1_loop.trips) : BitVec 32 :=
  let c0_i32_5257_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5256_r0 : BitVec 32 := 8#32
  let v19213_r0 : BitVec 32 := Scalar.muli v17451_r0 c8_i32_5256_r0
  let v19214_r0 : BitVec 32 := Scalar.addi c0_i32_5257_r0 v19213_r0
  v19214_r0
def k0_mult336 (k0_t1 : Fin k0_t1_loop.trips) : BitVec 32 :=
  let c472_i32_5260_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_4818_r0 : BitVec 32 := 8#32
  let v17450_r0 : BitVec 32 := Scalar.muli arg13_r0 c8_i32_4818_r0
  let c6_i32_4819_r0 : BitVec 32 := 6#32
  let v17451_r0 : BitVec 32 := Scalar.addi v17450_r0 c6_i32_4819_r0
  let c8_i32_5259_r0 : BitVec 32 := 8#32
  let v19220_r0 : BitVec 32 := Scalar.muli v17451_r0 c8_i32_5259_r0
  let v19221_r0 : BitVec 32 := Scalar.addi c472_i32_5260_r0 v19220_r0
  v19221_r0
def k0_mult337 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5272_r0 : BitVec 32 := 128#32
  let v19299_r0 : BitVec 32 := Scalar.muli v19298_r0 c128_i32_5272_r0
  v19299_r0
def k0_mult338 (k0_t1 : Fin k0_t1_loop.trips) : BitVec 32 :=
  let c0_i32_5289_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5288_r0 : BitVec 32 := 8#32
  let v19338_r0 : BitVec 32 := Scalar.muli v19298_r0 c8_i32_5288_r0
  let v19339_r0 : BitVec 32 := Scalar.addi c0_i32_5289_r0 v19338_r0
  v19339_r0
def k0_mult339 (k0_t1 : Fin k0_t1_loop.trips) : BitVec 32 :=
  let c472_i32_5292_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5291_r0 : BitVec 32 := 8#32
  let v19345_r0 : BitVec 32 := Scalar.muli v19298_r0 c8_i32_5291_r0
  let v19346_r0 : BitVec 32 := Scalar.addi c472_i32_5292_r0 v19345_r0
  v19346_r0
def k0_mult340 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5302_r0 : BitVec 32 := 128#32
  let v19422_r0 : BitVec 32 := Scalar.muli v19298_r0 c128_i32_5302_r0
  v19422_r0
def k0_mult341 (k0_t1 : Fin k0_t1_loop.trips) : BitVec 32 :=
  let c0_i32_5319_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5318_r0 : BitVec 32 := 8#32
  let v19461_r0 : BitVec 32 := Scalar.muli v19298_r0 c8_i32_5318_r0
  let v19462_r0 : BitVec 32 := Scalar.addi c0_i32_5319_r0 v19461_r0
  v19462_r0
def k0_mult342 (k0_t1 : Fin k0_t1_loop.trips) : BitVec 32 :=
  let c472_i32_5322_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5321_r0 : BitVec 32 := 8#32
  let v19468_r0 : BitVec 32 := Scalar.muli v19298_r0 c8_i32_5321_r0
  let v19469_r0 : BitVec 32 := Scalar.addi c472_i32_5322_r0 v19468_r0
  v19469_r0
def k0_mult343 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5332_r0 : BitVec 32 := 128#32
  let v19545_r0 : BitVec 32 := Scalar.muli v19298_r0 c128_i32_5332_r0
  v19545_r0
def k0_mult344 (k0_t1 : Fin k0_t1_loop.trips) : BitVec 32 :=
  let c0_i32_5349_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5348_r0 : BitVec 32 := 8#32
  let v19584_r0 : BitVec 32 := Scalar.muli v19298_r0 c8_i32_5348_r0
  let v19585_r0 : BitVec 32 := Scalar.addi c0_i32_5349_r0 v19584_r0
  v19585_r0
def k0_mult345 (k0_t1 : Fin k0_t1_loop.trips) : BitVec 32 :=
  let c472_i32_5352_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5351_r0 : BitVec 32 := 8#32
  let v19591_r0 : BitVec 32 := Scalar.muli v19298_r0 c8_i32_5351_r0
  let v19592_r0 : BitVec 32 := Scalar.addi c472_i32_5352_r0 v19591_r0
  v19592_r0
def k0_mult346 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5362_r0 : BitVec 32 := 128#32
  let v19668_r0 : BitVec 32 := Scalar.muli v19298_r0 c128_i32_5362_r0
  v19668_r0
def k0_mult347 (k0_t1 : Fin k0_t1_loop.trips) : BitVec 32 :=
  let c0_i32_5379_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5378_r0 : BitVec 32 := 8#32
  let v19707_r0 : BitVec 32 := Scalar.muli v19298_r0 c8_i32_5378_r0
  let v19708_r0 : BitVec 32 := Scalar.addi c0_i32_5379_r0 v19707_r0
  v19708_r0
def k0_mult348 (k0_t1 : Fin k0_t1_loop.trips) : BitVec 32 :=
  let c472_i32_5382_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5381_r0 : BitVec 32 := 8#32
  let v19714_r0 : BitVec 32 := Scalar.muli v19298_r0 c8_i32_5381_r0
  let v19715_r0 : BitVec 32 := Scalar.addi c472_i32_5382_r0 v19714_r0
  v19715_r0
def k0_mult349 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5392_r0 : BitVec 32 := 128#32
  let v19791_r0 : BitVec 32 := Scalar.muli v19298_r0 c128_i32_5392_r0
  v19791_r0
def k0_mult350 (k0_t1 : Fin k0_t1_loop.trips) : BitVec 32 :=
  let c0_i32_5409_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5408_r0 : BitVec 32 := 8#32
  let v19830_r0 : BitVec 32 := Scalar.muli v19298_r0 c8_i32_5408_r0
  let v19831_r0 : BitVec 32 := Scalar.addi c0_i32_5409_r0 v19830_r0
  v19831_r0
def k0_mult351 (k0_t1 : Fin k0_t1_loop.trips) : BitVec 32 :=
  let c472_i32_5412_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5411_r0 : BitVec 32 := 8#32
  let v19837_r0 : BitVec 32 := Scalar.muli v19298_r0 c8_i32_5411_r0
  let v19838_r0 : BitVec 32 := Scalar.addi c472_i32_5412_r0 v19837_r0
  v19838_r0
def k0_mult352 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5422_r0 : BitVec 32 := 128#32
  let v19914_r0 : BitVec 32 := Scalar.muli v19298_r0 c128_i32_5422_r0
  v19914_r0
def k0_mult353 (k0_t1 : Fin k0_t1_loop.trips) : BitVec 32 :=
  let c0_i32_5439_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5438_r0 : BitVec 32 := 8#32
  let v19953_r0 : BitVec 32 := Scalar.muli v19298_r0 c8_i32_5438_r0
  let v19954_r0 : BitVec 32 := Scalar.addi c0_i32_5439_r0 v19953_r0
  v19954_r0
def k0_mult354 (k0_t1 : Fin k0_t1_loop.trips) : BitVec 32 :=
  let c472_i32_5442_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5441_r0 : BitVec 32 := 8#32
  let v19960_r0 : BitVec 32 := Scalar.muli v19298_r0 c8_i32_5441_r0
  let v19961_r0 : BitVec 32 := Scalar.addi c472_i32_5442_r0 v19960_r0
  v19961_r0
def k0_mult355 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5452_r0 : BitVec 32 := 128#32
  let v20037_r0 : BitVec 32 := Scalar.muli v19298_r0 c128_i32_5452_r0
  v20037_r0
def k0_mult356 (k0_t1 : Fin k0_t1_loop.trips) : BitVec 32 :=
  let c0_i32_5469_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5468_r0 : BitVec 32 := 8#32
  let v20076_r0 : BitVec 32 := Scalar.muli v19298_r0 c8_i32_5468_r0
  let v20077_r0 : BitVec 32 := Scalar.addi c0_i32_5469_r0 v20076_r0
  v20077_r0
def k0_mult357 (k0_t1 : Fin k0_t1_loop.trips) : BitVec 32 :=
  let c472_i32_5472_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5471_r0 : BitVec 32 := 8#32
  let v20083_r0 : BitVec 32 := Scalar.muli v19298_r0 c8_i32_5471_r0
  let v20084_r0 : BitVec 32 := Scalar.addi c472_i32_5472_r0 v20083_r0
  v20084_r0
def k0_mult358 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5482_r0 : BitVec 32 := 128#32
  let v20160_r0 : BitVec 32 := Scalar.muli v19298_r0 c128_i32_5482_r0
  v20160_r0
def k0_mult359 (k0_t1 : Fin k0_t1_loop.trips) : BitVec 32 :=
  let c0_i32_5499_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5498_r0 : BitVec 32 := 8#32
  let v20199_r0 : BitVec 32 := Scalar.muli v19298_r0 c8_i32_5498_r0
  let v20200_r0 : BitVec 32 := Scalar.addi c0_i32_5499_r0 v20199_r0
  v20200_r0
def k0_mult360 (k0_t1 : Fin k0_t1_loop.trips) : BitVec 32 :=
  let c472_i32_5502_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5501_r0 : BitVec 32 := 8#32
  let v20206_r0 : BitVec 32 := Scalar.muli v19298_r0 c8_i32_5501_r0
  let v20207_r0 : BitVec 32 := Scalar.addi c472_i32_5502_r0 v20206_r0
  v20207_r0
def k0_mult361 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5512_r0 : BitVec 32 := 128#32
  let v20283_r0 : BitVec 32 := Scalar.muli v19298_r0 c128_i32_5512_r0
  v20283_r0
def k0_mult362 (k0_t1 : Fin k0_t1_loop.trips) : BitVec 32 :=
  let c0_i32_5529_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5528_r0 : BitVec 32 := 8#32
  let v20322_r0 : BitVec 32 := Scalar.muli v19298_r0 c8_i32_5528_r0
  let v20323_r0 : BitVec 32 := Scalar.addi c0_i32_5529_r0 v20322_r0
  v20323_r0
def k0_mult363 (k0_t1 : Fin k0_t1_loop.trips) : BitVec 32 :=
  let c472_i32_5532_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5531_r0 : BitVec 32 := 8#32
  let v20329_r0 : BitVec 32 := Scalar.muli v19298_r0 c8_i32_5531_r0
  let v20330_r0 : BitVec 32 := Scalar.addi c472_i32_5532_r0 v20329_r0
  v20330_r0
def k0_mult364 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5542_r0 : BitVec 32 := 128#32
  let v20406_r0 : BitVec 32 := Scalar.muli v19298_r0 c128_i32_5542_r0
  v20406_r0
def k0_mult365 (k0_t1 : Fin k0_t1_loop.trips) : BitVec 32 :=
  let c0_i32_5559_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5558_r0 : BitVec 32 := 8#32
  let v20445_r0 : BitVec 32 := Scalar.muli v19298_r0 c8_i32_5558_r0
  let v20446_r0 : BitVec 32 := Scalar.addi c0_i32_5559_r0 v20445_r0
  v20446_r0
def k0_mult366 (k0_t1 : Fin k0_t1_loop.trips) : BitVec 32 :=
  let c472_i32_5562_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5561_r0 : BitVec 32 := 8#32
  let v20452_r0 : BitVec 32 := Scalar.muli v19298_r0 c8_i32_5561_r0
  let v20453_r0 : BitVec 32 := Scalar.addi c472_i32_5562_r0 v20452_r0
  v20453_r0
def k0_mult367 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5572_r0 : BitVec 32 := 128#32
  let v20529_r0 : BitVec 32 := Scalar.muli v19298_r0 c128_i32_5572_r0
  v20529_r0
def k0_mult368 (k0_t1 : Fin k0_t1_loop.trips) : BitVec 32 :=
  let c0_i32_5589_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5588_r0 : BitVec 32 := 8#32
  let v20568_r0 : BitVec 32 := Scalar.muli v19298_r0 c8_i32_5588_r0
  let v20569_r0 : BitVec 32 := Scalar.addi c0_i32_5589_r0 v20568_r0
  v20569_r0
def k0_mult369 (k0_t1 : Fin k0_t1_loop.trips) : BitVec 32 :=
  let c472_i32_5592_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5591_r0 : BitVec 32 := 8#32
  let v20575_r0 : BitVec 32 := Scalar.muli v19298_r0 c8_i32_5591_r0
  let v20576_r0 : BitVec 32 := Scalar.addi c472_i32_5592_r0 v20575_r0
  v20576_r0
def k0_mult370 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5602_r0 : BitVec 32 := 128#32
  let v20652_r0 : BitVec 32 := Scalar.muli v19298_r0 c128_i32_5602_r0
  v20652_r0
def k0_mult371 (k0_t1 : Fin k0_t1_loop.trips) : BitVec 32 :=
  let c0_i32_5619_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5618_r0 : BitVec 32 := 8#32
  let v20691_r0 : BitVec 32 := Scalar.muli v19298_r0 c8_i32_5618_r0
  let v20692_r0 : BitVec 32 := Scalar.addi c0_i32_5619_r0 v20691_r0
  v20692_r0
def k0_mult372 (k0_t1 : Fin k0_t1_loop.trips) : BitVec 32 :=
  let c472_i32_5622_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5621_r0 : BitVec 32 := 8#32
  let v20698_r0 : BitVec 32 := Scalar.muli v19298_r0 c8_i32_5621_r0
  let v20699_r0 : BitVec 32 := Scalar.addi c472_i32_5622_r0 v20698_r0
  v20699_r0
def k0_mult373 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5632_r0 : BitVec 32 := 128#32
  let v20775_r0 : BitVec 32 := Scalar.muli v19298_r0 c128_i32_5632_r0
  v20775_r0
def k0_mult374 (k0_t1 : Fin k0_t1_loop.trips) : BitVec 32 :=
  let c0_i32_5649_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5648_r0 : BitVec 32 := 8#32
  let v20814_r0 : BitVec 32 := Scalar.muli v19298_r0 c8_i32_5648_r0
  let v20815_r0 : BitVec 32 := Scalar.addi c0_i32_5649_r0 v20814_r0
  v20815_r0
def k0_mult375 (k0_t1 : Fin k0_t1_loop.trips) : BitVec 32 :=
  let c472_i32_5652_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5651_r0 : BitVec 32 := 8#32
  let v20821_r0 : BitVec 32 := Scalar.muli v19298_r0 c8_i32_5651_r0
  let v20822_r0 : BitVec 32 := Scalar.addi c472_i32_5652_r0 v20821_r0
  v20822_r0
def k0_mult376 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5662_r0 : BitVec 32 := 128#32
  let v20898_r0 : BitVec 32 := Scalar.muli v19298_r0 c128_i32_5662_r0
  v20898_r0
def k0_mult377 (k0_t1 : Fin k0_t1_loop.trips) : BitVec 32 :=
  let c0_i32_5679_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5678_r0 : BitVec 32 := 8#32
  let v20937_r0 : BitVec 32 := Scalar.muli v19298_r0 c8_i32_5678_r0
  let v20938_r0 : BitVec 32 := Scalar.addi c0_i32_5679_r0 v20937_r0
  v20938_r0
def k0_mult378 (k0_t1 : Fin k0_t1_loop.trips) : BitVec 32 :=
  let c472_i32_5682_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5681_r0 : BitVec 32 := 8#32
  let v20944_r0 : BitVec 32 := Scalar.muli v19298_r0 c8_i32_5681_r0
  let v20945_r0 : BitVec 32 := Scalar.addi c472_i32_5682_r0 v20944_r0
  v20945_r0
def k0_mult379 (k0_t1 : Fin k0_t1_loop.trips) : BitVec 32 :=
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c128_i32_5692_r0 : BitVec 32 := 128#32
  let v21021_r0 : BitVec 32 := Scalar.muli v19298_r0 c128_i32_5692_r0
  v21021_r0
def k0_mult380 (k0_t1 : Fin k0_t1_loop.trips) : BitVec 32 :=
  let c0_i32_5709_r0 : BitVec 32 := 0#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5708_r0 : BitVec 32 := 8#32
  let v21060_r0 : BitVec 32 := Scalar.muli v19298_r0 c8_i32_5708_r0
  let v21061_r0 : BitVec 32 := Scalar.addi c0_i32_5709_r0 v21060_r0
  v21061_r0
def k0_mult381 (k0_t1 : Fin k0_t1_loop.trips) : BitVec 32 :=
  let c472_i32_5712_r0 : BitVec 32 := 472#32
  let c0_i32_199_r0 : BitVec 32 := 0#32
  let c1_i32_200_r0 : BitVec 32 := 1#32
  let arg13_r0 : BitVec 32 := Scf.iv c0_i32_199_r0 c1_i32_200_r0 k0_t1
  let c8_i32_5270_r0 : BitVec 32 := 8#32
  let v19297_r0 : BitVec 32 := Scalar.muli arg13_r0 c8_i32_5270_r0
  let c7_i32_5271_r0 : BitVec 32 := 7#32
  let v19298_r0 : BitVec 32 := Scalar.addi v19297_r0 c7_i32_5271_r0
  let c8_i32_5711_r0 : BitVec 32 := 8#32
  let v21067_r0 : BitVec 32 := Scalar.muli v19298_r0 c8_i32_5711_r0
  let v21068_r0 : BitVec 32 := Scalar.addi c472_i32_5712_r0 v21067_r0
  v21068_r0
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S128x1x15104 : Shape := ⟨3, ![128, 1, 15104]⟩
abbrev S7552x3840 : Shape := ⟨2, ![7552, 3840]⟩
abbrev S944x3840 : Shape := ⟨2, ![944, 3840]⟩
abbrev S_ : Shape := ⟨0, ![]⟩
abbrev S128x15104 : Shape := ⟨2, ![128, 15104]⟩
abbrev S1x1 : Shape := ⟨2, ![1, 1]⟩
abbrev S128x3840 : Shape := ⟨2, ![128, 3840]⟩
abbrev S1x7552x3840 : Shape := ⟨3, ![1, 7552, 3840]⟩
abbrev S2x7552x3840 : Shape := ⟨3, ![2, 7552, 3840]⟩
abbrev S2x472x1x3840 : Shape := ⟨4, ![2, 472, 1, 3840]⟩
abbrev S2x472x16x3840 : Shape := ⟨4, ![2, 472, 16, 3840]⟩
abbrev S15104x3840 : Shape := ⟨2, ![15104, 3840]⟩

abbrev nBuf : Space → Nat
  | .hbm => 7
  | .vmem => 4
  | .smem => 1
  | _ => 0

abbrev bufTy : (tb : Table) → Fin (tcTables nBuf tb) → BufTy
  | .hbm, ⟨0, _⟩ => ⟨S128x1x15104, .bf16⟩
  | .hbm, ⟨1, _⟩ => ⟨S7552x3840, .i8⟩
  | .hbm, ⟨2, _⟩ => ⟨S944x3840, .fp8e4m3⟩
  | .hbm, ⟨3, _⟩ => ⟨S_, .f32⟩
  | .hbm, ⟨4, _⟩ => ⟨S128x15104, .bf16⟩
  | .hbm, ⟨5, _⟩ => ⟨S1x1, .f32⟩
  | .hbm, ⟨6, _⟩ => ⟨S128x3840, .bf16⟩
  | .local _ .vmem, ⟨0, _⟩ => ⟨S128x15104, .bf16⟩
  | .local _ .vmem, ⟨1, _⟩ => ⟨S7552x3840, .i8⟩
  | .local _ .vmem, ⟨2, _⟩ => ⟨S944x3840, .fp8e4m3⟩
  | .local _ .vmem, ⟨3, _⟩ => ⟨S128x3840, .bf16⟩
  | .local _ .smem, ⟨0, _⟩ => ⟨S1x1, .f32⟩
  | _, _ => ⟨S128x1x15104, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x15104 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7552x3840 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S944x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.IStruct.lean ====
module

public import proofs.«01_k».proof.KernelIdeal
public import Idealize.ShloMosaic.Lib.Tactic.ProgEq

@[expose] public section

set_option synthInstance.maxSize 4096

noncomputable section

namespace Cert.KernelIdeal

open Idealize.ShloMosaic Idealize.SL.Sem
open Idealize.ShloMosaic.RefSig (ofTc tcTables tileCredit tileCredit_eq_zero tileCredit_pos)

variable {F : FTy → Type} [FloatOps F]

variable [Facts]
open Facts₀ Facts

/-- One pass through the matrix unit: decode a 128 x 256 tile of packed weights into 256 rows, scale it, load it
as weights, and multiply the chunk's interleaved activations into accumulator `A` of unit `q`. -/
def unit (arg6 : Memref sig .tc .vmem S7552x3840 .i8) (arg7 : Memref sig .tc .vmem S944x3840 .fp8e4m3)
    (arg8 : Memref sig .tc .vmem S59x2x128x128 .bf16) (m : Mxu F) (q : Fin 2) (A : Nat) (hA : Mxu.Fits A 128)
    (ow : Fin 2 → Nat) (hw : ∀ a, ow a + S128x256.size a ≤ S7552x3840.size a)
    (ol : Fin 2 → Nat) (hl : ∀ a, ol a + S8x256.size a ≤ S944x3840.size a)
    (oh : Fin 2 → Nat) (hh : ∀ a, oh a + S8x256.size a ≤ S944x3840.size a)
    (o0 : Fin 4 → Nat) (h0 : ∀ a, o0 a + S1x1x128x128.size a ≤ S59x2x128x128.size a)
    (o1 : Fin 4 → Nat) (h1 : ∀ a, o1 a + S1x1x128x128.size a ≤ S59x2x128x128.size a) : Prog (TpuEff nD τ sig (Elt F) Λ₀ .tc) (Mxu F) := do
  let a0 : Vec F S128x256 .i8 ← Prog.lift (.load arg6 (Rect.unit (s := S7552x3840) ow S128x256.size hw).toLoadRect (View.loadsAt_vmem h_S128x256))
  have a1 : IVec S128x256 32 := extui 32 a0 natLt_8_32
  have a2 : IVec S128x256 32 := broadcast S128x256 7#32
  have a3 : IVec S128x256 32 := andi a1 a2
  have a4 : IVec S128x256 32 := broadcast S128x256 252#32
  have a5 : IVec S128x256 32 := muli a3 a4
  have a6 : IVec S128x256 32 := broadcast S128x256 252#32
  have a7 : IVec S128x256 32 := addi a3 a6
  have a8 : IVec S128x256 32 := minsi a5 a7
  have a9 : IVec S128x256 32 := broadcast S128x256 6#32
  have a10 : IVec S128x256 32 := shli a8 a9
  have a11 : IVec S128x256 32 := broadcast S128x256 8#32
  have a12 : IVec S128x256 32 := andi a1 a11
  have a13 : IVec S128x256 32 := broadcast S128x256 12#32
  have a14 : IVec S128x256 32 := shli a12 a13
  have a15 : IVec S128x256 32 := ori a10 a14
  have a16 : IVec S128x256 32 := broadcast S128x256 4#32
  have a17 : IVec S128x256 32 := shrsi a1 a16
  have a18 : IVec S128x256 32 := broadcast S128x256 7#32
  have a19 : IVec S128x256 32 := andi a17 a18
  have a20 : IVec S128x256 32 := broadcast S128x256 252#32
  have a21 : IVec S128x256 32 := muli a19 a20
  have a22 : IVec S128x256 32 := broadcast S128x256 252#32
  have a23 : IVec S128x256 32 := addi a19 a22
  have a24 : IVec S128x256 32 := minsi a21 a23
  have a25 : IVec S128x256 32 := broadcast S128x256 6#32
  have a26 : IVec S128x256 32 := shli a24 a25
  have a27 : IVec S128x256 32 := broadcast S128x256 8#32
  have a28 : IVec S128x256 32 := andi a17 a27
  have a29 : IVec S128x256 32 := broadcast S128x256 12#32
  have a30 : IVec S128x256 32 := shli a28 a29
  have a31 : IVec S128x256 32 := ori a26 a30
  have a32 : IVec S128x256 32 := broadcast S128x256 16#32
  have a33 : IVec S128x256 32 := shli a31 a32
  have a34 : IVec S128x256 32 := ori a15 a33
  have a35 : FVec F S256x256 .bf16 := bitcastToFloat .bf16 (bitcast S256x256 16 a34 bitcasts_S128x256_w32_S256x256_w16)
  let a36 : Vec F S8x256 .fp8e4m3 ← Prog.lift (.load arg7 (Rect.unit (s := S944x3840) ol S8x256.size hl).toLoadRect (View.loadsAt_vmem h_S8x256))
  have a37 : FVec F S8x256 .f32 := extf .f32 a36 bitsLt_fp8e4m3_f32
  have a38 : FVec F S8x256 .bf16 := truncf .bf16 a37 bitsLt_bf16_f32
  let a39 : Vec F S8x256 .fp8e4m3 ← Prog.lift (.load arg7 (Rect.unit (s := S944x3840) oh S8x256.size hh).toLoadRect (View.loadsAt_vmem h_S8x256))
  have a40 : FVec F S8x256 .f32 := extf .f32 a39 bitsLt_fp8e4m3_f32
  have a41 : FVec F S8x256 .bf16 := truncf .bf16 a40 bitsLt_bf16_f32
  have a42 : IVec S16x256 32 := iota .tc S16x256 32 [0] iota_S16x256_d0_w32
  have a43 : IVec S16x256 32 := broadcast S16x256 1#32
  have a44 : IVec S16x256 32 := andi a42 a43
  have a45 : IVec S16x256 32 := broadcast S16x256 1#32
  have a46 : IVec S16x256 1 := cmpi .eq a44 a45
  have a47 : FVec F S1x256 .bf16 := extractStridedSlice S1x256 ![0, 0] a41 slices_S8x256_o0_0_S1x256
  have a48 : FVec F S1x256 .bf16 := extractStridedSlice S1x256 ![0, 0] a38 slices_S8x256_o0_0_S1x256
  have a49 : FVec F S1x256 .bf16 := shapeCast S1x256 a47 shapeCasts_S1x256_S1x256
  have a50 : FVec F S16x256 .bf16 := broadcastTo S16x256 a49 broadcasts_S1x256_S16x256
  have a51 : FVec F S1x256 .bf16 := shapeCast S1x256 a48 shapeCasts_S1x256_S1x256
  have a52 : FVec F S16x256 .bf16 := broadcastTo S16x256 a51 broadcasts_S1x256_S16x256
  have a53 : FVec F S16x256 .bf16 := select a46 a50 a52
  have a54 : FVec F S1x256 .bf16 := extractStridedSlice S1x256 ![1, 0] a41 slices_S8x256_o1_0_S1x256
  have a55 : FVec F S1x256 .bf16 := extractStridedSlice S1x256 ![1, 0] a38 slices_S8x256_o1_0_S1x256
  have a56 : FVec F S1x256 .bf16 := shapeCast S1x256 a54 shapeCasts_S1x256_S1x256
  have a57 : FVec F S16x256 .bf16 := broadcastTo S16x256 a56 broadcasts_S1x256_S16x256
  have a58 : FVec F S1x256 .bf16 := shapeCast S1x256 a55 shapeCasts_S1x256_S1x256
  have a59 : FVec F S16x256 .bf16 := broadcastTo S16x256 a58 broadcasts_S1x256_S16x256
  have a60 : FVec F S16x256 .bf16 := select a46 a57 a59
  have a61 : FVec F S1x256 .bf16 := extractStridedSlice S1x256 ![2, 0] a41 slices_S8x256_o2_0_S1x256
  have a62 : FVec F S1x256 .bf16 := extractStridedSlice S1x256 ![2, 0] a38 slices_S8x256_o2_0_S1x256
  have a63 : FVec F S1x256 .bf16 := shapeCast S1x256 a61 shapeCasts_S1x256_S1x256
  have a64 : FVec F S16x256 .bf16 := broadcastTo S16x256 a63 broadcasts_S1x256_S16x256
  have a65 : FVec F S1x256 .bf16 := shapeCast S1x256 a62 shapeCasts_S1x256_S1x256
  have a66 : FVec F S16x256 .bf16 := broadcastTo S16x256 a65 broadcasts_S1x256_S16x256
  have a67 : FVec F S16x256 .bf16 := select a46 a64 a66
  have a68 : FVec F S1x256 .bf16 := extractStridedSlice S1x256 ![3, 0] a41 slices_S8x256_o3_0_S1x256
  have a69 : FVec F S1x256 .bf16 := extractStridedSlice S1x256 ![3, 0] a38 slices_S8x256_o3_0_S1x256
  have a70 : FVec F S1x256 .bf16 := shapeCast S1x256 a68 shapeCasts_S1x256_S1x256
  have a71 : FVec F S16x256 .bf16 := broadcastTo S16x256 a70 broadcasts_S1x256_S16x256
  have a72 : FVec F S1x256 .bf16 := shapeCast S1x256 a69 shapeCasts_S1x256_S1x256
  have a73 : FVec F S16x256 .bf16 := broadcastTo S16x256 a72 broadcasts_S1x256_S16x256
  have a74 : FVec F S16x256 .bf16 := select a46 a71 a73
  have a75 : FVec F S1x256 .bf16 := extractStridedSlice S1x256 ![4, 0] a41 slices_S8x256_o4_0_S1x256
  have a76 : FVec F S1x256 .bf16 := extractStridedSlice S1x256 ![4, 0] a38 slices_S8x256_o4_0_S1x256
  have a77 : FVec F S1x256 .bf16 := shapeCast S1x256 a75 shapeCasts_S1x256_S1x256
  have a78 : FVec F S16x256 .bf16 := broadcastTo S16x256 a77 broadcasts_S1x256_S16x256
  have a79 : FVec F S1x256 .bf16 := shapeCast S1x256 a76 shapeCasts_S1x256_S1x256
  have a80 : FVec F S16x256 .bf16 := broadcastTo S16x256 a79 broadcasts_S1x256_S16x256
  have a81 : FVec F S16x256 .bf16 := select a46 a78 a80
  have a82 : FVec F S1x256 .bf16 := extractStridedSlice S1x256 ![5, 0] a41 slices_S8x256_o5_0_S1x256
  have a83 : FVec F S1x256 .bf16 := extractStridedSlice S1x256 ![5, 0] a38 slices_S8x256_o5_0_S1x256
  have a84 : FVec F S1x256 .bf16 := shapeCast S1x256 a82 shapeCasts_S1x256_S1x256
  have a85 : FVec F S16x256 .bf16 := broadcastTo S16x256 a84 broadcasts_S1x256_S16x256
  have a86 : FVec F S1x256 .bf16 := shapeCast S1x256 a83 shapeCasts_S1x256_S1x256
  have a87 : FVec F S16x256 .bf16 := broadcastTo S16x256 a86 broadcasts_S1x256_S16x256
  have a88 : FVec F S16x256 .bf16 := select a46 a85 a87
  have a89 : FVec F S1x256 .bf16 := extractStridedSlice S1x256 ![6, 0] a41 slices_S8x256_o6_0_S1x256
  have a90 : FVec F S1x256 .bf16 := extractStridedSlice S1x256 ![6, 0] a38 slices_S8x256_o6_0_S1x256
  have a91 : FVec F S1x256 .bf16 := shapeCast S1x256 a89 shapeCasts_S1x256_S1x256
  have a92 : FVec F S16x256 .bf16 := broadcastTo S16x256 a91 broadcasts_S1x256_S16x256
  have a93 : FVec F S1x256 .bf16 := shapeCast S1x256 a90 shapeCasts_S1x256_S1x256
  have a94 : FVec F S16x256 .bf16 := broadcastTo S16x256 a93 broadcasts_S1x256_S16x256
  have a95 : FVec F S16x256 .bf16 := select a46 a92 a94
  have a96 : FVec F S1x256 .bf16 := extractStridedSlice S1x256 ![7, 0] a41 slices_S8x256_o7_0_S1x256
  have a97 : FVec F S1x256 .bf16 := extractStridedSlice S1x256 ![7, 0] a38 slices_S8x256_o7_0_S1x256
  have a98 : FVec F S1x256 .bf16 := shapeCast S1x256 a96 shapeCasts_S1x256_S1x256
  have a99 : FVec F S16x256 .bf16 := broadcastTo S16x256 a98 broadcasts_S1x256_S16x256
  have a100 : FVec F S1x256 .bf16 := shapeCast S1x256 a97 shapeCasts_S1x256_S1x256
  have a101 : FVec F S16x256 .bf16 := broadcastTo S16x256 a100 broadcasts_S1x256_S16x256
  have a102 : FVec F S16x256 .bf16 := select a46 a99 a101
  have a103 : FVec F S256x256 .bf16 := concatenate S256x256 0 [⟨S16x256, a53⟩, ⟨S16x256, a53⟩, ⟨S16x256, a60⟩, ⟨S16x256, a60⟩, ⟨S16x256, a67⟩, ⟨S16x256, a67⟩, ⟨S16x256, a74⟩, ⟨S16x256, a74⟩, ⟨S16x256, a81⟩, ⟨S16x256, a81⟩, ⟨S16x256, a88⟩, ⟨S16x256, a88⟩, ⟨S16x256, a95⟩, ⟨S16x256, a95⟩, ⟨S16x256, a102⟩, ⟨S16x256, a102⟩] concatenates_S16x256_S16x256_S16x256_S16x256_S16x256_S16x256_S16x256_S16x256_S16x256_S16x256_S16x256_S16x256_S16x256_S16x256_S16x256_S16x256_S256x256_d0
  have a104 : FVec F S256x256 .bf16 := mulf a35 a103
  let a105 : Mxu F ← m.pushRhs q 0 false a104
  let a106 : Vec F S1x1x128x128 .bf16 ← Prog.lift (.load arg8 (Rect.unit (s := S59x2x128x128) o0 S1x1x128x128.size h0).toLoadRect (View.loadsAt_vmem h_S1x1x128x128))
  have a107 : FVec F S128x128 .bf16 := shapeCast S128x128 a106 shapeCasts_S1x1x128x128_S128x128
  let a108 : Vec F S1x1x128x128 .bf16 ← Prog.lift (.load arg8 (Rect.unit (s := S59x2x128x128) o1 S1x1x128x128.size h1).toLoadRect (View.loadsAt_vmem h_S1x1x128x128))
  have a109 : FVec F S128x128 .bf16 := shapeCast S128x128 a108 shapeCasts_S1x1x128x128_S128x128
  have a110 : FVec F S128x256 .bf16 := concatenate S128x256 1 [⟨S128x128, a107⟩, ⟨S128x128, a109⟩] concatenates_S128x128_S128x128_S128x256_d1
  let a111 : Mxu F := a105.accLhs q 0 A a110 hA
  pure a111

/-- Interleave the activation columns of one chunk: columns of the first half at even places, of the second at odd. -/
def ileave (arg5 : Memref sig .tc .vmem S128x15104 .bf16)
    (arg8 : Memref sig .tc .vmem S59x2x128x128 .bf16) (harg8 : arg8.IsWhole)
    (ol : Fin 2 → Nat) (hl : ∀ a, ol a + S128x128.size a ≤ S128x15104.size a)
    (oh : Fin 2 → Nat) (hh : ∀ a, oh a + S128x128.size a ≤ S128x15104.size a)
    (o0 : Fin 4 → Nat) (h0 : ∀ a, o0 a + S1x1x128x128.size a ≤ S59x2x128x128.size a)
    (hp0 : (Rect.unit (s := S59x2x128x128) o0 S1x1x128x128.size h0).PackedRows (EltTy.packing .bf16))
    (o1 : Fin 4 → Nat) (h1 : ∀ a, o1 a + S1x1x128x128.size a ≤ S59x2x128x128.size a)
    (hp1 : (Rect.unit (s := S59x2x128x128) o1 S1x1x128x128.size h1).PackedRows (EltTy.packing .bf16)) : Prog (TpuEff nD τ sig (Elt F) Λ₀ .tc) PUnit := do
  let a0 : Vec F S128x128 .bf16 ← Prog.lift (.load arg5 (Rect.unit (s := S128x15104) ol S128x128.size hl).toLoadRect (View.loadsAt_vmem h_S128x128))
  have a1 : FVec F S128x128 .f32 := extf .f32 a0 bitsLt_bf16_f32
  let a2 : Vec F S128x128 .bf16 ← Prog.lift (.load arg5 (Rect.unit (s := S128x15104) oh S128x128.size hh).toLoadRect (View.loadsAt_vmem h_S128x128))
  have a3 : FVec F S128x128 .f32 := extf .f32 a2 bitsLt_bf16_f32
  have a4 : IVec S128x128 32 := iota .tc S128x128 32 [1] iota_S128x128_d1_w32
  have a5 : FVec F S128x128 .f32 := dynamicRotate 1 64#32 none a3 rotates_S128x128_d1
  have a6 : IVec S128x128 32 := broadcast S128x128 64#32
  have a7 : IVec S128x128 1 := cmpi .slt a4 a6
  have a8 : IVec S128x128 32 := broadcast S128x128 2#32
  have a9 : IVec S128x128 32 := divsi a4 a8
  have a10 : IVec S128x128 32 := broadcast S128x128 0#32
  have a11 : IVec S128x128 1 := cmpi .sgt a4 a10
  have a12 : IVec S128x128 32 := extui 32 a11 natLt_1_32
  have a13 : IVec S128x128 32 := broadcast S128x128 0#32
  have a14 : IVec S128x128 1 := cmpi .slt a4 a13
  have a15 : IVec S128x128 32 := extui 32 a14 natLt_1_32
  have a16 : IVec S128x128 32 := subi a12 a15
  have a17 : IVec S128x128 32 := broadcast S128x128 (Scalar.subi (Scalar.extui (Scalar.cmpi .sgt 2#32 0#32)) (Scalar.extui (Scalar.cmpi .slt 2#32 0#32)))
  have a18 : IVec S128x128 1 := cmpi .ne a16 a17
  have a19 : IVec S128x128 32 := broadcast S128x128 2#32
  have a20 : IVec S128x128 32 := remsi a4 a19
  have a21 : IVec S128x128 32 := broadcast S128x128 0#32
  have a22 : IVec S128x128 1 := cmpi .ne a20 a21
  have a23 : IVec S128x128 1 := andi a18 a22
  have a24 : IVec S128x128 32 := broadcast S128x128 1#32
  have a25 : IVec S128x128 32 := subi a9 a24
  have a26 : IVec S128x128 32 := select a23 a25 a9
  have a27 : IVec S128x128 32 := broadcast S128x128 (Scalar.select (Scalar.cmpi .eq 2#32 0#32) 1#32 2#32)
  have a28 : IVec S128x128 32 := remsi a4 a27
  have a29 : IVec S128x128 32 := broadcast S128x128 0#32
  have a30 : IVec S128x128 1 := cmpi .ne a28 a29
  have a31 : IVec S128x128 32 := broadcast S128x128 0#32
  have a32 : IVec S128x128 1 := cmpi .slt a28 a31
  have a33 : IVec S128x128 1 := broadcast S128x128 (Scalar.cmpi .slt (Scalar.select (Scalar.cmpi .eq 2#32 0#32) 1#32 2#32) 0#32)
  have a34 : IVec S128x128 1 := broadcastTo S128x128 a33 broadcasts_S128x128_S128x128
  have a35 : IVec S128x128 1 := xori a32 a34
  have a36 : IVec S128x128 1 := andi a35 a30
  have a37 : IVec S128x128 32 := broadcast S128x128 (Scalar.select (Scalar.cmpi .eq 2#32 0#32) 1#32 2#32)
  have a38 : IVec S128x128 32 := addi a28 a37
  have a39 : IVec S128x128 32 := select a36 a38 a28
  have a40 : IVec S128x128 32 := broadcast S128x128 64#32
  have a41 : IVec S128x128 32 := muli a40 a39
  have a42 : IVec S128x128 32 := addi a26 a41
  have a43 : FVec F S128x128 .f32 := select a7 a1 a5
  have a44 : IVec S128x128 32 := broadcast S128x128 0#32
  have a45 : IVec S128x128 1 := cmpi .slt a42 a44
  have a46 : IVec S128x128 32 := broadcast S128x128 128#32
  have a47 : IVec S128x128 32 := addi a42 a46
  have a48 : IVec S128x128 32 := select a45 a47 a42
  have a49 : IVec S128x128x1 32 := shapeCast S128x128x1 a48 shapeCasts_S128x128_S128x128x1
  have a50 : IVec S128x128 32 := shapeCast S128x128 a49 shapeCasts_S128x128x1_S128x128
  have a51 : FVec F S128x128 .f32 := dynamicGather 1 a43 a50
  have a52 : FVec F S128x128 .f32 := select a7 a5 a1
  have a53 : IVec S128x128 32 := broadcast S128x128 64#32
  have a54 : IVec S128x128 32 := xori a42 a53
  have a55 : IVec S128x128 32 := broadcast S128x128 0#32
  have a56 : IVec S128x128 1 := cmpi .slt a54 a55
  have a57 : IVec S128x128 32 := broadcast S128x128 128#32
  have a58 : IVec S128x128 32 := addi a54 a57
  have a59 : IVec S128x128 32 := select a56 a58 a54
  have a60 : IVec S128x128x1 32 := shapeCast S128x128x1 a59 shapeCasts_S128x128_S128x128x1
  have a61 : IVec S128x128 32 := shapeCast S128x128 a60 shapeCasts_S128x128x1_S128x128
  have a62 : FVec F S128x128 .f32 := dynamicGather 1 a52 a61
  have a63 : FVec F S128x128 .bf16 := truncf .bf16 a51 bitsLt_bf16_f32
  let a64 : Vec F S1x1x128x128 .bf16 ← Prog.lift (.load arg8 (Rect.unit (s := S59x2x128x128) o0 S1x1x128x128.size h0).toLoadRect (View.loadsAt_vmem h_S1x1x128x128))
  have a65 : FVec F S128x128 .bf16 := shapeCast S128x128 a64 shapeCasts_S1x1x128x128_S128x128
  have a66 : FVec F S1x1x128x128 .bf16 := shapeCast S1x1x128x128 a63 shapeCasts_S128x128_S1x1x128x128
  Prog.lift (.store arg8 (Rect.unit (s := S59x2x128x128) o0 S1x1x128x128.size h0) a66 Finset.univ (View.stores_vmem h_S1x1x128x128 (harg8.storeExact_slice rfl _ (hp0)) (fun _ => rfl)) (.inl rfl))
  have a67 : FVec F S128x128 .bf16 := truncf .bf16 a62 bitsLt_bf16_f32
  let a68 : Vec F S1x1x128x128 .bf16 ← Prog.lift (.load arg8 (Rect.unit (s := S59x2x128x128) o1 S1x1x128x128.size h1).toLoadRect (View.loadsAt_vmem h_S1x1x128x128))
  have a69 : FVec F S128x128 .bf16 := shapeCast S128x128 a68 shapeCasts_S1x1x128x128_S128x128
  have a70 : FVec F S1x1x128x128 .bf16 := shapeCast S1x1x128x128 a67 shapeCasts_S128x128_S1x1x128x128
  Prog.lift (.store arg8 (Rect.unit (s := S59x2x128x128) o1 S1x1x128x128.size h1) a70 Finset.univ (View.stores_vmem h_S1x1x128x128 (harg8.storeExact_slice rfl _ (hp1)) (fun _ => rfl)) (.inl rfl))

/-- The cell of the semaphores of the seven groups. -/
abbrev cell5 (arg10 : DmaSems sig S7x5) (o : Fin 2 → Nat) (h : ∀ a, o a + S1x1.size a ≤ S7x5.size a) : DmaSem sig :=
  ((show DmaSems sig S1x1 from arg10.slice (Rect.unit (s := S7x5) o S1x1.size h)).squeeze S_ squeezes_S1x1_S_).sem
/-- A cell of the semaphores of the last group. -/
abbrev cellT (arg11 : DmaSems sig S5) (o : Fin 1 → Nat) (h : ∀ a, o a + S1.size a ≤ S5.size a) : DmaSem sig :=
  ((show DmaSems sig S1 from arg11.slice (Rect.unit (s := S5) o S1.size h)).squeeze S_ squeezes_S1_S_).sem
/-- A cell of the semaphores of the results. -/
abbrev cellY (arg12 : DmaSems sig S15) (o : Fin 1 → Nat) (h : ∀ a, o a + S1.size a ≤ S15.size a) : DmaSem sig :=
  ((show DmaSems sig S1 from arg12.slice (Rect.unit (s := S15) o S1.size h)).squeeze S_ squeezes_S1_S_).sem

/-- Finish a tile of the result: times the gain, rounded, stored, and its copy out started. -/
def finish (arg4 : Memref sig .tc .hbm S128x3840 .bf16) (harg4 : arg4.IsWhole) (arg9 : Memref sig .tc .vmem S128x3840 .bf16) (harg9 : arg9.IsWhole)
    (v : FVec F S128x256 .f32) (gain : Elt F .f32) (o : Fin 2 → Nat) (h : ∀ a, o a + S128x256.size a ≤ S128x3840.size a)
    (hp : (Rect.unit (s := S128x3840) o S128x256.size h).PackedRows (EltTy.packing .bf16))
    (hw : (Rect.unit (s := S128x3840) o S128x256.size h).WholeWords (EltTy.packing .bf16)) (arg12 : DmaSems sig S15) (k : Fin 1 → Nat) (hk : ∀ a, k a + S1.size a ≤ S15.size a) : Prog (TpuEff nD τ sig (Elt F) Λ₀ .tc) PUnit := do
  let g : FVec F S128x256 .f32 := broadcast S128x256 gain
  let y : FVec F S128x256 .f32 := mulf v g
  let yb : FVec F S128x256 .bf16 := truncf .bf16 y bitsLt_bf16_f32
  let d : Vec F S128x256 .bf16 ← Prog.lift (.load arg9 (Rect.unit (s := S128x3840) o S128x256.size h).toLoadRect (View.loadsAt_vmem h_S128x256))
  let ys : FVec F S128x256 .bf16 := shapeCast S128x256 yb shapeCasts_S128x256_S128x256
  Prog.lift (.store arg9 (Rect.unit (s := S128x3840) o S128x256.size h) ys Finset.univ (View.stores_vmem h_S128x256 (harg9.storeExact_slice rfl _ hp) (fun _ => rfl)) (.inl rfl))
  let a0 : DmaSems sig S1 := arg12.slice (Rect.unit (s := S15) k S1.size hk)
  let b0 : DmaSems sig S_ := a0.squeeze S_ squeezes_S1_S_
  let d4 : Memref sig .tc .hbm S128x256 .bf16 := arg4.slice (Rect.unit (s := S128x3840) o S128x256.size h) (fun _ => rfl)
  let s9 : Memref sig .tc .vmem S128x256 .bf16 := arg9.slice (Rect.unit (s := S128x3840) o S128x256.size h) (fun _ => rfl)
  Prog.lift (.enqueueDma s9 (.here d4) (.dma b0.sem) (harg9.wordExact_slice rfl _ hw) (harg4.wordExact_slice rfl _ hw) ⟨Or.inl rfl, trivial⟩)

/-- Wait for the copy of a tile of the result. -/
def drain (arg4 : Memref sig .tc .hbm S128x3840 .bf16) (harg4 : arg4.IsWhole) (arg9 : Memref sig .tc .vmem S128x3840 .bf16) (harg9 : arg9.IsWhole)
    (o : Fin 2 → Nat) (h : ∀ a, o a + S128x256.size a ≤ S128x3840.size a)
    (hw : (Rect.unit (s := S128x3840) o S128x256.size h).WholeWords (EltTy.packing .bf16)) (arg12 : DmaSems sig S15) (k : Fin 1 → Nat) (hk : ∀ a, k a + S1.size a ≤ S15.size a) : Prog (TpuEff nD τ sig (Elt F) Λ₀ .tc) PUnit :=
  let a0 : DmaSems sig S1 := arg12.slice (Rect.unit (s := S15) k S1.size hk)
  let b0 : DmaSems sig S_ := a0.squeeze S_ squeezes_S1_S_
  let d4 : Memref sig .tc .hbm S128x256 .bf16 := arg4.slice (Rect.unit (s := S128x3840) o S128x256.size h) (fun _ => rfl)
  let s9 : Memref sig .tc .vmem S128x256 .bf16 := arg9.slice (Rect.unit (s := S128x3840) o S128x256.size h) (fun _ => rfl)
  Prog.lift (.waitDma2 b0.sem s9 d4 (harg9.wordExact_slice rfl _ hw) (harg4.wordExact_slice rfl _ hw))

/-- Start the five copies of one of the seven full groups. -/
def fetchG (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg10 : DmaSems sig S7x5)
    (k0 : Fin 2 → Nat) (hk0 : ∀ a, k0 a + S1x1.size a ≤ S7x5.size a)
    (k1 : Fin 2 → Nat) (hk1 : ∀ a, k1 a + S1x1.size a ≤ S7x5.size a)
    (k2 : Fin 2 → Nat) (hk2 : ∀ a, k2 a + S1x1.size a ≤ S7x5.size a)
    (k3 : Fin 2 → Nat) (hk3 : ∀ a, k3 a + S1x1.size a ≤ S7x5.size a)
    (k4 : Fin 2 → Nat) (hk4 : ∀ a, k4 a + S1x1.size a ≤ S7x5.size a)
    (ox : Fin 2 → Nat) (hox : ∀ a, ox a + S128x1024.size a ≤ S128x15104.size a) (wox : (Rect.unit (s := S128x15104) ox S128x1024.size hox).WholeWords (EltTy.packing .bf16))
    (oX : Fin 2 → Nat) (hoX : ∀ a, oX a + S128x1024.size a ≤ S128x15104.size a) (woX : (Rect.unit (s := S128x15104) oX S128x1024.size hoX).WholeWords (EltTy.packing .bf16))
    (os : Fin 2 → Nat) (hos : ∀ a, os a + S64x3840.size a ≤ S944x3840.size a) (wos : (Rect.unit (s := S944x3840) os S64x3840.size hos).WholeWords (EltTy.packing .fp8e4m3))
    (oS : Fin 2 → Nat) (hoS : ∀ a, oS a + S64x3840.size a ≤ S944x3840.size a) (woS : (Rect.unit (s := S944x3840) oS S64x3840.size hoS).WholeWords (EltTy.packing .fp8e4m3))
    (ow : Fin 2 → Nat) (how : ∀ a, ow a + S1024x3840.size a ≤ S7552x3840.size a) (wow : (Rect.unit (s := S7552x3840) ow S1024x3840.size how).WholeWords (EltTy.packing .i8)) : Prog (TpuEff nD τ sig (Elt F) Λ₀ .tc) PUnit := do
  let a0 : DmaSems sig S1x1 := arg10.slice (Rect.unit (s := S7x5) k0 S1x1.size hk0)
  let b0 : DmaSems sig S_ := a0.squeeze S_ squeezes_S1x1_S_
  let d0 : Memref sig .tc .vmem S128x1024 .bf16 := arg5.slice (Rect.unit ox S128x1024.size hox) (fun _ => rfl)
  let s0 : Memref sig .tc .hbm S128x1024 .bf16 := arg0.slice (Rect.unit ox S128x1024.size hox) (fun _ => rfl)
  Prog.lift (.enqueueDma s0 (.here d0) (.dma b0.sem) (harg0.wordExact_slice rfl _ wox) (harg5.wordExact_slice rfl _ wox) ⟨Or.inl rfl, trivial⟩)
  let a1 : DmaSems sig S1x1 := arg10.slice (Rect.unit (s := S7x5) k1 S1x1.size hk1)
  let b1 : DmaSems sig S_ := a1.squeeze S_ squeezes_S1x1_S_
  let d1 : Memref sig .tc .vmem S128x1024 .bf16 := arg5.slice (Rect.unit oX S128x1024.size hoX) (fun _ => rfl)
  let s1 : Memref sig .tc .hbm S128x1024 .bf16 := arg0.slice (Rect.unit oX S128x1024.size hoX) (fun _ => rfl)
  Prog.lift (.enqueueDma s1 (.here d1) (.dma b1.sem) (harg0.wordExact_slice rfl _ woX) (harg5.wordExact_slice rfl _ woX) ⟨Or.inl rfl, trivial⟩)
  let a2 : DmaSems sig S1x1 := arg10.slice (Rect.unit (s := S7x5) k2 S1x1.size hk2)
  let b2 : DmaSems sig S_ := a2.squeeze S_ squeezes_S1x1_S_
  let d2 : Memref sig .tc .vmem S64x3840 .fp8e4m3 := arg7.slice (Rect.unit os S64x3840.size hos) (fun _ => rfl)
  let s2 : Memref sig .tc .hbm S64x3840 .fp8e4m3 := arg2.slice (Rect.unit os S64x3840.size hos) (fun _ => rfl)
  Prog.lift (.enqueueDma s2 (.here d2) (.dma b2.sem) (harg2.wordExact_slice rfl _ wos) (harg7.wordExact_slice rfl _ wos) ⟨Or.inl rfl, trivial⟩)
  let a3 : DmaSems sig S1x1 := arg10.slice (Rect.unit (s := S7x5) k3 S1x1.size hk3)
  let b3 : DmaSems sig S_ := a3.squeeze S_ squeezes_S1x1_S_
  let d3 : Memref sig .tc .vmem S64x3840 .fp8e4m3 := arg7.slice (Rect.unit oS S64x3840.size hoS) (fun _ => rfl)
  let s3 : Memref sig .tc .hbm S64x3840 .fp8e4m3 := arg2.slice (Rect.unit oS S64x3840.size hoS) (fun _ => rfl)
  Prog.lift (.enqueueDma s3 (.here d3) (.dma b3.sem) (harg2.wordExact_slice rfl _ woS) (harg7.wordExact_slice rfl _ woS) ⟨Or.inl rfl, trivial⟩)
  let a4 : DmaSems sig S1x1 := arg10.slice (Rect.unit (s := S7x5) k4 S1x1.size hk4)
  let b4 : DmaSems sig S_ := a4.squeeze S_ squeezes_S1x1_S_
  let d4 : Memref sig .tc .vmem S1024x3840 .i8 := arg6.slice (Rect.unit ow S1024x3840.size how) (fun _ => rfl)
  let s4 : Memref sig .tc .hbm S1024x3840 .i8 := arg1.slice (Rect.unit ow S1024x3840.size how) (fun _ => rfl)
  Prog.lift (.enqueueDma s4 (.here d4) (.dma b4.sem) (harg1.wordExact_slice rfl _ wow) (harg6.wordExact_slice rfl _ wow) ⟨Or.inl rfl, trivial⟩)

/-- Start the five copies of the last group. -/
def fetchT (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg11 : DmaSems sig S5)
    (k0 : Fin 1 → Nat) (hk0 : ∀ a, k0 a + S1.size a ≤ S5.size a)
    (k1 : Fin 1 → Nat) (hk1 : ∀ a, k1 a + S1.size a ≤ S5.size a)
    (k2 : Fin 1 → Nat) (hk2 : ∀ a, k2 a + S1.size a ≤ S5.size a)
    (k3 : Fin 1 → Nat) (hk3 : ∀ a, k3 a + S1.size a ≤ S5.size a)
    (k4 : Fin 1 → Nat) (hk4 : ∀ a, k4 a + S1.size a ≤ S5.size a)
    (ox : Fin 2 → Nat) (hox : ∀ a, ox a + S128x384.size a ≤ S128x15104.size a) (wox : (Rect.unit (s := S128x15104) ox S128x384.size hox).WholeWords (EltTy.packing .bf16))
    (oX : Fin 2 → Nat) (hoX : ∀ a, oX a + S128x384.size a ≤ S128x15104.size a) (woX : (Rect.unit (s := S128x15104) oX S128x384.size hoX).WholeWords (EltTy.packing .bf16))
    (os : Fin 2 → Nat) (hos : ∀ a, os a + S24x3840.size a ≤ S944x3840.size a) (wos : (Rect.unit (s := S944x3840) os S24x3840.size hos).WholeWords (EltTy.packing .fp8e4m3))
    (oS : Fin 2 → Nat) (hoS : ∀ a, oS a + S24x3840.size a ≤ S944x3840.size a) (woS : (Rect.unit (s := S944x3840) oS S24x3840.size hoS).WholeWords (EltTy.packing .fp8e4m3))
    (ow : Fin 2 → Nat) (how : ∀ a, ow a + S384x3840.size a ≤ S7552x3840.size a) (wow : (Rect.unit (s := S7552x3840) ow S384x3840.size how).WholeWords (EltTy.packing .i8)) : Prog (TpuEff nD τ sig (Elt F) Λ₀ .tc) PUnit := do
  let a0 : DmaSems sig S1 := arg11.slice (Rect.unit (s := S5) k0 S1.size hk0)
  let b0 : DmaSems sig S_ := a0.squeeze S_ squeezes_S1_S_
  let d0 : Memref sig .tc .vmem S128x384 .bf16 := arg5.slice (Rect.unit ox S128x384.size hox) (fun _ => rfl)
  let s0 : Memref sig .tc .hbm S128x384 .bf16 := arg0.slice (Rect.unit ox S128x384.size hox) (fun _ => rfl)
  Prog.lift (.enqueueDma s0 (.here d0) (.dma b0.sem) (harg0.wordExact_slice rfl _ wox) (harg5.wordExact_slice rfl _ wox) ⟨Or.inl rfl, trivial⟩)
  let a1 : DmaSems sig S1 := arg11.slice (Rect.unit (s := S5) k1 S1.size hk1)
  let b1 : DmaSems sig S_ := a1.squeeze S_ squeezes_S1_S_
  let d1 : Memref sig .tc .vmem S128x384 .bf16 := arg5.slice (Rect.unit oX S128x384.size hoX) (fun _ => rfl)
  let s1 : Memref sig .tc .hbm S128x384 .bf16 := arg0.slice (Rect.unit oX S128x384.size hoX) (fun _ => rfl)
  Prog.lift (.enqueueDma s1 (.here d1) (.dma b1.sem) (harg0.wordExact_slice rfl _ woX) (harg5.wordExact_slice rfl _ woX) ⟨Or.inl rfl, trivial⟩)
  let a2 : DmaSems sig S1 := arg11.slice (Rect.unit (s := S5) k2 S1.size hk2)
  let b2 : DmaSems sig S_ := a2.squeeze S_ squeezes_S1_S_
  let d2 : Memref sig .tc .vmem S24x3840 .fp8e4m3 := arg7.slice (Rect.unit os S24x3840.size hos) (fun _ => rfl)
  let s2 : Memref sig .tc .hbm S24x3840 .fp8e4m3 := arg2.slice (Rect.unit os S24x3840.size hos) (fun _ => rfl)
  Prog.lift (.enqueueDma s2 (.here d2) (.dma b2.sem) (harg2.wordExact_slice rfl _ wos) (harg7.wordExact_slice rfl _ wos) ⟨Or.inl rfl, trivial⟩)
  let a3 : DmaSems sig S1 := arg11.slice (Rect.unit (s := S5) k3 S1.size hk3)
  let b3 : DmaSems sig S_ := a3.squeeze S_ squeezes_S1_S_
  let d3 : Memref sig .tc .vmem S24x3840 .fp8e4m3 := arg7.slice (Rect.unit oS S24x3840.size hoS) (fun _ => rfl)
  let s3 : Memref sig .tc .hbm S24x3840 .fp8e4m3 := arg2.slice (Rect.unit oS S24x3840.size hoS) (fun _ => rfl)
  Prog.lift (.enqueueDma s3 (.here d3) (.dma b3.sem) (harg2.wordExact_slice rfl _ woS) (harg7.wordExact_slice rfl _ woS) ⟨Or.inl rfl, trivial⟩)
  let a4 : DmaSems sig S1 := arg11.slice (Rect.unit (s := S5) k4 S1.size hk4)
  let b4 : DmaSems sig S_ := a4.squeeze S_ squeezes_S1_S_
  let d4 : Memref sig .tc .vmem S384x3840 .i8 := arg6.slice (Rect.unit ow S384x3840.size how) (fun _ => rfl)
  let s4 : Memref sig .tc .hbm S384x3840 .i8 := arg1.slice (Rect.unit ow S384x3840.size how) (fun _ => rfl)
  Prog.lift (.enqueueDma s4 (.here d4) (.dma b4.sem) (harg1.wordExact_slice rfl _ wow) (harg6.wordExact_slice rfl _ wow) ⟨Or.inl rfl, trivial⟩)

/-- Wait for the five copies of one of the seven full groups. -/
def awaitG (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg10 : DmaSems sig S7x5)
    (k0 : Fin 2 → Nat) (hk0 : ∀ a, k0 a + S1x1.size a ≤ S7x5.size a)
    (k1 : Fin 2 → Nat) (hk1 : ∀ a, k1 a + S1x1.size a ≤ S7x5.size a)
    (k2 : Fin 2 → Nat) (hk2 : ∀ a, k2 a + S1x1.size a ≤ S7x5.size a)
    (k3 : Fin 2 → Nat) (hk3 : ∀ a, k3 a + S1x1.size a ≤ S7x5.size a)
    (k4 : Fin 2 → Nat) (hk4 : ∀ a, k4 a + S1x1.size a ≤ S7x5.size a)
    (ox : Fin 2 → Nat) (hox : ∀ a, ox a + S128x1024.size a ≤ S128x15104.size a) (wox : (Rect.unit (s := S128x15104) ox S128x1024.size hox).WholeWords (EltTy.packing .bf16))
    (oX : Fin 2 → Nat) (hoX : ∀ a, oX a + S128x1024.size a ≤ S128x15104.size a) (woX : (Rect.unit (s := S128x15104) oX S128x1024.size hoX).WholeWords (EltTy.packing .bf16))
    (os : Fin 2 → Nat) (hos : ∀ a, os a + S64x3840.size a ≤ S944x3840.size a) (wos : (Rect.unit (s := S944x3840) os S64x3840.size hos).WholeWords (EltTy.packing .fp8e4m3))
    (oS : Fin 2 → Nat) (hoS : ∀ a, oS a + S64x3840.size a ≤ S944x3840.size a) (woS : (Rect.unit (s := S944x3840) oS S64x3840.size hoS).WholeWords (EltTy.packing .fp8e4m3))
    (ow : Fin 2 → Nat) (how : ∀ a, ow a + S1024x3840.size a ≤ S7552x3840.size a) (wow : (Rect.unit (s := S7552x3840) ow S1024x3840.size how).WholeWords (EltTy.packing .i8)) : Prog (TpuEff nD τ sig (Elt F) Λ₀ .tc) PUnit := do
  let a0 : DmaSems sig S1x1 := arg10.slice (Rect.unit (s := S7x5) k0 S1x1.size hk0)
  let b0 : DmaSems sig S_ := a0.squeeze S_ squeezes_S1x1_S_
  let d0 : Memref sig .tc .vmem S128x1024 .bf16 := arg5.slice (Rect.unit ox S128x1024.size hox) (fun _ => rfl)
  let s0 : Memref sig .tc .hbm S128x1024 .bf16 := arg0.slice (Rect.unit ox S128x1024.size hox) (fun _ => rfl)
  Prog.lift (.waitDma2 b0.sem s0 d0 (harg0.wordExact_slice rfl _ wox) (harg5.wordExact_slice rfl _ wox))
  let a1 : DmaSems sig S1x1 := arg10.slice (Rect.unit (s := S7x5) k1 S1x1.size hk1)
  let b1 : DmaSems sig S_ := a1.squeeze S_ squeezes_S1x1_S_
  let d1 : Memref sig .tc .vmem S128x1024 .bf16 := arg5.slice (Rect.unit oX S128x1024.size hoX) (fun _ => rfl)
  let s1 : Memref sig .tc .hbm S128x1024 .bf16 := arg0.slice (Rect.unit oX S128x1024.size hoX) (fun _ => rfl)
  Prog.lift (.waitDma2 b1.sem s1 d1 (harg0.wordExact_slice rfl _ woX) (harg5.wordExact_slice rfl _ woX))
  let a2 : DmaSems sig S1x1 := arg10.slice (Rect.unit (s := S7x5) k2 S1x1.size hk2)
  let b2 : DmaSems sig S_ := a2.squeeze S_ squeezes_S1x1_S_
  let d2 : Memref sig .tc .vmem S64x3840 .fp8e4m3 := arg7.slice (Rect.unit os S64x3840.size hos) (fun _ => rfl)
  let s2 : Memref sig .tc .hbm S64x3840 .fp8e4m3 := arg2.slice (Rect.unit os S64x3840.size hos) (fun _ => rfl)
  Prog.lift (.waitDma2 b2.sem s2 d2 (harg2.wordExact_slice rfl _ wos) (harg7.wordExact_slice rfl _ wos))
  let a3 : DmaSems sig S1x1 := arg10.slice (Rect.unit (s := S7x5) k3 S1x1.size hk3)
  let b3 : DmaSems sig S_ := a3.squeeze S_ squeezes_S1x1_S_
  let d3 : Memref sig .tc .vmem S64x3840 .fp8e4m3 := arg7.slice (Rect.unit oS S64x3840.size hoS) (fun _ => rfl)
  let s3 : Memref sig .tc .hbm S64x3840 .fp8e4m3 := arg2.slice (Rect.unit oS S64x3840.size hoS) (fun _ => rfl)
  Prog.lift (.waitDma2 b3.sem s3 d3 (harg2.wordExact_slice rfl _ woS) (harg7.wordExact_slice rfl _ woS))
  let a4 : DmaSems sig S1x1 := arg10.slice (Rect.unit (s := S7x5) k4 S1x1.size hk4)
  let b4 : DmaSems sig S_ := a4.squeeze S_ squeezes_S1x1_S_
  let d4 : Memref sig .tc .vmem S1024x3840 .i8 := arg6.slice (Rect.unit ow S1024x3840.size how) (fun _ => rfl)
  let s4 : Memref sig .tc .hbm S1024x3840 .i8 := arg1.slice (Rect.unit ow S1024x3840.size how) (fun _ => rfl)
  Prog.lift (.waitDma2 b4.sem s4 d4 (harg1.wordExact_slice rfl _ wow) (harg6.wordExact_slice rfl _ wow))

/-- Wait for the five copies of the last group. -/
def awaitT (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg11 : DmaSems sig S5)
    (k0 : Fin 1 → Nat) (hk0 : ∀ a, k0 a + S1.size a ≤ S5.size a)
    (k1 : Fin 1 → Nat) (hk1 : ∀ a, k1 a + S1.size a ≤ S5.size a)
    (k2 : Fin 1 → Nat) (hk2 : ∀ a, k2 a + S1.size a ≤ S5.size a)
    (k3 : Fin 1 → Nat) (hk3 : ∀ a, k3 a + S1.size a ≤ S5.size a)
    (k4 : Fin 1 → Nat) (hk4 : ∀ a, k4 a + S1.size a ≤ S5.size a)
    (ox : Fin 2 → Nat) (hox : ∀ a, ox a + S128x384.size a ≤ S128x15104.size a) (wox : (Rect.unit (s := S128x15104) ox S128x384.size hox).WholeWords (EltTy.packing .bf16))
    (oX : Fin 2 → Nat) (hoX : ∀ a, oX a + S128x384.size a ≤ S128x15104.size a) (woX : (Rect.unit (s := S128x15104) oX S128x384.size hoX).WholeWords (EltTy.packing .bf16))
    (os : Fin 2 → Nat) (hos : ∀ a, os a + S24x3840.size a ≤ S944x3840.size a) (wos : (Rect.unit (s := S944x3840) os S24x3840.size hos).WholeWords (EltTy.packing .fp8e4m3))
    (oS : Fin 2 → Nat) (hoS : ∀ a, oS a + S24x3840.size a ≤ S944x3840.size a) (woS : (Rect.unit (s := S944x3840) oS S24x3840.size hoS).WholeWords (EltTy.packing .fp8e4m3))
    (ow : Fin 2 → Nat) (how : ∀ a, ow a + S384x3840.size a ≤ S7552x3840.size a) (wow : (Rect.unit (s := S7552x3840) ow S384x3840.size how).WholeWords (EltTy.packing .i8)) : Prog (TpuEff nD τ sig (Elt F) Λ₀ .tc) PUnit := do
  let a0 : DmaSems sig S1 := arg11.slice (Rect.unit (s := S5) k0 S1.size hk0)
  let b0 : DmaSems sig S_ := a0.squeeze S_ squeezes_S1_S_
  let d0 : Memref sig .tc .vmem S128x384 .bf16 := arg5.slice (Rect.unit ox S128x384.size hox) (fun _ => rfl)
  let s0 : Memref sig .tc .hbm S128x384 .bf16 := arg0.slice (Rect.unit ox S128x384.size hox) (fun _ => rfl)
  Prog.lift (.waitDma2 b0.sem s0 d0 (harg0.wordExact_slice rfl _ wox) (harg5.wordExact_slice rfl _ wox))
  let a1 : DmaSems sig S1 := arg11.slice (Rect.unit (s := S5) k1 S1.size hk1)
  let b1 : DmaSems sig S_ := a1.squeeze S_ squeezes_S1_S_
  let d1 : Memref sig .tc .vmem S128x384 .bf16 := arg5.slice (Rect.unit oX S128x384.size hoX) (fun _ => rfl)
  let s1 : Memref sig .tc .hbm S128x384 .bf16 := arg0.slice (Rect.unit oX S128x384.size hoX) (fun _ => rfl)
  Prog.lift (.waitDma2 b1.sem s1 d1 (harg0.wordExact_slice rfl _ woX) (harg5.wordExact_slice rfl _ woX))
  let a2 : DmaSems sig S1 := arg11.slice (Rect.unit (s := S5) k2 S1.size hk2)
  let b2 : DmaSems sig S_ := a2.squeeze S_ squeezes_S1_S_
  let d2 : Memref sig .tc .vmem S24x3840 .fp8e4m3 := arg7.slice (Rect.unit os S24x3840.size hos) (fun _ => rfl)
  let s2 : Memref sig .tc .hbm S24x3840 .fp8e4m3 := arg2.slice (Rect.unit os S24x3840.size hos) (fun _ => rfl)
  Prog.lift (.waitDma2 b2.sem s2 d2 (harg2.wordExact_slice rfl _ wos) (harg7.wordExact_slice rfl _ wos))
  let a3 : DmaSems sig S1 := arg11.slice (Rect.unit (s := S5) k3 S1.size hk3)
  let b3 : DmaSems sig S_ := a3.squeeze S_ squeezes_S1_S_
  let d3 : Memref sig .tc .vmem S24x3840 .fp8e4m3 := arg7.slice (Rect.unit oS S24x3840.size hoS) (fun _ => rfl)
  let s3 : Memref sig .tc .hbm S24x3840 .fp8e4m3 := arg2.slice (Rect.unit oS S24x3840.size hoS) (fun _ => rfl)
  Prog.lift (.waitDma2 b3.sem s3 d3 (harg2.wordExact_slice rfl _ woS) (harg7.wordExact_slice rfl _ woS))
  let a4 : DmaSems sig S1 := arg11.slice (Rect.unit (s := S5) k4 S1.size hk4)
  let b4 : DmaSems sig S_ := a4.squeeze S_ squeezes_S1_S_
  let d4 : Memref sig .tc .vmem S384x3840 .i8 := arg6.slice (Rect.unit ow S384x3840.size how) (fun _ => rfl)
  let s4 : Memref sig .tc .hbm S384x3840 .i8 := arg1.slice (Rect.unit ow S384x3840.size how) (fun _ => rfl)
  Prog.lift (.waitDma2 b4.sem s4 d4 (harg1.wordExact_slice rfl _ wow) (harg6.wordExact_slice rfl _ wow))

/-- The fifteen passes of one chunk. -/
def blk (arg6 : Memref sig .tc .vmem S7552x3840 .i8) (arg7 : Memref sig .tc .vmem S944x3840 .fp8e4m3) (arg8 : Memref sig .tc .vmem S59x2x128x128 .bf16) (m0 : Mxu F) (k : Fin k0_t1_loop.trips) (jb : BitVec 32) (j : Fin 8) (hj : jb = BitVec.ofNat 32 j.val) (q : Fin 2) : Prog (TpuEff nD τ sig (Elt F) Λ₀ .tc) (Mxu F) := do
  let m1 : Mxu F ← unit arg6 arg7 arg8 m0 0 0 fits_0_128 (k0_off13 k jb) (by rw [hj]; exact k0_off13_inb k j) (k0_off14 k 0#32 jb) (by rw [hj]; exact k0_off14_inb k 0 j) (k0_off14 k 472#32 jb) (by rw [hj]; exact k0_off14_inb k 1 j) (k0_off11 k jb) (by rw [hj]; exact k0_off11_inb k j) (k0_off12 k jb) (by rw [hj]; exact k0_off12_inb k j)
  let m2 : Mxu F ← unit arg6 arg7 arg8 m1 1 0 fits_0_128 (k0_off15 k jb) (by rw [hj]; exact k0_off15_inb k j) (k0_off16 k 0#32 jb) (by rw [hj]; exact k0_off16_inb k 0 j) (k0_off16 k 472#32 jb) (by rw [hj]; exact k0_off16_inb k 1 j) (k0_off11 k jb) (by rw [hj]; exact k0_off11_inb k j) (k0_off12 k jb) (by rw [hj]; exact k0_off12_inb k j)
  let m3 : Mxu F ← unit arg6 arg7 arg8 m2 0 32 fits_32_128 (k0_off17 k jb) (by rw [hj]; exact k0_off17_inb k j) (k0_off18 k 0#32 jb) (by rw [hj]; exact k0_off18_inb k 0 j) (k0_off18 k 472#32 jb) (by rw [hj]; exact k0_off18_inb k 1 j) (k0_off11 k jb) (by rw [hj]; exact k0_off11_inb k j) (k0_off12 k jb) (by rw [hj]; exact k0_off12_inb k j)
  let m4 : Mxu F ← unit arg6 arg7 arg8 m3 1 32 fits_32_128 (k0_off19 k jb) (by rw [hj]; exact k0_off19_inb k j) (k0_off20 k 0#32 jb) (by rw [hj]; exact k0_off20_inb k 0 j) (k0_off20 k 472#32 jb) (by rw [hj]; exact k0_off20_inb k 1 j) (k0_off11 k jb) (by rw [hj]; exact k0_off11_inb k j) (k0_off12 k jb) (by rw [hj]; exact k0_off12_inb k j)
  let m5 : Mxu F ← unit arg6 arg7 arg8 m4 0 64 fits_64_128 (k0_off21 k jb) (by rw [hj]; exact k0_off21_inb k j) (k0_off22 k 0#32 jb) (by rw [hj]; exact k0_off22_inb k 0 j) (k0_off22 k 472#32 jb) (by rw [hj]; exact k0_off22_inb k 1 j) (k0_off11 k jb) (by rw [hj]; exact k0_off11_inb k j) (k0_off12 k jb) (by rw [hj]; exact k0_off12_inb k j)
  let m6 : Mxu F ← unit arg6 arg7 arg8 m5 1 64 fits_64_128 (k0_off23 k jb) (by rw [hj]; exact k0_off23_inb k j) (k0_off24 k 0#32 jb) (by rw [hj]; exact k0_off24_inb k 0 j) (k0_off24 k 472#32 jb) (by rw [hj]; exact k0_off24_inb k 1 j) (k0_off11 k jb) (by rw [hj]; exact k0_off11_inb k j) (k0_off12 k jb) (by rw [hj]; exact k0_off12_inb k j)
  let m7 : Mxu F ← unit arg6 arg7 arg8 m6 0 96 fits_96_128 (k0_off25 k jb) (by rw [hj]; exact k0_off25_inb k j) (k0_off26 k 0#32 jb) (by rw [hj]; exact k0_off26_inb k 0 j) (k0_off26 k 472#32 jb) (by rw [hj]; exact k0_off26_inb k 1 j) (k0_off11 k jb) (by rw [hj]; exact k0_off11_inb k j) (k0_off12 k jb) (by rw [hj]; exact k0_off12_inb k j)
  let m8 : Mxu F ← unit arg6 arg7 arg8 m7 1 96 fits_96_128 (k0_off27 k jb) (by rw [hj]; exact k0_off27_inb k j) (k0_off28 k 0#32 jb) (by rw [hj]; exact k0_off28_inb k 0 j) (k0_off28 k 472#32 jb) (by rw [hj]; exact k0_off28_inb k 1 j) (k0_off11 k jb) (by rw [hj]; exact k0_off11_inb k j) (k0_off12 k jb) (by rw [hj]; exact k0_off12_inb k j)
  let m9 : Mxu F ← unit arg6 arg7 arg8 m8 0 128 fits_128_128 (k0_off29 k jb) (by rw [hj]; exact k0_off29_inb k j) (k0_off30 k 0#32 jb) (by rw [hj]; exact k0_off30_inb k 0 j) (k0_off30 k 472#32 jb) (by rw [hj]; exact k0_off30_inb k 1 j) (k0_off11 k jb) (by rw [hj]; exact k0_off11_inb k j) (k0_off12 k jb) (by rw [hj]; exact k0_off12_inb k j)
  let m10 : Mxu F ← unit arg6 arg7 arg8 m9 1 128 fits_128_128 (k0_off31 k jb) (by rw [hj]; exact k0_off31_inb k j) (k0_off32 k 0#32 jb) (by rw [hj]; exact k0_off32_inb k 0 j) (k0_off32 k 472#32 jb) (by rw [hj]; exact k0_off32_inb k 1 j) (k0_off11 k jb) (by rw [hj]; exact k0_off11_inb k j) (k0_off12 k jb) (by rw [hj]; exact k0_off12_inb k j)
  let m11 : Mxu F ← unit arg6 arg7 arg8 m10 0 160 fits_160_128 (k0_off33 k jb) (by rw [hj]; exact k0_off33_inb k j) (k0_off34 k 0#32 jb) (by rw [hj]; exact k0_off34_inb k 0 j) (k0_off34 k 472#32 jb) (by rw [hj]; exact k0_off34_inb k 1 j) (k0_off11 k jb) (by rw [hj]; exact k0_off11_inb k j) (k0_off12 k jb) (by rw [hj]; exact k0_off12_inb k j)
  let m12 : Mxu F ← unit arg6 arg7 arg8 m11 1 160 fits_160_128 (k0_off35 k jb) (by rw [hj]; exact k0_off35_inb k j) (k0_off36 k 0#32 jb) (by rw [hj]; exact k0_off36_inb k 0 j) (k0_off36 k 472#32 jb) (by rw [hj]; exact k0_off36_inb k 1 j) (k0_off11 k jb) (by rw [hj]; exact k0_off11_inb k j) (k0_off12 k jb) (by rw [hj]; exact k0_off12_inb k j)
  let m13 : Mxu F ← unit arg6 arg7 arg8 m12 0 192 fits_192_128 (k0_off37 k jb) (by rw [hj]; exact k0_off37_inb k j) (k0_off38 k 0#32 jb) (by rw [hj]; exact k0_off38_inb k 0 j) (k0_off38 k 472#32 jb) (by rw [hj]; exact k0_off38_inb k 1 j) (k0_off11 k jb) (by rw [hj]; exact k0_off11_inb k j) (k0_off12 k jb) (by rw [hj]; exact k0_off12_inb k j)
  let m14 : Mxu F ← unit arg6 arg7 arg8 m13 1 192 fits_192_128 (k0_off39 k jb) (by rw [hj]; exact k0_off39_inb k j) (k0_off40 k 0#32 jb) (by rw [hj]; exact k0_off40_inb k 0 j) (k0_off40 k 472#32 jb) (by rw [hj]; exact k0_off40_inb k 1 j) (k0_off11 k jb) (by rw [hj]; exact k0_off11_inb k j) (k0_off12 k jb) (by rw [hj]; exact k0_off12_inb k j)
  let m15 : Mxu F ← unit arg6 arg7 arg8 m14 q 224 fits_224_128 (k0_off41 k jb) (by rw [hj]; exact k0_off41_inb k j) (k0_off42 k 0#32 jb) (by rw [hj]; exact k0_off42_inb k 0 j) (k0_off42 k 472#32 jb) (by rw [hj]; exact k0_off42_inb k 1 j) (k0_off11 k jb) (by rw [hj]; exact k0_off11_inb k j) (k0_off12 k jb) (by rw [hj]; exact k0_off12_inb k j)
  pure m15

/-- Interleave chunk `j` of trip `k`. -/
def il (arg5 : Memref sig .tc .vmem S128x15104 .bf16) (arg8 : Memref sig .tc .vmem S59x2x128x128 .bf16) (harg8 : arg8.IsWhole) (k : Fin k0_t1_loop.trips) (jb : BitVec 32) (j : Fin 8) (hj : jb = BitVec.ofNat 32 j.val) : Prog (TpuEff nD τ sig (Elt F) Λ₀ .tc) PUnit :=
  ileave (F := F) arg5 arg8 harg8 (k0_off9 k jb) (by rw [hj]; exact k0_off9_inb k j) (k0_off10 k jb) (by rw [hj]; exact k0_off10_inb k j) (k0_off11 k jb) (by rw [hj]; exact k0_off11_inb k j) (by subst hj; exact k0_off11_packedbf16 k j) (k0_off12 k jb) (by rw [hj]; exact k0_off12_inb k j) (by subst hj; exact k0_off12_packedbf16 k j)

/-- One trip of the loop: a group of eight chunks. -/
def trip (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg8 : Memref sig .tc .vmem S59x2x128x128 .bf16) (harg8 : arg8.IsWhole) (arg10 : DmaSems sig S7x5) (k : Fin k0_t1_loop.trips) (m0 : Mxu F) : Prog (TpuEff nD τ sig (Elt F) Λ₀ .tc) (Mxu F) := do
  awaitG (F := F) arg0 harg0 arg1 harg1 arg2 harg2 arg5 harg5 arg6 harg6 arg7 harg7 arg10 (k0_off1 k) (k0_off1_inb k) (k0_off3 k) (k0_off3_inb k) (k0_off4 k) (k0_off4_inb k) (k0_off6 k) (k0_off6_inb k) (k0_off7 k) (k0_off7_inb k) (k0_off2 k 0#32) (k0_off2_inb k 0) (k0_off2_wordsbf16 k 0) (k0_off2 k 7552#32) (k0_off2_inb k 1) (k0_off2_wordsbf16 k 1) (k0_off5 k 0#32) (k0_off5_inb k 0) (k0_off5_wordsfp8e4m3 k 0) (k0_off5 k 472#32) (k0_off5_inb k 1) (k0_off5_wordsfp8e4m3 k 1) (k0_off8 k) (k0_off8_inb k) (k0_off8_wordsi8 k)
  il (F := F) arg5 arg8 harg8 k 0#32 0 rfl
  il (F := F) arg5 arg8 harg8 k 1#32 1 rfl
  il (F := F) arg5 arg8 harg8 k 2#32 2 rfl
  il (F := F) arg5 arg8 harg8 k 3#32 3 rfl
  il (F := F) arg5 arg8 harg8 k 4#32 4 rfl
  il (F := F) arg5 arg8 harg8 k 5#32 5 rfl
  il (F := F) arg5 arg8 harg8 k 6#32 6 rfl
  il (F := F) arg5 arg8 harg8 k 7#32 7 rfl
  let m1 : Mxu F ← blk arg6 arg7 arg8 m0 k 0#32 0 rfl 0
  let m2 : Mxu F ← blk arg6 arg7 arg8 m1 k 1#32 1 rfl 1
  let m3 : Mxu F ← blk arg6 arg7 arg8 m2 k 2#32 2 rfl 0
  let m4 : Mxu F ← blk arg6 arg7 arg8 m3 k 3#32 3 rfl 1
  let m5 : Mxu F ← blk arg6 arg7 arg8 m4 k 4#32 4 rfl 0
  let m6 : Mxu F ← blk arg6 arg7 arg8 m5 k 5#32 5 rfl 1
  let m7 : Mxu F ← blk arg6 arg7 arg8 m6 k 6#32 6 rfl 0
  let m8 : Mxu F ← blk arg6 arg7 arg8 m7 k 7#32 7 rfl 1
  pure m8

/-- Start every copy. -/
def startAll (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg10 : DmaSems sig S7x5) (arg11 : DmaSems sig S5) : Prog (TpuEff nD τ sig (Elt F) Λ₀ .tc) PUnit := do
  fetchG (F := F) arg0 harg0 arg1 harg1 arg2 harg2 arg5 harg5 arg6 harg6 arg7 harg7 arg10 ![0, 0] inb_S7x5_S1x1_0_0 ![0, 1] inb_S7x5_S1x1_0_1 ![0, 2] inb_S7x5_S1x1_0_2 ![0, 3] inb_S7x5_S1x1_0_3 ![0, 4] inb_S7x5_S1x1_0_4 ![0, 0] inb_S128x15104_S128x1024_0_0 wordsbf16_S128x15104_S128x1024_0_0 ![0, 7552] inb_S128x15104_S128x1024_0_7552 wordsbf16_S128x15104_S128x1024_0_7552 ![0, 0] inb_S944x3840_S64x3840_0_0 wordsfp8e4m3_S944x3840_S64x3840_0_0 ![472, 0] inb_S944x3840_S64x3840_472_0 wordsfp8e4m3_S944x3840_S64x3840_472_0 ![0, 0] inb_S7552x3840_S1024x3840_0_0 wordsi8_S7552x3840_S1024x3840_0_0
  fetchG (F := F) arg0 harg0 arg1 harg1 arg2 harg2 arg5 harg5 arg6 harg6 arg7 harg7 arg10 ![1, 0] inb_S7x5_S1x1_1_0 ![1, 1] inb_S7x5_S1x1_1_1 ![1, 2] inb_S7x5_S1x1_1_2 ![1, 3] inb_S7x5_S1x1_1_3 ![1, 4] inb_S7x5_S1x1_1_4 ![0, 1024] inb_S128x15104_S128x1024_0_1024 wordsbf16_S128x15104_S128x1024_0_1024 ![0, 8576] inb_S128x15104_S128x1024_0_8576 wordsbf16_S128x15104_S128x1024_0_8576 ![64, 0] inb_S944x3840_S64x3840_64_0 wordsfp8e4m3_S944x3840_S64x3840_64_0 ![536, 0] inb_S944x3840_S64x3840_536_0 wordsfp8e4m3_S944x3840_S64x3840_536_0 ![1024, 0] inb_S7552x3840_S1024x3840_1024_0 wordsi8_S7552x3840_S1024x3840_1024_0
  fetchG (F := F) arg0 harg0 arg1 harg1 arg2 harg2 arg5 harg5 arg6 harg6 arg7 harg7 arg10 ![2, 0] inb_S7x5_S1x1_2_0 ![2, 1] inb_S7x5_S1x1_2_1 ![2, 2] inb_S7x5_S1x1_2_2 ![2, 3] inb_S7x5_S1x1_2_3 ![2, 4] inb_S7x5_S1x1_2_4 ![0, 2048] inb_S128x15104_S128x1024_0_2048 wordsbf16_S128x15104_S128x1024_0_2048 ![0, 9600] inb_S128x15104_S128x1024_0_9600 wordsbf16_S128x15104_S128x1024_0_9600 ![128, 0] inb_S944x3840_S64x3840_128_0 wordsfp8e4m3_S944x3840_S64x3840_128_0 ![600, 0] inb_S944x3840_S64x3840_600_0 wordsfp8e4m3_S944x3840_S64x3840_600_0 ![2048, 0] inb_S7552x3840_S1024x3840_2048_0 wordsi8_S7552x3840_S1024x3840_2048_0
  fetchG (F := F) arg0 harg0 arg1 harg1 arg2 harg2 arg5 harg5 arg6 harg6 arg7 harg7 arg10 ![3, 0] inb_S7x5_S1x1_3_0 ![3, 1] inb_S7x5_S1x1_3_1 ![3, 2] inb_S7x5_S1x1_3_2 ![3, 3] inb_S7x5_S1x1_3_3 ![3, 4] inb_S7x5_S1x1_3_4 ![0, 3072] inb_S128x15104_S128x1024_0_3072 wordsbf16_S128x15104_S128x1024_0_3072 ![0, 10624] inb_S128x15104_S128x1024_0_10624 wordsbf16_S128x15104_S128x1024_0_10624 ![192, 0] inb_S944x3840_S64x3840_192_0 wordsfp8e4m3_S944x3840_S64x3840_192_0 ![664, 0] inb_S944x3840_S64x3840_664_0 wordsfp8e4m3_S944x3840_S64x3840_664_0 ![3072, 0] inb_S7552x3840_S1024x3840_3072_0 wordsi8_S7552x3840_S1024x3840_3072_0
  fetchG (F := F) arg0 harg0 arg1 harg1 arg2 harg2 arg5 harg5 arg6 harg6 arg7 harg7 arg10 ![4, 0] inb_S7x5_S1x1_4_0 ![4, 1] inb_S7x5_S1x1_4_1 ![4, 2] inb_S7x5_S1x1_4_2 ![4, 3] inb_S7x5_S1x1_4_3 ![4, 4] inb_S7x5_S1x1_4_4 ![0, 4096] inb_S128x15104_S128x1024_0_4096 wordsbf16_S128x15104_S128x1024_0_4096 ![0, 11648] inb_S128x15104_S128x1024_0_11648 wordsbf16_S128x15104_S128x1024_0_11648 ![256, 0] inb_S944x3840_S64x3840_256_0 wordsfp8e4m3_S944x3840_S64x3840_256_0 ![728, 0] inb_S944x3840_S64x3840_728_0 wordsfp8e4m3_S944x3840_S64x3840_728_0 ![4096, 0] inb_S7552x3840_S1024x3840_4096_0 wordsi8_S7552x3840_S1024x3840_4096_0
  fetchG (F := F) arg0 harg0 arg1 harg1 arg2 harg2 arg5 harg5 arg6 harg6 arg7 harg7 arg10 ![5, 0] inb_S7x5_S1x1_5_0 ![5, 1] inb_S7x5_S1x1_5_1 ![5, 2] inb_S7x5_S1x1_5_2 ![5, 3] inb_S7x5_S1x1_5_3 ![5, 4] inb_S7x5_S1x1_5_4 ![0, 5120] inb_S128x15104_S128x1024_0_5120 wordsbf16_S128x15104_S128x1024_0_5120 ![0, 12672] inb_S128x15104_S128x1024_0_12672 wordsbf16_S128x15104_S128x1024_0_12672 ![320, 0] inb_S944x3840_S64x3840_320_0 wordsfp8e4m3_S944x3840_S64x3840_320_0 ![792, 0] inb_S944x3840_S64x3840_792_0 wordsfp8e4m3_S944x3840_S64x3840_792_0 ![5120, 0] inb_S7552x3840_S1024x3840_5120_0 wordsi8_S7552x3840_S1024x3840_5120_0
  fetchG (F := F) arg0 harg0 arg1 harg1 arg2 harg2 arg5 harg5 arg6 harg6 arg7 harg7 arg10 ![6, 0] inb_S7x5_S1x1_6_0 ![6, 1] inb_S7x5_S1x1_6_1 ![6, 2] inb_S7x5_S1x1_6_2 ![6, 3] inb_S7x5_S1x1_6_3 ![6, 4] inb_S7x5_S1x1_6_4 ![0, 6144] inb_S128x15104_S128x1024_0_6144 wordsbf16_S128x15104_S128x1024_0_6144 ![0, 13696] inb_S128x15104_S128x1024_0_13696 wordsbf16_S128x15104_S128x1024_0_13696 ![384, 0] inb_S944x3840_S64x3840_384_0 wordsfp8e4m3_S944x3840_S64x3840_384_0 ![856, 0] inb_S944x3840_S64x3840_856_0 wordsfp8e4m3_S944x3840_S64x3840_856_0 ![6144, 0] inb_S7552x3840_S1024x3840_6144_0 wordsi8_S7552x3840_S1024x3840_6144_0
  fetchT (F := F) arg0 harg0 arg1 harg1 arg2 harg2 arg5 harg5 arg6 harg6 arg7 harg7 arg11 ![0] inb_S5_S1_0 ![1] inb_S5_S1_1 ![2] inb_S5_S1_2 ![3] inb_S5_S1_3 ![4] inb_S5_S1_4 ![0, 7168] inb_S128x15104_S128x384_0_7168 wordsbf16_S128x15104_S128x384_0_7168 ![0, 14720] inb_S128x15104_S128x384_0_14720 wordsbf16_S128x15104_S128x384_0_14720 ![448, 0] inb_S944x3840_S24x3840_448_0 wordsfp8e4m3_S944x3840_S24x3840_448_0 ![920, 0] inb_S944x3840_S24x3840_920_0 wordsfp8e4m3_S944x3840_S24x3840_920_0 ![7168, 0] inb_S7552x3840_S384x3840_7168_0 wordsi8_S7552x3840_S384x3840_7168_0

/-- Every accumulator cleared by a read that pops it. -/
def cleared : Mxu F :=
  let m0 : Mxu F := Mxu.init
  let m1 : Mxu F := m0.pop 0 0 128 fits_0_128
  let m2 : Mxu F := m1.pop 0 32 128 fits_32_128
  let m3 : Mxu F := m2.pop 0 64 128 fits_64_128
  let m4 : Mxu F := m3.pop 0 96 128 fits_96_128
  let m5 : Mxu F := m4.pop 0 128 128 fits_128_128
  let m6 : Mxu F := m5.pop 0 160 128 fits_160_128
  let m7 : Mxu F := m6.pop 0 192 128 fits_192_128
  let m8 : Mxu F := m7.pop 0 224 128 fits_224_128
  let m9 : Mxu F := m8.pop 1 0 128 fits_0_128
  let m10 : Mxu F := m9.pop 1 32 128 fits_32_128
  let m11 : Mxu F := m10.pop 1 64 128 fits_64_128
  let m12 : Mxu F := m11.pop 1 96 128 fits_96_128
  let m13 : Mxu F := m12.pop 1 128 128 fits_128_128
  let m14 : Mxu F := m13.pop 1 160 128 fits_160_128
  let m15 : Mxu F := m14.pop 1 192 128 fits_192_128
  let m16 : Mxu F := m15.pop 1 224 128 fits_224_128
  m16

/-- The last group: its copies awaited and its chunks interleaved. -/
def tailPrep (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg8 : Memref sig .tc .vmem S59x2x128x128 .bf16) (harg8 : arg8.IsWhole) (arg11 : DmaSems sig S5) : Prog (TpuEff nD τ sig (Elt F) Λ₀ .tc) PUnit := do
  awaitT (F := F) arg0 harg0 arg1 harg1 arg2 harg2 arg5 harg5 arg6 harg6 arg7 harg7 arg11 ![0] inb_S5_S1_0 ![1] inb_S5_S1_1 ![2] inb_S5_S1_2 ![3] inb_S5_S1_3 ![4] inb_S5_S1_4 ![0, 7168] inb_S128x15104_S128x384_0_7168 wordsbf16_S128x15104_S128x384_0_7168 ![0, 14720] inb_S128x15104_S128x384_0_14720 wordsbf16_S128x15104_S128x384_0_14720 ![448, 0] inb_S944x3840_S24x3840_448_0 wordsfp8e4m3_S944x3840_S24x3840_448_0 ![920, 0] inb_S944x3840_S24x3840_920_0 wordsfp8e4m3_S944x3840_S24x3840_920_0 ![7168, 0] inb_S7552x3840_S384x3840_7168_0 wordsi8_S7552x3840_S384x3840_7168_0
  ileave (F := F) arg5 arg8 harg8 ![0, 7168] inb_S128x15104_S128x128_0_7168 ![0, 14720] inb_S128x15104_S128x128_0_14720 ![56, 0, 0, 0] inb_S59x2x128x128_S1x1x128x128_56_0_0_0 packedbf16_S59x2x128x128_S1x1x128x128_56_0_0_0 ![56, 1, 0, 0] inb_S59x2x128x128_S1x1x128x128_56_1_0_0 packedbf16_S59x2x128x128_S1x1x128x128_56_1_0_0
  ileave (F := F) arg5 arg8 harg8 ![0, 7296] inb_S128x15104_S128x128_0_7296 ![0, 14848] inb_S128x15104_S128x128_0_14848 ![57, 0, 0, 0] inb_S59x2x128x128_S1x1x128x128_57_0_0_0 packedbf16_S59x2x128x128_S1x1x128x128_57_0_0_0 ![57, 1, 0, 0] inb_S59x2x128x128_S1x1x128x128_57_1_0_0 packedbf16_S59x2x128x128_S1x1x128x128_57_1_0_0
  ileave (F := F) arg5 arg8 harg8 ![0, 7424] inb_S128x15104_S128x128_0_7424 ![0, 14976] inb_S128x15104_S128x128_0_14976 ![58, 0, 0, 0] inb_S59x2x128x128_S1x1x128x128_58_0_0_0 packedbf16_S59x2x128x128_S1x1x128x128_58_0_0_0 ![58, 1, 0, 0] inb_S59x2x128x128_S1x1x128x128_58_1_0_0 packedbf16_S59x2x128x128_S1x1x128x128_58_1_0_0

/-- The split tile: its last three passes, its two accumulators added, and its result finished. -/
def tailLast (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 224 fits_224_128 ![7168, 3584] inb_S7552x3840_S128x256_7168_3584 ![448, 3584] inb_S944x3840_S8x256_448_3584 ![920, 3584] inb_S944x3840_S8x256_920_3584 ![56, 0, 0, 0] inb_S59x2x128x128_S1x1x128x128_56_0_0_0 ![56, 1, 0, 0] inb_S59x2x128x128_S1x1x128x128_56_1_0_0
  let m2 : Mxu F ← unit arg6 arg7 arg8 m1 1 224 fits_224_128 ![7296, 3584] inb_S7552x3840_S128x256_7296_3584 ![456, 3584] inb_S944x3840_S8x256_456_3584 ![928, 3584] inb_S944x3840_S8x256_928_3584 ![57, 0, 0, 0] inb_S59x2x128x128_S1x1x128x128_57_0_0_0 ![57, 1, 0, 0] inb_S59x2x128x128_S1x1x128x128_57_1_0_0
  let m3 : Mxu F ← unit arg6 arg7 arg8 m2 0 224 fits_224_128 ![7424, 3584] inb_S7552x3840_S128x256_7424_3584 ![464, 3584] inb_S944x3840_S8x256_464_3584 ![936, 3584] inb_S944x3840_S8x256_936_3584 ![58, 0, 0, 0] inb_S59x2x128x128_S1x1x128x128_58_0_0_0 ![58, 1, 0, 0] inb_S59x2x128x128_S1x1x128x128_58_1_0_0
  let m4 : Mxu F := m3.pop 0 224 128 fits_224_128
  finish arg4 harg4 arg9 harg9 (addf (m3.read 0 224 fits_224_128) (m4.read 1 224 fits_224_128)) gain ![0, 3584] inb_S128x3840_S128x256_0_3584 packedbf16_S128x3840_S128x256_0_3584 wordsbf16_S128x3840_S128x256_0_3584 arg12 ![14] inb_S15_S1_14
  pure (m4.pop 1 224 128 fits_224_128)

/-- Pair 0 of result tiles: the last three chunks, and the two tiles finished. -/
def pair0 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 0 fits_0_128 ![7168, 0] inb_S7552x3840_S128x256_7168_0 ![448, 0] inb_S944x3840_S8x256_448_0 ![920, 0] inb_S944x3840_S8x256_920_0 ![56, 0, 0, 0] inb_S59x2x128x128_S1x1x128x128_56_0_0_0 ![56, 1, 0, 0] inb_S59x2x128x128_S1x1x128x128_56_1_0_0
  let m2 : Mxu F ← unit arg6 arg7 arg8 m1 1 0 fits_0_128 ![7168, 256] inb_S7552x3840_S128x256_7168_256 ![448, 256] inb_S944x3840_S8x256_448_256 ![920, 256] inb_S944x3840_S8x256_920_256 ![56, 0, 0, 0] inb_S59x2x128x128_S1x1x128x128_56_0_0_0 ![56, 1, 0, 0] inb_S59x2x128x128_S1x1x128x128_56_1_0_0
  let m3 : Mxu F ← unit arg6 arg7 arg8 m2 0 0 fits_0_128 ![7296, 0] inb_S7552x3840_S128x256_7296_0 ![456, 0] inb_S944x3840_S8x256_456_0 ![928, 0] inb_S944x3840_S8x256_928_0 ![57, 0, 0, 0] inb_S59x2x128x128_S1x1x128x128_57_0_0_0 ![57, 1, 0, 0] inb_S59x2x128x128_S1x1x128x128_57_1_0_0
  let m4 : Mxu F ← unit arg6 arg7 arg8 m3 1 0 fits_0_128 ![7296, 256] inb_S7552x3840_S128x256_7296_256 ![456, 256] inb_S944x3840_S8x256_456_256 ![928, 256] inb_S944x3840_S8x256_928_256 ![57, 0, 0, 0] inb_S59x2x128x128_S1x1x128x128_57_0_0_0 ![57, 1, 0, 0] inb_S59x2x128x128_S1x1x128x128_57_1_0_0
  let m5 : Mxu F ← unit arg6 arg7 arg8 m4 0 0 fits_0_128 ![7424, 0] inb_S7552x3840_S128x256_7424_0 ![464, 0] inb_S944x3840_S8x256_464_0 ![936, 0] inb_S944x3840_S8x256_936_0 ![58, 0, 0, 0] inb_S59x2x128x128_S1x1x128x128_58_0_0_0 ![58, 1, 0, 0] inb_S59x2x128x128_S1x1x128x128_58_1_0_0
  let m6 : Mxu F ← unit arg6 arg7 arg8 m5 1 0 fits_0_128 ![7424, 256] inb_S7552x3840_S128x256_7424_256 ![464, 256] inb_S944x3840_S8x256_464_256 ![936, 256] inb_S944x3840_S8x256_936_256 ![58, 0, 0, 0] inb_S59x2x128x128_S1x1x128x128_58_0_0_0 ![58, 1, 0, 0] inb_S59x2x128x128_S1x1x128x128_58_1_0_0
  finish arg4 harg4 arg9 harg9 (m6.read 0 0 fits_0_128) gain ![0, 0] inb_S128x3840_S128x256_0_0 packedbf16_S128x3840_S128x256_0_0 wordsbf16_S128x3840_S128x256_0_0 arg12 ![0] inb_S15_S1_0
  let m7 : Mxu F := m6.pop 0 0 128 fits_0_128
  finish arg4 harg4 arg9 harg9 (m7.read 1 0 fits_0_128) gain ![0, 256] inb_S128x3840_S128x256_0_256 packedbf16_S128x3840_S128x256_0_256 wordsbf16_S128x3840_S128x256_0_256 arg12 ![1] inb_S15_S1_1
  pure (m7.pop 1 0 128 fits_0_128)

/-- Pair 1 of result tiles: the last three chunks, and the two tiles finished. -/
def pair1 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 32 fits_32_128 ![7168, 512] inb_S7552x3840_S128x256_7168_512 ![448, 512] inb_S944x3840_S8x256_448_512 ![920, 512] inb_S944x3840_S8x256_920_512 ![56, 0, 0, 0] inb_S59x2x128x128_S1x1x128x128_56_0_0_0 ![56, 1, 0, 0] inb_S59x2x128x128_S1x1x128x128_56_1_0_0
  let m2 : Mxu F ← unit arg6 arg7 arg8 m1 1 32 fits_32_128 ![7168, 768] inb_S7552x3840_S128x256_7168_768 ![448, 768] inb_S944x3840_S8x256_448_768 ![920, 768] inb_S944x3840_S8x256_920_768 ![56, 0, 0, 0] inb_S59x2x128x128_S1x1x128x128_56_0_0_0 ![56, 1, 0, 0] inb_S59x2x128x128_S1x1x128x128_56_1_0_0
  let m3 : Mxu F ← unit arg6 arg7 arg8 m2 0 32 fits_32_128 ![7296, 512] inb_S7552x3840_S128x256_7296_512 ![456, 512] inb_S944x3840_S8x256_456_512 ![928, 512] inb_S944x3840_S8x256_928_512 ![57, 0, 0, 0] inb_S59x2x128x128_S1x1x128x128_57_0_0_0 ![57, 1, 0, 0] inb_S59x2x128x128_S1x1x128x128_57_1_0_0
  let m4 : Mxu F ← unit arg6 arg7 arg8 m3 1 32 fits_32_128 ![7296, 768] inb_S7552x3840_S128x256_7296_768 ![456, 768] inb_S944x3840_S8x256_456_768 ![928, 768] inb_S944x3840_S8x256_928_768 ![57, 0, 0, 0] inb_S59x2x128x128_S1x1x128x128_57_0_0_0 ![57, 1, 0, 0] inb_S59x2x128x128_S1x1x128x128_57_1_0_0
  let m5 : Mxu F ← unit arg6 arg7 arg8 m4 0 32 fits_32_128 ![7424, 512] inb_S7552x3840_S128x256_7424_512 ![464, 512] inb_S944x3840_S8x256_464_512 ![936, 512] inb_S944x3840_S8x256_936_512 ![58, 0, 0, 0] inb_S59x2x128x128_S1x1x128x128_58_0_0_0 ![58, 1, 0, 0] inb_S59x2x128x128_S1x1x128x128_58_1_0_0
  let m6 : Mxu F ← unit arg6 arg7 arg8 m5 1 32 fits_32_128 ![7424, 768] inb_S7552x3840_S128x256_7424_768 ![464, 768] inb_S944x3840_S8x256_464_768 ![936, 768] inb_S944x3840_S8x256_936_768 ![58, 0, 0, 0] inb_S59x2x128x128_S1x1x128x128_58_0_0_0 ![58, 1, 0, 0] inb_S59x2x128x128_S1x1x128x128_58_1_0_0
  finish arg4 harg4 arg9 harg9 (m6.read 0 32 fits_32_128) gain ![0, 512] inb_S128x3840_S128x256_0_512 packedbf16_S128x3840_S128x256_0_512 wordsbf16_S128x3840_S128x256_0_512 arg12 ![2] inb_S15_S1_2
  let m7 : Mxu F := m6.pop 0 32 128 fits_32_128
  finish arg4 harg4 arg9 harg9 (m7.read 1 32 fits_32_128) gain ![0, 768] inb_S128x3840_S128x256_0_768 packedbf16_S128x3840_S128x256_0_768 wordsbf16_S128x3840_S128x256_0_768 arg12 ![3] inb_S15_S1_3
  pure (m7.pop 1 32 128 fits_32_128)

/-- Pair 2 of result tiles: the last three chunks, and the two tiles finished. -/
def pair2 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 64 fits_64_128 ![7168, 1024] inb_S7552x3840_S128x256_7168_1024 ![448, 1024] inb_S944x3840_S8x256_448_1024 ![920, 1024] inb_S944x3840_S8x256_920_1024 ![56, 0, 0, 0] inb_S59x2x128x128_S1x1x128x128_56_0_0_0 ![56, 1, 0, 0] inb_S59x2x128x128_S1x1x128x128_56_1_0_0
  let m2 : Mxu F ← unit arg6 arg7 arg8 m1 1 64 fits_64_128 ![7168, 1280] inb_S7552x3840_S128x256_7168_1280 ![448, 1280] inb_S944x3840_S8x256_448_1280 ![920, 1280] inb_S944x3840_S8x256_920_1280 ![56, 0, 0, 0] inb_S59x2x128x128_S1x1x128x128_56_0_0_0 ![56, 1, 0, 0] inb_S59x2x128x128_S1x1x128x128_56_1_0_0
  let m3 : Mxu F ← unit arg6 arg7 arg8 m2 0 64 fits_64_128 ![7296, 1024] inb_S7552x3840_S128x256_7296_1024 ![456, 1024] inb_S944x3840_S8x256_456_1024 ![928, 1024] inb_S944x3840_S8x256_928_1024 ![57, 0, 0, 0] inb_S59x2x128x128_S1x1x128x128_57_0_0_0 ![57, 1, 0, 0] inb_S59x2x128x128_S1x1x128x128_57_1_0_0
  let m4 : Mxu F ← unit arg6 arg7 arg8 m3 1 64 fits_64_128 ![7296, 1280] inb_S7552x3840_S128x256_7296_1280 ![456, 1280] inb_S944x3840_S8x256_456_1280 ![928, 1280] inb_S944x3840_S8x256_928_1280 ![57, 0, 0, 0] inb_S59x2x128x128_S1x1x128x128_57_0_0_0 ![57, 1, 0, 0] inb_S59x2x128x128_S1x1x128x128_57_1_0_0
  let m5 : Mxu F ← unit arg6 arg7 arg8 m4 0 64 fits_64_128 ![7424, 1024] inb_S7552x3840_S128x256_7424_1024 ![464, 1024] inb_S944x3840_S8x256_464_1024 ![936, 1024] inb_S944x3840_S8x256_936_1024 ![58, 0, 0, 0] inb_S59x2x128x128_S1x1x128x128_58_0_0_0 ![58, 1, 0, 0] inb_S59x2x128x128_S1x1x128x128_58_1_0_0
  let m6 : Mxu F ← unit arg6 arg7 arg8 m5 1 64 fits_64_128 ![7424, 1280] inb_S7552x3840_S128x256_7424_1280 ![464, 1280] inb_S944x3840_S8x256_464_1280 ![936, 1280] inb_S944x3840_S8x256_936_1280 ![58, 0, 0, 0] inb_S59x2x128x128_S1x1x128x128_58_0_0_0 ![58, 1, 0, 0] inb_S59x2x128x128_S1x1x128x128_58_1_0_0
  finish arg4 harg4 arg9 harg9 (m6.read 0 64 fits_64_128) gain ![0, 1024] inb_S128x3840_S128x256_0_1024 packedbf16_S128x3840_S128x256_0_1024 wordsbf16_S128x3840_S128x256_0_1024 arg12 ![4] inb_S15_S1_4
  let m7 : Mxu F := m6.pop 0 64 128 fits_64_128
  finish arg4 harg4 arg9 harg9 (m7.read 1 64 fits_64_128) gain ![0, 1280] inb_S128x3840_S128x256_0_1280 packedbf16_S128x3840_S128x256_0_1280 wordsbf16_S128x3840_S128x256_0_1280 arg12 ![5] inb_S15_S1_5
  pure (m7.pop 1 64 128 fits_64_128)

/-- Pair 3 of result tiles: the last three chunks, and the two tiles finished. -/
def pair3 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 96 fits_96_128 ![7168, 1536] inb_S7552x3840_S128x256_7168_1536 ![448, 1536] inb_S944x3840_S8x256_448_1536 ![920, 1536] inb_S944x3840_S8x256_920_1536 ![56, 0, 0, 0] inb_S59x2x128x128_S1x1x128x128_56_0_0_0 ![56, 1, 0, 0] inb_S59x2x128x128_S1x1x128x128_56_1_0_0
  let m2 : Mxu F ← unit arg6 arg7 arg8 m1 1 96 fits_96_128 ![7168, 1792] inb_S7552x3840_S128x256_7168_1792 ![448, 1792] inb_S944x3840_S8x256_448_1792 ![920, 1792] inb_S944x3840_S8x256_920_1792 ![56, 0, 0, 0] inb_S59x2x128x128_S1x1x128x128_56_0_0_0 ![56, 1, 0, 0] inb_S59x2x128x128_S1x1x128x128_56_1_0_0
  let m3 : Mxu F ← unit arg6 arg7 arg8 m2 0 96 fits_96_128 ![7296, 1536] inb_S7552x3840_S128x256_7296_1536 ![456, 1536] inb_S944x3840_S8x256_456_1536 ![928, 1536] inb_S944x3840_S8x256_928_1536 ![57, 0, 0, 0] inb_S59x2x128x128_S1x1x128x128_57_0_0_0 ![57, 1, 0, 0] inb_S59x2x128x128_S1x1x128x128_57_1_0_0
  let m4 : Mxu F ← unit arg6 arg7 arg8 m3 1 96 fits_96_128 ![7296, 1792] inb_S7552x3840_S128x256_7296_1792 ![456, 1792] inb_S944x3840_S8x256_456_1792 ![928, 1792] inb_S944x3840_S8x256_928_1792 ![57, 0, 0, 0] inb_S59x2x128x128_S1x1x128x128_57_0_0_0 ![57, 1, 0, 0] inb_S59x2x128x128_S1x1x128x128_57_1_0_0
  let m5 : Mxu F ← unit arg6 arg7 arg8 m4 0 96 fits_96_128 ![7424, 1536] inb_S7552x3840_S128x256_7424_1536 ![464, 1536] inb_S944x3840_S8x256_464_1536 ![936, 1536] inb_S944x3840_S8x256_936_1536 ![58, 0, 0, 0] inb_S59x2x128x128_S1x1x128x128_58_0_0_0 ![58, 1, 0, 0] inb_S59x2x128x128_S1x1x128x128_58_1_0_0
  let m6 : Mxu F ← unit arg6 arg7 arg8 m5 1 96 fits_96_128 ![7424, 1792] inb_S7552x3840_S128x256_7424_1792 ![464, 1792] inb_S944x3840_S8x256_464_1792 ![936, 1792] inb_S944x3840_S8x256_936_1792 ![58, 0, 0, 0] inb_S59x2x128x128_S1x1x128x128_58_0_0_0 ![58, 1, 0, 0] inb_S59x2x128x128_S1x1x128x128_58_1_0_0
  finish arg4 harg4 arg9 harg9 (m6.read 0 96 fits_96_128) gain ![0, 1536] inb_S128x3840_S128x256_0_1536 packedbf16_S128x3840_S128x256_0_1536 wordsbf16_S128x3840_S128x256_0_1536 arg12 ![6] inb_S15_S1_6
  let m7 : Mxu F := m6.pop 0 96 128 fits_96_128
  finish arg4 harg4 arg9 harg9 (m7.read 1 96 fits_96_128) gain ![0, 1792] inb_S128x3840_S128x256_0_1792 packedbf16_S128x3840_S128x256_0_1792 wordsbf16_S128x3840_S128x256_0_1792 arg12 ![7] inb_S15_S1_7
  pure (m7.pop 1 96 128 fits_96_128)

/-- Pair 4 of result tiles: the last three chunks, and the two tiles finished. -/
def pair4 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 128 fits_128_128 ![7168, 2048] inb_S7552x3840_S128x256_7168_2048 ![448, 2048] inb_S944x3840_S8x256_448_2048 ![920, 2048] inb_S944x3840_S8x256_920_2048 ![56, 0, 0, 0] inb_S59x2x128x128_S1x1x128x128_56_0_0_0 ![56, 1, 0, 0] inb_S59x2x128x128_S1x1x128x128_56_1_0_0
  let m2 : Mxu F ← unit arg6 arg7 arg8 m1 1 128 fits_128_128 ![7168, 2304] inb_S7552x3840_S128x256_7168_2304 ![448, 2304] inb_S944x3840_S8x256_448_2304 ![920, 2304] inb_S944x3840_S8x256_920_2304 ![56, 0, 0, 0] inb_S59x2x128x128_S1x1x128x128_56_0_0_0 ![56, 1, 0, 0] inb_S59x2x128x128_S1x1x128x128_56_1_0_0
  let m3 : Mxu F ← unit arg6 arg7 arg8 m2 0 128 fits_128_128 ![7296, 2048] inb_S7552x3840_S128x256_7296_2048 ![456, 2048] inb_S944x3840_S8x256_456_2048 ![928, 2048] inb_S944x3840_S8x256_928_2048 ![57, 0, 0, 0] inb_S59x2x128x128_S1x1x128x128_57_0_0_0 ![57, 1, 0, 0] inb_S59x2x128x128_S1x1x128x128_57_1_0_0
  let m4 : Mxu F ← unit arg6 arg7 arg8 m3 1 128 fits_128_128 ![7296, 2304] inb_S7552x3840_S128x256_7296_2304 ![456, 2304] inb_S944x3840_S8x256_456_2304 ![928, 2304] inb_S944x3840_S8x256_928_2304 ![57, 0, 0, 0] inb_S59x2x128x128_S1x1x128x128_57_0_0_0 ![57, 1, 0, 0] inb_S59x2x128x128_S1x1x128x128_57_1_0_0
  let m5 : Mxu F ← unit arg6 arg7 arg8 m4 0 128 fits_128_128 ![7424, 2048] inb_S7552x3840_S128x256_7424_2048 ![464, 2048] inb_S944x3840_S8x256_464_2048 ![936, 2048] inb_S944x3840_S8x256_936_2048 ![58, 0, 0, 0] inb_S59x2x128x128_S1x1x128x128_58_0_0_0 ![58, 1, 0, 0] inb_S59x2x128x128_S1x1x128x128_58_1_0_0
  let m6 : Mxu F ← unit arg6 arg7 arg8 m5 1 128 fits_128_128 ![7424, 2304] inb_S7552x3840_S128x256_7424_2304 ![464, 2304] inb_S944x3840_S8x256_464_2304 ![936, 2304] inb_S944x3840_S8x256_936_2304 ![58, 0, 0, 0] inb_S59x2x128x128_S1x1x128x128_58_0_0_0 ![58, 1, 0, 0] inb_S59x2x128x128_S1x1x128x128_58_1_0_0
  finish arg4 harg4 arg9 harg9 (m6.read 0 128 fits_128_128) gain ![0, 2048] inb_S128x3840_S128x256_0_2048 packedbf16_S128x3840_S128x256_0_2048 wordsbf16_S128x3840_S128x256_0_2048 arg12 ![8] inb_S15_S1_8
  let m7 : Mxu F := m6.pop 0 128 128 fits_128_128
  finish arg4 harg4 arg9 harg9 (m7.read 1 128 fits_128_128) gain ![0, 2304] inb_S128x3840_S128x256_0_2304 packedbf16_S128x3840_S128x256_0_2304 wordsbf16_S128x3840_S128x256_0_2304 arg12 ![9] inb_S15_S1_9
  pure (m7.pop 1 128 128 fits_128_128)

/-- Pair 5 of result tiles: the last three chunks, and the two tiles finished. -/
def pair5 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 160 fits_160_128 ![7168, 2560] inb_S7552x3840_S128x256_7168_2560 ![448, 2560] inb_S944x3840_S8x256_448_2560 ![920, 2560] inb_S944x3840_S8x256_920_2560 ![56, 0, 0, 0] inb_S59x2x128x128_S1x1x128x128_56_0_0_0 ![56, 1, 0, 0] inb_S59x2x128x128_S1x1x128x128_56_1_0_0
  let m2 : Mxu F ← unit arg6 arg7 arg8 m1 1 160 fits_160_128 ![7168, 2816] inb_S7552x3840_S128x256_7168_2816 ![448, 2816] inb_S944x3840_S8x256_448_2816 ![920, 2816] inb_S944x3840_S8x256_920_2816 ![56, 0, 0, 0] inb_S59x2x128x128_S1x1x128x128_56_0_0_0 ![56, 1, 0, 0] inb_S59x2x128x128_S1x1x128x128_56_1_0_0
  let m3 : Mxu F ← unit arg6 arg7 arg8 m2 0 160 fits_160_128 ![7296, 2560] inb_S7552x3840_S128x256_7296_2560 ![456, 2560] inb_S944x3840_S8x256_456_2560 ![928, 2560] inb_S944x3840_S8x256_928_2560 ![57, 0, 0, 0] inb_S59x2x128x128_S1x1x128x128_57_0_0_0 ![57, 1, 0, 0] inb_S59x2x128x128_S1x1x128x128_57_1_0_0
  let m4 : Mxu F ← unit arg6 arg7 arg8 m3 1 160 fits_160_128 ![7296, 2816] inb_S7552x3840_S128x256_7296_2816 ![456, 2816] inb_S944x3840_S8x256_456_2816 ![928, 2816] inb_S944x3840_S8x256_928_2816 ![57, 0, 0, 0] inb_S59x2x128x128_S1x1x128x128_57_0_0_0 ![57, 1, 0, 0] inb_S59x2x128x128_S1x1x128x128_57_1_0_0
  let m5 : Mxu F ← unit arg6 arg7 arg8 m4 0 160 fits_160_128 ![7424, 2560] inb_S7552x3840_S128x256_7424_2560 ![464, 2560] inb_S944x3840_S8x256_464_2560 ![936, 2560] inb_S944x3840_S8x256_936_2560 ![58, 0, 0, 0] inb_S59x2x128x128_S1x1x128x128_58_0_0_0 ![58, 1, 0, 0] inb_S59x2x128x128_S1x1x128x128_58_1_0_0
  let m6 : Mxu F ← unit arg6 arg7 arg8 m5 1 160 fits_160_128 ![7424, 2816] inb_S7552x3840_S128x256_7424_2816 ![464, 2816] inb_S944x3840_S8x256_464_2816 ![936, 2816] inb_S944x3840_S8x256_936_2816 ![58, 0, 0, 0] inb_S59x2x128x128_S1x1x128x128_58_0_0_0 ![58, 1, 0, 0] inb_S59x2x128x128_S1x1x128x128_58_1_0_0
  finish arg4 harg4 arg9 harg9 (m6.read 0 160 fits_160_128) gain ![0, 2560] inb_S128x3840_S128x256_0_2560 packedbf16_S128x3840_S128x256_0_2560 wordsbf16_S128x3840_S128x256_0_2560 arg12 ![10] inb_S15_S1_10
  let m7 : Mxu F := m6.pop 0 160 128 fits_160_128
  finish arg4 harg4 arg9 harg9 (m7.read 1 160 fits_160_128) gain ![0, 2816] inb_S128x3840_S128x256_0_2816 packedbf16_S128x3840_S128x256_0_2816 wordsbf16_S128x3840_S128x256_0_2816 arg12 ![11] inb_S15_S1_11
  pure (m7.pop 1 160 128 fits_160_128)

/-- Pair 6 of result tiles: the last three chunks, and the two tiles finished. -/
def pair6 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 192 fits_192_128 ![7168, 3072] inb_S7552x3840_S128x256_7168_3072 ![448, 3072] inb_S944x3840_S8x256_448_3072 ![920, 3072] inb_S944x3840_S8x256_920_3072 ![56, 0, 0, 0] inb_S59x2x128x128_S1x1x128x128_56_0_0_0 ![56, 1, 0, 0] inb_S59x2x128x128_S1x1x128x128_56_1_0_0
  let m2 : Mxu F ← unit arg6 arg7 arg8 m1 1 192 fits_192_128 ![7168, 3328] inb_S7552x3840_S128x256_7168_3328 ![448, 3328] inb_S944x3840_S8x256_448_3328 ![920, 3328] inb_S944x3840_S8x256_920_3328 ![56, 0, 0, 0] inb_S59x2x128x128_S1x1x128x128_56_0_0_0 ![56, 1, 0, 0] inb_S59x2x128x128_S1x1x128x128_56_1_0_0
  let m3 : Mxu F ← unit arg6 arg7 arg8 m2 0 192 fits_192_128 ![7296, 3072] inb_S7552x3840_S128x256_7296_3072 ![456, 3072] inb_S944x3840_S8x256_456_3072 ![928, 3072] inb_S944x3840_S8x256_928_3072 ![57, 0, 0, 0] inb_S59x2x128x128_S1x1x128x128_57_0_0_0 ![57, 1, 0, 0] inb_S59x2x128x128_S1x1x128x128_57_1_0_0
  let m4 : Mxu F ← unit arg6 arg7 arg8 m3 1 192 fits_192_128 ![7296, 3328] inb_S7552x3840_S128x256_7296_3328 ![456, 3328] inb_S944x3840_S8x256_456_3328 ![928, 3328] inb_S944x3840_S8x256_928_3328 ![57, 0, 0, 0] inb_S59x2x128x128_S1x1x128x128_57_0_0_0 ![57, 1, 0, 0] inb_S59x2x128x128_S1x1x128x128_57_1_0_0
  let m5 : Mxu F ← unit arg6 arg7 arg8 m4 0 192 fits_192_128 ![7424, 3072] inb_S7552x3840_S128x256_7424_3072 ![464, 3072] inb_S944x3840_S8x256_464_3072 ![936, 3072] inb_S944x3840_S8x256_936_3072 ![58, 0, 0, 0] inb_S59x2x128x128_S1x1x128x128_58_0_0_0 ![58, 1, 0, 0] inb_S59x2x128x128_S1x1x128x128_58_1_0_0
  let m6 : Mxu F ← unit arg6 arg7 arg8 m5 1 192 fits_192_128 ![7424, 3328] inb_S7552x3840_S128x256_7424_3328 ![464, 3328] inb_S944x3840_S8x256_464_3328 ![936, 3328] inb_S944x3840_S8x256_936_3328 ![58, 0, 0, 0] inb_S59x2x128x128_S1x1x128x128_58_0_0_0 ![58, 1, 0, 0] inb_S59x2x128x128_S1x1x128x128_58_1_0_0
  finish arg4 harg4 arg9 harg9 (m6.read 0 192 fits_192_128) gain ![0, 3072] inb_S128x3840_S128x256_0_3072 packedbf16_S128x3840_S128x256_0_3072 wordsbf16_S128x3840_S128x256_0_3072 arg12 ![12] inb_S15_S1_12
  let m7 : Mxu F := m6.pop 0 192 128 fits_192_128
  finish arg4 harg4 arg9 harg9 (m7.read 1 192 fits_192_128) gain ![0, 3328] inb_S128x3840_S128x256_0_3328 packedbf16_S128x3840_S128x256_0_3328 wordsbf16_S128x3840_S128x256_0_3328 arg12 ![13] inb_S15_S1_13
  pure (m7.pop 1 192 128 fits_192_128)

/-- Wait for every tile of the result. -/
def drainAll (arg4 : Memref sig .tc .hbm S128x3840 .bf16) (harg4 : arg4.IsWhole) (arg9 : Memref sig .tc .vmem S128x3840 .bf16) (harg9 : arg9.IsWhole) (arg12 : DmaSems sig S15) : Prog (TpuEff nD τ sig (Elt F) Λ₀ .tc) PUnit := do
  drain (F := F) arg4 harg4 arg9 harg9 ![0, 3584] inb_S128x3840_S128x256_0_3584 wordsbf16_S128x3840_S128x256_0_3584 arg12 ![14] inb_S15_S1_14
  drain (F := F) arg4 harg4 arg9 harg9 ![0, 0] inb_S128x3840_S128x256_0_0 wordsbf16_S128x3840_S128x256_0_0 arg12 ![0] inb_S15_S1_0
  drain (F := F) arg4 harg4 arg9 harg9 ![0, 256] inb_S128x3840_S128x256_0_256 wordsbf16_S128x3840_S128x256_0_256 arg12 ![1] inb_S15_S1_1
  drain (F := F) arg4 harg4 arg9 harg9 ![0, 512] inb_S128x3840_S128x256_0_512 wordsbf16_S128x3840_S128x256_0_512 arg12 ![2] inb_S15_S1_2
  drain (F := F) arg4 harg4 arg9 harg9 ![0, 768] inb_S128x3840_S128x256_0_768 wordsbf16_S128x3840_S128x256_0_768 arg12 ![3] inb_S15_S1_3
  drain (F := F) arg4 harg4 arg9 harg9 ![0, 1024] inb_S128x3840_S128x256_0_1024 wordsbf16_S128x3840_S128x256_0_1024 arg12 ![4] inb_S15_S1_4
  drain (F := F) arg4 harg4 arg9 harg9 ![0, 1280] inb_S128x3840_S128x256_0_1280 wordsbf16_S128x3840_S128x256_0_1280 arg12 ![5] inb_S15_S1_5
  drain (F := F) arg4 harg4 arg9 harg9 ![0, 1536] inb_S128x3840_S128x256_0_1536 wordsbf16_S128x3840_S128x256_0_1536 arg12 ![6] inb_S15_S1_6
  drain (F := F) arg4 harg4 arg9 harg9 ![0, 1792] inb_S128x3840_S128x256_0_1792 wordsbf16_S128x3840_S128x256_0_1792 arg12 ![7] inb_S15_S1_7
  drain (F := F) arg4 harg4 arg9 harg9 ![0, 2048] inb_S128x3840_S128x256_0_2048 wordsbf16_S128x3840_S128x256_0_2048 arg12 ![8] inb_S15_S1_8
  drain (F := F) arg4 harg4 arg9 harg9 ![0, 2304] inb_S128x3840_S128x256_0_2304 wordsbf16_S128x3840_S128x256_0_2304 arg12 ![9] inb_S15_S1_9
  drain (F := F) arg4 harg4 arg9 harg9 ![0, 2560] inb_S128x3840_S128x256_0_2560 wordsbf16_S128x3840_S128x256_0_2560 arg12 ![10] inb_S15_S1_10
  drain (F := F) arg4 harg4 arg9 harg9 ![0, 2816] inb_S128x3840_S128x256_0_2816 wordsbf16_S128x3840_S128x256_0_2816 arg12 ![11] inb_S15_S1_11
  drain (F := F) arg4 harg4 arg9 harg9 ![0, 3072] inb_S128x3840_S128x256_0_3072 wordsbf16_S128x3840_S128x256_0_3072 arg12 ![12] inb_S15_S1_12
  drain (F := F) arg4 harg4 arg9 harg9 ![0, 3328] inb_S128x3840_S128x256_0_3328 wordsbf16_S128x3840_S128x256_0_3328 arg12 ![13] inb_S15_S1_13

/-- The whole kernel, by its phases. -/
def body (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole) (arg3 : Memref sig .tc .smem S1x1 .f32) (harg3 : arg3.IsWhole) (arg4 : Memref sig .tc .hbm S128x3840 .bf16) (harg4 : arg4.IsWhole) (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg8 : Memref sig .tc .vmem S59x2x128x128 .bf16) (harg8 : arg8.IsWhole) (arg9 : Memref sig .tc .vmem S128x3840 .bf16) (harg9 : arg9.IsWhole) (arg10 : DmaSems sig S7x5) (arg11 : DmaSems sig S5) (arg12 : DmaSems sig S15) : Prog (TpuEff nD τ sig (Elt F) Λ₀ .tc) PUnit := do
  startAll (F := F) arg0 harg0 arg1 harg1 arg2 harg2 arg5 harg5 arg6 harg6 arg7 harg7 arg10 arg11
  let m0 : Mxu F ← Scf.Loop.for k0_t1_loop k0_t1_ok (Mxu.pop (Mxu.pop (Mxu.pop (Mxu.pop (Mxu.pop (Mxu.pop (Mxu.pop (Mxu.pop (Mxu.pop (Mxu.pop (Mxu.pop (Mxu.pop (Mxu.pop (Mxu.pop (Mxu.pop (Mxu.pop Mxu.init 0 0 128 fits_0_128) 0 32 128 fits_32_128) 0 64 128 fits_64_128) 0 96 128 fits_96_128) 0 128 128 fits_128_128) 0 160 128 fits_160_128) 0 192 128 fits_192_128) 0 224 128 fits_224_128) 1 0 128 fits_0_128) 1 32 128 fits_32_128) 1 64 128 fits_64_128) 1 96 128 fits_96_128) 1 128 128 fits_128_128) 1 160 128 fits_160_128) 1 192 128 fits_192_128) 1 224 128 fits_224_128) fun k m => trip arg0 harg0 arg1 harg1 arg2 harg2 arg5 harg5 arg6 harg6 arg7 harg7 arg8 harg8 arg10 k m
  tailPrep (F := F) arg0 harg0 arg1 harg1 arg2 harg2 arg5 harg5 arg6 harg6 arg7 harg7 arg8 harg8 arg11
  let gain : Elt F .f32 ← smemLoad arg3 (Rect.unit (s := S1x1) ![0, 0] S1x1.size inb_S1x1_S1x1_0_0) numel1_S1x1 rfl
  let m1 : Mxu F ← tailLast arg4 harg4 arg6 arg7 arg8 arg9 harg9 arg12 gain m0
  let m2 : Mxu F ← pair0 arg4 harg4 arg6 arg7 arg8 arg9 harg9 arg12 gain m1
  let m3 : Mxu F ← pair1 arg4 harg4 arg6 arg7 arg8 arg9 harg9 arg12 gain m2
  let m4 : Mxu F ← pair2 arg4 harg4 arg6 arg7 arg8 arg9 harg9 arg12 gain m3
  let m5 : Mxu F ← pair3 arg4 harg4 arg6 arg7 arg8 arg9 harg9 arg12 gain m4
  let m6 : Mxu F ← pair4 arg4 harg4 arg6 arg7 arg8 arg9 harg9 arg12 gain m5
  let m7 : Mxu F ← pair5 arg4 harg4 arg6 arg7 arg8 arg9 harg9 arg12 gain m6
  let m8 : Mxu F ← pair6 arg4 harg4 arg6 arg7 arg8 arg9 harg9 arg12 gain m7
  drainAll (F := F) arg4 harg4 arg9 harg9 arg12
  m8.exit

end Cert.KernelIdeal

end
-- ==== Proof.IEqa.lean ====
module

public import proofs.«01_k».proof.Proof.IStruct
public import Idealize.ShloMosaic.Lib.Tactic.ProgEq
public import Idealize.ShloMosaic.PureOps.Ideal
public import Idealize.ShloMosaic.PureOps.BitExact

@[expose] public section

set_option synthInstance.maxSize 4096

noncomputable section

namespace Cert.KernelIdeal

open Idealize.ShloMosaic Idealize.SL.Sem
open scoped Idealize.ShloMosaic.ProgEq

set_option maxHeartbeats 0 in
prog_eq Cert.KernelIdeal.body_eq : Cert.KernelIdeal.cc0__body Cert.KernelIdeal.body
  from Cert.KernelIdeal to Cert.KernelIdeal at Ideal inferInstance by rfl

end Cert.KernelIdeal

end
-- ==== Proof.Own.lean ====
module

public import Idealize.ShloMosaic.Lib.Memref
public import Idealize.ShloMosaic.Lib.Transfers
public import Idealize.ShloMosaic.Lib.Mxu
public import Idealize.ShloMosaic.Rules.Step
public import Idealize.ShloMosaic.Lib.Tactic

@[expose] public section

noncomputable section

/-! Steps of a core over memrefs it owns at known contents. -/

namespace Cert.Own

open Idealize.ShloMosaic Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Thread nD τ) (bd : Option 𝒱.V) (E : Set Name)
variable {α : Type}

variable {Q : α → sProp (MT nD τ sig Ix Val Name U Lvl)}

/-- A load from a memref owned at `X` reads `X` on the rectangle. -/
theorem wp_load_owns {cs : CoreSpace} {s : Shape} {e : EltTy} (m : Memref sig c.2.kind cs s e) (r : Rect s) (q : PosShare TreeShare)
    (X : s.Idx → Val e) {hl : m.view.LoadsAt r.toLoadRect} {k : (r.toLoadRect.shape.Idx → Val e) → Prog (TpuEff nD τ sig Val Λ c.2) α} :
    owns c m q X ⊢ iprop((owns c m q X -∗ wp frame (wpE defs 𝒱 c bd) E (k (fun i => X (r.emb i))) Q)
      -∗ wp (M := (MT nD τ sig Ix Val Name U Lvl)) frame (wpE defs 𝒱 c bd) E (.op (.load m r.toLoadRect hl) k) Q) := by
  unfold owns
  iintro ⟨%f, %hf, H⟩ Hk
  iapply (wp_load_rect 𝒱 c bd E (m := m) (r := r) (f := f) (S := m.view.set) (m.view.set_slice_subset r)) $$ H
  iintro H
  have he : (m.access r).read Val f = fun i => X (r.emb i) := by subst hf; rfl
  rw [he]
  iapply Hk
  iexists f
  isplitr
  · ipureintro; exact hf
  · iexact H

/-- A load from inside a slice owned at `X`'s part there. -/
theorem wp_load_slice {cs : CoreSpace} {s : Shape} {e : EltTy} (m : Memref sig c.2.kind cs s e) (R r : Rect s) (hR : ∀ a, R.stride a = 1)
    (q : PosShare TreeShare) (X : s.Idx → Val e) (hsub : ∀ i, ∃ j, r.emb i = R.emb j)
    {hl : m.view.LoadsAt r.toLoadRect} {k : (r.toLoadRect.shape.Idx → Val e) → Prog (TpuEff nD τ sig Val Λ c.2) α} :
    owns c (m.slice R hR) q (fun j => X (R.emb j))
      ⊢ iprop((owns c (m.slice R hR) q (fun j => X (R.emb j)) -∗ wp frame (wpE defs 𝒱 c bd) E (k (fun i => X (r.emb i))) Q)
      -∗ wp (M := (MT nD τ sig Ix Val Name U Lvl)) frame (wpE defs 𝒱 c bd) E (.op (.load m r.toLoadRect hl) k) Q) := by
  unfold owns
  iintro ⟨%f, %hf, H⟩ Hk
  have hS : (m.access r).set ⊆ (m.view.slice R).set := by
    show (m.view.slice r).set ⊆ (m.view.slice R).set
    rw [View.set_slice, View.set_slice]
    apply Finset.map_subset_map.mpr
    intro x hx
    rw [← Rect.map_emb_univ] at hx ⊢
    obtain ⟨i, -, rfl⟩ := Finset.mem_map.mp hx
    obtain ⟨j, hj⟩ := hsub i
    rw [hj]; exact Finset.mem_map_of_mem _ (Finset.mem_univ j)
  iapply (wp_load_rect 𝒱 c bd E (m := m) (r := r) (f := f) (S := (m.view.slice R).set) hS) $$ H
  iintro H
  have he : (m.access r).read Val f = fun i => X (r.emb i) := by
    funext i
    obtain ⟨j, hj⟩ := hsub i
    rw [hj]
    have := congrFun hf j
    rw [← this]
    show m.view.read Val f (r.emb i) = m.view.read Val f (R.emb j)
    rw [hj]
  rw [he]
  iapply Hk
  iexists f
  isplitr
  · ipureintro; exact hf
  · iexact H

/-- A store into a memref owned whole at `X`. -/
theorem wp_store_owns {cs : CoreSpace} {s : Shape} {e : EltTy} (m : Memref sig c.2.kind cs s e) (r : Rect s) (hr : ∀ a, r.stride a = 1)
    (X : s.Idx → Val e) (w : r.shape.Idx → Val e) {hx : (m.access r).Stores Finset.univ} {hm : Finset.univ = Finset.univ ∨ ∀ a, r.stride a = 1}
    {k : PUnit → Prog (TpuEff nD τ sig Val Λ c.2) α} :
    owns c m fullShare X ⊢ iprop((owns c m fullShare (r.overlay X w) -∗ wp frame (wpE defs 𝒱 c bd) E (k ⟨⟩) Q)
      -∗ wp (M := (MT nD τ sig Ix Val Name U Lvl)) frame (wpE defs 𝒱 c bd) E (.op (.store m r w Finset.univ hx hm) k) Q) := by
  unfold owns
  iintro ⟨%f, %hf, H⟩ Hk
  iapply (wp_store 𝒱 c bd E (m := m) (r := r) (f := f) (S := m.view.set) (m.view.set_slice_subset r)) $$ H
  iintro H
  iapply Hk
  iexists (m.access r).write Val f w Finset.univ
  isplitr
  · ipureintro
    funext j
    by_cases hj : j ∈ r.set
    · rw [← Rect.map_emb_univ] at hj
      obtain ⟨i, -, rfl⟩ := Finset.mem_map.mp hj
      rw [Rect.overlay_emb]
      exact congrFun (View.read_write_univ (v := m.access r) f w) i
    · rw [Rect.overlay_of_not_mem r X w hj, ← hf]
      rw [View.read_apply, View.read_apply]
      congr 1
      refine View.write_of_not_mem (v := m.access r) f w Finset.univ ?_
      intro hm
      obtain ⟨i, -, hi⟩ := Finset.mem_map.mp hm
      have : r.emb i = j := m.view.emb.injective hi
      exact hj (this ▸ (Rect.map_emb_univ r ▸ Finset.mem_map_of_mem _ (Finset.mem_univ i)))
  · iexact H

/-- A store over a slice owned at anything. -/
theorem wp_store_slice {cs : CoreSpace} {s : Shape} {e : EltTy} (m : Memref sig c.2.kind cs s e) (r : Rect s) (hr : ∀ a, r.stride a = 1)
    (X : r.shape.Idx → Val e) (w : r.shape.Idx → Val e) {hx : (m.access r).Stores Finset.univ} {hm : Finset.univ = Finset.univ ∨ ∀ a, r.stride a = 1}
    {k : PUnit → Prog (TpuEff nD τ sig Val Λ c.2) α} :
    owns c (m.slice r hr) fullShare X ⊢ iprop((owns c (m.slice r hr) fullShare w -∗ wp frame (wpE defs 𝒱 c bd) E (k ⟨⟩) Q)
      -∗ wp (M := (MT nD τ sig Ix Val Name U Lvl)) frame (wpE defs 𝒱 c bd) E (.op (.store m r w Finset.univ hx hm) k) Q) := by
  unfold owns
  iintro ⟨%f, %hf, H⟩ Hk
  iapply (wp_store 𝒱 c bd E (m := m) (r := r) (f := f) (S := (m.view.slice r).set) (Finset.Subset.refl _)) $$ H
  iintro H
  iapply Hk
  iexists (m.access r).write Val f w Finset.univ
  isplitr
  · ipureintro
    exact View.read_write_univ (v := m.access r) f w
  · iexact H

/-- A load of a slice owned, at the slice's own rectangle. -/
theorem wp_load_self {cs : CoreSpace} {s : Shape} {e : EltTy} (m : Memref sig c.2.kind cs s e) (r : Rect s) (hr : ∀ a, r.stride a = 1)
    (q : PosShare TreeShare) (X : r.shape.Idx → Val e)
    {hl : m.view.LoadsAt r.toLoadRect} {k : (r.toLoadRect.shape.Idx → Val e) → Prog (TpuEff nD τ sig Val Λ c.2) α} :
    owns c (m.slice r hr) q X
      ⊢ iprop((owns c (m.slice r hr) q X -∗ wp frame (wpE defs 𝒱 c bd) E (k X) Q)
      -∗ wp (M := (MT nD τ sig Ix Val Name U Lvl)) frame (wpE defs 𝒱 c bd) E (.op (.load m r.toLoadRect hl) k) Q) := by
  unfold owns
  iintro ⟨%f, %hf, H⟩ Hk
  iapply (wp_load_rect 𝒱 c bd E (m := m) (r := r) (f := f) (S := (m.view.slice r).set) (Finset.Subset.refl _)) $$ H
  iintro H
  have he : (m.access r).read Val f = X := hf
  rw [he]
  iapply Hk
  iexists f
  isplitr
  · ipureintro; exact hf
  · iexact H

/-- A scalar load from a memref owned at `X`. -/
theorem wp_smem_owns {s : Shape} {e : EltTy} (m : Memref sig c.2.kind .smem s e) (r : Rect s) (q : PosShare TreeShare)
    (X : s.Idx → Val e) {hw : (m.access r).Loads} {x : r.shape.Idx} {k : Val e → Prog (TpuEff nD τ sig Val Λ c.2) α} :
    owns c m q X ⊢ iprop((owns c m q X -∗ wp frame (wpE defs 𝒱 c bd) E (k (X (r.emb x))) Q)
      -∗ wp (M := (MT nD τ sig Ix Val Name U Lvl)) frame (wpE defs 𝒱 c bd) E (smemLoadElt m r hw x k) Q) := by
  unfold owns
  iintro ⟨%f, %hf, H⟩ Hk
  iapply (wp_smemLoadElt 𝒱 c bd E (m := m) (r := r) (f := f) (S := m.view.set) (m.view.set_slice_subset r)) $$ H
  iintro H
  have he : (m.access r).read Val f x = X (r.emb x) := by subst hf; rfl
  rw [he]
  iapply Hk
  iexists f
  isplitr
  · ipureintro; exact hf
  · iexact H

variable (EC : UEmb Counters (MT nD τ sig Ix Val Name U Lvl))

/-- Start a copy between two memrefs owned at known contents. -/
theorem wp_copy [Infinite Name] [EC.LandsIn (upEmb : UEmb _ (MT nD τ sig Ix Val Name U Lvl))] {sp sp' : Space} {s : Shape} {e : EltTy}
    (src : Memref sig c.2.kind sp s e) (dst : Memref sig c.2.kind sp' s e) (sem : DmaSem sig)
    {hsrc : src.view.WordExact} {hdst : dst.view.WordExact} {hsem : DmaTarget.Typed (nD := nD) sp (.dma sem) (.here dst)}
    {k : PUnit → Prog (TpuEff nD τ sig Val Λ c.2) α} (q : PosShare TreeShare) (X Y : s.Idx → Val e)
    (ι : Ix) (N : ℕ) (hN : dst.view.dmaCredit = N) (hN0 : 0 < N) :
    iprop(owns c src q X ∗ owns c dst fullShare Y ∗ semVal (c, .dma sem) 0)
      ⊢ iprop((Flight EC c (.dma sem) ι N iprop(owns c dst fullShare X ∗ owns c src q X)
              -∗ wp frame (wpE defs 𝒱 c bd) Set.univ (k ⟨⟩) Q)
          -∗ wp frame (wpE defs 𝒱 c bd) Set.univ (.op (.enqueueDma src (.here dst) (.dma sem) hsrc hdst hsem) k) Q) := by
  iintro ⟨Hs, Hd, Hv⟩ Hk
  ihave Hs := (show owns c src q X ⊢ iprop(∃ g, ⌜src.view.read Val g = X⌝ ∗ src.view.loc c ↦[src.view.set]{q} g) from .rfl) $$ Hs
  ihave Hd := (show owns c dst fullShare Y ⊢ iprop(∃ g, ⌜dst.view.read Val g = Y⌝ ∗ dst.view.loc c ↦[dst.view.set]{fullShare} g) from .rfl) $$ Hd
  icases Hs with ⟨%fs, %hs, Hs⟩
  icases Hd with ⟨%fd, %hd, Hd⟩
  iapply (wp_dmaLocal EC 𝒱 c bd ι N (src := src) (dst := dst) (sm := .dma sem) (via := .same) (fs := fs) (fd := fd) (q := q) hN hN0 (Finset.Subset.refl dst.view.set)) $$ [Hs Hd Hv]
  · isplitl [Hs]; · iexact Hs
    isplitl [Hd]; · iexact Hd
    iexact Hv
  iintro HF
  iapply Hk
  iapply (Flight_mono EC c (show iprop((dst.view.loc c ↦[dst.view.set]{fullShare} (dst.view.write Val fd (ReadAs.same.apply (src.view.read Val fs)) Finset.univ))
      ∗ (src.view.loc c ↦[src.view.set]{q} fs)) ⊢ iprop(owns c dst fullShare X ∗ owns c src q X) from by
    unfold owns
    iintro ⟨Hd, Hs⟩
    isplitl [Hd]
    · iexists (dst.view.write Val fd (ReadAs.same.apply (src.view.read Val fs)) Finset.univ)
      isplitr
      · ipureintro
        rw [View.read_write_univ]; exact hs
      · iexact Hd
    · iexists fs
      isplitr
      · ipureintro; exact hs
      · iexact Hs)) $$ HF

end Cert.Own

namespace Cert.Own
open Idealize.SL.BI Idealize.SL.BI.BIBase Idealize.SL.BI.Laws Idealize.SL.ProofMode Idealize.SL.RA
open scoped Idealize.SL.BI

/-- Change one member of a family held whole. -/
theorem swap {M : Type} [URA M] {T : Type} [Fintype T] [DecidableEq T] (Φ Ψ : T → sProp M) (g : T) (h : ∀ t, t ≠ g → Φ t = Ψ t) :
    bigSep Finset.univ Φ ⊢ iprop(Φ g ∗ (Ψ g -∗ bigSep Finset.univ Ψ)) := by
  have e1 : bigSep Finset.univ Φ = iprop(Φ g ∗ bigSep (Finset.univ.erase g) Φ) := by
    rw [← Finset.insert_erase (Finset.mem_univ g), bigSep_insert (Finset.notMem_erase g _), Finset.insert_erase (Finset.mem_univ g)]; rfl
  have e2 : bigSep Finset.univ Ψ = iprop(Ψ g ∗ bigSep (Finset.univ.erase g) Ψ) := by
    rw [← Finset.insert_erase (Finset.mem_univ g), bigSep_insert (Finset.notMem_erase g _), Finset.insert_erase (Finset.mem_univ g)]; rfl
  have e3 : bigSep (Finset.univ.erase g) Φ = bigSep (Finset.univ.erase g) Ψ :=
    bigSep_congr fun t ht => h t (Finset.ne_of_mem_erase ht)
  rw [e1, e2, e3]
  iintro ⟨H1, H2⟩
  isplitl [H1]; · iexact H1
  iintro H1
  isplitl [H1]; · iexact H1
  iexact H2

end Cert.Own
-- ==== Proof.IWp.lean ====
module

public import proofs.«01_k».proof.Proof.IStruct
public import proofs.«01_k».proof.Proof.Own
public import Idealize.ShloMosaic.Lib.Mxu.Lemmas
public import Idealize.ShloMosaic.Lib.Pipeline.FrameBody

@[expose] public section

set_option synthInstance.maxSize 4096

noncomputable section

namespace Cert.KernelIdeal

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

/-- The 256 x 256 tile of weights: packed nibbles decoded, times their scales. -/
def wTile (a0 : Vec F S128x256 .i8) (a36 a39 : Vec F S8x256 .fp8e4m3) : FVec F S256x256 .bf16 :=
  have a1 : IVec S128x256 32 := extui 32 a0 natLt_8_32
  have a2 : IVec S128x256 32 := broadcast S128x256 7#32
  have a3 : IVec S128x256 32 := andi a1 a2
  have a4 : IVec S128x256 32 := broadcast S128x256 252#32
  have a5 : IVec S128x256 32 := muli a3 a4
  have a6 : IVec S128x256 32 := broadcast S128x256 252#32
  have a7 : IVec S128x256 32 := addi a3 a6
  have a8 : IVec S128x256 32 := minsi a5 a7
  have a9 : IVec S128x256 32 := broadcast S128x256 6#32
  have a10 : IVec S128x256 32 := shli a8 a9
  have a11 : IVec S128x256 32 := broadcast S128x256 8#32
  have a12 : IVec S128x256 32 := andi a1 a11
  have a13 : IVec S128x256 32 := broadcast S128x256 12#32
  have a14 : IVec S128x256 32 := shli a12 a13
  have a15 : IVec S128x256 32 := ori a10 a14
  have a16 : IVec S128x256 32 := broadcast S128x256 4#32
  have a17 : IVec S128x256 32 := shrsi a1 a16
  have a18 : IVec S128x256 32 := broadcast S128x256 7#32
  have a19 : IVec S128x256 32 := andi a17 a18
  have a20 : IVec S128x256 32 := broadcast S128x256 252#32
  have a21 : IVec S128x256 32 := muli a19 a20
  have a22 : IVec S128x256 32 := broadcast S128x256 252#32
  have a23 : IVec S128x256 32 := addi a19 a22
  have a24 : IVec S128x256 32 := minsi a21 a23
  have a25 : IVec S128x256 32 := broadcast S128x256 6#32
  have a26 : IVec S128x256 32 := shli a24 a25
  have a27 : IVec S128x256 32 := broadcast S128x256 8#32
  have a28 : IVec S128x256 32 := andi a17 a27
  have a29 : IVec S128x256 32 := broadcast S128x256 12#32
  have a30 : IVec S128x256 32 := shli a28 a29
  have a31 : IVec S128x256 32 := ori a26 a30
  have a32 : IVec S128x256 32 := broadcast S128x256 16#32
  have a33 : IVec S128x256 32 := shli a31 a32
  have a34 : IVec S128x256 32 := ori a15 a33
  have a35 : FVec F S256x256 .bf16 := bitcastToFloat .bf16 (bitcast S256x256 16 a34 bitcasts_S128x256_w32_S256x256_w16)
  have a37 : FVec F S8x256 .f32 := extf .f32 a36 bitsLt_fp8e4m3_f32
  have a38 : FVec F S8x256 .bf16 := truncf .bf16 a37 bitsLt_bf16_f32
  have a40 : FVec F S8x256 .f32 := extf .f32 a39 bitsLt_fp8e4m3_f32
  have a41 : FVec F S8x256 .bf16 := truncf .bf16 a40 bitsLt_bf16_f32
  have a42 : IVec S16x256 32 := iota .tc S16x256 32 [0] iota_S16x256_d0_w32
  have a43 : IVec S16x256 32 := broadcast S16x256 1#32
  have a44 : IVec S16x256 32 := andi a42 a43
  have a45 : IVec S16x256 32 := broadcast S16x256 1#32
  have a46 : IVec S16x256 1 := cmpi .eq a44 a45
  have a47 : FVec F S1x256 .bf16 := extractStridedSlice S1x256 ![0, 0] a41 slices_S8x256_o0_0_S1x256
  have a48 : FVec F S1x256 .bf16 := extractStridedSlice S1x256 ![0, 0] a38 slices_S8x256_o0_0_S1x256
  have a49 : FVec F S1x256 .bf16 := shapeCast S1x256 a47 shapeCasts_S1x256_S1x256
  have a50 : FVec F S16x256 .bf16 := broadcastTo S16x256 a49 broadcasts_S1x256_S16x256
  have a51 : FVec F S1x256 .bf16 := shapeCast S1x256 a48 shapeCasts_S1x256_S1x256
  have a52 : FVec F S16x256 .bf16 := broadcastTo S16x256 a51 broadcasts_S1x256_S16x256
  have a53 : FVec F S16x256 .bf16 := select a46 a50 a52
  have a54 : FVec F S1x256 .bf16 := extractStridedSlice S1x256 ![1, 0] a41 slices_S8x256_o1_0_S1x256
  have a55 : FVec F S1x256 .bf16 := extractStridedSlice S1x256 ![1, 0] a38 slices_S8x256_o1_0_S1x256
  have a56 : FVec F S1x256 .bf16 := shapeCast S1x256 a54 shapeCasts_S1x256_S1x256
  have a57 : FVec F S16x256 .bf16 := broadcastTo S16x256 a56 broadcasts_S1x256_S16x256
  have a58 : FVec F S1x256 .bf16 := shapeCast S1x256 a55 shapeCasts_S1x256_S1x256
  have a59 : FVec F S16x256 .bf16 := broadcastTo S16x256 a58 broadcasts_S1x256_S16x256
  have a60 : FVec F S16x256 .bf16 := select a46 a57 a59
  have a61 : FVec F S1x256 .bf16 := extractStridedSlice S1x256 ![2, 0] a41 slices_S8x256_o2_0_S1x256
  have a62 : FVec F S1x256 .bf16 := extractStridedSlice S1x256 ![2, 0] a38 slices_S8x256_o2_0_S1x256
  have a63 : FVec F S1x256 .bf16 := shapeCast S1x256 a61 shapeCasts_S1x256_S1x256
  have a64 : FVec F S16x256 .bf16 := broadcastTo S16x256 a63 broadcasts_S1x256_S16x256
  have a65 : FVec F S1x256 .bf16 := shapeCast S1x256 a62 shapeCasts_S1x256_S1x256
  have a66 : FVec F S16x256 .bf16 := broadcastTo S16x256 a65 broadcasts_S1x256_S16x256
  have a67 : FVec F S16x256 .bf16 := select a46 a64 a66
  have a68 : FVec F S1x256 .bf16 := extractStridedSlice S1x256 ![3, 0] a41 slices_S8x256_o3_0_S1x256
  have a69 : FVec F S1x256 .bf16 := extractStridedSlice S1x256 ![3, 0] a38 slices_S8x256_o3_0_S1x256
  have a70 : FVec F S1x256 .bf16 := shapeCast S1x256 a68 shapeCasts_S1x256_S1x256
  have a71 : FVec F S16x256 .bf16 := broadcastTo S16x256 a70 broadcasts_S1x256_S16x256
  have a72 : FVec F S1x256 .bf16 := shapeCast S1x256 a69 shapeCasts_S1x256_S1x256
  have a73 : FVec F S16x256 .bf16 := broadcastTo S16x256 a72 broadcasts_S1x256_S16x256
  have a74 : FVec F S16x256 .bf16 := select a46 a71 a73
  have a75 : FVec F S1x256 .bf16 := extractStridedSlice S1x256 ![4, 0] a41 slices_S8x256_o4_0_S1x256
  have a76 : FVec F S1x256 .bf16 := extractStridedSlice S1x256 ![4, 0] a38 slices_S8x256_o4_0_S1x256
  have a77 : FVec F S1x256 .bf16 := shapeCast S1x256 a75 shapeCasts_S1x256_S1x256
  have a78 : FVec F S16x256 .bf16 := broadcastTo S16x256 a77 broadcasts_S1x256_S16x256
  have a79 : FVec F S1x256 .bf16 := shapeCast S1x256 a76 shapeCasts_S1x256_S1x256
  have a80 : FVec F S16x256 .bf16 := broadcastTo S16x256 a79 broadcasts_S1x256_S16x256
  have a81 : FVec F S16x256 .bf16 := select a46 a78 a80
  have a82 : FVec F S1x256 .bf16 := extractStridedSlice S1x256 ![5, 0] a41 slices_S8x256_o5_0_S1x256
  have a83 : FVec F S1x256 .bf16 := extractStridedSlice S1x256 ![5, 0] a38 slices_S8x256_o5_0_S1x256
  have a84 : FVec F S1x256 .bf16 := shapeCast S1x256 a82 shapeCasts_S1x256_S1x256
  have a85 : FVec F S16x256 .bf16 := broadcastTo S16x256 a84 broadcasts_S1x256_S16x256
  have a86 : FVec F S1x256 .bf16 := shapeCast S1x256 a83 shapeCasts_S1x256_S1x256
  have a87 : FVec F S16x256 .bf16 := broadcastTo S16x256 a86 broadcasts_S1x256_S16x256
  have a88 : FVec F S16x256 .bf16 := select a46 a85 a87
  have a89 : FVec F S1x256 .bf16 := extractStridedSlice S1x256 ![6, 0] a41 slices_S8x256_o6_0_S1x256
  have a90 : FVec F S1x256 .bf16 := extractStridedSlice S1x256 ![6, 0] a38 slices_S8x256_o6_0_S1x256
  have a91 : FVec F S1x256 .bf16 := shapeCast S1x256 a89 shapeCasts_S1x256_S1x256
  have a92 : FVec F S16x256 .bf16 := broadcastTo S16x256 a91 broadcasts_S1x256_S16x256
  have a93 : FVec F S1x256 .bf16 := shapeCast S1x256 a90 shapeCasts_S1x256_S1x256
  have a94 : FVec F S16x256 .bf16 := broadcastTo S16x256 a93 broadcasts_S1x256_S16x256
  have a95 : FVec F S16x256 .bf16 := select a46 a92 a94
  have a96 : FVec F S1x256 .bf16 := extractStridedSlice S1x256 ![7, 0] a41 slices_S8x256_o7_0_S1x256
  have a97 : FVec F S1x256 .bf16 := extractStridedSlice S1x256 ![7, 0] a38 slices_S8x256_o7_0_S1x256
  have a98 : FVec F S1x256 .bf16 := shapeCast S1x256 a96 shapeCasts_S1x256_S1x256
  have a99 : FVec F S16x256 .bf16 := broadcastTo S16x256 a98 broadcasts_S1x256_S16x256
  have a100 : FVec F S1x256 .bf16 := shapeCast S1x256 a97 shapeCasts_S1x256_S1x256
  have a101 : FVec F S16x256 .bf16 := broadcastTo S16x256 a100 broadcasts_S1x256_S16x256
  have a102 : FVec F S16x256 .bf16 := select a46 a99 a101
  have a103 : FVec F S256x256 .bf16 := concatenate S256x256 0 [⟨S16x256, a53⟩, ⟨S16x256, a53⟩, ⟨S16x256, a60⟩, ⟨S16x256, a60⟩, ⟨S16x256, a67⟩, ⟨S16x256, a67⟩, ⟨S16x256, a74⟩, ⟨S16x256, a74⟩, ⟨S16x256, a81⟩, ⟨S16x256, a81⟩, ⟨S16x256, a88⟩, ⟨S16x256, a88⟩, ⟨S16x256, a95⟩, ⟨S16x256, a95⟩, ⟨S16x256, a102⟩, ⟨S16x256, a102⟩] concatenates_S16x256_S16x256_S16x256_S16x256_S16x256_S16x256_S16x256_S16x256_S16x256_S16x256_S16x256_S16x256_S16x256_S16x256_S16x256_S16x256_S256x256_d0
  have a104 : FVec F S256x256 .bf16 := mulf a35 a103
  a104

/-- The activations of one chunk, its two halves side by side. -/
def xTile (a106 a108 : Vec F S1x1x128x128 .bf16) : FVec F S128x256 .bf16 :=
  have a107 : FVec F S128x128 .bf16 := shapeCast S128x128 a106 shapeCasts_S1x1x128x128_S128x128
  have a109 : FVec F S128x128 .bf16 := shapeCast S128x128 a108 shapeCasts_S1x1x128x128_S128x128
  have a110 : FVec F S128x256 .bf16 := concatenate S128x256 1 [⟨S128x128, a107⟩, ⟨S128x128, a109⟩] concatenates_S128x128_S128x128_S128x256_d1
  a110

/-- The first half of an interleaved chunk. -/
def xLo (a0 a2 : Vec F S128x128 .bf16) : FVec F S1x1x128x128 .bf16 :=
  have a1 : FVec F S128x128 .f32 := extf .f32 a0 bitsLt_bf16_f32
  have a3 : FVec F S128x128 .f32 := extf .f32 a2 bitsLt_bf16_f32
  have a4 : IVec S128x128 32 := iota .tc S128x128 32 [1] iota_S128x128_d1_w32
  have a5 : FVec F S128x128 .f32 := dynamicRotate 1 64#32 none a3 rotates_S128x128_d1
  have a6 : IVec S128x128 32 := broadcast S128x128 64#32
  have a7 : IVec S128x128 1 := cmpi .slt a4 a6
  have a8 : IVec S128x128 32 := broadcast S128x128 2#32
  have a9 : IVec S128x128 32 := divsi a4 a8
  have a10 : IVec S128x128 32 := broadcast S128x128 0#32
  have a11 : IVec S128x128 1 := cmpi .sgt a4 a10
  have a12 : IVec S128x128 32 := extui 32 a11 natLt_1_32
  have a13 : IVec S128x128 32 := broadcast S128x128 0#32
  have a14 : IVec S128x128 1 := cmpi .slt a4 a13
  have a15 : IVec S128x128 32 := extui 32 a14 natLt_1_32
  have a16 : IVec S128x128 32 := subi a12 a15
  have a17 : IVec S128x128 32 := broadcast S128x128 (Scalar.subi (Scalar.extui (Scalar.cmpi .sgt 2#32 0#32)) (Scalar.extui (Scalar.cmpi .slt 2#32 0#32)))
  have a18 : IVec S128x128 1 := cmpi .ne a16 a17
  have a19 : IVec S128x128 32 := broadcast S128x128 2#32
  have a20 : IVec S128x128 32 := remsi a4 a19
  have a21 : IVec S128x128 32 := broadcast S128x128 0#32
  have a22 : IVec S128x128 1 := cmpi .ne a20 a21
  have a23 : IVec S128x128 1 := andi a18 a22
  have a24 : IVec S128x128 32 := broadcast S128x128 1#32
  have a25 : IVec S128x128 32 := subi a9 a24
  have a26 : IVec S128x128 32 := select a23 a25 a9
  have a27 : IVec S128x128 32 := broadcast S128x128 (Scalar.select (Scalar.cmpi .eq 2#32 0#32) 1#32 2#32)
  have a28 : IVec S128x128 32 := remsi a4 a27
  have a29 : IVec S128x128 32 := broadcast S128x128 0#32
  have a30 : IVec S128x128 1 := cmpi .ne a28 a29
  have a31 : IVec S128x128 32 := broadcast S128x128 0#32
  have a32 : IVec S128x128 1 := cmpi .slt a28 a31
  have a33 : IVec S128x128 1 := broadcast S128x128 (Scalar.cmpi .slt (Scalar.select (Scalar.cmpi .eq 2#32 0#32) 1#32 2#32) 0#32)
  have a34 : IVec S128x128 1 := broadcastTo S128x128 a33 broadcasts_S128x128_S128x128
  have a35 : IVec S128x128 1 := xori a32 a34
  have a36 : IVec S128x128 1 := andi a35 a30
  have a37 : IVec S128x128 32 := broadcast S128x128 (Scalar.select (Scalar.cmpi .eq 2#32 0#32) 1#32 2#32)
  have a38 : IVec S128x128 32 := addi a28 a37
  have a39 : IVec S128x128 32 := select a36 a38 a28
  have a40 : IVec S128x128 32 := broadcast S128x128 64#32
  have a41 : IVec S128x128 32 := muli a40 a39
  have a42 : IVec S128x128 32 := addi a26 a41
  have a43 : FVec F S128x128 .f32 := select a7 a1 a5
  have a44 : IVec S128x128 32 := broadcast S128x128 0#32
  have a45 : IVec S128x128 1 := cmpi .slt a42 a44
  have a46 : IVec S128x128 32 := broadcast S128x128 128#32
  have a47 : IVec S128x128 32 := addi a42 a46
  have a48 : IVec S128x128 32 := select a45 a47 a42
  have a49 : IVec S128x128x1 32 := shapeCast S128x128x1 a48 shapeCasts_S128x128_S128x128x1
  have a50 : IVec S128x128 32 := shapeCast S128x128 a49 shapeCasts_S128x128x1_S128x128
  have a51 : FVec F S128x128 .f32 := dynamicGather 1 a43 a50
  have a52 : FVec F S128x128 .f32 := select a7 a5 a1
  have a53 : IVec S128x128 32 := broadcast S128x128 64#32
  have a54 : IVec S128x128 32 := xori a42 a53
  have a55 : IVec S128x128 32 := broadcast S128x128 0#32
  have a56 : IVec S128x128 1 := cmpi .slt a54 a55
  have a57 : IVec S128x128 32 := broadcast S128x128 128#32
  have a58 : IVec S128x128 32 := addi a54 a57
  have a59 : IVec S128x128 32 := select a56 a58 a54
  have a60 : IVec S128x128x1 32 := shapeCast S128x128x1 a59 shapeCasts_S128x128_S128x128x1
  have a61 : IVec S128x128 32 := shapeCast S128x128 a60 shapeCasts_S128x128x1_S128x128
  have a62 : FVec F S128x128 .f32 := dynamicGather 1 a52 a61
  have a63 : FVec F S128x128 .bf16 := truncf .bf16 a51 bitsLt_bf16_f32
  have a66 : FVec F S1x1x128x128 .bf16 := shapeCast S1x1x128x128 a63 shapeCasts_S128x128_S1x1x128x128
  a66

/-- The second half of an interleaved chunk. -/
def xHi (a0 a2 : Vec F S128x128 .bf16) : FVec F S1x1x128x128 .bf16 :=
  have a1 : FVec F S128x128 .f32 := extf .f32 a0 bitsLt_bf16_f32
  have a3 : FVec F S128x128 .f32 := extf .f32 a2 bitsLt_bf16_f32
  have a4 : IVec S128x128 32 := iota .tc S128x128 32 [1] iota_S128x128_d1_w32
  have a5 : FVec F S128x128 .f32 := dynamicRotate 1 64#32 none a3 rotates_S128x128_d1
  have a6 : IVec S128x128 32 := broadcast S128x128 64#32
  have a7 : IVec S128x128 1 := cmpi .slt a4 a6
  have a8 : IVec S128x128 32 := broadcast S128x128 2#32
  have a9 : IVec S128x128 32 := divsi a4 a8
  have a10 : IVec S128x128 32 := broadcast S128x128 0#32
  have a11 : IVec S128x128 1 := cmpi .sgt a4 a10
  have a12 : IVec S128x128 32 := extui 32 a11 natLt_1_32
  have a13 : IVec S128x128 32 := broadcast S128x128 0#32
  have a14 : IVec S128x128 1 := cmpi .slt a4 a13
  have a15 : IVec S128x128 32 := extui 32 a14 natLt_1_32
  have a16 : IVec S128x128 32 := subi a12 a15
  have a17 : IVec S128x128 32 := broadcast S128x128 (Scalar.subi (Scalar.extui (Scalar.cmpi .sgt 2#32 0#32)) (Scalar.extui (Scalar.cmpi .slt 2#32 0#32)))
  have a18 : IVec S128x128 1 := cmpi .ne a16 a17
  have a19 : IVec S128x128 32 := broadcast S128x128 2#32
  have a20 : IVec S128x128 32 := remsi a4 a19
  have a21 : IVec S128x128 32 := broadcast S128x128 0#32
  have a22 : IVec S128x128 1 := cmpi .ne a20 a21
  have a23 : IVec S128x128 1 := andi a18 a22
  have a24 : IVec S128x128 32 := broadcast S128x128 1#32
  have a25 : IVec S128x128 32 := subi a9 a24
  have a26 : IVec S128x128 32 := select a23 a25 a9
  have a27 : IVec S128x128 32 := broadcast S128x128 (Scalar.select (Scalar.cmpi .eq 2#32 0#32) 1#32 2#32)
  have a28 : IVec S128x128 32 := remsi a4 a27
  have a29 : IVec S128x128 32 := broadcast S128x128 0#32
  have a30 : IVec S128x128 1 := cmpi .ne a28 a29
  have a31 : IVec S128x128 32 := broadcast S128x128 0#32
  have a32 : IVec S128x128 1 := cmpi .slt a28 a31
  have a33 : IVec S128x128 1 := broadcast S128x128 (Scalar.cmpi .slt (Scalar.select (Scalar.cmpi .eq 2#32 0#32) 1#32 2#32) 0#32)
  have a34 : IVec S128x128 1 := broadcastTo S128x128 a33 broadcasts_S128x128_S128x128
  have a35 : IVec S128x128 1 := xori a32 a34
  have a36 : IVec S128x128 1 := andi a35 a30
  have a37 : IVec S128x128 32 := broadcast S128x128 (Scalar.select (Scalar.cmpi .eq 2#32 0#32) 1#32 2#32)
  have a38 : IVec S128x128 32 := addi a28 a37
  have a39 : IVec S128x128 32 := select a36 a38 a28
  have a40 : IVec S128x128 32 := broadcast S128x128 64#32
  have a41 : IVec S128x128 32 := muli a40 a39
  have a42 : IVec S128x128 32 := addi a26 a41
  have a43 : FVec F S128x128 .f32 := select a7 a1 a5
  have a44 : IVec S128x128 32 := broadcast S128x128 0#32
  have a45 : IVec S128x128 1 := cmpi .slt a42 a44
  have a46 : IVec S128x128 32 := broadcast S128x128 128#32
  have a47 : IVec S128x128 32 := addi a42 a46
  have a48 : IVec S128x128 32 := select a45 a47 a42
  have a49 : IVec S128x128x1 32 := shapeCast S128x128x1 a48 shapeCasts_S128x128_S128x128x1
  have a50 : IVec S128x128 32 := shapeCast S128x128 a49 shapeCasts_S128x128x1_S128x128
  have a51 : FVec F S128x128 .f32 := dynamicGather 1 a43 a50
  have a52 : FVec F S128x128 .f32 := select a7 a5 a1
  have a53 : IVec S128x128 32 := broadcast S128x128 64#32
  have a54 : IVec S128x128 32 := xori a42 a53
  have a55 : IVec S128x128 32 := broadcast S128x128 0#32
  have a56 : IVec S128x128 1 := cmpi .slt a54 a55
  have a57 : IVec S128x128 32 := broadcast S128x128 128#32
  have a58 : IVec S128x128 32 := addi a54 a57
  have a59 : IVec S128x128 32 := select a56 a58 a54
  have a60 : IVec S128x128x1 32 := shapeCast S128x128x1 a59 shapeCasts_S128x128_S128x128x1
  have a61 : IVec S128x128 32 := shapeCast S128x128 a60 shapeCasts_S128x128x1_S128x128
  have a62 : FVec F S128x128 .f32 := dynamicGather 1 a52 a61
  have a67 : FVec F S128x128 .bf16 := truncf .bf16 a62 bitsLt_bf16_f32
  have a70 : FVec F S1x1x128x128 .bf16 := shapeCast S1x1x128x128 a67 shapeCasts_S128x128_S1x1x128x128
  a70

/-- The unit's state after one pass. -/
def uStep (m : Mxu F) (q : Fin 2) (A : Nat) (hA : Mxu.Fits A 128) (w : Vec F S128x256 .i8) (sl sh : Vec F S8x256 .fp8e4m3)
    (xl xh : Vec F S1x1x128x128 .bf16) : Mxu F :=
  (m.pushed q 0 false (wTile w sl sh)).accLhs q 0 A (xTile xl xh) hA

variable (c : Dev nD) {α : Type} {Q : α → sProp (MT nD τ sig Unit (Elt F) ℕ (Pipeline.UD sig nD τ) ℕ)}

abbrev WP {β : Type} (p : Prog (TpuEff nD τ sig (Elt F) Λ₀ .tc) β) (Q : β → sProp (MT nD τ sig Unit (Elt F) ℕ (Pipeline.UD sig nD τ) ℕ)) : sProp (MT nD τ sig Unit (Elt F) ℕ (Pipeline.UD sig nD τ) ℕ) :=
  wp frame (wpE (defs₀ (F := F)) Variants.none (c : Thread nD τ) none) Set.univ p Q

theorem wp_unit (arg6 : Memref sig .tc .vmem S7552x3840 .i8) (arg7 : Memref sig .tc .vmem S944x3840 .fp8e4m3)
    (arg8 : Memref sig .tc .vmem S59x2x128x128 .bf16) (m : Mxu F) (q : Fin 2) (A : Nat) (hA : Mxu.Fits A 128)
    (ow : Fin 2 → Nat) (hw : ∀ a, ow a + S128x256.size a ≤ S7552x3840.size a)
    (ol : Fin 2 → Nat) (hl : ∀ a, ol a + S8x256.size a ≤ S944x3840.size a)
    (oh : Fin 2 → Nat) (hh : ∀ a, oh a + S8x256.size a ≤ S944x3840.size a)
    (o0 : Fin 4 → Nat) (h0 : ∀ a, o0 a + S1x1x128x128.size a ≤ S59x2x128x128.size a)
    (o1 : Fin 4 → Nat) (h1 : ∀ a, o1 a + S1x1x128x128.size a ≤ S59x2x128x128.size a)
    (hm : m.reg q 0 = none)
    (R6 : Rect S7552x3840) (hR6 : ∀ a, R6.stride a = 1) (hs6 : ∀ i, ∃ j, (Rect.unit (s := S7552x3840) ow S128x256.size hw).emb i = R6.emb j)
    (R7 : Rect S944x3840) (hR7 : ∀ a, R7.stride a = 1) (hs7 : ∀ i, ∃ j, (Rect.unit (s := S944x3840) ol S8x256.size hl).emb i = R7.emb j)
    (R7' : Rect S944x3840) (hR7' : ∀ a, R7'.stride a = 1) (hs7' : ∀ i, ∃ j, (Rect.unit (s := S944x3840) oh S8x256.size hh).emb i = R7'.emb j)
    (W : S7552x3840.Idx → Elt F .i8) (S : S944x3840.Idx → Elt F .fp8e4m3) (A8 : S59x2x128x128.Idx → Elt F .bf16)
    {k : Mxu F → Prog (TpuEff nD τ sig (Elt F) Λ₀ .tc) α} :
    iprop(owns (c : Thread nD τ) (arg6.slice R6 hR6) fullShare (fun j => W (R6.emb j))
      ∗ owns (c : Thread nD τ) (arg7.slice R7 hR7) fullShare (fun j => S (R7.emb j))
      ∗ owns (c : Thread nD τ) (arg7.slice R7' hR7') fullShare (fun j => S (R7'.emb j))
      ∗ owns (c : Thread nD τ) arg8 fullShare A8)
    ⊢ iprop((iprop(owns (c : Thread nD τ) (arg6.slice R6 hR6) fullShare (fun j => W (R6.emb j))
      ∗ owns (c : Thread nD τ) (arg7.slice R7 hR7) fullShare (fun j => S (R7.emb j))
      ∗ owns (c : Thread nD τ) (arg7.slice R7' hR7') fullShare (fun j => S (R7'.emb j))
      ∗ owns (c : Thread nD τ) arg8 fullShare A8)
        -∗ WP c (k (uStep m q A hA (fun i => W ((Rect.unit (s := S7552x3840) ow S128x256.size hw).emb i))
            (fun i => S ((Rect.unit (s := S944x3840) ol S8x256.size hl).emb i)) (fun i => S ((Rect.unit (s := S944x3840) oh S8x256.size hh).emb i))
            (fun i => A8 ((Rect.unit (s := S59x2x128x128) o0 S1x1x128x128.size h0).emb i)) (fun i => A8 ((Rect.unit (s := S59x2x128x128) o1 S1x1x128x128.size h1).emb i)))) Q)
      -∗ WP c (unit arg6 arg7 arg8 m q A hA ow hw ol hl oh hh o0 h0 o1 h1 >>= k) Q) := by
  iintro ⟨H6, H7, H7', H8⟩ Hk
  unfold unit
  simp only [Prog.bind_lift, Prog.bind_op, Mxu.pushRhs, bind_assoc, pure_bind]
  iapply (wp_load_slice Variants.none (c : Thread nD τ) none Set.univ arg6 R6 _ hR6 fullShare W hs6) $$ H6
  iintro H6
  iapply (wp_load_slice Variants.none (c : Thread nD τ) none Set.univ arg7 R7 _ hR7 fullShare S hs7) $$ H7
  iintro H7
  iapply (wp_load_slice Variants.none (c : Thread nD τ) none Set.univ arg7 R7' _ hR7' fullShare S hs7') $$ H7'
  iintro H7'
  iapply (wp_assume Variants.none (c : Thread nD τ) none Set.univ (by unfold Mxu.PushOk; rw [hm]; intro t ht; cases ht))
  iapply (wp_load_owns Variants.none (c : Thread nD τ) none Set.univ arg8 _ fullShare A8) $$ H8
  iintro H8
  iapply (wp_load_owns Variants.none (c : Thread nD τ) none Set.univ arg8 _ fullShare A8) $$ H8
  iintro H8
  iapply Hk
  isplitl [H6]; · iexact H6
  isplitl [H7]; · iexact H7
  isplitl [H7']; · iexact H7'
  iexact H8

theorem wp_ileave (arg5 : Memref sig .tc .vmem S128x15104 .bf16)
    (arg8 : Memref sig .tc .vmem S59x2x128x128 .bf16) (harg8 : arg8.IsWhole)
    (ol : Fin 2 → Nat) (hl : ∀ a, ol a + S128x128.size a ≤ S128x15104.size a)
    (oh : Fin 2 → Nat) (hh : ∀ a, oh a + S128x128.size a ≤ S128x15104.size a)
    (o0 : Fin 4 → Nat) (h0 : ∀ a, o0 a + S1x1x128x128.size a ≤ S59x2x128x128.size a)
    (hp0 : (Rect.unit (s := S59x2x128x128) o0 S1x1x128x128.size h0).PackedRows (EltTy.packing .bf16))
    (o1 : Fin 4 → Nat) (h1 : ∀ a, o1 a + S1x1x128x128.size a ≤ S59x2x128x128.size a)
    (hp1 : (Rect.unit (s := S59x2x128x128) o1 S1x1x128x128.size h1).PackedRows (EltTy.packing .bf16))
    (R5 : Rect S128x15104) (hR5 : ∀ a, R5.stride a = 1) (hs5 : ∀ i, ∃ j, (Rect.unit (s := S128x15104) ol S128x128.size hl).emb i = R5.emb j)
    (R5' : Rect S128x15104) (hR5' : ∀ a, R5'.stride a = 1) (hs5' : ∀ i, ∃ j, (Rect.unit (s := S128x15104) oh S128x128.size hh).emb i = R5'.emb j)
    (X : S128x15104.Idx → Elt F .bf16) (A8 : S59x2x128x128.Idx → Elt F .bf16)
    {k : PUnit → Prog (TpuEff nD τ sig (Elt F) Λ₀ .tc) α} :
    iprop(owns (c : Thread nD τ) (arg5.slice R5 hR5) fullShare (fun j => X (R5.emb j))
      ∗ owns (c : Thread nD τ) (arg5.slice R5' hR5') fullShare (fun j => X (R5'.emb j))
      ∗ owns (c : Thread nD τ) arg8 fullShare A8)
    ⊢ iprop((iprop(owns (c : Thread nD τ) (arg5.slice R5 hR5) fullShare (fun j => X (R5.emb j))
      ∗ owns (c : Thread nD τ) (arg5.slice R5' hR5') fullShare (fun j => X (R5'.emb j))
      ∗ owns (c : Thread nD τ) arg8 fullShare
          ((Rect.unit (s := S59x2x128x128) o1 S1x1x128x128.size h1).overlay
            ((Rect.unit (s := S59x2x128x128) o0 S1x1x128x128.size h0).overlay A8
              (xLo (fun i => X ((Rect.unit (s := S128x15104) ol S128x128.size hl).emb i)) (fun i => X ((Rect.unit (s := S128x15104) oh S128x128.size hh).emb i))))
              (xHi (fun i => X ((Rect.unit (s := S128x15104) ol S128x128.size hl).emb i)) (fun i => X ((Rect.unit (s := S128x15104) oh S128x128.size hh).emb i)))))
        -∗ WP c (k ⟨⟩) Q)
      -∗ WP c (ileave arg5 arg8 harg8 ol hl oh hh o0 h0 hp0 o1 h1 hp1 >>= k) Q) := by
  iintro ⟨H5, H5', H8⟩ Hk
  unfold ileave
  simp only [Prog.bind_lift, Prog.bind_op, bind_assoc, pure_bind]
  iapply (wp_load_slice Variants.none (c : Thread nD τ) none Set.univ arg5 R5 _ hR5 fullShare X hs5) $$ H5
  iintro H5
  iapply (wp_load_slice Variants.none (c : Thread nD τ) none Set.univ arg5 R5' _ hR5' fullShare X hs5') $$ H5'
  iintro H5'
  iapply (wp_load_owns Variants.none (c : Thread nD τ) none Set.univ arg8 _ fullShare A8) $$ H8
  iintro H8
  iapply (wp_store_owns Variants.none (c : Thread nD τ) none Set.univ arg8 _ (fun _ => rfl) A8) $$ H8
  iintro H8
  iapply (wp_load_owns Variants.none (c : Thread nD τ) none Set.univ arg8 _ fullShare) $$ H8
  iintro H8
  iapply (wp_store_owns Variants.none (c : Thread nD τ) none Set.univ arg8 _ (fun _ => rfl)) $$ H8
  iintro H8
  iapply Hk
  isplitl [H5]; · iexact H5
  isplitl [H5']; · iexact H5'
  iexact H8

end Cert.KernelIdeal
-- ==== Proof.IRes.lean ====
module

public import proofs.«01_k».proof.Proof.IWp
public import Idealize.ShloMosaic.Lib.Mxu.Lemmas
public import Idealize.ShloMosaic.Lib.Pipeline.FrameBody

@[expose] public section

set_option synthInstance.maxSize 4096

noncomputable section

namespace Cert.KernelIdeal

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

variable (c : Dev nD) {α : Type} {Q : α → sProp (MT nD τ sig Unit (Elt F) ℕ (Pipeline.UD sig nD τ) ℕ)}

/-! ## Pieces of the arrays, and copies in flight -/

/-- A rectangle of a memref, owned at its part of `X`. -/
def pc {sp : Space} {s : Shape} {e : EltTy} (m : Memref sig .tc sp s e) (X : s.Idx → Elt F e) (R : Rect s) (hR : ∀ a, R.stride a = 1) :
    sProp (MT nD τ sig Unit (Elt F) ℕ (Pipeline.UD sig nD τ) ℕ) :=
  owns (c : Thread nD τ) (m.slice R hR) fullShare (fun j => X (R.emb j))

theorem pc_congr {sp : Space} {s : Shape} {e : EltTy} (m : Memref sig .tc sp s e) (X : s.Idx → Elt F e) {R R' : Rect s} (h : R = R')
    (hR : ∀ a, R.stride a = 1) (hR' : ∀ a, R'.stride a = 1) : pc c m X R hR = pc c m X R' hR' := by subst h; rfl

/-- A copy of a rectangle in flight. -/
def fl {sp sp' : Space} {s : Shape} {e : EltTy} (src : Memref sig .tc sp s e) (dst : Memref sig .tc sp' s e) (X : s.Idx → Elt F e)
    (R : Rect s) (hR : ∀ a, R.stride a = 1) (sem : DmaSem sig) : sProp (MT nD τ sig Unit (Elt F) ℕ (Pipeline.UD sig nD τ) ℕ) :=
  Flight countersEmb (c : Thread nD τ) (.dma sem) () (dst.slice R hR).view.dmaCredit iprop(pc c dst X R hR ∗ pc c src X R hR)

theorem fl_congr {sp sp' : Space} {s : Shape} {e : EltTy} (src : Memref sig .tc sp s e) (dst : Memref sig .tc sp' s e) (X : s.Idx → Elt F e)
    {R R' : Rect s} (h : R = R') (hR : ∀ a, R.stride a = 1) (hR' : ∀ a, R'.stride a = 1) {sem sem' : DmaSem sig} (hs : sem = sem') :
    fl c src dst X R hR sem = fl c src dst X R' hR' sem' := by subst h; subst hs; rfl

/-- A counter at zero. -/
def sv (sem : DmaSem sig) : sProp (MT nD τ sig Unit (Elt F) ℕ (Pipeline.UD sig nD τ) ℕ) := semVal ((c : Thread nD τ), SemLoc.dma sem) 0

/-- What the core owes: nothing, having waited for whatever it has. -/
def due : sProp (MT nD τ sig Unit (Elt F) ℕ (Pipeline.UD sig nD τ) ℕ) := iprop(∃ W, owes (c : Thread nD τ) 0 W)

theorem wp_start {sp sp' : Space} {s : Shape} {e : EltTy} (src : Memref sig .tc sp s e) (dst : Memref sig .tc sp' s e)
    (X Y : s.Idx → Elt F e) (R R' : Rect s) (hR : ∀ a, R.stride a = 1) (hR' : ∀ a, R'.stride a = 1) (hRR : R' = R) (sem sem' : DmaSem sig) (hsem : sem' = sem)
    {h1 : (src.slice R' hR').view.WordExact} {h2 : (dst.slice R' hR').view.WordExact} {h3 : DmaTarget.Typed (nD := nD) (p := Proc.tc) sp (.dma sem') (.here (dst.slice R' hR'))}
    (hN : 0 < (dst.slice R' hR').view.dmaCredit) {k : PUnit → Prog (TpuEff nD τ sig (Elt F) Λ₀ .tc) α} :
    iprop(pc c src X R hR ∗ pc c dst Y R hR ∗ sv c sem)
      ⊢ iprop((fl c src dst X R hR sem -∗ WP c (k ⟨⟩) Q)
        -∗ WP c (.op (.enqueueDma (src.slice R' hR') (.here (dst.slice R' hR')) (.dma sem') h1 h2 h3) k) Q) := by
  subst hRR; subst hsem
  unfold fl pc sv
  iintro ⟨Hs, Hd, Hv⟩ Hk
  iapply (wp_copy Variants.none (c : Thread nD τ) none countersEmb (src.slice R' hR') (dst.slice R' hR') sem' fullShare _ _ () _ rfl hN) $$ [Hs Hd Hv]
  · isplitl [Hs]; · iexact Hs
    isplitl [Hd]; · iexact Hd
    iexact Hv
  iintro HF
  iapply Hk
  iexact HF

theorem wp_await {sp sp' : Space} {s : Shape} {e : EltTy} (src : Memref sig .tc sp s e) (dst : Memref sig .tc sp' s e)
    (X : s.Idx → Elt F e) (R R' : Rect s) (hR : ∀ a, R.stride a = 1) (hR' : ∀ a, R'.stride a = 1) (hRR : R' = R) (sem sem' : DmaSem sig) (hsem : sem' = sem)
    {h1 : (src.slice R' hR').view.WordExact} {h2 : (dst.slice R' hR').view.WordExact}
    {k : PUnit → Prog (TpuEff nD τ sig (Elt F) Λ₀ .tc) α} :
    iprop(fl c src dst X R hR sem ∗ due c)
      ⊢ iprop((iprop(pc c dst X R hR ∗ pc c src X R hR ∗ sv c sem ∗ due c) -∗ WP c (k ⟨⟩) Q)
        -∗ WP c (.op (.waitDma2 sem' (src.slice R' hR') (dst.slice R' hR') h1 h2) k) Q) := by
  subst hRR; subst hsem
  unfold due fl pc sv
  iintro ⟨HF, %W, HO⟩ Hk
  iapply (wp_waitLocal countersEmb Variants.none (c : Thread nD τ) none () rfl) $$ [HF HO]
  · isplitl [HF]; · iexact HF
    iexact HO
  iintro ⟨⟨Hd, Hs⟩, Hv, HO⟩
  iapply Hk
  isplitl [Hd]; · iexact Hd
  isplitl [Hs]; · iexact Hs
  isplitl [Hv]; · iexact Hv
  iexists (insert (SemLoc.dma sem', ()) W)
  iexact HO

/-! ## The eight groups -/

/-- Columns of activations, and rows of weights, in a group. -/
abbrev xLen (g : Fin 8) : ℕ := if g.val = 7 then 384 else 1024
/-- Rows of scales in a group. -/
abbrev sLen (g : Fin 8) : ℕ := if g.val = 7 then 24 else 64

theorem xR_inb (g : Fin 8) (h : Fin 2) : ∀ a, (![0, 7552 * h.val + 1024 * g.val] : Fin 2 → ℕ) a + (![128, xLen g] : Fin 2 → ℕ) a ≤ S128x15104.size a := by
  revert g h; decide
theorem sR_inb (g : Fin 8) (h : Fin 2) : ∀ a, (![472 * h.val + 64 * g.val, 0] : Fin 2 → ℕ) a + (![sLen g, 3840] : Fin 2 → ℕ) a ≤ S944x3840.size a := by
  revert g h; decide
theorem wR_inb (g : Fin 8) : ∀ a, (![1024 * g.val, 0] : Fin 2 → ℕ) a + (![xLen g, 3840] : Fin 2 → ℕ) a ≤ S7552x3840.size a := by
  revert g; decide

/-- The columns of activations of group `g`, half `h`. -/
abbrev xR (g : Fin 8) (h : Fin 2) : Rect S128x15104 := Rect.unit ![0, 7552 * h.val + 1024 * g.val] ![128, xLen g] (xR_inb g h)
/-- The rows of scales of group `g`, half `h`. -/
abbrev sR (g : Fin 8) (h : Fin 2) : Rect S944x3840 := Rect.unit ![472 * h.val + 64 * g.val, 0] ![sLen g, 3840] (sR_inb g h)
/-- The rows of packed weights of group `g`. -/
abbrev wR (g : Fin 8) : Rect S7552x3840 := Rect.unit ![1024 * g.val, 0] ![xLen g, 3840] (wR_inb g)

/-- The semaphores of the groups, -/
def semG (g : Fin 8) (i : Fin 5) : DmaSem sig := (⟨1 + 5 * g.val + i.val, by omega⟩ : Fin 56)
/-- of the results. -/
def semY (t : Fin 15) : DmaSem sig := (⟨41 + t.val, by omega⟩ : Fin 56)

variable (arg0 : Memref sig .tc .hbm S128x15104 .bf16) (arg1 : Memref sig .tc .hbm S7552x3840 .i8) (arg2 : Memref sig .tc .hbm S944x3840 .fp8e4m3)
variable (arg5 : Memref sig .tc .vmem S128x15104 .bf16) (arg6 : Memref sig .tc .vmem S7552x3840 .i8) (arg7 : Memref sig .tc .vmem S944x3840 .fp8e4m3)

/-- A group at rest: its pieces of the three arrays, the places they are copied to, five counters at zero. -/
def rest (X : S128x15104.Idx → Elt F .bf16) (S : S944x3840.Idx → Elt F .fp8e4m3) (W : S7552x3840.Idx → Elt F .i8)
    (X' : S128x15104.Idx → Elt F .bf16) (S' : S944x3840.Idx → Elt F .fp8e4m3) (W' : S7552x3840.Idx → Elt F .i8) (g : Fin 8) :
    sProp (MT nD τ sig Unit (Elt F) ℕ (Pipeline.UD sig nD τ) ℕ) :=
  iprop((pc c arg0 X (xR g 0) (fun _ => rfl) ∗ pc c arg0 X (xR g 1) (fun _ => rfl) ∗ pc c arg2 S (sR g 0) (fun _ => rfl)
      ∗ pc c arg2 S (sR g 1) (fun _ => rfl) ∗ pc c arg1 W (wR g) (fun _ => rfl))
    ∗ (pc c arg5 X' (xR g 0) (fun _ => rfl) ∗ pc c arg5 X' (xR g 1) (fun _ => rfl) ∗ pc c arg7 S' (sR g 0) (fun _ => rfl)
      ∗ pc c arg7 S' (sR g 1) (fun _ => rfl) ∗ pc c arg6 W' (wR g) (fun _ => rfl))
    ∗ (sv c (semG g 0) ∗ sv c (semG g 1) ∗ sv c (semG g 2) ∗ sv c (semG g 3) ∗ sv c (semG g 4)))

/-- A group in flight. -/
def fly (X : S128x15104.Idx → Elt F .bf16) (S : S944x3840.Idx → Elt F .fp8e4m3) (W : S7552x3840.Idx → Elt F .i8) (g : Fin 8) :
    sProp (MT nD τ sig Unit (Elt F) ℕ (Pipeline.UD sig nD τ) ℕ) :=
  iprop(fl c arg0 arg5 X (xR g 0) (fun _ => rfl) (semG g 0) ∗ fl c arg0 arg5 X (xR g 1) (fun _ => rfl) (semG g 1)
    ∗ fl c arg2 arg7 S (sR g 0) (fun _ => rfl) (semG g 2) ∗ fl c arg2 arg7 S (sR g 1) (fun _ => rfl) (semG g 3)
    ∗ fl c arg1 arg6 W (wR g) (fun _ => rfl) (semG g 4))

theorem wp_fetchG (harg0 : arg0.IsWhole) (harg1 : arg1.IsWhole) (harg2 : arg2.IsWhole) (harg5 : arg5.IsWhole) (harg6 : arg6.IsWhole) (harg7 : arg7.IsWhole) (arg10 : DmaSems sig S7x5) (g : Fin 8)
    (k0 : Fin 2 → Nat) (hk0 : ∀ a, k0 a + S1x1.size a ≤ S7x5.size a)
    (k1 : Fin 2 → Nat) (hk1 : ∀ a, k1 a + S1x1.size a ≤ S7x5.size a)
    (k2 : Fin 2 → Nat) (hk2 : ∀ a, k2 a + S1x1.size a ≤ S7x5.size a)
    (k3 : Fin 2 → Nat) (hk3 : ∀ a, k3 a + S1x1.size a ≤ S7x5.size a)
    (k4 : Fin 2 → Nat) (hk4 : ∀ a, k4 a + S1x1.size a ≤ S7x5.size a)
    (ox : Fin 2 → Nat) (hox : ∀ a, ox a + S128x1024.size a ≤ S128x15104.size a) (wox : (Rect.unit (s := S128x15104) ox S128x1024.size hox).WholeWords (EltTy.packing .bf16))
    (oX : Fin 2 → Nat) (hoX : ∀ a, oX a + S128x1024.size a ≤ S128x15104.size a) (woX : (Rect.unit (s := S128x15104) oX S128x1024.size hoX).WholeWords (EltTy.packing .bf16))
    (os : Fin 2 → Nat) (hos : ∀ a, os a + S64x3840.size a ≤ S944x3840.size a) (wos : (Rect.unit (s := S944x3840) os S64x3840.size hos).WholeWords (EltTy.packing .fp8e4m3))
    (oS : Fin 2 → Nat) (hoS : ∀ a, oS a + S64x3840.size a ≤ S944x3840.size a) (woS : (Rect.unit (s := S944x3840) oS S64x3840.size hoS).WholeWords (EltTy.packing .fp8e4m3))
    (ow : Fin 2 → Nat) (how : ∀ a, ow a + S1024x3840.size a ≤ S7552x3840.size a) (wow : (Rect.unit (s := S7552x3840) ow S1024x3840.size how).WholeWords (EltTy.packing .i8))
    (es0 : cell5 arg10 k0 hk0 = semG g 0)
    (es1 : cell5 arg10 k1 hk1 = semG g 1)
    (es2 : cell5 arg10 k2 hk2 = semG g 2)
    (es3 : cell5 arg10 k3 hk3 = semG g 3)
    (es4 : cell5 arg10 k4 hk4 = semG g 4)
    (er0 : Rect.unit (s := S128x15104) ox S128x1024.size hox = xR g 0)
    (er1 : Rect.unit (s := S128x15104) oX S128x1024.size hoX = xR g 1)
    (er2 : Rect.unit (s := S944x3840) os S64x3840.size hos = sR g 0)
    (er3 : Rect.unit (s := S944x3840) oS S64x3840.size hoS = sR g 1)
    (er4 : Rect.unit (s := S7552x3840) ow S1024x3840.size how = wR g)
    (ec0 : 0 < (arg5.slice (Rect.unit (s := S128x15104) ox S128x1024.size hox) (fun _ => rfl)).view.dmaCredit)
    (ec1 : 0 < (arg5.slice (Rect.unit (s := S128x15104) oX S128x1024.size hoX) (fun _ => rfl)).view.dmaCredit)
    (ec2 : 0 < (arg7.slice (Rect.unit (s := S944x3840) os S64x3840.size hos) (fun _ => rfl)).view.dmaCredit)
    (ec3 : 0 < (arg7.slice (Rect.unit (s := S944x3840) oS S64x3840.size hoS) (fun _ => rfl)).view.dmaCredit)
    (ec4 : 0 < (arg6.slice (Rect.unit (s := S7552x3840) ow S1024x3840.size how) (fun _ => rfl)).view.dmaCredit)
    (X : S128x15104.Idx → Elt F .bf16) (S : S944x3840.Idx → Elt F .fp8e4m3) (W : S7552x3840.Idx → Elt F .i8)
    (X' : S128x15104.Idx → Elt F .bf16) (S' : S944x3840.Idx → Elt F .fp8e4m3) (W' : S7552x3840.Idx → Elt F .i8)
    {k : PUnit → Prog (TpuEff nD τ sig (Elt F) Λ₀ .tc) α} :
    rest c arg0 arg1 arg2 arg5 arg6 arg7 X S W X' S' W' g ⊢ iprop((fly c arg0 arg1 arg2 arg5 arg6 arg7 X S W g -∗ WP c (k ⟨⟩) Q)
      -∗ WP c (fetchG (F := F) arg0 harg0 arg1 harg1 arg2 harg2 arg5 harg5 arg6 harg6 arg7 harg7 arg10 k0 hk0 k1 hk1 k2 hk2 k3 hk3 k4 hk4 ox hox wox oX hoX woX os hos wos oS hoS woS ow how wow >>= k) Q) := by
  unfold fetchG rest fly
  simp only [Prog.bind_lift, Prog.bind_op, bind_assoc, pure_bind]
  iintro ⟨⟨A0, A1, A2, A3, A4⟩, ⟨B0, B1, B2, B3, B4⟩, V0, V1, V2, V3, V4⟩ Hk
  iapply (wp_start c arg0 arg5 X X' (xR g 0) (Rect.unit (s := S128x15104) ox S128x1024.size hox) (fun _ => rfl) (fun _ => rfl) er0 (semG g 0) (cell5 arg10 k0 hk0) es0 ec0) $$ [A0 B0 V0]
  · isplitl [A0]; · iexact A0
    isplitl [B0]; · iexact B0
    iexact V0
  iintro H0
  iapply (wp_start c arg0 arg5 X X' (xR g 1) (Rect.unit (s := S128x15104) oX S128x1024.size hoX) (fun _ => rfl) (fun _ => rfl) er1 (semG g 1) (cell5 arg10 k1 hk1) es1 ec1) $$ [A1 B1 V1]
  · isplitl [A1]; · iexact A1
    isplitl [B1]; · iexact B1
    iexact V1
  iintro H1
  iapply (wp_start c arg2 arg7 S S' (sR g 0) (Rect.unit (s := S944x3840) os S64x3840.size hos) (fun _ => rfl) (fun _ => rfl) er2 (semG g 2) (cell5 arg10 k2 hk2) es2 ec2) $$ [A2 B2 V2]
  · isplitl [A2]; · iexact A2
    isplitl [B2]; · iexact B2
    iexact V2
  iintro H2
  iapply (wp_start c arg2 arg7 S S' (sR g 1) (Rect.unit (s := S944x3840) oS S64x3840.size hoS) (fun _ => rfl) (fun _ => rfl) er3 (semG g 3) (cell5 arg10 k3 hk3) es3 ec3) $$ [A3 B3 V3]
  · isplitl [A3]; · iexact A3
    isplitl [B3]; · iexact B3
    iexact V3
  iintro H3
  iapply (wp_start c arg1 arg6 W W' (wR g) (Rect.unit (s := S7552x3840) ow S1024x3840.size how) (fun _ => rfl) (fun _ => rfl) er4 (semG g 4) (cell5 arg10 k4 hk4) es4 ec4) $$ [A4 B4 V4]
  · isplitl [A4]; · iexact A4
    isplitl [B4]; · iexact B4
    iexact V4
  iintro H4
  iapply Hk
  isplitl [H0]; · iexact H0
  isplitl [H1]; · iexact H1
  isplitl [H2]; · iexact H2
  isplitl [H3]; · iexact H3
  iexact H4

theorem wp_fetchT (harg0 : arg0.IsWhole) (harg1 : arg1.IsWhole) (harg2 : arg2.IsWhole) (harg5 : arg5.IsWhole) (harg6 : arg6.IsWhole) (harg7 : arg7.IsWhole) (arg11 : DmaSems sig S5) (g : Fin 8)
    (k0 : Fin 1 → Nat) (hk0 : ∀ a, k0 a + S1.size a ≤ S5.size a)
    (k1 : Fin 1 → Nat) (hk1 : ∀ a, k1 a + S1.size a ≤ S5.size a)
    (k2 : Fin 1 → Nat) (hk2 : ∀ a, k2 a + S1.size a ≤ S5.size a)
    (k3 : Fin 1 → Nat) (hk3 : ∀ a, k3 a + S1.size a ≤ S5.size a)
    (k4 : Fin 1 → Nat) (hk4 : ∀ a, k4 a + S1.size a ≤ S5.size a)
    (ox : Fin 2 → Nat) (hox : ∀ a, ox a + S128x384.size a ≤ S128x15104.size a) (wox : (Rect.unit (s := S128x15104) ox S128x384.size hox).WholeWords (EltTy.packing .bf16))
    (oX : Fin 2 → Nat) (hoX : ∀ a, oX a + S128x384.size a ≤ S128x15104.size a) (woX : (Rect.unit (s := S128x15104) oX S128x384.size hoX).WholeWords (EltTy.packing .bf16))
    (os : Fin 2 → Nat) (hos : ∀ a, os a + S24x3840.size a ≤ S944x3840.size a) (wos : (Rect.unit (s := S944x3840) os S24x3840.size hos).WholeWords (EltTy.packing .fp8e4m3))
    (oS : Fin 2 → Nat) (hoS : ∀ a, oS a + S24x3840.size a ≤ S944x3840.size a) (woS : (Rect.unit (s := S944x3840) oS S24x3840.size hoS).WholeWords (EltTy.packing .fp8e4m3))
    (ow : Fin 2 → Nat) (how : ∀ a, ow a + S384x3840.size a ≤ S7552x3840.size a) (wow : (Rect.unit (s := S7552x3840) ow S384x3840.size how).WholeWords (EltTy.packing .i8))
    (es0 : cellT arg11 k0 hk0 = semG g 0)
    (es1 : cellT arg11 k1 hk1 = semG g 1)
    (es2 : cellT arg11 k2 hk2 = semG g 2)
    (es3 : cellT arg11 k3 hk3 = semG g 3)
    (es4 : cellT arg11 k4 hk4 = semG g 4)
    (er0 : Rect.unit (s := S128x15104) ox S128x384.size hox = xR g 0)
    (er1 : Rect.unit (s := S128x15104) oX S128x384.size hoX = xR g 1)
    (er2 : Rect.unit (s := S944x3840) os S24x3840.size hos = sR g 0)
    (er3 : Rect.unit (s := S944x3840) oS S24x3840.size hoS = sR g 1)
    (er4 : Rect.unit (s := S7552x3840) ow S384x3840.size how = wR g)
    (ec0 : 0 < (arg5.slice (Rect.unit (s := S128x15104) ox S128x384.size hox) (fun _ => rfl)).view.dmaCredit)
    (ec1 : 0 < (arg5.slice (Rect.unit (s := S128x15104) oX S128x384.size hoX) (fun _ => rfl)).view.dmaCredit)
    (ec2 : 0 < (arg7.slice (Rect.unit (s := S944x3840) os S24x3840.size hos) (fun _ => rfl)).view.dmaCredit)
    (ec3 : 0 < (arg7.slice (Rect.unit (s := S944x3840) oS S24x3840.size hoS) (fun _ => rfl)).view.dmaCredit)
    (ec4 : 0 < (arg6.slice (Rect.unit (s := S7552x3840) ow S384x3840.size how) (fun _ => rfl)).view.dmaCredit)
    (X : S128x15104.Idx → Elt F .bf16) (S : S944x3840.Idx → Elt F .fp8e4m3) (W : S7552x3840.Idx → Elt F .i8)
    (X' : S128x15104.Idx → Elt F .bf16) (S' : S944x3840.Idx → Elt F .fp8e4m3) (W' : S7552x3840.Idx → Elt F .i8)
    {k : PUnit → Prog (TpuEff nD τ sig (Elt F) Λ₀ .tc) α} :
    rest c arg0 arg1 arg2 arg5 arg6 arg7 X S W X' S' W' g ⊢ iprop((fly c arg0 arg1 arg2 arg5 arg6 arg7 X S W g -∗ WP c (k ⟨⟩) Q)
      -∗ WP c (fetchT (F := F) arg0 harg0 arg1 harg1 arg2 harg2 arg5 harg5 arg6 harg6 arg7 harg7 arg11 k0 hk0 k1 hk1 k2 hk2 k3 hk3 k4 hk4 ox hox wox oX hoX woX os hos wos oS hoS woS ow how wow >>= k) Q) := by
  unfold fetchT rest fly
  simp only [Prog.bind_lift, Prog.bind_op, bind_assoc, pure_bind]
  iintro ⟨⟨A0, A1, A2, A3, A4⟩, ⟨B0, B1, B2, B3, B4⟩, V0, V1, V2, V3, V4⟩ Hk
  iapply (wp_start c arg0 arg5 X X' (xR g 0) (Rect.unit (s := S128x15104) ox S128x384.size hox) (fun _ => rfl) (fun _ => rfl) er0 (semG g 0) (cellT arg11 k0 hk0) es0 ec0) $$ [A0 B0 V0]
  · isplitl [A0]; · iexact A0
    isplitl [B0]; · iexact B0
    iexact V0
  iintro H0
  iapply (wp_start c arg0 arg5 X X' (xR g 1) (Rect.unit (s := S128x15104) oX S128x384.size hoX) (fun _ => rfl) (fun _ => rfl) er1 (semG g 1) (cellT arg11 k1 hk1) es1 ec1) $$ [A1 B1 V1]
  · isplitl [A1]; · iexact A1
    isplitl [B1]; · iexact B1
    iexact V1
  iintro H1
  iapply (wp_start c arg2 arg7 S S' (sR g 0) (Rect.unit (s := S944x3840) os S24x3840.size hos) (fun _ => rfl) (fun _ => rfl) er2 (semG g 2) (cellT arg11 k2 hk2) es2 ec2) $$ [A2 B2 V2]
  · isplitl [A2]; · iexact A2
    isplitl [B2]; · iexact B2
    iexact V2
  iintro H2
  iapply (wp_start c arg2 arg7 S S' (sR g 1) (Rect.unit (s := S944x3840) oS S24x3840.size hoS) (fun _ => rfl) (fun _ => rfl) er3 (semG g 3) (cellT arg11 k3 hk3) es3 ec3) $$ [A3 B3 V3]
  · isplitl [A3]; · iexact A3
    isplitl [B3]; · iexact B3
    iexact V3
  iintro H3
  iapply (wp_start c arg1 arg6 W W' (wR g) (Rect.unit (s := S7552x3840) ow S384x3840.size how) (fun _ => rfl) (fun _ => rfl) er4 (semG g 4) (cellT arg11 k4 hk4) es4 ec4) $$ [A4 B4 V4]
  · isplitl [A4]; · iexact A4
    isplitl [B4]; · iexact B4
    iexact V4
  iintro H4
  iapply Hk
  isplitl [H0]; · iexact H0
  isplitl [H1]; · iexact H1
  isplitl [H2]; · iexact H2
  isplitl [H3]; · iexact H3
  iexact H4

theorem wp_awaitG (harg0 : arg0.IsWhole) (harg1 : arg1.IsWhole) (harg2 : arg2.IsWhole) (harg5 : arg5.IsWhole) (harg6 : arg6.IsWhole) (harg7 : arg7.IsWhole) (arg10 : DmaSems sig S7x5) (g : Fin 8)
    (k0 : Fin 2 → Nat) (hk0 : ∀ a, k0 a + S1x1.size a ≤ S7x5.size a)
    (k1 : Fin 2 → Nat) (hk1 : ∀ a, k1 a + S1x1.size a ≤ S7x5.size a)
    (k2 : Fin 2 → Nat) (hk2 : ∀ a, k2 a + S1x1.size a ≤ S7x5.size a)
    (k3 : Fin 2 → Nat) (hk3 : ∀ a, k3 a + S1x1.size a ≤ S7x5.size a)
    (k4 : Fin 2 → Nat) (hk4 : ∀ a, k4 a + S1x1.size a ≤ S7x5.size a)
    (ox : Fin 2 → Nat) (hox : ∀ a, ox a + S128x1024.size a ≤ S128x15104.size a) (wox : (Rect.unit (s := S128x15104) ox S128x1024.size hox).WholeWords (EltTy.packing .bf16))
    (oX : Fin 2 → Nat) (hoX : ∀ a, oX a + S128x1024.size a ≤ S128x15104.size a) (woX : (Rect.unit (s := S128x15104) oX S128x1024.size hoX).WholeWords (EltTy.packing .bf16))
    (os : Fin 2 → Nat) (hos : ∀ a, os a + S64x3840.size a ≤ S944x3840.size a) (wos : (Rect.unit (s := S944x3840) os S64x3840.size hos).WholeWords (EltTy.packing .fp8e4m3))
    (oS : Fin 2 → Nat) (hoS : ∀ a, oS a + S64x3840.size a ≤ S944x3840.size a) (woS : (Rect.unit (s := S944x3840) oS S64x3840.size hoS).WholeWords (EltTy.packing .fp8e4m3))
    (ow : Fin 2 → Nat) (how : ∀ a, ow a + S1024x3840.size a ≤ S7552x3840.size a) (wow : (Rect.unit (s := S7552x3840) ow S1024x3840.size how).WholeWords (EltTy.packing .i8))
    (es0 : cell5 arg10 k0 hk0 = semG g 0)
    (es1 : cell5 arg10 k1 hk1 = semG g 1)
    (es2 : cell5 arg10 k2 hk2 = semG g 2)
    (es3 : cell5 arg10 k3 hk3 = semG g 3)
    (es4 : cell5 arg10 k4 hk4 = semG g 4)
    (er0 : Rect.unit (s := S128x15104) ox S128x1024.size hox = xR g 0)
    (er1 : Rect.unit (s := S128x15104) oX S128x1024.size hoX = xR g 1)
    (er2 : Rect.unit (s := S944x3840) os S64x3840.size hos = sR g 0)
    (er3 : Rect.unit (s := S944x3840) oS S64x3840.size hoS = sR g 1)
    (er4 : Rect.unit (s := S7552x3840) ow S1024x3840.size how = wR g)
    (X : S128x15104.Idx → Elt F .bf16) (S : S944x3840.Idx → Elt F .fp8e4m3) (W : S7552x3840.Idx → Elt F .i8)
    {k : PUnit → Prog (TpuEff nD τ sig (Elt F) Λ₀ .tc) α} :
    iprop(fly c arg0 arg1 arg2 arg5 arg6 arg7 X S W g ∗ due c) ⊢ iprop((iprop(rest c arg0 arg1 arg2 arg5 arg6 arg7 X S W X S W g ∗ due c) -∗ WP c (k ⟨⟩) Q)
      -∗ WP c (awaitG (F := F) arg0 harg0 arg1 harg1 arg2 harg2 arg5 harg5 arg6 harg6 arg7 harg7 arg10 k0 hk0 k1 hk1 k2 hk2 k3 hk3 k4 hk4 ox hox wox oX hoX woX os hos wos oS hoS woS ow how wow >>= k) Q) := by
  unfold awaitG rest fly
  simp only [Prog.bind_lift, Prog.bind_op, bind_assoc, pure_bind]
  iintro ⟨⟨H0, H1, H2, H3, H4⟩, HO⟩ Hk
  iapply (wp_await c arg0 arg5 X (xR g 0) (Rect.unit (s := S128x15104) ox S128x1024.size hox) (fun _ => rfl) (fun _ => rfl) er0 (semG g 0) (cell5 arg10 k0 hk0) es0) $$ [H0 HO]
  · isplitl [H0]; · iexact H0
    iexact HO
  iintro ⟨B0, A0, V0, HO⟩
  iapply (wp_await c arg0 arg5 X (xR g 1) (Rect.unit (s := S128x15104) oX S128x1024.size hoX) (fun _ => rfl) (fun _ => rfl) er1 (semG g 1) (cell5 arg10 k1 hk1) es1) $$ [H1 HO]
  · isplitl [H1]; · iexact H1
    iexact HO
  iintro ⟨B1, A1, V1, HO⟩
  iapply (wp_await c arg2 arg7 S (sR g 0) (Rect.unit (s := S944x3840) os S64x3840.size hos) (fun _ => rfl) (fun _ => rfl) er2 (semG g 2) (cell5 arg10 k2 hk2) es2) $$ [H2 HO]
  · isplitl [H2]; · iexact H2
    iexact HO
  iintro ⟨B2, A2, V2, HO⟩
  iapply (wp_await c arg2 arg7 S (sR g 1) (Rect.unit (s := S944x3840) oS S64x3840.size hoS) (fun _ => rfl) (fun _ => rfl) er3 (semG g 3) (cell5 arg10 k3 hk3) es3) $$ [H3 HO]
  · isplitl [H3]; · iexact H3
    iexact HO
  iintro ⟨B3, A3, V3, HO⟩
  iapply (wp_await c arg1 arg6 W (wR g) (Rect.unit (s := S7552x3840) ow S1024x3840.size how) (fun _ => rfl) (fun _ => rfl) er4 (semG g 4) (cell5 arg10 k4 hk4) es4) $$ [H4 HO]
  · isplitl [H4]; · iexact H4
    iexact HO
  iintro ⟨B4, A4, V4, HO⟩
  iapply Hk
  isplitr [HO]
  · isplitl [A0 A1 A2 A3 A4]
    · isplitl [A0]; · iexact A0
      isplitl [A1]; · iexact A1
      isplitl [A2]; · iexact A2
      isplitl [A3]; · iexact A3
      iexact A4
    isplitl [B0 B1 B2 B3 B4]
    · isplitl [B0]; · iexact B0
      isplitl [B1]; · iexact B1
      isplitl [B2]; · iexact B2
      isplitl [B3]; · iexact B3
      iexact B4
    isplitl [V0]; · iexact V0
    isplitl [V1]; · iexact V1
    isplitl [V2]; · iexact V2
    isplitl [V3]; · iexact V3
    iexact V4
  iexact HO

theorem wp_awaitT (harg0 : arg0.IsWhole) (harg1 : arg1.IsWhole) (harg2 : arg2.IsWhole) (harg5 : arg5.IsWhole) (harg6 : arg6.IsWhole) (harg7 : arg7.IsWhole) (arg11 : DmaSems sig S5) (g : Fin 8)
    (k0 : Fin 1 → Nat) (hk0 : ∀ a, k0 a + S1.size a ≤ S5.size a)
    (k1 : Fin 1 → Nat) (hk1 : ∀ a, k1 a + S1.size a ≤ S5.size a)
    (k2 : Fin 1 → Nat) (hk2 : ∀ a, k2 a + S1.size a ≤ S5.size a)
    (k3 : Fin 1 → Nat) (hk3 : ∀ a, k3 a + S1.size a ≤ S5.size a)
    (k4 : Fin 1 → Nat) (hk4 : ∀ a, k4 a + S1.size a ≤ S5.size a)
    (ox : Fin 2 → Nat) (hox : ∀ a, ox a + S128x384.size a ≤ S128x15104.size a) (wox : (Rect.unit (s := S128x15104) ox S128x384.size hox).WholeWords (EltTy.packing .bf16))
    (oX : Fin 2 → Nat) (hoX : ∀ a, oX a + S128x384.size a ≤ S128x15104.size a) (woX : (Rect.unit (s := S128x15104) oX S128x384.size hoX).WholeWords (EltTy.packing .bf16))
    (os : Fin 2 → Nat) (hos : ∀ a, os a + S24x3840.size a ≤ S944x3840.size a) (wos : (Rect.unit (s := S944x3840) os S24x3840.size hos).WholeWords (EltTy.packing .fp8e4m3))
    (oS : Fin 2 → Nat) (hoS : ∀ a, oS a + S24x3840.size a ≤ S944x3840.size a) (woS : (Rect.unit (s := S944x3840) oS S24x3840.size hoS).WholeWords (EltTy.packing .fp8e4m3))
    (ow : Fin 2 → Nat) (how : ∀ a, ow a + S384x3840.size a ≤ S7552x3840.size a) (wow : (Rect.unit (s := S7552x3840) ow S384x3840.size how).WholeWords (EltTy.packing .i8))
    (es0 : cellT arg11 k0 hk0 = semG g 0)
    (es1 : cellT arg11 k1 hk1 = semG g 1)
    (es2 : cellT arg11 k2 hk2 = semG g 2)
    (es3 : cellT arg11 k3 hk3 = semG g 3)
    (es4 : cellT arg11 k4 hk4 = semG g 4)
    (er0 : Rect.unit (s := S128x15104) ox S128x384.size hox = xR g 0)
    (er1 : Rect.unit (s := S128x15104) oX S128x384.size hoX = xR g 1)
    (er2 : Rect.unit (s := S944x3840) os S24x3840.size hos = sR g 0)
    (er3 : Rect.unit (s := S944x3840) oS S24x3840.size hoS = sR g 1)
    (er4 : Rect.unit (s := S7552x3840) ow S384x3840.size how = wR g)
    (X : S128x15104.Idx → Elt F .bf16) (S : S944x3840.Idx → Elt F .fp8e4m3) (W : S7552x3840.Idx → Elt F .i8)
    {k : PUnit → Prog (TpuEff nD τ sig (Elt F) Λ₀ .tc) α} :
    iprop(fly c arg0 arg1 arg2 arg5 arg6 arg7 X S W g ∗ due c) ⊢ iprop((iprop(rest c arg0 arg1 arg2 arg5 arg6 arg7 X S W X S W g ∗ due c) -∗ WP c (k ⟨⟩) Q)
      -∗ WP c (awaitT (F := F) arg0 harg0 arg1 harg1 arg2 harg2 arg5 harg5 arg6 harg6 arg7 harg7 arg11 k0 hk0 k1 hk1 k2 hk2 k3 hk3 k4 hk4 ox hox wox oX hoX woX os hos wos oS hoS woS ow how wow >>= k) Q) := by
  unfold awaitT rest fly
  simp only [Prog.bind_lift, Prog.bind_op, bind_assoc, pure_bind]
  iintro ⟨⟨H0, H1, H2, H3, H4⟩, HO⟩ Hk
  iapply (wp_await c arg0 arg5 X (xR g 0) (Rect.unit (s := S128x15104) ox S128x384.size hox) (fun _ => rfl) (fun _ => rfl) er0 (semG g 0) (cellT arg11 k0 hk0) es0) $$ [H0 HO]
  · isplitl [H0]; · iexact H0
    iexact HO
  iintro ⟨B0, A0, V0, HO⟩
  iapply (wp_await c arg0 arg5 X (xR g 1) (Rect.unit (s := S128x15104) oX S128x384.size hoX) (fun _ => rfl) (fun _ => rfl) er1 (semG g 1) (cellT arg11 k1 hk1) es1) $$ [H1 HO]
  · isplitl [H1]; · iexact H1
    iexact HO
  iintro ⟨B1, A1, V1, HO⟩
  iapply (wp_await c arg2 arg7 S (sR g 0) (Rect.unit (s := S944x3840) os S24x3840.size hos) (fun _ => rfl) (fun _ => rfl) er2 (semG g 2) (cellT arg11 k2 hk2) es2) $$ [H2 HO]
  · isplitl [H2]; · iexact H2
    iexact HO
  iintro ⟨B2, A2, V2, HO⟩
  iapply (wp_await c arg2 arg7 S (sR g 1) (Rect.unit (s := S944x3840) oS S24x3840.size hoS) (fun _ => rfl) (fun _ => rfl) er3 (semG g 3) (cellT arg11 k3 hk3) es3) $$ [H3 HO]
  · isplitl [H3]; · iexact H3
    iexact HO
  iintro ⟨B3, A3, V3, HO⟩
  iapply (wp_await c arg1 arg6 W (wR g) (Rect.unit (s := S7552x3840) ow S384x3840.size how) (fun _ => rfl) (fun _ => rfl) er4 (semG g 4) (cellT arg11 k4 hk4) es4) $$ [H4 HO]
  · isplitl [H4]; · iexact H4
    iexact HO
  iintro ⟨B4, A4, V4, HO⟩
  iapply Hk
  isplitr [HO]
  · isplitl [A0 A1 A2 A3 A4]
    · isplitl [A0]; · iexact A0
      isplitl [A1]; · iexact A1
      isplitl [A2]; · iexact A2
      isplitl [A3]; · iexact A3
      iexact A4
    isplitl [B0 B1 B2 B3 B4]
    · isplitl [B0]; · iexact B0
      isplitl [B1]; · iexact B1
      isplitl [B2]; · iexact B2
      isplitl [B3]; · iexact B3
      iexact B4
    isplitl [V0]; · iexact V0
    isplitl [V1]; · iexact V1
    isplitl [V2]; · iexact V2
    isplitl [V3]; · iexact V3
    iexact V4
  iexact HO

end Cert.KernelIdeal
-- ==== Proof.IModel.lean ====
module

public import proofs.«01_k».proof.Proof.IRes
public import Idealize.ShloMosaic.Lib.Mxu.PassChain
public import Idealize.ShloMosaic.Lib.Pipeline.FrameBody

@[expose] public section

set_option synthInstance.maxSize 4096

noncomputable section

namespace Cert.KernelIdeal

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

/-! ## The contents of the accumulators -/

theorem fitsA (a : Fin 8) : Mxu.Fits (32 * a.val) 128 := by revert a; decide

/-- The sixteen accumulators: nothing, or a value. -/
abbrev Accs (F : FTy → Type) := Fin 2 → Fin 8 → Option (FVec F S128x256 .f32)

/-- A matrix unit with nothing staged whose accumulators are as `V` says. -/
structure Has (m : Mxu F) (V : Accs F) : Prop where
  reg : ∀ q r, m.reg q r = none
  dead : ∀ q a, V q a = none → ∀ r : Fin 128, m.live q (Mxu.row (fitsA a) r) = false
  alive : ∀ q a v, V q a = some v → (∀ r : Fin 128, m.live q (Mxu.row (fitsA a) r) = true) ∧ m.read q (32 * a.val) (fitsA a) = v

/-- A pass added to an accumulator. -/
def put (V : Accs F) (q : Fin 2) (a : Fin 8) (p : FVec F S128x256 .f32) : Accs F := fun q' a' =>
  if q' = q ∧ a' = a then some (match V q a with | none => p | some v => addf v p) else V q' a'

/-- An accumulator popped. -/
def drop (V : Accs F) (q : Fin 2) (a : Fin 8) : Accs F := fun q' a' => if q' = q ∧ a' = a then none else V q' a'

/-- What a pass of one weight tile deposits. -/
def passT (w : FVec F S256x256 .bf16) (x : FVec F S128x256 .bf16) : FVec F S128x256 .f32 :=
  Mxu.passOf false (w, x)

theorem row_ne (q q' : Fin 2) (a a' : Fin 8) (h : ¬ (q' = q ∧ a' = a)) (r : Fin 128) :
    ¬ (q' = q ∧ 4 * (32 * a.val) ≤ (Mxu.row (fitsA a') r).val ∧ (Mxu.row (fitsA a') r).val < 4 * (32 * a.val) + 128) := by
  rintro ⟨hq, h1, h2⟩
  refine h ⟨hq, Fin.ext ?_⟩
  have := r.isLt
  unfold Mxu.row at h1 h2
  simp only at h1 h2
  omega

theorem addr_ne (q q' : Fin 2) (a a' : Fin 8) (h : ¬ (q' = q ∧ a' = a)) :
    q' ≠ q ∨ 4 * (32 * a'.val) + 128 ≤ 4 * (32 * a.val) ∨ 4 * (32 * a.val) + 128 ≤ 4 * (32 * a'.val) := by
  by_cases hq : q' = q
  · right
    have : a'.val ≠ a.val := fun e => h ⟨hq, Fin.ext e⟩
    omega
  · exact .inl hq

theorem Has.uStep {m : Mxu F} {V : Accs F} (H : Has m V) (q : Fin 2) (a : Fin 8) (w : Vec F S128x256 .i8) (sl sh : Vec F S8x256 .fp8e4m3)
    (xl xh : Vec F S1x1x128x128 .bf16) :
    Has (uStep m q (32 * a.val) (fitsA a) w sl sh xl xh) (put V q a (passT (wTile w sl sh) (xTile xl xh))) := by
  have hr : ∀ q' r, (m.pushed q 0 false (wTile w sl sh)).reg q' r = none ∨ (q' = q ∧ r = 0) := by
    intro q' r
    by_cases h : q' = q ∧ r = 0
    · exact .inr h
    · exact .inl (by rw [Mxu.reg_pushed_ne (hne := h)]; exact H.reg _ _)
  refine ⟨?_, ?_, ?_⟩
  · intro q' r
    by_cases h : q' = q ∧ r = 0
    · obtain ⟨rfl, rfl⟩ := h
      exact Mxu.reg_accLhs ..
    · unfold Cert.KernelIdeal.uStep
      rw [Mxu.reg_accLhs_ne (hne := h), Mxu.reg_pushed_ne (hne := h)]; exact H.reg _ _
  · intro q' a' hv r
    unfold put at hv
    by_cases h : q' = q ∧ a' = a
    · rw [if_pos h] at hv; cases hv
    · rw [if_neg h] at hv
      unfold Cert.KernelIdeal.uStep
      rw [Mxu.live_accLhs, if_neg (row_ne q q' a a' h r), Mxu.live_pushed]
      exact H.dead _ _ hv r
  · intro q' a' v hv
    unfold put at hv
    by_cases h : q' = q ∧ a' = a
    · rw [if_pos h] at hv
      obtain ⟨rfl, rfl⟩ := h
      refine ⟨fun r => Mxu.live_accLhs_row .., ?_⟩
      cases hV : V q' a' with
      | none =>
        rw [hV] at hv
        have := Mxu.read_pushAcc_of_not_live q' 0 false _ (fitsA a') m (wTile w sl sh) (xTile xl xh) (H.reg _ _) (H.dead _ _ hV)
        exact this.trans (Option.some.inj hv)
      | some u =>
        rw [hV] at hv
        have := Mxu.read_pushAcc_of_live q' 0 false _ (fitsA a') m (wTile w sl sh) (xTile xl xh) (H.reg _ _) (H.alive _ _ _ hV).1
        rw [(H.alive _ _ _ hV).2] at this
        exact this.trans (Option.some.inj hv)
    · rw [if_neg h] at hv
      unfold Cert.KernelIdeal.uStep
      refine ⟨fun r => ?_, ?_⟩
      · rw [Mxu.live_accLhs, if_neg (row_ne q q' a a' h r), Mxu.live_pushed]
        exact (H.alive _ _ _ hv).1 r
      · rw [Mxu.read_accLhs_ne (hne := addr_ne q q' a a' h), Mxu.read_pushed]
        exact (H.alive _ _ _ hv).2

theorem Has.pop {m : Mxu F} {V : Accs F} (H : Has m V) (q : Fin 2) (a : Fin 8) : Has (m.pop q (32 * a.val) 128 (fitsA a)) (drop V q a) := by
  refine ⟨fun q' r => H.reg q' r, ?_, ?_⟩
  · intro q' a' hv r
    by_cases h : q' = q ∧ a' = a
    · obtain ⟨rfl, rfl⟩ := h
      exact Mxu.live_pop_row ..
    · unfold drop at hv; rw [if_neg h] at hv
      rw [Mxu.live_pop, if_neg (row_ne q q' a a' h r)]
      exact H.dead _ _ hv r
  · intro q' a' v hv
    unfold drop at hv
    by_cases h : q' = q ∧ a' = a
    · rw [if_pos h] at hv; cases hv
    · rw [if_neg h] at hv
      refine ⟨fun r => ?_, ?_⟩
      · rw [Mxu.live_pop, if_neg (row_ne q q' a a' h r)]
        exact (H.alive _ _ _ hv).1 r
      · rw [Mxu.read_pop_ne (hne := addr_ne q q' a a' h)]
        exact (H.alive _ _ _ hv).2

theorem Has.init : Has (Mxu.init : Mxu F) (fun _ _ => none) :=
  ⟨fun _ _ => Mxu.reg_init .., fun _ _ _ _ => Mxu.live_init .., fun _ _ _ h => nomatch h⟩

theorem Has.drained {m : Mxu F} {V : Accs F} (H : Has m V) (hV : ∀ q a, V q a = none) : m.Drained := by
  refine ⟨fun q r => by rw [H.reg]; rfl, fun q R => ?_⟩
  have := H.dead q ⟨R.val / 128, by omega⟩ (hV _ _) ⟨R.val % 128, by omega⟩
  rw [← this]
  congr 1
  apply Fin.ext
  unfold Mxu.row
  simp only
  omega

/-! ## Tiles -/

variable (X : S128x15104.Idx → Elt F .bf16) (S : S944x3840.Idx → Elt F .fp8e4m3) (W : S7552x3840.Idx → Elt F .i8)

theorem wT_inb (c : Fin 59) (t : Fin 15) : ∀ a, (![128 * c.val, 256 * t.val] : Fin 2 → ℕ) a + S128x256.size a ≤ S7552x3840.size a := by
  rw [Fin.forall_fin_two]; constructor <;> simp <;> omega
theorem sT_inb (h : Fin 2) (c : Fin 59) (t : Fin 15) :
    ∀ a, (![472 * h.val + 8 * c.val, 256 * t.val] : Fin 2 → ℕ) a + S8x256.size a ≤ S944x3840.size a := by
  rw [Fin.forall_fin_two]; constructor <;> simp <;> omega
theorem xT_inb (h : Fin 2) (c : Fin 59) : ∀ a, (![0, 7552 * h.val + 128 * c.val] : Fin 2 → ℕ) a + S128x128.size a ≤ S128x15104.size a := by
  rw [Fin.forall_fin_two]; constructor <;> simp <;> omega
theorem pT_inb (h : Fin 2) (c : Fin 59) : ∀ a, (![c.val, h.val, 0, 0] : Fin 4 → ℕ) a + S1x1x128x128.size a ≤ S59x2x128x128.size a := by
  intro a; fin_cases a <;> simp <;> omega

/-- Packed weights of chunk `c` and result tile `t`. -/
def wT (c : Fin 59) (t : Fin 15) : Vec F S128x256 .i8 := fun i => W ((Rect.unit (s := S7552x3840) ![128 * c.val, 256 * t.val] S128x256.size (wT_inb c t)).emb i)
/-- Scales of half `h` of chunk `c` and result tile `t`. -/
def sT (h : Fin 2) (c : Fin 59) (t : Fin 15) : Vec F S8x256 .fp8e4m3 := fun i => S ((Rect.unit (s := S944x3840) ![472 * h.val + 8 * c.val, 256 * t.val] S8x256.size (sT_inb h c t)).emb i)
/-- Activations of half `h` of chunk `c`. -/
def xT (h : Fin 2) (c : Fin 59) : Vec F S128x128 .bf16 := fun i => X ((Rect.unit (s := S128x15104) ![0, 7552 * h.val + 128 * c.val] S128x128.size (xT_inb h c)).emb i)
/-- A tile of the interleaved activations. -/
def pT (A8 : S59x2x128x128.Idx → Elt F .bf16) (h : Fin 2) (c : Fin 59) : Vec F S1x1x128x128 .bf16 :=
  fun i => A8 ((Rect.unit (s := S59x2x128x128) ![c.val, h.val, 0, 0] S1x1x128x128.size (pT_inb h c)).emb i)

/-- The interleaved activations of chunk `c` are there. -/
def Good (A8 : S59x2x128x128.Idx → Elt F .bf16) (c : Fin 59) : Prop :=
  pT A8 0 c = xLo (xT X 0 c) (xT X 1 c) ∧ pT A8 1 c = xHi (xT X 0 c) (xT X 1 c)

/-- The pass of chunk `c` for result tile `t`. -/
def pass (c : Fin 59) (t : Fin 15) : FVec F S128x256 .f32 :=
  passT (wTile (wT W c t) (sT S 0 c t) (sT S 1 c t)) (xTile (xLo (xT X 0 c) (xT X 1 c)) (xHi (xT X 0 c) (xT X 1 c)))

/-- The rectangle of a tile of the interleaved activations. -/
abbrev pR (h : Fin 2) (c : Fin 59) : Rect S59x2x128x128 := Rect.unit (s := S59x2x128x128) ![c.val, h.val, 0, 0] S1x1x128x128.size (pT_inb h c)

theorem pT_self (A : S59x2x128x128.Idx → Elt F .bf16) (h : Fin 2) (c : Fin 59) (v : Vec F S1x1x128x128 .bf16) : pT ((pR h c).overlay A v) h c = v := by
  unfold pT
  exact funext (fun i => Rect.overlay_emb (pR h c) A v i)

theorem pR_off (h h' : Fin 2) (c c' : Fin 59) (hne : c' ≠ c ∨ h' ≠ h) (i : (pR h' c').shape.Idx) : (pR h' c').emb i ∉ (pR h c).set := by
  intro hm
  rw [← Rect.map_emb_univ, Finset.mem_map] at hm
  obtain ⟨j, -, hj⟩ := hm
  have i0 : (i 0).val < 1 := (i 0).isLt
  have j0 : (j 0).val < 1 := (j 0).isLt
  have i1 : (i 1).val < 1 := (i 1).isLt
  have j1 : (j 1).val < 1 := (j 1).isLt
  have e0 : c.val + 1 * (j 0).val = c'.val + 1 * (i 0).val := congrArg Fin.val (congrFun hj 0)
  have e1 : h.val + 1 * (j 1).val = h'.val + 1 * (i 1).val := congrArg Fin.val (congrFun hj 1)
  rcases hne with h | h
  · exact h (Fin.ext (by omega))
  · exact h (Fin.ext (by omega))

theorem pT_off (A : S59x2x128x128.Idx → Elt F .bf16) (h h' : Fin 2) (c c' : Fin 59) (v : Vec F S1x1x128x128 .bf16) (hne : c' ≠ c ∨ h' ≠ h) :
    pT ((pR h c).overlay A v) h' c' = pT A h' c' := by
  unfold pT
  exact funext (fun i => Rect.overlay_of_not_mem (pR h c) A v (pR_off h h' c c' hne i))

theorem good_fill (A8 : S59x2x128x128.Idx → Elt F .bf16) (c : Fin 59) :
    Good X ((pR 1 c).overlay ((pR 0 c).overlay A8 (xLo (xT X 0 c) (xT X 1 c))) (xHi (xT X 0 c) (xT X 1 c))) c
    ∧ ∀ c' : Fin 59, Good X A8 c' → Good X ((pR 1 c).overlay ((pR 0 c).overlay A8 (xLo (xT X 0 c) (xT X 1 c))) (xHi (xT X 0 c) (xT X 1 c))) c' := by
  have hg : Good X ((pR 1 c).overlay ((pR 0 c).overlay A8 (xLo (xT X 0 c) (xT X 1 c))) (xHi (xT X 0 c) (xT X 1 c))) c :=
    ⟨(pT_off _ 1 0 c c _ (.inr (by decide))).trans (pT_self _ 0 _ _), pT_self _ 1 _ _⟩
  refine ⟨hg, fun c' hc' => ?_⟩
  by_cases h : c' = c
  · rw [h]; exact hg
  · exact ⟨((pT_off _ 1 0 c c' _ (.inl h)).trans (pT_off _ 0 0 c c' _ (.inl h))).trans hc'.1,
      ((pT_off _ 1 1 c c' _ (.inl h)).trans (pT_off _ 0 1 c c' _ (.inl h))).trans hc'.2⟩

theorem sub_unit {s : Shape} {o1 n1 : Fin s.rank → ℕ} {h1 : ∀ a, o1 a + n1 a ≤ s.size a} {o2 n2 : Fin s.rank → ℕ} {h2 : ∀ a, o2 a + n2 a ≤ s.size a}
    (hle : ∀ a, o2 a ≤ o1 a ∧ o1 a + n1 a ≤ o2 a + n2 a) :
    ∀ i, ∃ j, (Rect.unit (s := s) o1 n1 h1).emb i = (Rect.unit (s := s) o2 n2 h2).emb j := by
  intro i
  refine ⟨fun a => ⟨o1 a - o2 a + (i a).val, ?_⟩, ?_⟩
  · have h := hle a
    have hi : (i a).val < n1 a := (i a).isLt
    show _ < n2 a
    omega
  · funext a
    apply Fin.ext
    have h := hle a
    show o1 a + 1 * (i a).val = o2 a + 1 * (o1 a - o2 a + (i a).val)
    omega

variable (d : Dev nD) {α : Type} {Q : α → sProp (MT nD τ sig Unit (Elt F) ℕ (Pipeline.UD sig nD τ) ℕ)}
variable (arg0 : Memref sig .tc .hbm S128x15104 .bf16) (arg1 : Memref sig .tc .hbm S7552x3840 .i8) (arg2 : Memref sig .tc .hbm S944x3840 .fp8e4m3)
variable (arg5 : Memref sig .tc .vmem S128x15104 .bf16) (arg6 : Memref sig .tc .vmem S7552x3840 .i8) (arg7 : Memref sig .tc .vmem S944x3840 .fp8e4m3)
variable (arg8 : Memref sig .tc .vmem S59x2x128x128 .bf16)

theorem wp_step (m : Mxu F) (q : Fin 2) (A : Nat) (hA : Mxu.Fits A 128)
    (ow : Fin 2 → Nat) (hw : ∀ a, ow a + S128x256.size a ≤ S7552x3840.size a)
    (ol : Fin 2 → Nat) (hl : ∀ a, ol a + S8x256.size a ≤ S944x3840.size a)
    (oh : Fin 2 → Nat) (hh : ∀ a, oh a + S8x256.size a ≤ S944x3840.size a)
    (o0 : Fin 4 → Nat) (h0 : ∀ a, o0 a + S1x1x128x128.size a ≤ S59x2x128x128.size a)
    (o1 : Fin 4 → Nat) (h1 : ∀ a, o1 a + S1x1x128x128.size a ≤ S59x2x128x128.size a)
    (V : Accs F) (H : Has m V) (g : Fin 8) (c : Fin 59) (t : Fin 15) (a : Fin 8) (hc : 8 * g.val ≤ c.val ∧ c.val < 8 * g.val + 8)
    (eA : A = 32 * a.val) (ew : ow = ![128 * c.val, 256 * t.val]) (el : ol = ![8 * c.val, 256 * t.val]) (eh : oh = ![472 + 8 * c.val, 256 * t.val])
    (e0 : o0 = ![c.val, 0, 0, 0]) (e1 : o1 = ![c.val, 1, 0, 0])
    (A8 : S59x2x128x128.Idx → Elt F .bf16) (hG : Good X A8 c)
    {k : Mxu F → Prog (TpuEff nD τ sig (Elt F) Λ₀ .tc) α} :
    iprop(rest d arg0 arg1 arg2 arg5 arg6 arg7 X S W X S W g ∗ owns (d : Thread nD τ) arg8 fullShare A8)
    ⊢ iprop((∀ m' : Mxu F, ⌜Has m' (put V q a (pass X S W c t))⌝
          -∗ iprop(rest d arg0 arg1 arg2 arg5 arg6 arg7 X S W X S W g ∗ owns (d : Thread nD τ) arg8 fullShare A8) -∗ WP d (k m') Q)
      -∗ WP d (unit arg6 arg7 arg8 m q A hA ow hw ol hl oh hh o0 h0 o1 h1 >>= k) Q) := by
  subst eA
  subst ew
  have el' : ol = ![472 * (0 : Fin 2).val + 8 * c.val, 256 * t.val] := by rw [el]; simp
  have eh' : oh = ![472 * (1 : Fin 2).val + 8 * c.val, 256 * t.val] := by rw [eh]; simp
  have e0' : o0 = ![c.val, (0 : Fin 2).val, 0, 0] := e0
  have e1' : o1 = ![c.val, (1 : Fin 2).val, 0, 0] := e1
  clear el eh e0 e1
  subst el' eh' e0' e1'
  have hx : xLen g = if g.val = 7 then 384 else 1024 := rfl
  have hs : sLen g = if g.val = 7 then 24 else 64 := rfl
  have hcl := c.isLt
  have htl := t.isLt
  unfold rest pc
  iintro ⟨⟨Hs, ⟨B0, B1, B2, B3, B4⟩, Hv⟩, H8⟩ Hk
  iapply (wp_unit d arg6 arg7 arg8 m q _ hA _ hw _ hl _ hh _ h0 _ h1 (H.reg _ _) (wR g) (fun _ => rfl)
    (sub_unit (by rw [Fin.forall_fin_two]; constructor <;> simp [hx] <;> (try split_ifs) <;> omega))
    (sR g 0) (fun _ => rfl) (sub_unit (by rw [Fin.forall_fin_two]; constructor <;> simp [hs] <;> (try split_ifs) <;> omega))
    (sR g 1) (fun _ => rfl) (sub_unit (by rw [Fin.forall_fin_two]; constructor <;> simp [hs] <;> (try split_ifs) <;> omega)) W S A8) $$ [B4 B2 B3 H8]
  · isplitl [B4]; · iexact B4
    isplitl [B2]; · iexact B2
    isplitl [B3]; · iexact B3
    iexact H8
  iintro ⟨B4, B2, B3, H8⟩
  iapply Hk
  · ipureintro
    have := H.uStep q a (wT W c t) (sT S 0 c t) (sT S 1 c t) (pT A8 0 c) (pT A8 1 c)
    have e : passT (wTile (wT W c t) (sT S 0 c t) (sT S 1 c t)) (xTile (pT A8 0 c) (pT A8 1 c)) = pass X S W c t := by
      rw [hG.1, hG.2]; rfl
    rw [e] at this
    exact this
  isplitr [H8]
  · isplitl [Hs]; · iexact Hs
    isplitr [Hv]
    · isplitl [B0]; · iexact B0
      isplitl [B1]; · iexact B1
      isplitl [B2]; · iexact B2
      isplitl [B3]; · iexact B3
      iexact B4
    iexact Hv
  iexact H8

theorem wp_fill (harg8 : arg8.IsWhole)
    (ol : Fin 2 → Nat) (hl : ∀ a, ol a + S128x128.size a ≤ S128x15104.size a)
    (oh : Fin 2 → Nat) (hh : ∀ a, oh a + S128x128.size a ≤ S128x15104.size a)
    (o0 : Fin 4 → Nat) (h0 : ∀ a, o0 a + S1x1x128x128.size a ≤ S59x2x128x128.size a)
    (hp0 : (Rect.unit (s := S59x2x128x128) o0 S1x1x128x128.size h0).PackedRows (EltTy.packing .bf16))
    (o1 : Fin 4 → Nat) (h1 : ∀ a, o1 a + S1x1x128x128.size a ≤ S59x2x128x128.size a)
    (hp1 : (Rect.unit (s := S59x2x128x128) o1 S1x1x128x128.size h1).PackedRows (EltTy.packing .bf16))
    (g : Fin 8) (c : Fin 59) (hc : 8 * g.val ≤ c.val ∧ c.val < 8 * g.val + 8)
    (el : ol = ![0, 128 * c.val]) (eh : oh = ![0, 7552 + 128 * c.val])
    (e0 : o0 = ![c.val, 0, 0, 0]) (e1 : o1 = ![c.val, 1, 0, 0])
    (A8 : S59x2x128x128.Idx → Elt F .bf16)
    {k : PUnit → Prog (TpuEff nD τ sig (Elt F) Λ₀ .tc) α} :
    iprop(rest d arg0 arg1 arg2 arg5 arg6 arg7 X S W X S W g ∗ owns (d : Thread nD τ) arg8 fullShare A8)
    ⊢ iprop((∀ A8', ⌜Good X A8' c ∧ ∀ c' : Fin 59, Good X A8 c' → Good X A8' c'⌝
          -∗ iprop(rest d arg0 arg1 arg2 arg5 arg6 arg7 X S W X S W g ∗ owns (d : Thread nD τ) arg8 fullShare A8') -∗ WP d (k ⟨⟩) Q)
      -∗ WP d (ileave arg5 arg8 harg8 ol hl oh hh o0 h0 hp0 o1 h1 hp1 >>= k) Q) := by
  have el' : ol = ![0, 7552 * (0 : Fin 2).val + 128 * c.val] := by rw [el]; simp
  have eh' : oh = ![0, 7552 * (1 : Fin 2).val + 128 * c.val] := by rw [eh]; simp
  have e0' : o0 = ![c.val, (0 : Fin 2).val, 0, 0] := e0
  have e1' : o1 = ![c.val, (1 : Fin 2).val, 0, 0] := e1
  clear el eh e0 e1
  subst el' eh' e0' e1'
  have hx : xLen g = if g.val = 7 then 384 else 1024 := rfl
  have hcl := c.isLt
  unfold rest pc
  iintro ⟨⟨Hs, ⟨B0, B1, B2, B3, B4⟩, Hv⟩, H8⟩ Hk
  iapply (wp_ileave d arg5 arg8 harg8 _ hl _ hh _ h0 hp0 _ h1 hp1 (xR g 0) (fun _ => rfl)
    (sub_unit (by rw [Fin.forall_fin_two]; constructor <;> simp [hx] <;> (try split_ifs) <;> omega))
    (xR g 1) (fun _ => rfl) (sub_unit (by rw [Fin.forall_fin_two]; constructor <;> simp [hx] <;> (try split_ifs) <;> omega)) X A8) $$ [B0 B1 H8]
  · isplitl [B0]; · iexact B0
    isplitl [B1]; · iexact B1
    iexact H8
  iintro ⟨B0, B1, H8⟩
  iapply Hk
  · ipureintro
    exact good_fill X A8 c
  isplitr [H8]
  · isplitl [Hs]; · iexact Hs
    isplitr [Hv]
    · isplitl [B0]; · iexact B0
      isplitl [B1]; · iexact B1
      isplitl [B2]; · iexact B2
      isplitl [B3]; · iexact B3
      iexact B4
    iexact Hv
  iexact H8

end Cert.KernelIdeal
-- ==== Proof.ITrip.lean ====
module

public import proofs.«01_k».proof.Proof.IModel
public import Idealize.ShloMosaic.Lib.Scf
public import Idealize.ShloMosaic.Lib.Pipeline.FrameBody

@[expose] public section

set_option synthInstance.maxSize 4096

noncomputable section

namespace Cert.KernelIdeal

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

/-! ## The offsets of a trip -/

/-- The chunk of trip `k` and place `j`. -/
def cI (k : Fin 7) (j : Fin 8) : Fin 59 := ⟨8 * k.val + j.val, by omega⟩

theorem e_off9 : ∀ (k : Fin 7) (j : Fin 8), k0_off9 k (BitVec.ofNat 32 j.val) = ![0, 128 * (cI k j).val] := by decide
theorem e_off10 : ∀ (k : Fin 7) (j : Fin 8), k0_off10 k (BitVec.ofNat 32 j.val) = ![0, 7552 + 128 * (cI k j).val] := by decide
theorem e_off11 : ∀ (k : Fin 7) (j : Fin 8), k0_off11 k (BitVec.ofNat 32 j.val) = ![(cI k j).val, 0, 0, 0] := by decide
theorem e_off12 : ∀ (k : Fin 7) (j : Fin 8), k0_off12 k (BitVec.ofNat 32 j.val) = ![(cI k j).val, 1, 0, 0] := by decide
theorem e_off13 : ∀ (k : Fin 7) (j : Fin 8), k0_off13 k (BitVec.ofNat 32 j.val) = ![128 * (cI k j).val, 256 * (0 : Fin 15).val] := by decide
theorem e_off14l : ∀ (k : Fin 7) (j : Fin 8), k0_off14 k 0#32 (BitVec.ofNat 32 j.val) = ![8 * (cI k j).val, 256 * (0 : Fin 15).val] := by decide
theorem e_off14h : ∀ (k : Fin 7) (j : Fin 8), k0_off14 k 472#32 (BitVec.ofNat 32 j.val) = ![472 + 8 * (cI k j).val, 256 * (0 : Fin 15).val] := by decide
theorem e_off15 : ∀ (k : Fin 7) (j : Fin 8), k0_off15 k (BitVec.ofNat 32 j.val) = ![128 * (cI k j).val, 256 * (1 : Fin 15).val] := by decide
theorem e_off16l : ∀ (k : Fin 7) (j : Fin 8), k0_off16 k 0#32 (BitVec.ofNat 32 j.val) = ![8 * (cI k j).val, 256 * (1 : Fin 15).val] := by decide
theorem e_off16h : ∀ (k : Fin 7) (j : Fin 8), k0_off16 k 472#32 (BitVec.ofNat 32 j.val) = ![472 + 8 * (cI k j).val, 256 * (1 : Fin 15).val] := by decide
theorem e_off17 : ∀ (k : Fin 7) (j : Fin 8), k0_off17 k (BitVec.ofNat 32 j.val) = ![128 * (cI k j).val, 256 * (2 : Fin 15).val] := by decide
theorem e_off18l : ∀ (k : Fin 7) (j : Fin 8), k0_off18 k 0#32 (BitVec.ofNat 32 j.val) = ![8 * (cI k j).val, 256 * (2 : Fin 15).val] := by decide
theorem e_off18h : ∀ (k : Fin 7) (j : Fin 8), k0_off18 k 472#32 (BitVec.ofNat 32 j.val) = ![472 + 8 * (cI k j).val, 256 * (2 : Fin 15).val] := by decide
theorem e_off19 : ∀ (k : Fin 7) (j : Fin 8), k0_off19 k (BitVec.ofNat 32 j.val) = ![128 * (cI k j).val, 256 * (3 : Fin 15).val] := by decide
theorem e_off20l : ∀ (k : Fin 7) (j : Fin 8), k0_off20 k 0#32 (BitVec.ofNat 32 j.val) = ![8 * (cI k j).val, 256 * (3 : Fin 15).val] := by decide
theorem e_off20h : ∀ (k : Fin 7) (j : Fin 8), k0_off20 k 472#32 (BitVec.ofNat 32 j.val) = ![472 + 8 * (cI k j).val, 256 * (3 : Fin 15).val] := by decide
theorem e_off21 : ∀ (k : Fin 7) (j : Fin 8), k0_off21 k (BitVec.ofNat 32 j.val) = ![128 * (cI k j).val, 256 * (4 : Fin 15).val] := by decide
theorem e_off22l : ∀ (k : Fin 7) (j : Fin 8), k0_off22 k 0#32 (BitVec.ofNat 32 j.val) = ![8 * (cI k j).val, 256 * (4 : Fin 15).val] := by decide
theorem e_off22h : ∀ (k : Fin 7) (j : Fin 8), k0_off22 k 472#32 (BitVec.ofNat 32 j.val) = ![472 + 8 * (cI k j).val, 256 * (4 : Fin 15).val] := by decide
theorem e_off23 : ∀ (k : Fin 7) (j : Fin 8), k0_off23 k (BitVec.ofNat 32 j.val) = ![128 * (cI k j).val, 256 * (5 : Fin 15).val] := by decide
theorem e_off24l : ∀ (k : Fin 7) (j : Fin 8), k0_off24 k 0#32 (BitVec.ofNat 32 j.val) = ![8 * (cI k j).val, 256 * (5 : Fin 15).val] := by decide
theorem e_off24h : ∀ (k : Fin 7) (j : Fin 8), k0_off24 k 472#32 (BitVec.ofNat 32 j.val) = ![472 + 8 * (cI k j).val, 256 * (5 : Fin 15).val] := by decide
theorem e_off25 : ∀ (k : Fin 7) (j : Fin 8), k0_off25 k (BitVec.ofNat 32 j.val) = ![128 * (cI k j).val, 256 * (6 : Fin 15).val] := by decide
theorem e_off26l : ∀ (k : Fin 7) (j : Fin 8), k0_off26 k 0#32 (BitVec.ofNat 32 j.val) = ![8 * (cI k j).val, 256 * (6 : Fin 15).val] := by decide
theorem e_off26h : ∀ (k : Fin 7) (j : Fin 8), k0_off26 k 472#32 (BitVec.ofNat 32 j.val) = ![472 + 8 * (cI k j).val, 256 * (6 : Fin 15).val] := by decide
theorem e_off27 : ∀ (k : Fin 7) (j : Fin 8), k0_off27 k (BitVec.ofNat 32 j.val) = ![128 * (cI k j).val, 256 * (7 : Fin 15).val] := by decide
theorem e_off28l : ∀ (k : Fin 7) (j : Fin 8), k0_off28 k 0#32 (BitVec.ofNat 32 j.val) = ![8 * (cI k j).val, 256 * (7 : Fin 15).val] := by decide
theorem e_off28h : ∀ (k : Fin 7) (j : Fin 8), k0_off28 k 472#32 (BitVec.ofNat 32 j.val) = ![472 + 8 * (cI k j).val, 256 * (7 : Fin 15).val] := by decide
theorem e_off29 : ∀ (k : Fin 7) (j : Fin 8), k0_off29 k (BitVec.ofNat 32 j.val) = ![128 * (cI k j).val, 256 * (8 : Fin 15).val] := by decide
theorem e_off30l : ∀ (k : Fin 7) (j : Fin 8), k0_off30 k 0#32 (BitVec.ofNat 32 j.val) = ![8 * (cI k j).val, 256 * (8 : Fin 15).val] := by decide
theorem e_off30h : ∀ (k : Fin 7) (j : Fin 8), k0_off30 k 472#32 (BitVec.ofNat 32 j.val) = ![472 + 8 * (cI k j).val, 256 * (8 : Fin 15).val] := by decide
theorem e_off31 : ∀ (k : Fin 7) (j : Fin 8), k0_off31 k (BitVec.ofNat 32 j.val) = ![128 * (cI k j).val, 256 * (9 : Fin 15).val] := by decide
theorem e_off32l : ∀ (k : Fin 7) (j : Fin 8), k0_off32 k 0#32 (BitVec.ofNat 32 j.val) = ![8 * (cI k j).val, 256 * (9 : Fin 15).val] := by decide
theorem e_off32h : ∀ (k : Fin 7) (j : Fin 8), k0_off32 k 472#32 (BitVec.ofNat 32 j.val) = ![472 + 8 * (cI k j).val, 256 * (9 : Fin 15).val] := by decide
theorem e_off33 : ∀ (k : Fin 7) (j : Fin 8), k0_off33 k (BitVec.ofNat 32 j.val) = ![128 * (cI k j).val, 256 * (10 : Fin 15).val] := by decide
theorem e_off34l : ∀ (k : Fin 7) (j : Fin 8), k0_off34 k 0#32 (BitVec.ofNat 32 j.val) = ![8 * (cI k j).val, 256 * (10 : Fin 15).val] := by decide
theorem e_off34h : ∀ (k : Fin 7) (j : Fin 8), k0_off34 k 472#32 (BitVec.ofNat 32 j.val) = ![472 + 8 * (cI k j).val, 256 * (10 : Fin 15).val] := by decide
theorem e_off35 : ∀ (k : Fin 7) (j : Fin 8), k0_off35 k (BitVec.ofNat 32 j.val) = ![128 * (cI k j).val, 256 * (11 : Fin 15).val] := by decide
theorem e_off36l : ∀ (k : Fin 7) (j : Fin 8), k0_off36 k 0#32 (BitVec.ofNat 32 j.val) = ![8 * (cI k j).val, 256 * (11 : Fin 15).val] := by decide
theorem e_off36h : ∀ (k : Fin 7) (j : Fin 8), k0_off36 k 472#32 (BitVec.ofNat 32 j.val) = ![472 + 8 * (cI k j).val, 256 * (11 : Fin 15).val] := by decide
theorem e_off37 : ∀ (k : Fin 7) (j : Fin 8), k0_off37 k (BitVec.ofNat 32 j.val) = ![128 * (cI k j).val, 256 * (12 : Fin 15).val] := by decide
theorem e_off38l : ∀ (k : Fin 7) (j : Fin 8), k0_off38 k 0#32 (BitVec.ofNat 32 j.val) = ![8 * (cI k j).val, 256 * (12 : Fin 15).val] := by decide
theorem e_off38h : ∀ (k : Fin 7) (j : Fin 8), k0_off38 k 472#32 (BitVec.ofNat 32 j.val) = ![472 + 8 * (cI k j).val, 256 * (12 : Fin 15).val] := by decide
theorem e_off39 : ∀ (k : Fin 7) (j : Fin 8), k0_off39 k (BitVec.ofNat 32 j.val) = ![128 * (cI k j).val, 256 * (13 : Fin 15).val] := by decide
theorem e_off40l : ∀ (k : Fin 7) (j : Fin 8), k0_off40 k 0#32 (BitVec.ofNat 32 j.val) = ![8 * (cI k j).val, 256 * (13 : Fin 15).val] := by decide
theorem e_off40h : ∀ (k : Fin 7) (j : Fin 8), k0_off40 k 472#32 (BitVec.ofNat 32 j.val) = ![472 + 8 * (cI k j).val, 256 * (13 : Fin 15).val] := by decide
theorem e_off41 : ∀ (k : Fin 7) (j : Fin 8), k0_off41 k (BitVec.ofNat 32 j.val) = ![128 * (cI k j).val, 256 * (14 : Fin 15).val] := by decide
theorem e_off42l : ∀ (k : Fin 7) (j : Fin 8), k0_off42 k 0#32 (BitVec.ofNat 32 j.val) = ![8 * (cI k j).val, 256 * (14 : Fin 15).val] := by decide
theorem e_off42h : ∀ (k : Fin 7) (j : Fin 8), k0_off42 k 472#32 (BitVec.ofNat 32 j.val) = ![472 + 8 * (cI k j).val, 256 * (14 : Fin 15).val] := by decide

/-! ## The accumulators' contents, step by step -/

variable (X : S128x15104.Idx → Elt F .bf16) (S : S944x3840.Idx → Elt F .fp8e4m3) (W : S7552x3840.Idx → Elt F .i8)

/-- The unit that computes a chunk of a result tile: tiles alternate, and the last one alternates by chunks. -/
def qOf (c : Fin 59) (t : Fin 15) : Fin 2 := if t.val = 14 then ⟨c.val % 2, Nat.mod_lt _ (by decide)⟩ else ⟨t.val % 2, Nat.mod_lt _ (by decide)⟩
/-- The accumulator of a result tile. -/
def aOf (t : Fin 15) : Fin 8 := ⟨t.val / 2, by omega⟩

/-- One pass. -/
def stepV (V : Accs F) (c : Fin 59) (t : Fin 15) : Accs F := put V (qOf c t) (aOf t) (pass X S W c t)

/-- The fifteen passes of a chunk. -/
def chunkV (V : Accs F) (c : Fin 59) : Accs F :=
  stepV X S W (stepV X S W (stepV X S W (stepV X S W (stepV X S W (stepV X S W (stepV X S W (stepV X S W (stepV X S W (stepV X S W (stepV X S W (stepV X S W (stepV X S W (stepV X S W (stepV X S W V c 0) c 1) c 2) c 3) c 4) c 5) c 6) c 7) c 8) c 9) c 10) c 11) c 12) c 13) c 14

/-- The eight chunks of a trip. -/
def tripV (V : Accs F) (k : Fin 7) : Accs F :=
  chunkV X S W (chunkV X S W (chunkV X S W (chunkV X S W (chunkV X S W (chunkV X S W (chunkV X S W (chunkV X S W V (cI k 0)) (cI k 1)) (cI k 2)) (cI k 3)) (cI k 4)) (cI k 5)) (cI k 6)) (cI k 7)

variable (d : Dev nD) {α : Type} {Q : α → sProp (MT nD τ sig Unit (Elt F) ℕ (Pipeline.UD sig nD τ) ℕ)}
variable (arg0 : Memref sig .tc .hbm S128x15104 .bf16) (arg1 : Memref sig .tc .hbm S7552x3840 .i8) (arg2 : Memref sig .tc .hbm S944x3840 .fp8e4m3)
variable (arg5 : Memref sig .tc .vmem S128x15104 .bf16) (arg6 : Memref sig .tc .vmem S7552x3840 .i8) (arg7 : Memref sig .tc .vmem S944x3840 .fp8e4m3)
variable (arg8 : Memref sig .tc .vmem S59x2x128x128 .bf16)

theorem wp_blk (m : Mxu F) (k : Fin 7) (jb : BitVec 32) (j : Fin 8) (hj : jb = BitVec.ofNat 32 j.val) (q : Fin 2) (hq : q = qOf (cI k j) 14)
    (V : Accs F) (H : Has m V) (A8 : S59x2x128x128.Idx → Elt F .bf16) (hG : Good X A8 (cI k j))
    {kk : Mxu F → Prog (TpuEff nD τ sig (Elt F) Λ₀ .tc) α} :
    iprop(rest d arg0 arg1 arg2 arg5 arg6 arg7 X S W X S W k.castSucc ∗ owns (d : Thread nD τ) arg8 fullShare A8)
    ⊢ iprop((∀ m' : Mxu F, ⌜Has m' (chunkV X S W V (cI k j))⌝
          -∗ iprop(rest d arg0 arg1 arg2 arg5 arg6 arg7 X S W X S W k.castSucc ∗ owns (d : Thread nD τ) arg8 fullShare A8) -∗ WP d (kk m') Q)
      -∗ WP d (blk arg6 arg7 arg8 m k jb j hj q >>= kk) Q) := by
  subst hj
  have hc : 8 * (k.castSucc).val ≤ (cI k j).val ∧ (cI k j).val < 8 * (k.castSucc).val + 8 := by
    unfold cI; simp only [Fin.val_castSucc]; omega
  unfold blk
  simp only [bind_assoc, pure_bind]
  iintro HR Hk
  iapply (wp_step X S W d arg0 arg1 arg2 arg5 arg6 arg7 arg8 m 0 _ _ _ _ _ _ _ _ _ _ _ _ _ H k.castSucc (cI k j) 0 0 hc rfl (e_off13 k j) (e_off14l k j) (e_off14h k j) (e_off11 k j) (e_off12 k j) A8 hG) $$ HR
  iintro %m1 %H1 HR
  iapply (wp_step X S W d arg0 arg1 arg2 arg5 arg6 arg7 arg8 m1 1 _ _ _ _ _ _ _ _ _ _ _ _ _ H1 k.castSucc (cI k j) 1 0 hc rfl (e_off15 k j) (e_off16l k j) (e_off16h k j) (e_off11 k j) (e_off12 k j) A8 hG) $$ HR
  iintro %m2 %H2 HR
  iapply (wp_step X S W d arg0 arg1 arg2 arg5 arg6 arg7 arg8 m2 0 _ _ _ _ _ _ _ _ _ _ _ _ _ H2 k.castSucc (cI k j) 2 1 hc rfl (e_off17 k j) (e_off18l k j) (e_off18h k j) (e_off11 k j) (e_off12 k j) A8 hG) $$ HR
  iintro %m3 %H3 HR
  iapply (wp_step X S W d arg0 arg1 arg2 arg5 arg6 arg7 arg8 m3 1 _ _ _ _ _ _ _ _ _ _ _ _ _ H3 k.castSucc (cI k j) 3 1 hc rfl (e_off19 k j) (e_off20l k j) (e_off20h k j) (e_off11 k j) (e_off12 k j) A8 hG) $$ HR
  iintro %m4 %H4 HR
  iapply (wp_step X S W d arg0 arg1 arg2 arg5 arg6 arg7 arg8 m4 0 _ _ _ _ _ _ _ _ _ _ _ _ _ H4 k.castSucc (cI k j) 4 2 hc rfl (e_off21 k j) (e_off22l k j) (e_off22h k j) (e_off11 k j) (e_off12 k j) A8 hG) $$ HR
  iintro %m5 %H5 HR
  iapply (wp_step X S W d arg0 arg1 arg2 arg5 arg6 arg7 arg8 m5 1 _ _ _ _ _ _ _ _ _ _ _ _ _ H5 k.castSucc (cI k j) 5 2 hc rfl (e_off23 k j) (e_off24l k j) (e_off24h k j) (e_off11 k j) (e_off12 k j) A8 hG) $$ HR
  iintro %m6 %H6 HR
  iapply (wp_step X S W d arg0 arg1 arg2 arg5 arg6 arg7 arg8 m6 0 _ _ _ _ _ _ _ _ _ _ _ _ _ H6 k.castSucc (cI k j) 6 3 hc rfl (e_off25 k j) (e_off26l k j) (e_off26h k j) (e_off11 k j) (e_off12 k j) A8 hG) $$ HR
  iintro %m7 %H7 HR
  iapply (wp_step X S W d arg0 arg1 arg2 arg5 arg6 arg7 arg8 m7 1 _ _ _ _ _ _ _ _ _ _ _ _ _ H7 k.castSucc (cI k j) 7 3 hc rfl (e_off27 k j) (e_off28l k j) (e_off28h k j) (e_off11 k j) (e_off12 k j) A8 hG) $$ HR
  iintro %m8 %H8 HR
  iapply (wp_step X S W d arg0 arg1 arg2 arg5 arg6 arg7 arg8 m8 0 _ _ _ _ _ _ _ _ _ _ _ _ _ H8 k.castSucc (cI k j) 8 4 hc rfl (e_off29 k j) (e_off30l k j) (e_off30h k j) (e_off11 k j) (e_off12 k j) A8 hG) $$ HR
  iintro %m9 %H9 HR
  iapply (wp_step X S W d arg0 arg1 arg2 arg5 arg6 arg7 arg8 m9 1 _ _ _ _ _ _ _ _ _ _ _ _ _ H9 k.castSucc (cI k j) 9 4 hc rfl (e_off31 k j) (e_off32l k j) (e_off32h k j) (e_off11 k j) (e_off12 k j) A8 hG) $$ HR
  iintro %m10 %H10 HR
  iapply (wp_step X S W d arg0 arg1 arg2 arg5 arg6 arg7 arg8 m10 0 _ _ _ _ _ _ _ _ _ _ _ _ _ H10 k.castSucc (cI k j) 10 5 hc rfl (e_off33 k j) (e_off34l k j) (e_off34h k j) (e_off11 k j) (e_off12 k j) A8 hG) $$ HR
  iintro %m11 %H11 HR
  iapply (wp_step X S W d arg0 arg1 arg2 arg5 arg6 arg7 arg8 m11 1 _ _ _ _ _ _ _ _ _ _ _ _ _ H11 k.castSucc (cI k j) 11 5 hc rfl (e_off35 k j) (e_off36l k j) (e_off36h k j) (e_off11 k j) (e_off12 k j) A8 hG) $$ HR
  iintro %m12 %H12 HR
  iapply (wp_step X S W d arg0 arg1 arg2 arg5 arg6 arg7 arg8 m12 0 _ _ _ _ _ _ _ _ _ _ _ _ _ H12 k.castSucc (cI k j) 12 6 hc rfl (e_off37 k j) (e_off38l k j) (e_off38h k j) (e_off11 k j) (e_off12 k j) A8 hG) $$ HR
  iintro %m13 %H13 HR
  iapply (wp_step X S W d arg0 arg1 arg2 arg5 arg6 arg7 arg8 m13 1 _ _ _ _ _ _ _ _ _ _ _ _ _ H13 k.castSucc (cI k j) 13 6 hc rfl (e_off39 k j) (e_off40l k j) (e_off40h k j) (e_off11 k j) (e_off12 k j) A8 hG) $$ HR
  iintro %m14 %H14 HR
  subst hq
  iapply (wp_step X S W d arg0 arg1 arg2 arg5 arg6 arg7 arg8 m14 _ _ _ _ _ _ _ _ _ _ _ _ _ _ H14 k.castSucc (cI k j) 14 7 hc rfl (e_off41 k j) (e_off42l k j) (e_off42h k j) (e_off11 k j) (e_off12 k j) A8 hG) $$ HR
  iintro %m15 %H15 HR
  iapply Hk $$ [] HR
  ipureintro
  exact H15

theorem e_xR0 : ∀ k : Fin 7, k0_off2 k 0#32 = ![0, 7552 * (0 : Fin 2).val + 1024 * k.castSucc.val] := by decide
theorem e_xR1 : ∀ k : Fin 7, k0_off2 k 7552#32 = ![0, 7552 * (1 : Fin 2).val + 1024 * k.castSucc.val] := by decide
theorem e_sR0 : ∀ k : Fin 7, k0_off5 k 0#32 = ![472 * (0 : Fin 2).val + 64 * k.castSucc.val, 0] := by decide
theorem e_sR1 : ∀ k : Fin 7, k0_off5 k 472#32 = ![472 * (1 : Fin 2).val + 64 * k.castSucc.val, 0] := by decide
theorem e_wR : ∀ k : Fin 7, k0_off8 k = ![1024 * k.castSucc.val, 0] := by intro k; fin_cases k <;> rfl
theorem e_o0 : ∀ k : Fin 7, k0_off1 k = ![k.val, 0] := by intro k; fin_cases k <;> rfl
theorem e_o1 : ∀ k : Fin 7, k0_off3 k = ![k.val, 1] := by intro k; fin_cases k <;> rfl
theorem e_o2 : ∀ k : Fin 7, k0_off4 k = ![k.val, 2] := by intro k; fin_cases k <;> rfl
theorem e_o3 : ∀ k : Fin 7, k0_off6 k = ![k.val, 3] := by intro k; fin_cases k <;> rfl
theorem e_o4 : ∀ k : Fin 7, k0_off7 k = ![k.val, 4] := by intro k; fin_cases k <;> rfl

theorem unit_congr {s : Shape} {o o' n n' : Fin s.rank → ℕ} {h : ∀ a, o a + n a ≤ s.size a} {h' : ∀ a, o' a + n' a ≤ s.size a}
    (e : o = o') (f : n = n') : Rect.unit (s := s) o n h = Rect.unit (s := s) o' n' h' := by subst e; subst f; rfl

theorem e_xLen : ∀ k : Fin 7, (![128, 1024] : Fin 2 → ℕ) = ![128, xLen k.castSucc] := by decide
theorem e_sLen : ∀ k : Fin 7, (![64, 3840] : Fin 2 → ℕ) = ![sLen k.castSucc, 3840] := by decide
theorem e_wLen : ∀ k : Fin 7, (![1024, 3840] : Fin 2 → ℕ) = ![xLen k.castSucc, 3840] := by decide

set_option maxRecDepth 10000 in
theorem cell5_eq (k : Fin 7) (i : Fin 5) (o : Fin 2 → ℕ) (h : ∀ a, o a + S1x1.size a ≤ S7x5.size a) (e : o = ![k.val, i.val]) :
    cell5 cc0_scratch5 o h = semG k.castSucc i := by
  subst e
  fin_cases k <;> fin_cases i <;> with_unfolding_all rfl

set_option maxRecDepth 10000 in
theorem cellT_eq (i : Fin 5) (o : Fin 1 → ℕ) (h : ∀ a, o a + S1.size a ≤ S5.size a) (e : o = ![i.val]) :
    cellT cc0_scratch6 o h = semG 7 i := by
  subst e
  fin_cases i <;> with_unfolding_all rfl

set_option maxRecDepth 10000 in
theorem cellY_eq (t : Fin 15) (o : Fin 1 → ℕ) (h : ∀ a, o a + S1.size a ≤ S15.size a) (e : o = ![t.val]) :
    cellY cc0_scratch7 o h = semY t := by
  subst e
  fin_cases t <;> with_unfolding_all rfl

theorem wp_trip (harg0 : arg0.IsWhole) (harg1 : arg1.IsWhole) (harg2 : arg2.IsWhole) (harg5 : arg5.IsWhole) (harg6 : arg6.IsWhole) (harg7 : arg7.IsWhole) (harg8 : arg8.IsWhole)
    (k : Fin 7) (m : Mxu F) (V : Accs F) (H : Has m V) (A8 : S59x2x128x128.Idx → Elt F .bf16)
    {kk : Mxu F → Prog (TpuEff nD τ sig (Elt F) Λ₀ .tc) α} :
    iprop(fly d arg0 arg1 arg2 arg5 arg6 arg7 X S W k.castSucc ∗ due d ∗ owns (d : Thread nD τ) arg8 fullShare A8)
    ⊢ iprop((∀ m' : Mxu F, ⌜Has m' (tripV X S W V k)⌝
          -∗ iprop(rest d arg0 arg1 arg2 arg5 arg6 arg7 X S W X S W k.castSucc ∗ due d ∗ ∃ A8', owns (d : Thread nD τ) arg8 fullShare A8') -∗ WP d (kk m') Q)
      -∗ WP d (trip arg0 harg0 arg1 harg1 arg2 harg2 arg5 harg5 arg6 harg6 arg7 harg7 arg8 harg8 cc0_scratch5 k m >>= kk) Q) := by
  unfold trip il
  simp only [bind_assoc, pure_bind]
  have hc : ∀ j : Fin 8, 8 * (k.castSucc).val ≤ (cI k j).val ∧ (cI k j).val < 8 * (k.castSucc).val + 8 := by
    intro j; unfold cI; simp only [Fin.val_castSucc]; omega
  iintro ⟨HF, HO, H8⟩ Hk
  iapply (wp_awaitG d arg0 arg1 arg2 arg5 arg6 arg7 harg0 harg1 harg2 harg5 harg6 harg7 cc0_scratch5 k.castSucc _ _ _ _ _ _ _ _ _ _ _ _ _ _ _ _ _ _ _ _ _ _ _ _ _
    (cell5_eq k 0 _ _ (e_o0 k)) (cell5_eq k 1 _ _ (e_o1 k)) (cell5_eq k 2 _ _ (e_o2 k)) (cell5_eq k 3 _ _ (e_o3 k)) (cell5_eq k 4 _ _ (e_o4 k))
    (unit_congr (e_xR0 k) (e_xLen k)) (unit_congr (e_xR1 k) (e_xLen k)) (unit_congr (e_sR0 k) (e_sLen k)) (unit_congr (e_sR1 k) (e_sLen k)) (unit_congr (e_wR k) (e_wLen k)) X S W) $$ [HF HO]
  · isplitl [HF]; · iexact HF
    iexact HO
  iintro ⟨HR, HO⟩
  ihave HR := (show iprop(rest d arg0 arg1 arg2 arg5 arg6 arg7 X S W X S W k.castSucc) ⊢ iprop(owns (d : Thread nD τ) arg8 fullShare A8 -∗ iprop(rest d arg0 arg1 arg2 arg5 arg6 arg7 X S W X S W k.castSucc ∗ owns (d : Thread nD τ) arg8 fullShare A8)) from by iintro A B; isplitl [A]; (iexact A); iexact B) $$ HR H8
  iapply (wp_fill X S W d arg0 arg1 arg2 arg5 arg6 arg7 arg8 harg8 _ _ _ _ _ _ _ _ _ _ k.castSucc (cI k 0) (hc 0) (e_off9 k 0) (e_off10 k 0) (e_off11 k 0) (e_off12 k 0) A8) $$ HR
  iintro %B0 %G0 HR
  iapply (wp_fill X S W d arg0 arg1 arg2 arg5 arg6 arg7 arg8 harg8 _ _ _ _ _ _ _ _ _ _ k.castSucc (cI k 1) (hc 1) (e_off9 k 1) (e_off10 k 1) (e_off11 k 1) (e_off12 k 1) B0) $$ HR
  iintro %B1 %G1 HR
  iapply (wp_fill X S W d arg0 arg1 arg2 arg5 arg6 arg7 arg8 harg8 _ _ _ _ _ _ _ _ _ _ k.castSucc (cI k 2) (hc 2) (e_off9 k 2) (e_off10 k 2) (e_off11 k 2) (e_off12 k 2) B1) $$ HR
  iintro %B2 %G2 HR
  iapply (wp_fill X S W d arg0 arg1 arg2 arg5 arg6 arg7 arg8 harg8 _ _ _ _ _ _ _ _ _ _ k.castSucc (cI k 3) (hc 3) (e_off9 k 3) (e_off10 k 3) (e_off11 k 3) (e_off12 k 3) B2) $$ HR
  iintro %B3 %G3 HR
  iapply (wp_fill X S W d arg0 arg1 arg2 arg5 arg6 arg7 arg8 harg8 _ _ _ _ _ _ _ _ _ _ k.castSucc (cI k 4) (hc 4) (e_off9 k 4) (e_off10 k 4) (e_off11 k 4) (e_off12 k 4) B3) $$ HR
  iintro %B4 %G4 HR
  iapply (wp_fill X S W d arg0 arg1 arg2 arg5 arg6 arg7 arg8 harg8 _ _ _ _ _ _ _ _ _ _ k.castSucc (cI k 5) (hc 5) (e_off9 k 5) (e_off10 k 5) (e_off11 k 5) (e_off12 k 5) B4) $$ HR
  iintro %B5 %G5 HR
  iapply (wp_fill X S W d arg0 arg1 arg2 arg5 arg6 arg7 arg8 harg8 _ _ _ _ _ _ _ _ _ _ k.castSucc (cI k 6) (hc 6) (e_off9 k 6) (e_off10 k 6) (e_off11 k 6) (e_off12 k 6) B5) $$ HR
  iintro %B6 %G6 HR
  iapply (wp_fill X S W d arg0 arg1 arg2 arg5 arg6 arg7 arg8 harg8 _ _ _ _ _ _ _ _ _ _ k.castSucc (cI k 7) (hc 7) (e_off9 k 7) (e_off10 k 7) (e_off11 k 7) (e_off12 k 7) B6) $$ HR
  iintro %B7 %G7 HR
  iapply (wp_blk X S W d arg0 arg1 arg2 arg5 arg6 arg7 arg8 m k _ 0 rfl 0 (by unfold qOf cI; apply Fin.ext; simp; omega) _ H B7 (G7.2 _ (G6.2 _ (G5.2 _ (G4.2 _ (G3.2 _ (G2.2 _ (G1.2 _ G0.1)))))))) $$ HR
  iintro %m1 %N1 HR
  iapply (wp_blk X S W d arg0 arg1 arg2 arg5 arg6 arg7 arg8 m1 k _ 1 rfl 1 (by unfold qOf cI; apply Fin.ext; simp; omega) _ N1 B7 (G7.2 _ (G6.2 _ (G5.2 _ (G4.2 _ (G3.2 _ (G2.2 _ G1.1))))))) $$ HR
  iintro %m2 %N2 HR
  iapply (wp_blk X S W d arg0 arg1 arg2 arg5 arg6 arg7 arg8 m2 k _ 2 rfl 0 (by unfold qOf cI; apply Fin.ext; simp; omega) _ N2 B7 (G7.2 _ (G6.2 _ (G5.2 _ (G4.2 _ (G3.2 _ G2.1)))))) $$ HR
  iintro %m3 %N3 HR
  iapply (wp_blk X S W d arg0 arg1 arg2 arg5 arg6 arg7 arg8 m3 k _ 3 rfl 1 (by unfold qOf cI; apply Fin.ext; simp; omega) _ N3 B7 (G7.2 _ (G6.2 _ (G5.2 _ (G4.2 _ G3.1))))) $$ HR
  iintro %m4 %N4 HR
  iapply (wp_blk X S W d arg0 arg1 arg2 arg5 arg6 arg7 arg8 m4 k _ 4 rfl 0 (by unfold qOf cI; apply Fin.ext; simp; omega) _ N4 B7 (G7.2 _ (G6.2 _ (G5.2 _ G4.1)))) $$ HR
  iintro %m5 %N5 HR
  iapply (wp_blk X S W d arg0 arg1 arg2 arg5 arg6 arg7 arg8 m5 k _ 5 rfl 1 (by unfold qOf cI; apply Fin.ext; simp; omega) _ N5 B7 (G7.2 _ (G6.2 _ G5.1))) $$ HR
  iintro %m6 %N6 HR
  iapply (wp_blk X S W d arg0 arg1 arg2 arg5 arg6 arg7 arg8 m6 k _ 6 rfl 0 (by unfold qOf cI; apply Fin.ext; simp; omega) _ N6 B7 (G7.2 _ G6.1)) $$ HR
  iintro %m7 %N7 HR
  iapply (wp_blk X S W d arg0 arg1 arg2 arg5 arg6 arg7 arg8 m7 k _ 7 rfl 1 (by unfold qOf cI; apply Fin.ext; simp; omega) _ N7 B7 G7.1) $$ HR
  iintro %m8 %N8 HR
  icases HR with ⟨HR, H8⟩
  iapply Hk
  · ipureintro
    exact N8
  isplitl [HR]; · iexact HR
  isplitl [HO]; · iexact HO
  iexists B7
  iexact H8

end Cert.KernelIdeal
-- ==== Proof.ITail.lean ====
module

public import proofs.«01_k».proof.Proof.ITrip
public import Idealize.ShloMosaic.Lib.Scf
public import Idealize.ShloMosaic.Lib.Pipeline.FrameBody

@[expose] public section

set_option synthInstance.maxSize 4096

noncomputable section

namespace Cert.KernelIdeal

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

/-! ## The result's tiles -/

theorem yR_inb (t : Fin 15) : ∀ a, (![0, 256 * t.val] : Fin 2 → ℕ) a + S128x256.size a ≤ S128x3840.size a := by revert t; decide
/-- The columns of a result tile. -/
abbrev yR (t : Fin 15) : Rect S128x3840 := Rect.unit (s := S128x3840) ![0, 256 * t.val] S128x256.size (yR_inb t)

/-- A finished tile: times the gain, rounded. -/
def outT (v : FVec F S128x256 .f32) (gain : Elt F .f32) : FVec F S128x256 .bf16 :=
  shapeCast S128x256 (truncf .bf16 (mulf v (broadcast S128x256 gain)) bitsLt_bf16_f32 : FVec F S128x256 .bf16) shapeCasts_S128x256_S128x256

/-- What an accumulator holds. -/
def got (V : Accs F) (q : Fin 2) (a : Fin 8) : FVec F S128x256 .f32 := (V q a).getD (fun _ => (Elt.inhabited F .f32).default)

theorem Has.read {m : Mxu F} {V : Accs F} (H : Has m V) (q : Fin 2) (a : Fin 8) (h : (V q a).isSome = true) :
    m.read q (32 * a.val) (fitsA a) = got V q a := by
  unfold got
  cases hv : V q a with
  | none => rw [hv] at h; cases h
  | some v => exact (H.alive _ _ _ hv).2

section
variable (X : S128x15104.Idx → Elt F .bf16) (S : S944x3840.Idx → Elt F .fp8e4m3) (W : S7552x3840.Idx → Elt F .i8)

/-- The accumulators after `n` trips. -/
def loopV : ℕ → Accs F
  | 0 => fun _ _ => none
  | n + 1 => if h : n < 7 then tripV X S W (loopV n) ⟨n, h⟩ else loopV n

/-- The last three chunks of the last result tile. -/
def lastV (V : Accs F) : Accs F := stepV X S W (stepV X S W (stepV X S W V 56 14) 57 14) 58 14
/-- The last result tile: the sum of two accumulators. -/
def lastY (V : Accs F) : FVec F S128x256 .f32 := addf (got (lastV X S W V) 0 7) (got (drop (lastV X S W V) 0 7) 1 7)
/-- The accumulators after the last result tile. -/
def lastD (V : Accs F) : Accs F := drop (drop (lastV X S W V) 0 7) 1 7

/-- The first tile of a pair, -/
def t0 (p : Fin 7) : Fin 15 := ⟨2 * p.val, by omega⟩
/-- the second, -/
def t1 (p : Fin 7) : Fin 15 := ⟨2 * p.val + 1, by omega⟩
/-- their accumulators' place. -/
def aP (p : Fin 7) : Fin 8 := ⟨p.val, by omega⟩

/-- The last three chunks of a pair of result tiles. -/
def pairV (V : Accs F) (p : Fin 7) : Accs F :=
  stepV X S W (stepV X S W (stepV X S W (stepV X S W (stepV X S W (stepV X S W V 56 (t0 p)) 56 (t1 p)) 57 (t0 p)) 57 (t1 p)) 58 (t0 p)) 58 (t1 p)
/-- The two tiles. -/
def pairY (V : Accs F) (p : Fin 7) : Fin 2 → FVec F S128x256 .f32 :=
  ![got (pairV X S W V p) 0 (aP p), got (drop (pairV X S W V p) 0 (aP p)) 1 (aP p)]
/-- The accumulators after the pair. -/
def pairD (V : Accs F) (p : Fin 7) : Accs F := drop (drop (pairV X S W V p) 0 (aP p)) 1 (aP p)

/-- The accumulators before pair `n`. -/
def pV : ℕ → Accs F
  | 0 => lastD X S W (loopV X S W 7)
  | n + 1 => if h : n < 7 then pairD X S W (pV n) ⟨n, h⟩ else pV n

/-- The tiles of the result before the gain. -/
def yV (t : Fin 15) : FVec F S128x256 .f32 :=
  if h : t.val < 14 then pairY X S W (pV X S W (t.val / 2)) ⟨t.val / 2, by omega⟩ ⟨t.val % 2, Nat.mod_lt _ (by decide)⟩
  else lastY X S W (loopV X S W 7)
end

section
variable (d : Dev nD) {α : Type} {Q : α → sProp (MT nD τ sig Unit (Elt F) ℕ (Pipeline.UD sig nD τ) ℕ)}
variable (arg4 : Memref sig .tc .hbm S128x3840 .bf16) (arg9 : Memref sig .tc .vmem S128x3840 .bf16)

/-- A tile's places, and its counter at zero. -/
def yidle (Y4 Y9 : S128x3840.Idx → Elt F .bf16) (t : Fin 15) : sProp (MT nD τ sig Unit (Elt F) ℕ (Pipeline.UD sig nD τ) ℕ) :=
  iprop(pc d arg4 Y4 (yR t) (fun _ => rfl) ∗ pc d arg9 Y9 (yR t) (fun _ => rfl) ∗ sv d (semY t))

/-- A tile on its way out. -/
def yfl (w : S128x256.Idx → Elt F .bf16) (t : Fin 15) : sProp (MT nD τ sig Unit (Elt F) ℕ (Pipeline.UD sig nD τ) ℕ) :=
  Flight countersEmb (d : Thread nD τ) (.dma (semY t)) () (arg4.slice (yR t) (fun _ => rfl)).view.dmaCredit
    iprop(owns (d : Thread nD τ) (arg4.slice (yR t) (fun _ => rfl)) fullShare w ∗ owns (d : Thread nD τ) (arg9.slice (yR t) (fun _ => rfl)) fullShare w)

/-- A tile out. -/
def ydone (w : S128x256.Idx → Elt F .bf16) (t : Fin 15) : sProp (MT nD τ sig Unit (Elt F) ℕ (Pipeline.UD sig nD τ) ℕ) :=
  iprop(owns (d : Thread nD τ) (arg4.slice (yR t) (fun _ => rfl)) fullShare w ∗ owns (d : Thread nD τ) (arg9.slice (yR t) (fun _ => rfl)) fullShare w ∗ sv d (semY t))

theorem wp_send (t : Fin 15) (w w4 : S128x256.Idx → Elt F .bf16) (R' : Rect S128x3840) (hR' : ∀ a, R'.stride a = 1) (hRR : R' = yR t)
    (sem' : DmaSem sig) (hsem : sem' = semY t)
    {h1 : (arg9.slice R' hR').view.WordExact} {h2 : (arg4.slice R' hR').view.WordExact} {h3 : DmaTarget.Typed (nD := nD) (p := Proc.tc) .vmem (.dma sem') (.here (arg4.slice R' hR'))}
    (hN : 0 < (arg4.slice R' hR').view.dmaCredit) {k : PUnit → Prog (TpuEff nD τ sig (Elt F) Λ₀ .tc) α} :
    iprop(owns (d : Thread nD τ) (arg9.slice (yR t) (fun _ => rfl)) fullShare w ∗ owns (d : Thread nD τ) (arg4.slice (yR t) (fun _ => rfl)) fullShare w4 ∗ sv d (semY t))
      ⊢ iprop((yfl d arg4 arg9 w t -∗ WP d (k ⟨⟩) Q)
        -∗ WP d (.op (.enqueueDma (arg9.slice R' hR') (.here (arg4.slice R' hR')) (.dma sem') h1 h2 h3) k) Q) := by
  subst hRR; subst hsem
  unfold sv
  iintro ⟨Hs, Hd, Hv⟩ Hk
  iapply (wp_copy Variants.none (d : Thread nD τ) none countersEmb (arg9.slice (yR t) hR') (arg4.slice (yR t) hR') (semY t) fullShare _ _ () _ rfl hN) $$ [Hs Hd Hv]
  · isplitl [Hs]; · iexact Hs
    isplitl [Hd]; · iexact Hd
    iexact Hv
  iintro HF
  iapply Hk
  unfold yfl
  iexact HF

theorem wp_recv (t : Fin 15) (w : S128x256.Idx → Elt F .bf16) (R' : Rect S128x3840) (hR' : ∀ a, R'.stride a = 1) (hRR : R' = yR t)
    (sem' : DmaSem sig) (hsem : sem' = semY t)
    {h1 : (arg9.slice R' hR').view.WordExact} {h2 : (arg4.slice R' hR').view.WordExact}
    {k : PUnit → Prog (TpuEff nD τ sig (Elt F) Λ₀ .tc) α} :
    iprop(yfl d arg4 arg9 w t ∗ due d)
      ⊢ iprop((iprop(ydone d arg4 arg9 w t ∗ due d) -∗ WP d (k ⟨⟩) Q)
        -∗ WP d (.op (.waitDma2 sem' (arg9.slice R' hR') (arg4.slice R' hR') h1 h2) k) Q) := by
  subst hRR; subst hsem
  unfold due yfl ydone sv
  iintro ⟨HF, %W, HO⟩ Hk
  iapply (wp_waitLocal countersEmb Variants.none (d : Thread nD τ) none () rfl) $$ [HF HO]
  · isplitl [HF]; · iexact HF
    iexact HO
  iintro ⟨⟨Hd, Hs⟩, Hv, HO⟩
  iapply Hk
  isplitr [HO]
  · isplitl [Hd]; · iexact Hd
    isplitl [Hs]; · iexact Hs
    iexact Hv
  iexists (insert (SemLoc.dma (semY t), ()) W)
  iexact HO

theorem wp_finish (harg4 : arg4.IsWhole) (harg9 : arg9.IsWhole)
    (v : FVec F S128x256 .f32) (gain : Elt F .f32) (o : Fin 2 → Nat) (h : ∀ a, o a + S128x256.size a ≤ S128x3840.size a)
    (hp : (Rect.unit (s := S128x3840) o S128x256.size h).PackedRows (EltTy.packing .bf16))
    (hw : (Rect.unit (s := S128x3840) o S128x256.size h).WholeWords (EltTy.packing .bf16)) (arg12 : DmaSems sig S15) (k : Fin 1 → Nat) (hk : ∀ a, k a + S1.size a ≤ S15.size a)
    (t : Fin 15) (ho : o = ![0, 256 * t.val]) (hs : cellY arg12 k hk = semY t)
    (hN : 0 < (arg4.slice (Rect.unit (s := S128x3840) o S128x256.size h) (fun _ => rfl)).view.dmaCredit)
    (Y4 Y9 : S128x3840.Idx → Elt F .bf16)
    {kk : PUnit → Prog (TpuEff nD τ sig (Elt F) Λ₀ .tc) α} :
    yidle d arg4 arg9 Y4 Y9 t ⊢ iprop((yfl d arg4 arg9 (outT v gain) t -∗ WP d (kk ⟨⟩) Q)
      -∗ WP d (finish arg4 harg4 arg9 harg9 v gain o h hp hw arg12 k hk >>= kk) Q) := by
  subst ho
  unfold yidle pc finish
  simp only [Prog.bind_lift, Prog.bind_op, bind_assoc, pure_bind]
  iintro ⟨H4, H9, Hv⟩ Hk
  iapply (wp_load_self Variants.none (d : Thread nD τ) none Set.univ arg9 (yR t) (fun _ => rfl) fullShare (fun j => Y9 ((yR t).emb j))) $$ H9
  iintro H9
  iapply (wp_store_slice Variants.none (d : Thread nD τ) none Set.univ arg9 (yR t) (fun _ => rfl) (fun j => Y9 ((yR t).emb j)) (outT v gain)) $$ H9
  iintro H9
  iapply (wp_send d arg4 arg9 t (outT v gain) (fun j => Y4 ((yR t).emb j)) (yR t) (fun _ => rfl) rfl (cellY arg12 k hk) hs hN) $$ [H4 H9 Hv]
  · isplitl [H9]; · iexact H9
    isplitl [H4]; · iexact H4
    iexact Hv
  iexact Hk

theorem wp_drain (harg4 : arg4.IsWhole) (harg9 : arg9.IsWhole)
    (o : Fin 2 → Nat) (h : ∀ a, o a + S128x256.size a ≤ S128x3840.size a)
    (hw : (Rect.unit (s := S128x3840) o S128x256.size h).WholeWords (EltTy.packing .bf16)) (arg12 : DmaSems sig S15) (k : Fin 1 → Nat) (hk : ∀ a, k a + S1.size a ≤ S15.size a)
    (t : Fin 15) (ho : o = ![0, 256 * t.val]) (hs : cellY arg12 k hk = semY t) (w : S128x256.Idx → Elt F .bf16)
    {kk : PUnit → Prog (TpuEff nD τ sig (Elt F) Λ₀ .tc) α} :
    iprop(yfl d arg4 arg9 w t ∗ due d) ⊢ iprop((iprop(ydone d arg4 arg9 w t ∗ due d) -∗ WP d (kk ⟨⟩) Q)
      -∗ WP d (drain (F := F) arg4 harg4 arg9 harg9 o h hw arg12 k hk >>= kk) Q) := by
  subst ho
  unfold drain
  simp only [Prog.bind_lift, Prog.bind_op, bind_assoc, pure_bind]
  exact wp_recv d arg4 arg9 t w (yR t) (fun _ => rfl) rfl (cellY arg12 k hk) hs
end

/-! ## The tail -/

variable (X : S128x15104.Idx → Elt F .bf16) (S : S944x3840.Idx → Elt F .fp8e4m3) (W : S7552x3840.Idx → Elt F .i8)
variable (d : Dev nD) {α : Type} {Q : α → sProp (MT nD τ sig Unit (Elt F) ℕ (Pipeline.UD sig nD τ) ℕ)}
variable (arg0 : Memref sig .tc .hbm S128x15104 .bf16) (arg1 : Memref sig .tc .hbm S7552x3840 .i8) (arg2 : Memref sig .tc .hbm S944x3840 .fp8e4m3)
variable (arg4 : Memref sig .tc .hbm S128x3840 .bf16) (arg9 : Memref sig .tc .vmem S128x3840 .bf16)
variable (arg5 : Memref sig .tc .vmem S128x15104 .bf16) (arg6 : Memref sig .tc .vmem S7552x3840 .i8) (arg7 : Memref sig .tc .vmem S944x3840 .fp8e4m3)
variable (arg8 : Memref sig .tc .vmem S59x2x128x128 .bf16)

/-- The last three chunks are interleaved. -/
def Good3 (A8 : S59x2x128x128.Idx → Elt F .bf16) : Prop := Good X A8 56 ∧ Good X A8 57 ∧ Good X A8 58

theorem wp_tailPrep (harg0 : arg0.IsWhole) (harg1 : arg1.IsWhole) (harg2 : arg2.IsWhole) (harg5 : arg5.IsWhole) (harg6 : arg6.IsWhole) (harg7 : arg7.IsWhole) (harg8 : arg8.IsWhole)
    (A8 : S59x2x128x128.Idx → Elt F .bf16)
    {kk : PUnit → Prog (TpuEff nD τ sig (Elt F) Λ₀ .tc) α} :
    iprop(fly d arg0 arg1 arg2 arg5 arg6 arg7 X S W 7 ∗ due d ∗ owns (d : Thread nD τ) arg8 fullShare A8)
    ⊢ iprop((∀ A8', ⌜Good3 X A8'⌝ -∗ iprop(rest d arg0 arg1 arg2 arg5 arg6 arg7 X S W X S W 7 ∗ owns (d : Thread nD τ) arg8 fullShare A8') -∗ due d -∗ WP d (kk ⟨⟩) Q)
      -∗ WP d (tailPrep (F := F) arg0 harg0 arg1 harg1 arg2 harg2 arg5 harg5 arg6 harg6 arg7 harg7 arg8 harg8 cc0_scratch6 >>= kk) Q) := by
  unfold tailPrep
  simp only [bind_assoc, pure_bind]
  iintro ⟨HF, HO, H8⟩ Hk
  iapply (wp_awaitT d arg0 arg1 arg2 arg5 arg6 arg7 harg0 harg1 harg2 harg5 harg6 harg7 cc0_scratch6 7 _ _ _ _ _ _ _ _ _ _ _ _ _ _ _ _ _ _ _ _ _ _ _ _ _
    (cellT_eq 0 _ _ rfl) (cellT_eq 1 _ _ rfl) (cellT_eq 2 _ _ rfl) (cellT_eq 3 _ _ rfl) (cellT_eq 4 _ _ rfl)
    (unit_congr rfl rfl) (unit_congr rfl rfl) (unit_congr rfl rfl) (unit_congr rfl rfl) (unit_congr rfl rfl) X S W) $$ [HF HO]
  · isplitl [HF]; · iexact HF
    iexact HO
  iintro ⟨HR, HO⟩
  ihave HR := (show iprop(rest d arg0 arg1 arg2 arg5 arg6 arg7 X S W X S W 7) ⊢ iprop(owns (d : Thread nD τ) arg8 fullShare A8 -∗ iprop(rest d arg0 arg1 arg2 arg5 arg6 arg7 X S W X S W 7 ∗ owns (d : Thread nD τ) arg8 fullShare A8)) from by iintro A B; isplitl [A]; (iexact A); iexact B) $$ HR H8
  iapply (wp_fill X S W d arg0 arg1 arg2 arg5 arg6 arg7 arg8 harg8 _ _ _ _ _ _ _ _ _ _ 7 56 (by decide) rfl rfl rfl rfl A8) $$ HR
  iintro %B0 %G0 HR
  iapply (wp_fill X S W d arg0 arg1 arg2 arg5 arg6 arg7 arg8 harg8 _ _ _ _ _ _ _ _ _ _ 7 57 (by decide) rfl rfl rfl rfl B0) $$ HR
  iintro %B1 %G1 HR
  iapply (wp_fill X S W d arg0 arg1 arg2 arg5 arg6 arg7 arg8 harg8 _ _ _ _ _ _ _ _ _ _ 7 58 (by decide) rfl rfl rfl rfl B1) $$ HR
  iintro %B2 %G2 HR
  iapply Hk $$ [] HR HO
  ipureintro
  exact ⟨G2.2 _ (G1.2 _ G0.1), G2.2 _ G1.1, G2.1⟩

theorem wp_tailLast (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 14)
    ⊢ iprop((∀ m' : Mxu F, ⌜Has m' (lastD X S W V)⌝
          -∗ iprop(rest d arg0 arg1 arg2 arg5 arg6 arg7 X S W X S W 7 ∗ owns (d : Thread nD τ) arg8 fullShare A8) -∗ yfl d arg4 arg9 (outT (lastY X S W V) gain) 14 -∗ WP d (kk m') Q)
      -∗ WP d (tailLast arg4 harg4 arg6 arg7 arg8 arg9 harg9 cc0_scratch7 gain m >>= kk) Q) := by
  unfold tailLast
  simp only [bind_assoc, pure_bind]
  iintro ⟨HR, HY⟩ Hk
  iapply (wp_step X S W d arg0 arg1 arg2 arg5 arg6 arg7 arg8 m _ _ _ _ _ _ _ _ _ _ _ _ _ _ H 7 56 14 7 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 57 14 7 (by decide) rfl rfl rfl rfl rfl rfl A8 hG.2.1) $$ HR
  iintro %m2 %H2 HR
  iapply (wp_step X S W d arg0 arg1 arg2 arg5 arg6 arg7 arg8 m2 _ _ _ _ _ _ _ _ _ _ _ _ _ _ H2 7 58 14 7 (by decide) rfl rfl rfl rfl rfl rfl A8 hG.2.2) $$ HR
  iintro %m3 %H3 HR
  have K3 : Has m3 (lastV X S W V) := H3
  have K4 : Has (m3.pop 0 224 128 fits_224_128) (drop (lastV X S W V) 0 7) := K3.pop 0 7
  have K5 : Has ((m3.pop 0 224 128 fits_224_128).pop 1 224 128 fits_224_128) (lastD X S W V) := K4.pop 1 7
  have e : addf (m3.read 0 224 fits_224_128) ((m3.pop 0 224 128 fits_224_128).read 1 224 fits_224_128) = lastY X S W V := by
    unfold lastY
    rw [← K3.read 0 7 rfl, ← K4.read 1 7 rfl]
    rfl
  rw [e]
  iapply (wp_finish d arg4 arg9 harg4 harg9 (lastY X S W V) gain _ _ _ _ cc0_scratch7 _ _ 14 rfl (cellY_eq 14 _ _ rfl) (hN 14) Y4 Y9) $$ HY
  iintro HY
  iapply Hk $$ [] HR HY
  ipureintro
  exact K5

theorem wp_pair0 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 0 ∗ yidle d arg4 arg9 Y4 Y9 1)
    ⊢ iprop((∀ m' : Mxu F, ⌜Has m' (pairD X S W V 0)⌝
          -∗ iprop(rest d arg0 arg1 arg2 arg5 arg6 arg7 X S W X S W 7 ∗ owns (d : Thread nD τ) arg8 fullShare A8)
          -∗ yfl d arg4 arg9 (outT (pairY X S W V 0 0) gain) 0 -∗ yfl d arg4 arg9 (outT (pairY X S W V 0 1) gain) 1 -∗ WP d (kk m') Q)
      -∗ WP d (pair0 arg4 harg4 arg6 arg7 arg8 arg9 harg9 cc0_scratch7 gain m >>= kk) Q) := by
  unfold pair0
  simp only [bind_assoc, pure_bind]
  iintro ⟨HR, HY0, HY1⟩ Hk
  iapply (wp_step X S W d arg0 arg1 arg2 arg5 arg6 arg7 arg8 m _ _ _ _ _ _ _ _ _ _ _ _ _ _ H 7 56 0 0 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 1 0 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 0 0 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 1 0 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 0 0 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 1 0 (by decide) rfl rfl rfl rfl rfl rfl A8 hG.2.2) $$ HR
  iintro %m6 %H6 HR
  have K3 : Has m6 (pairV X S W V 0) := H6
  have K4 : Has (m6.pop 0 0 128 fits_0_128) (drop (pairV X S W V 0) 0 0) := K3.pop 0 0
  have K5 : Has ((m6.pop 0 0 128 fits_0_128).pop 1 0 128 fits_0_128) (pairD X S W V 0) := K4.pop 1 0
  have e0 : m6.read 0 0 fits_0_128 = pairY X S W V 0 0 := K3.read 0 0 rfl
  have e1 : (m6.pop 0 0 128 fits_0_128).read 1 0 fits_0_128 = pairY X S W V 0 1 := K4.read 1 0 rfl
  rw [e0, e1]
  iapply (wp_finish d arg4 arg9 harg4 harg9 (pairY X S W V 0 0) gain _ _ _ _ cc0_scratch7 _ _ 0 rfl (cellY_eq 0 _ _ rfl) (hN 0) Y4 Y9) $$ HY0
  iintro HY0
  iapply (wp_finish d arg4 arg9 harg4 harg9 (pairY X S W V 0 1) gain _ _ _ _ cc0_scratch7 _ _ 1 rfl (cellY_eq 1 _ _ rfl) (hN 1) Y4 Y9) $$ HY1
  iintro HY1
  iapply Hk $$ [] HR HY0 HY1
  ipureintro
  exact K5

theorem wp_pair1 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 2 ∗ yidle d arg4 arg9 Y4 Y9 3)
    ⊢ iprop((∀ m' : Mxu F, ⌜Has m' (pairD X S W V 1)⌝
          -∗ iprop(rest d arg0 arg1 arg2 arg5 arg6 arg7 X S W X S W 7 ∗ owns (d : Thread nD τ) arg8 fullShare A8)
          -∗ yfl d arg4 arg9 (outT (pairY X S W V 1 0) gain) 2 -∗ yfl d arg4 arg9 (outT (pairY X S W V 1 1) gain) 3 -∗ WP d (kk m') Q)
      -∗ WP d (pair1 arg4 harg4 arg6 arg7 arg8 arg9 harg9 cc0_scratch7 gain m >>= kk) Q) := by
  unfold pair1
  simp only [bind_assoc, pure_bind]
  iintro ⟨HR, HY0, HY1⟩ Hk
  iapply (wp_step X S W d arg0 arg1 arg2 arg5 arg6 arg7 arg8 m _ _ _ _ _ _ _ _ _ _ _ _ _ _ H 7 56 2 1 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 3 1 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 2 1 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 3 1 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 2 1 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 3 1 (by decide) rfl rfl rfl rfl rfl rfl A8 hG.2.2) $$ HR
  iintro %m6 %H6 HR
  have K3 : Has m6 (pairV X S W V 1) := H6
  have K4 : Has (m6.pop 0 32 128 fits_32_128) (drop (pairV X S W V 1) 0 1) := K3.pop 0 1
  have K5 : Has ((m6.pop 0 32 128 fits_32_128).pop 1 32 128 fits_32_128) (pairD X S W V 1) := K4.pop 1 1
  have e0 : m6.read 0 32 fits_32_128 = pairY X S W V 1 0 := K3.read 0 1 rfl
  have e1 : (m6.pop 0 32 128 fits_32_128).read 1 32 fits_32_128 = pairY X S W V 1 1 := K4.read 1 1 rfl
  rw [e0, e1]
  iapply (wp_finish d arg4 arg9 harg4 harg9 (pairY X S W V 1 0) gain _ _ _ _ cc0_scratch7 _ _ 2 rfl (cellY_eq 2 _ _ rfl) (hN 2) Y4 Y9) $$ HY0
  iintro HY0
  iapply (wp_finish d arg4 arg9 harg4 harg9 (pairY X S W V 1 1) gain _ _ _ _ cc0_scratch7 _ _ 3 rfl (cellY_eq 3 _ _ rfl) (hN 3) Y4 Y9) $$ HY1
  iintro HY1
  iapply Hk $$ [] HR HY0 HY1
  ipureintro
  exact K5

theorem wp_pair2 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 4 ∗ yidle d arg4 arg9 Y4 Y9 5)
    ⊢ iprop((∀ m' : Mxu F, ⌜Has m' (pairD X S W V 2)⌝
          -∗ iprop(rest d arg0 arg1 arg2 arg5 arg6 arg7 X S W X S W 7 ∗ owns (d : Thread nD τ) arg8 fullShare A8)
          -∗ yfl d arg4 arg9 (outT (pairY X S W V 2 0) gain) 4 -∗ yfl d arg4 arg9 (outT (pairY X S W V 2 1) gain) 5 -∗ WP d (kk m') Q)
      -∗ WP d (pair2 arg4 harg4 arg6 arg7 arg8 arg9 harg9 cc0_scratch7 gain m >>= kk) Q) := by
  unfold pair2
  simp only [bind_assoc, pure_bind]
  iintro ⟨HR, HY0, HY1⟩ Hk
  iapply (wp_step X S W d arg0 arg1 arg2 arg5 arg6 arg7 arg8 m _ _ _ _ _ _ _ _ _ _ _ _ _ _ H 7 56 4 2 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 5 2 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 4 2 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 5 2 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 4 2 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 5 2 (by decide) rfl rfl rfl rfl rfl rfl A8 hG.2.2) $$ HR
  iintro %m6 %H6 HR
  have K3 : Has m6 (pairV X S W V 2) := H6
  have K4 : Has (m6.pop 0 64 128 fits_64_128) (drop (pairV X S W V 2) 0 2) := K3.pop 0 2
  have K5 : Has ((m6.pop 0 64 128 fits_64_128).pop 1 64 128 fits_64_128) (pairD X S W V 2) := K4.pop 1 2
  have e0 : m6.read 0 64 fits_64_128 = pairY X S W V 2 0 := K3.read 0 2 rfl
  have e1 : (m6.pop 0 64 128 fits_64_128).read 1 64 fits_64_128 = pairY X S W V 2 1 := K4.read 1 2 rfl
  rw [e0, e1]
  iapply (wp_finish d arg4 arg9 harg4 harg9 (pairY X S W V 2 0) gain _ _ _ _ cc0_scratch7 _ _ 4 rfl (cellY_eq 4 _ _ rfl) (hN 4) Y4 Y9) $$ HY0
  iintro HY0
  iapply (wp_finish d arg4 arg9 harg4 harg9 (pairY X S W V 2 1) gain _ _ _ _ cc0_scratch7 _ _ 5 rfl (cellY_eq 5 _ _ rfl) (hN 5) Y4 Y9) $$ HY1
  iintro HY1
  iapply Hk $$ [] HR HY0 HY1
  ipureintro
  exact K5

theorem wp_pair3 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 6 ∗ yidle d arg4 arg9 Y4 Y9 7)
    ⊢ iprop((∀ m' : Mxu F, ⌜Has m' (pairD X S W V 3)⌝
          -∗ iprop(rest d arg0 arg1 arg2 arg5 arg6 arg7 X S W X S W 7 ∗ owns (d : Thread nD τ) arg8 fullShare A8)
          -∗ yfl d arg4 arg9 (outT (pairY X S W V 3 0) gain) 6 -∗ yfl d arg4 arg9 (outT (pairY X S W V 3 1) gain) 7 -∗ WP d (kk m') Q)
      -∗ WP d (pair3 arg4 harg4 arg6 arg7 arg8 arg9 harg9 cc0_scratch7 gain m >>= kk) Q) := by
  unfold pair3
  simp only [bind_assoc, pure_bind]
  iintro ⟨HR, HY0, HY1⟩ Hk
  iapply (wp_step X S W d arg0 arg1 arg2 arg5 arg6 arg7 arg8 m _ _ _ _ _ _ _ _ _ _ _ _ _ _ H 7 56 6 3 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 7 3 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 6 3 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 7 3 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 6 3 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 7 3 (by decide) rfl rfl rfl rfl rfl rfl A8 hG.2.2) $$ HR
  iintro %m6 %H6 HR
  have K3 : Has m6 (pairV X S W V 3) := H6
  have K4 : Has (m6.pop 0 96 128 fits_96_128) (drop (pairV X S W V 3) 0 3) := K3.pop 0 3
  have K5 : Has ((m6.pop 0 96 128 fits_96_128).pop 1 96 128 fits_96_128) (pairD X S W V 3) := K4.pop 1 3
  have e0 : m6.read 0 96 fits_96_128 = pairY X S W V 3 0 := K3.read 0 3 rfl
  have e1 : (m6.pop 0 96 128 fits_96_128).read 1 96 fits_96_128 = pairY X S W V 3 1 := K4.read 1 3 rfl
  rw [e0, e1]
  iapply (wp_finish d arg4 arg9 harg4 harg9 (pairY X S W V 3 0) gain _ _ _ _ cc0_scratch7 _ _ 6 rfl (cellY_eq 6 _ _ rfl) (hN 6) Y4 Y9) $$ HY0
  iintro HY0
  iapply (wp_finish d arg4 arg9 harg4 harg9 (pairY X S W V 3 1) gain _ _ _ _ cc0_scratch7 _ _ 7 rfl (cellY_eq 7 _ _ rfl) (hN 7) Y4 Y9) $$ HY1
  iintro HY1
  iapply Hk $$ [] HR HY0 HY1
  ipureintro
  exact K5

theorem wp_pair4 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 8 ∗ yidle d arg4 arg9 Y4 Y9 9)
    ⊢ iprop((∀ m' : Mxu F, ⌜Has m' (pairD X S W V 4)⌝
          -∗ iprop(rest d arg0 arg1 arg2 arg5 arg6 arg7 X S W X S W 7 ∗ owns (d : Thread nD τ) arg8 fullShare A8)
          -∗ yfl d arg4 arg9 (outT (pairY X S W V 4 0) gain) 8 -∗ yfl d arg4 arg9 (outT (pairY X S W V 4 1) gain) 9 -∗ WP d (kk m') Q)
      -∗ WP d (pair4 arg4 harg4 arg6 arg7 arg8 arg9 harg9 cc0_scratch7 gain m >>= kk) Q) := by
  unfold pair4
  simp only [bind_assoc, pure_bind]
  iintro ⟨HR, HY0, HY1⟩ Hk
  iapply (wp_step X S W d arg0 arg1 arg2 arg5 arg6 arg7 arg8 m _ _ _ _ _ _ _ _ _ _ _ _ _ _ H 7 56 8 4 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 9 4 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 8 4 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 9 4 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 8 4 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 9 4 (by decide) rfl rfl rfl rfl rfl rfl A8 hG.2.2) $$ HR
  iintro %m6 %H6 HR
  have K3 : Has m6 (pairV X S W V 4) := H6
  have K4 : Has (m6.pop 0 128 128 fits_128_128) (drop (pairV X S W V 4) 0 4) := K3.pop 0 4
  have K5 : Has ((m6.pop 0 128 128 fits_128_128).pop 1 128 128 fits_128_128) (pairD X S W V 4) := K4.pop 1 4
  have e0 : m6.read 0 128 fits_128_128 = pairY X S W V 4 0 := K3.read 0 4 rfl
  have e1 : (m6.pop 0 128 128 fits_128_128).read 1 128 fits_128_128 = pairY X S W V 4 1 := K4.read 1 4 rfl
  rw [e0, e1]
  iapply (wp_finish d arg4 arg9 harg4 harg9 (pairY X S W V 4 0) gain _ _ _ _ cc0_scratch7 _ _ 8 rfl (cellY_eq 8 _ _ rfl) (hN 8) Y4 Y9) $$ HY0
  iintro HY0
  iapply (wp_finish d arg4 arg9 harg4 harg9 (pairY X S W V 4 1) gain _ _ _ _ cc0_scratch7 _ _ 9 rfl (cellY_eq 9 _ _ rfl) (hN 9) Y4 Y9) $$ HY1
  iintro HY1
  iapply Hk $$ [] HR HY0 HY1
  ipureintro
  exact K5

theorem wp_pair5 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 10 ∗ yidle d arg4 arg9 Y4 Y9 11)
    ⊢ iprop((∀ m' : Mxu F, ⌜Has m' (pairD X S W V 5)⌝
          -∗ iprop(rest d arg0 arg1 arg2 arg5 arg6 arg7 X S W X S W 7 ∗ owns (d : Thread nD τ) arg8 fullShare A8)
          -∗ yfl d arg4 arg9 (outT (pairY X S W V 5 0) gain) 10 -∗ yfl d arg4 arg9 (outT (pairY X S W V 5 1) gain) 11 -∗ WP d (kk m') Q)
      -∗ WP d (pair5 arg4 harg4 arg6 arg7 arg8 arg9 harg9 cc0_scratch7 gain m >>= kk) Q) := by
  unfold pair5
  simp only [bind_assoc, pure_bind]
  iintro ⟨HR, HY0, HY1⟩ Hk
  iapply (wp_step X S W d arg0 arg1 arg2 arg5 arg6 arg7 arg8 m _ _ _ _ _ _ _ _ _ _ _ _ _ _ H 7 56 10 5 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 11 5 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 10 5 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 11 5 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 10 5 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 11 5 (by decide) rfl rfl rfl rfl rfl rfl A8 hG.2.2) $$ HR
  iintro %m6 %H6 HR
  have K3 : Has m6 (pairV X S W V 5) := H6
  have K4 : Has (m6.pop 0 160 128 fits_160_128) (drop (pairV X S W V 5) 0 5) := K3.pop 0 5
  have K5 : Has ((m6.pop 0 160 128 fits_160_128).pop 1 160 128 fits_160_128) (pairD X S W V 5) := K4.pop 1 5
  have e0 : m6.read 0 160 fits_160_128 = pairY X S W V 5 0 := K3.read 0 5 rfl
  have e1 : (m6.pop 0 160 128 fits_160_128).read 1 160 fits_160_128 = pairY X S W V 5 1 := K4.read 1 5 rfl
  rw [e0, e1]
  iapply (wp_finish d arg4 arg9 harg4 harg9 (pairY X S W V 5 0) gain _ _ _ _ cc0_scratch7 _ _ 10 rfl (cellY_eq 10 _ _ rfl) (hN 10) Y4 Y9) $$ HY0
  iintro HY0
  iapply (wp_finish d arg4 arg9 harg4 harg9 (pairY X S W V 5 1) gain _ _ _ _ cc0_scratch7 _ _ 11 rfl (cellY_eq 11 _ _ rfl) (hN 11) Y4 Y9) $$ HY1
  iintro HY1
  iapply Hk $$ [] HR HY0 HY1
  ipureintro
  exact K5

theorem wp_pair6 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 12 ∗ yidle d arg4 arg9 Y4 Y9 13)
    ⊢ iprop((∀ m' : Mxu F, ⌜Has m' (pairD X S W V 6)⌝
          -∗ iprop(rest d arg0 arg1 arg2 arg5 arg6 arg7 X S W X S W 7 ∗ owns (d : Thread nD τ) arg8 fullShare A8)
          -∗ yfl d arg4 arg9 (outT (pairY X S W V 6 0) gain) 12 -∗ yfl d arg4 arg9 (outT (pairY X S W V 6 1) gain) 13 -∗ WP d (kk m') Q)
      -∗ WP d (pair6 arg4 harg4 arg6 arg7 arg8 arg9 harg9 cc0_scratch7 gain m >>= kk) Q) := by
  unfold pair6
  simp only [bind_assoc, pure_bind]
  iintro ⟨HR, HY0, HY1⟩ Hk
  iapply (wp_step X S W d arg0 arg1 arg2 arg5 arg6 arg7 arg8 m _ _ _ _ _ _ _ _ _ _ _ _ _ _ H 7 56 12 6 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 13 6 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 12 6 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 13 6 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 12 6 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 13 6 (by decide) rfl rfl rfl rfl rfl rfl A8 hG.2.2) $$ HR
  iintro %m6 %H6 HR
  have K3 : Has m6 (pairV X S W V 6) := H6
  have K4 : Has (m6.pop 0 192 128 fits_192_128) (drop (pairV X S W V 6) 0 6) := K3.pop 0 6
  have K5 : Has ((m6.pop 0 192 128 fits_192_128).pop 1 192 128 fits_192_128) (pairD X S W V 6) := K4.pop 1 6
  have e0 : m6.read 0 192 fits_192_128 = pairY X S W V 6 0 := K3.read 0 6 rfl
  have e1 : (m6.pop 0 192 128 fits_192_128).read 1 192 fits_192_128 = pairY X S W V 6 1 := K4.read 1 6 rfl
  rw [e0, e1]
  iapply (wp_finish d arg4 arg9 harg4 harg9 (pairY X S W V 6 0) gain _ _ _ _ cc0_scratch7 _ _ 12 rfl (cellY_eq 12 _ _ rfl) (hN 12) Y4 Y9) $$ HY0
  iintro HY0
  iapply (wp_finish d arg4 arg9 harg4 harg9 (pairY X S W V 6 1) gain _ _ _ _ cc0_scratch7 _ _ 13 rfl (cellY_eq 13 _ _ rfl) (hN 13) Y4 Y9) $$ HY1
  iintro HY1
  iapply Hk $$ [] HR HY0 HY1
  ipureintro
  exact K5

end Cert.KernelIdeal
-- ==== Proof.IBody.lean ====
module

public import proofs.«01_k».proof.Proof.ITail
public import Idealize.ShloMosaic.Lib.Mxu.Lemmas
public import Idealize.ShloMosaic.Lib.Pipeline.Kit
public import Idealize.ShloMosaic.Lib.Pipeline.FrameBody

@[expose] public section

set_option synthInstance.maxSize 4096

noncomputable section

namespace Cert.KernelIdeal

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

theorem Has.pop0 {m : Mxu F} (H : Has m (fun _ _ => none)) (q : Fin 2) (a : Fin 8) : Has (m.pop q (32 * a.val) 128 (fitsA a)) (fun _ _ => none) := by
  have e : drop (F := F) (fun _ _ => none) q a = fun _ _ => none := by
    funext q' a'; unfold drop; split_ifs <;> rfl
  have h := H.pop q a
  rw [e] at h
  exact h

theorem has_cleared : Has (F := F) (Mxu.pop (Mxu.pop (Mxu.pop (Mxu.pop (Mxu.pop (Mxu.pop (Mxu.pop (Mxu.pop (Mxu.pop (Mxu.pop (Mxu.pop (Mxu.pop (Mxu.pop (Mxu.pop (Mxu.pop (Mxu.pop Mxu.init 0 0 128 fits_0_128) 0 32 128 fits_32_128) 0 64 128 fits_64_128) 0 96 128 fits_96_128) 0 128 128 fits_128_128) 0 160 128 fits_160_128) 0 192 128 fits_192_128) 0 224 128 fits_224_128) 1 0 128 fits_0_128) 1 32 128 fits_32_128) 1 64 128 fits_64_128) 1 96 128 fits_96_128) 1 128 128 fits_128_128) 1 160 128 fits_160_128) 1 192 128 fits_192_128) 1 224 128 fits_224_128) (fun _ _ => none) := ((((((((((((((((Has.init.pop0 0 0).pop0 0 1).pop0 0 2).pop0 0 3).pop0 0 4).pop0 0 5).pop0 0 6).pop0 0 7).pop0 1 0).pop0 1 1).pop0 1 2).pop0 1 3).pop0 1 4).pop0 1 5).pop0 1 6).pop0 1 7)

/-! ## The body -/

variable (X : S128x15104.Idx → Elt F .bf16) (S : S944x3840.Idx → Elt F .fp8e4m3) (W : S7552x3840.Idx → Elt F .i8)

theorem pV_end : ∀ q a, pV X S W 7 q a = none := by
  intro q a
  fin_cases q <;> fin_cases a <;> rfl

variable (d : Dev nD) {α : Type} {Q : α → sProp (MT nD τ sig Unit (Elt F) ℕ (Pipeline.UD sig nD τ) ℕ)}
variable (arg0 : Memref sig .tc .hbm S128x15104 .bf16) (arg1 : Memref sig .tc .hbm S7552x3840 .i8) (arg2 : Memref sig .tc .hbm S944x3840 .fp8e4m3)
variable (arg3 : Memref sig .tc .smem S1x1 .f32)
variable (arg4 : Memref sig .tc .hbm S128x3840 .bf16) (arg9 : Memref sig .tc .vmem S128x3840 .bf16)
variable (arg5 : Memref sig .tc .vmem S128x15104 .bf16) (arg6 : Memref sig .tc .vmem S7552x3840 .i8) (arg7 : Memref sig .tc .vmem S944x3840 .fp8e4m3)
variable (arg8 : Memref sig .tc .vmem S59x2x128x128 .bf16)

theorem list8 (Φ : Fin 8 → sProp (MT nD τ sig Unit (Elt F) ℕ (Pipeline.UD sig nD τ) ℕ)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem list15 (Φ : Fin 15 → sProp (MT nD τ sig Unit (Elt F) ℕ (Pipeline.UD sig nD τ) ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem split15 (Φ : Fin 15 → sProp (MT nD τ sig Unit (Elt F) ℕ (Pipeline.UD sig nD τ) ℕ)) :
    bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [list15]

/-- Every copy moves something. -/
structure Credits : Prop where
  x1 : ∀ (o : Fin 2 → ℕ) (h : ∀ a, o a + S128x1024.size a ≤ S128x15104.size a), 0 < (arg5.slice (Rect.unit (s := S128x15104) o S128x1024.size h) (fun _ => rfl)).view.dmaCredit
  x3 : ∀ (o : Fin 2 → ℕ) (h : ∀ a, o a + S128x384.size a ≤ S128x15104.size a), 0 < (arg5.slice (Rect.unit (s := S128x15104) o S128x384.size h) (fun _ => rfl)).view.dmaCredit
  s1 : ∀ (o : Fin 2 → ℕ) (h : ∀ a, o a + S64x3840.size a ≤ S944x3840.size a), 0 < (arg7.slice (Rect.unit (s := S944x3840) o S64x3840.size h) (fun _ => rfl)).view.dmaCredit
  s3 : ∀ (o : Fin 2 → ℕ) (h : ∀ a, o a + S24x3840.size a ≤ S944x3840.size a), 0 < (arg7.slice (Rect.unit (s := S944x3840) o S24x3840.size h) (fun _ => rfl)).view.dmaCredit
  w1 : ∀ (o : Fin 2 → ℕ) (h : ∀ a, o a + S1024x3840.size a ≤ S7552x3840.size a), 0 < (arg6.slice (Rect.unit (s := S7552x3840) o S1024x3840.size h) (fun _ => rfl)).view.dmaCredit
  w3 : ∀ (o : Fin 2 → ℕ) (h : ∀ a, o a + S384x3840.size a ≤ S7552x3840.size a), 0 < (arg6.slice (Rect.unit (s := S7552x3840) o S384x3840.size h) (fun _ => rfl)).view.dmaCredit
  y : ∀ t : Fin 15, 0 < (arg4.slice (yR t) (fun _ => rfl)).view.dmaCredit

theorem wp_startAll (harg0 : arg0.IsWhole) (harg1 : arg1.IsWhole) (harg2 : arg2.IsWhole) (harg5 : arg5.IsWhole) (harg6 : arg6.IsWhole) (harg7 : arg7.IsWhole)
    (hC : Credits arg4 arg5 arg6 arg7)
    (X' : S128x15104.Idx → Elt F .bf16) (S' : S944x3840.Idx → Elt F .fp8e4m3) (W' : S7552x3840.Idx → Elt F .i8)
    {kk : PUnit → Prog (TpuEff nD τ sig (Elt F) Λ₀ .tc) α} :
    bigSep Finset.univ (fun g : Fin 8 => rest d arg0 arg1 arg2 arg5 arg6 arg7 X S W X' S' W' g)
    ⊢ iprop((bigSep Finset.univ (fun g : Fin 8 => fly d arg0 arg1 arg2 arg5 arg6 arg7 X S W g) -∗ WP d (kk ⟨⟩) Q)
      -∗ WP d (startAll (F := F) arg0 harg0 arg1 harg1 arg2 harg2 arg5 harg5 arg6 harg6 arg7 harg7 cc0_scratch5 cc0_scratch6 >>= kk) Q) := by
  unfold startAll
  simp only [bind_assoc, pure_bind]
  rw [list8, list8]
  iintro ⟨R0, R1, R2, R3, R4, R5, R6, R7⟩ Hk
  iapply (wp_fetchG d arg0 arg1 arg2 arg5 arg6 arg7 harg0 harg1 harg2 harg5 harg6 harg7 cc0_scratch5 0 _ _ _ _ _ _ _ _ _ _ _ _ _ _ _ _ _ _ _ _ _ _ _ _ _
    (cell5_eq 0 0 _ _ rfl) (cell5_eq 0 1 _ _ rfl) (cell5_eq 0 2 _ _ rfl) (cell5_eq 0 3 _ _ rfl) (cell5_eq 0 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R0
  iintro R0
  iapply (wp_fetchG d arg0 arg1 arg2 arg5 arg6 arg7 harg0 harg1 harg2 harg5 harg6 harg7 cc0_scratch5 1 _ _ _ _ _ _ _ _ _ _ _ _ _ _ _ _ _ _ _ _ _ _ _ _ _
    (cell5_eq 1 0 _ _ rfl) (cell5_eq 1 1 _ _ rfl) (cell5_eq 1 2 _ _ rfl) (cell5_eq 1 3 _ _ rfl) (cell5_eq 1 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R1
  iintro R1
  iapply (wp_fetchG d arg0 arg1 arg2 arg5 arg6 arg7 harg0 harg1 harg2 harg5 harg6 harg7 cc0_scratch5 2 _ _ _ _ _ _ _ _ _ _ _ _ _ _ _ _ _ _ _ _ _ _ _ _ _
    (cell5_eq 2 0 _ _ rfl) (cell5_eq 2 1 _ _ rfl) (cell5_eq 2 2 _ _ rfl) (cell5_eq 2 3 _ _ rfl) (cell5_eq 2 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R2
  iintro R2
  iapply (wp_fetchG d arg0 arg1 arg2 arg5 arg6 arg7 harg0 harg1 harg2 harg5 harg6 harg7 cc0_scratch5 3 _ _ _ _ _ _ _ _ _ _ _ _ _ _ _ _ _ _ _ _ _ _ _ _ _
    (cell5_eq 3 0 _ _ rfl) (cell5_eq 3 1 _ _ rfl) (cell5_eq 3 2 _ _ rfl) (cell5_eq 3 3 _ _ rfl) (cell5_eq 3 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R3
  iintro R3
  iapply (wp_fetchG d arg0 arg1 arg2 arg5 arg6 arg7 harg0 harg1 harg2 harg5 harg6 harg7 cc0_scratch5 4 _ _ _ _ _ _ _ _ _ _ _ _ _ _ _ _ _ _ _ _ _ _ _ _ _
    (cell5_eq 4 0 _ _ rfl) (cell5_eq 4 1 _ _ rfl) (cell5_eq 4 2 _ _ rfl) (cell5_eq 4 3 _ _ rfl) (cell5_eq 4 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R4
  iintro R4
  iapply (wp_fetchG d arg0 arg1 arg2 arg5 arg6 arg7 harg0 harg1 harg2 harg5 harg6 harg7 cc0_scratch5 5 _ _ _ _ _ _ _ _ _ _ _ _ _ _ _ _ _ _ _ _ _ _ _ _ _
    (cell5_eq 5 0 _ _ rfl) (cell5_eq 5 1 _ _ rfl) (cell5_eq 5 2 _ _ rfl) (cell5_eq 5 3 _ _ rfl) (cell5_eq 5 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R5
  iintro R5
  iapply (wp_fetchG d arg0 arg1 arg2 arg5 arg6 arg7 harg0 harg1 harg2 harg5 harg6 harg7 cc0_scratch5 6 _ _ _ _ _ _ _ _ _ _ _ _ _ _ _ _ _ _ _ _ _ _ _ _ _
    (cell5_eq 6 0 _ _ rfl) (cell5_eq 6 1 _ _ rfl) (cell5_eq 6 2 _ _ rfl) (cell5_eq 6 3 _ _ rfl) (cell5_eq 6 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R6
  iintro R6
  iapply (wp_fetchT d arg0 arg1 arg2 arg5 arg6 arg7 harg0 harg1 harg2 harg5 harg6 harg7 cc0_scratch6 7 _ _ _ _ _ _ _ _ _ _ _ _ _ _ _ _ _ _ _ _ _ _ _ _ _
    (cellT_eq 0 _ _ rfl) (cellT_eq 1 _ _ rfl) (cellT_eq 2 _ _ rfl) (cellT_eq 3 _ _ rfl) (cellT_eq 4 _ _ rfl)
    (unit_congr rfl rfl) (unit_congr rfl rfl) (unit_congr rfl rfl) (unit_congr rfl rfl) (unit_congr rfl rfl)
    (hC.x3 _ _) (hC.x3 _ _) (hC.s3 _ _) (hC.s3 _ _) (hC.w3 _ _) X S W X' S' W') $$ R7
  iintro R7
  iapply Hk
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

/-- A group between trips: landed or in flight. -/
def grp (n : ℕ) (g : Fin 8) : sProp (MT nD τ sig Unit (Elt F) ℕ (Pipeline.UD sig nD τ) ℕ) :=
  if g.val < n then rest d arg0 arg1 arg2 arg5 arg6 arg7 X S W X S W g else fly d arg0 arg1 arg2 arg5 arg6 arg7 X S W g

/-- What holds between trips. -/
def inv (n : ℕ) (m : Mxu F) : sProp (MT nD τ sig Unit (Elt F) ℕ (Pipeline.UD sig nD τ) ℕ) :=
  iprop(⌜Has m (loopV X S W n)⌝ ∗ (∃ A8, owns (d : Thread nD τ) arg8 fullShare A8) ∗ due d ∗ bigSep Finset.univ (grp X S W d arg0 arg1 arg2 arg5 arg6 arg7 n))

theorem inv_trip (harg0 : arg0.IsWhole) (harg1 : arg1.IsWhole) (harg2 : arg2.IsWhole) (harg5 : arg5.IsWhole) (harg6 : arg6.IsWhole) (harg7 : arg7.IsWhole) (harg8 : arg8.IsWhole)
    (k : Fin 7) (m : Mxu F) :
    inv X S W d arg0 arg1 arg2 arg5 arg6 arg7 arg8 k.val m ⊢ WP d (trip arg0 harg0 arg1 harg1 arg2 harg2 arg5 harg5 arg6 harg6 arg7 harg7 arg8 harg8 cc0_scratch5 k m) (inv X S W d arg0 arg1 arg2 arg5 arg6 arg7 arg8 (k.val + 1)) := by
  have hb : trip arg0 harg0 arg1 harg1 arg2 harg2 arg5 harg5 arg6 harg6 arg7 harg7 arg8 harg8 cc0_scratch5 k m
      = (trip arg0 harg0 arg1 harg1 arg2 harg2 arg5 harg5 arg6 harg6 arg7 harg7 arg8 harg8 cc0_scratch5 k m >>= fun m' => pure m') := (bind_pure _).symm
  rw [hb]
  have e1 : grp X S W d arg0 arg1 arg2 arg5 arg6 arg7 k.val k.castSucc = fly d arg0 arg1 arg2 arg5 arg6 arg7 X S W k.castSucc := by
    unfold grp; rw [if_neg]; exact Nat.lt_irrefl _
  have e2 : grp X S W d arg0 arg1 arg2 arg5 arg6 arg7 (k.val + 1) k.castSucc = rest d arg0 arg1 arg2 arg5 arg6 arg7 X S W X S W k.castSucc := by
    unfold grp; rw [if_pos]; exact Nat.lt_succ_self _
  have e3 : ∀ g : Fin 8, g ≠ k.castSucc → grp X S W d arg0 arg1 arg2 arg5 arg6 arg7 k.val g = grp X S W d arg0 arg1 arg2 arg5 arg6 arg7 (k.val + 1) g := by
    intro g hg
    have : g.val ≠ k.val := fun h => hg (Fin.ext h)
    unfold grp
    by_cases h : g.val < k.val
    · rw [if_pos h, if_pos (by omega)]
    · rw [if_neg h, if_neg (by omega)]
  have e4 : loopV X S W (k.val + 1) = tripV X S W (loopV X S W k.val) k := by
    show (if h : k.val < 7 then _ else _) = _
    rw [dif_pos k.isLt]
  unfold inv
  iintro ⟨%H, ⟨%A8, H8⟩, HO, HB⟩
  ihave HB := (Cert.Own.swap _ _ k.castSucc e3) $$ HB
  rw [e1, e2]
  icases HB with ⟨HF, HB⟩
  iapply (wp_trip X S W d arg0 arg1 arg2 arg5 arg6 arg7 arg8 harg0 harg1 harg2 harg5 harg6 harg7 harg8 k m _ H A8) $$ [HF HO H8]
  · isplitl [HF]; · iexact HF
    isplitl [HO]; · iexact HO
    iexact H8
  iintro %m' %H' ⟨HR, HO, H8⟩
  iapply (le_wp_ret (Fr := frame) (wpE := wpE defs₀ Variants.none (d : Thread nD τ) none) (E := Set.univ) m' _)
  isplitr
  · ipureintro
    rw [e4]; exact H'
  isplitl [H8]; · iexact H8
  isplitl [HO]; · iexact HO
  iapply HB
  iexact HR

/-- The one element of a one-element array. -/
def g0 : S1x1.Idx := fun a => ⟨0, by revert a; decide⟩

theorem trips_eq : k0_t1_loop.trips = 7 := by decide
theorem trips_lt (k : Fin k0_t1_loop.trips) : k.val < 7 := k.isLt
section
set_option maxRecDepth 20000
theorem trip_fin (harg0 : arg0.IsWhole) (harg1 : arg1.IsWhole) (harg2 : arg2.IsWhole) (harg5 : arg5.IsWhole) (harg6 : arg6.IsWhole) (harg7 : arg7.IsWhole) (harg8 : arg8.IsWhole)
    (k : Fin k0_t1_loop.trips) (m : Mxu F) : trip arg0 harg0 arg1 harg1 arg2 harg2 arg5 harg5 arg6 harg6 arg7 harg7 arg8 harg8 cc0_scratch5 k m =  trip arg0 harg0 arg1 harg1 arg2 harg2 arg5 harg5 arg6 harg6 arg7 harg7 arg8 harg8 cc0_scratch5 (⟨k.val, k.isLt⟩ : Fin 7) m := rfl
theorem inv_trip' (harg0 : arg0.IsWhole) (harg1 : arg1.IsWhole) (harg2 : arg2.IsWhole) (harg5 : arg5.IsWhole) (harg6 : arg6.IsWhole) (harg7 : arg7.IsWhole) (harg8 : arg8.IsWhole) (k : Fin k0_t1_loop.trips) (m : Mxu F) :
  inv X S W d arg0 arg1 arg2 arg5 arg6 arg7 arg8 k.val m ⊢ WP d (trip arg0 harg0 arg1 harg1 arg2 harg2 arg5 harg5 arg6 harg6 arg7 harg7 arg8 harg8 cc0_scratch5 k m) (inv X S W d arg0 arg1 arg2 arg5 arg6 arg7 arg8 (k.val + 1)) := by
  have h := inv_trip X S W d arg0 arg1 arg2 arg5 arg6 arg7 arg8 harg0 harg1 harg2 harg5 harg6 harg7 harg8 ⟨k.val, trips_lt k⟩ m
  rw [trip_fin arg0 arg1 arg2 arg5 arg6 arg7 arg8]
  generalize trip arg0 harg0 arg1 harg1 arg2 harg2 arg5 harg5 arg6 harg6 arg7 harg7 arg8 harg8 cc0_scratch5 (⟨k.val, trips_lt k⟩ : Fin 7) m = P at h ⊢
  generalize inv X S W d arg0 arg1 arg2 arg5 arg6 arg7 arg8 k.val m = L at h ⊢
  generalize inv X S W d arg0 arg1 arg2 arg5 arg6 arg7 arg8 (k.val + 1) = L' at h ⊢
  exact h

theorem wp_trips0 (harg0 : arg0.IsWhole) (harg1 : arg1.IsWhole) (harg2 : arg2.IsWhole) (harg5 : arg5.IsWhole) (harg6 : arg6.IsWhole) (harg7 : arg7.IsWhole) (harg8 : arg8.IsWhole) (m : Mxu F) (N : ℕ) (hN : k0_t1_loop.trips = N) {kk : Mxu F → Prog (TpuEff nD τ sig (Elt F) Λ₀ .tc) α} :
    inv X S W d arg0 arg1 arg2 arg5 arg6 arg7 arg8 0 m ⊢ iprop((∀ m', inv X S W d arg0 arg1 arg2 arg5 arg6 arg7 arg8 N m' -∗ WP d (kk m') Q)
      -∗ WP d (Scf.Loop.for k0_t1_loop k0_t1_ok m (fun k m => trip arg0 harg0 arg1 harg1 arg2 harg2 arg5 harg5 arg6 harg6 arg7 harg7 arg8 harg8 cc0_scratch5 k m) >>= kk) Q) := by
  have h : ∀ (k : Fin k0_t1_loop.trips) (m : Mxu F), inv X S W d arg0 arg1 arg2 arg5 arg6 arg7 arg8 k.val m ⊢ WP d (trip arg0 harg0 arg1 harg1 arg2 harg2 arg5 harg5 arg6 harg6 arg7 harg7 arg8 harg8 cc0_scratch5 k m) (inv X S W d arg0 arg1 arg2 arg5 arg6 arg7 arg8 (k.val + 1)) := fun k m => inv_trip' X S W d arg0 arg1 arg2 arg5 arg6 arg7 arg8 harg0 harg1 harg2 harg5 harg6 harg7 harg8 k m
  generalize inv X S W d arg0 arg1 arg2 arg5 arg6 arg7 arg8 = I at h ⊢
  generalize trip (F := F) arg0 harg0 arg1 harg1 arg2 harg2 arg5 harg5 arg6 harg6 arg7 harg7 arg8 harg8 cc0_scratch5 = B at h ⊢
  subst hN
  exact Scf.wp_for_bind frame (wpE defs₀ Variants.none (d : Thread nD τ) none) Set.univ k0_t1_loop.lb k0_t1_loop.ub k0_t1_loop.st k0_t1_ok m B I h

theorem wp_trips (harg0 : arg0.IsWhole) (harg1 : arg1.IsWhole) (harg2 : arg2.IsWhole) (harg5 : arg5.IsWhole) (harg6 : arg6.IsWhole) (harg7 : arg7.IsWhole) (harg8 : arg8.IsWhole) (m : Mxu F) {kk : Mxu F → Prog (TpuEff nD τ sig (Elt F) Λ₀ .tc) α} :
    inv X S W d arg0 arg1 arg2 arg5 arg6 arg7 arg8 0 m ⊢ iprop((∀ m', inv X S W d arg0 arg1 arg2 arg5 arg6 arg7 arg8 7 m' -∗ WP d (kk m') Q)
      -∗ WP d (Scf.Loop.for k0_t1_loop k0_t1_ok m (fun k m => trip arg0 harg0 arg1 harg1 arg2 harg2 arg5 harg5 arg6 harg6 arg7 harg7 arg8 harg8 cc0_scratch5 k m) >>= kk) Q) :=
  wp_trips0 X S W d arg0 arg1 arg2 arg5 arg6 arg7 arg8 harg0 harg1 harg2 harg5 harg6 harg7 harg8 m 7 trips_eq
end

theorem wp_gain (G : S1x1.Idx → Elt F .f32) (r : Rect S1x1) (h1 : r.shape.numel = 1) (hp : EltTy.packing .f32 = 1)
    {kk : Elt F .f32 → Prog (TpuEff nD τ sig (Elt F) Λ₀ .tc) α} :
    owns (d : Thread nD τ) arg3 fullShare G ⊢ iprop((owns (d : Thread nD τ) arg3 fullShare G -∗ WP d (kk (G g0)) Q)
      -∗ WP d (smemLoad arg3 r h1 hp >>= kk) Q) := by
  have hx : ∀ i : S1x1.Idx, i = g0 := by
    intro i; funext a
    fin_cases a
    · exact Fin.ext (by have := (i 0).isLt; show (i 0).val = 0; have h : S1x1.size 0 = 1 := rfl; omega)
    · exact Fin.ext (by have := (i 1).isLt; show (i 1).val = 0; have h : S1x1.size 1 = 1 := rfl; omega)
  have h := Cert.Own.wp_smem_owns (Q := Q) (defs := defs₀) (k := kk) Variants.none (d : Thread nD τ) none Set.univ arg3 r fullShare G
    (hw := View.loads_smem_one hp h1) (x := Shape.Idx.first (h1.symm ▸ Nat.one_pos))
  rw [hx (r.emb _)] at h
  exact h

theorem wp_drainAll (harg4 : arg4.IsWhole) (harg9 : arg9.IsWhole) (w : Fin 15 → S128x256.Idx → Elt F .bf16)
    {kk : PUnit → Prog (TpuEff nD τ sig (Elt F) Λ₀ .tc) α} :
    iprop((yfl d arg4 arg9 (w 0) 0 ∗ yfl d arg4 arg9 (w 1) 1 ∗ yfl d arg4 arg9 (w 2) 2 ∗ yfl d arg4 arg9 (w 3) 3 ∗ yfl d arg4 arg9 (w 4) 4 ∗ yfl d arg4 arg9 (w 5) 5 ∗ yfl d arg4 arg9 (w 6) 6 ∗ yfl d arg4 arg9 (w 7) 7 ∗ yfl d arg4 arg9 (w 8) 8 ∗ yfl d arg4 arg9 (w 9) 9 ∗ yfl d arg4 arg9 (w 10) 10 ∗ yfl d arg4 arg9 (w 11) 11 ∗ yfl d arg4 arg9 (w 12) 12 ∗ yfl d arg4 arg9 (w 13) 13 ∗ yfl d arg4 arg9 (w 14) 14) ∗ due d)
    ⊢ iprop((iprop(bigSep Finset.univ (fun t : Fin 15 => ydone d arg4 arg9 (w t) t) ∗ due d) -∗ WP d (kk ⟨⟩) Q)
      -∗ WP d (drainAll (F := F) arg4 harg4 arg9 harg9 cc0_scratch7 >>= kk) Q) := by
  unfold drainAll
  simp only [bind_assoc, pure_bind]
  rw [list15]
  iintro ⟨⟨Y0, Y1, Y2, Y3, Y4, Y5, Y6, Y7, Y8, Y9, Y10, Y11, Y12, Y13, Y14⟩, HO⟩ Hk
  iapply (wp_drain d arg4 arg9 harg4 harg9 _ _ _ cc0_scratch7 _ _ 14 rfl (cellY_eq 14 _ _ rfl) (w 14)) $$ [Y14 HO]
  · isplitl [Y14]; · iexact Y14
    iexact HO
  iintro ⟨Y14, HO⟩
  iapply (wp_drain d arg4 arg9 harg4 harg9 _ _ _ cc0_scratch7 _ _ 0 rfl (cellY_eq 0 _ _ rfl) (w 0)) $$ [Y0 HO]
  · isplitl [Y0]; · iexact Y0
    iexact HO
  iintro ⟨Y0, HO⟩
  iapply (wp_drain d arg4 arg9 harg4 harg9 _ _ _ cc0_scratch7 _ _ 1 rfl (cellY_eq 1 _ _ rfl) (w 1)) $$ [Y1 HO]
  · isplitl [Y1]; · iexact Y1
    iexact HO
  iintro ⟨Y1, HO⟩
  iapply (wp_drain d arg4 arg9 harg4 harg9 _ _ _ cc0_scratch7 _ _ 2 rfl (cellY_eq 2 _ _ rfl) (w 2)) $$ [Y2 HO]
  · isplitl [Y2]; · iexact Y2
    iexact HO
  iintro ⟨Y2, HO⟩
  iapply (wp_drain d arg4 arg9 harg4 harg9 _ _ _ cc0_scratch7 _ _ 3 rfl (cellY_eq 3 _ _ rfl) (w 3)) $$ [Y3 HO]
  · isplitl [Y3]; · iexact Y3
    iexact HO
  iintro ⟨Y3, HO⟩
  iapply (wp_drain d arg4 arg9 harg4 harg9 _ _ _ cc0_scratch7 _ _ 4 rfl (cellY_eq 4 _ _ rfl) (w 4)) $$ [Y4 HO]
  · isplitl [Y4]; · iexact Y4
    iexact HO
  iintro ⟨Y4, HO⟩
  iapply (wp_drain d arg4 arg9 harg4 harg9 _ _ _ cc0_scratch7 _ _ 5 rfl (cellY_eq 5 _ _ rfl) (w 5)) $$ [Y5 HO]
  · isplitl [Y5]; · iexact Y5
    iexact HO
  iintro ⟨Y5, HO⟩
  iapply (wp_drain d arg4 arg9 harg4 harg9 _ _ _ cc0_scratch7 _ _ 6 rfl (cellY_eq 6 _ _ rfl) (w 6)) $$ [Y6 HO]
  · isplitl [Y6]; · iexact Y6
    iexact HO
  iintro ⟨Y6, HO⟩
  iapply (wp_drain d arg4 arg9 harg4 harg9 _ _ _ cc0_scratch7 _ _ 7 rfl (cellY_eq 7 _ _ rfl) (w 7)) $$ [Y7 HO]
  · isplitl [Y7]; · iexact Y7
    iexact HO
  iintro ⟨Y7, HO⟩
  iapply (wp_drain d arg4 arg9 harg4 harg9 _ _ _ cc0_scratch7 _ _ 8 rfl (cellY_eq 8 _ _ rfl) (w 8)) $$ [Y8 HO]
  · isplitl [Y8]; · iexact Y8
    iexact HO
  iintro ⟨Y8, HO⟩
  iapply (wp_drain d arg4 arg9 harg4 harg9 _ _ _ cc0_scratch7 _ _ 9 rfl (cellY_eq 9 _ _ rfl) (w 9)) $$ [Y9 HO]
  · isplitl [Y9]; · iexact Y9
    iexact HO
  iintro ⟨Y9, HO⟩
  iapply (wp_drain d arg4 arg9 harg4 harg9 _ _ _ cc0_scratch7 _ _ 10 rfl (cellY_eq 10 _ _ rfl) (w 10)) $$ [Y10 HO]
  · isplitl [Y10]; · iexact Y10
    iexact HO
  iintro ⟨Y10, HO⟩
  iapply (wp_drain d arg4 arg9 harg4 harg9 _ _ _ cc0_scratch7 _ _ 11 rfl (cellY_eq 11 _ _ rfl) (w 11)) $$ [Y11 HO]
  · isplitl [Y11]; · iexact Y11
    iexact HO
  iintro ⟨Y11, HO⟩
  iapply (wp_drain d arg4 arg9 harg4 harg9 _ _ _ cc0_scratch7 _ _ 12 rfl (cellY_eq 12 _ _ rfl) (w 12)) $$ [Y12 HO]
  · isplitl [Y12]; · iexact Y12
    iexact HO
  iintro ⟨Y12, HO⟩
  iapply (wp_drain d arg4 arg9 harg4 harg9 _ _ _ cc0_scratch7 _ _ 13 rfl (cellY_eq 13 _ _ rfl) (w 13)) $$ [Y13 HO]
  · isplitl [Y13]; · iexact Y13
    iexact HO
  iintro ⟨Y13, HO⟩
  iapply Hk
  isplitr [HO]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Y10]; · iexact Y10
    isplitl [Y11]; · iexact Y11
    isplitl [Y12]; · iexact Y12
    isplitl [Y13]; · iexact Y13
    iexact Y14
  iexact HO

set_option maxRecDepth 20000 in
theorem wp_body (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole)
    (hC : Credits arg4 arg5 arg6 arg7)
    (X' : S128x15104.Idx → Elt F .bf16) (S' : S944x3840.Idx → Elt F .fp8e4m3) (W' : S7552x3840.Idx → Elt F .i8)
    (A8 : S59x2x128x128.Idx → Elt F .bf16) (G : S1x1.Idx → Elt F .f32) (Y4 Y9 : S128x3840.Idx → Elt F .bf16)
    {kk : PUnit → Prog (TpuEff nD τ sig (Elt F) Λ₀ .tc) α} :
    iprop(bigSep Finset.univ (fun g : Fin 8 => rest d arg0 arg1 arg2 arg5 arg6 arg7 X S W X' S' W' g) ∗ owns (d : Thread nD τ) arg8 fullShare A8 ∗ due d
      ∗ owns (d : Thread nD τ) arg3 fullShare G ∗ bigSep Finset.univ (fun t : Fin 15 => yidle d arg4 arg9 Y4 Y9 t))
    ⊢ iprop((iprop(bigSep Finset.univ (fun g : Fin 8 => rest d arg0 arg1 arg2 arg5 arg6 arg7 X S W X S W g) ∗ (∃ A8', owns (d : Thread nD τ) arg8 fullShare A8') ∗ due d
      ∗ owns (d : Thread nD τ) arg3 fullShare G ∗ bigSep Finset.univ (fun t : Fin 15 => ydone d arg4 arg9 (outT (yV X S W t) (G g0)) t)) -∗ WP d (kk ⟨⟩) Q)
      -∗ WP d (body arg0 harg0 arg1 harg1 arg2 harg2 arg3 harg3 arg4 harg4 arg5 harg5 arg6 harg6 arg7 harg7 arg8 harg8 arg9 harg9 cc0_scratch5 cc0_scratch6 cc0_scratch7 >>= kk) Q) := by
  unfold body
  simp only [bind_assoc]
  iintro ⟨HB, H8, HO, H3, HY⟩ Hk
  iapply (wp_startAll X S W d arg0 arg1 arg2 arg4 arg5 arg6 arg7 harg0 harg1 harg2 harg5 harg6 harg7 hC X' S' W') $$ HB
  iintro HB
  iapply (wp_trips X S W d arg0 arg1 arg2 arg5 arg6 arg7 arg8 harg0 harg1 harg2 harg5 harg6 harg7 harg8 _) $$ [HB H8 HO]
  · unfold inv
    isplitr
    · ipureintro; exact has_cleared
    isplitl [H8]; · iexists A8; iexact H8
    isplitl [HO]; · iexact HO
    iexact HB
  iintro %m0 HI
  unfold inv
  icases HI with ⟨%H, ⟨%B8, H8⟩, HO, HB⟩
  have e7 : ∀ g : Fin 8, g ≠ 7 → grp X S W d arg0 arg1 arg2 arg5 arg6 arg7 7 g = rest d arg0 arg1 arg2 arg5 arg6 arg7 X S W X S W g := by
    intro g hg
    unfold grp
    rw [if_pos]
    have : g.val ≠ 7 := fun h => hg (Fin.ext h)
    omega
  ihave HB := (Cert.Own.swap _ (fun g => rest d arg0 arg1 arg2 arg5 arg6 arg7 X S W X S W g) 7 e7) $$ HB
  rw [show grp X S W d arg0 arg1 arg2 arg5 arg6 arg7 7 7 = fly d arg0 arg1 arg2 arg5 arg6 arg7 X S W 7 from if_neg (by decide)]
  icases HB with ⟨HF, HB⟩
  iapply (wp_tailPrep X S W d arg0 arg1 arg2 arg5 arg6 arg7 arg8 harg0 harg1 harg2 harg5 harg6 harg7 harg8 B8) $$ [HF HO H8]
  · isplitl [HF]; · iexact HF
    isplitl [HO]; · iexact HO
    iexact H8
  iintro %C8 %hG HR HO
  iapply (wp_gain d arg3 G) $$ H3
  iintro H3
  ihave HY := (split15 _) $$ HY
  icases HY with ⟨Y0, Y1, Y2, Y3, Y4, Y5, Y6, Y7, Y8, Y9, Y10, Y11, Y12, Y13, Y14⟩
  iapply (wp_tailLast X S W d arg0 arg1 arg2 arg4 arg9 arg5 arg6 arg7 arg8 harg4 harg9 (G g0) hC.y Y4 Y9 m0 _ H C8 hG) $$ [HR Y14]
  · isplitl [HR]; · iexact HR
    iexact Y14
  iintro %m1 %H1 HR Y14
  have K1 : Has m1 (pV X S W 0) := H1
  iapply (wp_pair0 X S W d arg0 arg1 arg2 arg4 arg9 arg5 arg6 arg7 arg8 harg4 harg9 (G g0) hC.y Y4 Y9 m1 _ K1 C8 hG) $$ [HR Y0 Y1]
  · isplitl [HR]; · iexact HR
    isplitl [Y0]; · iexact Y0
    iexact Y1
  iintro %m2 %H2 HR Y0 Y1
  have K2 : Has m2 (pV X S W 1) := H2
  iapply (wp_pair1 X S W d arg0 arg1 arg2 arg4 arg9 arg5 arg6 arg7 arg8 harg4 harg9 (G g0) hC.y Y4 Y9 m2 _ K2 C8 hG) $$ [HR Y2 Y3]
  · isplitl [HR]; · iexact HR
    isplitl [Y2]; · iexact Y2
    iexact Y3
  iintro %m3 %H3 HR Y2 Y3
  have K3 : Has m3 (pV X S W 2) := H3
  iapply (wp_pair2 X S W d arg0 arg1 arg2 arg4 arg9 arg5 arg6 arg7 arg8 harg4 harg9 (G g0) hC.y Y4 Y9 m3 _ K3 C8 hG) $$ [HR Y4 Y5]
  · isplitl [HR]; · iexact HR
    isplitl [Y4]; · iexact Y4
    iexact Y5
  iintro %m4 %H4 HR Y4 Y5
  have K4 : Has m4 (pV X S W 3) := H4
  iapply (wp_pair3 X S W d arg0 arg1 arg2 arg4 arg9 arg5 arg6 arg7 arg8 harg4 harg9 (G g0) hC.y Y4 Y9 m4 _ K4 C8 hG) $$ [HR Y6 Y7]
  · isplitl [HR]; · iexact HR
    isplitl [Y6]; · iexact Y6
    iexact Y7
  iintro %m5 %H5 HR Y6 Y7
  have K5 : Has m5 (pV X S W 4) := H5
  iapply (wp_pair4 X S W d arg0 arg1 arg2 arg4 arg9 arg5 arg6 arg7 arg8 harg4 harg9 (G g0) hC.y Y4 Y9 m5 _ K5 C8 hG) $$ [HR Y8 Y9]
  · isplitl [HR]; · iexact HR
    isplitl [Y8]; · iexact Y8
    iexact Y9
  iintro %m6 %H6 HR Y8 Y9
  have K6 : Has m6 (pV X S W 5) := H6
  iapply (wp_pair5 X S W d arg0 arg1 arg2 arg4 arg9 arg5 arg6 arg7 arg8 harg4 harg9 (G g0) hC.y Y4 Y9 m6 _ K6 C8 hG) $$ [HR Y10 Y11]
  · isplitl [HR]; · iexact HR
    isplitl [Y10]; · iexact Y10
    iexact Y11
  iintro %m7 %H7 HR Y10 Y11
  have K7 : Has m7 (pV X S W 6) := H7
  iapply (wp_pair6 X S W d arg0 arg1 arg2 arg4 arg9 arg5 arg6 arg7 arg8 harg4 harg9 (G g0) hC.y Y4 Y9 m7 _ K7 C8 hG) $$ [HR Y12 Y13]
  · isplitl [HR]; · iexact HR
    isplitl [Y12]; · iexact Y12
    iexact Y13
  iintro %m8 %H8 HR Y12 Y13
  have K8 : Has m8 (pV X S W 7) := H8
  iapply (wp_drainAll d arg4 arg9 harg4 harg9 (fun t => outT (yV X S W t) (G g0))) $$ [Y0 Y1 Y2 Y3 Y4 Y5 Y6 Y7 Y8 Y9 Y10 Y11 Y12 Y13 Y14 HO]
  · isplitr [HO]
    · isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      isplitl [Y7]; · iexact Y7
      isplitl [Y8]; · iexact Y8
      isplitl [Y9]; · iexact Y9
      isplitl [Y10]; · iexact Y10
      isplitl [Y11]; · iexact Y11
      isplitl [Y12]; · iexact Y12
      isplitl [Y13]; · iexact Y13
      iexact Y14
    iexact HO
  iintro ⟨HY, HO⟩
  iapply (Mxu.wp_exit (defs := defs₀) (Q := Q) (K8.drained (pV_end X S W)))
  iapply Hk
  icases HR with ⟨HR, H8⟩
  isplitl [HB HR]
  · iapply HB; iexact HR
  isplitl [H8]; · iexists C8; iexact H8
  isplitl [HO]; · iexact HO
  isplitl [H3]; · iexact H3
  iexact HY

end Cert.KernelIdeal
-- ==== Proof.ISplit.lean ====
module

public import proofs.«01_k».proof.Proof.IBody
public import proofs.«01_k».proof.Proof.Gen.KernelIdeal.Frame
public import Idealize.ShloMosaic.Lib.Pipeline.FrameBody
public import Idealize.ShloMosaic.Lib.Pipeline.FrameValue

@[expose] public section

set_option synthInstance.maxSize 4096
set_option maxRecDepth 16384

noncomputable section

namespace Cert.KernelIdeal

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own
open Idealize.ShloMosaic.Pipeline (Dat Cfg Window BodyObligation BodyObligationLoose cellOf)

variable {F : FTy → Type} [FloatOps F]

/-! ## The arrays cut into the groups' pieces -/

theorem xR_sep : ∀ (g g' : Fin 8) (k k' : Fin 2), (g, k) ≠ (g', k') →
    7552 * k.val + 1024 * g.val + xLen g ≤ 7552 * k'.val + 1024 * g'.val ∨ 7552 * k'.val + 1024 * g'.val + xLen g' ≤ 7552 * k.val + 1024 * g.val := by
  decide
theorem sR_sep : ∀ (g g' : Fin 8) (k k' : Fin 2), (g, k) ≠ (g', k') →
    472 * k.val + 64 * g.val + sLen g ≤ 472 * k'.val + 64 * g'.val ∨ 472 * k'.val + 64 * g'.val + sLen g' ≤ 472 * k.val + 64 * g.val := by
  decide
theorem wR_sep : ∀ (g g' : Fin 8), g ≠ g' →
    1024 * g.val + xLen g ≤ 1024 * g'.val ∨ 1024 * g'.val + xLen g' ≤ 1024 * g.val := by
  decide

theorem xR_disj (p p' : Fin 8 × Fin 2) (h : p ≠ p') : Disjoint (xR p.1 p.2).set (xR p'.1 p'.2).set :=
  Rect.unit_disjoint (s := S128x15104) 1 (xR_sep p.1 p'.1 p.2 p'.2 h)
theorem sR_disj (p p' : Fin 8 × Fin 2) (h : p ≠ p') : Disjoint (sR p.1 p.2).set (sR p'.1 p'.2).set :=
  Rect.unit_disjoint (s := S944x3840) 0 (sR_sep p.1 p'.1 p.2 p'.2 h)
theorem wR_disj (p p' : Fin 8) (h : p ≠ p') : Disjoint (wR p).set (wR p').set :=
  Rect.unit_disjoint (s := S7552x3840) 0 (wR_sep p p' h)
theorem yR_disj (p p' : Fin 15) (h : p ≠ p') : Disjoint (yR p).set (yR p').set :=
  Rect.unit_disjoint (s := S128x3840) 1 (by
    have : p.val ≠ p'.val := fun e => h (Fin.ext e)
    show 256 * p.val + 256 ≤ 256 * p'.val ∨ 256 * p'.val + 256 ≤ 256 * p.val
    omega)

theorem xR_cov : (Finset.univ : Finset (Fin 8 × Fin 2)).biUnion (fun p => (xR p.1 p.2).set) = Finset.univ := by
  refine Finset.eq_univ_iff_forall.mpr fun i => ?_
  have h1 : (i 1).val < 15104 := (i 1).isLt
  have h0 : (i 0).val < 128 := (i 0).isLt
  refine Finset.mem_biUnion.mpr ⟨(⟨(i 1).val % 7552 / 1024, by omega⟩, ⟨(i 1).val / 7552, by omega⟩), Finset.mem_univ _, Rect.mem_set_unit.mpr fun a => ?_⟩
  fin_cases a
  · show 0 ≤ (i 0).val ∧ (i 0).val < 0 + 128
    omega
  · show 7552 * ((i 1).val / 7552) + 1024 * ((i 1).val % 7552 / 1024) ≤ (i 1).val
      ∧ (i 1).val < 7552 * ((i 1).val / 7552) + 1024 * ((i 1).val % 7552 / 1024) + (if (i 1).val % 7552 / 1024 = 7 then 384 else 1024)
    split_ifs <;> omega
theorem sR_cov : (Finset.univ : Finset (Fin 8 × Fin 2)).biUnion (fun p => (sR p.1 p.2).set) = Finset.univ := by
  refine Finset.eq_univ_iff_forall.mpr fun i => ?_
  have h0 : (i 0).val < 944 := (i 0).isLt
  have h1 : (i 1).val < 3840 := (i 1).isLt
  refine Finset.mem_biUnion.mpr ⟨(⟨(i 0).val % 472 / 64, by omega⟩, ⟨(i 0).val / 472, by omega⟩), Finset.mem_univ _, Rect.mem_set_unit.mpr fun a => ?_⟩
  fin_cases a
  · show 472 * ((i 0).val / 472) + 64 * ((i 0).val % 472 / 64) ≤ (i 0).val
      ∧ (i 0).val < 472 * ((i 0).val / 472) + 64 * ((i 0).val % 472 / 64) + (if (i 0).val % 472 / 64 = 7 then 24 else 64)
    split_ifs <;> omega
  · show 0 ≤ (i 1).val ∧ (i 1).val < 0 + 3840
    omega
theorem wR_cov : (Finset.univ : Finset (Fin 8)).biUnion (fun p => (wR p).set) = Finset.univ := by
  refine Finset.eq_univ_iff_forall.mpr fun i => ?_
  have h0 : (i 0).val < 7552 := (i 0).isLt
  have h1 : (i 1).val < 3840 := (i 1).isLt
  refine Finset.mem_biUnion.mpr ⟨⟨(i 0).val / 1024, by omega⟩, Finset.mem_univ _, Rect.mem_set_unit.mpr fun a => ?_⟩
  fin_cases a
  · show 1024 * ((i 0).val / 1024) ≤ (i 0).val
      ∧ (i 0).val < 1024 * ((i 0).val / 1024) + (if (i 0).val / 1024 = 7 then 384 else 1024)
    split_ifs <;> omega
  · show 0 ≤ (i 1).val ∧ (i 1).val < 0 + 3840
    omega
theorem yR_cov : (Finset.univ : Finset (Fin 15)).biUnion (fun p => (yR p).set) = Finset.univ := by
  refine Finset.eq_univ_iff_forall.mpr fun i => ?_
  have h0 : (i 0).val < 128 := (i 0).isLt
  have h1 : (i 1).val < 3840 := (i 1).isLt
  refine Finset.mem_biUnion.mpr ⟨⟨(i 1).val / 256, by omega⟩, Finset.mem_univ _, Rect.mem_set_unit.mpr fun a => ?_⟩
  fin_cases a
  · show 0 ≤ (i 0).val ∧ (i 0).val < 0 + 128
    omega
  · show 256 * ((i 1).val / 256) ≤ (i 1).val ∧ (i 1).val < 256 * ((i 1).val / 256) + 256
    omega

variable (d : Dev nD)

instance elt_nonempty (e : EltTy) : Nonempty (Elt F e) := ⟨(Elt.inhabited F e).default⟩

theorem x_eq {sp : Space} (m : Memref sig .tc sp S128x15104 .bf16) (X : S128x15104.Idx → Elt F .bf16) :
    (owns (d : Thread nD τ) m fullShare X : sProp (MT nD τ sig Unit (Elt F) ℕ (Pipeline.UD sig nD τ) ℕ))
      = iprop(bigSep Finset.univ (fun g : Fin 8 => pc d m X (xR g 0) (fun _ => rfl)) ∗ bigSep Finset.univ (fun g : Fin 8 => pc d m X (xR g 1) (fun _ => rfl))) := by
  rw [← bigSep_sep']
  have e : (fun g : Fin 8 => iprop(pc d m X (xR g 0) (fun _ => rfl) ∗ pc d m X (xR g 1) (fun _ => rfl)))
      = fun g : Fin 8 => bigSep Finset.univ (fun k : Fin 2 => pc d m X (xR g k) (fun _ => rfl)) := by
    funext g; rw [bigSep_univ_two]
  rw [e, ← bigSep_univ_prod (fun p : Fin 8 × Fin 2 => pc d m X (xR p.1 p.2) (fun _ => rfl))]
  exact BI.equiv_iff.mp ⟨owns_rects (d : Thread nD τ) m fullShare (fun p : Fin 8 × Fin 2 => xR p.1 p.2) (fun _ _ => rfl) xR_disj xR_cov X,
    owns_of_rects (d : Thread nD τ) m fullShare (fun p : Fin 8 × Fin 2 => xR p.1 p.2) (fun _ _ => rfl) xR_disj xR_cov X⟩

theorem s_eq {sp : Space} (m : Memref sig .tc sp S944x3840 .fp8e4m3) (X : S944x3840.Idx → Elt F .fp8e4m3) :
    (owns (d : Thread nD τ) m fullShare X : sProp (MT nD τ sig Unit (Elt F) ℕ (Pipeline.UD sig nD τ) ℕ))
      = iprop(bigSep Finset.univ (fun g : Fin 8 => pc d m X (sR g 0) (fun _ => rfl)) ∗ bigSep Finset.univ (fun g : Fin 8 => pc d m X (sR g 1) (fun _ => rfl))) := by
  rw [← bigSep_sep']
  have e : (fun g : Fin 8 => iprop(pc d m X (sR g 0) (fun _ => rfl) ∗ pc d m X (sR g 1) (fun _ => rfl)))
      = fun g : Fin 8 => bigSep Finset.univ (fun k : Fin 2 => pc d m X (sR g k) (fun _ => rfl)) := by
    funext g; rw [bigSep_univ_two]
  rw [e, ← bigSep_univ_prod (fun p : Fin 8 × Fin 2 => pc d m X (sR p.1 p.2) (fun _ => rfl))]
  exact BI.equiv_iff.mp ⟨owns_rects (d : Thread nD τ) m fullShare (fun p : Fin 8 × Fin 2 => sR p.1 p.2) (fun _ _ => rfl) sR_disj sR_cov X,
    owns_of_rects (d : Thread nD τ) m fullShare (fun p : Fin 8 × Fin 2 => sR p.1 p.2) (fun _ _ => rfl) sR_disj sR_cov X⟩

theorem w_eq {sp : Space} (m : Memref sig .tc sp S7552x3840 .i8) (X : S7552x3840.Idx → Elt F .i8) :
    (owns (d : Thread nD τ) m fullShare X : sProp (MT nD τ sig Unit (Elt F) ℕ (Pipeline.UD sig nD τ) ℕ))
      = bigSep Finset.univ (fun g : Fin 8 => pc d m X (wR g) (fun _ => rfl)) :=
  BI.equiv_iff.mp ⟨owns_rects (d : Thread nD τ) m fullShare (fun p : Fin 8 => wR p) (fun _ _ => rfl) wR_disj wR_cov X,
    owns_of_rects (d : Thread nD τ) m fullShare (fun p : Fin 8 => wR p) (fun _ _ => rfl) wR_disj wR_cov X⟩

theorem y_eq {sp : Space} (m : Memref sig .tc sp S128x3840 .bf16) (X : S128x3840.Idx → Elt F .bf16) :
    (owns (d : Thread nD τ) m fullShare X : sProp (MT nD τ sig Unit (Elt F) ℕ (Pipeline.UD sig nD τ) ℕ))
      = bigSep Finset.univ (fun t : Fin 15 => pc d m X (yR t) (fun _ => rfl)) :=
  BI.equiv_iff.mp ⟨owns_rects (d : Thread nD τ) m fullShare (fun p : Fin 15 => yR p) (fun _ _ => rfl) yR_disj yR_cov X,
    owns_of_rects (d : Thread nD τ) m fullShare (fun p : Fin 15 => yR p) (fun _ _ => rfl) yR_disj yR_cov X⟩

/-- The kernel's own DMA semaphores. -/
def osem0 : (Fin 8 × Fin 5) ⊕ Fin 15 → SemLoc sig := Sum.elim (fun p => .dma (semG p.1 p.2)) (fun t => .dma (semY t))

theorem sem_eq : (Pipeline.ownSems0 (Ix := Unit) (Name := ℕ) (U := Pipeline.UD sig nD τ) (Lvl := ℕ) (Val := Elt F) (τ := τ) osem0 d
      : sProp (MT nD τ sig Unit (Elt F) ℕ (Pipeline.UD sig nD τ) ℕ))
    = iprop(bigSep Finset.univ (fun g : Fin 8 => iprop(sv d (semG g 0) ∗ sv d (semG g 1) ∗ sv d (semG g 2) ∗ sv d (semG g 3) ∗ sv d (semG g 4)))
        ∗ bigSep Finset.univ (fun t : Fin 15 => sv d (semY t))) := by
  unfold Pipeline.ownSems0
  refine (BI.bigSep_univ_sum _).trans ?_
  refine congrArg₂ (fun a b => iprop(a ∗ b)) ?_ rfl
  refine (bigSep_univ_prod _).trans ?_
  exact congrArg (bigSep Finset.univ) (funext fun g => bigSep_univ_eq_bigSepL [0, 1, 2, 3, 4] (by decide) (by decide) (fun k : Fin 5 => sv d (semG g k)))

variable (arg0 : Memref sig .tc .hbm S128x15104 .bf16) (arg1 : Memref sig .tc .hbm S7552x3840 .i8) (arg2 : Memref sig .tc .hbm S944x3840 .fp8e4m3)
variable (arg4 : Memref sig .tc .hbm S128x3840 .bf16) (arg9 : Memref sig .tc .vmem S128x3840 .bf16)
variable (arg5 : Memref sig .tc .vmem S128x15104 .bf16) (arg6 : Memref sig .tc .vmem S7552x3840 .i8) (arg7 : Memref sig .tc .vmem S944x3840 .fp8e4m3)

theorem sep_antisymm {A B : sProp (MT nD τ sig Unit (Elt F) ℕ (Pipeline.UD sig nD τ) ℕ)} (h1 : A ⊢ B) (h2 : B ⊢ A) : A = B := BI.equiv_iff.mp ⟨h1, h2⟩

theorem rests_eq (X : S128x15104.Idx → Elt F .bf16) (S : S944x3840.Idx → Elt F .fp8e4m3) (W : S7552x3840.Idx → Elt F .i8)
    (X' : S128x15104.Idx → Elt F .bf16) (S' : S944x3840.Idx → Elt F .fp8e4m3) (W' : S7552x3840.Idx → Elt F .i8) :
    iprop((owns (d : Thread nD τ) arg0 fullShare X ∗ owns (d : Thread nD τ) arg2 fullShare S ∗ owns (d : Thread nD τ) arg1 fullShare W)
      ∗ (owns (d : Thread nD τ) arg5 fullShare X' ∗ owns (d : Thread nD τ) arg7 fullShare S' ∗ owns (d : Thread nD τ) arg6 fullShare W')
      ∗ bigSep Finset.univ (fun g : Fin 8 => iprop(sv d (semG g 0) ∗ sv d (semG g 1) ∗ sv d (semG g 2) ∗ sv d (semG g 3) ∗ sv d (semG g 4))))
    = bigSep Finset.univ (fun g : Fin 8 => rest d arg0 arg1 arg2 arg5 arg6 arg7 X S W X' S' W' g) := by
  unfold rest
  simp only [bigSep_sep']
  rw [x_eq, x_eq, s_eq, s_eq, w_eq, w_eq]
  refine sep_antisymm ?_ ?_
  · iintro ⟨⟨⟨A0, A1⟩, ⟨A2, A3⟩, A4⟩, ⟨⟨B0, B1⟩, ⟨B2, B3⟩, B4⟩, HS⟩
    isplitl [A0 A1 A2 A3 A4]
    · isplitl [A0]; · iexact A0
      isplitl [A1]; · iexact A1
      isplitl [A2]; · iexact A2
      isplitl [A3]; · iexact A3
      iexact A4
    isplitl [B0 B1 B2 B3 B4]
    · isplitl [B0]; · iexact B0
      isplitl [B1]; · iexact B1
      isplitl [B2]; · iexact B2
      isplitl [B3]; · iexact B3
      iexact B4
    iexact HS
  · iintro ⟨⟨A0, A1, A2, A3, A4⟩, ⟨B0, B1, B2, B3, B4⟩, HS⟩
    isplitl [A0 A1 A2 A3 A4]
    · isplitl [A0 A1]
      · isplitl [A0]; · iexact A0
        iexact A1
      isplitl [A2 A3]
      · isplitl [A2]; · iexact A2
        iexact A3
      iexact A4
    isplitl [B0 B1 B2 B3 B4]
    · isplitl [B0 B1]
      · isplitl [B0]; · iexact B0
        iexact B1
      isplitl [B2 B3]
      · isplitl [B2]; · iexact B2
        iexact B3
      iexact B4
    iexact HS

theorem yidle_eq (Y4 Y9 : S128x3840.Idx → Elt F .bf16) :
    iprop(owns (d : Thread nD τ) arg4 fullShare Y4 ∗ owns (d : Thread nD τ) arg9 fullShare Y9 ∗ bigSep Finset.univ (fun t : Fin 15 => sv d (semY t)))
    = bigSep Finset.univ (fun t : Fin 15 => yidle d arg4 arg9 Y4 Y9 t) := by
  unfold yidle
  simp only [bigSep_sep']
  rw [y_eq, y_eq]

/-- The tile of a column, and the place in it. -/
def yTile (i : S128x3840.Idx) : Fin 15 := ⟨(i 1).val / 256, by have : (i 1).val < 3840 := (i 1).isLt; omega⟩
def yAt (i : S128x3840.Idx) : S128x256.Idx := fun a => ⟨(![(i 0).val, (i 1).val % 256] : Fin 2 → ℕ) a, by
  fin_cases a
  · exact (i 0).isLt
  · exact Nat.mod_lt _ (by decide)⟩

/-- The whole result from its tiles. -/
def yOf (w : Fin 15 → S128x256.Idx → Elt F .bf16) (i : S128x3840.Idx) : Elt F .bf16 := w (yTile i) (yAt i)

theorem yOf_emb (w : Fin 15 → S128x256.Idx → Elt F .bf16) (t : Fin 15) : (fun j => yOf w ((yR t).emb j)) = w t := by
  funext j
  have h1 : (j 1).val < 256 := (j 1).isLt
  have hv : ((yR t).emb j 1).val = 256 * t.val + 1 * (j 1).val := rfl
  have hu : ((yR t).emb j 0).val = 0 + 1 * (j 0).val := rfl
  have e1 : yTile ((yR t).emb j) = t := by
    refine Fin.ext ?_
    show ((yR t).emb j 1).val / 256 = t.val
    omega
  have e2 : yAt ((yR t).emb j) = j := by
    funext a
    refine Fin.ext ?_
    fin_cases a
    · show ((yR t).emb j 0).val = (j 0).val
      omega
    · show ((yR t).emb j 1).val % 256 = (j 1).val
      omega
  unfold yOf
  rw [e1, e2]

theorem ydone_eq (w : Fin 15 → S128x256.Idx → Elt F .bf16) :
    bigSep Finset.univ (fun t : Fin 15 => ydone d arg4 arg9 (w t) t)
    = iprop(owns (d : Thread nD τ) arg4 fullShare (yOf w) ∗ owns (d : Thread nD τ) arg9 fullShare (yOf w) ∗ bigSep Finset.univ (fun t : Fin 15 => sv d (semY t))) := by
  rw [yidle_eq]
  refine congrArg (bigSep Finset.univ) (funext fun t => ?_)
  unfold yidle ydone pc
  rw [yOf_emb]

theorem credits [Facts] : Credits (Memref.whole main_v2) (Memref.whole cc0_scratch0) (Memref.whole cc0_scratch1) (Memref.whole cc0_scratch2) where
  x1 := fun o h => by show 0 < Ref.dmaCredit cc0_scratch0 S128x1024 .bf16; decide
  x3 := fun o h => by show 0 < Ref.dmaCredit cc0_scratch0 S128x384 .bf16; decide
  s1 := fun o h => by show 0 < Ref.dmaCredit cc0_scratch2 S64x3840 .fp8e4m3; decide
  s3 := fun o h => by show 0 < Ref.dmaCredit cc0_scratch2 S24x3840 .fp8e4m3; decide
  w1 := fun o h => by show 0 < Ref.dmaCredit cc0_scratch1 S1024x3840 .i8; decide
  w3 := fun o h => by show 0 < Ref.dmaCredit cc0_scratch1 S384x3840 .i8; decide
  y := fun t => by show 0 < Ref.dmaCredit main_v2 S128x256 .bf16; decide

end Cert.KernelIdeal
-- ==== Proof.IFrame.lean ====
module

public import proofs.«01_k».proof.Proof.ISplit

@[expose] public section

set_option synthInstance.maxSize 4096
set_option maxRecDepth 16384

noncomputable section

namespace Cert.KernelIdeal

open Cert.KernelIdeal.Gen
open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem ent_of_eq {A B : sProp 𝕄} (h : A = B) : A ⊢ B := by rw [h]

/-- The kernel's own text is the text it is proved of. -/
def Same (F : FTy → Type) [FloatOps F] : Prop :=
  ∀ t : Fin cfg0.N, bodyAt0 (F := F) t
    = body (F := F) (Memref.whole main_v0) (Memref.isWhole_whole _) (Memref.whole main_arg1) (Memref.isWhole_whole _) (Memref.whole main_arg2) (Memref.isWhole_whole _)
        (win0_0.stage (cfg0.slots t 0)) (hstage0_0 0) (Memref.whole main_v2) (Memref.isWhole_whole _) (Memref.whole cc0_scratch0) (Memref.isWhole_whole _)
        (Memref.whole cc0_scratch1) (Memref.isWhole_whole _) (Memref.whole cc0_scratch2) (Memref.isWhole_whole _) (Memref.whole cc0_scratch3) (Memref.isWhole_whole _)
        (Memref.whole cc0_scratch4) (Memref.isWhole_whole _) cc0_scratch5 cc0_scratch6 cc0_scratch7

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the kernel holds -/

theorem ownSemFacts0 : Pipeline.OwnSemFacts spec0 osem0 where
  isScoped := by decide
  inj := by
    rintro (⟨g, i⟩ | t) (⟨g', i'⟩ | t') h
    · have h1 : semG g i = semG g' i' := SemLoc.dma.inj h
      have h2 : 1 + 5 * g.val + i.val = 1 + 5 * g'.val + i'.val := congrArg Fin.val h1
      have hg : g = g' := Fin.ext (by omega)
      subst hg
      have hi : i = i' := Fin.ext (by omega)
      subst hi; rfl
    · have h1 : semG g i = semY t' := SemLoc.dma.inj h
      have h2 : 1 + 5 * g.val + i.val = 41 + t'.val := congrArg Fin.val h1
      omega
    · have h1 : semY t = semG g' i' := SemLoc.dma.inj h
      have h2 : 41 + t.val = 1 + 5 * g'.val + i'.val := congrArg Fin.val h1
      omega
    · have h1 : semY t = semY t' := SemLoc.dma.inj h
      have h2 : 41 + t.val = 41 + t'.val := congrArg Fin.val h1
      have ht : t = t' := Fin.ext (by omega)
      subst ht; rfl
  disj := by decide

/-- The arrays the kernel's copies read, -/
def H0 : Finset (Ref sig .tc) := {main_v0, main_arg1, main_arg2}
theorem H0_sub : H0 ⊆ Pipeline.restRefs sig spec0 := by decide
/-- and the one they write. -/
def R0 : Finset (Ref sig .tc) := {main_v2}
theorem R0_sub : R0 ⊆ Pipeline.restRefs sig spec0 \ H0 := by decide

/-- The kernel's result. -/
def yOut (X : S128x15104.Idx → Elt F .bf16) (S : S944x3840.Idx → Elt F .fp8e4m3) (W : S7552x3840.Idx → Elt F .i8) (G : S1x1.Idx → Elt F .f32) :
    S128x3840.Idx → Elt F .bf16 := yOf fun t => outT (yV X S W t) (G g0)

/-- The gain, as the kernel finds it. -/
def gainIn (c : Dev nD) : S1x1.Idx → Elt F .f32 := iblk m c 0 t0_0

/-- The arrays when the kernel is done. -/
def G (c : Dev nD) : (b : Ref sig .tc) → Buf (Elt F) ((c : Thread nD τ).loc b) :=
  Function.update (V m c) main_v2 (yOut (V m c main_v0) (V m c main_arg2) (V m c main_arg1) (gainIn m c))

theorem G_v2 (c : Dev nD) : G m c main_v2 = yOut (V m c main_v0) (V m c main_arg2) (V m c main_arg1) (gainIn m c) := Function.update_self ..

theorem phi_eq (c : Dev nD) (K : (c : Dev nD) → (b : Ref sig .tc) → Buf (Elt F) ((c : Thread nD τ).loc b)) :
    (Pipeline.ΦDRG osem0 spec0 H0 R0 (V m) K c : sProp 𝕄)
      = iprop(iprop((∃ f, owns (c : Thread nD τ) (Memref.whole cc0_scratch0) fullShare f) ∗ (∃ f, owns (c : Thread nD τ) (Memref.whole cc0_scratch1) fullShare f)
            ∗ (∃ f, owns (c : Thread nD τ) (Memref.whole cc0_scratch2) fullShare f) ∗ (∃ f, owns (c : Thread nD τ) (Memref.whole cc0_scratch3) fullShare f)
            ∗ (∃ f, owns (c : Thread nD τ) (Memref.whole cc0_scratch4) fullShare f))
          ∗ (∃ r, prngReg c r)
          ∗ iprop(bigSep Finset.univ (fun g : Fin 8 => iprop(sv c (semG g 0) ∗ sv c (semG g 1) ∗ sv c (semG g 2) ∗ sv c (semG g 3) ∗ sv c (semG g 4)))
              ∗ bigSep Finset.univ (fun t : Fin 15 => sv c (semY t)))
          ∗ iprop(owns (c : Thread nD τ) (Memref.whole main_v0) fullShare (V m c main_v0) ∗ owns (c : Thread nD τ) (Memref.whole main_arg1) fullShare (V m c main_arg1)
              ∗ owns (c : Thread nD τ) (Memref.whole main_arg2) fullShare (V m c main_arg2))
          ∗ owns (c : Thread nD τ) (Memref.whole main_v2) fullShare (K c main_v2)) := by
  rw [Pipeline.ΦDRG_eq, scopedRest0_eq, sem_eq]
  simp only [owns_whole]
  unfold Pipeline.routed
  rw [BI.bigSep_eq_bigSepL_of_eq (S := H0) [main_v0, main_arg1, main_arg2] (by decide) (by decide),
    BI.bigSep_eq_bigSepL_of_eq (S := R0) [main_v2] (by decide) (by decide)]
  rfl

/-- The proof data: the gain's block stays; the result is written between the two ends. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ n := if n.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem phi_in (c : Dev nD) (n : Fin (cfg0.N + 1)) (h : n.val = 0) : (dats m 0 c).Φ n = Pipeline.ΦDRG osem0 spec0 H0 R0 (V m) (V m) c := by
  dsimp only [dats]; exact if_pos h
theorem phi_out (c : Dev nD) (n : Fin (cfg0.N + 1)) (h : n.val ≠ 0) : (dats m 0 c).Φ n = Pipeline.ΦDRG osem0 spec0 H0 R0 (V m) (G m) c := by
  dsimp only [dats]; exact if_neg h

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t))

theorem sound_body (hs : Same F) (c : Dev nD) (t : Fin cfg0.N) :
    bodyPre m c t ⊢ wp frame (wpE (defs₀ (F := F)) Variants.none c none) Set.univ (bodyAt0 t) (fun _ => bodyPost m c t) := by
  have ht : t = t0_0 := fin_N0 t
  subst ht
  rw [hs]
  unfold bodyPre bodyPost
  simp only [before0_0]
  rw [after0_0]
  rw [phi_in m c t0_0.castSucc rfl, phi_out m c t0_0.succ (Nat.succ_ne_zero _), phi_eq, phi_eq, G_v2]
  unfold Dat.owesAt Pipeline.owesWithin
  rw [show (dats m 0 c).owed t0_0.castSucc = 0 from rfl, show (dats m 0 c).owed t0_0.succ = 0 from rfl]
  iintro ⟨⟨⟨⟨%X', H5⟩, ⟨%W', H6⟩, ⟨%S', H7⟩, ⟨%A8, H8⟩, ⟨%Y9, H9⟩⟩, Hg, ⟨Hq, Hy⟩, ⟨H0, H1, H2⟩, H4⟩, ⟨%Wt, -, HW⟩, ⟨%d0, H3⟩⟩
  have hb : body (F := F) (Memref.whole main_v0) (Memref.isWhole_whole _) (Memref.whole main_arg1) (Memref.isWhole_whole _) (Memref.whole main_arg2) (Memref.isWhole_whole _)
        (win0_0.stage (cfg0.slots t0_0 0)) (hstage0_0 0) (Memref.whole main_v2) (Memref.isWhole_whole _) (Memref.whole cc0_scratch0) (Memref.isWhole_whole _)
        (Memref.whole cc0_scratch1) (Memref.isWhole_whole _) (Memref.whole cc0_scratch2) (Memref.isWhole_whole _) (Memref.whole cc0_scratch3) (Memref.isWhole_whole _)
        (Memref.whole cc0_scratch4) (Memref.isWhole_whole _) cc0_scratch5 cc0_scratch6 cc0_scratch7
      = (body (F := F) (Memref.whole main_v0) (Memref.isWhole_whole _) (Memref.whole main_arg1) (Memref.isWhole_whole _) (Memref.whole main_arg2) (Memref.isWhole_whole _)
        (win0_0.stage (cfg0.slots t0_0 0)) (hstage0_0 0) (Memref.whole main_v2) (Memref.isWhole_whole _) (Memref.whole cc0_scratch0) (Memref.isWhole_whole _)
        (Memref.whole cc0_scratch1) (Memref.isWhole_whole _) (Memref.whole cc0_scratch2) (Memref.isWhole_whole _) (Memref.whole cc0_scratch3) (Memref.isWhole_whole _)
        (Memref.whole cc0_scratch4) (Memref.isWhole_whole _) cc0_scratch5 cc0_scratch6 cc0_scratch7 >>= fun u => pure u) := (bind_pure _).symm
  rw [hb]
  iapply (wp_body (V m c main_v0) (V m c main_arg2) (V m c main_arg1) c (Memref.whole main_v0) (Memref.whole main_arg1) (Memref.whole main_arg2)
    (win0_0.stage (cfg0.slots t0_0 0)) (Memref.whole main_v2) (Memref.whole cc0_scratch4) (Memref.whole cc0_scratch0) (Memref.whole cc0_scratch1) (Memref.whole cc0_scratch2) (Memref.whole cc0_scratch3)
    (Memref.isWhole_whole _) (Memref.isWhole_whole _) (Memref.isWhole_whole _) (hstage0_0 0) (Memref.isWhole_whole _) (Memref.isWhole_whole _) (Memref.isWhole_whole _) (Memref.isWhole_whole _)
    (Memref.isWhole_whole _) (Memref.isWhole_whole _) credits X' S' W' A8 (gainIn m c) (V m c main_v2) Y9) $$ [H5 H6 H7 H8 H9 Hq Hy H0 H1 H2 H4 HW H3]
  · isplitl [H5 H6 H7 Hq H0 H1 H2]
    · iapply (ent_of_eq (rests_eq c (Memref.whole main_v0) (Memref.whole main_arg1) (Memref.whole main_arg2) (Memref.whole cc0_scratch0) (Memref.whole cc0_scratch1) (Memref.whole cc0_scratch2) _ _ _ _ _ _))
      isplitl [H0 H1 H2]
      · isplitl [H0]; · iexact H0
        isplitl [H2]; · iexact H2
        iexact H1
      isplitl [H5 H6 H7]
      · isplitl [H5]; · iexact H5
        isplitl [H7]; · iexact H7
        iexact H6
      iexact Hq
    isplitl [H8]; · iexact H8
    isplitl [HW]
    · unfold due; iexists Wt; iexact HW
    isplitl [H3]; · iexact H3
    iapply (ent_of_eq (yidle_eq c (Memref.whole main_v2) (Memref.whole cc0_scratch4) _ _))
    isplitl [H4]; · iexact H4
    isplitl [H9]; · iexact H9
    iexact Hy
  iintro ⟨HB, ⟨%A8', H8⟩, HO, H3, HY⟩
  ihave HB := (ent_of_eq (rests_eq c (Memref.whole main_v0) (Memref.whole main_arg1) (Memref.whole main_arg2) (Memref.whole cc0_scratch0) (Memref.whole cc0_scratch1) (Memref.whole cc0_scratch2) _ _ _ _ _ _).symm) $$ HB
  ihave HY := (ent_of_eq (ydone_eq c (Memref.whole main_v2) (Memref.whole cc0_scratch4) _)) $$ HY
  icases HB with ⟨⟨H0, H2, H1⟩, ⟨H5, H7, H6⟩, Hq⟩
  icases HY with ⟨H4, H9, Hy⟩
  unfold due
  icases HO with ⟨%W2, HO⟩
  iapply (le_wp_ret _ _)
  isplitl [H0 H1 H2 H4 H5 H6 H7 H8 H9 Hg Hq Hy]
  · isplitl [H5 H6 H7 H8 H9]
    · isplitl [H5]; · iexists _; iexact H5
      isplitl [H6]; · iexists _; iexact H6
      isplitl [H7]; · iexists _; iexact H7
      isplitl [H8]; · iexists _; iexact H8
      iexists _; iexact H9
    isplitl [Hg]; · iexact Hg
    isplitl [Hq Hy]
    · isplitl [Hq]; · iexact Hq
      iexact Hy
    isplitl [H0 H1 H2]
    · isplitl [H0]; · iexact H0
      isplitl [H1]; · iexact H1
      iexact H2
    iexact H4
  isplitl [HO]
  · iexists W2; isplitr; · ipureintro; exact fun _ _ => Or.inl trivial
    iexact HO
  iexact H3

theorem defs₀_row (t : Fin cfg0.N) :
    defs₀ (F := F) .tc cfg0.body (cfg0.bodyArgs t (cfg0.slots t)) = bodyAt0 t := by
  unfold defs₀; rw [Defs.onTc_tc]

theorem body_obligation (hs : Same F) (c : Dev nD) : BodyObligation (dats (F := F) m 0 c) (defs₀ (F := F)) Variants.none () Set.univ := fun t => by
  rw [bigSep_W0, bigSep_W0, defs₀_row]
  exact triple_restated (sound_body m hs c t) rfl .rfl fun _ => .rfl

set_option backward.isDefEq.respectTransparency.types false in
theorem run_main (hs : Same F) : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m hs c).loose) (hshare := fun c => (dats m 0 c).share_full fun _ => rfl)
    (howed := fun _ _ => rfl) (V := V m) (hmain := hmainD m Variants.none) (hA := A_eq m) (G := G m)
    (hin := fun c => by rw [phi_in m c 0 rfl])
    (hout := fun c => by rw [phi_out m c (Fin.last cfg0.N) (by decide)])

/-- The program runs, leaves its arguments, leaves every counter at zero, and its result is `yOut`. -/
theorem frame_value (hs : Same F) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, r.2.mem ((c.tc : Thread nD τ).loc main_v2)
          = yOut (V m c main_v0) (V m c main_arg2) (V m c main_arg1) (gainIn m c)) :=
  (θ_run defs _ _).mono (fun _ h => ⟨⟨fun c => ⟨
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩, h.2⟩,
    fun c => (h.1.written c (b := main_v2) (by decide)).trans (G_v2 m c)⟩) (run_main m ρ hs)

end Cert.KernelIdeal
-- ==== Proof.IMain.lean ====
module

public import proofs.«01_k».proof.Proof.IEqa
public import proofs.«01_k».proof.Proof.IFrame

@[expose] public section

noncomputable section

namespace Cert.KernelIdeal

open Idealize.ShloMosaic

/-- The printed body is the body the run is proved of. -/
theorem same : Same Ideal := fun t => by
  unfold Gen.bodyAt0
  rw [body_eq]

end Cert.KernelIdeal

end
-- ==== Proof.IVd.lean ====
module

public import proofs.«01_k».proof.Proof.ITail
public import Idealize.ShloMosaic.Lib.Pointwise
public import Idealize.ShloMosaic.Lib.MatmulPlain
public import Idealize.ShloMosaic.Lib.BitcastPair
public import Idealize.ShloMosaic.PureOps.Ideal

@[expose] public section

set_option synthInstance.maxSize 4096
set_option maxRecDepth 16384

noncomputable section

namespace Cert.KernelIdeal

open Idealize.ShloMosaic
variable [Facts]
open Facts₀ Facts

/-- What a pass deposits: sums of products over the tile's 256 rows. -/
theorem passT_at (w : FVec Ideal S256x256 .bf16) (x : FVec Ideal S128x256 .bf16) (i : Fin 128) (n : Fin 256) :
    (passT w x (ix2 i n) : EReal) = ∑ r : Fin 256, (x (ix2 i r) : EReal) * w (ix2 r n) := by
  have e : (passT w x (ix2 i n) : EReal) = ∑ k : (DotDims.plain 128 256 256).contr.Idx,
      (x ((DotDims.plain 128 256 256).lhsIdx (ix2 i n) k) : EReal) * w ((DotDims.plain 128 256 256).rhsIdx (ix2 i n) k) := rfl
  rw [e, ← Equiv.sum_comp (DotDims.plainContr 128 256 256).symm]
  refine Finset.sum_congr rfl fun k _ => ?_
  have hk := ValueIdx.contrEquiv1_symm_val _ 256 (DotDims.plain_contr_rank 128 256 256) (DotDims.plain_contr_size 128 256 256) k
  have el : (DotDims.plain 128 256 256).lhsIdx (ix2 i n) ((DotDims.plainContr 128 256 256).symm k) = ix2 i k := by
    funext a; apply Fin.ext
    match a with
    | ⟨0, _⟩ => rfl
    | ⟨1, _⟩ => exact hk
  have er : (DotDims.plain 128 256 256).rhsIdx (ix2 i n) ((DotDims.plainContr 128 256 256).symm k) = ix2 k n := by
    funext a; apply Fin.ext
    match a with
    | ⟨0, _⟩ => exact hk
    | ⟨1, _⟩ => rfl
  rw [el, er]

/-- The two halves side by side. -/
theorem xTile_at (a b : Vec Ideal S1x1x128x128 .bf16) (i : Fin 128) (r : Fin 256) :
    xTile a b (ix2 i r) = if h : r.val < 128 then a (ix4 0 0 i ⟨r.val, h⟩) else b (ix4 0 0 i ⟨r.val - 128, by omega⟩) := by
  unfold xTile
  pointwise

end Cert.KernelIdeal
end
-- ==== Proof.IVx.lean ====
module

public import proofs.«01_k».proof.Proof.ITail
public import Idealize.ShloMosaic.Lib.Pointwise
public import Idealize.ShloMosaic.Lib.MatmulPlain
public import Idealize.ShloMosaic.Lib.BitcastPair
public import Idealize.ShloMosaic.PureOps.Ideal

@[expose] public section

set_option synthInstance.maxSize 4096
set_option maxRecDepth 16384

noncomputable section

namespace Cert.KernelIdeal

open Idealize.ShloMosaic
variable [Facts]
open Facts₀ Facts

/-- The lane each lane of the lower interleaved half is taken from. -/
def laneEven : IVec S128x128 32 :=
  have a4 : IVec S128x128 32 := iota .tc S128x128 32 [1] iota_S128x128_d1_w32
  have a6 : IVec S128x128 32 := broadcast S128x128 64#32
  have a7 : IVec S128x128 1 := cmpi .slt a4 a6
  have a8 : IVec S128x128 32 := broadcast S128x128 2#32
  have a9 : IVec S128x128 32 := divsi a4 a8
  have a10 : IVec S128x128 32 := broadcast S128x128 0#32
  have a11 : IVec S128x128 1 := cmpi .sgt a4 a10
  have a12 : IVec S128x128 32 := extui 32 a11 natLt_1_32
  have a13 : IVec S128x128 32 := broadcast S128x128 0#32
  have a14 : IVec S128x128 1 := cmpi .slt a4 a13
  have a15 : IVec S128x128 32 := extui 32 a14 natLt_1_32
  have a16 : IVec S128x128 32 := subi a12 a15
  have a17 : IVec S128x128 32 := broadcast S128x128 (Scalar.subi (Scalar.extui (Scalar.cmpi .sgt 2#32 0#32)) (Scalar.extui (Scalar.cmpi .slt 2#32 0#32)))
  have a18 : IVec S128x128 1 := cmpi .ne a16 a17
  have a19 : IVec S128x128 32 := broadcast S128x128 2#32
  have a20 : IVec S128x128 32 := remsi a4 a19
  have a21 : IVec S128x128 32 := broadcast S128x128 0#32
  have a22 : IVec S128x128 1 := cmpi .ne a20 a21
  have a23 : IVec S128x128 1 := andi a18 a22
  have a24 : IVec S128x128 32 := broadcast S128x128 1#32
  have a25 : IVec S128x128 32 := subi a9 a24
  have a26 : IVec S128x128 32 := select a23 a25 a9
  have a27 : IVec S128x128 32 := broadcast S128x128 (Scalar.select (Scalar.cmpi .eq 2#32 0#32) 1#32 2#32)
  have a28 : IVec S128x128 32 := remsi a4 a27
  have a29 : IVec S128x128 32 := broadcast S128x128 0#32
  have a30 : IVec S128x128 1 := cmpi .ne a28 a29
  have a31 : IVec S128x128 32 := broadcast S128x128 0#32
  have a32 : IVec S128x128 1 := cmpi .slt a28 a31
  have a33 : IVec S128x128 1 := broadcast S128x128 (Scalar.cmpi .slt (Scalar.select (Scalar.cmpi .eq 2#32 0#32) 1#32 2#32) 0#32)
  have a34 : IVec S128x128 1 := broadcastTo S128x128 a33 broadcasts_S128x128_S128x128
  have a35 : IVec S128x128 1 := xori a32 a34
  have a36 : IVec S128x128 1 := andi a35 a30
  have a37 : IVec S128x128 32 := broadcast S128x128 (Scalar.select (Scalar.cmpi .eq 2#32 0#32) 1#32 2#32)
  have a38 : IVec S128x128 32 := addi a28 a37
  have a39 : IVec S128x128 32 := select a36 a38 a28
  have a40 : IVec S128x128 32 := broadcast S128x128 64#32
  have a41 : IVec S128x128 32 := muli a40 a39
  have a42 : IVec S128x128 32 := addi a26 a41
  a42

/-- A lane's number as the gather takes it: a negative one counts from the end. -/
def laneWrap (a : IVec S128x128 32) : IVec S128x128 32 :=
  have w : IVec S128x128 32 := select (cmpi .slt a (broadcast S128x128 0#32)) (addi a (broadcast S128x128 128#32)) a
  shapeCast S128x128 (shapeCast S128x128x1 w shapeCasts_S128x128_S128x128x1 : IVec S128x128x1 32) shapeCasts_S128x128x1_S128x128

/-- The lanes of the lower half. -/
def laneLo : IVec S128x128 32 := laneWrap laneEven

/-- The lanes of the upper half. -/
def laneHi : IVec S128x128 32 := laneWrap (xori laneEven (broadcast S128x128 64#32))

theorem xLo_eq (a b : Vec Ideal S128x128 .bf16) : xLo a b = shapeCast S1x1x128x128 (truncf .bf16 (dynamicGather 1
    (select (cmpi .slt (iota .tc S128x128 32 [1] iota_S128x128_d1_w32) (broadcast S128x128 64#32)) (extf .f32 a bitsLt_bf16_f32 : FVec Ideal S128x128 .f32)
      (dynamicRotate 1 64#32 none (extf .f32 b bitsLt_bf16_f32 : FVec Ideal S128x128 .f32) rotates_S128x128_d1)) laneLo : FVec Ideal S128x128 .f32) bitsLt_bf16_f32 : FVec Ideal S128x128 .bf16)
    shapeCasts_S128x128_S1x1x128x128 := rfl

theorem xHi_eq (a b : Vec Ideal S128x128 .bf16) : xHi a b = shapeCast S1x1x128x128 (truncf .bf16 (dynamicGather 1
    (select (cmpi .slt (iota .tc S128x128 32 [1] iota_S128x128_d1_w32) (broadcast S128x128 64#32))
      (dynamicRotate 1 64#32 none (extf .f32 b bitsLt_bf16_f32 : FVec Ideal S128x128 .f32) rotates_S128x128_d1) (extf .f32 a bitsLt_bf16_f32 : FVec Ideal S128x128 .f32)) laneHi : FVec Ideal S128x128 .f32) bitsLt_bf16_f32 : FVec Ideal S128x128 .bf16)
    shapeCasts_S128x128_S1x1x128x128 := rfl

theorem laneLo_at (i l : Fin 128) : laneLo (ix2 i l) = BitVec.ofNat 32 (l.val / 2 + 64 * (l.val % 2)) := by
  unfold laneLo laneWrap laneEven
  pointwise
  revert l
  decide +kernel

theorem laneHi_at (i l : Fin 128) : laneHi (ix2 i l) = BitVec.ofNat 32 (64 + l.val / 2 - 64 * (l.val % 2)) := by
  unfold laneHi laneWrap laneEven
  pointwise
  revert l
  decide +kernel

theorem ofNat_toNat_small (k : ℕ) (h : k < 128) : (BitVec.ofNat 32 k).toNat % 128 = k := by
  rw [BitVec.toNat_ofNat, Nat.mod_eq_of_lt (by omega : k < 2 ^ 32), Nat.mod_eq_of_lt h]

theorem sel_lt {α : Type} (k : ℕ) (h : k < 128) (u v : α) :
    Scalar.select (IntOp.cmpi .slt (BitVec.ofNat 32 k) 64#32) u v = if k < 64 then u else v := by
  have e : IntOp.cmpi .slt (BitVec.ofNat 32 k) 64#32 = if k < 64 then 1#1 else 0#1 := by
    have : ∀ k : Fin 128, IntOp.cmpi .slt (BitVec.ofNat 32 k.val) 64#32 = if k.val < 64 then 1#1 else 0#1 := by decide +kernel
    exact this ⟨k, h⟩
  rw [e]
  split <;> rfl

theorem xLo_at (a b : Vec Ideal S128x128 .bf16) (i : Fin 128) (l : Fin 128) :
    (xLo a b (ix4 0 0 i l) : EReal) = if l.val % 2 = 0 then (a (ix2 i ⟨l.val / 2, by omega⟩) : EReal) else b (ix2 i ⟨l.val / 2, by omega⟩) := by
  have hk : l.val / 2 + 64 * (l.val % 2) < 128 := by omega
  rw [xLo_eq]
  pointwise [laneLo_at]
  simp only [ofNat_toNat_small _ hk, sel_lt _ hk]
  rcases Nat.mod_two_eq_zero_or_one l.val with h | h
  · rw [if_pos (by omega), if_pos h]
    exact congrArg (fun p => a (ix2 i p)) (Fin.ext (by show l.val / 2 + 64 * (l.val % 2) = l.val / 2; omega))
  · rw [if_neg (by omega), if_neg (by omega)]
    exact congrArg (fun p => b (ix2 i p)) (Fin.ext (by show (l.val / 2 + 64 * (l.val % 2) + 128 - 64) % 128 = l.val / 2; omega))

theorem xHi_at (a b : Vec Ideal S128x128 .bf16) (i : Fin 128) (l : Fin 128) :
    (xHi a b (ix4 0 0 i l) : EReal) = if l.val % 2 = 0 then (a (ix2 i ⟨64 + l.val / 2, by omega⟩) : EReal) else b (ix2 i ⟨64 + l.val / 2, by omega⟩) := by
  have hk : 64 + l.val / 2 - 64 * (l.val % 2) < 128 := by omega
  rw [xHi_eq]
  pointwise [laneHi_at]
  simp only [ofNat_toNat_small _ hk, sel_lt _ hk]
  rcases Nat.mod_two_eq_zero_or_one l.val with h | h
  · rw [if_neg (by omega), if_pos h]
    exact congrArg (fun p => a (ix2 i p)) (Fin.ext (by show 64 + l.val / 2 - 64 * (l.val % 2) = 64 + l.val / 2; omega))
  · rw [if_pos (by omega), if_neg (by omega)]
    exact congrArg (fun p => b (ix2 i p)) (Fin.ext (by show (64 + l.val / 2 - 64 * (l.val % 2) + 128 - 64) % 128 = 64 + l.val / 2; omega))

end Cert.KernelIdeal
end
-- ==== Proof.IVg.lean ====
module

public import Mathlib.Data.EReal.Operations
public import Mathlib.Algebra.BigOperators.Fin
public import Mathlib.Data.Fintype.BigOperators

@[expose] public section

noncomputable section

namespace Cert.Regroup

/-- Where row `r` of chunk `c` stands in the contraction: even rows in the first half, odd rows in the second. -/
def at' (c : Fin 59) (r : Fin 256) : Fin 15104 := ⟨7552 * (r.val % 2) + 128 * c.val + r.val / 2, by omega⟩

/-- Chunks and rows, and the contraction's index. -/
def regroup : Fin 59 × Fin 256 ≃ Fin 15104 where
  toFun p := at' p.1 p.2
  invFun k := (⟨k.val % 7552 / 128, by omega⟩, ⟨2 * (k.val % 7552 % 128) + k.val / 7552, by omega⟩)
  left_inv p := by
    obtain ⟨c, r⟩ := p
    have e : (7552 * (r.val % 2) + 128 * c.val + r.val / 2) % 7552 = 128 * c.val + r.val / 2 := by
      rcases Nat.mod_two_eq_zero_or_one r.val with h | h <;> rw [h] <;> omega
    have e' : (7552 * (r.val % 2) + 128 * c.val + r.val / 2) / 7552 = r.val % 2 := by
      rcases Nat.mod_two_eq_zero_or_one r.val with h | h <;> rw [h] <;> omega
    refine Prod.ext (Fin.ext ?_) (Fin.ext ?_)
    · show (7552 * (r.val % 2) + 128 * c.val + r.val / 2) % 7552 / 128 = c.val
      rw [e]; omega
    · show 2 * ((7552 * (r.val % 2) + 128 * c.val + r.val / 2) % 7552 % 128) + (7552 * (r.val % 2) + 128 * c.val + r.val / 2) / 7552 = r.val
      rw [e, e']; omega
  right_inv k := by
    refine Fin.ext ?_
    show 7552 * ((2 * (k.val % 7552 % 128) + k.val / 7552) % 2) + 128 * (k.val % 7552 / 128) + (2 * (k.val % 7552 % 128) + k.val / 7552) / 2 = k.val
    omega

theorem sum_regroup (f : Fin 15104 → EReal) : ∑ k, f k = ∑ c : Fin 59, ∑ r : Fin 256, f (at' c r) := by
  rw [← Equiv.sum_comp regroup, Fintype.sum_prod_type]
  rfl

end Cert.Regroup
end
-- ==== Proof.IVn.lean ====
module

public import proofs.«01_k».proof.Proof.ITail
public import proofs.«01_k».proof.Proof.IVg

@[expose] public section

set_option maxRecDepth 16384

namespace Cert.Nibble

open Idealize.ShloMosaic

/-- Two decoded nibbles of a byte in a word, as the kernel has them. -/
def word (b : BitVec 8) : BitVec 32 :=
  IntOp.ori
    (IntOp.ori
      (IntOp.shli ArithUnit.vector
        (IntOp.minsi (IntOp.muli (IntOp.andi (BitVec.setWidth 32 b) 7#32) 252#32) (IntOp.addi (IntOp.andi (BitVec.setWidth 32 b) 7#32) 252#32))
        6#32)
      (IntOp.shli ArithUnit.vector (IntOp.andi (BitVec.setWidth 32 b) 8#32) 12#32))
    (IntOp.shli ArithUnit.vector
      (IntOp.ori
        (IntOp.shli ArithUnit.vector
          (IntOp.minsi
            (IntOp.muli (IntOp.andi (IntOp.shrsi ArithUnit.vector (BitVec.setWidth 32 b) 4#32) 7#32) 252#32)
            (IntOp.addi (IntOp.andi (IntOp.shrsi ArithUnit.vector (BitVec.setWidth 32 b) 4#32) 7#32) 252#32))
          6#32)
        (IntOp.shli ArithUnit.vector (IntOp.andi (IntOp.shrsi ArithUnit.vector (BitVec.setWidth 32 b) 4#32) 8#32) 12#32))
      16#32)

/-- A nibble of a byte. -/
def nib (h : Fin 2) (b : BitVec 8) : BitVec 32 :=
  if h' : h.val < 1 then IntOp.andi (BitVec.setWidth 32 b) 15#32 else IntOp.shrsi ArithUnit.vector (BitVec.setWidth 32 b) 4#32

/-- One decoded nibble, as the reference has it. -/
def code (h : Fin 2) (b : BitVec 8) : BitVec 16 :=
  BitVec.setWidth 16
    (IntOp.ori
      (Scalar.select (IntOp.cmpi CmpIPredicate.sge (IntOp.andi (nib h b) 7#32) 2#32)
        (IntOp.shli ArithUnit.vector (IntOp.addi (IntOp.andi (nib h b) 7#32) 252#32) 6#32)
        (IntOp.muli (IntOp.andi (nib h b) 7#32) 16128#32))
      (IntOp.shli ArithUnit.vector (IntOp.andi (nib h b) 8#32) 12#32))

theorem word_code : ∀ (h : Fin 2) (b : BitVec 8), (word b).extractLsb' (16 * h.val) 16 = code h b := by
  decide +kernel

end Cert.Nibble
-- ==== Proof.IVw.lean ====
module

public import proofs.«01_k».proof.Proof.ITail
public import proofs.«01_k».proof.Proof.IVn
public import Idealize.ShloMosaic.Lib.Pointwise
public import Idealize.ShloMosaic.Lib.MatmulPlain
public import Idealize.ShloMosaic.Lib.BitcastPair
public import Idealize.ShloMosaic.PureOps.Ideal

@[expose] public section

set_option synthInstance.maxSize 4096
set_option maxRecDepth 16384

noncomputable section

namespace Cert.KernelIdeal

open Idealize.ShloMosaic
variable [Facts]
open Facts₀ Facts

/-- A code's bf16 bits, from the code in a word's low bits. -/
def wBits (a1 : IVec S128x256 32) : IVec S128x256 32 :=
  have a3 : IVec S128x256 32 := andi a1 (broadcast S128x256 7#32)
  have a8 : IVec S128x256 32 := minsi (muli a3 (broadcast S128x256 252#32)) (addi a3 (broadcast S128x256 252#32))
  ori (shli a8 (broadcast S128x256 6#32)) (shli (andi a1 (broadcast S128x256 8#32)) (broadcast S128x256 12#32))

/-- The words of a tile: two decoded nibbles each. -/
def wWord (a0 : Vec Ideal S128x256 .i8) : IVec S128x256 32 :=
  have a1 : IVec S128x256 32 := extui 32 a0 natLt_8_32
  ori (wBits a1) (shli (wBits (shrsi a1 (broadcast S128x256 4#32))) (broadcast S128x256 16#32))

/-- A row of the high scales and one of the low, alternating. -/
def sRow (o : Fin 2 → ℕ) (h : S8x256.Slices o S1x256) (lo hi : FVec Ideal S8x256 .bf16) : FVec Ideal S16x256 .bf16 :=
  have odd : IVec S16x256 1 := cmpi .eq (andi (iota .tc S16x256 32 [0] iota_S16x256_d0_w32) (broadcast S16x256 1#32)) (broadcast S16x256 1#32)
  have row (v : FVec Ideal S8x256 .bf16) : FVec Ideal S16x256 .bf16 :=
    broadcastTo S16x256 (shapeCast S1x256 (extractStridedSlice S1x256 o v h) shapeCasts_S1x256_S1x256 : FVec Ideal S1x256 .bf16) broadcasts_S1x256_S16x256
  select odd (row hi) (row lo)

/-- The scales of a tile, one for each weight. -/
def wScale (a36 a39 : Vec Ideal S8x256 .fp8e4m3) : FVec Ideal S256x256 .bf16 :=
  have lo : FVec Ideal S8x256 .bf16 := truncf .bf16 (extf .f32 a36 bitsLt_fp8e4m3_f32 : FVec Ideal S8x256 .f32) bitsLt_bf16_f32
  have hi : FVec Ideal S8x256 .bf16 := truncf .bf16 (extf .f32 a39 bitsLt_fp8e4m3_f32 : FVec Ideal S8x256 .f32) bitsLt_bf16_f32
  have r0 : FVec Ideal S16x256 .bf16 := sRow _ slices_S8x256_o0_0_S1x256 lo hi
  have r1 : FVec Ideal S16x256 .bf16 := sRow _ slices_S8x256_o1_0_S1x256 lo hi
  have r2 : FVec Ideal S16x256 .bf16 := sRow _ slices_S8x256_o2_0_S1x256 lo hi
  have r3 : FVec Ideal S16x256 .bf16 := sRow _ slices_S8x256_o3_0_S1x256 lo hi
  have r4 : FVec Ideal S16x256 .bf16 := sRow _ slices_S8x256_o4_0_S1x256 lo hi
  have r5 : FVec Ideal S16x256 .bf16 := sRow _ slices_S8x256_o5_0_S1x256 lo hi
  have r6 : FVec Ideal S16x256 .bf16 := sRow _ slices_S8x256_o6_0_S1x256 lo hi
  have r7 : FVec Ideal S16x256 .bf16 := sRow _ slices_S8x256_o7_0_S1x256 lo hi
  concatenate S256x256 0 [⟨S16x256, r0⟩, ⟨S16x256, r0⟩, ⟨S16x256, r1⟩, ⟨S16x256, r1⟩, ⟨S16x256, r2⟩, ⟨S16x256, r2⟩, ⟨S16x256, r3⟩, ⟨S16x256, r3⟩, ⟨S16x256, r4⟩, ⟨S16x256, r4⟩, ⟨S16x256, r5⟩, ⟨S16x256, r5⟩, ⟨S16x256, r6⟩, ⟨S16x256, r6⟩, ⟨S16x256, r7⟩, ⟨S16x256, r7⟩] concatenates_S16x256_S16x256_S16x256_S16x256_S16x256_S16x256_S16x256_S16x256_S16x256_S16x256_S16x256_S16x256_S16x256_S16x256_S16x256_S16x256_S256x256_d0

theorem wTile_eq (a : Vec Ideal S128x256 .i8) (b c : Vec Ideal S8x256 .fp8e4m3) :
    wTile a b c = mulf (bitcastToFloat .bf16 (bitcast S256x256 16 (wWord a) bitcasts_S128x256_w32_S256x256_w16) : FVec Ideal S256x256 .bf16) (wScale b c) := rfl

theorem sel_odd {α : Type} (k : ℕ) (u v : α) :
    Scalar.select (IntOp.cmpi .eq (IntOp.andi (BitVec.ofNat 32 k) 1#32) 1#32) u v = if k % 2 = 1 then u else v := by
  have e : IntOp.cmpi .eq (IntOp.andi (BitVec.ofNat 32 k) 1#32) 1#32 = if k % 2 = 1 then 1#1 else 0#1 := by
    have : IntOp.andi (BitVec.ofNat 32 k) 1#32 = BitVec.ofNat 32 (k % 2) := by
      show BitVec.ofNat 32 k &&& 1#32 = _
      apply BitVec.eq_of_toNat_eq
      simp
      omega
    rw [this]
    rcases Nat.mod_two_eq_zero_or_one k with h | h <;> rw [h] <;> decide
  rw [e]
  split <;> rfl

theorem pick {α : Type} {P : Prop} [Decidable P] {x : P → α} {y : ¬ P → α} {z : α} (hx : ∀ h, x h = z) (hy : ∀ h, y h = z) : dite P x y = z := by
  by_cases h : P
  · rw [dif_pos h]; exact hx h
  · rw [dif_neg h]; exact hy h

theorem leaf {α : Type} (b c : Fin 8 → α) (k r : ℕ) (hr : r < 256) (p : Fin 8) (hk : k % 2 = r % 2) (hp : p.val = r / 32) :
    (if k % 2 = 1 then c p else b p) = if r % 2 = 1 then c ⟨r / 32, by omega⟩ else b ⟨r / 32, by omega⟩ := by
  by_cases h : r % 2 = 1
  · rw [if_pos (hk.trans h), if_pos h]
    exact congrArg c (Fin.ext hp)
  · rw [if_neg (fun e => h (hk.symm.trans e)), if_neg h]
    exact congrArg b (Fin.ext hp)

theorem wScale_at (b c : Vec Ideal S8x256 .fp8e4m3) (r : Fin 256) (n : Fin 256) :
    (wScale b c (ix2 r n) : EReal) = if r.val % 2 = 1 then (c (ix2 ⟨r.val / 32, by omega⟩ n) : EReal) else b (ix2 ⟨r.val / 32, by omega⟩ n) := by
  have hr := r.isLt
  unfold wScale sRow
  pointwise
  simp only [sel_odd]
  have L : ∀ (k : ℕ) (p : Fin 8), k % 2 = r.val % 2 → p.val = r.val / 32 →
      (if k % 2 = 1 then (c (ix2 p n) : EReal) else b (ix2 p n)) = if r.val % 2 = 1 then (c (ix2 ⟨r.val / 32, by omega⟩ n) : EReal) else b (ix2 ⟨r.val / 32, by omega⟩ n) :=
    fun k p hk hp => leaf (fun p => (b (ix2 p n) : EReal)) (fun p => (c (ix2 p n) : EReal)) k r.val hr p hk hp
  refine pick (fun _ => L _ 0 (by omega) (by show 0 = r.val / 32; omega)) (fun _ => ?_)
  refine pick (fun _ => L _ 0 (by omega) (by show 0 = r.val / 32; omega)) (fun _ => ?_)
  refine pick (fun _ => L _ 1 (by omega) (by show 1 = r.val / 32; omega)) (fun _ => ?_)
  refine pick (fun _ => L _ 1 (by omega) (by show 1 = r.val / 32; omega)) (fun _ => ?_)
  refine pick (fun _ => L _ 2 (by omega) (by show 2 = r.val / 32; omega)) (fun _ => ?_)
  refine pick (fun _ => L _ 2 (by omega) (by show 2 = r.val / 32; omega)) (fun _ => ?_)
  refine pick (fun _ => L _ 3 (by omega) (by show 3 = r.val / 32; omega)) (fun _ => ?_)
  refine pick (fun _ => L _ 3 (by omega) (by show 3 = r.val / 32; omega)) (fun _ => ?_)
  refine pick (fun _ => L _ 4 (by omega) (by show 4 = r.val / 32; omega)) (fun _ => ?_)
  refine pick (fun _ => L _ 4 (by omega) (by show 4 = r.val / 32; omega)) (fun _ => ?_)
  refine pick (fun _ => L _ 5 (by omega) (by show 5 = r.val / 32; omega)) (fun _ => ?_)
  refine pick (fun _ => L _ 5 (by omega) (by show 5 = r.val / 32; omega)) (fun _ => ?_)
  refine pick (fun _ => L _ 6 (by omega) (by show 6 = r.val / 32; omega)) (fun _ => ?_)
  refine pick (fun _ => L _ 6 (by omega) (by show 6 = r.val / 32; omega)) (fun _ => ?_)
  refine pick (fun _ => L _ 7 (by omega) (by show 7 = r.val / 32; omega)) (fun _ => ?_)
  exact L _ 7 (by omega) (by show 7 = r.val / 32; omega)

theorem wWord_at (a : Vec Ideal S128x256 .i8) (p : Fin 128) (n : Fin 256) :
    wWord a (ix2 p n) = Nibble.word (a (ix2 p n)) := by
  unfold wWord wBits
  pointwise
  rfl

/-- A tile's weight: a decoded nibble times its scale. -/
theorem wTile_at (a : Vec Ideal S128x256 .i8) (b c : Vec Ideal S8x256 .fp8e4m3) (r : Fin 256) (n : Fin 256) :
    (wTile a b c (ix2 r n) : EReal) = Ideal.ofBits .bf16 (Nibble.code ⟨r.val % 2, Nat.mod_lt _ (by decide)⟩ (a (ix2 ⟨r.val / 2, by omega⟩ n)))
      * (if r.val % 2 = 1 then (c (ix2 ⟨r.val / 32, by omega⟩ n) : EReal) else b (ix2 ⟨r.val / 32, by omega⟩ n)) := by
  rw [← wScale_at, wTile_eq]
  show Ideal.ofBits .bf16 (bitcast S256x256 16 (wWord a) bitcasts_S128x256_w32_S256x256_w16 (ix2 r n)) * (wScale b c (ix2 r n) : EReal) = _
  have e : bitcast S256x256 16 (wWord a) bitcasts_S128x256_w32_S256x256_w16 (ix2 r n) = Nibble.code ⟨r.val % 2, Nat.mod_lt _ (by decide)⟩ (a (ix2 ⟨r.val / 2, by omega⟩ n)) := by
    rw [bitcast_32_16, ← Nibble.word_code, ← wWord_at]
    have hrow : S256x256.row (ix2 r n) = r.val := rfl
    have hi : bitcasts_S128x256_w32_S256x256_w16.srcIdx (ix2 r n) (S256x256.row (ix2 r n) / 2) (fun a ha => by
        have := bitcasts_S128x256_w32_S256x256_w16.pos_lt (ix2 r n) 0 (by decide) a ha; omega) = ix2 ⟨r.val / 2, by omega⟩ n := by
      funext a; apply Fin.ext
      match a with
      | ⟨0, _⟩ => rfl
      | ⟨1, _⟩ => rfl
    rw [hi]
    rfl
  rw [e]

end Cert.KernelIdeal
end
-- ==== Proof.IVs.lean ====
module

public import proofs.«01_k».proof.Proof.ITail
public import Idealize.ShloMosaic.PureOps.Ideal

@[expose] public section

set_option synthInstance.maxSize 4096
set_option maxRecDepth 16384

noncomputable section

namespace Cert.KernelIdeal

open Idealize.ShloMosaic
variable [Facts]
open Facts₀ Facts

/-! ## Each result tile is the sum of its passes -/

/-- An accumulator's contents; empty counts as zero. -/
def tot (V : Accs Ideal) (q : Fin 2) (a : Fin 8) (i : S128x256.Idx) : EReal :=
  match V q a with
  | none => 0
  | some v => v i

theorem tot_put (V : Accs Ideal) (q : Fin 2) (a : Fin 8) (p : FVec Ideal S128x256 .f32) (q' : Fin 2) (a' : Fin 8) (i : S128x256.Idx) :
    tot (put V q a p) q' a' i = tot V q' a' i + (if q' = q ∧ a' = a then (p i : EReal) else 0) := by
  by_cases h : q' = q ∧ a' = a
  · obtain ⟨rfl, rfl⟩ := h
    unfold tot put
    simp only [and_self, if_true]
    cases hV : V q' a' with
    | none => exact (zero_add _).symm
    | some v => rfl
  · unfold tot put
    rw [if_neg h, if_neg h, add_zero]

theorem tot_drop (V : Accs Ideal) (q : Fin 2) (a : Fin 8) (q' : Fin 2) (a' : Fin 8) (h : ¬ (q' = q ∧ a' = a)) (i : S128x256.Idx) :
    tot (drop V q a) q' a' i = tot V q' a' i := by
  unfold tot drop
  rw [if_neg h]

theorem some_put (V : Accs Ideal) (q : Fin 2) (a : Fin 8) (p : FVec Ideal S128x256 .f32) (q' : Fin 2) (a' : Fin 8)
    (h : (q' = q ∧ a' = a) ∨ (V q' a').isSome = true) : (put V q a p q' a').isSome = true := by
  unfold put
  by_cases e : q' = q ∧ a' = a
  · rw [if_pos e]; rfl
  · rw [if_neg e]; exact h.resolve_left e

theorem some_drop (V : Accs Ideal) (q : Fin 2) (a : Fin 8) (q' : Fin 2) (a' : Fin 8) (h : ¬ (q' = q ∧ a' = a))
    (hs : (V q' a').isSome = true) : (drop V q a q' a').isSome = true := by
  unfold drop
  rw [if_neg h]; exact hs

theorem got_eq (V : Accs Ideal) (q : Fin 2) (a : Fin 8) (h : (V q a).isSome = true) (i : S128x256.Idx) :
    (got V q a i : EReal) = tot V q a i := by
  unfold got tot
  cases hv : V q a with
  | none => rw [hv] at h; cases h
  | some v => rfl

/-- A result tile as the accumulators have it. -/
def tile (V : Accs Ideal) (t : Fin 15) (i : S128x256.Idx) : EReal :=
  if t.val = 14 then tot V 0 7 i + tot V 1 7 i else tot V ⟨t.val % 2, Nat.mod_lt _ (by decide)⟩ (aOf t) i

variable (X : S128x15104.Idx → Elt Ideal .bf16) (S : S944x3840.Idx → Elt Ideal .fp8e4m3) (W : S7552x3840.Idx → Elt Ideal .i8)

theorem tile_step (V : Accs Ideal) (c : Fin 59) (t' t : Fin 15) (i : S128x256.Idx) :
    tile (stepV X S W V c t') t i = tile V t i + (if t' = t then (pass X S W c t' i : EReal) else 0) := by
  unfold tile stepV
  have h15 := t.isLt
  have h15' := t'.isLt
  by_cases ht : t.val = 14
  · rw [if_pos ht, if_pos ht, tot_put, tot_put]
    by_cases h : t' = t
    · subst h
      have ha : (7 : Fin 8) = aOf t' := Fin.ext (by show 7 = t'.val / 2; omega)
      rw [if_pos rfl]
      have hq : qOf c t' = ⟨c.val % 2, Nat.mod_lt _ (by decide)⟩ := by unfold qOf; rw [if_pos ht]
      rcases Nat.mod_two_eq_zero_or_one c.val with hc | hc
      · have h0 : qOf c t' = 0 := by rw [hq]; exact Fin.ext hc
        rw [h0, if_pos ⟨rfl, ha⟩, if_neg (by simp), add_zero, add_right_comm]
      · have h0 : qOf c t' = 1 := by rw [hq]; exact Fin.ext hc
        rw [h0, if_neg (by simp), if_pos ⟨rfl, ha⟩, add_zero, add_assoc]
    · have ha : ¬ (7 : Fin 8) = aOf t' := fun e => h (Fin.ext (by
        have : 7 = t'.val / 2 := congrArg Fin.val e
        omega))
      rw [if_neg (fun e => ha e.2), if_neg (fun e => ha e.2), if_neg h, add_zero, add_zero, add_zero]
  · rw [if_neg ht, if_neg ht, tot_put]
    by_cases h : t' = t
    · subst h
      rw [if_pos rfl, if_pos]
      exact ⟨by unfold qOf; rw [if_neg ht], rfl⟩
    · rw [if_neg h, if_neg]
      rintro ⟨e1, e2⟩
      have e2' : t.val / 2 = t'.val / 2 := congrArg Fin.val e2
      by_cases ht' : t'.val = 14
      · omega
      · unfold qOf at e1
        rw [if_neg ht'] at e1
        have e1' : t.val % 2 = t'.val % 2 := congrArg Fin.val e1
        exact h (Fin.ext (by omega))

theorem tile_chunk (V : Accs Ideal) (c : Fin 59) (t : Fin 15) (i : S128x256.Idx) :
    tile (chunkV X S W V c) t i = tile V t i + (pass X S W c t i : EReal) := by
  unfold chunkV
  simp only [tile_step]
  generalize (fun t' => pass X S W c t' i : Fin 15 → EReal) = p
  fin_cases t <;> simp

/-- The pass of a chunk, by the chunk's number. -/
def passN (t : Fin 15) (i : S128x256.Idx) (c : ℕ) : EReal := if h : c < 59 then pass X S W ⟨c, h⟩ t i else 0

theorem passN_eq (t : Fin 15) (i : S128x256.Idx) (c : Fin 59) (n : ℕ) (h : c.val = n) : (pass X S W c t i : EReal) = passN X S W t i n := by
  subst h
  unfold passN
  rw [dif_pos c.isLt]

theorem tile_loop (t : Fin 15) (i : S128x256.Idx) : ∀ n : ℕ, n ≤ 7 →
    tile (loopV X S W n) t i = ∑ c ∈ Finset.range (8 * n), passN X S W t i c
  | 0, _ => by
    show tile (fun _ _ => none) t i = _
    unfold tile tot
    simp
  | n + 1, h => by
    have hn : n < 7 := h
    have e : loopV X S W (n + 1) = tripV X S W (loopV X S W n) ⟨n, hn⟩ := by
      show (if h : n < 7 then tripV X S W (loopV X S W n) ⟨n, h⟩ else loopV X S W n) = _
      rw [dif_pos hn]
    rw [e]
    unfold tripV
    simp only [tile_chunk]
    rw [tile_loop t i n (by omega), show 8 * (n + 1) = 8 * n + 1 + 1 + 1 + 1 + 1 + 1 + 1 + 1 from by omega]
    simp only [Finset.sum_range_succ]
    rw [passN_eq X S W t i (cI ⟨n, hn⟩ 0) (8 * n) rfl, passN_eq X S W t i (cI ⟨n, hn⟩ 1) (8 * n + 1) rfl,
      passN_eq X S W t i (cI ⟨n, hn⟩ 2) (8 * n + 1 + 1) rfl, passN_eq X S W t i (cI ⟨n, hn⟩ 3) (8 * n + 1 + 1 + 1) rfl,
      passN_eq X S W t i (cI ⟨n, hn⟩ 4) (8 * n + 1 + 1 + 1 + 1) rfl, passN_eq X S W t i (cI ⟨n, hn⟩ 5) (8 * n + 1 + 1 + 1 + 1 + 1) rfl,
      passN_eq X S W t i (cI ⟨n, hn⟩ 6) (8 * n + 1 + 1 + 1 + 1 + 1 + 1) rfl, passN_eq X S W t i (cI ⟨n, hn⟩ 7) (8 * n + 1 + 1 + 1 + 1 + 1 + 1 + 1) rfl]

theorem tile_pV (t : Fin 15) (ht : t.val < 14) (i : S128x256.Idx) : ∀ n : ℕ, n ≤ t.val / 2 →
    tile (pV X S W n) t i = ∑ c ∈ Finset.range 56, passN X S W t i c
  | 0, _ => by
    rw [← tile_loop X S W t i 7 (le_refl _)]
    show tile (drop (drop (lastV X S W (loopV X S W 7)) 0 7) 1 7) t i = _
    have ha : ¬ aOf t = 7 := fun e => by
      have : t.val / 2 = 7 := congrArg Fin.val e
      omega
    have h14 : ¬ (14 : Fin 15) = t := fun e => by
      have : 14 = t.val := congrArg Fin.val e
      omega
    have e : tile (drop (drop (lastV X S W (loopV X S W 7)) 0 7) 1 7) t i = tile (lastV X S W (loopV X S W 7)) t i := by
      unfold tile
      rw [if_neg (by omega), if_neg (by omega), tot_drop _ _ _ _ _ (fun e => ha e.2), tot_drop _ _ _ _ _ (fun e => ha e.2)]
    rw [e]
    unfold lastV
    rw [tile_step, tile_step, tile_step, if_neg h14, if_neg h14, if_neg h14, add_zero, add_zero, add_zero]
  | n + 1, h => by
    have hn : n < 7 := by omega
    have e : pV X S W (n + 1) = pairD X S W (pV X S W n) ⟨n, hn⟩ := by
      show (if h : n < 7 then pairD X S W (pV X S W n) ⟨n, h⟩ else pV X S W n) = _
      rw [dif_pos hn]
    rw [e, ← tile_pV t ht i n (by omega)]
    have ha : ¬ aOf t = aP ⟨n, hn⟩ := fun e => by
      have : t.val / 2 = n := congrArg Fin.val e
      omega
    have h0 : ¬ t0 ⟨n, hn⟩ = t := fun e => by
      have : 2 * n = t.val := congrArg Fin.val e
      omega
    have h1 : ¬ t1 ⟨n, hn⟩ = t := fun e => by
      have : 2 * n + 1 = t.val := congrArg Fin.val e
      omega
    have e : tile (pairD X S W (pV X S W n) ⟨n, hn⟩) t i = tile (pairV X S W (pV X S W n) ⟨n, hn⟩) t i := by
      unfold tile pairD
      rw [if_neg (by omega), if_neg (by omega), tot_drop _ _ _ _ _ (fun e => ha e.2), tot_drop _ _ _ _ _ (fun e => ha e.2)]
    rw [e]
    unfold pairV
    simp only [tile_step, if_neg h0, if_neg h1, add_zero]

theorem sum59 (f : ℕ → EReal) : ∑ c ∈ Finset.range 59, f c = ∑ c ∈ Finset.range 56, f c + f 56 + f 57 + f 58 := by
  rw [Finset.sum_range_succ, Finset.sum_range_succ, Finset.sum_range_succ]

theorem lastY_at (i : S128x256.Idx) :
    (lastY X S W (loopV X S W 7) i : EReal) = ∑ c ∈ Finset.range 59, passN X S W 14 i c := by
  have s0 : (lastV X S W (loopV X S W 7) 0 7).isSome = true := by
    unfold lastV stepV
    refine some_put _ _ _ _ _ _ (.inl ⟨?_, ?_⟩) <;> decide
  have s1 : (lastV X S W (loopV X S W 7) 1 7).isSome = true := by
    unfold lastV stepV
    refine some_put _ _ _ _ _ _ (.inr (some_put _ _ _ _ _ _ (.inl ⟨?_, ?_⟩))) <;> decide
  have e : (lastY X S W (loopV X S W 7) i : EReal) = tile (lastV X S W (loopV X S W 7)) 14 i := by
    show (got (lastV X S W (loopV X S W 7)) 0 7 i : EReal) + got (drop (lastV X S W (loopV X S W 7)) 0 7) 1 7 i = _
    rw [got_eq _ _ _ s0, got_eq _ _ _ (some_drop _ _ _ _ _ (by simp) s1), tot_drop _ _ _ _ _ (by simp)]
    rfl
  rw [e, sum59, show (56 : ℕ) = 8 * 7 from rfl, ← tile_loop X S W 14 i 7 (le_refl _)]
  unfold lastV
  rw [tile_step, tile_step, tile_step, if_pos rfl, if_pos rfl, if_pos rfl,
    passN_eq X S W 14 i 56 (8 * 7) rfl, passN_eq X S W 14 i 57 57 rfl, passN_eq X S W 14 i 58 58 rfl]

theorem yV_at (t : Fin 15) (i : S128x256.Idx) :
    (yV X S W t i : EReal) = ∑ c ∈ Finset.range 59, passN X S W t i c := by
  have h15 := t.isLt
  unfold yV
  by_cases ht : t.val < 14
  · rw [dif_pos ht]
    have hp : t.val / 2 < 7 := by omega
    generalize hV : pV X S W (t.val / 2) = V
    have hT : tile V t i = ∑ c ∈ Finset.range 56, passN X S W t i c := by rw [← hV]; exact tile_pV X S W t ht i _ (le_refl _)
    have hs : ∀ q : Fin 2, (pairV X S W V ⟨t.val / 2, hp⟩ q (aP ⟨t.val / 2, hp⟩)).isSome = true := by
      intro q
      have hq0 : qOf 58 (t0 ⟨t.val / 2, hp⟩) = 0 := by
        unfold qOf t0
        rw [if_neg (by show ¬ 2 * (t.val / 2) = 14; omega)]
        exact Fin.ext (by show 2 * (t.val / 2) % 2 = 0; omega)
      have hq1 : qOf 58 (t1 ⟨t.val / 2, hp⟩) = 1 := by
        unfold qOf t1
        rw [if_neg (by show ¬ 2 * (t.val / 2) + 1 = 14; omega)]
        exact Fin.ext (by show (2 * (t.val / 2) + 1) % 2 = 1; omega)
      have ha0 : aP ⟨t.val / 2, hp⟩ = aOf (t0 ⟨t.val / 2, hp⟩) := Fin.ext (by show t.val / 2 = 2 * (t.val / 2) / 2; omega)
      have ha1 : aP ⟨t.val / 2, hp⟩ = aOf (t1 ⟨t.val / 2, hp⟩) := Fin.ext (by show t.val / 2 = (2 * (t.val / 2) + 1) / 2; omega)
      by_cases h : q = 1
      · exact some_put _ _ _ _ _ _ (.inl ⟨h.trans hq1.symm, ha1⟩)
      · exact some_put _ _ _ _ _ _ (.inr (some_put _ _ _ _ _ _ (.inl ⟨(show q = 0 by omega).trans hq0.symm, ha0⟩)))
    have e : (pairY X S W V ⟨t.val / 2, hp⟩ ⟨t.val % 2, Nat.mod_lt _ (by decide)⟩ i : EReal) = tile (pairV X S W V ⟨t.val / 2, hp⟩) t i := by
      have ha : aOf t = aP ⟨t.val / 2, hp⟩ := rfl
      unfold tile
      rw [if_neg (by omega), ha]
      rcases Nat.mod_two_eq_zero_or_one t.val with hc | hc
      · have hq : (⟨t.val % 2, Nat.mod_lt _ (by decide)⟩ : Fin 2) = 0 := Fin.ext hc
        rw [hq, ← got_eq _ _ _ (hs 0)]
        rfl
      · have hq : (⟨t.val % 2, Nat.mod_lt _ (by decide)⟩ : Fin 2) = 1 := Fin.ext hc
        rw [hq, ← tot_drop _ 0 (aP ⟨t.val / 2, hp⟩) _ _ (by simp), ← got_eq _ _ _ (some_drop _ _ _ _ _ (by simp) (hs 1))]
        rfl
    rw [e, sum59, ← hT]
    unfold pairV
    simp only [tile_step]
    rcases Nat.mod_two_eq_zero_or_one t.val with hc | hc
    · have h0 : t0 ⟨t.val / 2, hp⟩ = t := Fin.ext (by show 2 * (t.val / 2) = t.val; omega)
      have h1 : ¬ t1 ⟨t.val / 2, hp⟩ = t := fun e => by
        have : 2 * (t.val / 2) + 1 = t.val := congrArg Fin.val e
        omega
      rw [h0]
      simp only [if_neg h1, add_zero, if_true]
      rw [passN_eq X S W t i 56 56 rfl, passN_eq X S W t i 57 57 rfl, passN_eq X S W t i 58 58 rfl]
    · have h0 : ¬ t0 ⟨t.val / 2, hp⟩ = t := fun e => by
        have : 2 * (t.val / 2) = t.val := congrArg Fin.val e
        omega
      have h1 : t1 ⟨t.val / 2, hp⟩ = t := Fin.ext (by show 2 * (t.val / 2) + 1 = t.val; omega)
      rw [h1]
      simp only [if_neg h0, add_zero, if_true]
      rw [passN_eq X S W t i 56 56 rfl, passN_eq X S W t i 57 57 rfl, passN_eq X S W t i 58 58 rfl]
  · rw [dif_neg ht]
    have e : t = 14 := Fin.ext (by show t.val = 14; omega)
    rw [e]
    exact lastY_at X S W i

end Cert.KernelIdeal
end
-- ==== Proof.IVk.lean ====
module

public import proofs.«01_k».proof.Proof.IVd
public import proofs.«01_k».proof.Proof.IVx
public import proofs.«01_k».proof.Proof.IVw
public import proofs.«01_k».proof.Proof.IVs
public import proofs.«01_k».proof.Proof.IFrame

@[expose] public section

set_option synthInstance.maxSize 4096
set_option maxRecDepth 16384

noncomputable section

namespace Cert.KernelIdeal

open Idealize.ShloMosaic
variable [Facts]
open Facts₀ Facts

/-! ## The kernel's result is one sum over the contraction -/

variable (X : S128x15104.Idx → Elt Ideal .bf16) (S : S944x3840.Idx → Elt Ideal .fp8e4m3) (W : S7552x3840.Idx → Elt Ideal .i8)

theorem wT_at (c : Fin 59) (t : Fin 15) (p : Fin 128) (n : Fin 256) :
    wT W c t (ix2 p n) = W (ix2 ⟨128 * c.val + p.val, by omega⟩ ⟨256 * t.val + n.val, by omega⟩) :=
  congrArg W (by
    funext a; apply Fin.ext
    match a with
    | ⟨0, _⟩ => show 128 * c.val + 1 * p.val = 128 * c.val + p.val; omega
    | ⟨1, _⟩ => show 256 * t.val + 1 * n.val = 256 * t.val + n.val; omega)

theorem sT_at (h : Fin 2) (c : Fin 59) (t : Fin 15) (p : Fin 8) (n : Fin 256) :
    sT S h c t (ix2 p n) = S (ix2 ⟨472 * h.val + 8 * c.val + p.val, by omega⟩ ⟨256 * t.val + n.val, by omega⟩) :=
  congrArg S (by
    funext a; apply Fin.ext
    match a with
    | ⟨0, _⟩ => show 472 * h.val + 8 * c.val + 1 * p.val = 472 * h.val + 8 * c.val + p.val; omega
    | ⟨1, _⟩ => show 256 * t.val + 1 * n.val = 256 * t.val + n.val; omega)

theorem xT_at (h : Fin 2) (c : Fin 59) (i : Fin 128) (p : Fin 128) :
    xT X h c (ix2 i p) = X (ix2 i ⟨7552 * h.val + 128 * c.val + p.val, by omega⟩) :=
  congrArg X (by
    funext a; apply Fin.ext
    match a with
    | ⟨0, _⟩ => show 0 + 1 * i.val = i.val; omega
    | ⟨1, _⟩ => show 7552 * h.val + 128 * c.val + 1 * p.val = 7552 * h.val + 128 * c.val + p.val; omega)

/-- A chunk's activations, interleaved: each row of the tile meets its own. -/
theorem x_at (c : Fin 59) (i : Fin 128) (r : Fin 256) :
    (xTile (xLo (xT X 0 c) (xT X 1 c)) (xHi (xT X 0 c) (xT X 1 c)) (ix2 i r) : EReal) = X (ix2 i (Regroup.at' c r)) := by
  have hr := r.isLt
  have H : ∀ k : Fin 15104, k.val = 7552 * (r.val % 2) + 128 * c.val + r.val / 2 → (X (ix2 i k) : EReal) = X (ix2 i (Regroup.at' c r)) :=
    fun k h => congrArg (fun k => X (ix2 i k)) (Fin.ext h)
  rw [xTile_at]
  by_cases h : r.val < 128
  · rw [dif_pos h, xLo_at]
    rcases Nat.mod_two_eq_zero_or_one r.val with h2 | h2
    · rw [if_pos h2, xT_at]
      refine H _ ?_
      show 7552 * 0 + 128 * c.val + r.val / 2 = _
      omega
    · rw [if_neg (by show ¬ r.val % 2 = 0; omega), xT_at]
      refine H _ ?_
      show 7552 * 1 + 128 * c.val + r.val / 2 = _
      omega
  · rw [dif_neg h, xHi_at]
    rcases Nat.mod_two_eq_zero_or_one r.val with h2 | h2
    · rw [if_pos (by show (r.val - 128) % 2 = 0; omega), xT_at]
      refine H _ ?_
      show 7552 * 0 + 128 * c.val + (64 + (r.val - 128) / 2) = _
      omega
    · rw [if_neg (by show ¬ (r.val - 128) % 2 = 0; omega), xT_at]
      refine H _ ?_
      show 7552 * 1 + 128 * c.val + (64 + (r.val - 128) / 2) = _
      omega

/-- A chunk's scales. -/
theorem s_at (c : Fin 59) (t : Fin 15) (r n : Fin 256) :
    (if r.val % 2 = 1 then (sT S 1 c t (ix2 ⟨r.val / 32, by omega⟩ n) : EReal) else sT S 0 c t (ix2 ⟨r.val / 32, by omega⟩ n))
      = S (ix2 ⟨(Regroup.at' c r).val / 16, by omega⟩ ⟨256 * t.val + n.val, by omega⟩) := by
  have hr := r.isLt
  have hc := c.isLt
  have H : ∀ k : Fin 944, k.val = (7552 * (r.val % 2) + 128 * c.val + r.val / 2) / 16 →
      (S (ix2 k ⟨256 * t.val + n.val, by omega⟩) : EReal) = S (ix2 ⟨(Regroup.at' c r).val / 16, by omega⟩ ⟨256 * t.val + n.val, by omega⟩) :=
    fun k h => congrArg (fun k => S (ix2 k ⟨256 * t.val + n.val, by omega⟩)) (Fin.ext h)
  rcases Nat.mod_two_eq_zero_or_one r.val with h2 | h2
  · rw [if_neg (by omega), sT_at]
    refine H _ ?_
    show 472 * 0 + 8 * c.val + r.val / 32 = _
    rw [h2]
    omega
  · rw [if_pos h2, sT_at]
    refine H _ ?_
    show 472 * 1 + 8 * c.val + r.val / 32 = _
    rw [h2]
    omega

/-- A chunk's decoded weights. -/
theorem w_at (c : Fin 59) (t : Fin 15) (r n : Fin 256) :
    Nibble.code ⟨r.val % 2, Nat.mod_lt _ (by decide)⟩ (wT W c t (ix2 ⟨r.val / 2, by omega⟩ n))
      = Nibble.code ⟨(Regroup.at' c r).val / 7552, by omega⟩ (W (ix2 ⟨(Regroup.at' c r).val % 7552, by omega⟩ ⟨256 * t.val + n.val, by omega⟩)) := by
  have hr := r.isLt
  have hc := c.isLt
  rw [wT_at]
  have e1 : (⟨r.val % 2, Nat.mod_lt _ (by decide)⟩ : Fin 2) = ⟨(Regroup.at' c r).val / 7552, by omega⟩ := Fin.ext (by
    show r.val % 2 = (7552 * (r.val % 2) + 128 * c.val + r.val / 2) / 7552
    rcases Nat.mod_two_eq_zero_or_one r.val with h2 | h2 <;> rw [h2] <;> omega)
  have e2 : (⟨128 * c.val + r.val / 2, by omega⟩ : Fin 7552) = ⟨(Regroup.at' c r).val % 7552, by omega⟩ := Fin.ext (by
    show 128 * c.val + r.val / 2 = (7552 * (r.val % 2) + 128 * c.val + r.val / 2) % 7552
    rcases Nat.mod_two_eq_zero_or_one r.val with h2 | h2 <;> rw [h2] <;> omega)
  rw [e1, e2]

/-- One product of the contraction. -/
def prod (X : S128x15104.Idx → Elt Ideal .bf16) (S : S944x3840.Idx → Elt Ideal .fp8e4m3) (W : S7552x3840.Idx → Elt Ideal .i8)
    (i : Fin 128) (n : Fin 3840) (k : Fin 15104) : EReal :=
  (X (ix2 i k) : EReal) * (Ideal.ofBits .bf16 (Nibble.code ⟨k.val / 7552, by omega⟩ (W (ix2 ⟨k.val % 7552, by omega⟩ n))) * (S (ix2 ⟨k.val / 16, by omega⟩ n) : EReal))

theorem pass_at (c : Fin 59) (t : Fin 15) (i : Fin 128) (n : Fin 256) :
    (pass X S W c t (ix2 i n) : EReal) = ∑ r : Fin 256, prod X S W i ⟨256 * t.val + n.val, by omega⟩ (Regroup.at' c r) := by
  unfold pass
  rw [passT_at]
  refine Finset.sum_congr rfl fun r _ => ?_
  rw [x_at, wTile_at, s_at, w_at]
  rfl

theorem yV_sum (t : Fin 15) (i : Fin 128) (n : Fin 256) :
    (yV X S W t (ix2 i n) : EReal) = ∑ k : Fin 15104, prod X S W i ⟨256 * t.val + n.val, by omega⟩ k := by
  rw [yV_at, Regroup.sum_regroup, Finset.sum_range]
  refine Finset.sum_congr rfl fun c _ => ?_
  rw [← pass_at, ← passN_eq X S W t (ix2 i n) c c.val rfl]

theorem outT_at (v : FVec Ideal S128x256 .f32) (g : Elt Ideal .f32) (i : Fin 128) (n : Fin 256) :
    (outT v g (ix2 i n) : EReal) = (v (ix2 i n) : EReal) * g := by
  unfold outT
  pointwise

/-- The kernel's result. -/
theorem yOut_at (G : S1x1.Idx → Elt Ideal .f32) (i : Fin 128) (n : Fin 3840) :
    (yOut X S W G (ix2 i n) : EReal) = (∑ k : Fin 15104, prod X S W i n k) * (G g0 : EReal) := by
  have hn := n.isLt
  have e1 : yTile (ix2 i n) = ⟨n.val / 256, by omega⟩ := rfl
  have e2 : yAt (ix2 i n) = ix2 i ⟨n.val % 256, by omega⟩ := by
    funext a; apply Fin.ext
    match a with
    | ⟨0, _⟩ => rfl
    | ⟨1, _⟩ => rfl
  have e3 : (⟨256 * (n.val / 256) + n.val % 256, by omega⟩ : Fin 3840) = n := Fin.ext (by
    show 256 * (n.val / 256) + n.val % 256 = n.val
    omega)
  unfold yOut yOf
  rw [e1, e2]
  show (outT (yV X S W ⟨n.val / 256, by omega⟩) (G g0) (ix2 i ⟨n.val % 256, by omega⟩) : EReal) = _
  rw [outT_at, yV_sum, e3]

end Cert.KernelIdeal
end
-- ==== Proof.IVr.lean ====
module

public import proofs.«01_k».proof.Proof.Gen.ReferenceIdeal.Value
public import proofs.«01_k».proof.Proof.IVn
public import Idealize.ShloMosaic.Lib.Pointwise
public import Idealize.ShloMosaic.Lib.Pipeline.Value
public import Idealize.ShloMosaic.Lib.MatmulPlain

@[expose] public section

set_option synthInstance.maxSize 4096
set_option maxRecDepth 16384

noncomputable section

namespace Cert.ReferenceIdeal

open Idealize.ShloMosaic
variable [Facts]
open Facts₀ Facts

/-- The decoded weights' bits, both halves. -/
def rCode (v0 : Vec Ideal S7552x3840 .i8) : IVec S2x7552x3840 16 :=
  have v1 : IVec S7552x3840 32 := extui 32 v0 natLt_8_32
  have v2 : IVec S7552x3840 32 := broadcast S7552x3840 15#32
  have v3 : IVec S7552x3840 32 := andi v1 v2
  have v4 : IVec S7552x3840 32 := broadcast S7552x3840 4#32
  have v5 : IVec S7552x3840 32 := shrsi v1 v4
  have v6 : IVec S1x7552x3840 32 := shapeCast S1x7552x3840 v3 shapeCasts_S7552x3840_S1x7552x3840
  have v7 : IVec S1x7552x3840 32 := shapeCast S1x7552x3840 v5 shapeCasts_S7552x3840_S1x7552x3840
  have v8 : IVec S2x7552x3840 32 := concatenate S2x7552x3840 0 [⟨S1x7552x3840, v6⟩, ⟨S1x7552x3840, v7⟩] concatenates_S1x7552x3840_S1x7552x3840_S2x7552x3840_d0
  have v9 : IVec S2x7552x3840 32 := broadcast S2x7552x3840 7#32
  have v10 : IVec S2x7552x3840 32 := andi v8 v9
  have v11 : IVec S2x7552x3840 32 := broadcast S2x7552x3840 2#32
  have v12 : IVec S2x7552x3840 1 := cmpi .sge v10 v11
  have v13 : IVec S2x7552x3840 32 := broadcast S2x7552x3840 252#32
  have v14 : IVec S2x7552x3840 32 := addi v10 v13
  have v15 : IVec S2x7552x3840 32 := broadcast S2x7552x3840 6#32
  have v16 : IVec S2x7552x3840 32 := shli v14 v15
  have v17 : IVec S2x7552x3840 32 := broadcast S2x7552x3840 16128#32
  have v18 : IVec S2x7552x3840 32 := muli v10 v17
  have v19 : IVec S2x7552x3840 32 := select v12 v16 v18
  have v20 : IVec S2x7552x3840 32 := broadcast S2x7552x3840 8#32
  have v21 : IVec S2x7552x3840 32 := andi v8 v20
  have v22 : IVec S2x7552x3840 32 := broadcast S2x7552x3840 12#32
  have v23 : IVec S2x7552x3840 32 := shli v21 v22
  have v24 : IVec S2x7552x3840 32 := ori v19 v23
  have v25 : IVec S2x7552x3840 16 := trunci 16 v24 natLt_16_32
  v25

/-- The weights from their bits and scales. -/
def rW (v25 : IVec S2x7552x3840 16) (v27 : Vec Ideal S944x3840 .fp8e4m3) : FVec Ideal S15104x3840 .bf16 :=
  have v26 : FVec Ideal S2x7552x3840 .bf16 := bitcastToFloat .bf16 v25
  have v28 : FVec Ideal S2x472x1x3840 .fp8e4m3 := shapeCast S2x472x1x3840 v27 shapeCasts_S944x3840_S2x472x1x3840
  have v29 : FVec Ideal S2x472x1x3840 .bf16 := extf .bf16 v28 bitsLt_fp8e4m3_bf16
  have v30 : FVec Ideal S2x472x16x3840 .bf16 := shapeCast S2x472x16x3840 v26 shapeCasts_S2x7552x3840_S2x472x16x3840
  have v31 : FVec Ideal S2x472x16x3840 .bf16 := broadcastTo S2x472x16x3840 v29 broadcasts_S2x472x1x3840_S2x472x16x3840
  have v32 : FVec Ideal S2x472x16x3840 .bf16 := mulf v30 v31
  have v33 : FVec Ideal S15104x3840 .bf16 := shapeCast S15104x3840 v32 shapeCasts_S2x472x16x3840_S15104x3840
  v33

theorem rCode_at (W : Vec Ideal S7552x3840 .i8) (h : Fin 2) (p : Fin 7552) (n : Fin 3840) :
    rCode W (ix3 h p n) = Nibble.code h (W (ix2 p n)) := by
  unfold rCode
  pointwise
  rfl

theorem rW_at (C : IVec S2x7552x3840 16) (S : Vec Ideal S944x3840 .fp8e4m3) (k : Fin 15104) (n : Fin 3840) :
    (rW C S (ix2 k n) : EReal) = Ideal.ofBits .bf16 (C (ix3 ⟨k.val / 7552, by omega⟩ ⟨k.val % 7552, by omega⟩ n)) * (S (ix2 ⟨k.val / 16, by omega⟩ n) : EReal) := by
  unfold rW
  pointwise
  have e1 : (⟨k.val / 16 % 472 * 16 + k.val % 16, by omega⟩ : Fin 7552) = ⟨k.val % 7552, by omega⟩ := Fin.ext (by
    show k.val / 16 % 472 * 16 + k.val % 16 = k.val % 7552
    omega)
  have e2 : (⟨k.val / 7552 * 472 + k.val / 16 % 472, by omega⟩ : Fin 944) = ⟨k.val / 16, by omega⟩ := Fin.ext (by
    show k.val / 7552 * 472 + k.val / 16 % 472 = k.val / 16
    omega)
  rw [e1, e2]

theorem pay_at (W : Vec Ideal S7552x3840 .i8) (S : Vec Ideal S944x3840 .fp8e4m3) (X : Vec Ideal S128x15104 .bf16) (g : Elt Ideal .f32) (i : Fin 128) (n : Fin 3840) :
    (Gen.k0_pay1 W S X g (ix2 i n) : EReal) = (∑ k : Fin 15104, (X (ix2 i k) : EReal) * rW (rCode W) S (ix2 k n)) * (g : EReal) := by
  have e : Gen.k0_pay1 W S X g = truncf .bf16 (mulf (matmul (DotDims.plain 128 15104 3840) none (shapeCast S128x15104 X shapeCasts_S128x15104_S128x15104 : FVec Ideal S128x15104 .bf16) (rW (rCode W) S) (constant S128x3840 .f32 0x00000000#32) : FVec Ideal S128x3840 .f32) (broadcast S128x3840 g)) bitsLt_bf16_f32 := rfl
  have e2 : (shapeCast S128x15104 X shapeCasts_S128x15104_S128x15104 : FVec Ideal S128x15104 .bf16) = X := by
    exact Idealize.ShloMosaic.shapeCast_self _ _
  rw [e, e2]
  show ((matmul (DotDims.plain 128 15104 3840) none X (rW (rCode W) S) (constant S128x3840 .f32 0x00000000#32) : FVec Ideal S128x3840 .f32) (ix2 i n) : EReal) * (g : EReal) = _
  congr 1
  have z : ((constant S128x3840 .f32 0x00000000#32 : FVec Ideal S128x3840 .f32) (ix2 i n) : EReal) = 0 := by
    pointwise
  have key : ((matmul (DotDims.plain 128 15104 3840) none X (rW (rCode W) S) (constant S128x3840 .f32 0x00000000#32) : FVec Ideal S128x3840 .f32) (ix2 i n) : EReal)
      = ((constant S128x3840 .f32 0x00000000#32 : FVec Ideal S128x3840 .f32) (ix2 i n) : EReal) + ∑ k : Fin 15104, (X (ix2 i k) : EReal) * rW (rCode W) S (ix2 k n) :=
    Ideal.matmul_plain_apply (φ₁ := .bf16) (φ₂ := .bf16) none X (rW (rCode W) S) (constant S128x3840 .f32 0x00000000#32) i n
  rw [key, z, zero_add]

end Cert.ReferenceIdeal
end
-- ==== Proof.IVo.lean ====
module

public import proofs.«01_k».proof.Proof.Gen.ReferenceIdeal.Value
public import Idealize.ShloMosaic.Lib.Pointwise

@[expose] public section

set_option synthInstance.maxSize 4096
set_option maxRecDepth 16384

noncomputable section

namespace Cert.ReferenceIdeal.Out

open Cert.ReferenceIdeal Cert.ReferenceIdeal.Gen Cert.ReferenceIdeal.Value Idealize.ShloMosaic Idealize.ShloMosaic.TcCoe Idealize.SL.Sem

variable {F : FTy → Type} [FloatOps F]

/-! ## The reference's result as one function of the arrays -/

/-- The place of the one gain. -/
def g0 : S1x1.Idx := fun a => ⟨0, by revert a; decide⟩

theorem hz : (![0, 0] : Fin 2 → Nat) = fun _ => 0 := funext fun a => by fin_cases a <;> rfl

theorem out_eq (c : Dev nD) (arg0 : Memref sig .tc .vmem S128x15104 .bf16) (h0 : arg0.IsWhole) (arg1 : Memref sig .tc .vmem S7552x3840 .i8) (h1 : arg1.IsWhole)
    (arg2 : Memref sig .tc .vmem S944x3840 .fp8e4m3) (h2 : arg2.IsWhole) (arg3 : Memref sig .tc .smem S1x1 .f32) (h3 : arg3.IsWhole)
    (arg4 : Memref sig .tc .vmem S128x3840 .bf16) (h4 : arg4.IsWhole)
    (x0 : Vec F S128x15104 .bf16) (x1 : Vec F S7552x3840 .i8) (x2 : Vec F S944x3840 .fp8e4m3) (x3 : Vec F S1x1 .f32) :
    out0_A_4 c arg0 h0 arg1 h1 arg2 h2 arg3 h3 arg4 h4 x0 x1 x2 x3 = k0_pay1 x1 x2 x0 (x3 g0) := by
  unfold out0_A_4
  rw [View.read_writes_junk_eq_canon]
  show View.canon ([⟨Rect.unit ![0, 0] S128x3840.size inb_S128x3840_S128x3840_0_0,
      k0_pay1
        (View.readAt (Elt F) arg1.view (Rect.unit ![0, 0] S7552x3840.size inb_S7552x3840_S7552x3840_0_0).toLoadRect (h1.unread x1))
        (View.readAt (Elt F) arg2.view (Rect.unit ![0, 0] S944x3840.size inb_S944x3840_S944x3840_0_0).toLoadRect (h2.unread x2))
        (View.readAt (Elt F) arg0.view (Rect.unit ![0, 0] S128x15104.size inb_S128x15104_S128x15104_0_0).toLoadRect (h0.unread x0))
        (View.readAt (Elt F) arg3.view (Rect.unit (s := S1x1) ![0, 0] S1x1.size inb_S1x1_S1x1_0_0).toLoadRect (h3.unread x3) _)⟩] :
      List (View.Piece (Elt F) S128x3840 .bf16)) = _
  rw [View.canon_unit_zero hz, View.readAt_eq_ld, View.readAt_eq_ld, View.readAt_eq_ld, View.readAt_eq_ld, h1.read_unread, h0.read_unread,
    h2.read_unread, h3.read_unread, View.ld_unit_zero hz, View.ld_unit_zero hz, View.ld_unit_zero hz]
  exact congrArg (k0_pay1 x1 x2 x0) (congrArg x3 (funext fun a => by match a with | ⟨0, _⟩ => rfl | ⟨1, _⟩ => rfl))

variable (m : (ℓ : Loc nD τ sig) → Buf (Elt F) ℓ) (ρ : Dev nD → PrngReg)

theorem V_main_v0 (c : Dev nD) : V m c main_v0 = shapeCast S128x15104 (m ((c : Thread nD τ).loc main_arg0)) shapeCasts_S128x1x15104_S128x15104 := by
  show StableHlo.after hostOps0 _ (Proc.devRef .tc main_v0) = _
  after_results
  rfl

theorem V_main_v1 (c : Dev nD) : V m c main_v1 = shapeCast S1x1 (m ((c : Thread nD τ).loc main_arg3)) shapeCasts_S_S1x1 := by
  show StableHlo.after hostOps0 _ (Proc.devRef .tc main_v1) = _
  after_results
  rfl

theorem idx_zero0 : ∀ t : Fin cfg0.N, win0_0.index t (0 : Fin 2) = 0 ∧ win0_0.index t (1 : Fin 2) = 0 := (by decide +kernel : ∀ t : Fin grid0.N, _)
theorem emb0 (t : Fin cfg0.N) (j : S128x15104.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 15104 + 1 * (j 1).val = (j 1).val; omega
theorem iblk0_eq (c : Dev nD) (t : Fin cfg0.N) : iblk m c 0 t = V m c main_v0 := by
  funext j; show V m c main_v0 (((cfg0.win 0).blk t).view.emb j) = V m c main_v0 j; rw [emb0]

theorem idx_zero1 : ∀ t : Fin cfg0.N, win0_1.index t (0 : Fin 2) = 0 ∧ win0_1.index t (1 : Fin 2) = 0 := (by decide +kernel : ∀ t : Fin grid0.N, _)
theorem emb1 (t : Fin cfg0.N) (j : S7552x3840.Idx) : ((cfg0.win 1).blk t).view.emb j = j := by
  obtain ⟨e0, e1⟩ := idx_zero1 t
  funext a; apply Fin.ext
  match a with
  | ⟨0, _⟩ => show win0_1.index t (0 : Fin 2) * 7552 + 1 * (j 0).val = (j 0).val; omega
  | ⟨1, _⟩ => show win0_1.index t (1 : Fin 2) * 3840 + 1 * (j 1).val = (j 1).val; omega
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 2) = 0 ∧ win0_2.index t (1 : Fin 2) = 0 := (by decide +kernel : ∀ t : Fin grid0.N, _)
theorem emb2 (t : Fin cfg0.N) (j : S944x3840.Idx) : ((cfg0.win 2).blk t).view.emb j = j := by
  obtain ⟨e0, e1⟩ := idx_zero2 t
  funext a; apply Fin.ext
  match a with
  | ⟨0, _⟩ => show win0_2.index t (0 : Fin 2) * 944 + 1 * (j 0).val = (j 0).val; omega
  | ⟨1, _⟩ => show win0_2.index t (1 : Fin 2) * 3840 + 1 * (j 1).val = (j 1).val; omega
theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 2) = 0 ∧ win0_3.index t (1 : Fin 2) = 0 := (by decide +kernel : ∀ t : Fin grid0.N, _)
theorem emb3 (t : Fin cfg0.N) (j : S1x1.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 1 + 1 * (j 1).val = (j 1).val; omega
theorem iblk3_eq (c : Dev nD) (t : Fin cfg0.N) : iblk m c 3 t = V m c main_v1 := by
  funext j; show V m c main_v1 (((cfg0.win 3).blk t).view.emb j) = V m c main_v1 j; rw [emb3]

theorem idx_zero4 : ∀ t : Fin cfg0.N, win0_4.index t (0 : Fin 2) = 0 ∧ win0_4.index t (1 : Fin 2) = 0 := (by decide +kernel : ∀ t : Fin grid0.N, _)
theorem emb4 (t : Fin cfg0.N) (j : S128x3840.Idx) : ((cfg0.win 4).blk t).view.emb j = j := by
  obtain ⟨e0, e1⟩ := idx_zero4 t
  funext a; apply Fin.ext
  match a with
  | ⟨0, _⟩ => show win0_4.index t (0 : Fin 2) * 128 + 1 * (j 0).val = (j 0).val; omega
  | ⟨1, _⟩ => show win0_4.index t (1 : Fin 2) * 3840 + 1 * (j 1).val = (j 1).val; omega

theorem cut4_eq (t : Fin cfg0.N) (X : Vec F S128x3840 .bf16) :
    (cfg0.win 4).cut (grid0.coords t) X = ((cfg0.win 4).blk t).view.read (Elt F) X := by
  funext j
  show X j = X (((cfg0.win 4).blk t).view.emb j)
  rw [emb4]

theorem flushed4_eq (c : Dev nD) (t : Fin cfg0.N) :
    (dats m 0 c).flushed 4 t = ((cfg0.win 4).blk t).view.read (Elt F) (k0_pay1 (V m c main_arg1) (V m c main_arg2) (V m c main_v0) (V m c main_v1 g0)) := by
  rw [flushed4_A, out_eq, iblk0_eq, iblk1_eq, iblk2_eq, iblk3_eq]
  exact cut4_eq t _

theorem covered4 (i : S128x3840.Idx) :
    ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem final4 (c : Dev nD) : (dats m 0 c).arrAt 4 cfg0.N
    = k0_pay1 (m ((c : Thread nD τ).loc main_arg1)) (m ((c : Thread nD τ).loc main_arg2))
        (shapeCast S128x15104 (m ((c : Thread nD τ).loc main_arg0)) shapeCasts_S128x1x15104_S128x15104)
        ((shapeCast S1x1 (m ((c : Thread nD τ).loc main_arg3)) shapeCasts_S_S1x1 : S1x1.Idx → Elt F .f32) g0) :=
  ((dats m 0 c).arrAt_eq_of_cover 4 (k0_pay1 (V m c main_arg1) (V m c main_arg2) (V m c main_v0) (V m c main_v1 g0)) (fun t _ => flushed4_eq m c t) covered4).trans
    (by rw [V_main_arg1, V_main_arg2, V_main_v0, V_main_v1])

end Cert.ReferenceIdeal.Out
end
-- ==== Proof.IVz.lean ====
module

public import proofs.«01_k».proof.Proof.IVk
public import proofs.«01_k».proof.Proof.IVr
public import proofs.«01_k».proof.Proof.IVo
public import proofs.«01_k».proof.Proof.IMain
public import proofs.«01_k».proof.Defs

@[expose] public section

set_option synthInstance.maxSize 4096
set_option maxRecDepth 16384

noncomputable section

namespace Cert.KernelIdeal

open Idealize.ShloMosaic Idealize.ShloMosaic.TcCoe Idealize.SL.Sem

/-! ## The kernel's result is the reference's -/

/-- The reference's result is the same sum. -/
theorem pay_eq (X : S128x15104.Idx → Elt Ideal .bf16) (S : S944x3840.Idx → Elt Ideal .fp8e4m3) (W : S7552x3840.Idx → Elt Ideal .i8) (g : Elt Ideal .f32)
    (i : Fin 128) (n : Fin 3840) :
    (Cert.ReferenceIdeal.Gen.k0_pay1 (F := Ideal) W S X g (ix2 i n) : EReal) = (∑ k : Fin 15104, prod X S W i n k) * (g : EReal) := by
  rw [Cert.ReferenceIdeal.pay_at]
  refine congrArg (fun s : EReal => s * (g : EReal)) (Finset.sum_congr rfl fun k _ => ?_)
  rw [Cert.ReferenceIdeal.rW_at, Cert.ReferenceIdeal.rCode_at]
  rfl

section
variable {F : FTy → Type} [FloatOps F] (m : (ℓ : Loc nD τ sig) → Buf (Elt F) ℓ)

theorem V_main_v0 (c : Dev nD) : Gen.V m c main_v0 = shapeCast S128x15104 (m ((c : Thread nD τ).loc main_arg0)) Gen.shapeCasts_S128x1x15104_S128x15104 := by
  show StableHlo.after Gen.hostOps0 _ (Proc.devRef .tc main_v0) = _
  after_results
  rfl

theorem V_main_v1 (c : Dev nD) : Gen.V m c main_v1 = shapeCast S1x1 (m ((c : Thread nD τ).loc main_arg3)) Gen.shapeCasts_S_S1x1 := by
  show StableHlo.after Gen.hostOps0 _ (Proc.devRef .tc main_v1) = _
  after_results
  rfl

theorem idx_zero : ∀ t : Fin cfg0.N, win0_0.index t (0 : Fin 2) = 0 ∧ win0_0.index t (1 : Fin 2) = 0 := (by decide +kernel : ∀ t : Fin grid0.N, _)

theorem gain_eq (c : Dev nD) : gainIn m c = shapeCast S1x1 (m ((c : Thread nD τ).loc main_arg3)) Gen.shapeCasts_S_S1x1 := by
  rw [← V_main_v1]
  have e : ∀ j : S1x1.Idx, ((cfg0.win 0).blk Gen.t0_0).view.emb j = j := by
    intro j
    obtain ⟨e0, e1⟩ := idx_zero Gen.t0_0
    funext a; apply Fin.ext
    match a with
    | ⟨0, _⟩ => show win0_0.index Gen.t0_0 (0 : Fin 2) * 1 + 1 * (j 0).val = (j 0).val; omega
    | ⟨1, _⟩ => show win0_0.index Gen.t0_0 (1 : Fin 2) * 1 + 1 * (j 1).val = (j 1).val; omega
  funext j
  show Gen.V m c main_v1 (((cfg0.win 0).blk Gen.t0_0).view.emb j) = Gen.V m c main_v1 j
  rw [e]
end

theorem result_eq (X : S128x15104.Idx → Elt Ideal .bf16) (S : S944x3840.Idx → Elt Ideal .fp8e4m3) (W : S7552x3840.Idx → Elt Ideal .i8)
    (G : S1x1.Idx → Elt Ideal .f32) : Cert.ReferenceIdeal.Gen.k0_pay1 (F := Ideal) W S X (G g0) = yOut X S W G := by
  funext j
  have e : j = ix2 (j 0) (j 1) := by
    funext a
    match a with
    | ⟨0, _⟩ => rfl
    | ⟨1, _⟩ => rfl
  rw [e]
  exact (pay_eq X S W (G g0) (j 0) (j 1)).trans (yOut_at X S W G (j 0) (j 1)).symm

theorem algebraic_proof : Cert.algebraic_KernelIdeal_ReferenceIdeal := by
  intro m g m' g' _ hargs
  refine ⟨fun c => yOut (Gen.V m c main_v0) (Gen.V m c main_arg2) (Gen.V m c main_arg1) (gainIn m c), ?_, ?_⟩
  · exact (θ_run Cert.KernelIdeal.defs _ _).mono (fun r h c => ⟨h.2 c, h.1.1 c⟩) (frame_value m g same)
  · refine (θ_run Cert.ReferenceIdeal.defs _ _).mono (fun r h c => ⟨(h c).1.trans ?_, (h c).2⟩) (Cert.ReferenceIdeal.Value.run_blocks m' g')
    obtain ⟨h0, h1, h2, h3⟩ := hargs c
    refine (Cert.ReferenceIdeal.Out.final4 m' c).trans ?_
    beta_reduce
    rw [gain_eq, V_main_v0, Gen.V_main_arg1, Gen.V_main_arg2]
    rw [h0, h1, h2, h3]
    exact result_eq _ _ _ _

end Cert.KernelIdeal
end
-- ==== Proof.KStruct.lean ====
module

public import proofs.«01_k».proof.Kernel
public import Idealize.ShloMosaic.Lib.Tactic.ProgEq

@[expose] public section

set_option synthInstance.maxSize 4096

noncomputable section

namespace Cert.Kernel

open Idealize.ShloMosaic Idealize.SL.Sem
open Idealize.ShloMosaic.RefSig (ofTc tcTables tileCredit tileCredit_eq_zero tileCredit_pos)

variable {F : FTy → Type} [FloatOps F]

variable [Facts]
open Facts₀ Facts

/-- One pass through the matrix unit: decode a 128 x 256 tile of packed weights into 256 rows, scale it, load it
as weights, and multiply the chunk's interleaved activations into accumulator `A` of unit `q`. -/
def unit (arg6 : Memref sig .tc .vmem S7552x3840 .i8) (arg7 : Memref sig .tc .vmem S944x3840 .fp8e4m3)
    (arg8 : Memref sig .tc .vmem S59x2x128x128 .bf16) (m : Mxu F) (q : Fin 2) (A : Nat) (hA : Mxu.Fits A 128)
    (ow : Fin 2 → Nat) (hw : ∀ a, ow a + S128x256.size a ≤ S7552x3840.size a)
    (ol : Fin 2 → Nat) (hl : ∀ a, ol a + S8x256.size a ≤ S944x3840.size a)
    (oh : Fin 2 → Nat) (hh : ∀ a, oh a + S8x256.size a ≤ S944x3840.size a)
    (o0 : Fin 4 → Nat) (h0 : ∀ a, o0 a + S1x1x128x128.size a ≤ S59x2x128x128.size a)
    (o1 : Fin 4 → Nat) (h1 : ∀ a, o1 a + S1x1x128x128.size a ≤ S59x2x128x128.size a) : Prog (TpuEff nD τ sig (Elt F) Λ₀ .tc) (Mxu F) := do
  let a0 : Vec F S128x256 .i8 ← Prog.lift (.load arg6 (Rect.unit (s := S7552x3840) ow S128x256.size hw).toLoadRect (View.loadsAt_vmem h_S128x256))
  have a1 : IVec S128x256 32 := extui 32 a0 natLt_8_32
  have a2 : IVec S128x256 32 := broadcast S128x256 7#32
  have a3 : IVec S128x256 32 := andi a1 a2
  have a4 : IVec S128x256 32 := broadcast S128x256 252#32
  have a5 : IVec S128x256 32 := muli a3 a4
  have a6 : IVec S128x256 32 := broadcast S128x256 252#32
  have a7 : IVec S128x256 32 := addi a3 a6
  have a8 : IVec S128x256 32 := minsi a5 a7
  have a9 : IVec S128x256 32 := broadcast S128x256 6#32
  have a10 : IVec S128x256 32 := shli a8 a9
  have a11 : IVec S128x256 32 := broadcast S128x256 8#32
  have a12 : IVec S128x256 32 := andi a1 a11
  have a13 : IVec S128x256 32 := broadcast S128x256 12#32
  have a14 : IVec S128x256 32 := shli a12 a13
  have a15 : IVec S128x256 32 := ori a10 a14
  have a16 : IVec S128x256 32 := broadcast S128x256 4#32
  have a17 : IVec S128x256 32 := shrsi a1 a16
  have a18 : IVec S128x256 32 := broadcast S128x256 7#32
  have a19 : IVec S128x256 32 := andi a17 a18
  have a20 : IVec S128x256 32 := broadcast S128x256 252#32
  have a21 : IVec S128x256 32 := muli a19 a20
  have a22 : IVec S128x256 32 := broadcast S128x256 252#32
  have a23 : IVec S128x256 32 := addi a19 a22
  have a24 : IVec S128x256 32 := minsi a21 a23
  have a25 : IVec S128x256 32 := broadcast S128x256 6#32
  have a26 : IVec S128x256 32 := shli a24 a25
  have a27 : IVec S128x256 32 := broadcast S128x256 8#32
  have a28 : IVec S128x256 32 := andi a17 a27
  have a29 : IVec S128x256 32 := broadcast S128x256 12#32
  have a30 : IVec S128x256 32 := shli a28 a29
  have a31 : IVec S128x256 32 := ori a26 a30
  have a32 : IVec S128x256 32 := broadcast S128x256 16#32
  have a33 : IVec S128x256 32 := shli a31 a32
  have a34 : IVec S128x256 32 := ori a15 a33
  have a35 : FVec F S256x256 .bf16 := bitcastToFloat .bf16 (bitcast S256x256 16 a34 bitcasts_S128x256_w32_S256x256_w16)
  let a36 : Vec F S8x256 .fp8e4m3 ← Prog.lift (.load arg7 (Rect.unit (s := S944x3840) ol S8x256.size hl).toLoadRect (View.loadsAt_vmem h_S8x256))
  have a37 : FVec F S8x256 .f32 := extf .f32 a36 bitsLt_fp8e4m3_f32
  have a38 : FVec F S8x256 .bf16 := truncf .bf16 a37 bitsLt_bf16_f32
  let a39 : Vec F S8x256 .fp8e4m3 ← Prog.lift (.load arg7 (Rect.unit (s := S944x3840) oh S8x256.size hh).toLoadRect (View.loadsAt_vmem h_S8x256))
  have a40 : FVec F S8x256 .f32 := extf .f32 a39 bitsLt_fp8e4m3_f32
  have a41 : FVec F S8x256 .bf16 := truncf .bf16 a40 bitsLt_bf16_f32
  have a42 : IVec S16x256 32 := iota .tc S16x256 32 [0] iota_S16x256_d0_w32
  have a43 : IVec S16x256 32 := broadcast S16x256 1#32
  have a44 : IVec S16x256 32 := andi a42 a43
  have a45 : IVec S16x256 32 := broadcast S16x256 1#32
  have a46 : IVec S16x256 1 := cmpi .eq a44 a45
  have a47 : FVec F S1x256 .bf16 := extractStridedSlice S1x256 ![0, 0] a41 slices_S8x256_o0_0_S1x256
  have a48 : FVec F S1x256 .bf16 := extractStridedSlice S1x256 ![0, 0] a38 slices_S8x256_o0_0_S1x256
  have a49 : FVec F S1x256 .bf16 := shapeCast S1x256 a47 shapeCasts_S1x256_S1x256
  have a50 : FVec F S16x256 .bf16 := broadcastTo S16x256 a49 broadcasts_S1x256_S16x256
  have a51 : FVec F S1x256 .bf16 := shapeCast S1x256 a48 shapeCasts_S1x256_S1x256
  have a52 : FVec F S16x256 .bf16 := broadcastTo S16x256 a51 broadcasts_S1x256_S16x256
  have a53 : FVec F S16x256 .bf16 := select a46 a50 a52
  have a54 : FVec F S1x256 .bf16 := extractStridedSlice S1x256 ![1, 0] a41 slices_S8x256_o1_0_S1x256
  have a55 : FVec F S1x256 .bf16 := extractStridedSlice S1x256 ![1, 0] a38 slices_S8x256_o1_0_S1x256
  have a56 : FVec F S1x256 .bf16 := shapeCast S1x256 a54 shapeCasts_S1x256_S1x256
  have a57 : FVec F S16x256 .bf16 := broadcastTo S16x256 a56 broadcasts_S1x256_S16x256
  have a58 : FVec F S1x256 .bf16 := shapeCast S1x256 a55 shapeCasts_S1x256_S1x256
  have a59 : FVec F S16x256 .bf16 := broadcastTo S16x256 a58 broadcasts_S1x256_S16x256
  have a60 : FVec F S16x256 .bf16 := select a46 a57 a59
  have a61 : FVec F S1x256 .bf16 := extractStridedSlice S1x256 ![2, 0] a41 slices_S8x256_o2_0_S1x256
  have a62 : FVec F S1x256 .bf16 := extractStridedSlice S1x256 ![2, 0] a38 slices_S8x256_o2_0_S1x256
  have a63 : FVec F S1x256 .bf16 := shapeCast S1x256 a61 shapeCasts_S1x256_S1x256
  have a64 : FVec F S16x256 .bf16 := broadcastTo S16x256 a63 broadcasts_S1x256_S16x256
  have a65 : FVec F S1x256 .bf16 := shapeCast S1x256 a62 shapeCasts_S1x256_S1x256
  have a66 : FVec F S16x256 .bf16 := broadcastTo S16x256 a65 broadcasts_S1x256_S16x256
  have a67 : FVec F S16x256 .bf16 := select a46 a64 a66
  have a68 : FVec F S1x256 .bf16 := extractStridedSlice S1x256 ![3, 0] a41 slices_S8x256_o3_0_S1x256
  have a69 : FVec F S1x256 .bf16 := extractStridedSlice S1x256 ![3, 0] a38 slices_S8x256_o3_0_S1x256
  have a70 : FVec F S1x256 .bf16 := shapeCast S1x256 a68 shapeCasts_S1x256_S1x256
  have a71 : FVec F S16x256 .bf16 := broadcastTo S16x256 a70 broadcasts_S1x256_S16x256
  have a72 : FVec F S1x256 .bf16 := shapeCast S1x256 a69 shapeCasts_S1x256_S1x256
  have a73 : FVec F S16x256 .bf16 := broadcastTo S16x256 a72 broadcasts_S1x256_S16x256
  have a74 : FVec F S16x256 .bf16 := select a46 a71 a73
  have a75 : FVec F S1x256 .bf16 := extractStridedSlice S1x256 ![4, 0] a41 slices_S8x256_o4_0_S1x256
  have a76 : FVec F S1x256 .bf16 := extractStridedSlice S1x256 ![4, 0] a38 slices_S8x256_o4_0_S1x256
  have a77 : FVec F S1x256 .bf16 := shapeCast S1x256 a75 shapeCasts_S1x256_S1x256
  have a78 : FVec F S16x256 .bf16 := broadcastTo S16x256 a77 broadcasts_S1x256_S16x256
  have a79 : FVec F S1x256 .bf16 := shapeCast S1x256 a76 shapeCasts_S1x256_S1x256
  have a80 : FVec F S16x256 .bf16 := broadcastTo S16x256 a79 broadcasts_S1x256_S16x256
  have a81 : FVec F S16x256 .bf16 := select a46 a78 a80
  have a82 : FVec F S1x256 .bf16 := extractStridedSlice S1x256 ![5, 0] a41 slices_S8x256_o5_0_S1x256
  have a83 : FVec F S1x256 .bf16 := extractStridedSlice S1x256 ![5, 0] a38 slices_S8x256_o5_0_S1x256
  have a84 : FVec F S1x256 .bf16 := shapeCast S1x256 a82 shapeCasts_S1x256_S1x256
  have a85 : FVec F S16x256 .bf16 := broadcastTo S16x256 a84 broadcasts_S1x256_S16x256
  have a86 : FVec F S1x256 .bf16 := shapeCast S1x256 a83 shapeCasts_S1x256_S1x256
  have a87 : FVec F S16x256 .bf16 := broadcastTo S16x256 a86 broadcasts_S1x256_S16x256
  have a88 : FVec F S16x256 .bf16 := select a46 a85 a87
  have a89 : FVec F S1x256 .bf16 := extractStridedSlice S1x256 ![6, 0] a41 slices_S8x256_o6_0_S1x256
  have a90 : FVec F S1x256 .bf16 := extractStridedSlice S1x256 ![6, 0] a38 slices_S8x256_o6_0_S1x256
  have a91 : FVec F S1x256 .bf16 := shapeCast S1x256 a89 shapeCasts_S1x256_S1x256
  have a92 : FVec F S16x256 .bf16 := broadcastTo S16x256 a91 broadcasts_S1x256_S16x256
  have a93 : FVec F S1x256 .bf16 := shapeCast S1x256 a90 shapeCasts_S1x256_S1x256
  have a94 : FVec F S16x256 .bf16 := broadcastTo S16x256 a93 broadcasts_S1x256_S16x256
  have a95 : FVec F S16x256 .bf16 := select a46 a92 a94
  have a96 : FVec F S1x256 .bf16 := extractStridedSlice S1x256 ![7, 0] a41 slices_S8x256_o7_0_S1x256
  have a97 : FVec F S1x256 .bf16 := extractStridedSlice S1x256 ![7, 0] a38 slices_S8x256_o7_0_S1x256
  have a98 : FVec F S1x256 .bf16 := shapeCast S1x256 a96 shapeCasts_S1x256_S1x256
  have a99 : FVec F S16x256 .bf16 := broadcastTo S16x256 a98 broadcasts_S1x256_S16x256
  have a100 : FVec F S1x256 .bf16 := shapeCast S1x256 a97 shapeCasts_S1x256_S1x256
  have a101 : FVec F S16x256 .bf16 := broadcastTo S16x256 a100 broadcasts_S1x256_S16x256
  have a102 : FVec F S16x256 .bf16 := select a46 a99 a101
  have a103 : FVec F S256x256 .bf16 := concatenate S256x256 0 [⟨S16x256, a53⟩, ⟨S16x256, a53⟩, ⟨S16x256, a60⟩, ⟨S16x256, a60⟩, ⟨S16x256, a67⟩, ⟨S16x256, a67⟩, ⟨S16x256, a74⟩, ⟨S16x256, a74⟩, ⟨S16x256, a81⟩, ⟨S16x256, a81⟩, ⟨S16x256, a88⟩, ⟨S16x256, a88⟩, ⟨S16x256, a95⟩, ⟨S16x256, a95⟩, ⟨S16x256, a102⟩, ⟨S16x256, a102⟩] concatenates_S16x256_S16x256_S16x256_S16x256_S16x256_S16x256_S16x256_S16x256_S16x256_S16x256_S16x256_S16x256_S16x256_S16x256_S16x256_S16x256_S256x256_d0
  have a104 : FVec F S256x256 .bf16 := mulf a35 a103
  let a105 : Mxu F ← m.pushRhs q 0 false a104
  let a106 : Vec F S1x1x128x128 .bf16 ← Prog.lift (.load arg8 (Rect.unit (s := S59x2x128x128) o0 S1x1x128x128.size h0).toLoadRect (View.loadsAt_vmem h_S1x1x128x128))
  have a107 : FVec F S128x128 .bf16 := shapeCast S128x128 a106 shapeCasts_S1x1x128x128_S128x128
  let a108 : Vec F S1x1x128x128 .bf16 ← Prog.lift (.load arg8 (Rect.unit (s := S59x2x128x128) o1 S1x1x128x128.size h1).toLoadRect (View.loadsAt_vmem h_S1x1x128x128))
  have a109 : FVec F S128x128 .bf16 := shapeCast S128x128 a108 shapeCasts_S1x1x128x128_S128x128
  have a110 : FVec F S128x256 .bf16 := concatenate S128x256 1 [⟨S128x128, a107⟩, ⟨S128x128, a109⟩] concatenates_S128x128_S128x128_S128x256_d1
  let a111 : Mxu F := a105.accLhs q 0 A a110 hA
  pure a111

/-- Interleave the activation columns of one chunk: columns of the first half at even places, of the second at odd. -/
def ileave (arg5 : Memref sig .tc .vmem S128x15104 .bf16)
    (arg8 : Memref sig .tc .vmem S59x2x128x128 .bf16) (harg8 : arg8.IsWhole)
    (ol : Fin 2 → Nat) (hl : ∀ a, ol a + S128x128.size a ≤ S128x15104.size a)
    (oh : Fin 2 → Nat) (hh : ∀ a, oh a + S128x128.size a ≤ S128x15104.size a)
    (o0 : Fin 4 → Nat) (h0 : ∀ a, o0 a + S1x1x128x128.size a ≤ S59x2x128x128.size a)
    (hp0 : (Rect.unit (s := S59x2x128x128) o0 S1x1x128x128.size h0).PackedRows (EltTy.packing .bf16))
    (o1 : Fin 4 → Nat) (h1 : ∀ a, o1 a + S1x1x128x128.size a ≤ S59x2x128x128.size a)
    (hp1 : (Rect.unit (s := S59x2x128x128) o1 S1x1x128x128.size h1).PackedRows (EltTy.packing .bf16)) : Prog (TpuEff nD τ sig (Elt F) Λ₀ .tc) PUnit := do
  let a0 : Vec F S128x128 .bf16 ← Prog.lift (.load arg5 (Rect.unit (s := S128x15104) ol S128x128.size hl).toLoadRect (View.loadsAt_vmem h_S128x128))
  have a1 : FVec F S128x128 .f32 := extf .f32 a0 bitsLt_bf16_f32
  let a2 : Vec F S128x128 .bf16 ← Prog.lift (.load arg5 (Rect.unit (s := S128x15104) oh S128x128.size hh).toLoadRect (View.loadsAt_vmem h_S128x128))
  have a3 : FVec F S128x128 .f32 := extf .f32 a2 bitsLt_bf16_f32
  have a4 : IVec S128x128 32 := iota .tc S128x128 32 [1] iota_S128x128_d1_w32
  have a5 : FVec F S128x128 .f32 := dynamicRotate 1 64#32 none a3 rotates_S128x128_d1
  have a6 : IVec S128x128 32 := broadcast S128x128 64#32
  have a7 : IVec S128x128 1 := cmpi .slt a4 a6
  have a8 : IVec S128x128 32 := broadcast S128x128 2#32
  have a9 : IVec S128x128 32 := divsi a4 a8
  have a10 : IVec S128x128 32 := broadcast S128x128 0#32
  have a11 : IVec S128x128 1 := cmpi .sgt a4 a10
  have a12 : IVec S128x128 32 := extui 32 a11 natLt_1_32
  have a13 : IVec S128x128 32 := broadcast S128x128 0#32
  have a14 : IVec S128x128 1 := cmpi .slt a4 a13
  have a15 : IVec S128x128 32 := extui 32 a14 natLt_1_32
  have a16 : IVec S128x128 32 := subi a12 a15
  have a17 : IVec S128x128 32 := broadcast S128x128 (Scalar.subi (Scalar.extui (Scalar.cmpi .sgt 2#32 0#32)) (Scalar.extui (Scalar.cmpi .slt 2#32 0#32)))
  have a18 : IVec S128x128 1 := cmpi .ne a16 a17
  have a19 : IVec S128x128 32 := broadcast S128x128 2#32
  have a20 : IVec S128x128 32 := remsi a4 a19
  have a21 : IVec S128x128 32 := broadcast S128x128 0#32
  have a22 : IVec S128x128 1 := cmpi .ne a20 a21
  have a23 : IVec S128x128 1 := andi a18 a22
  have a24 : IVec S128x128 32 := broadcast S128x128 1#32
  have a25 : IVec S128x128 32 := subi a9 a24
  have a26 : IVec S128x128 32 := select a23 a25 a9
  have a27 : IVec S128x128 32 := broadcast S128x128 (Scalar.select (Scalar.cmpi .eq 2#32 0#32) 1#32 2#32)
  have a28 : IVec S128x128 32 := remsi a4 a27
  have a29 : IVec S128x128 32 := broadcast S128x128 0#32
  have a30 : IVec S128x128 1 := cmpi .ne a28 a29
  have a31 : IVec S128x128 32 := broadcast S128x128 0#32
  have a32 : IVec S128x128 1 := cmpi .slt a28 a31
  have a33 : IVec S128x128 1 := broadcast S128x128 (Scalar.cmpi .slt (Scalar.select (Scalar.cmpi .eq 2#32 0#32) 1#32 2#32) 0#32)
  have a34 : IVec S128x128 1 := broadcastTo S128x128 a33 broadcasts_S128x128_S128x128
  have a35 : IVec S128x128 1 := xori a32 a34
  have a36 : IVec S128x128 1 := andi a35 a30
  have a37 : IVec S128x128 32 := broadcast S128x128 (Scalar.select (Scalar.cmpi .eq 2#32 0#32) 1#32 2#32)
  have a38 : IVec S128x128 32 := addi a28 a37
  have a39 : IVec S128x128 32 := select a36 a38 a28
  have a40 : IVec S128x128 32 := broadcast S128x128 64#32
  have a41 : IVec S128x128 32 := muli a40 a39
  have a42 : IVec S128x128 32 := addi a26 a41
  have a43 : FVec F S128x128 .f32 := select a7 a1 a5
  have a44 : IVec S128x128 32 := broadcast S128x128 0#32
  have a45 : IVec S128x128 1 := cmpi .slt a42 a44
  have a46 : IVec S128x128 32 := broadcast S128x128 128#32
  have a47 : IVec S128x128 32 := addi a42 a46
  have a48 : IVec S128x128 32 := select a45 a47 a42
  have a49 : IVec S128x128x1 32 := shapeCast S128x128x1 a48 shapeCasts_S128x128_S128x128x1
  have a50 : IVec S128x128 32 := shapeCast S128x128 a49 shapeCasts_S128x128x1_S128x128
  have a51 : FVec F S128x128 .f32 := dynamicGather 1 a43 a50
  have a52 : FVec F S128x128 .f32 := select a7 a5 a1
  have a53 : IVec S128x128 32 := broadcast S128x128 64#32
  have a54 : IVec S128x128 32 := xori a42 a53
  have a55 : IVec S128x128 32 := broadcast S128x128 0#32
  have a56 : IVec S128x128 1 := cmpi .slt a54 a55
  have a57 : IVec S128x128 32 := broadcast S128x128 128#32
  have a58 : IVec S128x128 32 := addi a54 a57
  have a59 : IVec S128x128 32 := select a56 a58 a54
  have a60 : IVec S128x128x1 32 := shapeCast S128x128x1 a59 shapeCasts_S128x128_S128x128x1
  have a61 : IVec S128x128 32 := shapeCast S128x128 a60 shapeCasts_S128x128x1_S128x128
  have a62 : FVec F S128x128 .f32 := dynamicGather 1 a52 a61
  have a63 : FVec F S128x128 .bf16 := truncf .bf16 a51 bitsLt_bf16_f32
  let a64 : Vec F S1x1x128x128 .bf16 ← Prog.lift (.load arg8 (Rect.unit (s := S59x2x128x128) o0 S1x1x128x128.size h0).toLoadRect (View.loadsAt_vmem h_S1x1x128x128))
  have a65 : FVec F S128x128 .bf16 := shapeCast S128x128 a64 shapeCasts_S1x1x128x128_S128x128
  have a66 : FVec F S1x1x128x128 .bf16 := shapeCast S1x1x128x128 a63 shapeCasts_S128x128_S1x1x128x128
  Prog.lift (.store arg8 (Rect.unit (s := S59x2x128x128) o0 S1x1x128x128.size h0) a66 Finset.univ (View.stores_vmem h_S1x1x128x128 (harg8.storeExact_slice rfl _ (hp0)) (fun _ => rfl)) (.inl rfl))
  have a67 : FVec F S128x128 .bf16 := truncf .bf16 a62 bitsLt_bf16_f32
  let a68 : Vec F S1x1x128x128 .bf16 ← Prog.lift (.load arg8 (Rect.unit (s := S59x2x128x128) o1 S1x1x128x128.size h1).toLoadRect (View.loadsAt_vmem h_S1x1x128x128))
  have a69 : FVec F S128x128 .bf16 := shapeCast S128x128 a68 shapeCasts_S1x1x128x128_S128x128
  have a70 : FVec F S1x1x128x128 .bf16 := shapeCast S1x1x128x128 a67 shapeCasts_S128x128_S1x1x128x128
  Prog.lift (.store arg8 (Rect.unit (s := S59x2x128x128) o1 S1x1x128x128.size h1) a70 Finset.univ (View.stores_vmem h_S1x1x128x128 (harg8.storeExact_slice rfl _ (hp1)) (fun _ => rfl)) (.inl rfl))

/-- The cell of the semaphores of the seven groups. -/
abbrev cell5 (arg10 : DmaSems sig S7x5) (o : Fin 2 → Nat) (h : ∀ a, o a + S1x1.size a ≤ S7x5.size a) : DmaSem sig :=
  ((show DmaSems sig S1x1 from arg10.slice (Rect.unit (s := S7x5) o S1x1.size h)).squeeze S_ squeezes_S1x1_S_).sem
/-- A cell of the semaphores of the last group. -/
abbrev cellT (arg11 : DmaSems sig S5) (o : Fin 1 → Nat) (h : ∀ a, o a + S1.size a ≤ S5.size a) : DmaSem sig :=
  ((show DmaSems sig S1 from arg11.slice (Rect.unit (s := S5) o S1.size h)).squeeze S_ squeezes_S1_S_).sem
/-- A cell of the semaphores of the results. -/
abbrev cellY (arg12 : DmaSems sig S15) (o : Fin 1 → Nat) (h : ∀ a, o a + S1.size a ≤ S15.size a) : DmaSem sig :=
  ((show DmaSems sig S1 from arg12.slice (Rect.unit (s := S15) o S1.size h)).squeeze S_ squeezes_S1_S_).sem

/-- Finish a tile of the result: times the gain, rounded, stored, and its copy out started. -/
def finish (arg4 : Memref sig .tc .hbm S128x3840 .bf16) (harg4 : arg4.IsWhole) (arg9 : Memref sig .tc .vmem S128x3840 .bf16) (harg9 : arg9.IsWhole)
    (v : FVec F S128x256 .f32) (gain : Elt F .f32) (o : Fin 2 → Nat) (h : ∀ a, o a + S128x256.size a ≤ S128x3840.size a)
    (hp : (Rect.unit (s := S128x3840) o S128x256.size h).PackedRows (EltTy.packing .bf16))
    (hw : (Rect.unit (s := S128x3840) o S128x256.size h).WholeWords (EltTy.packing .bf16)) (arg12 : DmaSems sig S15) (k : Fin 1 → Nat) (hk : ∀ a, k a + S1.size a ≤ S15.size a) : Prog (TpuEff nD τ sig (Elt F) Λ₀ .tc) PUnit := do
  let g : FVec F S128x256 .f32 := broadcast S128x256 gain
  let y : FVec F S128x256 .f32 := mulf v g
  let yb : FVec F S128x256 .bf16 := truncf .bf16 y bitsLt_bf16_f32
  let d : Vec F S128x256 .bf16 ← Prog.lift (.load arg9 (Rect.unit (s := S128x3840) o S128x256.size h).toLoadRect (View.loadsAt_vmem h_S128x256))
  let ys : FVec F S128x256 .bf16 := shapeCast S128x256 yb shapeCasts_S128x256_S128x256
  Prog.lift (.store arg9 (Rect.unit (s := S128x3840) o S128x256.size h) ys Finset.univ (View.stores_vmem h_S128x256 (harg9.storeExact_slice rfl _ hp) (fun _ => rfl)) (.inl rfl))
  let a0 : DmaSems sig S1 := arg12.slice (Rect.unit (s := S15) k S1.size hk)
  let b0 : DmaSems sig S_ := a0.squeeze S_ squeezes_S1_S_
  let d4 : Memref sig .tc .hbm S128x256 .bf16 := arg4.slice (Rect.unit (s := S128x3840) o S128x256.size h) (fun _ => rfl)
  let s9 : Memref sig .tc .vmem S128x256 .bf16 := arg9.slice (Rect.unit (s := S128x3840) o S128x256.size h) (fun _ => rfl)
  Prog.lift (.enqueueDma s9 (.here d4) (.dma b0.sem) (harg9.wordExact_slice rfl _ hw) (harg4.wordExact_slice rfl _ hw) ⟨Or.inl rfl, trivial⟩)

/-- Wait for the copy of a tile of the result. -/
def drain (arg4 : Memref sig .tc .hbm S128x3840 .bf16) (harg4 : arg4.IsWhole) (arg9 : Memref sig .tc .vmem S128x3840 .bf16) (harg9 : arg9.IsWhole)
    (o : Fin 2 → Nat) (h : ∀ a, o a + S128x256.size a ≤ S128x3840.size a)
    (hw : (Rect.unit (s := S128x3840) o S128x256.size h).WholeWords (EltTy.packing .bf16)) (arg12 : DmaSems sig S15) (k : Fin 1 → Nat) (hk : ∀ a, k a + S1.size a ≤ S15.size a) : Prog (TpuEff nD τ sig (Elt F) Λ₀ .tc) PUnit :=
  let a0 : DmaSems sig S1 := arg12.slice (Rect.unit (s := S15) k S1.size hk)
  let b0 : DmaSems sig S_ := a0.squeeze S_ squeezes_S1_S_
  let d4 : Memref sig .tc .hbm S128x256 .bf16 := arg4.slice (Rect.unit (s := S128x3840) o S128x256.size h) (fun _ => rfl)
  let s9 : Memref sig .tc .vmem S128x256 .bf16 := arg9.slice (Rect.unit (s := S128x3840) o S128x256.size h) (fun _ => rfl)
  Prog.lift (.waitDma2 b0.sem s9 d4 (harg9.wordExact_slice rfl _ hw) (harg4.wordExact_slice rfl _ hw))

/-- Start the five copies of one of the seven full groups. -/
def fetchG (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg10 : DmaSems sig S7x5)
    (k0 : Fin 2 → Nat) (hk0 : ∀ a, k0 a + S1x1.size a ≤ S7x5.size a)
    (k1 : Fin 2 → Nat) (hk1 : ∀ a, k1 a + S1x1.size a ≤ S7x5.size a)
    (k2 : Fin 2 → Nat) (hk2 : ∀ a, k2 a + S1x1.size a ≤ S7x5.size a)
    (k3 : Fin 2 → Nat) (hk3 : ∀ a, k3 a + S1x1.size a ≤ S7x5.size a)
    (k4 : Fin 2 → Nat) (hk4 : ∀ a, k4 a + S1x1.size a ≤ S7x5.size a)
    (ox : Fin 2 → Nat) (hox : ∀ a, ox a + S128x1024.size a ≤ S128x15104.size a) (wox : (Rect.unit (s := S128x15104) ox S128x1024.size hox).WholeWords (EltTy.packing .bf16))
    (oX : Fin 2 → Nat) (hoX : ∀ a, oX a + S128x1024.size a ≤ S128x15104.size a) (woX : (Rect.unit (s := S128x15104) oX S128x1024.size hoX).WholeWords (EltTy.packing .bf16))
    (os : Fin 2 → Nat) (hos : ∀ a, os a + S64x3840.size a ≤ S944x3840.size a) (wos : (Rect.unit (s := S944x3840) os S64x3840.size hos).WholeWords (EltTy.packing .fp8e4m3))
    (oS : Fin 2 → Nat) (hoS : ∀ a, oS a + S64x3840.size a ≤ S944x3840.size a) (woS : (Rect.unit (s := S944x3840) oS S64x3840.size hoS).WholeWords (EltTy.packing .fp8e4m3))
    (ow : Fin 2 → Nat) (how : ∀ a, ow a + S1024x3840.size a ≤ S7552x3840.size a) (wow : (Rect.unit (s := S7552x3840) ow S1024x3840.size how).WholeWords (EltTy.packing .i8)) : Prog (TpuEff nD τ sig (Elt F) Λ₀ .tc) PUnit := do
  let a0 : DmaSems sig S1x1 := arg10.slice (Rect.unit (s := S7x5) k0 S1x1.size hk0)
  let b0 : DmaSems sig S_ := a0.squeeze S_ squeezes_S1x1_S_
  let d0 : Memref sig .tc .vmem S128x1024 .bf16 := arg5.slice (Rect.unit ox S128x1024.size hox) (fun _ => rfl)
  let s0 : Memref sig .tc .hbm S128x1024 .bf16 := arg0.slice (Rect.unit ox S128x1024.size hox) (fun _ => rfl)
  Prog.lift (.enqueueDma s0 (.here d0) (.dma b0.sem) (harg0.wordExact_slice rfl _ wox) (harg5.wordExact_slice rfl _ wox) ⟨Or.inl rfl, trivial⟩)
  let a1 : DmaSems sig S1x1 := arg10.slice (Rect.unit (s := S7x5) k1 S1x1.size hk1)
  let b1 : DmaSems sig S_ := a1.squeeze S_ squeezes_S1x1_S_
  let d1 : Memref sig .tc .vmem S128x1024 .bf16 := arg5.slice (Rect.unit oX S128x1024.size hoX) (fun _ => rfl)
  let s1 : Memref sig .tc .hbm S128x1024 .bf16 := arg0.slice (Rect.unit oX S128x1024.size hoX) (fun _ => rfl)
  Prog.lift (.enqueueDma s1 (.here d1) (.dma b1.sem) (harg0.wordExact_slice rfl _ woX) (harg5.wordExact_slice rfl _ woX) ⟨Or.inl rfl, trivial⟩)
  let a2 : DmaSems sig S1x1 := arg10.slice (Rect.unit (s := S7x5) k2 S1x1.size hk2)
  let b2 : DmaSems sig S_ := a2.squeeze S_ squeezes_S1x1_S_
  let d2 : Memref sig .tc .vmem S64x3840 .fp8e4m3 := arg7.slice (Rect.unit os S64x3840.size hos) (fun _ => rfl)
  let s2 : Memref sig .tc .hbm S64x3840 .fp8e4m3 := arg2.slice (Rect.unit os S64x3840.size hos) (fun _ => rfl)
  Prog.lift (.enqueueDma s2 (.here d2) (.dma b2.sem) (harg2.wordExact_slice rfl _ wos) (harg7.wordExact_slice rfl _ wos) ⟨Or.inl rfl, trivial⟩)
  let a3 : DmaSems sig S1x1 := arg10.slice (Rect.unit (s := S7x5) k3 S1x1.size hk3)
  let b3 : DmaSems sig S_ := a3.squeeze S_ squeezes_S1x1_S_
  let d3 : Memref sig .tc .vmem S64x3840 .fp8e4m3 := arg7.slice (Rect.unit oS S64x3840.size hoS) (fun _ => rfl)
  let s3 : Memref sig .tc .hbm S64x3840 .fp8e4m3 := arg2.slice (Rect.unit oS S64x3840.size hoS) (fun _ => rfl)
  Prog.lift (.enqueueDma s3 (.here d3) (.dma b3.sem) (harg2.wordExact_slice rfl _ woS) (harg7.wordExact_slice rfl _ woS) ⟨Or.inl rfl, trivial⟩)
  let a4 : DmaSems sig S1x1 := arg10.slice (Rect.unit (s := S7x5) k4 S1x1.size hk4)
  let b4 : DmaSems sig S_ := a4.squeeze S_ squeezes_S1x1_S_
  let d4 : Memref sig .tc .vmem S1024x3840 .i8 := arg6.slice (Rect.unit ow S1024x3840.size how) (fun _ => rfl)
  let s4 : Memref sig .tc .hbm S1024x3840 .i8 := arg1.slice (Rect.unit ow S1024x3840.size how) (fun _ => rfl)
  Prog.lift (.enqueueDma s4 (.here d4) (.dma b4.sem) (harg1.wordExact_slice rfl _ wow) (harg6.wordExact_slice rfl _ wow) ⟨Or.inl rfl, trivial⟩)

/-- Start the five copies of the last group. -/
def fetchT (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg11 : DmaSems sig S5)
    (k0 : Fin 1 → Nat) (hk0 : ∀ a, k0 a + S1.size a ≤ S5.size a)
    (k1 : Fin 1 → Nat) (hk1 : ∀ a, k1 a + S1.size a ≤ S5.size a)
    (k2 : Fin 1 → Nat) (hk2 : ∀ a, k2 a + S1.size a ≤ S5.size a)
    (k3 : Fin 1 → Nat) (hk3 : ∀ a, k3 a + S1.size a ≤ S5.size a)
    (k4 : Fin 1 → Nat) (hk4 : ∀ a, k4 a + S1.size a ≤ S5.size a)
    (ox : Fin 2 → Nat) (hox : ∀ a, ox a + S128x384.size a ≤ S128x15104.size a) (wox : (Rect.unit (s := S128x15104) ox S128x384.size hox).WholeWords (EltTy.packing .bf16))
    (oX : Fin 2 → Nat) (hoX : ∀ a, oX a + S128x384.size a ≤ S128x15104.size a) (woX : (Rect.unit (s := S128x15104) oX S128x384.size hoX).WholeWords (EltTy.packing .bf16))
    (os : Fin 2 → Nat) (hos : ∀ a, os a + S24x3840.size a ≤ S944x3840.size a) (wos : (Rect.unit (s := S944x3840) os S24x3840.size hos).WholeWords (EltTy.packing .fp8e4m3))
    (oS : Fin 2 → Nat) (hoS : ∀ a, oS a + S24x3840.size a ≤ S944x3840.size a) (woS : (Rect.unit (s := S944x3840) oS S24x3840.size hoS).WholeWords (EltTy.packing .fp8e4m3))
    (ow : Fin 2 → Nat) (how : ∀ a, ow a + S384x3840.size a ≤ S7552x3840.size a) (wow : (Rect.unit (s := S7552x3840) ow S384x3840.size how).WholeWords (EltTy.packing .i8)) : Prog (TpuEff nD τ sig (Elt F) Λ₀ .tc) PUnit := do
  let a0 : DmaSems sig S1 := arg11.slice (Rect.unit (s := S5) k0 S1.size hk0)
  let b0 : DmaSems sig S_ := a0.squeeze S_ squeezes_S1_S_
  let d0 : Memref sig .tc .vmem S128x384 .bf16 := arg5.slice (Rect.unit ox S128x384.size hox) (fun _ => rfl)
  let s0 : Memref sig .tc .hbm S128x384 .bf16 := arg0.slice (Rect.unit ox S128x384.size hox) (fun _ => rfl)
  Prog.lift (.enqueueDma s0 (.here d0) (.dma b0.sem) (harg0.wordExact_slice rfl _ wox) (harg5.wordExact_slice rfl _ wox) ⟨Or.inl rfl, trivial⟩)
  let a1 : DmaSems sig S1 := arg11.slice (Rect.unit (s := S5) k1 S1.size hk1)
  let b1 : DmaSems sig S_ := a1.squeeze S_ squeezes_S1_S_
  let d1 : Memref sig .tc .vmem S128x384 .bf16 := arg5.slice (Rect.unit oX S128x384.size hoX) (fun _ => rfl)
  let s1 : Memref sig .tc .hbm S128x384 .bf16 := arg0.slice (Rect.unit oX S128x384.size hoX) (fun _ => rfl)
  Prog.lift (.enqueueDma s1 (.here d1) (.dma b1.sem) (harg0.wordExact_slice rfl _ woX) (harg5.wordExact_slice rfl _ woX) ⟨Or.inl rfl, trivial⟩)
  let a2 : DmaSems sig S1 := arg11.slice (Rect.unit (s := S5) k2 S1.size hk2)
  let b2 : DmaSems sig S_ := a2.squeeze S_ squeezes_S1_S_
  let d2 : Memref sig .tc .vmem S24x3840 .fp8e4m3 := arg7.slice (Rect.unit os S24x3840.size hos) (fun _ => rfl)
  let s2 : Memref sig .tc .hbm S24x3840 .fp8e4m3 := arg2.slice (Rect.unit os S24x3840.size hos) (fun _ => rfl)
  Prog.lift (.enqueueDma s2 (.here d2) (.dma b2.sem) (harg2.wordExact_slice rfl _ wos) (harg7.wordExact_slice rfl _ wos) ⟨Or.inl rfl, trivial⟩)
  let a3 : DmaSems sig S1 := arg11.slice (Rect.unit (s := S5) k3 S1.size hk3)
  let b3 : DmaSems sig S_ := a3.squeeze S_ squeezes_S1_S_
  let d3 : Memref sig .tc .vmem S24x3840 .fp8e4m3 := arg7.slice (Rect.unit oS S24x3840.size hoS) (fun _ => rfl)
  let s3 : Memref sig .tc .hbm S24x3840 .fp8e4m3 := arg2.slice (Rect.unit oS S24x3840.size hoS) (fun _ => rfl)
  Prog.lift (.enqueueDma s3 (.here d3) (.dma b3.sem) (harg2.wordExact_slice rfl _ woS) (harg7.wordExact_slice rfl _ woS) ⟨Or.inl rfl, trivial⟩)
  let a4 : DmaSems sig S1 := arg11.slice (Rect.unit (s := S5) k4 S1.size hk4)
  let b4 : DmaSems sig S_ := a4.squeeze S_ squeezes_S1_S_
  let d4 : Memref sig .tc .vmem S384x3840 .i8 := arg6.slice (Rect.unit ow S384x3840.size how) (fun _ => rfl)
  let s4 : Memref sig .tc .hbm S384x3840 .i8 := arg1.slice (Rect.unit ow S384x3840.size how) (fun _ => rfl)
  Prog.lift (.enqueueDma s4 (.here d4) (.dma b4.sem) (harg1.wordExact_slice rfl _ wow) (harg6.wordExact_slice rfl _ wow) ⟨Or.inl rfl, trivial⟩)

/-- Wait for the five copies of one of the seven full groups. -/
def awaitG (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg10 : DmaSems sig S7x5)
    (k0 : Fin 2 → Nat) (hk0 : ∀ a, k0 a + S1x1.size a ≤ S7x5.size a)
    (k1 : Fin 2 → Nat) (hk1 : ∀ a, k1 a + S1x1.size a ≤ S7x5.size a)
    (k2 : Fin 2 → Nat) (hk2 : ∀ a, k2 a + S1x1.size a ≤ S7x5.size a)
    (k3 : Fin 2 → Nat) (hk3 : ∀ a, k3 a + S1x1.size a ≤ S7x5.size a)
    (k4 : Fin 2 → Nat) (hk4 : ∀ a, k4 a + S1x1.size a ≤ S7x5.size a)
    (ox : Fin 2 → Nat) (hox : ∀ a, ox a + S128x1024.size a ≤ S128x15104.size a) (wox : (Rect.unit (s := S128x15104) ox S128x1024.size hox).WholeWords (EltTy.packing .bf16))
    (oX : Fin 2 → Nat) (hoX : ∀ a, oX a + S128x1024.size a ≤ S128x15104.size a) (woX : (Rect.unit (s := S128x15104) oX S128x1024.size hoX).WholeWords (EltTy.packing .bf16))
    (os : Fin 2 → Nat) (hos : ∀ a, os a + S64x3840.size a ≤ S944x3840.size a) (wos : (Rect.unit (s := S944x3840) os S64x3840.size hos).WholeWords (EltTy.packing .fp8e4m3))
    (oS : Fin 2 → Nat) (hoS : ∀ a, oS a + S64x3840.size a ≤ S944x3840.size a) (woS : (Rect.unit (s := S944x3840) oS S64x3840.size hoS).WholeWords (EltTy.packing .fp8e4m3))
    (ow : Fin 2 → Nat) (how : ∀ a, ow a + S1024x3840.size a ≤ S7552x3840.size a) (wow : (Rect.unit (s := S7552x3840) ow S1024x3840.size how).WholeWords (EltTy.packing .i8)) : Prog (TpuEff nD τ sig (Elt F) Λ₀ .tc) PUnit := do
  let a0 : DmaSems sig S1x1 := arg10.slice (Rect.unit (s := S7x5) k0 S1x1.size hk0)
  let b0 : DmaSems sig S_ := a0.squeeze S_ squeezes_S1x1_S_
  let d0 : Memref sig .tc .vmem S128x1024 .bf16 := arg5.slice (Rect.unit ox S128x1024.size hox) (fun _ => rfl)
  let s0 : Memref sig .tc .hbm S128x1024 .bf16 := arg0.slice (Rect.unit ox S128x1024.size hox) (fun _ => rfl)
  Prog.lift (.waitDma2 b0.sem s0 d0 (harg0.wordExact_slice rfl _ wox) (harg5.wordExact_slice rfl _ wox))
  let a1 : DmaSems sig S1x1 := arg10.slice (Rect.unit (s := S7x5) k1 S1x1.size hk1)
  let b1 : DmaSems sig S_ := a1.squeeze S_ squeezes_S1x1_S_
  let d1 : Memref sig .tc .vmem S128x1024 .bf16 := arg5.slice (Rect.unit oX S128x1024.size hoX) (fun _ => rfl)
  let s1 : Memref sig .tc .hbm S128x1024 .bf16 := arg0.slice (Rect.unit oX S128x1024.size hoX) (fun _ => rfl)
  Prog.lift (.waitDma2 b1.sem s1 d1 (harg0.wordExact_slice rfl _ woX) (harg5.wordExact_slice rfl _ woX))
  let a2 : DmaSems sig S1x1 := arg10.slice (Rect.unit (s := S7x5) k2 S1x1.size hk2)
  let b2 : DmaSems sig S_ := a2.squeeze S_ squeezes_S1x1_S_
  let d2 : Memref sig .tc .vmem S64x3840 .fp8e4m3 := arg7.slice (Rect.unit os S64x3840.size hos) (fun _ => rfl)
  let s2 : Memref sig .tc .hbm S64x3840 .fp8e4m3 := arg2.slice (Rect.unit os S64x3840.size hos) (fun _ => rfl)
  Prog.lift (.waitDma2 b2.sem s2 d2 (harg2.wordExact_slice rfl _ wos) (harg7.wordExact_slice rfl _ wos))
  let a3 : DmaSems sig S1x1 := arg10.slice (Rect.unit (s := S7x5) k3 S1x1.size hk3)
  let b3 : DmaSems sig S_ := a3.squeeze S_ squeezes_S1x1_S_
  let d3 : Memref sig .tc .vmem S64x3840 .fp8e4m3 := arg7.slice (Rect.unit oS S64x3840.size hoS) (fun _ => rfl)
  let s3 : Memref sig .tc .hbm S64x3840 .fp8e4m3 := arg2.slice (Rect.unit oS S64x3840.size hoS) (fun _ => rfl)
  Prog.lift (.waitDma2 b3.sem s3 d3 (harg2.wordExact_slice rfl _ woS) (harg7.wordExact_slice rfl _ woS))
  let a4 : DmaSems sig S1x1 := arg10.slice (Rect.unit (s := S7x5) k4 S1x1.size hk4)
  let b4 : DmaSems sig S_ := a4.squeeze S_ squeezes_S1x1_S_
  let d4 : Memref sig .tc .vmem S1024x3840 .i8 := arg6.slice (Rect.unit ow S1024x3840.size how) (fun _ => rfl)
  let s4 : Memref sig .tc .hbm S1024x3840 .i8 := arg1.slice (Rect.unit ow S1024x3840.size how) (fun _ => rfl)
  Prog.lift (.waitDma2 b4.sem s4 d4 (harg1.wordExact_slice rfl _ wow) (harg6.wordExact_slice rfl _ wow))

/-- Wait for the five copies of the last group. -/
def awaitT (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg11 : DmaSems sig S5)
    (k0 : Fin 1 → Nat) (hk0 : ∀ a, k0 a + S1.size a ≤ S5.size a)
    (k1 : Fin 1 → Nat) (hk1 : ∀ a, k1 a + S1.size a ≤ S5.size a)
    (k2 : Fin 1 → Nat) (hk2 : ∀ a, k2 a + S1.size a ≤ S5.size a)
    (k3 : Fin 1 → Nat) (hk3 : ∀ a, k3 a + S1.size a ≤ S5.size a)
    (k4 : Fin 1 → Nat) (hk4 : ∀ a, k4 a + S1.size a ≤ S5.size a)
    (ox : Fin 2 → Nat) (hox : ∀ a, ox a + S128x384.size a ≤ S128x15104.size a) (wox : (Rect.unit (s := S128x15104) ox S128x384.size hox).WholeWords (EltTy.packing .bf16))
    (oX : Fin 2 → Nat) (hoX : ∀ a, oX a + S128x384.size a ≤ S128x15104.size a) (woX : (Rect.unit (s := S128x15104) oX S128x384.size hoX).WholeWords (EltTy.packing .bf16))
    (os : Fin 2 → Nat) (hos : ∀ a, os a + S24x3840.size a ≤ S944x3840.size a) (wos : (Rect.unit (s := S944x3840) os S24x3840.size hos).WholeWords (EltTy.packing .fp8e4m3))
    (oS : Fin 2 → Nat) (hoS : ∀ a, oS a + S24x3840.size a ≤ S944x3840.size a) (woS : (Rect.unit (s := S944x3840) oS S24x3840.size hoS).WholeWords (EltTy.packing .fp8e4m3))
    (ow : Fin 2 → Nat) (how : ∀ a, ow a + S384x3840.size a ≤ S7552x3840.size a) (wow : (Rect.unit (s := S7552x3840) ow S384x3840.size how).WholeWords (EltTy.packing .i8)) : Prog (TpuEff nD τ sig (Elt F) Λ₀ .tc) PUnit := do
  let a0 : DmaSems sig S1 := arg11.slice (Rect.unit (s := S5) k0 S1.size hk0)
  let b0 : DmaSems sig S_ := a0.squeeze S_ squeezes_S1_S_
  let d0 : Memref sig .tc .vmem S128x384 .bf16 := arg5.slice (Rect.unit ox S128x384.size hox) (fun _ => rfl)
  let s0 : Memref sig .tc .hbm S128x384 .bf16 := arg0.slice (Rect.unit ox S128x384.size hox) (fun _ => rfl)
  Prog.lift (.waitDma2 b0.sem s0 d0 (harg0.wordExact_slice rfl _ wox) (harg5.wordExact_slice rfl _ wox))
  let a1 : DmaSems sig S1 := arg11.slice (Rect.unit (s := S5) k1 S1.size hk1)
  let b1 : DmaSems sig S_ := a1.squeeze S_ squeezes_S1_S_
  let d1 : Memref sig .tc .vmem S128x384 .bf16 := arg5.slice (Rect.unit oX S128x384.size hoX) (fun _ => rfl)
  let s1 : Memref sig .tc .hbm S128x384 .bf16 := arg0.slice (Rect.unit oX S128x384.size hoX) (fun _ => rfl)
  Prog.lift (.waitDma2 b1.sem s1 d1 (harg0.wordExact_slice rfl _ woX) (harg5.wordExact_slice rfl _ woX))
  let a2 : DmaSems sig S1 := arg11.slice (Rect.unit (s := S5) k2 S1.size hk2)
  let b2 : DmaSems sig S_ := a2.squeeze S_ squeezes_S1_S_
  let d2 : Memref sig .tc .vmem S24x3840 .fp8e4m3 := arg7.slice (Rect.unit os S24x3840.size hos) (fun _ => rfl)
  let s2 : Memref sig .tc .hbm S24x3840 .fp8e4m3 := arg2.slice (Rect.unit os S24x3840.size hos) (fun _ => rfl)
  Prog.lift (.waitDma2 b2.sem s2 d2 (harg2.wordExact_slice rfl _ wos) (harg7.wordExact_slice rfl _ wos))
  let a3 : DmaSems sig S1 := arg11.slice (Rect.unit (s := S5) k3 S1.size hk3)
  let b3 : DmaSems sig S_ := a3.squeeze S_ squeezes_S1_S_
  let d3 : Memref sig .tc .vmem S24x3840 .fp8e4m3 := arg7.slice (Rect.unit oS S24x3840.size hoS) (fun _ => rfl)
  let s3 : Memref sig .tc .hbm S24x3840 .fp8e4m3 := arg2.slice (Rect.unit oS S24x3840.size hoS) (fun _ => rfl)
  Prog.lift (.waitDma2 b3.sem s3 d3 (harg2.wordExact_slice rfl _ woS) (harg7.wordExact_slice rfl _ woS))
  let a4 : DmaSems sig S1 := arg11.slice (Rect.unit (s := S5) k4 S1.size hk4)
  let b4 : DmaSems sig S_ := a4.squeeze S_ squeezes_S1_S_
  let d4 : Memref sig .tc .vmem S384x3840 .i8 := arg6.slice (Rect.unit ow S384x3840.size how) (fun _ => rfl)
  let s4 : Memref sig .tc .hbm S384x3840 .i8 := arg1.slice (Rect.unit ow S384x3840.size how) (fun _ => rfl)
  Prog.lift (.waitDma2 b4.sem s4 d4 (harg1.wordExact_slice rfl _ wow) (harg6.wordExact_slice rfl _ wow))

/-- The fifteen passes of one chunk. -/
def blk (arg6 : Memref sig .tc .vmem S7552x3840 .i8) (arg7 : Memref sig .tc .vmem S944x3840 .fp8e4m3) (arg8 : Memref sig .tc .vmem S59x2x128x128 .bf16) (m0 : Mxu F) (k : Fin k0_t1_loop.trips) (jb : BitVec 32) (j : Fin 8) (hj : jb = BitVec.ofNat 32 j.val) (q : Fin 2) : Prog (TpuEff nD τ sig (Elt F) Λ₀ .tc) (Mxu F) := do
  let m1 : Mxu F ← unit arg6 arg7 arg8 m0 0 0 fits_0_128 (k0_off13 k jb) (by rw [hj]; exact k0_off13_inb k j) (k0_off14 k 0#32 jb) (by rw [hj]; exact k0_off14_inb k 0 j) (k0_off14 k 472#32 jb) (by rw [hj]; exact k0_off14_inb k 1 j) (k0_off11 k jb) (by rw [hj]; exact k0_off11_inb k j) (k0_off12 k jb) (by rw [hj]; exact k0_off12_inb k j)
  let m2 : Mxu F ← unit arg6 arg7 arg8 m1 1 0 fits_0_128 (k0_off15 k jb) (by rw [hj]; exact k0_off15_inb k j) (k0_off16 k 0#32 jb) (by rw [hj]; exact k0_off16_inb k 0 j) (k0_off16 k 472#32 jb) (by rw [hj]; exact k0_off16_inb k 1 j) (k0_off11 k jb) (by rw [hj]; exact k0_off11_inb k j) (k0_off12 k jb) (by rw [hj]; exact k0_off12_inb k j)
  let m3 : Mxu F ← unit arg6 arg7 arg8 m2 0 32 fits_32_128 (k0_off17 k jb) (by rw [hj]; exact k0_off17_inb k j) (k0_off18 k 0#32 jb) (by rw [hj]; exact k0_off18_inb k 0 j) (k0_off18 k 472#32 jb) (by rw [hj]; exact k0_off18_inb k 1 j) (k0_off11 k jb) (by rw [hj]; exact k0_off11_inb k j) (k0_off12 k jb) (by rw [hj]; exact k0_off12_inb k j)
  let m4 : Mxu F ← unit arg6 arg7 arg8 m3 1 32 fits_32_128 (k0_off19 k jb) (by rw [hj]; exact k0_off19_inb k j) (k0_off20 k 0#32 jb) (by rw [hj]; exact k0_off20_inb k 0 j) (k0_off20 k 472#32 jb) (by rw [hj]; exact k0_off20_inb k 1 j) (k0_off11 k jb) (by rw [hj]; exact k0_off11_inb k j) (k0_off12 k jb) (by rw [hj]; exact k0_off12_inb k j)
  let m5 : Mxu F ← unit arg6 arg7 arg8 m4 0 64 fits_64_128 (k0_off21 k jb) (by rw [hj]; exact k0_off21_inb k j) (k0_off22 k 0#32 jb) (by rw [hj]; exact k0_off22_inb k 0 j) (k0_off22 k 472#32 jb) (by rw [hj]; exact k0_off22_inb k 1 j) (k0_off11 k jb) (by rw [hj]; exact k0_off11_inb k j) (k0_off12 k jb) (by rw [hj]; exact k0_off12_inb k j)
  let m6 : Mxu F ← unit arg6 arg7 arg8 m5 1 64 fits_64_128 (k0_off23 k jb) (by rw [hj]; exact k0_off23_inb k j) (k0_off24 k 0#32 jb) (by rw [hj]; exact k0_off24_inb k 0 j) (k0_off24 k 472#32 jb) (by rw [hj]; exact k0_off24_inb k 1 j) (k0_off11 k jb) (by rw [hj]; exact k0_off11_inb k j) (k0_off12 k jb) (by rw [hj]; exact k0_off12_inb k j)
  let m7 : Mxu F ← unit arg6 arg7 arg8 m6 0 96 fits_96_128 (k0_off25 k jb) (by rw [hj]; exact k0_off25_inb k j) (k0_off26 k 0#32 jb) (by rw [hj]; exact k0_off26_inb k 0 j) (k0_off26 k 472#32 jb) (by rw [hj]; exact k0_off26_inb k 1 j) (k0_off11 k jb) (by rw [hj]; exact k0_off11_inb k j) (k0_off12 k jb) (by rw [hj]; exact k0_off12_inb k j)
  let m8 : Mxu F ← unit arg6 arg7 arg8 m7 1 96 fits_96_128 (k0_off27 k jb) (by rw [hj]; exact k0_off27_inb k j) (k0_off28 k 0#32 jb) (by rw [hj]; exact k0_off28_inb k 0 j) (k0_off28 k 472#32 jb) (by rw [hj]; exact k0_off28_inb k 1 j) (k0_off11 k jb) (by rw [hj]; exact k0_off11_inb k j) (k0_off12 k jb) (by rw [hj]; exact k0_off12_inb k j)
  let m9 : Mxu F ← unit arg6 arg7 arg8 m8 0 128 fits_128_128 (k0_off29 k jb) (by rw [hj]; exact k0_off29_inb k j) (k0_off30 k 0#32 jb) (by rw [hj]; exact k0_off30_inb k 0 j) (k0_off30 k 472#32 jb) (by rw [hj]; exact k0_off30_inb k 1 j) (k0_off11 k jb) (by rw [hj]; exact k0_off11_inb k j) (k0_off12 k jb) (by rw [hj]; exact k0_off12_inb k j)
  let m10 : Mxu F ← unit arg6 arg7 arg8 m9 1 128 fits_128_128 (k0_off31 k jb) (by rw [hj]; exact k0_off31_inb k j) (k0_off32 k 0#32 jb) (by rw [hj]; exact k0_off32_inb k 0 j) (k0_off32 k 472#32 jb) (by rw [hj]; exact k0_off32_inb k 1 j) (k0_off11 k jb) (by rw [hj]; exact k0_off11_inb k j) (k0_off12 k jb) (by rw [hj]; exact k0_off12_inb k j)
  let m11 : Mxu F ← unit arg6 arg7 arg8 m10 0 160 fits_160_128 (k0_off33 k jb) (by rw [hj]; exact k0_off33_inb k j) (k0_off34 k 0#32 jb) (by rw [hj]; exact k0_off34_inb k 0 j) (k0_off34 k 472#32 jb) (by rw [hj]; exact k0_off34_inb k 1 j) (k0_off11 k jb) (by rw [hj]; exact k0_off11_inb k j) (k0_off12 k jb) (by rw [hj]; exact k0_off12_inb k j)
  let m12 : Mxu F ← unit arg6 arg7 arg8 m11 1 160 fits_160_128 (k0_off35 k jb) (by rw [hj]; exact k0_off35_inb k j) (k0_off36 k 0#32 jb) (by rw [hj]; exact k0_off36_inb k 0 j) (k0_off36 k 472#32 jb) (by rw [hj]; exact k0_off36_inb k 1 j) (k0_off11 k jb) (by rw [hj]; exact k0_off11_inb k j) (k0_off12 k jb) (by rw [hj]; exact k0_off12_inb k j)
  let m13 : Mxu F ← unit arg6 arg7 arg8 m12 0 192 fits_192_128 (k0_off37 k jb) (by rw [hj]; exact k0_off37_inb k j) (k0_off38 k 0#32 jb) (by rw [hj]; exact k0_off38_inb k 0 j) (k0_off38 k 472#32 jb) (by rw [hj]; exact k0_off38_inb k 1 j) (k0_off11 k jb) (by rw [hj]; exact k0_off11_inb k j) (k0_off12 k jb) (by rw [hj]; exact k0_off12_inb k j)
  let m14 : Mxu F ← unit arg6 arg7 arg8 m13 1 192 fits_192_128 (k0_off39 k jb) (by rw [hj]; exact k0_off39_inb k j) (k0_off40 k 0#32 jb) (by rw [hj]; exact k0_off40_inb k 0 j) (k0_off40 k 472#32 jb) (by rw [hj]; exact k0_off40_inb k 1 j) (k0_off11 k jb) (by rw [hj]; exact k0_off11_inb k j) (k0_off12 k jb) (by rw [hj]; exact k0_off12_inb k j)
  let m15 : Mxu F ← unit arg6 arg7 arg8 m14 q 224 fits_224_128 (k0_off41 k jb) (by rw [hj]; exact k0_off41_inb k j) (k0_off42 k 0#32 jb) (by rw [hj]; exact k0_off42_inb k 0 j) (k0_off42 k 472#32 jb) (by rw [hj]; exact k0_off42_inb k 1 j) (k0_off11 k jb) (by rw [hj]; exact k0_off11_inb k j) (k0_off12 k jb) (by rw [hj]; exact k0_off12_inb k j)
  pure m15

/-- Interleave chunk `j` of trip `k`. -/
def il (arg5 : Memref sig .tc .vmem S128x15104 .bf16) (arg8 : Memref sig .tc .vmem S59x2x128x128 .bf16) (harg8 : arg8.IsWhole) (k : Fin k0_t1_loop.trips) (jb : BitVec 32) (j : Fin 8) (hj : jb = BitVec.ofNat 32 j.val) : Prog (TpuEff nD τ sig (Elt F) Λ₀ .tc) PUnit :=
  ileave (F := F) arg5 arg8 harg8 (k0_off9 k jb) (by rw [hj]; exact k0_off9_inb k j) (k0_off10 k jb) (by rw [hj]; exact k0_off10_inb k j) (k0_off11 k jb) (by rw [hj]; exact k0_off11_inb k j) (by subst hj; exact k0_off11_packedbf16 k j) (k0_off12 k jb) (by rw [hj]; exact k0_off12_inb k j) (by subst hj; exact k0_off12_packedbf16 k j)

/-- One trip of the loop: a group of eight chunks. -/
def trip (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg8 : Memref sig .tc .vmem S59x2x128x128 .bf16) (harg8 : arg8.IsWhole) (arg10 : DmaSems sig S7x5) (k : Fin k0_t1_loop.trips) (m0 : Mxu F) : Prog (TpuEff nD τ sig (Elt F) Λ₀ .tc) (Mxu F) := do
  awaitG (F := F) arg0 harg0 arg1 harg1 arg2 harg2 arg5 harg5 arg6 harg6 arg7 harg7 arg10 (k0_off1 k) (k0_off1_inb k) (k0_off3 k) (k0_off3_inb k) (k0_off4 k) (k0_off4_inb k) (k0_off6 k) (k0_off6_inb k) (k0_off7 k) (k0_off7_inb k) (k0_off2 k 0#32) (k0_off2_inb k 0) (k0_off2_wordsbf16 k 0) (k0_off2 k 7552#32) (k0_off2_inb k 1) (k0_off2_wordsbf16 k 1) (k0_off5 k 0#32) (k0_off5_inb k 0) (k0_off5_wordsfp8e4m3 k 0) (k0_off5 k 472#32) (k0_off5_inb k 1) (k0_off5_wordsfp8e4m3 k 1) (k0_off8 k) (k0_off8_inb k) (k0_off8_wordsi8 k)
  il (F := F) arg5 arg8 harg8 k 0#32 0 rfl
  il (F := F) arg5 arg8 harg8 k 1#32 1 rfl
  il (F := F) arg5 arg8 harg8 k 2#32 2 rfl
  il (F := F) arg5 arg8 harg8 k 3#32 3 rfl
  il (F := F) arg5 arg8 harg8 k 4#32 4 rfl
  il (F := F) arg5 arg8 harg8 k 5#32 5 rfl
  il (F := F) arg5 arg8 harg8 k 6#32 6 rfl
  il (F := F) arg5 arg8 harg8 k 7#32 7 rfl
  let m1 : Mxu F ← blk arg6 arg7 arg8 m0 k 0#32 0 rfl 0
  let m2 : Mxu F ← blk arg6 arg7 arg8 m1 k 1#32 1 rfl 1
  let m3 : Mxu F ← blk arg6 arg7 arg8 m2 k 2#32 2 rfl 0
  let m4 : Mxu F ← blk arg6 arg7 arg8 m3 k 3#32 3 rfl 1
  let m5 : Mxu F ← blk arg6 arg7 arg8 m4 k 4#32 4 rfl 0
  let m6 : Mxu F ← blk arg6 arg7 arg8 m5 k 5#32 5 rfl 1
  let m7 : Mxu F ← blk arg6 arg7 arg8 m6 k 6#32 6 rfl 0
  let m8 : Mxu F ← blk arg6 arg7 arg8 m7 k 7#32 7 rfl 1
  pure m8

/-- Start every copy. -/
def startAll (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg10 : DmaSems sig S7x5) (arg11 : DmaSems sig S5) : Prog (TpuEff nD τ sig (Elt F) Λ₀ .tc) PUnit := do
  fetchG (F := F) arg0 harg0 arg1 harg1 arg2 harg2 arg5 harg5 arg6 harg6 arg7 harg7 arg10 ![0, 0] inb_S7x5_S1x1_0_0 ![0, 1] inb_S7x5_S1x1_0_1 ![0, 2] inb_S7x5_S1x1_0_2 ![0, 3] inb_S7x5_S1x1_0_3 ![0, 4] inb_S7x5_S1x1_0_4 ![0, 0] inb_S128x15104_S128x1024_0_0 wordsbf16_S128x15104_S128x1024_0_0 ![0, 7552] inb_S128x15104_S128x1024_0_7552 wordsbf16_S128x15104_S128x1024_0_7552 ![0, 0] inb_S944x3840_S64x3840_0_0 wordsfp8e4m3_S944x3840_S64x3840_0_0 ![472, 0] inb_S944x3840_S64x3840_472_0 wordsfp8e4m3_S944x3840_S64x3840_472_0 ![0, 0] inb_S7552x3840_S1024x3840_0_0 wordsi8_S7552x3840_S1024x3840_0_0
  fetchG (F := F) arg0 harg0 arg1 harg1 arg2 harg2 arg5 harg5 arg6 harg6 arg7 harg7 arg10 ![1, 0] inb_S7x5_S1x1_1_0 ![1, 1] inb_S7x5_S1x1_1_1 ![1, 2] inb_S7x5_S1x1_1_2 ![1, 3] inb_S7x5_S1x1_1_3 ![1, 4] inb_S7x5_S1x1_1_4 ![0, 1024] inb_S128x15104_S128x1024_0_1024 wordsbf16_S128x15104_S128x1024_0_1024 ![0, 8576] inb_S128x15104_S128x1024_0_8576 wordsbf16_S128x15104_S128x1024_0_8576 ![64, 0] inb_S944x3840_S64x3840_64_0 wordsfp8e4m3_S944x3840_S64x3840_64_0 ![536, 0] inb_S944x3840_S64x3840_536_0 wordsfp8e4m3_S944x3840_S64x3840_536_0 ![1024, 0] inb_S7552x3840_S1024x3840_1024_0 wordsi8_S7552x3840_S1024x3840_1024_0
  fetchG (F := F) arg0 harg0 arg1 harg1 arg2 harg2 arg5 harg5 arg6 harg6 arg7 harg7 arg10 ![2, 0] inb_S7x5_S1x1_2_0 ![2, 1] inb_S7x5_S1x1_2_1 ![2, 2] inb_S7x5_S1x1_2_2 ![2, 3] inb_S7x5_S1x1_2_3 ![2, 4] inb_S7x5_S1x1_2_4 ![0, 2048] inb_S128x15104_S128x1024_0_2048 wordsbf16_S128x15104_S128x1024_0_2048 ![0, 9600] inb_S128x15104_S128x1024_0_9600 wordsbf16_S128x15104_S128x1024_0_9600 ![128, 0] inb_S944x3840_S64x3840_128_0 wordsfp8e4m3_S944x3840_S64x3840_128_0 ![600, 0] inb_S944x3840_S64x3840_600_0 wordsfp8e4m3_S944x3840_S64x3840_600_0 ![2048, 0] inb_S7552x3840_S1024x3840_2048_0 wordsi8_S7552x3840_S1024x3840_2048_0
  fetchG (F := F) arg0 harg0 arg1 harg1 arg2 harg2 arg5 harg5 arg6 harg6 arg7 harg7 arg10 ![3, 0] inb_S7x5_S1x1_3_0 ![3, 1] inb_S7x5_S1x1_3_1 ![3, 2] inb_S7x5_S1x1_3_2 ![3, 3] inb_S7x5_S1x1_3_3 ![3, 4] inb_S7x5_S1x1_3_4 ![0, 3072] inb_S128x15104_S128x1024_0_3072 wordsbf16_S128x15104_S128x1024_0_3072 ![0, 10624] inb_S128x15104_S128x1024_0_10624 wordsbf16_S128x15104_S128x1024_0_10624 ![192, 0] inb_S944x3840_S64x3840_192_0 wordsfp8e4m3_S944x3840_S64x3840_192_0 ![664, 0] inb_S944x3840_S64x3840_664_0 wordsfp8e4m3_S944x3840_S64x3840_664_0 ![3072, 0] inb_S7552x3840_S1024x3840_3072_0 wordsi8_S7552x3840_S1024x3840_3072_0
  fetchG (F := F) arg0 harg0 arg1 harg1 arg2 harg2 arg5 harg5 arg6 harg6 arg7 harg7 arg10 ![4, 0] inb_S7x5_S1x1_4_0 ![4, 1] inb_S7x5_S1x1_4_1 ![4, 2] inb_S7x5_S1x1_4_2 ![4, 3] inb_S7x5_S1x1_4_3 ![4, 4] inb_S7x5_S1x1_4_4 ![0, 4096] inb_S128x15104_S128x1024_0_4096 wordsbf16_S128x15104_S128x1024_0_4096 ![0, 11648] inb_S128x15104_S128x1024_0_11648 wordsbf16_S128x15104_S128x1024_0_11648 ![256, 0] inb_S944x3840_S64x3840_256_0 wordsfp8e4m3_S944x3840_S64x3840_256_0 ![728, 0] inb_S944x3840_S64x3840_728_0 wordsfp8e4m3_S944x3840_S64x3840_728_0 ![4096, 0] inb_S7552x3840_S1024x3840_4096_0 wordsi8_S7552x3840_S1024x3840_4096_0
  fetchG (F := F) arg0 harg0 arg1 harg1 arg2 harg2 arg5 harg5 arg6 harg6 arg7 harg7 arg10 ![5, 0] inb_S7x5_S1x1_5_0 ![5, 1] inb_S7x5_S1x1_5_1 ![5, 2] inb_S7x5_S1x1_5_2 ![5, 3] inb_S7x5_S1x1_5_3 ![5, 4] inb_S7x5_S1x1_5_4 ![0, 5120] inb_S128x15104_S128x1024_0_5120 wordsbf16_S128x15104_S128x1024_0_5120 ![0, 12672] inb_S128x15104_S128x1024_0_12672 wordsbf16_S128x15104_S128x1024_0_12672 ![320, 0] inb_S944x3840_S64x3840_320_0 wordsfp8e4m3_S944x3840_S64x3840_320_0 ![792, 0] inb_S944x3840_S64x3840_792_0 wordsfp8e4m3_S944x3840_S64x3840_792_0 ![5120, 0] inb_S7552x3840_S1024x3840_5120_0 wordsi8_S7552x3840_S1024x3840_5120_0
  fetchG (F := F) arg0 harg0 arg1 harg1 arg2 harg2 arg5 harg5 arg6 harg6 arg7 harg7 arg10 ![6, 0] inb_S7x5_S1x1_6_0 ![6, 1] inb_S7x5_S1x1_6_1 ![6, 2] inb_S7x5_S1x1_6_2 ![6, 3] inb_S7x5_S1x1_6_3 ![6, 4] inb_S7x5_S1x1_6_4 ![0, 6144] inb_S128x15104_S128x1024_0_6144 wordsbf16_S128x15104_S128x1024_0_6144 ![0, 13696] inb_S128x15104_S128x1024_0_13696 wordsbf16_S128x15104_S128x1024_0_13696 ![384, 0] inb_S944x3840_S64x3840_384_0 wordsfp8e4m3_S944x3840_S64x3840_384_0 ![856, 0] inb_S944x3840_S64x3840_856_0 wordsfp8e4m3_S944x3840_S64x3840_856_0 ![6144, 0] inb_S7552x3840_S1024x3840_6144_0 wordsi8_S7552x3840_S1024x3840_6144_0
  fetchT (F := F) arg0 harg0 arg1 harg1 arg2 harg2 arg5 harg5 arg6 harg6 arg7 harg7 arg11 ![0] inb_S5_S1_0 ![1] inb_S5_S1_1 ![2] inb_S5_S1_2 ![3] inb_S5_S1_3 ![4] inb_S5_S1_4 ![0, 7168] inb_S128x15104_S128x384_0_7168 wordsbf16_S128x15104_S128x384_0_7168 ![0, 14720] inb_S128x15104_S128x384_0_14720 wordsbf16_S128x15104_S128x384_0_14720 ![448, 0] inb_S944x3840_S24x3840_448_0 wordsfp8e4m3_S944x3840_S24x3840_448_0 ![920, 0] inb_S944x3840_S24x3840_920_0 wordsfp8e4m3_S944x3840_S24x3840_920_0 ![7168, 0] inb_S7552x3840_S384x3840_7168_0 wordsi8_S7552x3840_S384x3840_7168_0

/-- Every accumulator cleared by a read that pops it. -/
def cleared : Mxu F :=
  let m0 : Mxu F := Mxu.init
  let m1 : Mxu F := m0.pop 0 0 128 fits_0_128
  let m2 : Mxu F := m1.pop 0 32 128 fits_32_128
  let m3 : Mxu F := m2.pop 0 64 128 fits_64_128
  let m4 : Mxu F := m3.pop 0 96 128 fits_96_128
  let m5 : Mxu F := m4.pop 0 128 128 fits_128_128
  let m6 : Mxu F := m5.pop 0 160 128 fits_160_128
  let m7 : Mxu F := m6.pop 0 192 128 fits_192_128
  let m8 : Mxu F := m7.pop 0 224 128 fits_224_128
  let m9 : Mxu F := m8.pop 1 0 128 fits_0_128
  let m10 : Mxu F := m9.pop 1 32 128 fits_32_128
  let m11 : Mxu F := m10.pop 1 64 128 fits_64_128
  let m12 : Mxu F := m11.pop 1 96 128 fits_96_128
  let m13 : Mxu F := m12.pop 1 128 128 fits_128_128
  let m14 : Mxu F := m13.pop 1 160 128 fits_160_128
  let m15 : Mxu F := m14.pop 1 192 128 fits_192_128
  let m16 : Mxu F := m15.pop 1 224 128 fits_224_128
  m16

/-- The last group: its copies awaited and its chunks interleaved. -/
def tailPrep (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole)
    (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg8 : Memref sig .tc .vmem S59x2x128x128 .bf16) (harg8 : arg8.IsWhole) (arg11 : DmaSems sig S5) : Prog (TpuEff nD τ sig (Elt F) Λ₀ .tc) PUnit := do
  awaitT (F := F) arg0 harg0 arg1 harg1 arg2 harg2 arg5 harg5 arg6 harg6 arg7 harg7 arg11 ![0] inb_S5_S1_0 ![1] inb_S5_S1_1 ![2] inb_S5_S1_2 ![3] inb_S5_S1_3 ![4] inb_S5_S1_4 ![0, 7168] inb_S128x15104_S128x384_0_7168 wordsbf16_S128x15104_S128x384_0_7168 ![0, 14720] inb_S128x15104_S128x384_0_14720 wordsbf16_S128x15104_S128x384_0_14720 ![448, 0] inb_S944x3840_S24x3840_448_0 wordsfp8e4m3_S944x3840_S24x3840_448_0 ![920, 0] inb_S944x3840_S24x3840_920_0 wordsfp8e4m3_S944x3840_S24x3840_920_0 ![7168, 0] inb_S7552x3840_S384x3840_7168_0 wordsi8_S7552x3840_S384x3840_7168_0
  ileave (F := F) arg5 arg8 harg8 ![0, 7168] inb_S128x15104_S128x128_0_7168 ![0, 14720] inb_S128x15104_S128x128_0_14720 ![56, 0, 0, 0] inb_S59x2x128x128_S1x1x128x128_56_0_0_0 packedbf16_S59x2x128x128_S1x1x128x128_56_0_0_0 ![56, 1, 0, 0] inb_S59x2x128x128_S1x1x128x128_56_1_0_0 packedbf16_S59x2x128x128_S1x1x128x128_56_1_0_0
  ileave (F := F) arg5 arg8 harg8 ![0, 7296] inb_S128x15104_S128x128_0_7296 ![0, 14848] inb_S128x15104_S128x128_0_14848 ![57, 0, 0, 0] inb_S59x2x128x128_S1x1x128x128_57_0_0_0 packedbf16_S59x2x128x128_S1x1x128x128_57_0_0_0 ![57, 1, 0, 0] inb_S59x2x128x128_S1x1x128x128_57_1_0_0 packedbf16_S59x2x128x128_S1x1x128x128_57_1_0_0
  ileave (F := F) arg5 arg8 harg8 ![0, 7424] inb_S128x15104_S128x128_0_7424 ![0, 14976] inb_S128x15104_S128x128_0_14976 ![58, 0, 0, 0] inb_S59x2x128x128_S1x1x128x128_58_0_0_0 packedbf16_S59x2x128x128_S1x1x128x128_58_0_0_0 ![58, 1, 0, 0] inb_S59x2x128x128_S1x1x128x128_58_1_0_0 packedbf16_S59x2x128x128_S1x1x128x128_58_1_0_0

/-- The split tile: its last three passes, its two accumulators added, and its result finished. -/
def tailLast (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 224 fits_224_128 ![7168, 3584] inb_S7552x3840_S128x256_7168_3584 ![448, 3584] inb_S944x3840_S8x256_448_3584 ![920, 3584] inb_S944x3840_S8x256_920_3584 ![56, 0, 0, 0] inb_S59x2x128x128_S1x1x128x128_56_0_0_0 ![56, 1, 0, 0] inb_S59x2x128x128_S1x1x128x128_56_1_0_0
  let m2 : Mxu F ← unit arg6 arg7 arg8 m1 1 224 fits_224_128 ![7296, 3584] inb_S7552x3840_S128x256_7296_3584 ![456, 3584] inb_S944x3840_S8x256_456_3584 ![928, 3584] inb_S944x3840_S8x256_928_3584 ![57, 0, 0, 0] inb_S59x2x128x128_S1x1x128x128_57_0_0_0 ![57, 1, 0, 0] inb_S59x2x128x128_S1x1x128x128_57_1_0_0
  let m3 : Mxu F ← unit arg6 arg7 arg8 m2 0 224 fits_224_128 ![7424, 3584] inb_S7552x3840_S128x256_7424_3584 ![464, 3584] inb_S944x3840_S8x256_464_3584 ![936, 3584] inb_S944x3840_S8x256_936_3584 ![58, 0, 0, 0] inb_S59x2x128x128_S1x1x128x128_58_0_0_0 ![58, 1, 0, 0] inb_S59x2x128x128_S1x1x128x128_58_1_0_0
  let m4 : Mxu F := m3.pop 0 224 128 fits_224_128
  finish arg4 harg4 arg9 harg9 (addf (m3.read 0 224 fits_224_128) (m4.read 1 224 fits_224_128)) gain ![0, 3584] inb_S128x3840_S128x256_0_3584 packedbf16_S128x3840_S128x256_0_3584 wordsbf16_S128x3840_S128x256_0_3584 arg12 ![14] inb_S15_S1_14
  pure (m4.pop 1 224 128 fits_224_128)

/-- Pair 0 of result tiles: the last three chunks, and the two tiles finished. -/
def pair0 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 0 fits_0_128 ![7168, 0] inb_S7552x3840_S128x256_7168_0 ![448, 0] inb_S944x3840_S8x256_448_0 ![920, 0] inb_S944x3840_S8x256_920_0 ![56, 0, 0, 0] inb_S59x2x128x128_S1x1x128x128_56_0_0_0 ![56, 1, 0, 0] inb_S59x2x128x128_S1x1x128x128_56_1_0_0
  let m2 : Mxu F ← unit arg6 arg7 arg8 m1 1 0 fits_0_128 ![7168, 256] inb_S7552x3840_S128x256_7168_256 ![448, 256] inb_S944x3840_S8x256_448_256 ![920, 256] inb_S944x3840_S8x256_920_256 ![56, 0, 0, 0] inb_S59x2x128x128_S1x1x128x128_56_0_0_0 ![56, 1, 0, 0] inb_S59x2x128x128_S1x1x128x128_56_1_0_0
  let m3 : Mxu F ← unit arg6 arg7 arg8 m2 0 0 fits_0_128 ![7296, 0] inb_S7552x3840_S128x256_7296_0 ![456, 0] inb_S944x3840_S8x256_456_0 ![928, 0] inb_S944x3840_S8x256_928_0 ![57, 0, 0, 0] inb_S59x2x128x128_S1x1x128x128_57_0_0_0 ![57, 1, 0, 0] inb_S59x2x128x128_S1x1x128x128_57_1_0_0
  let m4 : Mxu F ← unit arg6 arg7 arg8 m3 1 0 fits_0_128 ![7296, 256] inb_S7552x3840_S128x256_7296_256 ![456, 256] inb_S944x3840_S8x256_456_256 ![928, 256] inb_S944x3840_S8x256_928_256 ![57, 0, 0, 0] inb_S59x2x128x128_S1x1x128x128_57_0_0_0 ![57, 1, 0, 0] inb_S59x2x128x128_S1x1x128x128_57_1_0_0
  let m5 : Mxu F ← unit arg6 arg7 arg8 m4 0 0 fits_0_128 ![7424, 0] inb_S7552x3840_S128x256_7424_0 ![464, 0] inb_S944x3840_S8x256_464_0 ![936, 0] inb_S944x3840_S8x256_936_0 ![58, 0, 0, 0] inb_S59x2x128x128_S1x1x128x128_58_0_0_0 ![58, 1, 0, 0] inb_S59x2x128x128_S1x1x128x128_58_1_0_0
  let m6 : Mxu F ← unit arg6 arg7 arg8 m5 1 0 fits_0_128 ![7424, 256] inb_S7552x3840_S128x256_7424_256 ![464, 256] inb_S944x3840_S8x256_464_256 ![936, 256] inb_S944x3840_S8x256_936_256 ![58, 0, 0, 0] inb_S59x2x128x128_S1x1x128x128_58_0_0_0 ![58, 1, 0, 0] inb_S59x2x128x128_S1x1x128x128_58_1_0_0
  finish arg4 harg4 arg9 harg9 (m6.read 0 0 fits_0_128) gain ![0, 0] inb_S128x3840_S128x256_0_0 packedbf16_S128x3840_S128x256_0_0 wordsbf16_S128x3840_S128x256_0_0 arg12 ![0] inb_S15_S1_0
  let m7 : Mxu F := m6.pop 0 0 128 fits_0_128
  finish arg4 harg4 arg9 harg9 (m7.read 1 0 fits_0_128) gain ![0, 256] inb_S128x3840_S128x256_0_256 packedbf16_S128x3840_S128x256_0_256 wordsbf16_S128x3840_S128x256_0_256 arg12 ![1] inb_S15_S1_1
  pure (m7.pop 1 0 128 fits_0_128)

/-- Pair 1 of result tiles: the last three chunks, and the two tiles finished. -/
def pair1 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 32 fits_32_128 ![7168, 512] inb_S7552x3840_S128x256_7168_512 ![448, 512] inb_S944x3840_S8x256_448_512 ![920, 512] inb_S944x3840_S8x256_920_512 ![56, 0, 0, 0] inb_S59x2x128x128_S1x1x128x128_56_0_0_0 ![56, 1, 0, 0] inb_S59x2x128x128_S1x1x128x128_56_1_0_0
  let m2 : Mxu F ← unit arg6 arg7 arg8 m1 1 32 fits_32_128 ![7168, 768] inb_S7552x3840_S128x256_7168_768 ![448, 768] inb_S944x3840_S8x256_448_768 ![920, 768] inb_S944x3840_S8x256_920_768 ![56, 0, 0, 0] inb_S59x2x128x128_S1x1x128x128_56_0_0_0 ![56, 1, 0, 0] inb_S59x2x128x128_S1x1x128x128_56_1_0_0
  let m3 : Mxu F ← unit arg6 arg7 arg8 m2 0 32 fits_32_128 ![7296, 512] inb_S7552x3840_S128x256_7296_512 ![456, 512] inb_S944x3840_S8x256_456_512 ![928, 512] inb_S944x3840_S8x256_928_512 ![57, 0, 0, 0] inb_S59x2x128x128_S1x1x128x128_57_0_0_0 ![57, 1, 0, 0] inb_S59x2x128x128_S1x1x128x128_57_1_0_0
  let m4 : Mxu F ← unit arg6 arg7 arg8 m3 1 32 fits_32_128 ![7296, 768] inb_S7552x3840_S128x256_7296_768 ![456, 768] inb_S944x3840_S8x256_456_768 ![928, 768] inb_S944x3840_S8x256_928_768 ![57, 0, 0, 0] inb_S59x2x128x128_S1x1x128x128_57_0_0_0 ![57, 1, 0, 0] inb_S59x2x128x128_S1x1x128x128_57_1_0_0
  let m5 : Mxu F ← unit arg6 arg7 arg8 m4 0 32 fits_32_128 ![7424, 512] inb_S7552x3840_S128x256_7424_512 ![464, 512] inb_S944x3840_S8x256_464_512 ![936, 512] inb_S944x3840_S8x256_936_512 ![58, 0, 0, 0] inb_S59x2x128x128_S1x1x128x128_58_0_0_0 ![58, 1, 0, 0] inb_S59x2x128x128_S1x1x128x128_58_1_0_0
  let m6 : Mxu F ← unit arg6 arg7 arg8 m5 1 32 fits_32_128 ![7424, 768] inb_S7552x3840_S128x256_7424_768 ![464, 768] inb_S944x3840_S8x256_464_768 ![936, 768] inb_S944x3840_S8x256_936_768 ![58, 0, 0, 0] inb_S59x2x128x128_S1x1x128x128_58_0_0_0 ![58, 1, 0, 0] inb_S59x2x128x128_S1x1x128x128_58_1_0_0
  finish arg4 harg4 arg9 harg9 (m6.read 0 32 fits_32_128) gain ![0, 512] inb_S128x3840_S128x256_0_512 packedbf16_S128x3840_S128x256_0_512 wordsbf16_S128x3840_S128x256_0_512 arg12 ![2] inb_S15_S1_2
  let m7 : Mxu F := m6.pop 0 32 128 fits_32_128
  finish arg4 harg4 arg9 harg9 (m7.read 1 32 fits_32_128) gain ![0, 768] inb_S128x3840_S128x256_0_768 packedbf16_S128x3840_S128x256_0_768 wordsbf16_S128x3840_S128x256_0_768 arg12 ![3] inb_S15_S1_3
  pure (m7.pop 1 32 128 fits_32_128)

/-- Pair 2 of result tiles: the last three chunks, and the two tiles finished. -/
def pair2 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 64 fits_64_128 ![7168, 1024] inb_S7552x3840_S128x256_7168_1024 ![448, 1024] inb_S944x3840_S8x256_448_1024 ![920, 1024] inb_S944x3840_S8x256_920_1024 ![56, 0, 0, 0] inb_S59x2x128x128_S1x1x128x128_56_0_0_0 ![56, 1, 0, 0] inb_S59x2x128x128_S1x1x128x128_56_1_0_0
  let m2 : Mxu F ← unit arg6 arg7 arg8 m1 1 64 fits_64_128 ![7168, 1280] inb_S7552x3840_S128x256_7168_1280 ![448, 1280] inb_S944x3840_S8x256_448_1280 ![920, 1280] inb_S944x3840_S8x256_920_1280 ![56, 0, 0, 0] inb_S59x2x128x128_S1x1x128x128_56_0_0_0 ![56, 1, 0, 0] inb_S59x2x128x128_S1x1x128x128_56_1_0_0
  let m3 : Mxu F ← unit arg6 arg7 arg8 m2 0 64 fits_64_128 ![7296, 1024] inb_S7552x3840_S128x256_7296_1024 ![456, 1024] inb_S944x3840_S8x256_456_1024 ![928, 1024] inb_S944x3840_S8x256_928_1024 ![57, 0, 0, 0] inb_S59x2x128x128_S1x1x128x128_57_0_0_0 ![57, 1, 0, 0] inb_S59x2x128x128_S1x1x128x128_57_1_0_0
  let m4 : Mxu F ← unit arg6 arg7 arg8 m3 1 64 fits_64_128 ![7296, 1280] inb_S7552x3840_S128x256_7296_1280 ![456, 1280] inb_S944x3840_S8x256_456_1280 ![928, 1280] inb_S944x3840_S8x256_928_1280 ![57, 0, 0, 0] inb_S59x2x128x128_S1x1x128x128_57_0_0_0 ![57, 1, 0, 0] inb_S59x2x128x128_S1x1x128x128_57_1_0_0
  let m5 : Mxu F ← unit arg6 arg7 arg8 m4 0 64 fits_64_128 ![7424, 1024] inb_S7552x3840_S128x256_7424_1024 ![464, 1024] inb_S944x3840_S8x256_464_1024 ![936, 1024] inb_S944x3840_S8x256_936_1024 ![58, 0, 0, 0] inb_S59x2x128x128_S1x1x128x128_58_0_0_0 ![58, 1, 0, 0] inb_S59x2x128x128_S1x1x128x128_58_1_0_0
  let m6 : Mxu F ← unit arg6 arg7 arg8 m5 1 64 fits_64_128 ![7424, 1280] inb_S7552x3840_S128x256_7424_1280 ![464, 1280] inb_S944x3840_S8x256_464_1280 ![936, 1280] inb_S944x3840_S8x256_936_1280 ![58, 0, 0, 0] inb_S59x2x128x128_S1x1x128x128_58_0_0_0 ![58, 1, 0, 0] inb_S59x2x128x128_S1x1x128x128_58_1_0_0
  finish arg4 harg4 arg9 harg9 (m6.read 0 64 fits_64_128) gain ![0, 1024] inb_S128x3840_S128x256_0_1024 packedbf16_S128x3840_S128x256_0_1024 wordsbf16_S128x3840_S128x256_0_1024 arg12 ![4] inb_S15_S1_4
  let m7 : Mxu F := m6.pop 0 64 128 fits_64_128
  finish arg4 harg4 arg9 harg9 (m7.read 1 64 fits_64_128) gain ![0, 1280] inb_S128x3840_S128x256_0_1280 packedbf16_S128x3840_S128x256_0_1280 wordsbf16_S128x3840_S128x256_0_1280 arg12 ![5] inb_S15_S1_5
  pure (m7.pop 1 64 128 fits_64_128)

/-- Pair 3 of result tiles: the last three chunks, and the two tiles finished. -/
def pair3 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 96 fits_96_128 ![7168, 1536] inb_S7552x3840_S128x256_7168_1536 ![448, 1536] inb_S944x3840_S8x256_448_1536 ![920, 1536] inb_S944x3840_S8x256_920_1536 ![56, 0, 0, 0] inb_S59x2x128x128_S1x1x128x128_56_0_0_0 ![56, 1, 0, 0] inb_S59x2x128x128_S1x1x128x128_56_1_0_0
  let m2 : Mxu F ← unit arg6 arg7 arg8 m1 1 96 fits_96_128 ![7168, 1792] inb_S7552x3840_S128x256_7168_1792 ![448, 1792] inb_S944x3840_S8x256_448_1792 ![920, 1792] inb_S944x3840_S8x256_920_1792 ![56, 0, 0, 0] inb_S59x2x128x128_S1x1x128x128_56_0_0_0 ![56, 1, 0, 0] inb_S59x2x128x128_S1x1x128x128_56_1_0_0
  let m3 : Mxu F ← unit arg6 arg7 arg8 m2 0 96 fits_96_128 ![7296, 1536] inb_S7552x3840_S128x256_7296_1536 ![456, 1536] inb_S944x3840_S8x256_456_1536 ![928, 1536] inb_S944x3840_S8x256_928_1536 ![57, 0, 0, 0] inb_S59x2x128x128_S1x1x128x128_57_0_0_0 ![57, 1, 0, 0] inb_S59x2x128x128_S1x1x128x128_57_1_0_0
  let m4 : Mxu F ← unit arg6 arg7 arg8 m3 1 96 fits_96_128 ![7296, 1792] inb_S7552x3840_S128x256_7296_1792 ![456, 1792] inb_S944x3840_S8x256_456_1792 ![928, 1792] inb_S944x3840_S8x256_928_1792 ![57, 0, 0, 0] inb_S59x2x128x128_S1x1x128x128_57_0_0_0 ![57, 1, 0, 0] inb_S59x2x128x128_S1x1x128x128_57_1_0_0
  let m5 : Mxu F ← unit arg6 arg7 arg8 m4 0 96 fits_96_128 ![7424, 1536] inb_S7552x3840_S128x256_7424_1536 ![464, 1536] inb_S944x3840_S8x256_464_1536 ![936, 1536] inb_S944x3840_S8x256_936_1536 ![58, 0, 0, 0] inb_S59x2x128x128_S1x1x128x128_58_0_0_0 ![58, 1, 0, 0] inb_S59x2x128x128_S1x1x128x128_58_1_0_0
  let m6 : Mxu F ← unit arg6 arg7 arg8 m5 1 96 fits_96_128 ![7424, 1792] inb_S7552x3840_S128x256_7424_1792 ![464, 1792] inb_S944x3840_S8x256_464_1792 ![936, 1792] inb_S944x3840_S8x256_936_1792 ![58, 0, 0, 0] inb_S59x2x128x128_S1x1x128x128_58_0_0_0 ![58, 1, 0, 0] inb_S59x2x128x128_S1x1x128x128_58_1_0_0
  finish arg4 harg4 arg9 harg9 (m6.read 0 96 fits_96_128) gain ![0, 1536] inb_S128x3840_S128x256_0_1536 packedbf16_S128x3840_S128x256_0_1536 wordsbf16_S128x3840_S128x256_0_1536 arg12 ![6] inb_S15_S1_6
  let m7 : Mxu F := m6.pop 0 96 128 fits_96_128
  finish arg4 harg4 arg9 harg9 (m7.read 1 96 fits_96_128) gain ![0, 1792] inb_S128x3840_S128x256_0_1792 packedbf16_S128x3840_S128x256_0_1792 wordsbf16_S128x3840_S128x256_0_1792 arg12 ![7] inb_S15_S1_7
  pure (m7.pop 1 96 128 fits_96_128)

/-- Pair 4 of result tiles: the last three chunks, and the two tiles finished. -/
def pair4 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 128 fits_128_128 ![7168, 2048] inb_S7552x3840_S128x256_7168_2048 ![448, 2048] inb_S944x3840_S8x256_448_2048 ![920, 2048] inb_S944x3840_S8x256_920_2048 ![56, 0, 0, 0] inb_S59x2x128x128_S1x1x128x128_56_0_0_0 ![56, 1, 0, 0] inb_S59x2x128x128_S1x1x128x128_56_1_0_0
  let m2 : Mxu F ← unit arg6 arg7 arg8 m1 1 128 fits_128_128 ![7168, 2304] inb_S7552x3840_S128x256_7168_2304 ![448, 2304] inb_S944x3840_S8x256_448_2304 ![920, 2304] inb_S944x3840_S8x256_920_2304 ![56, 0, 0, 0] inb_S59x2x128x128_S1x1x128x128_56_0_0_0 ![56, 1, 0, 0] inb_S59x2x128x128_S1x1x128x128_56_1_0_0
  let m3 : Mxu F ← unit arg6 arg7 arg8 m2 0 128 fits_128_128 ![7296, 2048] inb_S7552x3840_S128x256_7296_2048 ![456, 2048] inb_S944x3840_S8x256_456_2048 ![928, 2048] inb_S944x3840_S8x256_928_2048 ![57, 0, 0, 0] inb_S59x2x128x128_S1x1x128x128_57_0_0_0 ![57, 1, 0, 0] inb_S59x2x128x128_S1x1x128x128_57_1_0_0
  let m4 : Mxu F ← unit arg6 arg7 arg8 m3 1 128 fits_128_128 ![7296, 2304] inb_S7552x3840_S128x256_7296_2304 ![456, 2304] inb_S944x3840_S8x256_456_2304 ![928, 2304] inb_S944x3840_S8x256_928_2304 ![57, 0, 0, 0] inb_S59x2x128x128_S1x1x128x128_57_0_0_0 ![57, 1, 0, 0] inb_S59x2x128x128_S1x1x128x128_57_1_0_0
  let m5 : Mxu F ← unit arg6 arg7 arg8 m4 0 128 fits_128_128 ![7424, 2048] inb_S7552x3840_S128x256_7424_2048 ![464, 2048] inb_S944x3840_S8x256_464_2048 ![936, 2048] inb_S944x3840_S8x256_936_2048 ![58, 0, 0, 0] inb_S59x2x128x128_S1x1x128x128_58_0_0_0 ![58, 1, 0, 0] inb_S59x2x128x128_S1x1x128x128_58_1_0_0
  let m6 : Mxu F ← unit arg6 arg7 arg8 m5 1 128 fits_128_128 ![7424, 2304] inb_S7552x3840_S128x256_7424_2304 ![464, 2304] inb_S944x3840_S8x256_464_2304 ![936, 2304] inb_S944x3840_S8x256_936_2304 ![58, 0, 0, 0] inb_S59x2x128x128_S1x1x128x128_58_0_0_0 ![58, 1, 0, 0] inb_S59x2x128x128_S1x1x128x128_58_1_0_0
  finish arg4 harg4 arg9 harg9 (m6.read 0 128 fits_128_128) gain ![0, 2048] inb_S128x3840_S128x256_0_2048 packedbf16_S128x3840_S128x256_0_2048 wordsbf16_S128x3840_S128x256_0_2048 arg12 ![8] inb_S15_S1_8
  let m7 : Mxu F := m6.pop 0 128 128 fits_128_128
  finish arg4 harg4 arg9 harg9 (m7.read 1 128 fits_128_128) gain ![0, 2304] inb_S128x3840_S128x256_0_2304 packedbf16_S128x3840_S128x256_0_2304 wordsbf16_S128x3840_S128x256_0_2304 arg12 ![9] inb_S15_S1_9
  pure (m7.pop 1 128 128 fits_128_128)

/-- Pair 5 of result tiles: the last three chunks, and the two tiles finished. -/
def pair5 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 160 fits_160_128 ![7168, 2560] inb_S7552x3840_S128x256_7168_2560 ![448, 2560] inb_S944x3840_S8x256_448_2560 ![920, 2560] inb_S944x3840_S8x256_920_2560 ![56, 0, 0, 0] inb_S59x2x128x128_S1x1x128x128_56_0_0_0 ![56, 1, 0, 0] inb_S59x2x128x128_S1x1x128x128_56_1_0_0
  let m2 : Mxu F ← unit arg6 arg7 arg8 m1 1 160 fits_160_128 ![7168, 2816] inb_S7552x3840_S128x256_7168_2816 ![448, 2816] inb_S944x3840_S8x256_448_2816 ![920, 2816] inb_S944x3840_S8x256_920_2816 ![56, 0, 0, 0] inb_S59x2x128x128_S1x1x128x128_56_0_0_0 ![56, 1, 0, 0] inb_S59x2x128x128_S1x1x128x128_56_1_0_0
  let m3 : Mxu F ← unit arg6 arg7 arg8 m2 0 160 fits_160_128 ![7296, 2560] inb_S7552x3840_S128x256_7296_2560 ![456, 2560] inb_S944x3840_S8x256_456_2560 ![928, 2560] inb_S944x3840_S8x256_928_2560 ![57, 0, 0, 0] inb_S59x2x128x128_S1x1x128x128_57_0_0_0 ![57, 1, 0, 0] inb_S59x2x128x128_S1x1x128x128_57_1_0_0
  let m4 : Mxu F ← unit arg6 arg7 arg8 m3 1 160 fits_160_128 ![7296, 2816] inb_S7552x3840_S128x256_7296_2816 ![456, 2816] inb_S944x3840_S8x256_456_2816 ![928, 2816] inb_S944x3840_S8x256_928_2816 ![57, 0, 0, 0] inb_S59x2x128x128_S1x1x128x128_57_0_0_0 ![57, 1, 0, 0] inb_S59x2x128x128_S1x1x128x128_57_1_0_0
  let m5 : Mxu F ← unit arg6 arg7 arg8 m4 0 160 fits_160_128 ![7424, 2560] inb_S7552x3840_S128x256_7424_2560 ![464, 2560] inb_S944x3840_S8x256_464_2560 ![936, 2560] inb_S944x3840_S8x256_936_2560 ![58, 0, 0, 0] inb_S59x2x128x128_S1x1x128x128_58_0_0_0 ![58, 1, 0, 0] inb_S59x2x128x128_S1x1x128x128_58_1_0_0
  let m6 : Mxu F ← unit arg6 arg7 arg8 m5 1 160 fits_160_128 ![7424, 2816] inb_S7552x3840_S128x256_7424_2816 ![464, 2816] inb_S944x3840_S8x256_464_2816 ![936, 2816] inb_S944x3840_S8x256_936_2816 ![58, 0, 0, 0] inb_S59x2x128x128_S1x1x128x128_58_0_0_0 ![58, 1, 0, 0] inb_S59x2x128x128_S1x1x128x128_58_1_0_0
  finish arg4 harg4 arg9 harg9 (m6.read 0 160 fits_160_128) gain ![0, 2560] inb_S128x3840_S128x256_0_2560 packedbf16_S128x3840_S128x256_0_2560 wordsbf16_S128x3840_S128x256_0_2560 arg12 ![10] inb_S15_S1_10
  let m7 : Mxu F := m6.pop 0 160 128 fits_160_128
  finish arg4 harg4 arg9 harg9 (m7.read 1 160 fits_160_128) gain ![0, 2816] inb_S128x3840_S128x256_0_2816 packedbf16_S128x3840_S128x256_0_2816 wordsbf16_S128x3840_S128x256_0_2816 arg12 ![11] inb_S15_S1_11
  pure (m7.pop 1 160 128 fits_160_128)

/-- Pair 6 of result tiles: the last three chunks, and the two tiles finished. -/
def pair6 (arg4 : Memref sig .tc .hbm S128x3840 .bf16) (harg4 : arg4.IsWhole) (arg6 : Memref sig .tc .vmem S7552x3840 .i8) (arg7 : Memref sig .tc .vmem S944x3840 .fp8e4m3) (arg8 : Memref sig .tc .vmem S59x2x128x128 .bf16) (arg9 : Memref sig .tc .vmem S128x3840 .bf16) (harg9 : arg9.IsWhole) (arg12 : DmaSems sig S15) (gain : Elt F .f32) (m0 : Mxu F) : Prog (TpuEff nD τ sig (Elt F) Λ₀ .tc) (Mxu F) := do
  let m1 : Mxu F ← unit arg6 arg7 arg8 m0 0 192 fits_192_128 ![7168, 3072] inb_S7552x3840_S128x256_7168_3072 ![448, 3072] inb_S944x3840_S8x256_448_3072 ![920, 3072] inb_S944x3840_S8x256_920_3072 ![56, 0, 0, 0] inb_S59x2x128x128_S1x1x128x128_56_0_0_0 ![56, 1, 0, 0] inb_S59x2x128x128_S1x1x128x128_56_1_0_0
  let m2 : Mxu F ← unit arg6 arg7 arg8 m1 1 192 fits_192_128 ![7168, 3328] inb_S7552x3840_S128x256_7168_3328 ![448, 3328] inb_S944x3840_S8x256_448_3328 ![920, 3328] inb_S944x3840_S8x256_920_3328 ![56, 0, 0, 0] inb_S59x2x128x128_S1x1x128x128_56_0_0_0 ![56, 1, 0, 0] inb_S59x2x128x128_S1x1x128x128_56_1_0_0
  let m3 : Mxu F ← unit arg6 arg7 arg8 m2 0 192 fits_192_128 ![7296, 3072] inb_S7552x3840_S128x256_7296_3072 ![456, 3072] inb_S944x3840_S8x256_456_3072 ![928, 3072] inb_S944x3840_S8x256_928_3072 ![57, 0, 0, 0] inb_S59x2x128x128_S1x1x128x128_57_0_0_0 ![57, 1, 0, 0] inb_S59x2x128x128_S1x1x128x128_57_1_0_0
  let m4 : Mxu F ← unit arg6 arg7 arg8 m3 1 192 fits_192_128 ![7296, 3328] inb_S7552x3840_S128x256_7296_3328 ![456, 3328] inb_S944x3840_S8x256_456_3328 ![928, 3328] inb_S944x3840_S8x256_928_3328 ![57, 0, 0, 0] inb_S59x2x128x128_S1x1x128x128_57_0_0_0 ![57, 1, 0, 0] inb_S59x2x128x128_S1x1x128x128_57_1_0_0
  let m5 : Mxu F ← unit arg6 arg7 arg8 m4 0 192 fits_192_128 ![7424, 3072] inb_S7552x3840_S128x256_7424_3072 ![464, 3072] inb_S944x3840_S8x256_464_3072 ![936, 3072] inb_S944x3840_S8x256_936_3072 ![58, 0, 0, 0] inb_S59x2x128x128_S1x1x128x128_58_0_0_0 ![58, 1, 0, 0] inb_S59x2x128x128_S1x1x128x128_58_1_0_0
  let m6 : Mxu F ← unit arg6 arg7 arg8 m5 1 192 fits_192_128 ![7424, 3328] inb_S7552x3840_S128x256_7424_3328 ![464, 3328] inb_S944x3840_S8x256_464_3328 ![936, 3328] inb_S944x3840_S8x256_936_3328 ![58, 0, 0, 0] inb_S59x2x128x128_S1x1x128x128_58_0_0_0 ![58, 1, 0, 0] inb_S59x2x128x128_S1x1x128x128_58_1_0_0
  finish arg4 harg4 arg9 harg9 (m6.read 0 192 fits_192_128) gain ![0, 3072] inb_S128x3840_S128x256_0_3072 packedbf16_S128x3840_S128x256_0_3072 wordsbf16_S128x3840_S128x256_0_3072 arg12 ![12] inb_S15_S1_12
  let m7 : Mxu F := m6.pop 0 192 128 fits_192_128
  finish arg4 harg4 arg9 harg9 (m7.read 1 192 fits_192_128) gain ![0, 3328] inb_S128x3840_S128x256_0_3328 packedbf16_S128x3840_S128x256_0_3328 wordsbf16_S128x3840_S128x256_0_3328 arg12 ![13] inb_S15_S1_13
  pure (m7.pop 1 192 128 fits_192_128)

/-- Wait for every tile of the result. -/
def drainAll (arg4 : Memref sig .tc .hbm S128x3840 .bf16) (harg4 : arg4.IsWhole) (arg9 : Memref sig .tc .vmem S128x3840 .bf16) (harg9 : arg9.IsWhole) (arg12 : DmaSems sig S15) : Prog (TpuEff nD τ sig (Elt F) Λ₀ .tc) PUnit := do
  drain (F := F) arg4 harg4 arg9 harg9 ![0, 3584] inb_S128x3840_S128x256_0_3584 wordsbf16_S128x3840_S128x256_0_3584 arg12 ![14] inb_S15_S1_14
  drain (F := F) arg4 harg4 arg9 harg9 ![0, 0] inb_S128x3840_S128x256_0_0 wordsbf16_S128x3840_S128x256_0_0 arg12 ![0] inb_S15_S1_0
  drain (F := F) arg4 harg4 arg9 harg9 ![0, 256] inb_S128x3840_S128x256_0_256 wordsbf16_S128x3840_S128x256_0_256 arg12 ![1] inb_S15_S1_1
  drain (F := F) arg4 harg4 arg9 harg9 ![0, 512] inb_S128x3840_S128x256_0_512 wordsbf16_S128x3840_S128x256_0_512 arg12 ![2] inb_S15_S1_2
  drain (F := F) arg4 harg4 arg9 harg9 ![0, 768] inb_S128x3840_S128x256_0_768 wordsbf16_S128x3840_S128x256_0_768 arg12 ![3] inb_S15_S1_3
  drain (F := F) arg4 harg4 arg9 harg9 ![0, 1024] inb_S128x3840_S128x256_0_1024 wordsbf16_S128x3840_S128x256_0_1024 arg12 ![4] inb_S15_S1_4
  drain (F := F) arg4 harg4 arg9 harg9 ![0, 1280] inb_S128x3840_S128x256_0_1280 wordsbf16_S128x3840_S128x256_0_1280 arg12 ![5] inb_S15_S1_5
  drain (F := F) arg4 harg4 arg9 harg9 ![0, 1536] inb_S128x3840_S128x256_0_1536 wordsbf16_S128x3840_S128x256_0_1536 arg12 ![6] inb_S15_S1_6
  drain (F := F) arg4 harg4 arg9 harg9 ![0, 1792] inb_S128x3840_S128x256_0_1792 wordsbf16_S128x3840_S128x256_0_1792 arg12 ![7] inb_S15_S1_7
  drain (F := F) arg4 harg4 arg9 harg9 ![0, 2048] inb_S128x3840_S128x256_0_2048 wordsbf16_S128x3840_S128x256_0_2048 arg12 ![8] inb_S15_S1_8
  drain (F := F) arg4 harg4 arg9 harg9 ![0, 2304] inb_S128x3840_S128x256_0_2304 wordsbf16_S128x3840_S128x256_0_2304 arg12 ![9] inb_S15_S1_9
  drain (F := F) arg4 harg4 arg9 harg9 ![0, 2560] inb_S128x3840_S128x256_0_2560 wordsbf16_S128x3840_S128x256_0_2560 arg12 ![10] inb_S15_S1_10
  drain (F := F) arg4 harg4 arg9 harg9 ![0, 2816] inb_S128x3840_S128x256_0_2816 wordsbf16_S128x3840_S128x256_0_2816 arg12 ![11] inb_S15_S1_11
  drain (F := F) arg4 harg4 arg9 harg9 ![0, 3072] inb_S128x3840_S128x256_0_3072 wordsbf16_S128x3840_S128x256_0_3072 arg12 ![12] inb_S15_S1_12
  drain (F := F) arg4 harg4 arg9 harg9 ![0, 3328] inb_S128x3840_S128x256_0_3328 wordsbf16_S128x3840_S128x256_0_3328 arg12 ![13] inb_S15_S1_13

/-- The whole kernel, by its phases. -/
def body (arg0 : Memref sig .tc .hbm S128x15104 .bf16) (harg0 : arg0.IsWhole) (arg1 : Memref sig .tc .hbm S7552x3840 .i8) (harg1 : arg1.IsWhole) (arg2 : Memref sig .tc .hbm S944x3840 .fp8e4m3) (harg2 : arg2.IsWhole) (arg3 : Memref sig .tc .smem S1x1 .f32) (harg3 : arg3.IsWhole) (arg4 : Memref sig .tc .hbm S128x3840 .bf16) (harg4 : arg4.IsWhole) (arg5 : Memref sig .tc .vmem S128x15104 .bf16) (harg5 : arg5.IsWhole) (arg6 : Memref sig .tc .vmem S7552x3840 .i8) (harg6 : arg6.IsWhole) (arg7 : Memref sig .tc .vmem S944x3840 .fp8e4m3) (harg7 : arg7.IsWhole) (arg8 : Memref sig .tc .vmem S59x2x128x128 .bf16) (harg8 : arg8.IsWhole) (arg9 : Memref sig .tc .vmem S128x3840 .bf16) (harg9 : arg9.IsWhole) (arg10 : DmaSems sig S7x5) (arg11 : DmaSems sig S5) (arg12 : DmaSems sig S15) : Prog (TpuEff nD τ sig (Elt F) Λ₀ .tc) PUnit := do
  startAll (F := F) arg0 harg0 arg1 harg1 arg2 harg2 arg5 harg5 arg6 harg6 arg7 harg7 arg10 arg11
  let m0 : Mxu F ← Scf.Loop.for k0_t1_loop k0_t1_ok (Mxu.pop (Mxu.pop (Mxu.pop (Mxu.pop (Mxu.pop (Mxu.pop (Mxu.pop (Mxu.pop (Mxu.pop (Mxu.pop (Mxu.pop (Mxu.pop (Mxu.pop (Mxu.pop (Mxu.pop (Mxu.pop Mxu.init 0 0 128 fits_0_128) 0 32 128 fits_32_128) 0 64 128 fits_64_128) 0 96 128 fits_96_128) 0 128 128 fits_128_128) 0 160 128 fits_160_128) 0 192 128 fits_192_128) 0 224 128 fits_224_128) 1 0 128 fits_0_128) 1 32 128 fits_32_128) 1 64 128 fits_64_128) 1 96 128 fits_96_128) 1 128 128 fits_128_128) 1 160 128 fits_160_128) 1 192 128 fits_192_128) 1 224 128 fits_224_128) fun k m => trip arg0 harg0 arg1 harg1 arg2 harg2 arg5 harg5 arg6 harg6 arg7 harg7 arg8 harg8 arg10 k m
  tailPrep (F := F) arg0 harg0 arg1 harg1 arg2 harg2 arg5 harg5 arg6 harg6 arg7 harg7 arg8 harg8 arg11
  let gain : Elt F .f32 ← smemLoad arg3 (Rect.unit (s := S1x1) ![0, 0] S1x1.size inb_S1x1_S1x1_0_0) numel1_S1x1 rfl
  let m1 : Mxu F ← tailLast arg4 harg4 arg6 arg7 arg8 arg9 harg9 arg12 gain m0
  let m2 : Mxu F ← pair0 arg4 harg4 arg6 arg7 arg8 arg9 harg9 arg12 gain m1
  let m3 : Mxu F ← pair1 arg4 harg4 arg6 arg7 arg8 arg9 harg9 arg12 gain m2
  let m4 : Mxu F ← pair2 arg4 harg4 arg6 arg7 arg8 arg9 harg9 arg12 gain m3
  let m5 : Mxu F ← pair3 arg4 harg4 arg6 arg7 arg8 arg9 harg9 arg12 gain m4
  let m6 : Mxu F ← pair4 arg4 harg4 arg6 arg7 arg8 arg9 harg9 arg12 gain m5
  let m7 : Mxu F ← pair5 arg4 harg4 arg6 arg7 arg8 arg9 harg9 arg12 gain m6
  let m8 : Mxu F ← pair6 arg4 harg4 arg6 arg7 arg8 arg9 harg9 arg12 gain m7
  drainAll (F := F) arg4 harg4 arg9 harg9 arg12
  m8.exit

end Cert.Kernel

end
-- ==== Proof.KEq.lean ====
module

public import proofs.«01_k».proof.Proof.KStruct
public import Idealize.ShloMosaic.Lib.Tactic.ProgEq
public import Idealize.ShloMosaic.PureOps.Ideal
public import Idealize.ShloMosaic.PureOps.BitExact

@[expose] public section

set_option synthInstance.maxSize 4096

noncomputable section

namespace Cert.Kernel

open Idealize.ShloMosaic Idealize.SL.Sem
open scoped Idealize.ShloMosaic.ProgEq

set_option maxHeartbeats 0 in
prog_eq Cert.Kernel.body_eq : Cert.Kernel.cc0__body Cert.Kernel.body
  from Cert.Kernel to Cert.Kernel at Bits inferInstance by rfl

end Cert.Kernel

end
-- ==== Proof.KWp.lean ====
module

public import proofs.«01_k».proof.Proof.KStruct
public import proofs.«01_k».proof.Proof.Own
public import Idealize.ShloMosaic.Lib.Mxu.Lemmas
public import Idealize.ShloMosaic.Lib.Pipeline.FrameBody

@[expose] public section

set_option synthInstance.maxSize 4096

noncomputable section

namespace Cert.Kernel

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

/-- The 256 x 256 tile of weights: packed nibbles decoded, times their scales. -/
def wTile (a0 : Vec F S128x256 .i8) (a36 a39 : Vec F S8x256 .fp8e4m3) : FVec F S256x256 .bf16 :=
  have a1 : IVec S128x256 32 := extui 32 a0 natLt_8_32
  have a2 : IVec S128x256 32 := broadcast S128x256 7#32
  have a3 : IVec S128x256 32 := andi a1 a2
  have a4 : IVec S128x256 32 := broadcast S128x256 252#32
  have a5 : IVec S128x256 32 := muli a3 a4
  have a6 : IVec S128x256 32 := broadcast S128x256 252#32
  have a7 : IVec S128x256 32 := addi a3 a6
  have a8 : IVec S128x256 32 := minsi a5 a7
  have a9 : IVec S128x256 32 := broadcast S128x256 6#32
  have a10 : IVec S128x256 32 := shli a8 a9
  have a11 : IVec S128x256 32 := broadcast S128x256 8#32
  have a12 : IVec S128x256 32 := andi a1 a11
  have a13 : IVec S128x256 32 := broadcast S128x256 12#32
  have a14 : IVec S128x256 32 := shli a12 a13
  have a15 : IVec S128x256 32 := ori a10 a14
  have a16 : IVec S128x256 32 := broadcast S128x256 4#32
  have a17 : IVec S128x256 32 := shrsi a1 a16
  have a18 : IVec S128x256 32 := broadcast S128x256 7#32
  have a19 : IVec S128x256 32 := andi a17 a18
  have a20 : IVec S128x256 32 := broadcast S128x256 252#32
  have a21 : IVec S128x256 32 := muli a19 a20
  have a22 : IVec S128x256 32 := broadcast S128x256 252#32
  have a23 : IVec S128x256 32 := addi a19 a22
  have a24 : IVec S128x256 32 := minsi a21 a23
  have a25 : IVec S128x256 32 := broadcast S128x256 6#32
  have a26 : IVec S128x256 32 := shli a24 a25
  have a27 : IVec S128x256 32 := broadcast S128x256 8#32
  have a28 : IVec S128x256 32 := andi a17 a27
  have a29 : IVec S128x256 32 := broadcast S128x256 12#32
  have a30 : IVec S128x256 32 := shli a28 a29
  have a31 : IVec S128x256 32 := ori a26 a30
  have a32 : IVec S128x256 32 := broadcast S128x256 16#32
  have a33 : IVec S128x256 32 := shli a31 a32
  have a34 : IVec S128x256 32 := ori a15 a33
  have a35 : FVec F S256x256 .bf16 := bitcastToFloat .bf16 (bitcast S256x256 16 a34 bitcasts_S128x256_w32_S256x256_w16)
  have a37 : FVec F S8x256 .f32 := extf .f32 a36 bitsLt_fp8e4m3_f32
  have a38 : FVec F S8x256 .bf16 := truncf .bf16 a37 bitsLt_bf16_f32
  have a40 : FVec F S8x256 .f32 := extf .f32 a39 bitsLt_fp8e4m3_f32
  have a41 : FVec F S8x256 .bf16 := truncf .bf16 a40 bitsLt_bf16_f32
  have a42 : IVec S16x256 32 := iota .tc S16x256 32 [0] iota_S16x256_d0_w32
  have a43 : IVec S16x256 32 := broadcast S16x256 1#32
  have a44 : IVec S16x256 32 := andi a42 a43
  have a45 : IVec S16x256 32 := broadcast S16x256 1#32
  have a46 : IVec S16x256 1 := cmpi .eq a44 a45
  have a47 : FVec F S1x256 .bf16 := extractStridedSlice S1x256 ![0, 0] a41 slices_S8x256_o0_0_S1x256
  have a48 : FVec F S1x256 .bf16 := extractStridedSlice S1x256 ![0, 0] a38 slices_S8x256_o0_0_S1x256
  have a49 : FVec F S1x256 .bf16 := shapeCast S1x256 a47 shapeCasts_S1x256_S1x256
  have a50 : FVec F S16x256 .bf16 := broadcastTo S16x256 a49 broadcasts_S1x256_S16x256
  have a51 : FVec F S1x256 .bf16 := shapeCast S1x256 a48 shapeCasts_S1x256_S1x256
  have a52 : FVec F S16x256 .bf16 := broadcastTo S16x256 a51 broadcasts_S1x256_S16x256
  have a53 : FVec F S16x256 .bf16 := select a46 a50 a52
  have a54 : FVec F S1x256 .bf16 := extractStridedSlice S1x256 ![1, 0] a41 slices_S8x256_o1_0_S1x256
  have a55 : FVec F S1x256 .bf16 := extractStridedSlice S1x256 ![1, 0] a38 slices_S8x256_o1_0_S1x256
  have a56 : FVec F S1x256 .bf16 := shapeCast S1x256 a54 shapeCasts_S1x256_S1x256
  have a57 : FVec F S16x256 .bf16 := broadcastTo S16x256 a56 broadcasts_S1x256_S16x256
  have a58 : FVec F S1x256 .bf16 := shapeCast S1x256 a55 shapeCasts_S1x256_S1x256
  have a59 : FVec F S16x256 .bf16 := broadcastTo S16x256 a58 broadcasts_S1x256_S16x256
  have a60 : FVec F S16x256 .bf16 := select a46 a57 a59
  have a61 : FVec F S1x256 .bf16 := extractStridedSlice S1x256 ![2, 0] a41 slices_S8x256_o2_0_S1x256
  have a62 : FVec F S1x256 .bf16 := extractStridedSlice S1x256 ![2, 0] a38 slices_S8x256_o2_0_S1x256
  have a63 : FVec F S1x256 .bf16 := shapeCast S1x256 a61 shapeCasts_S1x256_S1x256
  have a64 : FVec F S16x256 .bf16 := broadcastTo S16x256 a63 broadcasts_S1x256_S16x256
  have a65 : FVec F S1x256 .bf16 := shapeCast S1x256 a62 shapeCasts_S1x256_S1x256
  have a66 : FVec F S16x256 .bf16 := broadcastTo S16x256 a65 broadcasts_S1x256_S16x256
  have a67 : FVec F S16x256 .bf16 := select a46 a64 a66
  have a68 : FVec F S1x256 .bf16 := extractStridedSlice S1x256 ![3, 0] a41 slices_S8x256_o3_0_S1x256
  have a69 : FVec F S1x256 .bf16 := extractStridedSlice S1x256 ![3, 0] a38 slices_S8x256_o3_0_S1x256
  have a70 : FVec F S1x256 .bf16 := shapeCast S1x256 a68 shapeCasts_S1x256_S1x256
  have a71 : FVec F S16x256 .bf16 := broadcastTo S16x256 a70 broadcasts_S1x256_S16x256
  have a72 : FVec F S1x256 .bf16 := shapeCast S1x256 a69 shapeCasts_S1x256_S1x256
  have a73 : FVec F S16x256 .bf16 := broadcastTo S16x256 a72 broadcasts_S1x256_S16x256
  have a74 : FVec F S16x256 .bf16 := select a46 a71 a73
  have a75 : FVec F S1x256 .bf16 := extractStridedSlice S1x256 ![4, 0] a41 slices_S8x256_o4_0_S1x256
  have a76 : FVec F S1x256 .bf16 := extractStridedSlice S1x256 ![4, 0] a38 slices_S8x256_o4_0_S1x256
  have a77 : FVec F S1x256 .bf16 := shapeCast S1x256 a75 shapeCasts_S1x256_S1x256
  have a78 : FVec F S16x256 .bf16 := broadcastTo S16x256 a77 broadcasts_S1x256_S16x256
  have a79 : FVec F S1x256 .bf16 := shapeCast S1x256 a76 shapeCasts_S1x256_S1x256
  have a80 : FVec F S16x256 .bf16 := broadcastTo S16x256 a79 broadcasts_S1x256_S16x256
  have a81 : FVec F S16x256 .bf16 := select a46 a78 a80
  have a82 : FVec F S1x256 .bf16 := extractStridedSlice S1x256 ![5, 0] a41 slices_S8x256_o5_0_S1x256
  have a83 : FVec F S1x256 .bf16 := extractStridedSlice S1x256 ![5, 0] a38 slices_S8x256_o5_0_S1x256
  have a84 : FVec F S1x256 .bf16 := shapeCast S1x256 a82 shapeCasts_S1x256_S1x256
  have a85 : FVec F S16x256 .bf16 := broadcastTo S16x256 a84 broadcasts_S1x256_S16x256
  have a86 : FVec F S1x256 .bf16 := shapeCast S1x256 a83 shapeCasts_S1x256_S1x256
  have a87 : FVec F S16x256 .bf16 := broadcastTo S16x256 a86 broadcasts_S1x256_S16x256
  have a88 : FVec F S16x256 .bf16 := select a46 a85 a87
  have a89 : FVec F S1x256 .bf16 := extractStridedSlice S1x256 ![6, 0] a41 slices_S8x256_o6_0_S1x256
  have a90 : FVec F S1x256 .bf16 := extractStridedSlice S1x256 ![6, 0] a38 slices_S8x256_o6_0_S1x256
  have a91 : FVec F S1x256 .bf16 := shapeCast S1x256 a89 shapeCasts_S1x256_S1x256
  have a92 : FVec F S16x256 .bf16 := broadcastTo S16x256 a91 broadcasts_S1x256_S16x256
  have a93 : FVec F S1x256 .bf16 := shapeCast S1x256 a90 shapeCasts_S1x256_S1x256
  have a94 : FVec F S16x256 .bf16 := broadcastTo S16x256 a93 broadcasts_S1x256_S16x256
  have a95 : FVec F S16x256 .bf16 := select a46 a92 a94
  have a96 : FVec F S1x256 .bf16 := extractStridedSlice S1x256 ![7, 0] a41 slices_S8x256_o7_0_S1x256
  have a97 : FVec F S1x256 .bf16 := extractStridedSlice S1x256 ![7, 0] a38 slices_S8x256_o7_0_S1x256
  have a98 : FVec F S1x256 .bf16 := shapeCast S1x256 a96 shapeCasts_S1x256_S1x256
  have a99 : FVec F S16x256 .bf16 := broadcastTo S16x256 a98 broadcasts_S1x256_S16x256
  have a100 : FVec F S1x256 .bf16 := shapeCast S1x256 a97 shapeCasts_S1x256_S1x256
  have a101 : FVec F S16x256 .bf16 := broadcastTo S16x256 a100 broadcasts_S1x256_S16x256
  have a102 : FVec F S16x256 .bf16 := select a46 a99 a101
  have a103 : FVec F S256x256 .bf16 := concatenate S256x256 0 [⟨S16x256, a53⟩, ⟨S16x256, a53⟩, ⟨S16x256, a60⟩, ⟨S16x256, a60⟩, ⟨S16x256, a67⟩, ⟨S16x256, a67⟩, ⟨S16x256, a74⟩, ⟨S16x256, a74⟩, ⟨S16x256, a81⟩, ⟨S16x256, a81⟩, ⟨S16x256, a88⟩, ⟨S16x256, a88⟩, ⟨S16x256, a95⟩, ⟨S16x256, a95⟩, ⟨S16x256, a102⟩, ⟨S16x256, a102⟩] concatenates_S16x256_S16x256_S16x256_S16x256_S16x256_S16x256_S16x256_S16x256_S16x256_S16x256_S16x256_S16x256_S16x256_S16x256_S16x256_S16x256_S256x256_d0
  have a104 : FVec F S256x256 .bf16 := mulf a35 a103
  a104

/-- The activations of one chunk, its two halves side by side. -/
def xTile (a106 a108 : Vec F S1x1x128x128 .bf16) : FVec F S128x256 .bf16 :=
  have a107 : FVec F S128x128 .bf16 := shapeCast S128x128 a106 shapeCasts_S1x1x128x128_S128x128
  have a109 : FVec F S128x128 .bf16 := shapeCast S128x128 a108 shapeCasts_S1x1x128x128_S128x128
  have a110 : FVec F S128x256 .bf16 := concatenate S128x256 1 [⟨S128x128, a107⟩, ⟨S128x128, a109⟩] concatenates_S128x128_S128x128_S128x256_d1
  a110

/-- The first half of an interleaved chunk. -/
def xLo (a0 a2 : Vec F S128x128 .bf16) : FVec F S1x1x128x128 .bf16 :=
  have a1 : FVec F S128x128 .f32 := extf .f32 a0 bitsLt_bf16_f32
  have a3 : FVec F S128x128 .f32 := extf .f32 a2 bitsLt_bf16_f32
  have a4 : IVec S128x128 32 := iota .tc S128x128 32 [1] iota_S128x128_d1_w32
  have a5 : FVec F S128x128 .f32 := dynamicRotate 1 64#32 none a3 rotates_S128x128_d1
  have a6 : IVec S128x128 32 := broadcast S128x128 64#32
  have a7 : IVec S128x128 1 := cmpi .slt a4 a6
  have a8 : IVec S128x128 32 := broadcast S128x128 2#32
  have a9 : IVec S128x128 32 := divsi a4 a8
  have a10 : IVec S128x128 32 := broadcast S128x128 0#32
  have a11 : IVec S128x128 1 := cmpi .sgt a4 a10
  have a12 : IVec S128x128 32 := extui 32 a11 natLt_1_32
  have a13 : IVec S128x128 32 := broadcast S128x128 0#32
  have a14 : IVec S128x128 1 := cmpi .slt a4 a13
  have a15 : IVec S128x128 32 := extui 32 a14 natLt_1_32
  have a16 : IVec S128x128 32 := subi a12 a15
  have a17 : IVec S128x128 32 := broadcast S128x128 (Scalar.subi (Scalar.extui (Scalar.cmpi .sgt 2#32 0#32)) (Scalar.extui (Scalar.cmpi .slt 2#32 0#32)))
  have a18 : IVec S128x128 1 := cmpi .ne a16 a17
  have a19 : IVec S128x128 32 := broadcast S128x128 2#32
  have a20 : IVec S128x128 32 := remsi a4 a19
  have a21 : IVec S128x128 32 := broadcast S128x128 0#32
  have a22 : IVec S128x128 1 := cmpi .ne a20 a21
  have a23 : IVec S128x128 1 := andi a18 a22
  have a24 : IVec S128x128 32 := broadcast S128x128 1#32
  have a25 : IVec S128x128 32 := subi a9 a24
  have a26 : IVec S128x128 32 := select a23 a25 a9
  have a27 : IVec S128x128 32 := broadcast S128x128 (Scalar.select (Scalar.cmpi .eq 2#32 0#32) 1#32 2#32)
  have a28 : IVec S128x128 32 := remsi a4 a27
  have a29 : IVec S128x128 32 := broadcast S128x128 0#32
  have a30 : IVec S128x128 1 := cmpi .ne a28 a29
  have a31 : IVec S128x128 32 := broadcast S128x128 0#32
  have a32 : IVec S128x128 1 := cmpi .slt a28 a31
  have a33 : IVec S128x128 1 := broadcast S128x128 (Scalar.cmpi .slt (Scalar.select (Scalar.cmpi .eq 2#32 0#32) 1#32 2#32) 0#32)
  have a34 : IVec S128x128 1 := broadcastTo S128x128 a33 broadcasts_S128x128_S128x128
  have a35 : IVec S128x128 1 := xori a32 a34
  have a36 : IVec S128x128 1 := andi a35 a30
  have a37 : IVec S128x128 32 := broadcast S128x128 (Scalar.select (Scalar.cmpi .eq 2#32 0#32) 1#32 2#32)
  have a38 : IVec S128x128 32 := addi a28 a37
  have a39 : IVec S128x128 32 := select a36 a38 a28
  have a40 : IVec S128x128 32 := broadcast S128x128 64#32
  have a41 : IVec S128x128 32 := muli a40 a39
  have a42 : IVec S128x128 32 := addi a26 a41
  have a43 : FVec F S128x128 .f32 := select a7 a1 a5
  have a44 : IVec S128x128 32 := broadcast S128x128 0#32
  have a45 : IVec S128x128 1 := cmpi .slt a42 a44
  have a46 : IVec S128x128 32 := broadcast S128x128 128#32
  have a47 : IVec S128x128 32 := addi a42 a46
  have a48 : IVec S128x128 32 := select a45 a47 a42
  have a49 : IVec S128x128x1 32 := shapeCast S128x128x1 a48 shapeCasts_S128x128_S128x128x1
  have a50 : IVec S128x128 32 := shapeCast S128x128 a49 shapeCasts_S128x128x1_S128x128
  have a51 : FVec F S128x128 .f32 := dynamicGather 1 a43 a50
  have a52 : FVec F S128x128 .f32 := select a7 a5 a1
  have a53 : IVec S128x128 32 := broadcast S128x128 64#32
  have a54 : IVec S128x128 32 := xori a42 a53
  have a55 : IVec S128x128 32 := broadcast S128x128 0#32
  have a56 : IVec S128x128 1 := cmpi .slt a54 a55
  have a57 : IVec S128x128 32 := broadcast S128x128 128#32
  have a58 : IVec S128x128 32 := addi a54 a57
  have a59 : IVec S128x128 32 := select a56 a58 a54
  have a60 : IVec S128x128x1 32 := shapeCast S128x128x1 a59 shapeCasts_S128x128_S128x128x1
  have a61 : IVec S128x128 32 := shapeCast S128x128 a60 shapeCasts_S128x128x1_S128x128
  have a62 : FVec F S128x128 .f32 := dynamicGather 1 a52 a61
  have a63 : FVec F S128x128 .bf16 := truncf .bf16 a51 bitsLt_bf16_f32
  have a66 : FVec F S1x1x128x128 .bf16 := shapeCast S1x1x128x128 a63 shapeCasts_S128x128_S1x1x128x128
  a66

/-- The second half of an interleaved chunk. -/
def xHi (a0 a2 : Vec F S128x128 .bf16) : FVec F S1x1x128x128 .bf16 :=
  have a1 : FVec F S128x128 .f32 := extf .f32 a0 bitsLt_bf16_f32
  have a3 : FVec F S128x128 .f32 := extf .f32 a2 bitsLt_bf16_f32
  have a4 : IVec S128x128 32 := iota .tc S128x128 32 [1] iota_S128x128_d1_w32
  have a5 : FVec F S128x128 .f32 := dynamicRotate 1 64#32 none a3 rotates_S128x128_d1
  have a6 : IVec S128x128 32 := broadcast S128x128 64#32
  have a7 : IVec S128x128 1 := cmpi .slt a4 a6
  have a8 : IVec S128x128 32 := broadcast S128x128 2#32
  have a9 : IVec S128x128 32 := divsi a4 a8
  have a10 : IVec S128x128 32 := broadcast S128x128 0#32
  have a11 : IVec S128x128 1 := cmpi .sgt a4 a10
  have a12 : IVec S128x128 32 := extui 32 a11 natLt_1_32
  have a13 : IVec S128x128 32 := broadcast S128x128 0#32
  have a14 : IVec S128x128 1 := cmpi .slt a4 a13
  have a15 : IVec S128x128 32 := extui 32 a14 natLt_1_32
  have a16 : IVec S128x128 32 := subi a12 a15
  have a17 : IVec S128x128 32 := broadcast S128x128 (Scalar.subi (Scalar.extui (Scalar.cmpi .sgt 2#32 0#32)) (Scalar.extui (Scalar.cmpi .slt 2#32 0#32)))
  have a18 : IVec S128x128 1 := cmpi .ne a16 a17
  have a19 : IVec S128x128 32 := broadcast S128x128 2#32
  have a20 : IVec S128x128 32 := remsi a4 a19
  have a21 : IVec S128x128 32 := broadcast S128x128 0#32
  have a22 : IVec S128x128 1 := cmpi .ne a20 a21
  have a23 : IVec S128x128 1 := andi a18 a22
  have a24 : IVec S128x128 32 := broadcast S128x128 1#32
  have a25 : IVec S128x128 32 := subi a9 a24
  have a26 : IVec S128x128 32 := select a23 a25 a9
  have a27 : IVec S128x128 32 := broadcast S128x128 (Scalar.select (Scalar.cmpi .eq 2#32 0#32) 1#32 2#32)
  have a28 : IVec S128x128 32 := remsi a4 a27
  have a29 : IVec S128x128 32 := broadcast S128x128 0#32
  have a30 : IVec S128x128 1 := cmpi .ne a28 a29
  have a31 : IVec S128x128 32 := broadcast S128x128 0#32
  have a32 : IVec S128x128 1 := cmpi .slt a28 a31
  have a33 : IVec S128x128 1 := broadcast S128x128 (Scalar.cmpi .slt (Scalar.select (Scalar.cmpi .eq 2#32 0#32) 1#32 2#32) 0#32)
  have a34 : IVec S128x128 1 := broadcastTo S128x128 a33 broadcasts_S128x128_S128x128
  have a35 : IVec S128x128 1 := xori a32 a34
  have a36 : IVec S128x128 1 := andi a35 a30
  have a37 : IVec S128x128 32 := broadcast S128x128 (Scalar.select (Scalar.cmpi .eq 2#32 0#32) 1#32 2#32)
  have a38 : IVec S128x128 32 := addi a28 a37
  have a39 : IVec S128x128 32 := select a36 a38 a28
  have a40 : IVec S128x128 32 := broadcast S128x128 64#32
  have a41 : IVec S128x128 32 := muli a40 a39
  have a42 : IVec S128x128 32 := addi a26 a41
  have a43 : FVec F S128x128 .f32 := select a7 a1 a5
  have a44 : IVec S128x128 32 := broadcast S128x128 0#32
  have a45 : IVec S128x128 1 := cmpi .slt a42 a44
  have a46 : IVec S128x128 32 := broadcast S128x128 128#32
  have a47 : IVec S128x128 32 := addi a42 a46
  have a48 : IVec S128x128 32 := select a45 a47 a42
  have a49 : IVec S128x128x1 32 := shapeCast S128x128x1 a48 shapeCasts_S128x128_S128x128x1
  have a50 : IVec S128x128 32 := shapeCast S128x128 a49 shapeCasts_S128x128x1_S128x128
  have a51 : FVec F S128x128 .f32 := dynamicGather 1 a43 a50
  have a52 : FVec F S128x128 .f32 := select a7 a5 a1
  have a53 : IVec S128x128 32 := broadcast S128x128 64#32
  have a54 : IVec S128x128 32 := xori a42 a53
  have a55 : IVec S128x128 32 := broadcast S128x128 0#32
  have a56 : IVec S128x128 1 := cmpi .slt a54 a55
  have a57 : IVec S128x128 32 := broadcast S128x128 128#32
  have a58 : IVec S128x128 32 := addi a54 a57
  have a59 : IVec S128x128 32 := select a56 a58 a54
  have a60 : IVec S128x128x1 32 := shapeCast S128x128x1 a59 shapeCasts_S128x128_S128x128x1
  have a61 : IVec S128x128 32 := shapeCast S128x128 a60 shapeCasts_S128x128x1_S128x128
  have a62 : FVec F S128x128 .f32 := dynamicGather 1 a52 a61
  have a67 : FVec F S128x128 .bf16 := truncf .bf16 a62 bitsLt_bf16_f32
  have a70 : FVec F S1x1x128x128 .bf16 := shapeCast S1x1x128x128 a67 shapeCasts_S128x128_S1x1x128x128
  a70

/-- The unit's state after one pass. -/
def uStep (m : Mxu F) (q : Fin 2) (A : Nat) (hA : Mxu.Fits A 128) (w : Vec F S128x256 .i8) (sl sh : Vec F S8x256 .fp8e4m3)
    (xl xh : Vec F S1x1x128x128 .bf16) : Mxu F :=
  (m.pushed q 0 false (wTile w sl sh)).accLhs q 0 A (xTile xl xh) hA

variable (c : Dev nD) {α : Type} {Q : α → sProp (MT nD τ sig Unit (Elt F) ℕ (Pipeline.UD sig nD τ) ℕ)}

abbrev WP {β : Type} (p : Prog (TpuEff nD τ sig (Elt F) Λ₀ .tc) β) (Q : β → sProp (MT nD τ sig Unit (Elt F) ℕ (Pipeline.UD sig nD τ) ℕ)) : sProp (MT nD τ sig Unit (Elt F) ℕ (Pipeline.UD sig nD τ) ℕ) :=
  wp frame (wpE (defs₀ (F := F)) Variants.none (c : Thread nD τ) none) Set.univ p Q

theorem wp_unit (arg6 : Memref sig .tc .vmem S7552x3840 .i8) (arg7 : Memref sig .tc .vmem S944x3840 .fp8e4m3)
    (arg8 : Memref sig .tc .vmem S59x2x128x128 .bf16) (m : Mxu F) (q : Fin 2) (A : Nat) (hA : Mxu.Fits A 128)
    (ow : Fin 2 → Nat) (hw : ∀ a, ow a + S128x256.size a ≤ S7552x3840.size a)
    (ol : Fin 2 → Nat) (hl : ∀ a, ol a + S8x256.size a ≤ S944x3840.size a)
    (oh : Fin 2 → Nat) (hh : ∀ a, oh a + S8x256.size a ≤ S944x3840.size a)
    (o0 : Fin 4 → Nat) (h0 : ∀ a, o0 a + S1x1x128x128.size a ≤ S59x2x128x128.size a)
    (o1 : Fin 4 → Nat) (h1 : ∀ a, o1 a + S1x1x128x128.size a ≤ S59x2x128x128.size a)
    (hm : m.reg q 0 = none)
    (R6 : Rect S7552x3840) (hR6 : ∀ a, R6.stride a = 1) (hs6 : ∀ i, ∃ j, (Rect.unit (s := S7552x3840) ow S128x256.size hw).emb i = R6.emb j)
    (R7 : Rect S944x3840) (hR7 : ∀ a, R7.stride a = 1) (hs7 : ∀ i, ∃ j, (Rect.unit (s := S944x3840) ol S8x256.size hl).emb i = R7.emb j)
    (R7' : Rect S944x3840) (hR7' : ∀ a, R7'.stride a = 1) (hs7' : ∀ i, ∃ j, (Rect.unit (s := S944x3840) oh S8x256.size hh).emb i = R7'.emb j)
    (W : S7552x3840.Idx → Elt F .i8) (S : S944x3840.Idx → Elt F .fp8e4m3) (A8 : S59x2x128x128.Idx → Elt F .bf16)
    {k : Mxu F → Prog (TpuEff nD τ sig (Elt F) Λ₀ .tc) α} :
    iprop(owns (c : Thread nD τ) (arg6.slice R6 hR6) fullShare (fun j => W (R6.emb j))
      ∗ owns (c : Thread nD τ) (arg7.slice R7 hR7) fullShare (fun j => S (R7.emb j))
      ∗ owns (c : Thread nD τ) (arg7.slice R7' hR7') fullShare (fun j => S (R7'.emb j))
      ∗ owns (c : Thread nD τ) arg8 fullShare A8)
    ⊢ iprop((iprop(owns (c : Thread nD τ) (arg6.slice R6 hR6) fullShare (fun j => W (R6.emb j))
      ∗ owns (c : Thread nD τ) (arg7.slice R7 hR7) fullShare (fun j => S (R7.emb j))
      ∗ owns (c : Thread nD τ) (arg7.slice R7' hR7') fullShare (fun j => S (R7'.emb j))
      ∗ owns (c : Thread nD τ) arg8 fullShare A8)
        -∗ WP c (k (uStep m q A hA (fun i => W ((Rect.unit (s := S7552x3840) ow S128x256.size hw).emb i))
            (fun i => S ((Rect.unit (s := S944x3840) ol S8x256.size hl).emb i)) (fun i => S ((Rect.unit (s := S944x3840) oh S8x256.size hh).emb i))
            (fun i => A8 ((Rect.unit (s := S59x2x128x128) o0 S1x1x128x128.size h0).emb i)) (fun i => A8 ((Rect.unit (s := S59x2x128x128) o1 S1x1x128x128.size h1).emb i)))) Q)
      -∗ WP c (unit arg6 arg7 arg8 m q A hA ow hw ol hl oh hh o0 h0 o1 h1 >>= k) Q) := by
  iintro ⟨H6, H7, H7', H8⟩ Hk
  unfold unit
  simp only [Prog.bind_lift, Prog.bind_op, Mxu.pushRhs, bind_assoc, pure_bind]
  iapply (wp_load_slice Variants.none (c : Thread nD τ) none Set.univ arg6 R6 _ hR6 fullShare W hs6) $$ H6
  iintro H6
  iapply (wp_load_slice Variants.none (c : Thread nD τ) none Set.univ arg7 R7 _ hR7 fullShare S hs7) $$ H7
  iintro H7
  iapply (wp_load_slice Variants.none (c : Thread nD τ) none Set.univ arg7 R7' _ hR7' fullShare S hs7') $$ H7'
  iintro H7'
  iapply (wp_assume Variants.none (c : Thread nD τ) none Set.univ (by unfold Mxu.PushOk; rw [hm]; intro t ht; cases ht))
  iapply (wp_load_owns Variants.none (c : Thread nD τ) none Set.univ arg8 _ fullShare A8) $$ H8
  iintro H8
  iapply (wp_load_owns Variants.none (c : Thread nD τ) none Set.univ arg8 _ fullShare A8) $$ H8
  iintro H8
  iapply Hk
  isplitl [H6]; · iexact H6
  isplitl [H7]; · iexact H7
  isplitl [H7']; · iexact H7'
  iexact H8

theorem wp_ileave (arg5 : Memref sig .tc .vmem S128x15104 .bf16)
    (arg8 : Memref sig .tc .vmem S59x2x128x128 .bf16) (harg8 : arg8.IsWhole)
    (ol : Fin 2 → Nat) (hl : ∀ a, ol a + S128x128.size a ≤ S128x15104.size a)
    (oh : Fin 2 → Nat) (hh : ∀ a, oh a + S128x128.size a ≤ S128x15104.size a)
    (o0 : Fin 4 → Nat) (h0 : ∀ a, o0 a + S1x1x128x128.size a ≤ S59x2x128x128.size a)
    (hp0 : (Rect.unit (s := S59x2x128x128) o0 S1x1x128x128.size h0).PackedRows (EltTy.packing .bf16))
    (o1 : Fin 4 → Nat) (h1 : ∀ a, o1 a + S1x1x128x128.size a ≤ S59x2x128x128.size a)
    (hp1 : (Rect.unit (s := S59x2x128x128) o1 S1x1x128x128.size h1).PackedRows (EltTy.packing .bf16))
    (R5 : Rect S128x15104) (hR5 : ∀ a, R5.stride a = 1) (hs5 : ∀ i, ∃ j, (Rect.unit (s := S128x15104) ol S128x128.size hl).emb i = R5.emb j)
    (R5' : Rect S128x15104) (hR5' : ∀ a, R5'.stride a = 1) (hs5' : ∀ i, ∃ j, (Rect.unit (s := S128x15104) oh S128x128.size hh).emb i = R5'.emb j)
    (X : S128x15104.Idx → Elt F .bf16) (A8 : S59x2x128x128.Idx → Elt F .bf16)
    {k : PUnit → Prog (TpuEff nD τ sig (Elt F) Λ₀ .tc) α} :
    iprop(owns (c : Thread nD τ) (arg5.slice R5 hR5) fullShare (fun j => X (R5.emb j))
      ∗ owns (c : Thread nD τ) (arg5.slice R5' hR5') fullShare (fun j => X (R5'.emb j))
      ∗ owns (c : Thread nD τ) arg8 fullShare A8)
    ⊢ iprop((iprop(owns (c : Thread nD τ) (arg5.slice R5 hR5) fullShare (fun j => X (R5.emb j))
      ∗ owns (c : Thread nD τ) (arg5.slice R5' hR5') fullShare (fun j => X (R5'.emb j))
      ∗ owns (c : Thread nD τ) arg8 fullShare
          ((Rect.unit (s := S59x2x128x128) o1 S1x1x128x128.size h1).overlay
            ((Rect.unit (s := S59x2x128x128) o0 S1x1x128x128.size h0).overlay A8
              (xLo (fun i => X ((Rect.unit (s := S128x15104) ol S128x128.size hl).emb i)) (fun i => X ((Rect.unit (s := S128x15104) oh S128x128.size hh).emb i))))
              (xHi (fun i => X ((Rect.unit (s := S128x15104) ol S128x128.size hl).emb i)) (fun i => X ((Rect.unit (s := S128x15104) oh S128x128.size hh).emb i)))))
        -∗ WP c (k ⟨⟩) Q)
      -∗ WP c (ileave arg5 arg8 harg8 ol hl oh hh o0 h0 hp0 o1 h1 hp1 >>= k) Q) := by
  iintro ⟨H5, H5', H8⟩ Hk
  unfold ileave
  simp only [Prog.bind_lift, Prog.bind_op, bind_assoc, pure_bind]
  iapply (wp_load_slice Variants.none (c : Thread nD τ) none Set.univ arg5 R5 _ hR5 fullShare X hs5) $$ H5
  iintro H5
  iapply (wp_load_slice Variants.none (c : Thread nD τ) none Set.univ arg5 R5' _ hR5' fullShare X hs5') $$ H5'
  iintro H5'
  iapply (wp_load_owns Variants.none (c : Thread nD τ) none Set.univ arg8 _ fullShare A8) $$ H8
  iintro H8
  iapply (wp_store_owns Variants.none (c : Thread nD τ) none Set.univ arg8 _ (fun _ => rfl) A8) $$ H8
  iintro H8
  iapply (wp_load_owns Variants.none (c : Thread nD τ) none Set.univ arg8 _ fullShare) $$ H8
  iintro H8
  iapply (wp_store_owns Variants.none (c : Thread nD τ) none Set.univ arg8 _ (fun _ => rfl)) $$ H8
  iintro H8
  iapply Hk
  isplitl [H5]; · iexact H5
  isplitl [H5']; · iexact H5'
  iexact H8

end Cert.Kernel
-- ==== Proof.KRes.lean ====
module

public import proofs.«01_k».proof.Proof.KWp
public import Idealize.ShloMosaic.Lib.Mxu.Lemmas
public import Idealize.ShloMosaic.Lib.Pipeline.FrameBody

@[expose] public section

set_option synthInstance.maxSize 4096

noncomputable section

namespace Cert.Kernel

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

variable (c : Dev nD) {α : Type} {Q : α → sProp (MT nD τ sig Unit (Elt F) ℕ (Pipeline.UD sig nD τ) ℕ)}

/-! ## Pieces of the arrays, and copies in flight -/

/-- A rectangle of a memref, owned at its part of `X`. -/
def pc {sp : Space} {s : Shape} {e : EltTy} (m : Memref sig .tc sp s e) (X : s.Idx → Elt F e) (R : Rect s) (hR : ∀ a, R.stride a = 1) :
    sProp (MT nD τ sig Unit (Elt F) ℕ (Pipeline.UD sig nD τ) ℕ) :=
  owns (c : Thread nD τ) (m.slice R hR) fullShare (fun j => X (R.emb j))

theorem pc_congr {sp : Space} {s : Shape} {e : EltTy} (m : Memref sig .tc sp s e) (X : s.Idx → Elt F e) {R R' : Rect s} (h : R = R')
    (hR : ∀ a, R.stride a = 1) (hR' : ∀ a, R'.stride a = 1) : pc c m X R hR = pc c m X R' hR' := by subst h; rfl

/-- A copy of a rectangle in flight. -/
def fl {sp sp' : Space} {s : Shape} {e : EltTy} (src : Memref sig .tc sp s e) (dst : Memref sig .tc sp' s e) (X : s.Idx → Elt F e)
    (R : Rect s) (hR : ∀ a, R.stride a = 1) (sem : DmaSem sig) : sProp (MT nD τ sig Unit (Elt F) ℕ (Pipeline.UD sig nD τ) ℕ) :=
  Flight countersEmb (c : Thread nD τ) (.dma sem) () (dst.slice R hR).view.dmaCredit iprop(pc c dst X R hR ∗ pc c src X R hR)

theorem fl_congr {sp sp' : Space} {s : Shape} {e : EltTy} (src : Memref sig .tc sp s e) (dst : Memref sig .tc sp' s e) (X : s.Idx → Elt F e)
    {R R' : Rect s} (h : R = R') (hR : ∀ a, R.stride a = 1) (hR' : ∀ a, R'.stride a = 1) {sem sem' : DmaSem sig} (hs : sem = sem') :
    fl c src dst X R hR sem = fl c src dst X R' hR' sem' := by subst h; subst hs; rfl

/-- A counter at zero. -/
def sv (sem : DmaSem sig) : sProp (MT nD τ sig Unit (Elt F) ℕ (Pipeline.UD sig nD τ) ℕ) := semVal ((c : Thread nD τ), SemLoc.dma sem) 0

/-- What the core owes: nothing, having waited for whatever it has. -/
def due : sProp (MT nD τ sig Unit (Elt F) ℕ (Pipeline.UD sig nD τ) ℕ) := iprop(∃ W, owes (c : Thread nD τ) 0 W)

theorem wp_start {sp sp' : Space} {s : Shape} {e : EltTy} (src : Memref sig .tc sp s e) (dst : Memref sig .tc sp' s e)
    (X Y : s.Idx → Elt F e) (R R' : Rect s) (hR : ∀ a, R.stride a = 1) (hR' : ∀ a, R'.stride a = 1) (hRR : R' = R) (sem sem' : DmaSem sig) (hsem : sem' = sem)
    {h1 : (src.slice R' hR').view.WordExact} {h2 : (dst.slice R' hR').view.WordExact} {h3 : DmaTarget.Typed (nD := nD) (p := Proc.tc) sp (.dma sem') (.here (dst.slice R' hR'))}
    (hN : 0 < (dst.slice R' hR').view.dmaCredit) {k : PUnit → Prog (TpuEff nD τ sig (Elt F) Λ₀ .tc) α} :
    iprop(pc c src X R hR ∗ pc c dst Y R hR ∗ sv c sem)
      ⊢ iprop((fl c src dst X R hR sem -∗ WP c (k ⟨⟩) Q)
        -∗ WP c (.op (.enqueueDma (src.slice R' hR') (.here (dst.slice R' hR')) (.dma sem') h1 h2 h3) k) Q) := by
  subst hRR; subst hsem
  unfold fl pc sv
  iintro ⟨Hs, Hd, Hv⟩ Hk
  iapply (wp_copy Variants.none (c : Thread nD τ) none countersEmb (src.slice R' hR') (dst.slice R' hR') sem' fullShare _ _ () _ rfl hN) $$ [Hs Hd Hv]
  · isplitl [Hs]; · iexact Hs
    isplitl [Hd]; · iexact Hd
    iexact Hv
  iintro HF
  iapply Hk
  iexact HF

theorem wp_await {sp sp' : Space} {s : Shape} {e : EltTy} (src : Memref sig .tc sp s e) (dst : Memref sig .tc sp' s e)
    (X : s.Idx → Elt F e) (R R' : Rect s) (hR : ∀ a, R.stride a = 1) (hR' : ∀ a, R'.stride a = 1) (hRR : R' = R) (sem sem' : DmaSem sig) (hsem : sem' = sem)
    {h1 : (src.slice R' hR').view.WordExact} {h2 : (dst.slice R' hR').view.WordExact}
    {k : PUnit → Prog (TpuEff nD τ sig (Elt F) Λ₀ .tc) α} :
    iprop(fl c src dst X R hR sem ∗ due c)
      ⊢ iprop((iprop(pc c dst X R hR ∗ pc c src X R hR ∗ sv c sem ∗ due c) -∗ WP c (k ⟨⟩) Q)
        -∗ WP c (.op (.waitDma2 sem' (src.slice R' hR') (dst.slice R' hR') h1 h2) k) Q) := by
  subst hRR; subst hsem
  unfold due fl pc sv
  iintro ⟨HF, %W, HO⟩ Hk
  iapply (wp_waitLocal countersEmb Variants.none (c : Thread nD τ) none () rfl) $$ [HF HO]
  · isplitl [HF]; · iexact HF
    iexact HO
  iintro ⟨⟨Hd, Hs⟩, Hv, HO⟩
  iapply Hk
  isplitl [Hd]; · iexact Hd
  isplitl [Hs]; · iexact Hs
  isplitl [Hv]; · iexact Hv
  iexists (insert (SemLoc.dma sem', ()) W)
  iexact HO

/-! ## The eight groups -/

/-- Columns of activations, and rows of weights, in a group. -/
abbrev xLen (g : Fin 8) : ℕ := if g.val = 7 then 384 else 1024
/-- Rows of scales in a group. -/
abbrev sLen (g : Fin 8) : ℕ := if g.val = 7 then 24 else 64

theorem xR_inb (g : Fin 8) (h : Fin 2) : ∀ a, (![0, 7552 * h.val + 1024 * g.val] : Fin 2 → ℕ) a + (![128, xLen g] : Fin 2 → ℕ) a ≤ S128x15104.size a := by
  revert g h; decide
theorem sR_inb (g : Fin 8) (h : Fin 2) : ∀ a, (![472 * h.val + 64 * g.val, 0] : Fin 2 → ℕ) a + (![sLen g, 3840] : Fin 2 → ℕ) a ≤ S944x3840.size a := by
  revert g h; decide
theorem wR_inb (g : Fin 8) : ∀ a, (![1024 * g.val, 0] : Fin 2 → ℕ) a + (![xLen g, 3840] : Fin 2 → ℕ) a ≤ S7552x3840.size a := by
  revert g; decide

/-- The columns of activations of group `g`, half `h`. -/
abbrev xR (g : Fin 8) (h : Fin 2) : Rect S128x15104 := Rect.unit ![0, 7552 * h.val + 1024 * g.val] ![128, xLen g] (xR_inb g h)
/-- The rows of scales of group `g`, half `h`. -/
abbrev sR (g : Fin 8) (h : Fin 2) : Rect S944x3840 := Rect.unit ![472 * h.val + 64 * g.val, 0] ![sLen g, 3840] (sR_inb g h)
/-- The rows of packed weights of group `g`. -/
abbrev wR (g : Fin 8) : Rect S7552x3840 := Rect.unit ![1024 * g.val, 0] ![xLen g, 3840] (wR_inb g)

/-- The semaphores of the groups, -/
def semG (g : Fin 8) (i : Fin 5) : DmaSem sig := (⟨1 + 5 * g.val + i.val, by omega⟩ : Fin 56)
/-- of the results. -/
def semY (t : Fin 15) : DmaSem sig := (⟨41 + t.val, by omega⟩ : Fin 56)

variable (arg0 : Memref sig .tc .hbm S128x15104 .bf16) (arg1 : Memref sig .tc .hbm S7552x3840 .i8) (arg2 : Memref sig .tc .hbm S944x3840 .fp8e4m3)
variable (arg5 : Memref sig .tc .vmem S128x15104 .bf16) (arg6 : Memref sig .tc .vmem S7552x3840 .i8) (arg7 : Memref sig .tc .vmem S944x3840 .fp8e4m3)

/-- A group at rest: its pieces of the three arrays, the places they are copied to, five counters at zero. -/
def rest (X : S128x15104.Idx → Elt F .bf16) (S : S944x3840.Idx → Elt F .fp8e4m3) (W : S7552x3840.Idx → Elt F .i8)
    (X' : S128x15104.Idx → Elt F .bf16) (S' : S944x3840.Idx → Elt F .fp8e4m3) (W' : S7552x3840.Idx → Elt F .i8) (g : Fin 8) :
    sProp (MT nD τ sig Unit (Elt F) ℕ (Pipeline.UD sig nD τ) ℕ) :=
  iprop((pc c arg0 X (xR g 0) (fun _ => rfl) ∗ pc c arg0 X (xR g 1) (fun _ => rfl) ∗ pc c arg2 S (sR g 0) (fun _ => rfl)
      ∗ pc c arg2 S (sR g 1) (fun _ => rfl) ∗ pc c arg1 W (wR g) (fun _ => rfl))
    ∗ (pc c arg5 X' (xR g 0) (fun _ => rfl) ∗ pc c arg5 X' (xR g 1) (fun _ => rfl) ∗ pc c arg7 S' (sR g 0) (fun _ => rfl)
      ∗ pc c arg7 S' (sR g 1) (fun _ => rfl) ∗ pc c arg6 W' (wR g) (fun _ => rfl))
    ∗ (sv c (semG g 0) ∗ sv c (semG g 1) ∗ sv c (semG g 2) ∗ sv c (semG g 3) ∗ sv c (semG g 4)))

/-- A group in flight. -/
def fly (X : S128x15104.Idx → Elt F .bf16) (S : S944x3840.Idx → Elt F .fp8e4m3) (W : S7552x3840.Idx → Elt F .i8) (g : Fin 8) :
    sProp (MT nD τ sig Unit (Elt F) ℕ (Pipeline.UD sig nD τ) ℕ) :=
  iprop(fl c arg0 arg5 X (xR g 0) (fun _ => rfl) (semG g 0) ∗ fl c arg0 arg5 X (xR g 1) (fun _ => rfl) (semG g 1)
    ∗ fl c arg2 arg7 S (sR g 0) (fun _ => rfl) (semG g 2) ∗ fl c arg2 arg7 S (sR g 1) (fun _ => rfl) (semG g 3)
    ∗ fl c arg1 arg6 W (wR g) (fun _ => rfl) (semG g 4))

theorem wp_fetchG (harg0 : arg0.IsWhole) (harg1 : arg1.IsWhole) (harg2 : arg2.IsWhole) (harg5 : arg5.IsWhole) (harg6 : arg6.IsWhole) (harg7 : arg7.IsWhole) (arg10 : DmaSems sig S7x5) (g : Fin 8)
    (k0 : Fin 2 → Nat) (hk0 : ∀ a, k0 a + S1x1.size a ≤ S7x5.size a)
    (k1 : Fin 2 → Nat) (hk1 : ∀ a, k1 a + S1x1.size a ≤ S7x5.size a)
    (k2 : Fin 2 → Nat) (hk2 : ∀ a, k2 a + S1x1.size a ≤ S7x5.size a)
    (k3 : Fin 2 → Nat) (hk3 : ∀ a, k3 a + S1x1.size a ≤ S7x5.size a)
    (k4 : Fin 2 → Nat) (hk4 : ∀ a, k4 a + S1x1.size a ≤ S7x5.size a)
    (ox : Fin 2 → Nat) (hox : ∀ a, ox a + S128x1024.size a ≤ S128x15104.size a) (wox : (Rect.unit (s := S128x15104) ox S128x1024.size hox).WholeWords (EltTy.packing .bf16))
    (oX : Fin 2 → Nat) (hoX : ∀ a, oX a + S128x1024.size a ≤ S128x15104.size a) (woX : (Rect.unit (s := S128x15104) oX S128x1024.size hoX).WholeWords (EltTy.packing .bf16))
    (os : Fin 2 → Nat) (hos : ∀ a, os a + S64x3840.size a ≤ S944x3840.size a) (wos : (Rect.unit (s := S944x3840) os S64x3840.size hos).WholeWords (EltTy.packing .fp8e4m3))
    (oS : Fin 2 → Nat) (hoS : ∀ a, oS a + S64x3840.size a ≤ S944x3840.size a) (woS : (Rect.unit (s := S944x3840) oS S64x3840.size hoS).WholeWords (EltTy.packing .fp8e4m3))
    (ow : Fin 2 → Nat) (how : ∀ a, ow a + S1024x3840.size a ≤ S7552x3840.size a) (wow : (Rect.unit (s := S7552x3840) ow S1024x3840.size how).WholeWords (EltTy.packing .i8))
    (es0 : cell5 arg10 k0 hk0 = semG g 0)
    (es1 : cell5 arg10 k1 hk1 = semG g 1)
    (es2 : cell5 arg10 k2 hk2 = semG g 2)
    (es3 : cell5 arg10 k3 hk3 = semG g 3)
    (es4 : cell5 arg10 k4 hk4 = semG g 4)
    (er0 : Rect.unit (s := S128x15104) ox S128x1024.size hox = xR g 0)
    (er1 : Rect.unit (s := S128x15104) oX S128x1024.size hoX = xR g 1)
    (er2 : Rect.unit (s := S944x3840) os S64x3840.size hos = sR g 0)
    (er3 : Rect.unit (s := S944x3840) oS S64x3840.size hoS = sR g 1)
    (er4 : Rect.unit (s := S7552x3840) ow S1024x3840.size how = wR g)
    (ec0 : 0 < (arg5.slice (Rect.unit (s := S128x15104) ox S128x1024.size hox) (fun _ => rfl)).view.dmaCredit)
    (ec1 : 0 < (arg5.slice (Rect.unit (s := S128x15104) oX S128x1024.size hoX) (fun _ => rfl)).view.dmaCredit)
    (ec2 : 0 < (arg7.slice (Rect.unit (s := S944x3840) os S64x3840.size hos) (fun _ => rfl)).view.dmaCredit)
    (ec3 : 0 < (arg7.slice (Rect.unit (s := S944x3840) oS S64x3840.size hoS) (fun _ => rfl)).view.dmaCredit)
    (ec4 : 0 < (arg6.slice (Rect.unit (s := S7552x3840) ow S1024x3840.size how) (fun _ => rfl)).view.dmaCredit)
    (X : S128x15104.Idx → Elt F .bf16) (S : S944x3840.Idx → Elt F .fp8e4m3) (W : S7552x3840.Idx → Elt F .i8)
    (X' : S128x15104.Idx → Elt F .bf16) (S' : S944x3840.Idx → Elt F .fp8e4m3) (W' : S7552x3840.Idx → Elt F .i8)
    {k : PUnit → Prog (TpuEff nD τ sig (Elt F) Λ₀ .tc) α} :
    rest c arg0 arg1 arg2 arg5 arg6 arg7 X S W X' S' W' g ⊢ iprop((fly c arg0 arg1 arg2 arg5 arg6 arg7 X S W g -∗ WP c (k ⟨⟩) Q)
      -∗ WP c (fetchG (F := F) arg0 harg0 arg1 harg1 arg2 harg2 arg5 harg5 arg6 harg6 arg7 harg7 arg10 k0 hk0 k1 hk1 k2 hk2 k3 hk3 k4 hk4 ox hox wox oX hoX woX os hos wos oS hoS woS ow how wow >>= k) Q) := by
  unfold fetchG rest fly
  simp only [Prog.bind_lift, Prog.bind_op, bind_assoc, pure_bind]
  iintro ⟨⟨A0, A1, A2, A3, A4⟩, ⟨B0, B1, B2, B3, B4⟩, V0, V1, V2, V3, V4⟩ Hk
  iapply (wp_start c arg0 arg5 X X' (xR g 0) (Rect.unit (s := S128x15104) ox S128x1024.size hox) (fun _ => rfl) (fun _ => rfl) er0 (semG g 0) (cell5 arg10 k0 hk0) es0 ec0) $$ [A0 B0 V0]
  · isplitl [A0]; · iexact A0
    isplitl [B0]; · iexact B0
    iexact V0
  iintro H0
  iapply (wp_start c arg0 arg5 X X' (xR g 1) (Rect.unit (s := S128x15104) oX S128x1024.size hoX) (fun _ => rfl) (fun _ => rfl) er1 (semG g 1) (cell5 arg10 k1 hk1) es1 ec1) $$ [A1 B1 V1]
  · isplitl [A1]; · iexact A1
    isplitl [B1]; · iexact B1
    iexact V1
  iintro H1
  iapply (wp_start c arg2 arg7 S S' (sR g 0) (Rect.unit (s := S944x3840) os S64x3840.size hos) (fun _ => rfl) (fun _ => rfl) er2 (semG g 2) (cell5 arg10 k2 hk2) es2 ec2) $$ [A2 B2 V2]
  · isplitl [A2]; · iexact A2
    isplitl [B2]; · iexact B2
    iexact V2
  iintro H2
  iapply (wp_start c arg2 arg7 S S' (sR g 1) (Rect.unit (s := S944x3840) oS S64x3840.size hoS) (fun _ => rfl) (fun _ => rfl) er3 (semG g 3) (cell5 arg10 k3 hk3) es3 ec3) $$ [A3 B3 V3]
  · isplitl [A3]; · iexact A3
    isplitl [B3]; · iexact B3
    iexact V3
  iintro H3
  iapply (wp_start c arg1 arg6 W W' (wR g) (Rect.unit (s := S7552x3840) ow S1024x3840.size how) (fun _ => rfl) (fun _ => rfl) er4 (semG g 4) (cell5 arg10 k4 hk4) es4 ec4) $$ [A4 B4 V4]
  · isplitl [A4]; · iexact A4
    isplitl [B4]; · iexact B4
    iexact V4
  iintro H4
  iapply Hk
  isplitl [H0]; · iexact H0
  isplitl [H1]; · iexact H1
  isplitl [H2]; · iexact H2
  isplitl [H3]; · iexact H3
  iexact H4

theorem wp_fetchT (harg0 : arg0.IsWhole) (harg1 : arg1.IsWhole) (harg2 : arg2.IsWhole) (harg5 : arg5.IsWhole) (harg6 : arg6.IsWhole) (harg7 : arg7.IsWhole) (arg11 : DmaSems sig S5) (g : Fin 8)
    (k0 : Fin 1 → Nat) (hk0 : ∀ a, k0 a + S1.size a ≤ S5.size a)
    (k1 : Fin 1 → Nat) (hk1 : ∀ a, k1 a + S1.size a ≤ S5.size a)
    (k2 : Fin 1 → Nat) (hk2 : ∀ a, k2 a + S1.size a ≤ S5.size a)
    (k3 : Fin 1 → Nat) (hk3 : ∀ a, k3 a + S1.size a ≤ S5.size a)
    (k4 : Fin 1 → Nat) (hk4 : ∀ a, k4 a + S1.size a ≤ S5.size a)
    (ox : Fin 2 → Nat) (hox : ∀ a, ox a + S128x384.size a ≤ S128x15104.size a) (wox : (Rect.unit (s := S128x15104) ox S128x384.size hox).WholeWords (EltTy.packing .bf16))
    (oX : Fin 2 → Nat) (hoX : ∀ a, oX a + S128x384.size a ≤ S128x15104.size a) (woX : (Rect.unit (s := S128x15104) oX S128x384.size hoX).WholeWords (EltTy.packing .bf16))
    (os : Fin 2 → Nat) (hos : ∀ a, os a + S24x3840.size a ≤ S944x3840.size a) (wos : (Rect.unit (s := S944x3840) os S24x3840.size hos).WholeWords (EltTy.packing .fp8e4m3))
    (oS : Fin 2 → Nat) (hoS : ∀ a, oS a + S24x3840.size a ≤ S944x3840.size a) (woS : (Rect.unit (s := S944x3840) oS S24x3840.size hoS).WholeWords (EltTy.packing .fp8e4m3))
    (ow : Fin 2 → Nat) (how : ∀ a, ow a + S384x3840.size a ≤ S7552x3840.size a) (wow : (Rect.unit (s := S7552x3840) ow S384x3840.size how).WholeWords (EltTy.packing .i8))
    (es0 : cellT arg11 k0 hk0 = semG g 0)
    (es1 : cellT arg11 k1 hk1 = semG g 1)
    (es2 : cellT arg11 k2 hk2 = semG g 2)
    (es3 : cellT arg11 k3 hk3 = semG g 3)
    (es4 : cellT arg11 k4 hk4 = semG g 4)
    (er0 : Rect.unit (s := S128x15104) ox S128x384.size hox = xR g 0)
    (er1 : Rect.unit (s := S128x15104) oX S128x384.size hoX = xR g 1)
    (er2 : Rect.unit (s := S944x3840) os S24x3840.size hos = sR g 0)
    (er3 : Rect.unit (s := S944x3840) oS S24x3840.size hoS = sR g 1)
    (er4 : Rect.unit (s := S7552x3840) ow S384x3840.size how = wR g)
    (ec0 : 0 < (arg5.slice (Rect.unit (s := S128x15104) ox S128x384.size hox) (fun _ => rfl)).view.dmaCredit)
    (ec1 : 0 < (arg5.slice (Rect.unit (s := S128x15104) oX S128x384.size hoX) (fun _ => rfl)).view.dmaCredit)
    (ec2 : 0 < (arg7.slice (Rect.unit (s := S944x3840) os S24x3840.size hos) (fun _ => rfl)).view.dmaCredit)
    (ec3 : 0 < (arg7.slice (Rect.unit (s := S944x3840) oS S24x3840.size hoS) (fun _ => rfl)).view.dmaCredit)
    (ec4 : 0 < (arg6.slice (Rect.unit (s := S7552x3840) ow S384x3840.size how) (fun _ => rfl)).view.dmaCredit)
    (X : S128x15104.Idx → Elt F .bf16) (S : S944x3840.Idx → Elt F .fp8e4m3) (W : S7552x3840.Idx → Elt F .i8)
    (X' : S128x15104.Idx → Elt F .bf16) (S' : S944x3840.Idx → Elt F .fp8e4m3) (W' : S7552x3840.Idx → Elt F .i8)
    {k : PUnit → Prog (TpuEff nD τ sig (Elt F) Λ₀ .tc) α} :
    rest c arg0 arg1 arg2 arg5 arg6 arg7 X S W X' S' W' g ⊢ iprop((fly c arg0 arg1 arg2 arg5 arg6 arg7 X S W g -∗ WP c (k ⟨⟩) Q)
      -∗ WP c (fetchT (F := F) arg0 harg0 arg1 harg1 arg2 harg2 arg5 harg5 arg6 harg6 arg7 harg7 arg11 k0 hk0 k1 hk1 k2 hk2 k3 hk3 k4 hk4 ox hox wox oX hoX woX os hos wos oS hoS woS ow how wow >>= k) Q) := by
  unfold fetchT rest fly
  simp only [Prog.bind_lift, Prog.bind_op, bind_assoc, pure_bind]
  iintro ⟨⟨A0, A1, A2, A3, A4⟩, ⟨B0, B1, B2, B3, B4⟩, V0, V1, V2, V3, V4⟩ Hk
  iapply (wp_start c arg0 arg5 X X' (xR g 0) (Rect.unit (s := S128x15104) ox S128x384.size hox) (fun _ => rfl) (fun _ => rfl) er0 (semG g 0) (cellT arg11 k0 hk0) es0 ec0) $$ [A0 B0 V0]
  · isplitl [A0]; · iexact A0
    isplitl [B0]; · iexact B0
    iexact V0
  iintro H0
  iapply (wp_start c arg0 arg5 X X' (xR g 1) (Rect.unit (s := S128x15104) oX S128x384.size hoX) (fun _ => rfl) (fun _ => rfl) er1 (semG g 1) (cellT arg11 k1 hk1) es1 ec1) $$ [A1 B1 V1]
  · isplitl [A1]; · iexact A1
    isplitl [B1]; · iexact B1
    iexact V1
  iintro H1
  iapply (wp_start c arg2 arg7 S S' (sR g 0) (Rect.unit (s := S944x3840) os S24x3840.size hos) (fun _ => rfl) (fun _ => rfl) er2 (semG g 2) (cellT arg11 k2 hk2) es2 ec2) $$ [A2 B2 V2]
  · isplitl [A2]; · iexact A2
    isplitl [B2]; · iexact B2
    iexact V2
  iintro H2
  iapply (wp_start c arg2 arg7 S S' (sR g 1) (Rect.unit (s := S944x3840) oS S24x3840.size hoS) (fun _ => rfl) (fun _ => rfl) er3 (semG g 3) (cellT arg11 k3 hk3) es3 ec3) $$ [A3 B3 V3]
  · isplitl [A3]; · iexact A3
    isplitl [B3]; · iexact B3
    iexact V3
  iintro H3
  iapply (wp_start c arg1 arg6 W W' (wR g) (Rect.unit (s := S7552x3840) ow S384x3840.size how) (fun _ => rfl) (fun _ => rfl) er4 (semG g 4) (cellT arg11 k4 hk4) es4 ec4) $$ [A4 B4 V4]
  · isplitl [A4]; · iexact A4
    isplitl [B4]; · iexact B4
    iexact V4
  iintro H4
  iapply Hk
  isplitl [H0]; · iexact H0
  isplitl [H1]; · iexact H1
  isplitl [H2]; · iexact H2
  isplitl [H3]; · iexact H3
  iexact H4

theorem wp_awaitG (harg0 : arg0.IsWhole) (harg1 : arg1.IsWhole) (harg2 : arg2.IsWhole) (harg5 : arg5.IsWhole) (harg6 : arg6.IsWhole) (harg7 : arg7.IsWhole) (arg10 : DmaSems sig S7x5) (g : Fin 8)
    (k0 : Fin 2 → Nat) (hk0 : ∀ a, k0 a + S1x1.size a ≤ S7x5.size a)
    (k1 : Fin 2 → Nat) (hk1 : ∀ a, k1 a + S1x1.size a ≤ S7x5.size a)
    (k2 : Fin 2 → Nat) (hk2 : ∀ a, k2 a + S1x1.size a ≤ S7x5.size a)
    (k3 : Fin 2 → Nat) (hk3 : ∀ a, k3 a + S1x1.size a ≤ S7x5.size a)
    (k4 : Fin 2 → Nat) (hk4 : ∀ a, k4 a + S1x1.size a ≤ S7x5.size a)
    (ox : Fin 2 → Nat) (hox : ∀ a, ox a + S128x1024.size a ≤ S128x15104.size a) (wox : (Rect.unit (s := S128x15104) ox S128x1024.size hox).WholeWords (EltTy.packing .bf16))
    (oX : Fin 2 → Nat) (hoX : ∀ a, oX a + S128x1024.size a ≤ S128x15104.size a) (woX : (Rect.unit (s := S128x15104) oX S128x1024.size hoX).WholeWords (EltTy.packing .bf16))
    (os : Fin 2 → Nat) (hos : ∀ a, os a + S64x3840.size a ≤ S944x3840.size a) (wos : (Rect.unit (s := S944x3840) os S64x3840.size hos).WholeWords (EltTy.packing .fp8e4m3))
    (oS : Fin 2 → Nat) (hoS : ∀ a, oS a + S64x3840.size a ≤ S944x3840.size a) (woS : (Rect.unit (s := S944x3840) oS S64x3840.size hoS).WholeWords (EltTy.packing .fp8e4m3))
    (ow : Fin 2 → Nat) (how : ∀ a, ow a + S1024x3840.size a ≤ S7552x3840.size a) (wow : (Rect.unit (s := S7552x3840) ow S1024x3840.size how).WholeWords (EltTy.packing .i8))
    (es0 : cell5 arg10 k0 hk0 = semG g 0)
    (es1 : cell5 arg10 k1 hk1 = semG g 1)
    (es2 : cell5 arg10 k2 hk2 = semG g 2)
    (es3 : cell5 arg10 k3 hk3 = semG g 3)
    (es4 : cell5 arg10 k4 hk4 = semG g 4)
    (er0 : Rect.unit (s := S128x15104) ox S128x1024.size hox = xR g 0)
    (er1 : Rect.unit (s := S128x15104) oX S128x1024.size hoX = xR g 1)
    (er2 : Rect.unit (s := S944x3840) os S64x3840.size hos = sR g 0)
    (er3 : Rect.unit (s := S944x3840) oS S64x3840.size hoS = sR g 1)
    (er4 : Rect.unit (s := S7552x3840) ow S1024x3840.size how = wR g)
    (X : S128x15104.Idx → Elt F .bf16) (S : S944x3840.Idx → Elt F .fp8e4m3) (W : S7552x3840.Idx → Elt F .i8)
    {k : PUnit → Prog (TpuEff nD τ sig (Elt F) Λ₀ .tc) α} :
    iprop(fly c arg0 arg1 arg2 arg5 arg6 arg7 X S W g ∗ due c) ⊢ iprop((iprop(rest c arg0 arg1 arg2 arg5 arg6 arg7 X S W X S W g ∗ due c) -∗ WP c (k ⟨⟩) Q)
      -∗ WP c (awaitG (F := F) arg0 harg0 arg1 harg1 arg2 harg2 arg5 harg5 arg6 harg6 arg7 harg7 arg10 k0 hk0 k1 hk1 k2 hk2 k3 hk3 k4 hk4 ox hox wox oX hoX woX os hos wos oS hoS woS ow how wow >>= k) Q) := by
  unfold awaitG rest fly
  simp only [Prog.bind_lift, Prog.bind_op, bind_assoc, pure_bind]
  iintro ⟨⟨H0, H1, H2, H3, H4⟩, HO⟩ Hk
  iapply (wp_await c arg0 arg5 X (xR g 0) (Rect.unit (s := S128x15104) ox S128x1024.size hox) (fun _ => rfl) (fun _ => rfl) er0 (semG g 0) (cell5 arg10 k0 hk0) es0) $$ [H0 HO]
  · isplitl [H0]; · iexact H0
    iexact HO
  iintro ⟨B0, A0, V0, HO⟩
  iapply (wp_await c arg0 arg5 X (xR g 1) (Rect.unit (s := S128x15104) oX S128x1024.size hoX) (fun _ => rfl) (fun _ => rfl) er1 (semG g 1) (cell5 arg10 k1 hk1) es1) $$ [H1 HO]
  · isplitl [H1]; · iexact H1
    iexact HO
  iintro ⟨B1, A1, V1, HO⟩
  iapply (wp_await c arg2 arg7 S (sR g 0) (Rect.unit (s := S944x3840) os S64x3840.size hos) (fun _ => rfl) (fun _ => rfl) er2 (semG g 2) (cell5 arg10 k2 hk2) es2) $$ [H2 HO]
  · isplitl [H2]; · iexact H2
    iexact HO
  iintro ⟨B2, A2, V2, HO⟩
  iapply (wp_await c arg2 arg7 S (sR g 1) (Rect.unit (s := S944x3840) oS S64x3840.size hoS) (fun _ => rfl) (fun _ => rfl) er3 (semG g 3) (cell5 arg10 k3 hk3) es3) $$ [H3 HO]
  · isplitl [H3]; · iexact H3
    iexact HO
  iintro ⟨B3, A3, V3, HO⟩
  iapply (wp_await c arg1 arg6 W (wR g) (Rect.unit (s := S7552x3840) ow S1024x3840.size how) (fun _ => rfl) (fun _ => rfl) er4 (semG g 4) (cell5 arg10 k4 hk4) es4) $$ [H4 HO]
  · isplitl [H4]; · iexact H4
    iexact HO
  iintro ⟨B4, A4, V4, HO⟩
  iapply Hk
  isplitr [HO]
  · isplitl [A0 A1 A2 A3 A4]
    · isplitl [A0]; · iexact A0
      isplitl [A1]; · iexact A1
      isplitl [A2]; · iexact A2
      isplitl [A3]; · iexact A3
      iexact A4
    isplitl [B0 B1 B2 B3 B4]
    · isplitl [B0]; · iexact B0
      isplitl [B1]; · iexact B1
      isplitl [B2]; · iexact B2
      isplitl [B3]; · iexact B3
      iexact B4
    isplitl [V0]; · iexact V0
    isplitl [V1]; · iexact V1
    isplitl [V2]; · iexact V2
    isplitl [V3]; · iexact V3
    iexact V4
  iexact HO

theorem wp_awaitT (harg0 : arg0.IsWhole) (harg1 : arg1.IsWhole) (harg2 : arg2.IsWhole) (harg5 : arg5.IsWhole) (harg6 : arg6.IsWhole) (harg7 : arg7.IsWhole) (arg11 : DmaSems sig S5) (g : Fin 8)
    (k0 : Fin 1 → Nat) (hk0 : ∀ a, k0 a + S1.size a ≤ S5.size a)
    (k1 : Fin 1 → Nat) (hk1 : ∀ a, k1 a + S1.size a ≤ S5.size a)
    (k2 : Fin 1 → Nat) (hk2 : ∀ a, k2 a + S1.size a ≤ S5.size a)
    (k3 : Fin 1 → Nat) (hk3 : ∀ a, k3 a + S1.size a ≤ S5.size a)
    (k4 : Fin 1 → Nat) (hk4 : ∀ a, k4 a + S1.size a ≤ S5.size a)
    (ox : Fin 2 → Nat) (hox : ∀ a, ox a + S128x384.size a ≤ S128x15104.size a) (wox : (Rect.unit (s := S128x15104) ox S128x384.size hox).WholeWords (EltTy.packing .bf16))
    (oX : Fin 2 → Nat) (hoX : ∀ a, oX a + S128x384.size a ≤ S128x15104.size a) (woX : (Rect.unit (s := S128x15104) oX S128x384.size hoX).WholeWords (EltTy.packing .bf16))
    (os : Fin 2 → Nat) (hos : ∀ a, os a + S24x3840.size a ≤ S944x3840.size a) (wos : (Rect.unit (s := S944x3840) os S24x3840.size hos).WholeWords (EltTy.packing .fp8e4m3))
    (oS : Fin 2 → Nat) (hoS : ∀ a, oS a + S24x3840.size a ≤ S944x3840.size a) (woS : (Rect.unit (s := S944x3840) oS S24x3840.size hoS).WholeWords (EltTy.packing .fp8e4m3))
    (ow : Fin 2 → Nat) (how : ∀ a, ow a + S384x3840.size a ≤ S7552x3840.size a) (wow : (Rect.unit (s := S7552x3840) ow S384x3840.size how).WholeWords (EltTy.packing .i8))
    (es0 : cellT arg11 k0 hk0 = semG g 0)
    (es1 : cellT arg11 k1 hk1 = semG g 1)
    (es2 : cellT arg11 k2 hk2 = semG g 2)
    (es3 : cellT arg11 k3 hk3 = semG g 3)
    (es4 : cellT arg11 k4 hk4 = semG g 4)
    (er0 : Rect.unit (s := S128x15104) ox S128x384.size hox = xR g 0)
    (er1 : Rect.unit (s := S128x15104) oX S128x384.size hoX = xR g 1)
    (er2 : Rect.unit (s := S944x3840) os S24x3840.size hos = sR g 0)
    (er3 : Rect.unit (s := S944x3840) oS S24x3840.size hoS = sR g 1)
    (er4 : Rect.unit (s := S7552x3840) ow S384x3840.size how = wR g)
    (X : S128x15104.Idx → Elt F .bf16) (S : S944x3840.Idx → Elt F .fp8e4m3) (W : S7552x3840.Idx → Elt F .i8)
    {k : PUnit → Prog (TpuEff nD τ sig (Elt F) Λ₀ .tc) α} :
    iprop(fly c arg0 arg1 arg2 arg5 arg6 arg7 X S W g ∗ due c) ⊢ iprop((iprop(rest c arg0 arg1 arg2 arg5 arg6 arg7 X S W X S W g ∗ due c) -∗ WP c (k ⟨⟩) Q)
      -∗ WP c (awaitT (F := F) arg0 harg0 arg1 harg1 arg2 harg2 arg5 harg5 arg6 harg6 arg7 harg7 arg11 k0 hk0 k1 hk1 k2 hk2 k3 hk3 k4 hk4 ox hox wox oX hoX woX os hos wos oS hoS woS ow how wow >>= k) Q) := by
  unfold awaitT rest fly
  simp only [Prog.bind_lift, Prog.bind_op, bind_assoc, pure_bind]
  iintro ⟨⟨H0, H1, H2, H3, H4⟩, HO⟩ Hk
  iapply (wp_await c arg0 arg5 X (xR g 0) (Rect.unit (s := S128x15104) ox S128x384.size hox) (fun _ => rfl) (fun _ => rfl) er0 (semG g 0) (cellT arg11 k0 hk0) es0) $$ [H0 HO]
  · isplitl [H0]; · iexact H0
    iexact HO
  iintro ⟨B0, A0, V0, HO⟩
  iapply (wp_await c arg0 arg5 X (xR g 1) (Rect.unit (s := S128x15104) oX S128x384.size hoX) (fun _ => rfl) (fun _ => rfl) er1 (semG g 1) (cellT arg11 k1 hk1) es1) $$ [H1 HO]
  · isplitl [H1]; · iexact H1
    iexact HO
  iintro ⟨B1, A1, V1, HO⟩
  iapply (wp_await c arg2 arg7 S (sR g 0) (Rect.unit (s := S944x3840) os S24x3840.size hos) (fun _ => rfl) (fun _ => rfl) er2 (semG g 2) (cellT arg11 k2 hk2) es2) $$ [H2 HO]
  · isplitl [H2]; · iexact H2
    iexact HO
  iintro ⟨B2, A2, V2, HO⟩
  iapply (wp_await c arg2 arg7 S (sR g 1) (Rect.unit (s := S944x3840) oS S24x3840.size hoS) (fun _ => rfl) (fun _ => rfl) er3 (semG g 3) (cellT arg11 k3 hk3) es3) $$ [H3 HO]
  · isplitl [H3]; · iexact H3
    iexact HO
  iintro ⟨B3, A3, V3, HO⟩
  iapply (wp_await c arg1 arg6 W (wR g) (Rect.unit (s := S7552x3840) ow S384x3840.size how) (fun _ => rfl) (fun _ => rfl) er4 (semG g 4) (cellT arg11 k4 hk4) es4) $$ [H4 HO]
  · isplitl [H4]; · iexact H4
    iexact HO
  iintro ⟨B4, A4, V4, HO⟩
  iapply Hk
  isplitr [HO]
  · isplitl [A0 A1 A2 A3 A4]
    · isplitl [A0]; · iexact A0
      isplitl [A1]; · iexact A1
      isplitl [A2]; · iexact A2
      isplitl [A3]; · iexact A3
      iexact A4
    isplitl [B0 B1 B2 B3 B4]
    · isplitl [B0]; · iexact B0
      isplitl [B1]; · iexact B1
      isplitl [B2]; · iexact B2
      isplitl [B3]; · iexact B3
      iexact B4
    isplitl [V0]; · iexact V0
    isplitl [V1]; · iexact V1
    isplitl [V2]; · iexact V2
    isplitl [V3]; · iexact V3
    iexact V4
  iexact HO

end Cert.Kernel
-- ==== Proof.KModel.lean ====
module

public import proofs.«01_k».proof.Proof.KRes
public import Idealize.ShloMosaic.Lib.Mxu.PassChain
public import Idealize.ShloMosaic.Lib.Pipeline.FrameBody

@[expose] public section

set_option synthInstance.maxSize 4096

noncomputable section

namespace Cert.Kernel

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

/-! ## The contents of the accumulators -/

theorem fitsA (a : Fin 8) : Mxu.Fits (32 * a.val) 128 := by revert a; decide

/-- The sixteen accumulators: nothing, or a value. -/
abbrev Accs (F : FTy → Type) := Fin 2 → Fin 8 → Option (FVec F S128x256 .f32)

/-- A matrix unit with nothing staged whose accumulators are as `V` says. -/
structure Has (m : Mxu F) (V : Accs F) : Prop where
  reg : ∀ q r, m.reg q r = none
  dead : ∀ q a, V q a = none → ∀ r : Fin 128, m.live q (Mxu.row (fitsA a) r) = false
  alive : ∀ q a v, V q a = some v → (∀ r : Fin 128, m.live q (Mxu.row (fitsA a) r) = true) ∧ m.read q (32 * a.val) (fitsA a) = v

/-- A pass added to an accumulator. -/
def put (V : Accs F) (q : Fin 2) (a : Fin 8) (p : FVec F S128x256 .f32) : Accs F := fun q' a' =>
  if q' = q ∧ a' = a then some (match V q a with | none => p | some v => addf v p) else V q' a'

/-- An accumulator popped. -/
def drop (V : Accs F) (q : Fin 2) (a : Fin 8) : Accs F := fun q' a' => if q' = q ∧ a' = a then none else V q' a'

/-- What a pass of one weight tile deposits. -/
def passT (w : FVec F S256x256 .bf16) (x : FVec F S128x256 .bf16) : FVec F S128x256 .f32 :=
  Mxu.passOf false (w, x)

theorem row_ne (q q' : Fin 2) (a a' : Fin 8) (h : ¬ (q' = q ∧ a' = a)) (r : Fin 128) :
    ¬ (q' = q ∧ 4 * (32 * a.val) ≤ (Mxu.row (fitsA a') r).val ∧ (Mxu.row (fitsA a') r).val < 4 * (32 * a.val) + 128) := by
  rintro ⟨hq, h1, h2⟩
  refine h ⟨hq, Fin.ext ?_⟩
  have := r.isLt
  unfold Mxu.row at h1 h2
  simp only at h1 h2
  omega

theorem addr_ne (q q' : Fin 2) (a a' : Fin 8) (h : ¬ (q' = q ∧ a' = a)) :
    q' ≠ q ∨ 4 * (32 * a'.val) + 128 ≤ 4 * (32 * a.val) ∨ 4 * (32 * a.val) + 128 ≤ 4 * (32 * a'.val) := by
  by_cases hq : q' = q
  · right
    have : a'.val ≠ a.val := fun e => h ⟨hq, Fin.ext e⟩
    omega
  · exact .inl hq

theorem Has.uStep {m : Mxu F} {V : Accs F} (H : Has m V) (q : Fin 2) (a : Fin 8) (w : Vec F S128x256 .i8) (sl sh : Vec F S8x256 .fp8e4m3)
    (xl xh : Vec F S1x1x128x128 .bf16) :
    Has (uStep m q (32 * a.val) (fitsA a) w sl sh xl xh) (put V q a (passT (wTile w sl sh) (xTile xl xh))) := by
  have hr : ∀ q' r, (m.pushed q 0 false (wTile w sl sh)).reg q' r = none ∨ (q' = q ∧ r = 0) := by
    intro q' r
    by_cases h : q' = q ∧ r = 0
    · exact .inr h
    · exact .inl (by rw [Mxu.reg_pushed_ne (hne := h)]; exact H.reg _ _)
  refine ⟨?_, ?_, ?_⟩
  · intro q' r
    by_cases h : q' = q ∧ r = 0
    · obtain ⟨rfl, rfl⟩ := h
      exact Mxu.reg_accLhs ..
    · unfold Cert.Kernel.uStep
      rw [Mxu.reg_accLhs_ne (hne := h), Mxu.reg_pushed_ne (hne := h)]; exact H.reg _ _
  · intro q' a' hv r
    unfold put at hv
    by_cases h : q' = q ∧ a' = a
    · rw [if_pos h] at hv; cases hv
    · rw [if_neg h] at hv
      unfold Cert.Kernel.uStep
      rw [Mxu.live_accLhs, if_neg (row_ne q q' a a' h r), Mxu.live_pushed]
      exact H.dead _ _ hv r
  · intro q' a' v hv
    unfold put at hv
    by_cases h : q' = q ∧ a' = a
    · rw [if_pos h] at hv
      obtain ⟨rfl, rfl⟩ := h
      refine ⟨fun r => Mxu.live_accLhs_row .., ?_⟩
      cases hV : V q' a' with
      | none =>
        rw [hV] at hv
        have := Mxu.read_pushAcc_of_not_live q' 0 false _ (fitsA a') m (wTile w sl sh) (xTile xl xh) (H.reg _ _) (H.dead _ _ hV)
        exact this.trans (Option.some.inj hv)
      | some u =>
        rw [hV] at hv
        have := Mxu.read_pushAcc_of_live q' 0 false _ (fitsA a') m (wTile w sl sh) (xTile xl xh) (H.reg _ _) (H.alive _ _ _ hV).1
        rw [(H.alive _ _ _ hV).2] at this
        exact this.trans (Option.some.inj hv)
    · rw [if_neg h] at hv
      unfold Cert.Kernel.uStep
      refine ⟨fun r => ?_, ?_⟩
      · rw [Mxu.live_accLhs, if_neg (row_ne q q' a a' h r), Mxu.live_pushed]
        exact (H.alive _ _ _ hv).1 r
      · rw [Mxu.read_accLhs_ne (hne := addr_ne q q' a a' h), Mxu.read_pushed]
        exact (H.alive _ _ _ hv).2

theorem Has.pop {m : Mxu F} {V : Accs F} (H : Has m V) (q : Fin 2) (a : Fin 8) : Has (m.pop q (32 * a.val) 128 (fitsA a)) (drop V q a) := by
  refine ⟨fun q' r => H.reg q' r, ?_, ?_⟩
  · intro q' a' hv r
    by_cases h : q' = q ∧ a' = a
    · obtain ⟨rfl, rfl⟩ := h
      exact Mxu.live_pop_row ..
    · unfold drop at hv; rw [if_neg h] at hv
      rw [Mxu.live_pop, if_neg (row_ne q q' a a' h r)]
      exact H.dead _ _ hv r
  · intro q' a' v hv
    unfold drop at hv
    by_cases h : q' = q ∧ a' = a
    · rw [if_pos h] at hv; cases hv
    · rw [if_neg h] at hv
      refine ⟨fun r => ?_, ?_⟩
      · rw [Mxu.live_pop, if_neg (row_ne q q' a a' h r)]
        exact (H.alive _ _ _ hv).1 r
      · rw [Mxu.read_pop_ne (hne := addr_ne q q' a a' h)]
        exact (H.alive _ _ _ hv).2

theorem Has.init : Has (Mxu.init : Mxu F) (fun _ _ => none) :=
  ⟨fun _ _ => Mxu.reg_init .., fun _ _ _ _ => Mxu.live_init .., fun _ _ _ h => nomatch h⟩

theorem Has.drained {m : Mxu F} {V : Accs F} (H : Has m V) (hV : ∀ q a, V q a = none) : m.Drained := by
  refine ⟨fun q r => by rw [H.reg]; rfl, fun q R => ?_⟩
  have := H.dead q ⟨R.val / 128, by omega⟩ (hV _ _) ⟨R.val % 128, by omega⟩
  rw [← this]
  congr 1
  apply Fin.ext
  unfold Mxu.row
  simp only
  omega

/-! ## Tiles -/

variable (X : S128x15104.Idx → Elt F .bf16) (S : S944x3840.Idx → Elt F .fp8e4m3) (W : S7552x3840.Idx → Elt F .i8)

theorem wT_inb (c : Fin 59) (t : Fin 15) : ∀ a, (![128 * c.val, 256 * t.val] : Fin 2 → ℕ) a + S128x256.size a ≤ S7552x3840.size a := by
  rw [Fin.forall_fin_two]; constructor <;> simp <;> omega
theorem sT_inb (h : Fin 2) (c : Fin 59) (t : Fin 15) :
    ∀ a, (![472 * h.val + 8 * c.val, 256 * t.val] : Fin 2 → ℕ) a + S8x256.size a ≤ S944x3840.size a := by
  rw [Fin.forall_fin_two]; constructor <;> simp <;> omega
theorem xT_inb (h : Fin 2) (c : Fin 59) : ∀ a, (![0, 7552 * h.val + 128 * c.val] : Fin 2 → ℕ) a + S128x128.size a ≤ S128x15104.size a := by
  rw [Fin.forall_fin_two]; constructor <;> simp <;> omega
theorem pT_inb (h : Fin 2) (c : Fin 59) : ∀ a, (![c.val, h.val, 0, 0] : Fin 4 → ℕ) a + S1x1x128x128.size a ≤ S59x2x128x128.size a := by
  intro a; fin_cases a <;> simp <;> omega

/-- Packed weights of chunk `c` and result tile `t`. -/
def wT (c : Fin 59) (t : Fin 15) : Vec F S128x256 .i8 := fun i => W ((Rect.unit (s := S7552x3840) ![128 * c.val, 256 * t.val] S128x256.size (wT_inb c t)).emb i)
/-- Scales of half `h` of chunk `c` and result tile `t`. -/
def sT (h : Fin 2) (c : Fin 59) (t : Fin 15) : Vec F S8x256 .fp8e4m3 := fun i => S ((Rect.unit (s := S944x3840) ![472 * h.val + 8 * c.val, 256 * t.val] S8x256.size (sT_inb h c t)).emb i)
/-- Activations of half `h` of chunk `c`. -/
def xT (h : Fin 2) (c : Fin 59) : Vec F S128x128 .bf16 := fun i => X ((Rect.unit (s := S128x15104) ![0, 7552 * h.val + 128 * c.val] S128x128.size (xT_inb h c)).emb i)
/-- A tile of the interleaved activations. -/
def pT (A8 : S59x2x128x128.Idx → Elt F .bf16) (h : Fin 2) (c : Fin 59) : Vec F S1x1x128x128 .bf16 :=
  fun i => A8 ((Rect.unit (s := S59x2x128x128) ![c.val, h.val, 0, 0] S1x1x128x128.size (pT_inb h c)).emb i)

/-- The interleaved activations of chunk `c` are there. -/
def Good (A8 : S59x2x128x128.Idx → Elt F .bf16) (c : Fin 59) : Prop :=
  pT A8 0 c = xLo (xT X 0 c) (xT X 1 c) ∧ pT A8 1 c = xHi (xT X 0 c) (xT X 1 c)

/-- The pass of chunk `c` for result tile `t`. -/
def pass (c : Fin 59) (t : Fin 15) : FVec F S128x256 .f32 :=
  passT (wTile (wT W c t) (sT S 0 c t) (sT S 1 c t)) (xTile (xLo (xT X 0 c) (xT X 1 c)) (xHi (xT X 0 c) (xT X 1 c)))

/-- The rectangle of a tile of the interleaved activations. -/
abbrev pR (h : Fin 2) (c : Fin 59) : Rect S59x2x128x128 := Rect.unit (s := S59x2x128x128) ![c.val, h.val, 0, 0] S1x1x128x128.size (pT_inb h c)

theorem pT_self (A : S59x2x128x128.Idx → Elt F .bf16) (h : Fin 2) (c : Fin 59) (v : Vec F S1x1x128x128 .bf16) : pT ((pR h c).overlay A v) h c = v := by
  unfold pT
  exact funext (fun i => Rect.overlay_emb (pR h c) A v i)

theorem pR_off (h h' : Fin 2) (c c' : Fin 59) (hne : c' ≠ c ∨ h' ≠ h) (i : (pR h' c').shape.Idx) : (pR h' c').emb i ∉ (pR h c).set := by
  intro hm
  rw [← Rect.map_emb_univ, Finset.mem_map] at hm
  obtain ⟨j, -, hj⟩ := hm
  have i0 : (i 0).val < 1 := (i 0).isLt
  have j0 : (j 0).val < 1 := (j 0).isLt
  have i1 : (i 1).val < 1 := (i 1).isLt
  have j1 : (j 1).val < 1 := (j 1).isLt
  have e0 : c.val + 1 * (j 0).val = c'.val + 1 * (i 0).val := congrArg Fin.val (congrFun hj 0)
  have e1 : h.val + 1 * (j 1).val = h'.val + 1 * (i 1).val := congrArg Fin.val (congrFun hj 1)
  rcases hne with h | h
  · exact h (Fin.ext (by omega))
  · exact h (Fin.ext (by omega))

theorem pT_off (A : S59x2x128x128.Idx → Elt F .bf16) (h h' : Fin 2) (c c' : Fin 59) (v : Vec F S1x1x128x128 .bf16) (hne : c' ≠ c ∨ h' ≠ h) :
    pT ((pR h c).overlay A v) h' c' = pT A h' c' := by
  unfold pT
  exact funext (fun i => Rect.overlay_of_not_mem (pR h c) A v (pR_off h h' c c' hne i))

theorem good_fill (A8 : S59x2x128x128.Idx → Elt F .bf16) (c : Fin 59) :
    Good X ((pR 1 c).overlay ((pR 0 c).overlay A8 (xLo (xT X 0 c) (xT X 1 c))) (xHi (xT X 0 c) (xT X 1 c))) c
    ∧ ∀ c' : Fin 59, Good X A8 c' → Good X ((pR 1 c).overlay ((pR 0 c).overlay A8 (xLo (xT X 0 c) (xT X 1 c))) (xHi (xT X 0 c) (xT X 1 c))) c' := by
  have hg : Good X ((pR 1 c).overlay ((pR 0 c).overlay A8 (xLo (xT X 0 c) (xT X 1 c))) (xHi (xT X 0 c) (xT X 1 c))) c :=
    ⟨(pT_off _ 1 0 c c _ (.inr (by decide))).trans (pT_self _ 0 _ _), pT_self _ 1 _ _⟩
  refine ⟨hg, fun c' hc' => ?_⟩
  by_cases h : c' = c
  · rw [h]; exact hg
  · exact ⟨((pT_off _ 1 0 c c' _ (.inl h)).trans (pT_off _ 0 0 c c' _ (.inl h))).trans hc'.1,
      ((pT_off _ 1 1 c c' _ (.inl h)).trans (pT_off _ 0 1 c c' _ (.inl h))).trans hc'.2⟩

theorem sub_unit {s : Shape} {o1 n1 : Fin s.rank → ℕ} {h1 : ∀ a, o1 a + n1 a ≤ s.size a} {o2 n2 : Fin s.rank → ℕ} {h2 : ∀ a, o2 a + n2 a ≤ s.size a}
    (hle : ∀ a, o2 a ≤ o1 a ∧ o1 a + n1 a ≤ o2 a + n2 a) :
    ∀ i, ∃ j, (Rect.unit (s := s) o1 n1 h1).emb i = (Rect.unit (s := s) o2 n2 h2).emb j := by
  intro i
  refine ⟨fun a => ⟨o1 a - o2 a + (i a).val, ?_⟩, ?_⟩
  · have h := hle a
    have hi : (i a).val < n1 a := (i a).isLt
    show _ < n2 a
    omega
  · funext a
    apply Fin.ext
    have h := hle a
    show o1 a + 1 * (i a).val = o2 a + 1 * (o1 a - o2 a + (i a).val)
    omega

variable (d : Dev nD) {α : Type} {Q : α → sProp (MT nD τ sig Unit (Elt F) ℕ (Pipeline.UD sig nD τ) ℕ)}
variable (arg0 : Memref sig .tc .hbm S128x15104 .bf16) (arg1 : Memref sig .tc .hbm S7552x3840 .i8) (arg2 : Memref sig .tc .hbm S944x3840 .fp8e4m3)
variable (arg5 : Memref sig .tc .vmem S128x15104 .bf16) (arg6 : Memref sig .tc .vmem S7552x3840 .i8) (arg7 : Memref sig .tc .vmem S944x3840 .fp8e4m3)
variable (arg8 : Memref sig .tc .vmem S59x2x128x128 .bf16)

theorem wp_step (m : Mxu F) (q : Fin 2) (A : Nat) (hA : Mxu.Fits A 128)
    (ow : Fin 2 → Nat) (hw : ∀ a, ow a + S128x256.size a ≤ S7552x3840.size a)
    (ol : Fin 2 → Nat) (hl : ∀ a, ol a + S8x256.size a ≤ S944x3840.size a)
    (oh : Fin 2 → Nat) (hh : ∀ a, oh a + S8x256.size a ≤ S944x3840.size a)
    (o0 : Fin 4 → Nat) (h0 : ∀ a, o0 a + S1x1x128x128.size a ≤ S59x2x128x128.size a)
    (o1 : Fin 4 → Nat) (h1 : ∀ a, o1 a + S1x1x128x128.size a ≤ S59x2x128x128.size a)
    (V : Accs F) (H : Has m V) (g : Fin 8) (c : Fin 59) (t : Fin 15) (a : Fin 8) (hc : 8 * g.val ≤ c.val ∧ c.val < 8 * g.val + 8)
    (eA : A = 32 * a.val) (ew : ow = ![128 * c.val, 256 * t.val]) (el : ol = ![8 * c.val, 256 * t.val]) (eh : oh = ![472 + 8 * c.val, 256 * t.val])
    (e0 : o0 = ![c.val, 0, 0, 0]) (e1 : o1 = ![c.val, 1, 0, 0])
    (A8 : S59x2x128x128.Idx → Elt F .bf16) (hG : Good X A8 c)
    {k : Mxu F → Prog (TpuEff nD τ sig (Elt F) Λ₀ .tc) α} :
    iprop(rest d arg0 arg1 arg2 arg5 arg6 arg7 X S W X S W g ∗ owns (d : Thread nD τ) arg8 fullShare A8)
    ⊢ iprop((∀ m' : Mxu F, ⌜Has m' (put V q a (pass X S W c t))⌝
          -∗ iprop(rest d arg0 arg1 arg2 arg5 arg6 arg7 X S W X S W g ∗ owns (d : Thread nD τ) arg8 fullShare A8) -∗ WP d (k m') Q)
      -∗ WP d (unit arg6 arg7 arg8 m q A hA ow hw ol hl oh hh o0 h0 o1 h1 >>= k) Q) := by
  subst eA
  subst ew
  have el' : ol = ![472 * (0 : Fin 2).val + 8 * c.val, 256 * t.val] := by rw [el]; simp
  have eh' : oh = ![472 * (1 : Fin 2).val + 8 * c.val, 256 * t.val] := by rw [eh]; simp
  have e0' : o0 = ![c.val, (0 : Fin 2).val, 0, 0] := e0
  have e1' : o1 = ![c.val, (1 : Fin 2).val, 0, 0] := e1
  clear el eh e0 e1
  subst el' eh' e0' e1'
  have hx : xLen g = if g.val = 7 then 384 else 1024 := rfl
  have hs : sLen g = if g.val = 7 then 24 else 64 := rfl
  have hcl := c.isLt
  have htl := t.isLt
  unfold rest pc
  iintro ⟨⟨Hs, ⟨B0, B1, B2, B3, B4⟩, Hv⟩, H8⟩ Hk
  iapply (wp_unit d arg6 arg7 arg8 m q _ hA _ hw _ hl _ hh _ h0 _ h1 (H.reg _ _) (wR g) (fun _ => rfl)
    (sub_unit (by rw [Fin.forall_fin_two]; constructor <;> simp [hx] <;> (try split_ifs) <;> omega))
    (sR g 0) (fun _ => rfl) (sub_unit (by rw [Fin.forall_fin_two]; constructor <;> simp [hs] <;> (try split_ifs) <;> omega))
    (sR g 1) (fun _ => rfl) (sub_unit (by rw [Fin.forall_fin_two]; constructor <;> simp [hs] <;> (try split_ifs) <;> omega)) W S A8) $$ [B4 B2 B3 H8]
  · isplitl [B4]; · iexact B4
    isplitl [B2]; · iexact B2
    isplitl [B3]; · iexact B3
    iexact H8
  iintro ⟨B4, B2, B3, H8⟩
  iapply Hk
  · ipureintro
    have := H.uStep q a (wT W c t) (sT S 0 c t) (sT S 1 c t) (pT A8 0 c) (pT A8 1 c)
    have e : passT (wTile (wT W c t) (sT S 0 c t) (sT S 1 c t)) (xTile (pT A8 0 c) (pT A8 1 c)) = pass X S W c t := by
      rw [hG.1, hG.2]; rfl
    rw [e] at this
    exact this
  isplitr [H8]
  · isplitl [Hs]; · iexact Hs
    isplitr [Hv]
    · isplitl [B0]; · iexact B0
      isplitl [B1]; · iexact B1
      isplitl [B2]; · iexact B2
      isplitl [B3]; · iexact B3
      iexact B4
    iexact Hv
  iexact H8

theorem wp_fill (harg8 : arg8.IsWhole)
    (ol : Fin 2 → Nat) (hl : ∀ a, ol a + S128x128.size a ≤ S128x15104.size a)
    (oh : Fin 2 → Nat) (hh : ∀ a, oh a + S128x128.size a ≤ S128x15104.size a)
    (o0 : Fin 4 → Nat) (h0 : ∀ a, o0 a + S1x1x128x128.size a ≤ S59x2x128x128.size a)
    (hp0 : (Rect.unit (s := S59x2x128x128) o0 S1x1x128x128.size h0).PackedRows (EltTy.packing .bf16))
    (o1 : Fin 4 → Nat) (h1 : ∀ a, o1 a + S1x1x128x128.size a ≤ S59x2x128x128.size a)
    (hp1 : (Rect.unit (s := S59x2x128x128) o1 S1x1x128x128.size h1).PackedRows (EltTy.packing .bf16))
    (g : Fin 8) (c : Fin 59) (hc : 8 * g.val ≤ c.val ∧ c.val < 8 * g.val + 8)
    (el : ol = ![0, 128 * c.val]) (eh : oh = ![0, 7552 + 128 * c.val])
    (e0 : o0 = ![c.val, 0, 0, 0]) (e1 : o1 = ![c.val, 1, 0, 0])
    (A8 : S59x2x128x128.Idx → Elt F .bf16)
    {k : PUnit → Prog (TpuEff nD τ sig (Elt F) Λ₀ .tc) α} :
    iprop(rest d arg0 arg1 arg2 arg5 arg6 arg7 X S W X S W g ∗ owns (d : Thread nD τ) arg8 fullShare A8)
    ⊢ iprop((∀ A8', ⌜Good X A8' c ∧ ∀ c' : Fin 59, Good X A8 c' → Good X A8' c'⌝
          -∗ iprop(rest d arg0 arg1 arg2 arg5 arg6 arg7 X S W X S W g ∗ owns (d : Thread nD τ) arg8 fullShare A8') -∗ WP d (k ⟨⟩) Q)
      -∗ WP d (ileave arg5 arg8 harg8 ol hl oh hh o0 h0 hp0 o1 h1 hp1 >>= k) Q) := by
  have el' : ol = ![0, 7552 * (0 : Fin 2).val + 128 * c.val] := by rw [el]; simp
  have eh' : oh = ![0, 7552 * (1 : Fin 2).val + 128 * c.val] := by rw [eh]; simp
  have e0' : o0 = ![c.val, (0 : Fin 2).val, 0, 0] := e0
  have e1' : o1 = ![c.val, (1 : Fin 2).val, 0, 0] := e1
  clear el eh e0 e1
  subst el' eh' e0' e1'
  have hx : xLen g = if g.val = 7 then 384 else 1024 := rfl
  have hcl := c.isLt
  unfold rest pc
  iintro ⟨⟨Hs, ⟨B0, B1, B2, B3, B4⟩, Hv⟩, H8⟩ Hk
  iapply (wp_ileave d arg5 arg8 harg8 _ hl _ hh _ h0 hp0 _ h1 hp1 (xR g 0) (fun _ => rfl)
    (sub_unit (by rw [Fin.forall_fin_two]; constructor <;> simp [hx] <;> (try split_ifs) <;> omega))
    (xR g 1) (fun _ => rfl) (sub_unit (by rw [Fin.forall_fin_two]; constructor <;> simp [hx] <;> (try split_ifs) <;> omega)) X A8) $$ [B0 B1 H8]
  · isplitl [B0]; · iexact B0
    isplitl [B1]; · iexact B1
    iexact H8
  iintro ⟨B0, B1, H8⟩
  iapply Hk
  · ipureintro
    exact good_fill X A8 c
  isplitr [H8]
  · isplitl [Hs]; · iexact Hs
    isplitr [Hv]
    · isplitl [B0]; · iexact B0
      isplitl [B1]; · iexact B1
      isplitl [B2]; · iexact B2
      isplitl [B3]; · iexact B3
      iexact B4
    iexact Hv
  iexact H8

end Cert.Kernel
-- ==== Proof.KTrip.lean ====
module

public import proofs.«01_k».proof.Proof.KModel
public import Idealize.ShloMosaic.Lib.Scf
public import Idealize.ShloMosaic.Lib.Pipeline.FrameBody

@[expose] public section

set_option synthInstance.maxSize 4096

noncomputable section

namespace Cert.Kernel

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

/-! ## The offsets of a trip -/

/-- The chunk of trip `k` and place `j`. -/
def cI (k : Fin 7) (j : Fin 8) : Fin 59 := ⟨8 * k.val + j.val, by omega⟩

theorem e_off9 : ∀ (k : Fin 7) (j : Fin 8), k0_off9 k (BitVec.ofNat 32 j.val) = ![0, 128 * (cI k j).val] := by decide
theorem e_off10 : ∀ (k : Fin 7) (j : Fin 8), k0_off10 k (BitVec.ofNat 32 j.val) = ![0, 7552 + 128 * (cI k j).val] := by decide
theorem e_off11 : ∀ (k : Fin 7) (j : Fin 8), k0_off11 k (BitVec.ofNat 32 j.val) = ![(cI k j).val, 0, 0, 0] := by decide
theorem e_off12 : ∀ (k : Fin 7) (j : Fin 8), k0_off12 k (BitVec.ofNat 32 j.val) = ![(cI k j).val, 1, 0, 0] := by decide
theorem e_off13 : ∀ (k : Fin 7) (j : Fin 8), k0_off13 k (BitVec.ofNat 32 j.val) = ![128 * (cI k j).val, 256 * (0 : Fin 15).val] := by decide
theorem e_off14l : ∀ (k : Fin 7) (j : Fin 8), k0_off14 k 0#32 (BitVec.ofNat 32 j.val) = ![8 * (cI k j).val, 256 * (0 : Fin 15).val] := by decide
theorem e_off14h : ∀ (k : Fin 7) (j : Fin 8), k0_off14 k 472#32 (BitVec.ofNat 32 j.val) = ![472 + 8 * (cI k j).val, 256 * (0 : Fin 15).val] := by decide
theorem e_off15 : ∀ (k : Fin 7) (j : Fin 8), k0_off15 k (BitVec.ofNat 32 j.val) = ![128 * (cI k j).val, 256 * (1 : Fin 15).val] := by decide
theorem e_off16l : ∀ (k : Fin 7) (j : Fin 8), k0_off16 k 0#32 (BitVec.ofNat 32 j.val) = ![8 * (cI k j).val, 256 * (1 : Fin 15).val] := by decide
theorem e_off16h : ∀ (k : Fin 7) (j : Fin 8), k0_off16 k 472#32 (BitVec.ofNat 32 j.val) = ![472 + 8 * (cI k j).val, 256 * (1 : Fin 15).val] := by decide
theorem e_off17 : ∀ (k : Fin 7) (j : Fin 8), k0_off17 k (BitVec.ofNat 32 j.val) = ![128 * (cI k j).val, 256 * (2 : Fin 15).val] := by decide
theorem e_off18l : ∀ (k : Fin 7) (j : Fin 8), k0_off18 k 0#32 (BitVec.ofNat 32 j.val) = ![8 * (cI k j).val, 256 * (2 : Fin 15).val] := by decide
theorem e_off18h : ∀ (k : Fin 7) (j : Fin 8), k0_off18 k 472#32 (BitVec.ofNat 32 j.val) = ![472 + 8 * (cI k j).val, 256 * (2 : Fin 15).val] := by decide
theorem e_off19 : ∀ (k : Fin 7) (j : Fin 8), k0_off19 k (BitVec.ofNat 32 j.val) = ![128 * (cI k j).val, 256 * (3 : Fin 15).val] := by decide
theorem e_off20l : ∀ (k : Fin 7) (j : Fin 8), k0_off20 k 0#32 (BitVec.ofNat 32 j.val) = ![8 * (cI k j).val, 256 * (3 : Fin 15).val] := by decide
theorem e_off20h : ∀ (k : Fin 7) (j : Fin 8), k0_off20 k 472#32 (BitVec.ofNat 32 j.val) = ![472 + 8 * (cI k j).val, 256 * (3 : Fin 15).val] := by decide
theorem e_off21 : ∀ (k : Fin 7) (j : Fin 8), k0_off21 k (BitVec.ofNat 32 j.val) = ![128 * (cI k j).val, 256 * (4 : Fin 15).val] := by decide
theorem e_off22l : ∀ (k : Fin 7) (j : Fin 8), k0_off22 k 0#32 (BitVec.ofNat 32 j.val) = ![8 * (cI k j).val, 256 * (4 : Fin 15).val] := by decide
theorem e_off22h : ∀ (k : Fin 7) (j : Fin 8), k0_off22 k 472#32 (BitVec.ofNat 32 j.val) = ![472 + 8 * (cI k j).val, 256 * (4 : Fin 15).val] := by decide
theorem e_off23 : ∀ (k : Fin 7) (j : Fin 8), k0_off23 k (BitVec.ofNat 32 j.val) = ![128 * (cI k j).val, 256 * (5 : Fin 15).val] := by decide
theorem e_off24l : ∀ (k : Fin 7) (j : Fin 8), k0_off24 k 0#32 (BitVec.ofNat 32 j.val) = ![8 * (cI k j).val, 256 * (5 : Fin 15).val] := by decide
theorem e_off24h : ∀ (k : Fin 7) (j : Fin 8), k0_off24 k 472#32 (BitVec.ofNat 32 j.val) = ![472 + 8 * (cI k j).val, 256 * (5 : Fin 15).val] := by decide
theorem e_off25 : ∀ (k : Fin 7) (j : Fin 8), k0_off25 k (BitVec.ofNat 32 j.val) = ![128 * (cI k j).val, 256 * (6 : Fin 15).val] := by decide
theorem e_off26l : ∀ (k : Fin 7) (j : Fin 8), k0_off26 k 0#32 (BitVec.ofNat 32 j.val) = ![8 * (cI k j).val, 256 * (6 : Fin 15).val] := by decide
theorem e_off26h : ∀ (k : Fin 7) (j : Fin 8), k0_off26 k 472#32 (BitVec.ofNat 32 j.val) = ![472 + 8 * (cI k j).val, 256 * (6 : Fin 15).val] := by decide
theorem e_off27 : ∀ (k : Fin 7) (j : Fin 8), k0_off27 k (BitVec.ofNat 32 j.val) = ![128 * (cI k j).val, 256 * (7 : Fin 15).val] := by decide
theorem e_off28l : ∀ (k : Fin 7) (j : Fin 8), k0_off28 k 0#32 (BitVec.ofNat 32 j.val) = ![8 * (cI k j).val, 256 * (7 : Fin 15).val] := by decide
theorem e_off28h : ∀ (k : Fin 7) (j : Fin 8), k0_off28 k 472#32 (BitVec.ofNat 32 j.val) = ![472 + 8 * (cI k j).val, 256 * (7 : Fin 15).val] := by decide
theorem e_off29 : ∀ (k : Fin 7) (j : Fin 8), k0_off29 k (BitVec.ofNat 32 j.val) = ![128 * (cI k j).val, 256 * (8 : Fin 15).val] := by decide
theorem e_off30l : ∀ (k : Fin 7) (j : Fin 8), k0_off30 k 0#32 (BitVec.ofNat 32 j.val) = ![8 * (cI k j).val, 256 * (8 : Fin 15).val] := by decide
theorem e_off30h : ∀ (k : Fin 7) (j : Fin 8), k0_off30 k 472#32 (BitVec.ofNat 32 j.val) = ![472 + 8 * (cI k j).val, 256 * (8 : Fin 15).val] := by decide
theorem e_off31 : ∀ (k : Fin 7) (j : Fin 8), k0_off31 k (BitVec.ofNat 32 j.val) = ![128 * (cI k j).val, 256 * (9 : Fin 15).val] := by decide
theorem e_off32l : ∀ (k : Fin 7) (j : Fin 8), k0_off32 k 0#32 (BitVec.ofNat 32 j.val) = ![8 * (cI k j).val, 256 * (9 : Fin 15).val] := by decide
theorem e_off32h : ∀ (k : Fin 7) (j : Fin 8), k0_off32 k 472#32 (BitVec.ofNat 32 j.val) = ![472 + 8 * (cI k j).val, 256 * (9 : Fin 15).val] := by decide
theorem e_off33 : ∀ (k : Fin 7) (j : Fin 8), k0_off33 k (BitVec.ofNat 32 j.val) = ![128 * (cI k j).val, 256 * (10 : Fin 15).val] := by decide
theorem e_off34l : ∀ (k : Fin 7) (j : Fin 8), k0_off34 k 0#32 (BitVec.ofNat 32 j.val) = ![8 * (cI k j).val, 256 * (10 : Fin 15).val] := by decide
theorem e_off34h : ∀ (k : Fin 7) (j : Fin 8), k0_off34 k 472#32 (BitVec.ofNat 32 j.val) = ![472 + 8 * (cI k j).val, 256 * (10 : Fin 15).val] := by decide
theorem e_off35 : ∀ (k : Fin 7) (j : Fin 8), k0_off35 k (BitVec.ofNat 32 j.val) = ![128 * (cI k j).val, 256 * (11 : Fin 15).val] := by decide
theorem e_off36l : ∀ (k : Fin 7) (j : Fin 8), k0_off36 k 0#32 (BitVec.ofNat 32 j.val) = ![8 * (cI k j).val, 256 * (11 : Fin 15).val] := by decide
theorem e_off36h : ∀ (k : Fin 7) (j : Fin 8), k0_off36 k 472#32 (BitVec.ofNat 32 j.val) = ![472 + 8 * (cI k j).val, 256 * (11 : Fin 15).val] := by decide
theorem e_off37 : ∀ (k : Fin 7) (j : Fin 8), k0_off37 k (BitVec.ofNat 32 j.val) = ![128 * (cI k j).val, 256 * (12 : Fin 15).val] := by decide
theorem e_off38l : ∀ (k : Fin 7) (j : Fin 8), k0_off38 k 0#32 (BitVec.ofNat 32 j.val) = ![8 * (cI k j).val, 256 * (12 : Fin 15).val] := by decide
theorem e_off38h : ∀ (k : Fin 7) (j : Fin 8), k0_off38 k 472#32 (BitVec.ofNat 32 j.val) = ![472 + 8 * (cI k j).val, 256 * (12 : Fin 15).val] := by decide
theorem e_off39 : ∀ (k : Fin 7) (j : Fin 8), k0_off39 k (BitVec.ofNat 32 j.val) = ![128 * (cI k j).val, 256 * (13 : Fin 15).val] := by decide
theorem e_off40l : ∀ (k : Fin 7) (j : Fin 8), k0_off40 k 0#32 (BitVec.ofNat 32 j.val) = ![8 * (cI k j).val, 256 * (13 : Fin 15).val] := by decide
theorem e_off40h : ∀ (k : Fin 7) (j : Fin 8), k0_off40 k 472#32 (BitVec.ofNat 32 j.val) = ![472 + 8 * (cI k j).val, 256 * (13 : Fin 15).val] := by decide
theorem e_off41 : ∀ (k : Fin 7) (j : Fin 8), k0_off41 k (BitVec.ofNat 32 j.val) = ![128 * (cI k j).val, 256 * (14 : Fin 15).val] := by decide
theorem e_off42l : ∀ (k : Fin 7) (j : Fin 8), k0_off42 k 0#32 (BitVec.ofNat 32 j.val) = ![8 * (cI k j).val, 256 * (14 : Fin 15).val] := by decide
theorem e_off42h : ∀ (k : Fin 7) (j : Fin 8), k0_off42 k 472#32 (BitVec.ofNat 32 j.val) = ![472 + 8 * (cI k j).val, 256 * (14 : Fin 15).val] := by decide

/-! ## The accumulators' contents, step by step -/

variable (X : S128x15104.Idx → Elt F .bf16) (S : S944x3840.Idx → Elt F .fp8e4m3) (W : S7552x3840.Idx → Elt F .i8)

/-- The unit that computes a chunk of a result tile: tiles alternate, and the last one alternates by chunks. -/
def qOf (c : Fin 59) (t : Fin 15) : Fin 2 := if t.val = 14 then ⟨c.val % 2, Nat.mod_lt _ (by decide)⟩ else ⟨t.val % 2, Nat.mod_lt _ (by decide)⟩
/-- The accumulator of a result tile. -/
def aOf (t : Fin 15) : Fin 8 := ⟨t.val / 2, by omega⟩

/-- One pass. -/
def stepV (V : Accs F) (c : Fin 59) (t : Fin 15) : Accs F := put V (qOf c t) (aOf t) (pass X S W c t)

/-- The fifteen passes of a chunk. -/
def chunkV (V : Accs F) (c : Fin 59) : Accs F :=
  stepV X S W (stepV X S W (stepV X S W (stepV X S W (stepV X S W (stepV X S W (stepV X S W (stepV X S W (stepV X S W (stepV X S W (stepV X S W (stepV X S W (stepV X S W (stepV X S W (stepV X S W V c 0) c 1) c 2) c 3) c 4) c 5) c 6) c 7) c 8) c 9) c 10) c 11) c 12) c 13) c 14

/-- The eight chunks of a trip. -/
def tripV (V : Accs F) (k : Fin 7) : Accs F :=
  chunkV X S W (chunkV X S W (chunkV X S W (chunkV X S W (chunkV X S W (chunkV X S W (chunkV X S W (chunkV X S W V (cI k 0)) (cI k 1)) (cI k 2)) (cI k 3)) (cI k 4)) (cI k 5)) (cI k 6)) (cI k 7)

variable (d : Dev nD) {α : Type} {Q : α → sProp (MT nD τ sig Unit (Elt F) ℕ (Pipeline.UD sig nD τ) ℕ)}
variable (arg0 : Memref sig .tc .hbm S128x15104 .bf16) (arg1 : Memref sig .tc .hbm S7552x3840 .i8) (arg2 : Memref sig .tc .hbm S944x3840 .fp8e4m3)
variable (arg5 : Memref sig .tc .vmem S128x15104 .bf16) (arg6 : Memref sig .tc .vmem S7552x3840 .i8) (arg7 : Memref sig .tc .vmem S944x3840 .fp8e4m3)
variable (arg8 : Memref sig .tc .vmem S59x2x128x128 .bf16)

theorem wp_blk (m : Mxu F) (k : Fin 7) (jb : BitVec 32) (j : Fin 8) (hj : jb = BitVec.ofNat 32 j.val) (q : Fin 2) (hq : q = qOf (cI k j) 14)
    (V : Accs F) (H : Has m V) (A8 : S59x2x128x128.Idx → Elt F .bf16) (hG : Good X A8 (cI k j))
    {kk : Mxu F → Prog (TpuEff nD τ sig (Elt F) Λ₀ .tc) α} :
    iprop(rest d arg0 arg1 arg2 arg5 arg6 arg7 X S W X S W k.castSucc ∗ owns (d : Thread nD τ) arg8 fullShare A8)
    ⊢ iprop((∀ m' : Mxu F, ⌜Has m' (chunkV X S W V (cI k j))⌝
          -∗ iprop(rest d arg0 arg1 arg2 arg5 arg6 arg7 X S W X S W k.castSucc ∗ owns (d : Thread nD τ) arg8 fullShare A8) -∗ WP d (kk m') Q)
      -∗ WP d (blk arg6 arg7 arg8 m k jb j hj q >>= kk) Q) := by
  subst hj
  have hc : 8 * (k.castSucc).val ≤ (cI k j).val ∧ (cI k j).val < 8 * (k.castSucc).val + 8 := by
    unfold cI; simp only [Fin.val_castSucc]; omega
  unfold blk
  simp only [bind_assoc, pure_bind]
  iintro HR Hk
  iapply (wp_step X S W d arg0 arg1 arg2 arg5 arg6 arg7 arg8 m 0 _ _ _ _ _ _ _ _ _ _ _ _ _ H k.castSucc (cI k j) 0 0 hc rfl (e_off13 k j) (e_off14l k j) (e_off14h k j) (e_off11 k j) (e_off12 k j) A8 hG) $$ HR
  iintro %m1 %H1 HR
  iapply (wp_step X S W d arg0 arg1 arg2 arg5 arg6 arg7 arg8 m1 1 _ _ _ _ _ _ _ _ _ _ _ _ _ H1 k.castSucc (cI k j) 1 0 hc rfl (e_off15 k j) (e_off16l k j) (e_off16h k j) (e_off11 k j) (e_off12 k j) A8 hG) $$ HR
  iintro %m2 %H2 HR
  iapply (wp_step X S W d arg0 arg1 arg2 arg5 arg6 arg7 arg8 m2 0 _ _ _ _ _ _ _ _ _ _ _ _ _ H2 k.castSucc (cI k j) 2 1 hc rfl (e_off17 k j) (e_off18l k j) (e_off18h k j) (e_off11 k j) (e_off12 k j) A8 hG) $$ HR
  iintro %m3 %H3 HR
  iapply (wp_step X S W d arg0 arg1 arg2 arg5 arg6 arg7 arg8 m3 1 _ _ _ _ _ _ _ _ _ _ _ _ _ H3 k.castSucc (cI k j) 3 1 hc rfl (e_off19 k j) (e_off20l k j) (e_off20h k j) (e_off11 k j) (e_off12 k j) A8 hG) $$ HR
  iintro %m4 %H4 HR
  iapply (wp_step X S W d arg0 arg1 arg2 arg5 arg6 arg7 arg8 m4 0 _ _ _ _ _ _ _ _ _ _ _ _ _ H4 k.castSucc (cI k j) 4 2 hc rfl (e_off21 k j) (e_off22l k j) (e_off22h k j) (e_off11 k j) (e_off12 k j) A8 hG) $$ HR
  iintro %m5 %H5 HR
  iapply (wp_step X S W d arg0 arg1 arg2 arg5 arg6 arg7 arg8 m5 1 _ _ _ _ _ _ _ _ _ _ _ _ _ H5 k.castSucc (cI k j) 5 2 hc rfl (e_off23 k j) (e_off24l k j) (e_off24h k j) (e_off11 k j) (e_off12 k j) A8 hG) $$ HR
  iintro %m6 %H6 HR
  iapply (wp_step X S W d arg0 arg1 arg2 arg5 arg6 arg7 arg8 m6 0 _ _ _ _ _ _ _ _ _ _ _ _ _ H6 k.castSucc (cI k j) 6 3 hc rfl (e_off25 k j) (e_off26l k j) (e_off26h k j) (e_off11 k j) (e_off12 k j) A8 hG) $$ HR
  iintro %m7 %H7 HR
  iapply (wp_step X S W d arg0 arg1 arg2 arg5 arg6 arg7 arg8 m7 1 _ _ _ _ _ _ _ _ _ _ _ _ _ H7 k.castSucc (cI k j) 7 3 hc rfl (e_off27 k j) (e_off28l k j) (e_off28h k j) (e_off11 k j) (e_off12 k j) A8 hG) $$ HR
  iintro %m8 %H8 HR
  iapply (wp_step X S W d arg0 arg1 arg2 arg5 arg6 arg7 arg8 m8 0 _ _ _ _ _ _ _ _ _ _ _ _ _ H8 k.castSucc (cI k j) 8 4 hc rfl (e_off29 k j) (e_off30l k j) (e_off30h k j) (e_off11 k j) (e_off12 k j) A8 hG) $$ HR
  iintro %m9 %H9 HR
  iapply (wp_step X S W d arg0 arg1 arg2 arg5 arg6 arg7 arg8 m9 1 _ _ _ _ _ _ _ _ _ _ _ _ _ H9 k.castSucc (cI k j) 9 4 hc rfl (e_off31 k j) (e_off32l k j) (e_off32h k j) (e_off11 k j) (e_off12 k j) A8 hG) $$ HR
  iintro %m10 %H10 HR
  iapply (wp_step X S W d arg0 arg1 arg2 arg5 arg6 arg7 arg8 m10 0 _ _ _ _ _ _ _ _ _ _ _ _ _ H10 k.castSucc (cI k j) 10 5 hc rfl (e_off33 k j) (e_off34l k j) (e_off34h k j) (e_off11 k j) (e_off12 k j) A8 hG) $$ HR
  iintro %m11 %H11 HR
  iapply (wp_step X S W d arg0 arg1 arg2 arg5 arg6 arg7 arg8 m11 1 _ _ _ _ _ _ _ _ _ _ _ _ _ H11 k.castSucc (cI k j) 11 5 hc rfl (e_off35 k j) (e_off36l k j) (e_off36h k j) (e_off11 k j) (e_off12 k j) A8 hG) $$ HR
  iintro %m12 %H12 HR
  iapply (wp_step X S W d arg0 arg1 arg2 arg5 arg6 arg7 arg8 m12 0 _ _ _ _ _ _ _ _ _ _ _ _ _ H12 k.castSucc (cI k j) 12 6 hc rfl (e_off37 k j) (e_off38l k j) (e_off38h k j) (e_off11 k j) (e_off12 k j) A8 hG) $$ HR
  iintro %m13 %H13 HR
  iapply (wp_step X S W d arg0 arg1 arg2 arg5 arg6 arg7 arg8 m13 1 _ _ _ _ _ _ _ _ _ _ _ _ _ H13 k.castSucc (cI k j) 13 6 hc rfl (e_off39 k j) (e_off40l k j) (e_off40h k j) (e_off11 k j) (e_off12 k j) A8 hG) $$ HR
  iintro %m14 %H14 HR
  subst hq
  iapply (wp_step X S W d arg0 arg1 arg2 arg5 arg6 arg7 arg8 m14 _ _ _ _ _ _ _ _ _ _ _ _ _ _ H14 k.castSucc (cI k j) 14 7 hc rfl (e_off41 k j) (e_off42l k j) (e_off42h k j) (e_off11 k j) (e_off12 k j) A8 hG) $$ HR
  iintro %m15 %H15 HR
  iapply Hk $$ [] HR
  ipureintro
  exact H15

theorem e_xR0 : ∀ k : Fin 7, k0_off2 k 0#32 = ![0, 7552 * (0 : Fin 2).val + 1024 * k.castSucc.val] := by decide
theorem e_xR1 : ∀ k : Fin 7, k0_off2 k 7552#32 = ![0, 7552 * (1 : Fin 2).val + 1024 * k.castSucc.val] := by decide
theorem e_sR0 : ∀ k : Fin 7, k0_off5 k 0#32 = ![472 * (0 : Fin 2).val + 64 * k.castSucc.val, 0] := by decide
theorem e_sR1 : ∀ k : Fin 7, k0_off5 k 472#32 = ![472 * (1 : Fin 2).val + 64 * k.castSucc.val, 0] := by decide
theorem e_wR : ∀ k : Fin 7, k0_off8 k = ![1024 * k.castSucc.val, 0] := by intro k; fin_cases k <;> rfl
theorem e_o0 : ∀ k : Fin 7, k0_off1 k = ![k.val, 0] := by intro k; fin_cases k <;> rfl
theorem e_o1 : ∀ k : Fin 7, k0_off3 k = ![k.val, 1] := by intro k; fin_cases k <;> rfl
theorem e_o2 : ∀ k : Fin 7, k0_off4 k = ![k.val, 2] := by intro k; fin_cases k <;> rfl
theorem e_o3 : ∀ k : Fin 7, k0_off6 k = ![k.val, 3] := by intro k; fin_cases k <;> rfl
theorem e_o4 : ∀ k : Fin 7, k0_off7 k = ![k.val, 4] := by intro k; fin_cases k <;> rfl

theorem unit_congr {s : Shape} {o o' n n' : Fin s.rank → ℕ} {h : ∀ a, o a + n a ≤ s.size a} {h' : ∀ a, o' a + n' a ≤ s.size a}
    (e : o = o') (f : n = n') : Rect.unit (s := s) o n h = Rect.unit (s := s) o' n' h' := by subst e; subst f; rfl

theorem e_xLen : ∀ k : Fin 7, (![128, 1024] : Fin 2 → ℕ) = ![128, xLen k.castSucc] := by decide
theorem e_sLen : ∀ k : Fin 7, (![64, 3840] : Fin 2 → ℕ) = ![sLen k.castSucc, 3840] := by decide
theorem e_wLen : ∀ k : Fin 7, (![1024, 3840] : Fin 2 → ℕ) = ![xLen k.castSucc, 3840] := by decide

set_option maxRecDepth 10000 in
theorem cell5_eq (k : Fin 7) (i : Fin 5) (o : Fin 2 → ℕ) (h : ∀ a, o a + S1x1.size a ≤ S7x5.size a) (e : o = ![k.val, i.val]) :
    cell5 cc0_scratch5 o h = semG k.castSucc i := by
  subst e
  fin_cases k <;> fin_cases i <;> with_unfolding_all rfl

set_option maxRecDepth 10000 in
theorem cellT_eq (i : Fin 5) (o : Fin 1 → ℕ) (h : ∀ a, o a + S1.size a ≤ S5.size a) (e : o = ![i.val]) :
    cellT cc0_scratch6 o h = semG 7 i := by
  subst e
  fin_cases i <;> with_unfolding_all rfl

set_option maxRecDepth 10000 in
theorem cellY_eq (t : Fin 15) (o : Fin 1 → ℕ) (h : ∀ a, o a + S1.size a ≤ S15.size a) (e : o = ![t.val]) :
    cellY cc0_scratch7 o h = semY t := by
  subst e
  fin_cases t <;> with_unfolding_all rfl

theorem wp_trip (harg0 : arg0.IsWhole) (harg1 : arg1.IsWhole) (harg2 : arg2.IsWhole) (harg5 : arg5.IsWhole) (harg6 : arg6.IsWhole) (harg7 : arg7.IsWhole) (harg8 : arg8.IsWhole)
    (k : Fin 7) (m : Mxu F) (V : Accs F) (H : Has m V) (A8 : S59x2x128x128.Idx → Elt F .bf16)
    {kk : Mxu F → Prog (TpuEff nD τ sig (Elt F) Λ₀ .tc) α} :
    iprop(fly d arg0 arg1 arg2 arg5 arg6 arg7 X S W k.castSucc ∗ due d ∗ owns (d : Thread nD τ) arg8 fullShare A8)
    ⊢ iprop((∀ m' : Mxu F, ⌜Has m' (tripV X S W V k)⌝
          -∗ iprop(rest d arg0 arg1 arg2 arg5 arg6 arg7 X S W X S W k.castSucc ∗ due d ∗ ∃ A8', owns (d : Thread nD τ) arg8 fullShare A8') -∗ WP d (kk m') Q)
      -∗ WP d (trip arg0 harg0 arg1 harg1 arg2 harg2 arg5 harg5 arg6 harg6 arg7 harg7 arg8 harg8 cc0_scratch5 k m >>= kk) Q) := by
  unfold trip il
  simp only [bind_assoc, pure_bind]
  have hc : ∀ j : Fin 8, 8 * (k.castSucc).val ≤ (cI k j).val ∧ (cI k j).val < 8 * (k.castSucc).val + 8 := by
    intro j; unfold cI; simp only [Fin.val_castSucc]; omega
  iintro ⟨HF, HO, H8⟩ Hk
  iapply (wp_awaitG d arg0 arg1 arg2 arg5 arg6 arg7 harg0 harg1 harg2 harg5 harg6 harg7 cc0_scratch5 k.castSucc _ _ _ _ _ _ _ _ _ _ _ _ _ _ _ _ _ _ _ _ _ _ _ _ _
    (cell5_eq k 0 _ _ (e_o0 k)) (cell5_eq k 1 _ _ (e_o1 k)) (cell5_eq k 2 _ _ (e_o2 k)) (cell5_eq k 3 _ _ (e_o3 k)) (cell5_eq k 4 _ _ (e_o4 k))
    (unit_congr (e_xR0 k) (e_xLen k)) (unit_congr (e_xR1 k) (e_xLen k)) (unit_congr (e_sR0 k) (e_sLen k)) (unit_congr (e_sR1 k) (e_sLen k)) (unit_congr (e_wR k) (e_wLen k)) X S W) $$ [HF HO]
  · isplitl [HF]; · iexact HF
    iexact HO
  iintro ⟨HR, HO⟩
  ihave HR := (show iprop(rest d arg0 arg1 arg2 arg5 arg6 arg7 X S W X S W k.castSucc) ⊢ iprop(owns (d : Thread nD τ) arg8 fullShare A8 -∗ iprop(rest d arg0 arg1 arg2 arg5 arg6 arg7 X S W X S W k.castSucc ∗ owns (d : Thread nD τ) arg8 fullShare A8)) from by iintro A B; isplitl [A]; (iexact A); iexact B) $$ HR H8
  iapply (wp_fill X S W d arg0 arg1 arg2 arg5 arg6 arg7 arg8 harg8 _ _ _ _ _ _ _ _ _ _ k.castSucc (cI k 0) (hc 0) (e_off9 k 0) (e_off10 k 0) (e_off11 k 0) (e_off12 k 0) A8) $$ HR
  iintro %B0 %G0 HR
  iapply (wp_fill X S W d arg0 arg1 arg2 arg5 arg6 arg7 arg8 harg8 _ _ _ _ _ _ _ _ _ _ k.castSucc (cI k 1) (hc 1) (e_off9 k 1) (e_off10 k 1) (e_off11 k 1) (e_off12 k 1) B0) $$ HR
  iintro %B1 %G1 HR
  iapply (wp_fill X S W d arg0 arg1 arg2 arg5 arg6 arg7 arg8 harg8 _ _ _ _ _ _ _ _ _ _ k.castSucc (cI k 2) (hc 2) (e_off9 k 2) (e_off10 k 2) (e_off11 k 2) (e_off12 k 2) B1) $$ HR
  iintro %B2 %G2 HR
  iapply (wp_fill X S W d arg0 arg1 arg2 arg5 arg6 arg7 arg8 harg8 _ _ _ _ _ _ _ _ _ _ k.castSucc (cI k 3) (hc 3) (e_off9 k 3) (e_off10 k 3) (e_off11 k 3) (e_off12 k 3) B2) $$ HR
  iintro %B3 %G3 HR
  iapply (wp_fill X S W d arg0 arg1 arg2 arg5 arg6 arg7 arg8 harg8 _ _ _ _ _ _ _ _ _ _ k.castSucc (cI k 4) (hc 4) (e_off9 k 4) (e_off10 k 4) (e_off11 k 4) (e_off12 k 4) B3) $$ HR
  iintro %B4 %G4 HR
  iapply (wp_fill X S W d arg0 arg1 arg2 arg5 arg6 arg7 arg8 harg8 _ _ _ _ _ _ _ _ _ _ k.castSucc (cI k 5) (hc 5) (e_off9 k 5) (e_off10 k 5) (e_off11 k 5) (e_off12 k 5) B4) $$ HR
  iintro %B5 %G5 HR
  iapply (wp_fill X S W d arg0 arg1 arg2 arg5 arg6 arg7 arg8 harg8 _ _ _ _ _ _ _ _ _ _ k.castSucc (cI k 6) (hc 6) (e_off9 k 6) (e_off10 k 6) (e_off11 k 6) (e_off12 k 6) B5) $$ HR
  iintro %B6 %G6 HR
  iapply (wp_fill X S W d arg0 arg1 arg2 arg5 arg6 arg7 arg8 harg8 _ _ _ _ _ _ _ _ _ _ k.castSucc (cI k 7) (hc 7) (e_off9 k 7) (e_off10 k 7) (e_off11 k 7) (e_off12 k 7) B6) $$ HR
  iintro %B7 %G7 HR
  iapply (wp_blk X S W d arg0 arg1 arg2 arg5 arg6 arg7 arg8 m k _ 0 rfl 0 (by unfold qOf cI; apply Fin.ext; simp; omega) _ H B7 (G7.2 _ (G6.2 _ (G5.2 _ (G4.2 _ (G3.2 _ (G2.2 _ (G1.2 _ G0.1)))))))) $$ HR
  iintro %m1 %N1 HR
  iapply (wp_blk X S W d arg0 arg1 arg2 arg5 arg6 arg7 arg8 m1 k _ 1 rfl 1 (by unfold qOf cI; apply Fin.ext; simp; omega) _ N1 B7 (G7.2 _ (G6.2 _ (G5.2 _ (G4.2 _ (G3.2 _ (G2.2 _ G1.1))))))) $$ HR
  iintro %m2 %N2 HR
  iapply (wp_blk X S W d arg0 arg1 arg2 arg5 arg6 arg7 arg8 m2 k _ 2 rfl 0 (by unfold qOf cI; apply Fin.ext; simp; omega) _ N2 B7 (G7.2 _ (G6.2 _ (G5.2 _ (G4.2 _ (G3.2 _ G2.1)))))) $$ HR
  iintro %m3 %N3 HR
  iapply (wp_blk X S W d arg0 arg1 arg2 arg5 arg6 arg7 arg8 m3 k _ 3 rfl 1 (by unfold qOf cI; apply Fin.ext; simp; omega) _ N3 B7 (G7.2 _ (G6.2 _ (G5.2 _ (G4.2 _ G3.1))))) $$ HR
  iintro %m4 %N4 HR
  iapply (wp_blk X S W d arg0 arg1 arg2 arg5 arg6 arg7 arg8 m4 k _ 4 rfl 0 (by unfold qOf cI; apply Fin.ext; simp; omega) _ N4 B7 (G7.2 _ (G6.2 _ (G5.2 _ G4.1)))) $$ HR
  iintro %m5 %N5 HR
  iapply (wp_blk X S W d arg0 arg1 arg2 arg5 arg6 arg7 arg8 m5 k _ 5 rfl 1 (by unfold qOf cI; apply Fin.ext; simp; omega) _ N5 B7 (G7.2 _ (G6.2 _ G5.1))) $$ HR
  iintro %m6 %N6 HR
  iapply (wp_blk X S W d arg0 arg1 arg2 arg5 arg6 arg7 arg8 m6 k _ 6 rfl 0 (by unfold qOf cI; apply Fin.ext; simp; omega) _ N6 B7 (G7.2 _ G6.1)) $$ HR
  iintro %m7 %N7 HR
  iapply (wp_blk X S W d arg0 arg1 arg2 arg5 arg6 arg7 arg8 m7 k _ 7 rfl 1 (by unfold qOf cI; apply Fin.ext; simp; omega) _ N7 B7 G7.1) $$ HR
  iintro %m8 %N8 HR
  icases HR with ⟨HR, H8⟩
  iapply Hk
  · ipureintro
    exact N8
  isplitl [HR]; · iexact HR
  isplitl [HO]; · iexact HO
  iexists B7
  iexact H8

end Cert.Kernel
-- ==== Proof.KTail.lean ====
module

public import proofs.«01_k».proof.Proof.KTrip
public import Idealize.ShloMosaic.Lib.Scf
public import Idealize.ShloMosaic.Lib.Pipeline.FrameBody

@[expose] public section

set_option synthInstance.maxSize 4096

noncomputable section

namespace Cert.Kernel

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

/-! ## The result's tiles -/

theorem yR_inb (t : Fin 15) : ∀ a, (![0, 256 * t.val] : Fin 2 → ℕ) a + S128x256.size a ≤ S128x3840.size a := by revert t; decide
/-- The columns of a result tile. -/
abbrev yR (t : Fin 15) : Rect S128x3840 := Rect.unit (s := S128x3840) ![0, 256 * t.val] S128x256.size (yR_inb t)

/-- A finished tile: times the gain, rounded. -/
def outT (v : FVec F S128x256 .f32) (gain : Elt F .f32) : FVec F S128x256 .bf16 :=
  shapeCast S128x256 (truncf .bf16 (mulf v (broadcast S128x256 gain)) bitsLt_bf16_f32 : FVec F S128x256 .bf16) shapeCasts_S128x256_S128x256

/-- What an accumulator holds. -/
def got (V : Accs F) (q : Fin 2) (a : Fin 8) : FVec F S128x256 .f32 := (V q a).getD (fun _ => (Elt.inhabited F .f32).default)

theorem Has.read {m : Mxu F} {V : Accs F} (H : Has m V) (q : Fin 2) (a : Fin 8) (h : (V q a).isSome = true) :
    m.read q (32 * a.val) (fitsA a) = got V q a := by
  unfold got
  cases hv : V q a with
  | none => rw [hv] at h; cases h
  | some v => exact (H.alive _ _ _ hv).2

section
variable (X : S128x15104.Idx → Elt F .bf16) (S : S944x3840.Idx → Elt F .fp8e4m3) (W : S7552x3840.Idx → Elt F .i8)

/-- The accumulators after `n` trips. -/
def loopV : ℕ → Accs F
  | 0 => fun _ _ => none
  | n + 1 => if h : n < 7 then tripV X S W (loopV n) ⟨n, h⟩ else loopV n

/-- The last three chunks of the last result tile. -/
def lastV (V : Accs F) : Accs F := stepV X S W (stepV X S W (stepV X S W V 56 14) 57 14) 58 14
/-- The last result tile: the sum of two accumulators. -/
def lastY (V : Accs F) : FVec F S128x256 .f32 := addf (got (lastV X S W V) 0 7) (got (drop (lastV X S W V) 0 7) 1 7)
/-- The accumulators after the last result tile. -/
def lastD (V : Accs F) : Accs F := drop (drop (lastV X S W V) 0 7) 1 7

/-- The first tile of a pair, -/
def t0 (p : Fin 7) : Fin 15 := ⟨2 * p.val, by omega⟩
/-- the second, -/
def t1 (p : Fin 7) : Fin 15 := ⟨2 * p.val + 1, by omega⟩
/-- their accumulators' place. -/
def aP (p : Fin 7) : Fin 8 := ⟨p.val, by omega⟩

/-- The last three chunks of a pair of result tiles. -/
def pairV (V : Accs F) (p : Fin 7) : Accs F :=
  stepV X S W (stepV X S W (stepV X S W (stepV X S W (stepV X S W (stepV X S W V 56 (t0 p)) 56 (t1 p)) 57 (t0 p)) 57 (t1 p)) 58 (t0 p)) 58 (t1 p)
/-- The two tiles. -/
def pairY (V : Accs F) (p : Fin 7) : Fin 2 → FVec F S128x256 .f32 :=
  ![got (pairV X S W V p) 0 (aP p), got (drop (pairV X S W V p) 0 (aP p)) 1 (aP p)]
/-- The accumulators after the pair. -/
def pairD (V : Accs F) (p : Fin 7) : Accs F := drop (drop (pairV X S W V p) 0 (aP p)) 1 (aP p)

/-- The accumulators before pair `n`. -/
def pV : ℕ → Accs F
  | 0 => lastD X S W (loopV X S W 7)
  | n + 1 => if h : n < 7 then pairD X S W (pV n) ⟨n, h⟩ else pV n

/-- The tiles of the result before the gain. -/
def yV (t : Fin 15) : FVec F S128x256 .f32 :=
  if h : t.val < 14 then pairY X S W (pV X S W (t.val / 2)) ⟨t.val / 2, by omega⟩ ⟨t.val % 2, Nat.mod_lt _ (by decide)⟩
  else lastY X S W (loopV X S W 7)
end

section
variable (d : Dev nD) {α : Type} {Q : α → sProp (MT nD τ sig Unit (Elt F) ℕ (Pipeline.UD sig nD τ) ℕ)}
variable (arg4 : Memref sig .tc .hbm S128x3840 .bf16) (arg9 : Memref sig .tc .vmem S128x3840 .bf16)

/-- A tile's places, and its counter at zero. -/
def yidle (Y4 Y9 : S128x3840.Idx → Elt F .bf16) (t : Fin 15) : sProp (MT nD τ sig Unit (Elt F) ℕ (Pipeline.UD sig nD τ) ℕ) :=
  iprop(pc d arg4 Y4 (yR t) (fun _ => rfl) ∗ pc d arg9 Y9 (yR t) (fun _ => rfl) ∗ sv d (semY t))

/-- A tile on its way out. -/
def yfl (w : S128x256.Idx → Elt F .bf16) (t : Fin 15) : sProp (MT nD τ sig Unit (Elt F) ℕ (Pipeline.UD sig nD τ) ℕ) :=
  Flight countersEmb (d : Thread nD τ) (.dma (semY t)) () (arg4.slice (yR t) (fun _ => rfl)).view.dmaCredit
    iprop(owns (d : Thread nD τ) (arg4.slice (yR t) (fun _ => rfl)) fullShare w ∗ owns (d : Thread nD τ) (arg9.slice (yR t) (fun _ => rfl)) fullShare w)

/-- A tile out. -/
def ydone (w : S128x256.Idx → Elt F .bf16) (t : Fin 15) : sProp (MT nD τ sig Unit (Elt F) ℕ (Pipeline.UD sig nD τ) ℕ) :=
  iprop(owns (d : Thread nD τ) (arg4.slice (yR t) (fun _ => rfl)) fullShare w ∗ owns (d : Thread nD τ) (arg9.slice (yR t) (fun _ => rfl)) fullShare w ∗ sv d (semY t))

theorem wp_send (t : Fin 15) (w w4 : S128x256.Idx → Elt F .bf16) (R' : Rect S128x3840) (hR' : ∀ a, R'.stride a = 1) (hRR : R' = yR t)
    (sem' : DmaSem sig) (hsem : sem' = semY t)
    {h1 : (arg9.slice R' hR').view.WordExact} {h2 : (arg4.slice R' hR').view.WordExact} {h3 : DmaTarget.Typed (nD := nD) (p := Proc.tc) .vmem (.dma sem') (.here (arg4.slice R' hR'))}
    (hN : 0 < (arg4.slice R' hR').view.dmaCredit) {k : PUnit → Prog (TpuEff nD τ sig (Elt F) Λ₀ .tc) α} :
    iprop(owns (d : Thread nD τ) (arg9.slice (yR t) (fun _ => rfl)) fullShare w ∗ owns (d : Thread nD τ) (arg4.slice (yR t) (fun _ => rfl)) fullShare w4 ∗ sv d (semY t))
      ⊢ iprop((yfl d arg4 arg9 w t -∗ WP d (k ⟨⟩) Q)
        -∗ WP d (.op (.enqueueDma (arg9.slice R' hR') (.here (arg4.slice R' hR')) (.dma sem') h1 h2 h3) k) Q) := by
  subst hRR; subst hsem
  unfold sv
  iintro ⟨Hs, Hd, Hv⟩ Hk
  iapply (wp_copy Variants.none (d : Thread nD τ) none countersEmb (arg9.slice (yR t) hR') (arg4.slice (yR t) hR') (semY t) fullShare _ _ () _ rfl hN) $$ [Hs Hd Hv]
  · isplitl [Hs]; · iexact Hs
    isplitl [Hd]; · iexact Hd
    iexact Hv
  iintro HF
  iapply Hk
  unfold yfl
  iexact HF

theorem wp_recv (t : Fin 15) (w : S128x256.Idx → Elt F .bf16) (R' : Rect S128x3840) (hR' : ∀ a, R'.stride a = 1) (hRR : R' = yR t)
    (sem' : DmaSem sig) (hsem : sem' = semY t)
    {h1 : (arg9.slice R' hR').view.WordExact} {h2 : (arg4.slice R' hR').view.WordExact}
    {k : PUnit → Prog (TpuEff nD τ sig (Elt F) Λ₀ .tc) α} :
    iprop(yfl d arg4 arg9 w t ∗ due d)
      ⊢ iprop((iprop(ydone d arg4 arg9 w t ∗ due d) -∗ WP d (k ⟨⟩) Q)
        -∗ WP d (.op (.waitDma2 sem' (arg9.slice R' hR') (arg4.slice R' hR') h1 h2) k) Q) := by
  subst hRR; subst hsem
  unfold due yfl ydone sv
  iintro ⟨HF, %W, HO⟩ Hk
  iapply (wp_waitLocal countersEmb Variants.none (d : Thread nD τ) none () rfl) $$ [HF HO]
  · isplitl [HF]; · iexact HF
    iexact HO
  iintro ⟨⟨Hd, Hs⟩, Hv, HO⟩
  iapply Hk
  isplitr [HO]
  · isplitl [Hd]; · iexact Hd
    isplitl [Hs]; · iexact Hs
    iexact Hv
  iexists (insert (SemLoc.dma (semY t), ()) W)
  iexact HO

theorem wp_finish (harg4 : arg4.IsWhole) (harg9 : arg9.IsWhole)
    (v : FVec F S128x256 .f32) (gain : Elt F .f32) (o : Fin 2 → Nat) (h : ∀ a, o a + S128x256.size a ≤ S128x3840.size a)
    (hp : (Rect.unit (s := S128x3840) o S128x256.size h).PackedRows (EltTy.packing .bf16))
    (hw : (Rect.unit (s := S128x3840) o S128x256.size h).WholeWords (EltTy.packing .bf16)) (arg12 : DmaSems sig S15) (k : Fin 1 → Nat) (hk : ∀ a, k a + S1.size a ≤ S15.size a)
    (t : Fin 15) (ho : o = ![0, 256 * t.val]) (hs : cellY arg12 k hk = semY t)
    (hN : 0 < (arg4.slice (Rect.unit (s := S128x3840) o S128x256.size h) (fun _ => rfl)).view.dmaCredit)
    (Y4 Y9 : S128x3840.Idx → Elt F .bf16)
    {kk : PUnit → Prog (TpuEff nD τ sig (Elt F) Λ₀ .tc) α} :
    yidle d arg4 arg9 Y4 Y9 t ⊢ iprop((yfl d arg4 arg9 (outT v gain) t -∗ WP d (kk ⟨⟩) Q)
      -∗ WP d (finish arg4 harg4 arg9 harg9 v gain o h hp hw arg12 k hk >>= kk) Q) := by
  subst ho
  unfold yidle pc finish
  simp only [Prog.bind_lift, Prog.bind_op, bind_assoc, pure_bind]
  iintro ⟨H4, H9, Hv⟩ Hk
  iapply (wp_load_self Variants.none (d : Thread nD τ) none Set.univ arg9 (yR t) (fun _ => rfl) fullShare (fun j => Y9 ((yR t).emb j))) $$ H9
  iintro H9
  iapply (wp_store_slice Variants.none (d : Thread nD τ) none Set.univ arg9 (yR t) (fun _ => rfl) (fun j => Y9 ((yR t).emb j)) (outT v gain)) $$ H9
  iintro H9
  iapply (wp_send d arg4 arg9 t (outT v gain) (fun j => Y4 ((yR t).emb j)) (yR t) (fun _ => rfl) rfl (cellY arg12 k hk) hs hN) $$ [H4 H9 Hv]
  · isplitl [H9]; · iexact H9
    isplitl [H4]; · iexact H4
    iexact Hv
  iexact Hk

theorem wp_drain (harg4 : arg4.IsWhole) (harg9 : arg9.IsWhole)
    (o : Fin 2 → Nat) (h : ∀ a, o a + S128x256.size a ≤ S128x3840.size a)
    (hw : (Rect.unit (s := S128x3840) o S128x256.size h).WholeWords (EltTy.packing .bf16)) (arg12 : DmaSems sig S15) (k : Fin 1 → Nat) (hk : ∀ a, k a + S1.size a ≤ S15.size a)
    (t : Fin 15) (ho : o = ![0, 256 * t.val]) (hs : cellY arg12 k hk = semY t) (w : S128x256.Idx → Elt F .bf16)
    {kk : PUnit → Prog (TpuEff nD τ sig (Elt F) Λ₀ .tc) α} :
    iprop(yfl d arg4 arg9 w t ∗ due d) ⊢ iprop((iprop(ydone d arg4 arg9 w t ∗ due d) -∗ WP d (kk ⟨⟩) Q)
      -∗ WP d (drain (F := F) arg4 harg4 arg9 harg9 o h hw arg12 k hk >>= kk) Q) := by
  subst ho
  unfold drain
  simp only [Prog.bind_lift, Prog.bind_op, bind_assoc, pure_bind]
  exact wp_recv d arg4 arg9 t w (yR t) (fun _ => rfl) rfl (cellY arg12 k hk) hs
end

/-! ## The tail -/

variable (X : S128x15104.Idx → Elt F .bf16) (S : S944x3840.Idx → Elt F .fp8e4m3) (W : S7552x3840.Idx → Elt F .i8)
variable (d : Dev nD) {α : Type} {Q : α → sProp (MT nD τ sig Unit (Elt F) ℕ (Pipeline.UD sig nD τ) ℕ)}
variable (arg0 : Memref sig .tc .hbm S128x15104 .bf16) (arg1 : Memref sig .tc .hbm S7552x3840 .i8) (arg2 : Memref sig .tc .hbm S944x3840 .fp8e4m3)
variable (arg4 : Memref sig .tc .hbm S128x3840 .bf16) (arg9 : Memref sig .tc .vmem S128x3840 .bf16)
variable (arg5 : Memref sig .tc .vmem S128x15104 .bf16) (arg6 : Memref sig .tc .vmem S7552x3840 .i8) (arg7 : Memref sig .tc .vmem S944x3840 .fp8e4m3)
variable (arg8 : Memref sig .tc .vmem S59x2x128x128 .bf16)

/-- The last three chunks are interleaved. -/
def Good3 (A8 : S59x2x128x128.Idx → Elt F .bf16) : Prop := Good X A8 56 ∧ Good X A8 57 ∧ Good X A8 58

theorem wp_tailPrep (harg0 : arg0.IsWhole) (harg1 : arg1.IsWhole) (harg2 : arg2.IsWhole) (harg5 : arg5.IsWhole) (harg6 : arg6.IsWhole) (harg7 : arg7.IsWhole) (harg8 : arg8.IsWhole)
    (A8 : S59x2x128x128.Idx → Elt F .bf16)
    {kk : PUnit → Prog (TpuEff nD τ sig (Elt F) Λ₀ .tc) α} :
    iprop(fly d arg0 arg1 arg2 arg5 arg6 arg7 X S W 7 ∗ due d ∗ owns (d : Thread nD τ) arg8 fullShare A8)
    ⊢ iprop((∀ A8', ⌜Good3 X A8'⌝ -∗ iprop(rest d arg0 arg1 arg2 arg5 arg6 arg7 X S W X S W 7 ∗ owns (d : Thread nD τ) arg8 fullShare A8') -∗ due d -∗ WP d (kk ⟨⟩) Q)
      -∗ WP d (tailPrep (F := F) arg0 harg0 arg1 harg1 arg2 harg2 arg5 harg5 arg6 harg6 arg7 harg7 arg8 harg8 cc0_scratch6 >>= kk) Q) := by
  unfold tailPrep
  simp only [bind_assoc, pure_bind]
  iintro ⟨HF, HO, H8⟩ Hk
  iapply (wp_awaitT d arg0 arg1 arg2 arg5 arg6 arg7 harg0 harg1 harg2 harg5 harg6 harg7 cc0_scratch6 7 _ _ _ _ _ _ _ _ _ _ _ _ _ _ _ _ _ _ _ _ _ _ _ _ _
    (cellT_eq 0 _ _ rfl) (cellT_eq 1 _ _ rfl) (cellT_eq 2 _ _ rfl) (cellT_eq 3 _ _ rfl) (cellT_eq 4 _ _ rfl)
    (unit_congr rfl rfl) (unit_congr rfl rfl) (unit_congr rfl rfl) (unit_congr rfl rfl) (unit_congr rfl rfl) X S W) $$ [HF HO]
  · isplitl [HF]; · iexact HF
    iexact HO
  iintro ⟨HR, HO⟩
  ihave HR := (show iprop(rest d arg0 arg1 arg2 arg5 arg6 arg7 X S W X S W 7) ⊢ iprop(owns (d : Thread nD τ) arg8 fullShare A8 -∗ iprop(rest d arg0 arg1 arg2 arg5 arg6 arg7 X S W X S W 7 ∗ owns (d : Thread nD τ) arg8 fullShare A8)) from by iintro A B; isplitl [A]; (iexact A); iexact B) $$ HR H8
  iapply (wp_fill X S W d arg0 arg1 arg2 arg5 arg6 arg7 arg8 harg8 _ _ _ _ _ _ _ _ _ _ 7 56 (by decide) rfl rfl rfl rfl A8) $$ HR
  iintro %B0 %G0 HR
  iapply (wp_fill X S W d arg0 arg1 arg2 arg5 arg6 arg7 arg8 harg8 _ _ _ _ _ _ _ _ _ _ 7 57 (by decide) rfl rfl rfl rfl B0) $$ HR
  iintro %B1 %G1 HR
  iapply (wp_fill X S W d arg0 arg1 arg2 arg5 arg6 arg7 arg8 harg8 _ _ _ _ _ _ _ _ _ _ 7 58 (by decide) rfl rfl rfl rfl B1) $$ HR
  iintro %B2 %G2 HR
  iapply Hk $$ [] HR HO
  ipureintro
  exact ⟨G2.2 _ (G1.2 _ G0.1), G2.2 _ G1.1, G2.1⟩

theorem wp_tailLast (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 14)
    ⊢ iprop((∀ m' : Mxu F, ⌜Has m' (lastD X S W V)⌝
          -∗ iprop(rest d arg0 arg1 arg2 arg5 arg6 arg7 X S W X S W 7 ∗ owns (d : Thread nD τ) arg8 fullShare A8) -∗ yfl d arg4 arg9 (outT (lastY X S W V) gain) 14 -∗ WP d (kk m') Q)
      -∗ WP d (tailLast arg4 harg4 arg6 arg7 arg8 arg9 harg9 cc0_scratch7 gain m >>= kk) Q) := by
  unfold tailLast
  simp only [bind_assoc, pure_bind]
  iintro ⟨HR, HY⟩ Hk
  iapply (wp_step X S W d arg0 arg1 arg2 arg5 arg6 arg7 arg8 m _ _ _ _ _ _ _ _ _ _ _ _ _ _ H 7 56 14 7 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 57 14 7 (by decide) rfl rfl rfl rfl rfl rfl A8 hG.2.1) $$ HR
  iintro %m2 %H2 HR
  iapply (wp_step X S W d arg0 arg1 arg2 arg5 arg6 arg7 arg8 m2 _ _ _ _ _ _ _ _ _ _ _ _ _ _ H2 7 58 14 7 (by decide) rfl rfl rfl rfl rfl rfl A8 hG.2.2) $$ HR
  iintro %m3 %H3 HR
  have K3 : Has m3 (lastV X S W V) := H3
  have K4 : Has (m3.pop 0 224 128 fits_224_128) (drop (lastV X S W V) 0 7) := K3.pop 0 7
  have K5 : Has ((m3.pop 0 224 128 fits_224_128).pop 1 224 128 fits_224_128) (lastD X S W V) := K4.pop 1 7
  have e : addf (m3.read 0 224 fits_224_128) ((m3.pop 0 224 128 fits_224_128).read 1 224 fits_224_128) = lastY X S W V := by
    unfold lastY
    rw [← K3.read 0 7 rfl, ← K4.read 1 7 rfl]
    rfl
  rw [e]
  iapply (wp_finish d arg4 arg9 harg4 harg9 (lastY X S W V) gain _ _ _ _ cc0_scratch7 _ _ 14 rfl (cellY_eq 14 _ _ rfl) (hN 14) Y4 Y9) $$ HY
  iintro HY
  iapply Hk $$ [] HR HY
  ipureintro
  exact K5

theorem wp_pair0 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 0 ∗ yidle d arg4 arg9 Y4 Y9 1)
    ⊢ iprop((∀ m' : Mxu F, ⌜Has m' (pairD X S W V 0)⌝
          -∗ iprop(rest d arg0 arg1 arg2 arg5 arg6 arg7 X S W X S W 7 ∗ owns (d : Thread nD τ) arg8 fullShare A8)
          -∗ yfl d arg4 arg9 (outT (pairY X S W V 0 0) gain) 0 -∗ yfl d arg4 arg9 (outT (pairY X S W V 0 1) gain) 1 -∗ WP d (kk m') Q)
      -∗ WP d (pair0 arg4 harg4 arg6 arg7 arg8 arg9 harg9 cc0_scratch7 gain m >>= kk) Q) := by
  unfold pair0
  simp only [bind_assoc, pure_bind]
  iintro ⟨HR, HY0, HY1⟩ Hk
  iapply (wp_step X S W d arg0 arg1 arg2 arg5 arg6 arg7 arg8 m _ _ _ _ _ _ _ _ _ _ _ _ _ _ H 7 56 0 0 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 1 0 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 0 0 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 1 0 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 0 0 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 1 0 (by decide) rfl rfl rfl rfl rfl rfl A8 hG.2.2) $$ HR
  iintro %m6 %H6 HR
  have K3 : Has m6 (pairV X S W V 0) := H6
  have K4 : Has (m6.pop 0 0 128 fits_0_128) (drop (pairV X S W V 0) 0 0) := K3.pop 0 0
  have K5 : Has ((m6.pop 0 0 128 fits_0_128).pop 1 0 128 fits_0_128) (pairD X S W V 0) := K4.pop 1 0
  have e0 : m6.read 0 0 fits_0_128 = pairY X S W V 0 0 := K3.read 0 0 rfl
  have e1 : (m6.pop 0 0 128 fits_0_128).read 1 0 fits_0_128 = pairY X S W V 0 1 := K4.read 1 0 rfl
  rw [e0, e1]
  iapply (wp_finish d arg4 arg9 harg4 harg9 (pairY X S W V 0 0) gain _ _ _ _ cc0_scratch7 _ _ 0 rfl (cellY_eq 0 _ _ rfl) (hN 0) Y4 Y9) $$ HY0
  iintro HY0
  iapply (wp_finish d arg4 arg9 harg4 harg9 (pairY X S W V 0 1) gain _ _ _ _ cc0_scratch7 _ _ 1 rfl (cellY_eq 1 _ _ rfl) (hN 1) Y4 Y9) $$ HY1
  iintro HY1
  iapply Hk $$ [] HR HY0 HY1
  ipureintro
  exact K5

theorem wp_pair1 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 2 ∗ yidle d arg4 arg9 Y4 Y9 3)
    ⊢ iprop((∀ m' : Mxu F, ⌜Has m' (pairD X S W V 1)⌝
          -∗ iprop(rest d arg0 arg1 arg2 arg5 arg6 arg7 X S W X S W 7 ∗ owns (d : Thread nD τ) arg8 fullShare A8)
          -∗ yfl d arg4 arg9 (outT (pairY X S W V 1 0) gain) 2 -∗ yfl d arg4 arg9 (outT (pairY X S W V 1 1) gain) 3 -∗ WP d (kk m') Q)
      -∗ WP d (pair1 arg4 harg4 arg6 arg7 arg8 arg9 harg9 cc0_scratch7 gain m >>= kk) Q) := by
  unfold pair1
  simp only [bind_assoc, pure_bind]
  iintro ⟨HR, HY0, HY1⟩ Hk
  iapply (wp_step X S W d arg0 arg1 arg2 arg5 arg6 arg7 arg8 m _ _ _ _ _ _ _ _ _ _ _ _ _ _ H 7 56 2 1 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 3 1 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 2 1 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 3 1 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 2 1 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 3 1 (by decide) rfl rfl rfl rfl rfl rfl A8 hG.2.2) $$ HR
  iintro %m6 %H6 HR
  have K3 : Has m6 (pairV X S W V 1) := H6
  have K4 : Has (m6.pop 0 32 128 fits_32_128) (drop (pairV X S W V 1) 0 1) := K3.pop 0 1
  have K5 : Has ((m6.pop 0 32 128 fits_32_128).pop 1 32 128 fits_32_128) (pairD X S W V 1) := K4.pop 1 1
  have e0 : m6.read 0 32 fits_32_128 = pairY X S W V 1 0 := K3.read 0 1 rfl
  have e1 : (m6.pop 0 32 128 fits_32_128).read 1 32 fits_32_128 = pairY X S W V 1 1 := K4.read 1 1 rfl
  rw [e0, e1]
  iapply (wp_finish d arg4 arg9 harg4 harg9 (pairY X S W V 1 0) gain _ _ _ _ cc0_scratch7 _ _ 2 rfl (cellY_eq 2 _ _ rfl) (hN 2) Y4 Y9) $$ HY0
  iintro HY0
  iapply (wp_finish d arg4 arg9 harg4 harg9 (pairY X S W V 1 1) gain _ _ _ _ cc0_scratch7 _ _ 3 rfl (cellY_eq 3 _ _ rfl) (hN 3) Y4 Y9) $$ HY1
  iintro HY1
  iapply Hk $$ [] HR HY0 HY1
  ipureintro
  exact K5

theorem wp_pair2 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 4 ∗ yidle d arg4 arg9 Y4 Y9 5)
    ⊢ iprop((∀ m' : Mxu F, ⌜Has m' (pairD X S W V 2)⌝
          -∗ iprop(rest d arg0 arg1 arg2 arg5 arg6 arg7 X S W X S W 7 ∗ owns (d : Thread nD τ) arg8 fullShare A8)
          -∗ yfl d arg4 arg9 (outT (pairY X S W V 2 0) gain) 4 -∗ yfl d arg4 arg9 (outT (pairY X S W V 2 1) gain) 5 -∗ WP d (kk m') Q)
      -∗ WP d (pair2 arg4 harg4 arg6 arg7 arg8 arg9 harg9 cc0_scratch7 gain m >>= kk) Q) := by
  unfold pair2
  simp only [bind_assoc, pure_bind]
  iintro ⟨HR, HY0, HY1⟩ Hk
  iapply (wp_step X S W d arg0 arg1 arg2 arg5 arg6 arg7 arg8 m _ _ _ _ _ _ _ _ _ _ _ _ _ _ H 7 56 4 2 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 5 2 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 4 2 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 5 2 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 4 2 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 5 2 (by decide) rfl rfl rfl rfl rfl rfl A8 hG.2.2) $$ HR
  iintro %m6 %H6 HR
  have K3 : Has m6 (pairV X S W V 2) := H6
  have K4 : Has (m6.pop 0 64 128 fits_64_128) (drop (pairV X S W V 2) 0 2) := K3.pop 0 2
  have K5 : Has ((m6.pop 0 64 128 fits_64_128).pop 1 64 128 fits_64_128) (pairD X S W V 2) := K4.pop 1 2
  have e0 : m6.read 0 64 fits_64_128 = pairY X S W V 2 0 := K3.read 0 2 rfl
  have e1 : (m6.pop 0 64 128 fits_64_128).read 1 64 fits_64_128 = pairY X S W V 2 1 := K4.read 1 2 rfl
  rw [e0, e1]
  iapply (wp_finish d arg4 arg9 harg4 harg9 (pairY X S W V 2 0) gain _ _ _ _ cc0_scratch7 _ _ 4 rfl (cellY_eq 4 _ _ rfl) (hN 4) Y4 Y9) $$ HY0
  iintro HY0
  iapply (wp_finish d arg4 arg9 harg4 harg9 (pairY X S W V 2 1) gain _ _ _ _ cc0_scratch7 _ _ 5 rfl (cellY_eq 5 _ _ rfl) (hN 5) Y4 Y9) $$ HY1
  iintro HY1
  iapply Hk $$ [] HR HY0 HY1
  ipureintro
  exact K5

theorem wp_pair3 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 6 ∗ yidle d arg4 arg9 Y4 Y9 7)
    ⊢ iprop((∀ m' : Mxu F, ⌜Has m' (pairD X S W V 3)⌝
          -∗ iprop(rest d arg0 arg1 arg2 arg5 arg6 arg7 X S W X S W 7 ∗ owns (d : Thread nD τ) arg8 fullShare A8)
          -∗ yfl d arg4 arg9 (outT (pairY X S W V 3 0) gain) 6 -∗ yfl d arg4 arg9 (outT (pairY X S W V 3 1) gain) 7 -∗ WP d (kk m') Q)
      -∗ WP d (pair3 arg4 harg4 arg6 arg7 arg8 arg9 harg9 cc0_scratch7 gain m >>= kk) Q) := by
  unfold pair3
  simp only [bind_assoc, pure_bind]
  iintro ⟨HR, HY0, HY1⟩ Hk
  iapply (wp_step X S W d arg0 arg1 arg2 arg5 arg6 arg7 arg8 m _ _ _ _ _ _ _ _ _ _ _ _ _ _ H 7 56 6 3 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 7 3 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 6 3 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 7 3 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 6 3 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 7 3 (by decide) rfl rfl rfl rfl rfl rfl A8 hG.2.2) $$ HR
  iintro %m6 %H6 HR
  have K3 : Has m6 (pairV X S W V 3) := H6
  have K4 : Has (m6.pop 0 96 128 fits_96_128) (drop (pairV X S W V 3) 0 3) := K3.pop 0 3
  have K5 : Has ((m6.pop 0 96 128 fits_96_128).pop 1 96 128 fits_96_128) (pairD X S W V 3) := K4.pop 1 3
  have e0 : m6.read 0 96 fits_96_128 = pairY X S W V 3 0 := K3.read 0 3 rfl
  have e1 : (m6.pop 0 96 128 fits_96_128).read 1 96 fits_96_128 = pairY X S W V 3 1 := K4.read 1 3 rfl
  rw [e0, e1]
  iapply (wp_finish d arg4 arg9 harg4 harg9 (pairY X S W V 3 0) gain _ _ _ _ cc0_scratch7 _ _ 6 rfl (cellY_eq 6 _ _ rfl) (hN 6) Y4 Y9) $$ HY0
  iintro HY0
  iapply (wp_finish d arg4 arg9 harg4 harg9 (pairY X S W V 3 1) gain _ _ _ _ cc0_scratch7 _ _ 7 rfl (cellY_eq 7 _ _ rfl) (hN 7) Y4 Y9) $$ HY1
  iintro HY1
  iapply Hk $$ [] HR HY0 HY1
  ipureintro
  exact K5

theorem wp_pair4 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 8 ∗ yidle d arg4 arg9 Y4 Y9 9)
    ⊢ iprop((∀ m' : Mxu F, ⌜Has m' (pairD X S W V 4)⌝
          -∗ iprop(rest d arg0 arg1 arg2 arg5 arg6 arg7 X S W X S W 7 ∗ owns (d : Thread nD τ) arg8 fullShare A8)
          -∗ yfl d arg4 arg9 (outT (pairY X S W V 4 0) gain) 8 -∗ yfl d arg4 arg9 (outT (pairY X S W V 4 1) gain) 9 -∗ WP d (kk m') Q)
      -∗ WP d (pair4 arg4 harg4 arg6 arg7 arg8 arg9 harg9 cc0_scratch7 gain m >>= kk) Q) := by
  unfold pair4
  simp only [bind_assoc, pure_bind]
  iintro ⟨HR, HY0, HY1⟩ Hk
  iapply (wp_step X S W d arg0 arg1 arg2 arg5 arg6 arg7 arg8 m _ _ _ _ _ _ _ _ _ _ _ _ _ _ H 7 56 8 4 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 9 4 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 8 4 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 9 4 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 8 4 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 9 4 (by decide) rfl rfl rfl rfl rfl rfl A8 hG.2.2) $$ HR
  iintro %m6 %H6 HR
  have K3 : Has m6 (pairV X S W V 4) := H6
  have K4 : Has (m6.pop 0 128 128 fits_128_128) (drop (pairV X S W V 4) 0 4) := K3.pop 0 4
  have K5 : Has ((m6.pop 0 128 128 fits_128_128).pop 1 128 128 fits_128_128) (pairD X S W V 4) := K4.pop 1 4
  have e0 : m6.read 0 128 fits_128_128 = pairY X S W V 4 0 := K3.read 0 4 rfl
  have e1 : (m6.pop 0 128 128 fits_128_128).read 1 128 fits_128_128 = pairY X S W V 4 1 := K4.read 1 4 rfl
  rw [e0, e1]
  iapply (wp_finish d arg4 arg9 harg4 harg9 (pairY X S W V 4 0) gain _ _ _ _ cc0_scratch7 _ _ 8 rfl (cellY_eq 8 _ _ rfl) (hN 8) Y4 Y9) $$ HY0
  iintro HY0
  iapply (wp_finish d arg4 arg9 harg4 harg9 (pairY X S W V 4 1) gain _ _ _ _ cc0_scratch7 _ _ 9 rfl (cellY_eq 9 _ _ rfl) (hN 9) Y4 Y9) $$ HY1
  iintro HY1
  iapply Hk $$ [] HR HY0 HY1
  ipureintro
  exact K5

theorem wp_pair5 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 10 ∗ yidle d arg4 arg9 Y4 Y9 11)
    ⊢ iprop((∀ m' : Mxu F, ⌜Has m' (pairD X S W V 5)⌝
          -∗ iprop(rest d arg0 arg1 arg2 arg5 arg6 arg7 X S W X S W 7 ∗ owns (d : Thread nD τ) arg8 fullShare A8)
          -∗ yfl d arg4 arg9 (outT (pairY X S W V 5 0) gain) 10 -∗ yfl d arg4 arg9 (outT (pairY X S W V 5 1) gain) 11 -∗ WP d (kk m') Q)
      -∗ WP d (pair5 arg4 harg4 arg6 arg7 arg8 arg9 harg9 cc0_scratch7 gain m >>= kk) Q) := by
  unfold pair5
  simp only [bind_assoc, pure_bind]
  iintro ⟨HR, HY0, HY1⟩ Hk
  iapply (wp_step X S W d arg0 arg1 arg2 arg5 arg6 arg7 arg8 m _ _ _ _ _ _ _ _ _ _ _ _ _ _ H 7 56 10 5 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 11 5 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 10 5 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 11 5 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 10 5 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 11 5 (by decide) rfl rfl rfl rfl rfl rfl A8 hG.2.2) $$ HR
  iintro %m6 %H6 HR
  have K3 : Has m6 (pairV X S W V 5) := H6
  have K4 : Has (m6.pop 0 160 128 fits_160_128) (drop (pairV X S W V 5) 0 5) := K3.pop 0 5
  have K5 : Has ((m6.pop 0 160 128 fits_160_128).pop 1 160 128 fits_160_128) (pairD X S W V 5) := K4.pop 1 5
  have e0 : m6.read 0 160 fits_160_128 = pairY X S W V 5 0 := K3.read 0 5 rfl
  have e1 : (m6.pop 0 160 128 fits_160_128).read 1 160 fits_160_128 = pairY X S W V 5 1 := K4.read 1 5 rfl
  rw [e0, e1]
  iapply (wp_finish d arg4 arg9 harg4 harg9 (pairY X S W V 5 0) gain _ _ _ _ cc0_scratch7 _ _ 10 rfl (cellY_eq 10 _ _ rfl) (hN 10) Y4 Y9) $$ HY0
  iintro HY0
  iapply (wp_finish d arg4 arg9 harg4 harg9 (pairY X S W V 5 1) gain _ _ _ _ cc0_scratch7 _ _ 11 rfl (cellY_eq 11 _ _ rfl) (hN 11) Y4 Y9) $$ HY1
  iintro HY1
  iapply Hk $$ [] HR HY0 HY1
  ipureintro
  exact K5

theorem wp_pair6 (harg4 : arg4.IsWhole) (harg9 : arg9.IsWhole) (gain : Elt F .f32) (hN : ∀ t : Fin 15, 0 < (arg4.slice (yR t) (fun _ => rfl)).view.dmaCredit)
    (Y4 Y9 : S128x3840.Idx → Elt F .bf16)
    (m : Mxu F) (V : Accs F) (H : Has m V) (A8 : S59x2x128x128.Idx → Elt F .bf16) (hG : Good3 X A8)
    {kk : Mxu F → Prog (TpuEff nD τ sig (Elt F) Λ₀ .tc) α} :
    iprop((rest d arg0 arg1 arg2 arg5 arg6 arg7 X S W X S W 7 ∗ owns (d : Thread nD τ) arg8 fullShare A8) ∗ yidle d arg4 arg9 Y4 Y9 12 ∗ yidle d arg4 arg9 Y4 Y9 13)
    ⊢ iprop((∀ m' : Mxu F, ⌜Has m' (pairD X S W V 6)⌝
          -∗ iprop(rest d arg0 arg1 arg2 arg5 arg6 arg7 X S W X S W 7 ∗ owns (d : Thread nD τ) arg8 fullShare A8)
          -∗ yfl d arg4 arg9 (outT (pairY X S W V 6 0) gain) 12 -∗ yfl d arg4 arg9 (outT (pairY X S W V 6 1) gain) 13 -∗ WP d (kk m') Q)
      -∗ WP d (pair6 arg4 harg4 arg6 arg7 arg8 arg9 harg9 cc0_scratch7 gain m >>= kk) Q) := by
  unfold pair6
  simp only [bind_assoc, pure_bind]
  iintro ⟨HR, HY0, HY1⟩ Hk
  iapply (wp_step X S W d arg0 arg1 arg2 arg5 arg6 arg7 arg8 m _ _ _ _ _ _ _ _ _ _ _ _ _ _ H 7 56 12 6 (by decide) rfl rfl rfl rfl rfl rfl A8 hG.1) $$ HR
  iintro %m1 %H1 HR
  iapply (wp_step X S W d arg0 arg1 arg2 arg5 arg6 arg7 arg8 m1 _ _ _ _ _ _ _ _ _ _ _ _ _ _ H1 7 56 13 6 (by decide) rfl rfl rfl rfl rfl rfl A8 hG.1) $$ HR
  iintro %m2 %H2 HR
  iapply (wp_step X S W d arg0 arg1 arg2 arg5 arg6 arg7 arg8 m2 _ _ _ _ _ _ _ _ _ _ _ _ _ _ H2 7 57 12 6 (by decide) rfl rfl rfl rfl rfl rfl A8 hG.2.1) $$ HR
  iintro %m3 %H3 HR
  iapply (wp_step X S W d arg0 arg1 arg2 arg5 arg6 arg7 arg8 m3 _ _ _ _ _ _ _ _ _ _ _ _ _ _ H3 7 57 13 6 (by decide) rfl rfl rfl rfl rfl rfl A8 hG.2.1) $$ HR
  iintro %m4 %H4 HR
  iapply (wp_step X S W d arg0 arg1 arg2 arg5 arg6 arg7 arg8 m4 _ _ _ _ _ _ _ _ _ _ _ _ _ _ H4 7 58 12 6 (by decide) rfl rfl rfl rfl rfl rfl A8 hG.2.2) $$ HR
  iintro %m5 %H5 HR
  iapply (wp_step X S W d arg0 arg1 arg2 arg5 arg6 arg7 arg8 m5 _ _ _ _ _ _ _ _ _ _ _ _ _ _ H5 7 58 13 6 (by decide) rfl rfl rfl rfl rfl rfl A8 hG.2.2) $$ HR
  iintro %m6 %H6 HR
  have K3 : Has m6 (pairV X S W V 6) := H6
  have K4 : Has (m6.pop 0 192 128 fits_192_128) (drop (pairV X S W V 6) 0 6) := K3.pop 0 6
  have K5 : Has ((m6.pop 0 192 128 fits_192_128).pop 1 192 128 fits_192_128) (pairD X S W V 6) := K4.pop 1 6
  have e0 : m6.read 0 192 fits_192_128 = pairY X S W V 6 0 := K3.read 0 6 rfl
  have e1 : (m6.pop 0 192 128 fits_192_128).read 1 192 fits_192_128 = pairY X S W V 6 1 := K4.read 1 6 rfl
  rw [e0, e1]
  iapply (wp_finish d arg4 arg9 harg4 harg9 (pairY X S W V 6 0) gain _ _ _ _ cc0_scratch7 _ _ 12 rfl (cellY_eq 12 _ _ rfl) (hN 12) Y4 Y9) $$ HY0
  iintro HY0
  iapply (wp_finish d arg4 arg9 harg4 harg9 (pairY X S W V 6 1) gain _ _ _ _ cc0_scratch7 _ _ 13 rfl (cellY_eq 13 _ _ rfl) (hN 13) Y4 Y9) $$ HY1
  iintro HY1
  iapply Hk $$ [] HR HY0 HY1
  ipureintro
  exact K5

end Cert.Kernel
-- ==== Proof.KBody.lean ====
module

public import proofs.«01_k».proof.Proof.KTail
public import Idealize.ShloMosaic.Lib.Mxu.Lemmas
public import Idealize.ShloMosaic.Lib.Pipeline.Kit
public import Idealize.ShloMosaic.Lib.Pipeline.FrameBody

@[expose] public section

set_option synthInstance.maxSize 4096

noncomputable section

namespace Cert.Kernel

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own

variable {F : FTy → Type} [FloatOps F]

variable [Facts]
open Facts₀ Facts

theorem Has.pop0 {m : Mxu F} (H : Has m (fun _ _ => none)) (q : Fin 2) (a : Fin 8) : Has (m.pop q (32 * a.val) 128 (fitsA a)) (fun _ _ => none) := by
  have e : drop (F := F) (fun _ _ => none) q a = fun _ _ => none := by
    funext q' a'; unfold drop; split_ifs <;> rfl
  have h := H.pop q a
  rw [e] at h
  exact h

theorem has_cleared : Has (F := F) (Mxu.pop (Mxu.pop (Mxu.pop (Mxu.pop (Mxu.pop (Mxu.pop (Mxu.pop (Mxu.pop (Mxu.pop (Mxu.pop (Mxu.pop (Mxu.pop (Mxu.pop (Mxu.pop (Mxu.pop (Mxu.pop Mxu.init 0 0 128 fits_0_128) 0 32 128 fits_32_128) 0 64 128 fits_64_128) 0 96 128 fits_96_128) 0 128 128 fits_128_128) 0 160 128 fits_160_128) 0 192 128 fits_192_128) 0 224 128 fits_224_128) 1 0 128 fits_0_128) 1 32 128 fits_32_128) 1 64 128 fits_64_128) 1 96 128 fits_96_128) 1 128 128 fits_128_128) 1 160 128 fits_160_128) 1 192 128 fits_192_128) 1 224 128 fits_224_128) (fun _ _ => none) := ((((((((((((((((Has.init.pop0 0 0).pop0 0 1).pop0 0 2).pop0 0 3).pop0 0 4).pop0 0 5).pop0 0 6).pop0 0 7).pop0 1 0).pop0 1 1).pop0 1 2).pop0 1 3).pop0 1 4).pop0 1 5).pop0 1 6).pop0 1 7)

/-! ## The body -/

variable (X : S128x15104.Idx → Elt F .bf16) (S : S944x3840.Idx → Elt F .fp8e4m3) (W : S7552x3840.Idx → Elt F .i8)

theorem pV_end : ∀ q a, pV X S W 7 q a = none := by
  intro q a
  fin_cases q <;> fin_cases a <;> rfl

variable (d : Dev nD) {α : Type} {Q : α → sProp (MT nD τ sig Unit (Elt F) ℕ (Pipeline.UD sig nD τ) ℕ)}
variable (arg0 : Memref sig .tc .hbm S128x15104 .bf16) (arg1 : Memref sig .tc .hbm S7552x3840 .i8) (arg2 : Memref sig .tc .hbm S944x3840 .fp8e4m3)
variable (arg3 : Memref sig .tc .smem S1x1 .f32)
variable (arg4 : Memref sig .tc .hbm S128x3840 .bf16) (arg9 : Memref sig .tc .vmem S128x3840 .bf16)
variable (arg5 : Memref sig .tc .vmem S128x15104 .bf16) (arg6 : Memref sig .tc .vmem S7552x3840 .i8) (arg7 : Memref sig .tc .vmem S944x3840 .fp8e4m3)
variable (arg8 : Memref sig .tc .vmem S59x2x128x128 .bf16)

theorem list8 (Φ : Fin 8 → sProp (MT nD τ sig Unit (Elt F) ℕ (Pipeline.UD sig nD τ) ℕ)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem list15 (Φ : Fin 15 → sProp (MT nD τ sig Unit (Elt F) ℕ (Pipeline.UD sig nD τ) ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem split15 (Φ : Fin 15 → sProp (MT nD τ sig Unit (Elt F) ℕ (Pipeline.UD sig nD τ) ℕ)) :
    bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [list15]

/-- Every copy moves something. -/
structure Credits : Prop where
  x1 : ∀ (o : Fin 2 → ℕ) (h : ∀ a, o a + S128x1024.size a ≤ S128x15104.size a), 0 < (arg5.slice (Rect.unit (s := S128x15104) o S128x1024.size h) (fun _ => rfl)).view.dmaCredit
  x3 : ∀ (o : Fin 2 → ℕ) (h : ∀ a, o a + S128x384.size a ≤ S128x15104.size a), 0 < (arg5.slice (Rect.unit (s := S128x15104) o S128x384.size h) (fun _ => rfl)).view.dmaCredit
  s1 : ∀ (o : Fin 2 → ℕ) (h : ∀ a, o a + S64x3840.size a ≤ S944x3840.size a), 0 < (arg7.slice (Rect.unit (s := S944x3840) o S64x3840.size h) (fun _ => rfl)).view.dmaCredit
  s3 : ∀ (o : Fin 2 → ℕ) (h : ∀ a, o a + S24x3840.size a ≤ S944x3840.size a), 0 < (arg7.slice (Rect.unit (s := S944x3840) o S24x3840.size h) (fun _ => rfl)).view.dmaCredit
  w1 : ∀ (o : Fin 2 → ℕ) (h : ∀ a, o a + S1024x3840.size a ≤ S7552x3840.size a), 0 < (arg6.slice (Rect.unit (s := S7552x3840) o S1024x3840.size h) (fun _ => rfl)).view.dmaCredit
  w3 : ∀ (o : Fin 2 → ℕ) (h : ∀ a, o a + S384x3840.size a ≤ S7552x3840.size a), 0 < (arg6.slice (Rect.unit (s := S7552x3840) o S384x3840.size h) (fun _ => rfl)).view.dmaCredit
  y : ∀ t : Fin 15, 0 < (arg4.slice (yR t) (fun _ => rfl)).view.dmaCredit

theorem wp_startAll (harg0 : arg0.IsWhole) (harg1 : arg1.IsWhole) (harg2 : arg2.IsWhole) (harg5 : arg5.IsWhole) (harg6 : arg6.IsWhole) (harg7 : arg7.IsWhole)
    (hC : Credits arg4 arg5 arg6 arg7)
    (X' : S128x15104.Idx → Elt F .bf16) (S' : S944x3840.Idx → Elt F .fp8e4m3) (W' : S7552x3840.Idx → Elt F .i8)
    {kk : PUnit → Prog (TpuEff nD τ sig (Elt F) Λ₀ .tc) α} :
    bigSep Finset.univ (fun g : Fin 8 => rest d arg0 arg1 arg2 arg5 arg6 arg7 X S W X' S' W' g)
    ⊢ iprop((bigSep Finset.univ (fun g : Fin 8 => fly d arg0 arg1 arg2 arg5 arg6 arg7 X S W g) -∗ WP d (kk ⟨⟩) Q)
      -∗ WP d (startAll (F := F) arg0 harg0 arg1 harg1 arg2 harg2 arg5 harg5 arg6 harg6 arg7 harg7 cc0_scratch5 cc0_scratch6 >>= kk) Q) := by
  unfold startAll
  simp only [bind_assoc, pure_bind]
  rw [list8, list8]
  iintro ⟨R0, R1, R2, R3, R4, R5, R6, R7⟩ Hk
  iapply (wp_fetchG d arg0 arg1 arg2 arg5 arg6 arg7 harg0 harg1 harg2 harg5 harg6 harg7 cc0_scratch5 0 _ _ _ _ _ _ _ _ _ _ _ _ _ _ _ _ _ _ _ _ _ _ _ _ _
    (cell5_eq 0 0 _ _ rfl) (cell5_eq 0 1 _ _ rfl) (cell5_eq 0 2 _ _ rfl) (cell5_eq 0 3 _ _ rfl) (cell5_eq 0 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R0
  iintro R0
  iapply (wp_fetchG d arg0 arg1 arg2 arg5 arg6 arg7 harg0 harg1 harg2 harg5 harg6 harg7 cc0_scratch5 1 _ _ _ _ _ _ _ _ _ _ _ _ _ _ _ _ _ _ _ _ _ _ _ _ _
    (cell5_eq 1 0 _ _ rfl) (cell5_eq 1 1 _ _ rfl) (cell5_eq 1 2 _ _ rfl) (cell5_eq 1 3 _ _ rfl) (cell5_eq 1 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R1
  iintro R1
  iapply (wp_fetchG d arg0 arg1 arg2 arg5 arg6 arg7 harg0 harg1 harg2 harg5 harg6 harg7 cc0_scratch5 2 _ _ _ _ _ _ _ _ _ _ _ _ _ _ _ _ _ _ _ _ _ _ _ _ _
    (cell5_eq 2 0 _ _ rfl) (cell5_eq 2 1 _ _ rfl) (cell5_eq 2 2 _ _ rfl) (cell5_eq 2 3 _ _ rfl) (cell5_eq 2 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R2
  iintro R2
  iapply (wp_fetchG d arg0 arg1 arg2 arg5 arg6 arg7 harg0 harg1 harg2 harg5 harg6 harg7 cc0_scratch5 3 _ _ _ _ _ _ _ _ _ _ _ _ _ _ _ _ _ _ _ _ _ _ _ _ _
    (cell5_eq 3 0 _ _ rfl) (cell5_eq 3 1 _ _ rfl) (cell5_eq 3 2 _ _ rfl) (cell5_eq 3 3 _ _ rfl) (cell5_eq 3 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R3
  iintro R3
  iapply (wp_fetchG d arg0 arg1 arg2 arg5 arg6 arg7 harg0 harg1 harg2 harg5 harg6 harg7 cc0_scratch5 4 _ _ _ _ _ _ _ _ _ _ _ _ _ _ _ _ _ _ _ _ _ _ _ _ _
    (cell5_eq 4 0 _ _ rfl) (cell5_eq 4 1 _ _ rfl) (cell5_eq 4 2 _ _ rfl) (cell5_eq 4 3 _ _ rfl) (cell5_eq 4 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R4
  iintro R4
  iapply (wp_fetchG d arg0 arg1 arg2 arg5 arg6 arg7 harg0 harg1 harg2 harg5 harg6 harg7 cc0_scratch5 5 _ _ _ _ _ _ _ _ _ _ _ _ _ _ _ _ _ _ _ _ _ _ _ _ _
    (cell5_eq 5 0 _ _ rfl) (cell5_eq 5 1 _ _ rfl) (cell5_eq 5 2 _ _ rfl) (cell5_eq 5 3 _ _ rfl) (cell5_eq 5 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R5
  iintro R5
  iapply (wp_fetchG d arg0 arg1 arg2 arg5 arg6 arg7 harg0 harg1 harg2 harg5 harg6 harg7 cc0_scratch5 6 _ _ _ _ _ _ _ _ _ _ _ _ _ _ _ _ _ _ _ _ _ _ _ _ _
    (cell5_eq 6 0 _ _ rfl) (cell5_eq 6 1 _ _ rfl) (cell5_eq 6 2 _ _ rfl) (cell5_eq 6 3 _ _ rfl) (cell5_eq 6 4 _ _ rfl)
    (unit_congr rfl rfl) (unit_congr rfl rfl) (unit_congr rfl rfl) (unit_congr rfl rfl) (unit_congr rfl rfl)
    (hC.x1 _ _) (hC.x1 _ _) (hC.s1 _ _) (hC.s1 _ _) (hC.w1 _ _) X S W X' S' W') $$ R6
  iintro R6
  iapply (wp_fetchT d arg0 arg1 arg2 arg5 arg6 arg7 harg0 harg1 harg2 harg5 harg6 harg7 cc0_scratch6 7 _ _ _ _ _ _ _ _ _ _ _ _ _ _ _ _ _ _ _ _ _ _ _ _ _
    (cellT_eq 0 _ _ rfl) (cellT_eq 1 _ _ rfl) (cellT_eq 2 _ _ rfl) (cellT_eq 3 _ _ rfl) (cellT_eq 4 _ _ rfl)
    (unit_congr rfl rfl) (unit_congr rfl rfl) (unit_congr rfl rfl) (unit_congr rfl rfl) (unit_congr rfl rfl)
    (hC.x3 _ _) (hC.x3 _ _) (hC.s3 _ _) (hC.s3 _ _) (hC.w3 _ _) X S W X' S' W') $$ R7
  iintro R7
  iapply Hk
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

/-- A group between trips: landed or in flight. -/
def grp (n : ℕ) (g : Fin 8) : sProp (MT nD τ sig Unit (Elt F) ℕ (Pipeline.UD sig nD τ) ℕ) :=
  if g.val < n then rest d arg0 arg1 arg2 arg5 arg6 arg7 X S W X S W g else fly d arg0 arg1 arg2 arg5 arg6 arg7 X S W g

/-- What holds between trips. -/
def inv (n : ℕ) (m : Mxu F) : sProp (MT nD τ sig Unit (Elt F) ℕ (Pipeline.UD sig nD τ) ℕ) :=
  iprop(⌜Has m (loopV X S W n)⌝ ∗ (∃ A8, owns (d : Thread nD τ) arg8 fullShare A8) ∗ due d ∗ bigSep Finset.univ (grp X S W d arg0 arg1 arg2 arg5 arg6 arg7 n))

theorem inv_trip (harg0 : arg0.IsWhole) (harg1 : arg1.IsWhole) (harg2 : arg2.IsWhole) (harg5 : arg5.IsWhole) (harg6 : arg6.IsWhole) (harg7 : arg7.IsWhole) (harg8 : arg8.IsWhole)
    (k : Fin 7) (m : Mxu F) :
    inv X S W d arg0 arg1 arg2 arg5 arg6 arg7 arg8 k.val m ⊢ WP d (trip arg0 harg0 arg1 harg1 arg2 harg2 arg5 harg5 arg6 harg6 arg7 harg7 arg8 harg8 cc0_scratch5 k m) (inv X S W d arg0 arg1 arg2 arg5 arg6 arg7 arg8 (k.val + 1)) := by
  have hb : trip arg0 harg0 arg1 harg1 arg2 harg2 arg5 harg5 arg6 harg6 arg7 harg7 arg8 harg8 cc0_scratch5 k m
      = (trip arg0 harg0 arg1 harg1 arg2 harg2 arg5 harg5 arg6 harg6 arg7 harg7 arg8 harg8 cc0_scratch5 k m >>= fun m' => pure m') := (bind_pure _).symm
  rw [hb]
  have e1 : grp X S W d arg0 arg1 arg2 arg5 arg6 arg7 k.val k.castSucc = fly d arg0 arg1 arg2 arg5 arg6 arg7 X S W k.castSucc := by
    unfold grp; rw [if_neg]; exact Nat.lt_irrefl _
  have e2 : grp X S W d arg0 arg1 arg2 arg5 arg6 arg7 (k.val + 1) k.castSucc = rest d arg0 arg1 arg2 arg5 arg6 arg7 X S W X S W k.castSucc := by
    unfold grp; rw [if_pos]; exact Nat.lt_succ_self _
  have e3 : ∀ g : Fin 8, g ≠ k.castSucc → grp X S W d arg0 arg1 arg2 arg5 arg6 arg7 k.val g = grp X S W d arg0 arg1 arg2 arg5 arg6 arg7 (k.val + 1) g := by
    intro g hg
    have : g.val ≠ k.val := fun h => hg (Fin.ext h)
    unfold grp
    by_cases h : g.val < k.val
    · rw [if_pos h, if_pos (by omega)]
    · rw [if_neg h, if_neg (by omega)]
  have e4 : loopV X S W (k.val + 1) = tripV X S W (loopV X S W k.val) k := by
    show (if h : k.val < 7 then _ else _) = _
    rw [dif_pos k.isLt]
  unfold inv
  iintro ⟨%H, ⟨%A8, H8⟩, HO, HB⟩
  ihave HB := (Cert.Own.swap _ _ k.castSucc e3) $$ HB
  rw [e1, e2]
  icases HB with ⟨HF, HB⟩
  iapply (wp_trip X S W d arg0 arg1 arg2 arg5 arg6 arg7 arg8 harg0 harg1 harg2 harg5 harg6 harg7 harg8 k m _ H A8) $$ [HF HO H8]
  · isplitl [HF]; · iexact HF
    isplitl [HO]; · iexact HO
    iexact H8
  iintro %m' %H' ⟨HR, HO, H8⟩
  iapply (le_wp_ret (Fr := frame) (wpE := wpE defs₀ Variants.none (d : Thread nD τ) none) (E := Set.univ) m' _)
  isplitr
  · ipureintro
    rw [e4]; exact H'
  isplitl [H8]; · iexact H8
  isplitl [HO]; · iexact HO
  iapply HB
  iexact HR

/-- The one element of a one-element array. -/
def g0 : S1x1.Idx := fun a => ⟨0, by revert a; decide⟩

theorem trips_eq : k0_t1_loop.trips = 7 := by decide
theorem trips_lt (k : Fin k0_t1_loop.trips) : k.val < 7 := k.isLt
section
set_option maxRecDepth 20000
theorem trip_fin (harg0 : arg0.IsWhole) (harg1 : arg1.IsWhole) (harg2 : arg2.IsWhole) (harg5 : arg5.IsWhole) (harg6 : arg6.IsWhole) (harg7 : arg7.IsWhole) (harg8 : arg8.IsWhole)
    (k : Fin k0_t1_loop.trips) (m : Mxu F) : trip arg0 harg0 arg1 harg1 arg2 harg2 arg5 harg5 arg6 harg6 arg7 harg7 arg8 harg8 cc0_scratch5 k m =  trip arg0 harg0 arg1 harg1 arg2 harg2 arg5 harg5 arg6 harg6 arg7 harg7 arg8 harg8 cc0_scratch5 (⟨k.val, k.isLt⟩ : Fin 7) m := rfl
theorem inv_trip' (harg0 : arg0.IsWhole) (harg1 : arg1.IsWhole) (harg2 : arg2.IsWhole) (harg5 : arg5.IsWhole) (harg6 : arg6.IsWhole) (harg7 : arg7.IsWhole) (harg8 : arg8.IsWhole) (k : Fin k0_t1_loop.trips) (m : Mxu F) :
  inv X S W d arg0 arg1 arg2 arg5 arg6 arg7 arg8 k.val m ⊢ WP d (trip arg0 harg0 arg1 harg1 arg2 harg2 arg5 harg5 arg6 harg6 arg7 harg7 arg8 harg8 cc0_scratch5 k m) (inv X S W d arg0 arg1 arg2 arg5 arg6 arg7 arg8 (k.val + 1)) := by
  have h := inv_trip X S W d arg0 arg1 arg2 arg5 arg6 arg7 arg8 harg0 harg1 harg2 harg5 harg6 harg7 harg8 ⟨k.val, trips_lt k⟩ m
  rw [trip_fin arg0 arg1 arg2 arg5 arg6 arg7 arg8]
  generalize trip arg0 harg0 arg1 harg1 arg2 harg2 arg5 harg5 arg6 harg6 arg7 harg7 arg8 harg8 cc0_scratch5 (⟨k.val, trips_lt k⟩ : Fin 7) m = P at h ⊢
  generalize inv X S W d arg0 arg1 arg2 arg5 arg6 arg7 arg8 k.val m = L at h ⊢
  generalize inv X S W d arg0 arg1 arg2 arg5 arg6 arg7 arg8 (k.val + 1) = L' at h ⊢
  exact h

theorem wp_trips0 (harg0 : arg0.IsWhole) (harg1 : arg1.IsWhole) (harg2 : arg2.IsWhole) (harg5 : arg5.IsWhole) (harg6 : arg6.IsWhole) (harg7 : arg7.IsWhole) (harg8 : arg8.IsWhole) (m : Mxu F) (N : ℕ) (hN : k0_t1_loop.trips = N) {kk : Mxu F → Prog (TpuEff nD τ sig (Elt F) Λ₀ .tc) α} :
    inv X S W d arg0 arg1 arg2 arg5 arg6 arg7 arg8 0 m ⊢ iprop((∀ m', inv X S W d arg0 arg1 arg2 arg5 arg6 arg7 arg8 N m' -∗ WP d (kk m') Q)
      -∗ WP d (Scf.Loop.for k0_t1_loop k0_t1_ok m (fun k m => trip arg0 harg0 arg1 harg1 arg2 harg2 arg5 harg5 arg6 harg6 arg7 harg7 arg8 harg8 cc0_scratch5 k m) >>= kk) Q) := by
  have h : ∀ (k : Fin k0_t1_loop.trips) (m : Mxu F), inv X S W d arg0 arg1 arg2 arg5 arg6 arg7 arg8 k.val m ⊢ WP d (trip arg0 harg0 arg1 harg1 arg2 harg2 arg5 harg5 arg6 harg6 arg7 harg7 arg8 harg8 cc0_scratch5 k m) (inv X S W d arg0 arg1 arg2 arg5 arg6 arg7 arg8 (k.val + 1)) := fun k m => inv_trip' X S W d arg0 arg1 arg2 arg5 arg6 arg7 arg8 harg0 harg1 harg2 harg5 harg6 harg7 harg8 k m
  generalize inv X S W d arg0 arg1 arg2 arg5 arg6 arg7 arg8 = I at h ⊢
  generalize trip (F := F) arg0 harg0 arg1 harg1 arg2 harg2 arg5 harg5 arg6 harg6 arg7 harg7 arg8 harg8 cc0_scratch5 = B at h ⊢
  subst hN
  exact Scf.wp_for_bind frame (wpE defs₀ Variants.none (d : Thread nD τ) none) Set.univ k0_t1_loop.lb k0_t1_loop.ub k0_t1_loop.st k0_t1_ok m B I h

theorem wp_trips (harg0 : arg0.IsWhole) (harg1 : arg1.IsWhole) (harg2 : arg2.IsWhole) (harg5 : arg5.IsWhole) (harg6 : arg6.IsWhole) (harg7 : arg7.IsWhole) (harg8 : arg8.IsWhole) (m : Mxu F) {kk : Mxu F → Prog (TpuEff nD τ sig (Elt F) Λ₀ .tc) α} :
    inv X S W d arg0 arg1 arg2 arg5 arg6 arg7 arg8 0 m ⊢ iprop((∀ m', inv X S W d arg0 arg1 arg2 arg5 arg6 arg7 arg8 7 m' -∗ WP d (kk m') Q)
      -∗ WP d (Scf.Loop.for k0_t1_loop k0_t1_ok m (fun k m => trip arg0 harg0 arg1 harg1 arg2 harg2 arg5 harg5 arg6 harg6 arg7 harg7 arg8 harg8 cc0_scratch5 k m) >>= kk) Q) :=
  wp_trips0 X S W d arg0 arg1 arg2 arg5 arg6 arg7 arg8 harg0 harg1 harg2 harg5 harg6 harg7 harg8 m 7 trips_eq
end

theorem wp_gain (G : S1x1.Idx → Elt F .f32) (r : Rect S1x1) (h1 : r.shape.numel = 1) (hp : EltTy.packing .f32 = 1)
    {kk : Elt F .f32 → Prog (TpuEff nD τ sig (Elt F) Λ₀ .tc) α} :
    owns (d : Thread nD τ) arg3 fullShare G ⊢ iprop((owns (d : Thread nD τ) arg3 fullShare G -∗ WP d (kk (G g0)) Q)
      -∗ WP d (smemLoad arg3 r h1 hp >>= kk) Q) := by
  have hx : ∀ i : S1x1.Idx, i = g0 := by
    intro i; funext a
    fin_cases a
    · exact Fin.ext (by have := (i 0).isLt; show (i 0).val = 0; have h : S1x1.size 0 = 1 := rfl; omega)
    · exact Fin.ext (by have := (i 1).isLt; show (i 1).val = 0; have h : S1x1.size 1 = 1 := rfl; omega)
  have h := Cert.Own.wp_smem_owns (Q := Q) (defs := defs₀) (k := kk) Variants.none (d : Thread nD τ) none Set.univ arg3 r fullShare G
    (hw := View.loads_smem_one hp h1) (x := Shape.Idx.first (h1.symm ▸ Nat.one_pos))
  rw [hx (r.emb _)] at h
  exact h

theorem wp_drainAll (harg4 : arg4.IsWhole) (harg9 : arg9.IsWhole) (w : Fin 15 → S128x256.Idx → Elt F .bf16)
    {kk : PUnit → Prog (TpuEff nD τ sig (Elt F) Λ₀ .tc) α} :
    iprop((yfl d arg4 arg9 (w 0) 0 ∗ yfl d arg4 arg9 (w 1) 1 ∗ yfl d arg4 arg9 (w 2) 2 ∗ yfl d arg4 arg9 (w 3) 3 ∗ yfl d arg4 arg9 (w 4) 4 ∗ yfl d arg4 arg9 (w 5) 5 ∗ yfl d arg4 arg9 (w 6) 6 ∗ yfl d arg4 arg9 (w 7) 7 ∗ yfl d arg4 arg9 (w 8) 8 ∗ yfl d arg4 arg9 (w 9) 9 ∗ yfl d arg4 arg9 (w 10) 10 ∗ yfl d arg4 arg9 (w 11) 11 ∗ yfl d arg4 arg9 (w 12) 12 ∗ yfl d arg4 arg9 (w 13) 13 ∗ yfl d arg4 arg9 (w 14) 14) ∗ due d)
    ⊢ iprop((iprop(bigSep Finset.univ (fun t : Fin 15 => ydone d arg4 arg9 (w t) t) ∗ due d) -∗ WP d (kk ⟨⟩) Q)
      -∗ WP d (drainAll (F := F) arg4 harg4 arg9 harg9 cc0_scratch7 >>= kk) Q) := by
  unfold drainAll
  simp only [bind_assoc, pure_bind]
  rw [list15]
  iintro ⟨⟨Y0, Y1, Y2, Y3, Y4, Y5, Y6, Y7, Y8, Y9, Y10, Y11, Y12, Y13, Y14⟩, HO⟩ Hk
  iapply (wp_drain d arg4 arg9 harg4 harg9 _ _ _ cc0_scratch7 _ _ 14 rfl (cellY_eq 14 _ _ rfl) (w 14)) $$ [Y14 HO]
  · isplitl [Y14]; · iexact Y14
    iexact HO
  iintro ⟨Y14, HO⟩
  iapply (wp_drain d arg4 arg9 harg4 harg9 _ _ _ cc0_scratch7 _ _ 0 rfl (cellY_eq 0 _ _ rfl) (w 0)) $$ [Y0 HO]
  · isplitl [Y0]; · iexact Y0
    iexact HO
  iintro ⟨Y0, HO⟩
  iapply (wp_drain d arg4 arg9 harg4 harg9 _ _ _ cc0_scratch7 _ _ 1 rfl (cellY_eq 1 _ _ rfl) (w 1)) $$ [Y1 HO]
  · isplitl [Y1]; · iexact Y1
    iexact HO
  iintro ⟨Y1, HO⟩
  iapply (wp_drain d arg4 arg9 harg4 harg9 _ _ _ cc0_scratch7 _ _ 2 rfl (cellY_eq 2 _ _ rfl) (w 2)) $$ [Y2 HO]
  · isplitl [Y2]; · iexact Y2
    iexact HO
  iintro ⟨Y2, HO⟩
  iapply (wp_drain d arg4 arg9 harg4 harg9 _ _ _ cc0_scratch7 _ _ 3 rfl (cellY_eq 3 _ _ rfl) (w 3)) $$ [Y3 HO]
  · isplitl [Y3]; · iexact Y3
    iexact HO
  iintro ⟨Y3, HO⟩
  iapply (wp_drain d arg4 arg9 harg4 harg9 _ _ _ cc0_scratch7 _ _ 4 rfl (cellY_eq 4 _ _ rfl) (w 4)) $$ [Y4 HO]
  · isplitl [Y4]; · iexact Y4
    iexact HO
  iintro ⟨Y4, HO⟩
  iapply (wp_drain d arg4 arg9 harg4 harg9 _ _ _ cc0_scratch7 _ _ 5 rfl (cellY_eq 5 _ _ rfl) (w 5)) $$ [Y5 HO]
  · isplitl [Y5]; · iexact Y5
    iexact HO
  iintro ⟨Y5, HO⟩
  iapply (wp_drain d arg4 arg9 harg4 harg9 _ _ _ cc0_scratch7 _ _ 6 rfl (cellY_eq 6 _ _ rfl) (w 6)) $$ [Y6 HO]
  · isplitl [Y6]; · iexact Y6
    iexact HO
  iintro ⟨Y6, HO⟩
  iapply (wp_drain d arg4 arg9 harg4 harg9 _ _ _ cc0_scratch7 _ _ 7 rfl (cellY_eq 7 _ _ rfl) (w 7)) $$ [Y7 HO]
  · isplitl [Y7]; · iexact Y7
    iexact HO
  iintro ⟨Y7, HO⟩
  iapply (wp_drain d arg4 arg9 harg4 harg9 _ _ _ cc0_scratch7 _ _ 8 rfl (cellY_eq 8 _ _ rfl) (w 8)) $$ [Y8 HO]
  · isplitl [Y8]; · iexact Y8
    iexact HO
  iintro ⟨Y8, HO⟩
  iapply (wp_drain d arg4 arg9 harg4 harg9 _ _ _ cc0_scratch7 _ _ 9 rfl (cellY_eq 9 _ _ rfl) (w 9)) $$ [Y9 HO]
  · isplitl [Y9]; · iexact Y9
    iexact HO
  iintro ⟨Y9, HO⟩
  iapply (wp_drain d arg4 arg9 harg4 harg9 _ _ _ cc0_scratch7 _ _ 10 rfl (cellY_eq 10 _ _ rfl) (w 10)) $$ [Y10 HO]
  · isplitl [Y10]; · iexact Y10
    iexact HO
  iintro ⟨Y10, HO⟩
  iapply (wp_drain d arg4 arg9 harg4 harg9 _ _ _ cc0_scratch7 _ _ 11 rfl (cellY_eq 11 _ _ rfl) (w 11)) $$ [Y11 HO]
  · isplitl [Y11]; · iexact Y11
    iexact HO
  iintro ⟨Y11, HO⟩
  iapply (wp_drain d arg4 arg9 harg4 harg9 _ _ _ cc0_scratch7 _ _ 12 rfl (cellY_eq 12 _ _ rfl) (w 12)) $$ [Y12 HO]
  · isplitl [Y12]; · iexact Y12
    iexact HO
  iintro ⟨Y12, HO⟩
  iapply (wp_drain d arg4 arg9 harg4 harg9 _ _ _ cc0_scratch7 _ _ 13 rfl (cellY_eq 13 _ _ rfl) (w 13)) $$ [Y13 HO]
  · isplitl [Y13]; · iexact Y13
    iexact HO
  iintro ⟨Y13, HO⟩
  iapply Hk
  isplitr [HO]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Y10]; · iexact Y10
    isplitl [Y11]; · iexact Y11
    isplitl [Y12]; · iexact Y12
    isplitl [Y13]; · iexact Y13
    iexact Y14
  iexact HO

set_option maxRecDepth 20000 in
theorem wp_body (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole)
    (hC : Credits arg4 arg5 arg6 arg7)
    (X' : S128x15104.Idx → Elt F .bf16) (S' : S944x3840.Idx → Elt F .fp8e4m3) (W' : S7552x3840.Idx → Elt F .i8)
    (A8 : S59x2x128x128.Idx → Elt F .bf16) (G : S1x1.Idx → Elt F .f32) (Y4 Y9 : S128x3840.Idx → Elt F .bf16)
    {kk : PUnit → Prog (TpuEff nD τ sig (Elt F) Λ₀ .tc) α} :
    iprop(bigSep Finset.univ (fun g : Fin 8 => rest d arg0 arg1 arg2 arg5 arg6 arg7 X S W X' S' W' g) ∗ owns (d : Thread nD τ) arg8 fullShare A8 ∗ due d
      ∗ owns (d : Thread nD τ) arg3 fullShare G ∗ bigSep Finset.univ (fun t : Fin 15 => yidle d arg4 arg9 Y4 Y9 t))
    ⊢ iprop((iprop(bigSep Finset.univ (fun g : Fin 8 => rest d arg0 arg1 arg2 arg5 arg6 arg7 X S W X S W g) ∗ (∃ A8', owns (d : Thread nD τ) arg8 fullShare A8') ∗ due d
      ∗ owns (d : Thread nD τ) arg3 fullShare G ∗ bigSep Finset.univ (fun t : Fin 15 => ydone d arg4 arg9 (outT (yV X S W t) (G g0)) t)) -∗ WP d (kk ⟨⟩) Q)
      -∗ WP d (body arg0 harg0 arg1 harg1 arg2 harg2 arg3 harg3 arg4 harg4 arg5 harg5 arg6 harg6 arg7 harg7 arg8 harg8 arg9 harg9 cc0_scratch5 cc0_scratch6 cc0_scratch7 >>= kk) Q) := by
  unfold body
  simp only [bind_assoc]
  iintro ⟨HB, H8, HO, H3, HY⟩ Hk
  iapply (wp_startAll X S W d arg0 arg1 arg2 arg4 arg5 arg6 arg7 harg0 harg1 harg2 harg5 harg6 harg7 hC X' S' W') $$ HB
  iintro HB
  iapply (wp_trips X S W d arg0 arg1 arg2 arg5 arg6 arg7 arg8 harg0 harg1 harg2 harg5 harg6 harg7 harg8 _) $$ [HB H8 HO]
  · unfold inv
    isplitr
    · ipureintro; exact has_cleared
    isplitl [H8]; · iexists A8; iexact H8
    isplitl [HO]; · iexact HO
    iexact HB
  iintro %m0 HI
  unfold inv
  icases HI with ⟨%H, ⟨%B8, H8⟩, HO, HB⟩
  have e7 : ∀ g : Fin 8, g ≠ 7 → grp X S W d arg0 arg1 arg2 arg5 arg6 arg7 7 g = rest d arg0 arg1 arg2 arg5 arg6 arg7 X S W X S W g := by
    intro g hg
    unfold grp
    rw [if_pos]
    have : g.val ≠ 7 := fun h => hg (Fin.ext h)
    omega
  ihave HB := (Cert.Own.swap _ (fun g => rest d arg0 arg1 arg2 arg5 arg6 arg7 X S W X S W g) 7 e7) $$ HB
  rw [show grp X S W d arg0 arg1 arg2 arg5 arg6 arg7 7 7 = fly d arg0 arg1 arg2 arg5 arg6 arg7 X S W 7 from if_neg (by decide)]
  icases HB with ⟨HF, HB⟩
  iapply (wp_tailPrep X S W d arg0 arg1 arg2 arg5 arg6 arg7 arg8 harg0 harg1 harg2 harg5 harg6 harg7 harg8 B8) $$ [HF HO H8]
  · isplitl [HF]; · iexact HF
    isplitl [HO]; · iexact HO
    iexact H8
  iintro %C8 %hG HR HO
  iapply (wp_gain d arg3 G) $$ H3
  iintro H3
  ihave HY := (split15 _) $$ HY
  icases HY with ⟨Y0, Y1, Y2, Y3, Y4, Y5, Y6, Y7, Y8, Y9, Y10, Y11, Y12, Y13, Y14⟩
  iapply (wp_tailLast X S W d arg0 arg1 arg2 arg4 arg9 arg5 arg6 arg7 arg8 harg4 harg9 (G g0) hC.y Y4 Y9 m0 _ H C8 hG) $$ [HR Y14]
  · isplitl [HR]; · iexact HR
    iexact Y14
  iintro %m1 %H1 HR Y14
  have K1 : Has m1 (pV X S W 0) := H1
  iapply (wp_pair0 X S W d arg0 arg1 arg2 arg4 arg9 arg5 arg6 arg7 arg8 harg4 harg9 (G g0) hC.y Y4 Y9 m1 _ K1 C8 hG) $$ [HR Y0 Y1]
  · isplitl [HR]; · iexact HR
    isplitl [Y0]; · iexact Y0
    iexact Y1
  iintro %m2 %H2 HR Y0 Y1
  have K2 : Has m2 (pV X S W 1) := H2
  iapply (wp_pair1 X S W d arg0 arg1 arg2 arg4 arg9 arg5 arg6 arg7 arg8 harg4 harg9 (G g0) hC.y Y4 Y9 m2 _ K2 C8 hG) $$ [HR Y2 Y3]
  · isplitl [HR]; · iexact HR
    isplitl [Y2]; · iexact Y2
    iexact Y3
  iintro %m3 %H3 HR Y2 Y3
  have K3 : Has m3 (pV X S W 2) := H3
  iapply (wp_pair2 X S W d arg0 arg1 arg2 arg4 arg9 arg5 arg6 arg7 arg8 harg4 harg9 (G g0) hC.y Y4 Y9 m3 _ K3 C8 hG) $$ [HR Y4 Y5]
  · isplitl [HR]; · iexact HR
    isplitl [Y4]; · iexact Y4
    iexact Y5
  iintro %m4 %H4 HR Y4 Y5
  have K4 : Has m4 (pV X S W 3) := H4
  iapply (wp_pair3 X S W d arg0 arg1 arg2 arg4 arg9 arg5 arg6 arg7 arg8 harg4 harg9 (G g0) hC.y Y4 Y9 m4 _ K4 C8 hG) $$ [HR Y6 Y7]
  · isplitl [HR]; · iexact HR
    isplitl [Y6]; · iexact Y6
    iexact Y7
  iintro %m5 %H5 HR Y6 Y7
  have K5 : Has m5 (pV X S W 4) := H5
  iapply (wp_pair4 X S W d arg0 arg1 arg2 arg4 arg9 arg5 arg6 arg7 arg8 harg4 harg9 (G g0) hC.y Y4 Y9 m5 _ K5 C8 hG) $$ [HR Y8 Y9]
  · isplitl [HR]; · iexact HR
    isplitl [Y8]; · iexact Y8
    iexact Y9
  iintro %m6 %H6 HR Y8 Y9
  have K6 : Has m6 (pV X S W 5) := H6
  iapply (wp_pair5 X S W d arg0 arg1 arg2 arg4 arg9 arg5 arg6 arg7 arg8 harg4 harg9 (G g0) hC.y Y4 Y9 m6 _ K6 C8 hG) $$ [HR Y10 Y11]
  · isplitl [HR]; · iexact HR
    isplitl [Y10]; · iexact Y10
    iexact Y11
  iintro %m7 %H7 HR Y10 Y11
  have K7 : Has m7 (pV X S W 6) := H7
  iapply (wp_pair6 X S W d arg0 arg1 arg2 arg4 arg9 arg5 arg6 arg7 arg8 harg4 harg9 (G g0) hC.y Y4 Y9 m7 _ K7 C8 hG) $$ [HR Y12 Y13]
  · isplitl [HR]; · iexact HR
    isplitl [Y12]; · iexact Y12
    iexact Y13
  iintro %m8 %H8 HR Y12 Y13
  have K8 : Has m8 (pV X S W 7) := H8
  iapply (wp_drainAll d arg4 arg9 harg4 harg9 (fun t => outT (yV X S W t) (G g0))) $$ [Y0 Y1 Y2 Y3 Y4 Y5 Y6 Y7 Y8 Y9 Y10 Y11 Y12 Y13 Y14 HO]
  · isplitr [HO]
    · isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      isplitl [Y7]; · iexact Y7
      isplitl [Y8]; · iexact Y8
      isplitl [Y9]; · iexact Y9
      isplitl [Y10]; · iexact Y10
      isplitl [Y11]; · iexact Y11
      isplitl [Y12]; · iexact Y12
      isplitl [Y13]; · iexact Y13
      iexact Y14
    iexact HO
  iintro ⟨HY, HO⟩
  iapply (Mxu.wp_exit (defs := defs₀) (Q := Q) (K8.drained (pV_end X S W)))
  iapply Hk
  icases HR with ⟨HR, H8⟩
  isplitl [HB HR]
  · iapply HB; iexact HR
  isplitl [H8]; · iexists C8; iexact H8
  isplitl [HO]; · iexact HO
  isplitl [H3]; · iexact H3
  iexact HY

end Cert.Kernel
-- ==== Proof.KSplit.lean ====
module

public import proofs.«01_k».proof.Proof.KBody
public import proofs.«01_k».proof.Proof.Gen.Kernel.Frame
public import Idealize.ShloMosaic.Lib.Pipeline.FrameBody
public import Idealize.ShloMosaic.Lib.Pipeline.FrameValue

@[expose] public section

set_option synthInstance.maxSize 4096
set_option maxRecDepth 16384

noncomputable section

namespace Cert.Kernel

open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own
open Idealize.ShloMosaic.Pipeline (Dat Cfg Window BodyObligation BodyObligationLoose cellOf)

variable {F : FTy → Type} [FloatOps F]

/-! ## The arrays cut into the groups' pieces -/

theorem xR_sep : ∀ (g g' : Fin 8) (k k' : Fin 2), (g, k) ≠ (g', k') →
    7552 * k.val + 1024 * g.val + xLen g ≤ 7552 * k'.val + 1024 * g'.val ∨ 7552 * k'.val + 1024 * g'.val + xLen g' ≤ 7552 * k.val + 1024 * g.val := by
  decide
theorem sR_sep : ∀ (g g' : Fin 8) (k k' : Fin 2), (g, k) ≠ (g', k') →
    472 * k.val + 64 * g.val + sLen g ≤ 472 * k'.val + 64 * g'.val ∨ 472 * k'.val + 64 * g'.val + sLen g' ≤ 472 * k.val + 64 * g.val := by
  decide
theorem wR_sep : ∀ (g g' : Fin 8), g ≠ g' →
    1024 * g.val + xLen g ≤ 1024 * g'.val ∨ 1024 * g'.val + xLen g' ≤ 1024 * g.val := by
  decide

theorem xR_disj (p p' : Fin 8 × Fin 2) (h : p ≠ p') : Disjoint (xR p.1 p.2).set (xR p'.1 p'.2).set :=
  Rect.unit_disjoint (s := S128x15104) 1 (xR_sep p.1 p'.1 p.2 p'.2 h)
theorem sR_disj (p p' : Fin 8 × Fin 2) (h : p ≠ p') : Disjoint (sR p.1 p.2).set (sR p'.1 p'.2).set :=
  Rect.unit_disjoint (s := S944x3840) 0 (sR_sep p.1 p'.1 p.2 p'.2 h)
theorem wR_disj (p p' : Fin 8) (h : p ≠ p') : Disjoint (wR p).set (wR p').set :=
  Rect.unit_disjoint (s := S7552x3840) 0 (wR_sep p p' h)
theorem yR_disj (p p' : Fin 15) (h : p ≠ p') : Disjoint (yR p).set (yR p').set :=
  Rect.unit_disjoint (s := S128x3840) 1 (by
    have : p.val ≠ p'.val := fun e => h (Fin.ext e)
    show 256 * p.val + 256 ≤ 256 * p'.val ∨ 256 * p'.val + 256 ≤ 256 * p.val
    omega)

theorem xR_cov : (Finset.univ : Finset (Fin 8 × Fin 2)).biUnion (fun p => (xR p.1 p.2).set) = Finset.univ := by
  refine Finset.eq_univ_iff_forall.mpr fun i => ?_
  have h1 : (i 1).val < 15104 := (i 1).isLt
  have h0 : (i 0).val < 128 := (i 0).isLt
  refine Finset.mem_biUnion.mpr ⟨(⟨(i 1).val % 7552 / 1024, by omega⟩, ⟨(i 1).val / 7552, by omega⟩), Finset.mem_univ _, Rect.mem_set_unit.mpr fun a => ?_⟩
  fin_cases a
  · show 0 ≤ (i 0).val ∧ (i 0).val < 0 + 128
    omega
  · show 7552 * ((i 1).val / 7552) + 1024 * ((i 1).val % 7552 / 1024) ≤ (i 1).val
      ∧ (i 1).val < 7552 * ((i 1).val / 7552) + 1024 * ((i 1).val % 7552 / 1024) + (if (i 1).val % 7552 / 1024 = 7 then 384 else 1024)
    split_ifs <;> omega
theorem sR_cov : (Finset.univ : Finset (Fin 8 × Fin 2)).biUnion (fun p => (sR p.1 p.2).set) = Finset.univ := by
  refine Finset.eq_univ_iff_forall.mpr fun i => ?_
  have h0 : (i 0).val < 944 := (i 0).isLt
  have h1 : (i 1).val < 3840 := (i 1).isLt
  refine Finset.mem_biUnion.mpr ⟨(⟨(i 0).val % 472 / 64, by omega⟩, ⟨(i 0).val / 472, by omega⟩), Finset.mem_univ _, Rect.mem_set_unit.mpr fun a => ?_⟩
  fin_cases a
  · show 472 * ((i 0).val / 472) + 64 * ((i 0).val % 472 / 64) ≤ (i 0).val
      ∧ (i 0).val < 472 * ((i 0).val / 472) + 64 * ((i 0).val % 472 / 64) + (if (i 0).val % 472 / 64 = 7 then 24 else 64)
    split_ifs <;> omega
  · show 0 ≤ (i 1).val ∧ (i 1).val < 0 + 3840
    omega
theorem wR_cov : (Finset.univ : Finset (Fin 8)).biUnion (fun p => (wR p).set) = Finset.univ := by
  refine Finset.eq_univ_iff_forall.mpr fun i => ?_
  have h0 : (i 0).val < 7552 := (i 0).isLt
  have h1 : (i 1).val < 3840 := (i 1).isLt
  refine Finset.mem_biUnion.mpr ⟨⟨(i 0).val / 1024, by omega⟩, Finset.mem_univ _, Rect.mem_set_unit.mpr fun a => ?_⟩
  fin_cases a
  · show 1024 * ((i 0).val / 1024) ≤ (i 0).val
      ∧ (i 0).val < 1024 * ((i 0).val / 1024) + (if (i 0).val / 1024 = 7 then 384 else 1024)
    split_ifs <;> omega
  · show 0 ≤ (i 1).val ∧ (i 1).val < 0 + 3840
    omega
theorem yR_cov : (Finset.univ : Finset (Fin 15)).biUnion (fun p => (yR p).set) = Finset.univ := by
  refine Finset.eq_univ_iff_forall.mpr fun i => ?_
  have h0 : (i 0).val < 128 := (i 0).isLt
  have h1 : (i 1).val < 3840 := (i 1).isLt
  refine Finset.mem_biUnion.mpr ⟨⟨(i 1).val / 256, by omega⟩, Finset.mem_univ _, Rect.mem_set_unit.mpr fun a => ?_⟩
  fin_cases a
  · show 0 ≤ (i 0).val ∧ (i 0).val < 0 + 128
    omega
  · show 256 * ((i 1).val / 256) ≤ (i 1).val ∧ (i 1).val < 256 * ((i 1).val / 256) + 256
    omega

variable (d : Dev nD)

instance elt_nonempty (e : EltTy) : Nonempty (Elt F e) := ⟨(Elt.inhabited F e).default⟩

theorem x_eq {sp : Space} (m : Memref sig .tc sp S128x15104 .bf16) (X : S128x15104.Idx → Elt F .bf16) :
    (owns (d : Thread nD τ) m fullShare X : sProp (MT nD τ sig Unit (Elt F) ℕ (Pipeline.UD sig nD τ) ℕ))
      = iprop(bigSep Finset.univ (fun g : Fin 8 => pc d m X (xR g 0) (fun _ => rfl)) ∗ bigSep Finset.univ (fun g : Fin 8 => pc d m X (xR g 1) (fun _ => rfl))) := by
  rw [← bigSep_sep']
  have e : (fun g : Fin 8 => iprop(pc d m X (xR g 0) (fun _ => rfl) ∗ pc d m X (xR g 1) (fun _ => rfl)))
      = fun g : Fin 8 => bigSep Finset.univ (fun k : Fin 2 => pc d m X (xR g k) (fun _ => rfl)) := by
    funext g; rw [bigSep_univ_two]
  rw [e, ← bigSep_univ_prod (fun p : Fin 8 × Fin 2 => pc d m X (xR p.1 p.2) (fun _ => rfl))]
  exact BI.equiv_iff.mp ⟨owns_rects (d : Thread nD τ) m fullShare (fun p : Fin 8 × Fin 2 => xR p.1 p.2) (fun _ _ => rfl) xR_disj xR_cov X,
    owns_of_rects (d : Thread nD τ) m fullShare (fun p : Fin 8 × Fin 2 => xR p.1 p.2) (fun _ _ => rfl) xR_disj xR_cov X⟩

theorem s_eq {sp : Space} (m : Memref sig .tc sp S944x3840 .fp8e4m3) (X : S944x3840.Idx → Elt F .fp8e4m3) :
    (owns (d : Thread nD τ) m fullShare X : sProp (MT nD τ sig Unit (Elt F) ℕ (Pipeline.UD sig nD τ) ℕ))
      = iprop(bigSep Finset.univ (fun g : Fin 8 => pc d m X (sR g 0) (fun _ => rfl)) ∗ bigSep Finset.univ (fun g : Fin 8 => pc d m X (sR g 1) (fun _ => rfl))) := by
  rw [← bigSep_sep']
  have e : (fun g : Fin 8 => iprop(pc d m X (sR g 0) (fun _ => rfl) ∗ pc d m X (sR g 1) (fun _ => rfl)))
      = fun g : Fin 8 => bigSep Finset.univ (fun k : Fin 2 => pc d m X (sR g k) (fun _ => rfl)) := by
    funext g; rw [bigSep_univ_two]
  rw [e, ← bigSep_univ_prod (fun p : Fin 8 × Fin 2 => pc d m X (sR p.1 p.2) (fun _ => rfl))]
  exact BI.equiv_iff.mp ⟨owns_rects (d : Thread nD τ) m fullShare (fun p : Fin 8 × Fin 2 => sR p.1 p.2) (fun _ _ => rfl) sR_disj sR_cov X,
    owns_of_rects (d : Thread nD τ) m fullShare (fun p : Fin 8 × Fin 2 => sR p.1 p.2) (fun _ _ => rfl) sR_disj sR_cov X⟩

theorem w_eq {sp : Space} (m : Memref sig .tc sp S7552x3840 .i8) (X : S7552x3840.Idx → Elt F .i8) :
    (owns (d : Thread nD τ) m fullShare X : sProp (MT nD τ sig Unit (Elt F) ℕ (Pipeline.UD sig nD τ) ℕ))
      = bigSep Finset.univ (fun g : Fin 8 => pc d m X (wR g) (fun _ => rfl)) :=
  BI.equiv_iff.mp ⟨owns_rects (d : Thread nD τ) m fullShare (fun p : Fin 8 => wR p) (fun _ _ => rfl) wR_disj wR_cov X,
    owns_of_rects (d : Thread nD τ) m fullShare (fun p : Fin 8 => wR p) (fun _ _ => rfl) wR_disj wR_cov X⟩

theorem y_eq {sp : Space} (m : Memref sig .tc sp S128x3840 .bf16) (X : S128x3840.Idx → Elt F .bf16) :
    (owns (d : Thread nD τ) m fullShare X : sProp (MT nD τ sig Unit (Elt F) ℕ (Pipeline.UD sig nD τ) ℕ))
      = bigSep Finset.univ (fun t : Fin 15 => pc d m X (yR t) (fun _ => rfl)) :=
  BI.equiv_iff.mp ⟨owns_rects (d : Thread nD τ) m fullShare (fun p : Fin 15 => yR p) (fun _ _ => rfl) yR_disj yR_cov X,
    owns_of_rects (d : Thread nD τ) m fullShare (fun p : Fin 15 => yR p) (fun _ _ => rfl) yR_disj yR_cov X⟩

/-- The kernel's own DMA semaphores. -/
def osem0 : (Fin 8 × Fin 5) ⊕ Fin 15 → SemLoc sig := Sum.elim (fun p => .dma (semG p.1 p.2)) (fun t => .dma (semY t))

theorem sem_eq : (Pipeline.ownSems0 (Ix := Unit) (Name := ℕ) (U := Pipeline.UD sig nD τ) (Lvl := ℕ) (Val := Elt F) (τ := τ) osem0 d
      : sProp (MT nD τ sig Unit (Elt F) ℕ (Pipeline.UD sig nD τ) ℕ))
    = iprop(bigSep Finset.univ (fun g : Fin 8 => iprop(sv d (semG g 0) ∗ sv d (semG g 1) ∗ sv d (semG g 2) ∗ sv d (semG g 3) ∗ sv d (semG g 4)))
        ∗ bigSep Finset.univ (fun t : Fin 15 => sv d (semY t))) := by
  unfold Pipeline.ownSems0
  refine (BI.bigSep_univ_sum _).trans ?_
  refine congrArg₂ (fun a b => iprop(a ∗ b)) ?_ rfl
  refine (bigSep_univ_prod _).trans ?_
  exact congrArg (bigSep Finset.univ) (funext fun g => bigSep_univ_eq_bigSepL [0, 1, 2, 3, 4] (by decide) (by decide) (fun k : Fin 5 => sv d (semG g k)))

variable (arg0 : Memref sig .tc .hbm S128x15104 .bf16) (arg1 : Memref sig .tc .hbm S7552x3840 .i8) (arg2 : Memref sig .tc .hbm S944x3840 .fp8e4m3)
variable (arg4 : Memref sig .tc .hbm S128x3840 .bf16) (arg9 : Memref sig .tc .vmem S128x3840 .bf16)
variable (arg5 : Memref sig .tc .vmem S128x15104 .bf16) (arg6 : Memref sig .tc .vmem S7552x3840 .i8) (arg7 : Memref sig .tc .vmem S944x3840 .fp8e4m3)

theorem sep_antisymm {A B : sProp (MT nD τ sig Unit (Elt F) ℕ (Pipeline.UD sig nD τ) ℕ)} (h1 : A ⊢ B) (h2 : B ⊢ A) : A = B := BI.equiv_iff.mp ⟨h1, h2⟩

theorem rests_eq (X : S128x15104.Idx → Elt F .bf16) (S : S944x3840.Idx → Elt F .fp8e4m3) (W : S7552x3840.Idx → Elt F .i8)
    (X' : S128x15104.Idx → Elt F .bf16) (S' : S944x3840.Idx → Elt F .fp8e4m3) (W' : S7552x3840.Idx → Elt F .i8) :
    iprop((owns (d : Thread nD τ) arg0 fullShare X ∗ owns (d : Thread nD τ) arg2 fullShare S ∗ owns (d : Thread nD τ) arg1 fullShare W)
      ∗ (owns (d : Thread nD τ) arg5 fullShare X' ∗ owns (d : Thread nD τ) arg7 fullShare S' ∗ owns (d : Thread nD τ) arg6 fullShare W')
      ∗ bigSep Finset.univ (fun g : Fin 8 => iprop(sv d (semG g 0) ∗ sv d (semG g 1) ∗ sv d (semG g 2) ∗ sv d (semG g 3) ∗ sv d (semG g 4))))
    = bigSep Finset.univ (fun g : Fin 8 => rest d arg0 arg1 arg2 arg5 arg6 arg7 X S W X' S' W' g) := by
  unfold rest
  simp only [bigSep_sep']
  rw [x_eq, x_eq, s_eq, s_eq, w_eq, w_eq]
  refine sep_antisymm ?_ ?_
  · iintro ⟨⟨⟨A0, A1⟩, ⟨A2, A3⟩, A4⟩, ⟨⟨B0, B1⟩, ⟨B2, B3⟩, B4⟩, HS⟩
    isplitl [A0 A1 A2 A3 A4]
    · isplitl [A0]; · iexact A0
      isplitl [A1]; · iexact A1
      isplitl [A2]; · iexact A2
      isplitl [A3]; · iexact A3
      iexact A4
    isplitl [B0 B1 B2 B3 B4]
    · isplitl [B0]; · iexact B0
      isplitl [B1]; · iexact B1
      isplitl [B2]; · iexact B2
      isplitl [B3]; · iexact B3
      iexact B4
    iexact HS
  · iintro ⟨⟨A0, A1, A2, A3, A4⟩, ⟨B0, B1, B2, B3, B4⟩, HS⟩
    isplitl [A0 A1 A2 A3 A4]
    · isplitl [A0 A1]
      · isplitl [A0]; · iexact A0
        iexact A1
      isplitl [A2 A3]
      · isplitl [A2]; · iexact A2
        iexact A3
      iexact A4
    isplitl [B0 B1 B2 B3 B4]
    · isplitl [B0 B1]
      · isplitl [B0]; · iexact B0
        iexact B1
      isplitl [B2 B3]
      · isplitl [B2]; · iexact B2
        iexact B3
      iexact B4
    iexact HS

theorem yidle_eq (Y4 Y9 : S128x3840.Idx → Elt F .bf16) :
    iprop(owns (d : Thread nD τ) arg4 fullShare Y4 ∗ owns (d : Thread nD τ) arg9 fullShare Y9 ∗ bigSep Finset.univ (fun t : Fin 15 => sv d (semY t)))
    = bigSep Finset.univ (fun t : Fin 15 => yidle d arg4 arg9 Y4 Y9 t) := by
  unfold yidle
  simp only [bigSep_sep']
  rw [y_eq, y_eq]

/-- The tile of a column, and the place in it. -/
def yTile (i : S128x3840.Idx) : Fin 15 := ⟨(i 1).val / 256, by have : (i 1).val < 3840 := (i 1).isLt; omega⟩
def yAt (i : S128x3840.Idx) : S128x256.Idx := fun a => ⟨(![(i 0).val, (i 1).val % 256] : Fin 2 → ℕ) a, by
  fin_cases a
  · exact (i 0).isLt
  · exact Nat.mod_lt _ (by decide)⟩

/-- The whole result from its tiles. -/
def yOf (w : Fin 15 → S128x256.Idx → Elt F .bf16) (i : S128x3840.Idx) : Elt F .bf16 := w (yTile i) (yAt i)

theorem yOf_emb (w : Fin 15 → S128x256.Idx → Elt F .bf16) (t : Fin 15) : (fun j => yOf w ((yR t).emb j)) = w t := by
  funext j
  have h1 : (j 1).val < 256 := (j 1).isLt
  have hv : ((yR t).emb j 1).val = 256 * t.val + 1 * (j 1).val := rfl
  have hu : ((yR t).emb j 0).val = 0 + 1 * (j 0).val := rfl
  have e1 : yTile ((yR t).emb j) = t := by
    refine Fin.ext ?_
    show ((yR t).emb j 1).val / 256 = t.val
    omega
  have e2 : yAt ((yR t).emb j) = j := by
    funext a
    refine Fin.ext ?_
    fin_cases a
    · show ((yR t).emb j 0).val = (j 0).val
      omega
    · show ((yR t).emb j 1).val % 256 = (j 1).val
      omega
  unfold yOf
  rw [e1, e2]

theorem ydone_eq (w : Fin 15 → S128x256.Idx → Elt F .bf16) :
    bigSep Finset.univ (fun t : Fin 15 => ydone d arg4 arg9 (w t) t)
    = iprop(owns (d : Thread nD τ) arg4 fullShare (yOf w) ∗ owns (d : Thread nD τ) arg9 fullShare (yOf w) ∗ bigSep Finset.univ (fun t : Fin 15 => sv d (semY t))) := by
  rw [yidle_eq]
  refine congrArg (bigSep Finset.univ) (funext fun t => ?_)
  unfold yidle ydone pc
  rw [yOf_emb]

theorem credits [Facts] : Credits (Memref.whole main_v2) (Memref.whole cc0_scratch0) (Memref.whole cc0_scratch1) (Memref.whole cc0_scratch2) where
  x1 := fun o h => by show 0 < Ref.dmaCredit cc0_scratch0 S128x1024 .bf16; decide
  x3 := fun o h => by show 0 < Ref.dmaCredit cc0_scratch0 S128x384 .bf16; decide
  s1 := fun o h => by show 0 < Ref.dmaCredit cc0_scratch2 S64x3840 .fp8e4m3; decide
  s3 := fun o h => by show 0 < Ref.dmaCredit cc0_scratch2 S24x3840 .fp8e4m3; decide
  w1 := fun o h => by show 0 < Ref.dmaCredit cc0_scratch1 S1024x3840 .i8; decide
  w3 := fun o h => by show 0 < Ref.dmaCredit cc0_scratch1 S384x3840 .i8; decide
  y := fun t => by show 0 < Ref.dmaCredit main_v2 S128x256 .bf16; decide

end Cert.Kernel
-- ==== Proof.KFrame.lean ====
module

public import proofs.«01_k».proof.Proof.KSplit

@[expose] public section

set_option synthInstance.maxSize 4096
set_option maxRecDepth 16384

noncomputable section

namespace Cert.Kernel

open Cert.Kernel.Gen
open Idealize.ShloMosaic Idealize.SL Idealize.SL.Sem Idealize.ShloMosaic.TcCoe Idealize.ShloMosaic.Transfers
open Idealize.SL.RA Idealize.SL.BI
open scoped Idealize.SL.BI
open Idealize.SL.BI.BIBase Idealize.SL.BI.Laws Idealize.SL.ProofMode
open Cert.Own
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem ent_of_eq {A B : sProp 𝕄} (h : A = B) : A ⊢ B := by rw [h]

/-- The kernel's own text is the text it is proved of. -/
def Same (F : FTy → Type) [FloatOps F] : Prop :=
  ∀ t : Fin cfg0.N, bodyAt0 (F := F) t
    = body (F := F) (Memref.whole main_v0) (Memref.isWhole_whole _) (Memref.whole main_arg1) (Memref.isWhole_whole _) (Memref.whole main_arg2) (Memref.isWhole_whole _)
        (win0_0.stage (cfg0.slots t 0)) (hstage0_0 0) (Memref.whole main_v2) (Memref.isWhole_whole _) (Memref.whole cc0_scratch0) (Memref.isWhole_whole _)
        (Memref.whole cc0_scratch1) (Memref.isWhole_whole _) (Memref.whole cc0_scratch2) (Memref.isWhole_whole _) (Memref.whole cc0_scratch3) (Memref.isWhole_whole _)
        (Memref.whole cc0_scratch4) (Memref.isWhole_whole _) cc0_scratch5 cc0_scratch6 cc0_scratch7

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the kernel holds -/

theorem ownSemFacts0 : Pipeline.OwnSemFacts spec0 osem0 where
  isScoped := by decide
  inj := by
    rintro (⟨g, i⟩ | t) (⟨g', i'⟩ | t') h
    · have h1 : semG g i = semG g' i' := SemLoc.dma.inj h
      have h2 : 1 + 5 * g.val + i.val = 1 + 5 * g'.val + i'.val := congrArg Fin.val h1
      have hg : g = g' := Fin.ext (by omega)
      subst hg
      have hi : i = i' := Fin.ext (by omega)
      subst hi; rfl
    · have h1 : semG g i = semY t' := SemLoc.dma.inj h
      have h2 : 1 + 5 * g.val + i.val = 41 + t'.val := congrArg Fin.val h1
      omega
    · have h1 : semY t = semG g' i' := SemLoc.dma.inj h
      have h2 : 41 + t.val = 1 + 5 * g'.val + i'.val := congrArg Fin.val h1
      omega
    · have h1 : semY t = semY t' := SemLoc.dma.inj h
      have h2 : 41 + t.val = 41 + t'.val := congrArg Fin.val h1
      have ht : t = t' := Fin.ext (by omega)
      subst ht; rfl
  disj := by decide

/-- The arrays the kernel's copies read, -/
def H0 : Finset (Ref sig .tc) := {main_v0, main_arg1, main_arg2}
theorem H0_sub : H0 ⊆ Pipeline.restRefs sig spec0 := by decide
/-- and the one they write. -/
def R0 : Finset (Ref sig .tc) := {main_v2}
theorem R0_sub : R0 ⊆ Pipeline.restRefs sig spec0 \ H0 := by decide

/-- The kernel's result. -/
def yOut (X : S128x15104.Idx → Elt F .bf16) (S : S944x3840.Idx → Elt F .fp8e4m3) (W : S7552x3840.Idx → Elt F .i8) (G : S1x1.Idx → Elt F .f32) :
    S128x3840.Idx → Elt F .bf16 := yOf fun t => outT (yV X S W t) (G g0)

/-- The gain, as the kernel finds it. -/
def gainIn (c : Dev nD) : S1x1.Idx → Elt F .f32 := iblk m c 0 t0_0

/-- The arrays when the kernel is done. -/
def G (c : Dev nD) : (b : Ref sig .tc) → Buf (Elt F) ((c : Thread nD τ).loc b) :=
  Function.update (V m c) main_v2 (yOut (V m c main_v0) (V m c main_arg2) (V m c main_arg1) (gainIn m c))

theorem G_v2 (c : Dev nD) : G m c main_v2 = yOut (V m c main_v0) (V m c main_arg2) (V m c main_arg1) (gainIn m c) := Function.update_self ..

theorem phi_eq (c : Dev nD) (K : (c : Dev nD) → (b : Ref sig .tc) → Buf (Elt F) ((c : Thread nD τ).loc b)) :
    (Pipeline.ΦDRG osem0 spec0 H0 R0 (V m) K c : sProp 𝕄)
      = iprop(iprop((∃ f, owns (c : Thread nD τ) (Memref.whole cc0_scratch0) fullShare f) ∗ (∃ f, owns (c : Thread nD τ) (Memref.whole cc0_scratch1) fullShare f)
            ∗ (∃ f, owns (c : Thread nD τ) (Memref.whole cc0_scratch2) fullShare f) ∗ (∃ f, owns (c : Thread nD τ) (Memref.whole cc0_scratch3) fullShare f)
            ∗ (∃ f, owns (c : Thread nD τ) (Memref.whole cc0_scratch4) fullShare f))
          ∗ (∃ r, prngReg c r)
          ∗ iprop(bigSep Finset.univ (fun g : Fin 8 => iprop(sv c (semG g 0) ∗ sv c (semG g 1) ∗ sv c (semG g 2) ∗ sv c (semG g 3) ∗ sv c (semG g 4)))
              ∗ bigSep Finset.univ (fun t : Fin 15 => sv c (semY t)))
          ∗ iprop(owns (c : Thread nD τ) (Memref.whole main_v0) fullShare (V m c main_v0) ∗ owns (c : Thread nD τ) (Memref.whole main_arg1) fullShare (V m c main_arg1)
              ∗ owns (c : Thread nD τ) (Memref.whole main_arg2) fullShare (V m c main_arg2))
          ∗ owns (c : Thread nD τ) (Memref.whole main_v2) fullShare (K c main_v2)) := by
  rw [Pipeline.ΦDRG_eq, scopedRest0_eq, sem_eq]
  simp only [owns_whole]
  unfold Pipeline.routed
  rw [BI.bigSep_eq_bigSepL_of_eq (S := H0) [main_v0, main_arg1, main_arg2] (by decide) (by decide),
    BI.bigSep_eq_bigSepL_of_eq (S := R0) [main_v2] (by decide) (by decide)]
  rfl

/-- The proof data: the gain's block stays; the result is written between the two ends. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ n := if n.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem phi_in (c : Dev nD) (n : Fin (cfg0.N + 1)) (h : n.val = 0) : (dats m 0 c).Φ n = Pipeline.ΦDRG osem0 spec0 H0 R0 (V m) (V m) c := by
  dsimp only [dats]; exact if_pos h
theorem phi_out (c : Dev nD) (n : Fin (cfg0.N + 1)) (h : n.val ≠ 0) : (dats m 0 c).Φ n = Pipeline.ΦDRG osem0 spec0 H0 R0 (V m) (G m) c := by
  dsimp only [dats]; exact if_neg h

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t))

theorem sound_body (hs : Same F) (c : Dev nD) (t : Fin cfg0.N) :
    bodyPre m c t ⊢ wp frame (wpE (defs₀ (F := F)) Variants.none c none) Set.univ (bodyAt0 t) (fun _ => bodyPost m c t) := by
  have ht : t = t0_0 := fin_N0 t
  subst ht
  rw [hs]
  unfold bodyPre bodyPost
  simp only [before0_0]
  rw [after0_0]
  rw [phi_in m c t0_0.castSucc rfl, phi_out m c t0_0.succ (Nat.succ_ne_zero _), phi_eq, phi_eq, G_v2]
  unfold Dat.owesAt Pipeline.owesWithin
  rw [show (dats m 0 c).owed t0_0.castSucc = 0 from rfl, show (dats m 0 c).owed t0_0.succ = 0 from rfl]
  iintro ⟨⟨⟨⟨%X', H5⟩, ⟨%W', H6⟩, ⟨%S', H7⟩, ⟨%A8, H8⟩, ⟨%Y9, H9⟩⟩, Hg, ⟨Hq, Hy⟩, ⟨H0, H1, H2⟩, H4⟩, ⟨%Wt, -, HW⟩, ⟨%d0, H3⟩⟩
  have hb : body (F := F) (Memref.whole main_v0) (Memref.isWhole_whole _) (Memref.whole main_arg1) (Memref.isWhole_whole _) (Memref.whole main_arg2) (Memref.isWhole_whole _)
        (win0_0.stage (cfg0.slots t0_0 0)) (hstage0_0 0) (Memref.whole main_v2) (Memref.isWhole_whole _) (Memref.whole cc0_scratch0) (Memref.isWhole_whole _)
        (Memref.whole cc0_scratch1) (Memref.isWhole_whole _) (Memref.whole cc0_scratch2) (Memref.isWhole_whole _) (Memref.whole cc0_scratch3) (Memref.isWhole_whole _)
        (Memref.whole cc0_scratch4) (Memref.isWhole_whole _) cc0_scratch5 cc0_scratch6 cc0_scratch7
      = (body (F := F) (Memref.whole main_v0) (Memref.isWhole_whole _) (Memref.whole main_arg1) (Memref.isWhole_whole _) (Memref.whole main_arg2) (Memref.isWhole_whole _)
        (win0_0.stage (cfg0.slots t0_0 0)) (hstage0_0 0) (Memref.whole main_v2) (Memref.isWhole_whole _) (Memref.whole cc0_scratch0) (Memref.isWhole_whole _)
        (Memref.whole cc0_scratch1) (Memref.isWhole_whole _) (Memref.whole cc0_scratch2) (Memref.isWhole_whole _) (Memref.whole cc0_scratch3) (Memref.isWhole_whole _)
        (Memref.whole cc0_scratch4) (Memref.isWhole_whole _) cc0_scratch5 cc0_scratch6 cc0_scratch7 >>= fun u => pure u) := (bind_pure _).symm
  rw [hb]
  iapply (wp_body (V m c main_v0) (V m c main_arg2) (V m c main_arg1) c (Memref.whole main_v0) (Memref.whole main_arg1) (Memref.whole main_arg2)
    (win0_0.stage (cfg0.slots t0_0 0)) (Memref.whole main_v2) (Memref.whole cc0_scratch4) (Memref.whole cc0_scratch0) (Memref.whole cc0_scratch1) (Memref.whole cc0_scratch2) (Memref.whole cc0_scratch3)
    (Memref.isWhole_whole _) (Memref.isWhole_whole _) (Memref.isWhole_whole _) (hstage0_0 0) (Memref.isWhole_whole _) (Memref.isWhole_whole _) (Memref.isWhole_whole _) (Memref.isWhole_whole _)
    (Memref.isWhole_whole _) (Memref.isWhole_whole _) credits X' S' W' A8 (gainIn m c) (V m c main_v2) Y9) $$ [H5 H6 H7 H8 H9 Hq Hy H0 H1 H2 H4 HW H3]
  · isplitl [H5 H6 H7 Hq H0 H1 H2]
    · iapply (ent_of_eq (rests_eq c (Memref.whole main_v0) (Memref.whole main_arg1) (Memref.whole main_arg2) (Memref.whole cc0_scratch0) (Memref.whole cc0_scratch1) (Memref.whole cc0_scratch2) _ _ _ _ _ _))
      isplitl [H0 H1 H2]
      · isplitl [H0]; · iexact H0
        isplitl [H2]; · iexact H2
        iexact H1
      isplitl [H5 H6 H7]
      · isplitl [H5]; · iexact H5
        isplitl [H7]; · iexact H7
        iexact H6
      iexact Hq
    isplitl [H8]; · iexact H8
    isplitl [HW]
    · unfold due; iexists Wt; iexact HW
    isplitl [H3]; · iexact H3
    iapply (ent_of_eq (yidle_eq c (Memref.whole main_v2) (Memref.whole cc0_scratch4) _ _))
    isplitl [H4]; · iexact H4
    isplitl [H9]; · iexact H9
    iexact Hy
  iintro ⟨HB, ⟨%A8', H8⟩, HO, H3, HY⟩
  ihave HB := (ent_of_eq (rests_eq c (Memref.whole main_v0) (Memref.whole main_arg1) (Memref.whole main_arg2) (Memref.whole cc0_scratch0) (Memref.whole cc0_scratch1) (Memref.whole cc0_scratch2) _ _ _ _ _ _).symm) $$ HB
  ihave HY := (ent_of_eq (ydone_eq c (Memref.whole main_v2) (Memref.whole cc0_scratch4) _)) $$ HY
  icases HB with ⟨⟨H0, H2, H1⟩, ⟨H5, H7, H6⟩, Hq⟩
  icases HY with ⟨H4, H9, Hy⟩
  unfold due
  icases HO with ⟨%W2, HO⟩
  iapply (le_wp_ret _ _)
  isplitl [H0 H1 H2 H4 H5 H6 H7 H8 H9 Hg Hq Hy]
  · isplitl [H5 H6 H7 H8 H9]
    · isplitl [H5]; · iexists _; iexact H5
      isplitl [H6]; · iexists _; iexact H6
      isplitl [H7]; · iexists _; iexact H7
      isplitl [H8]; · iexists _; iexact H8
      iexists _; iexact H9
    isplitl [Hg]; · iexact Hg
    isplitl [Hq Hy]
    · isplitl [Hq]; · iexact Hq
      iexact Hy
    isplitl [H0 H1 H2]
    · isplitl [H0]; · iexact H0
      isplitl [H1]; · iexact H1
      iexact H2
    iexact H4
  isplitl [HO]
  · iexists W2; isplitr; · ipureintro; exact fun _ _ => Or.inl trivial
    iexact HO
  iexact H3

theorem defs₀_row (t : Fin cfg0.N) :
    defs₀ (F := F) .tc cfg0.body (cfg0.bodyArgs t (cfg0.slots t)) = bodyAt0 t := by
  unfold defs₀; rw [Defs.onTc_tc]

theorem body_obligation (hs : Same F) (c : Dev nD) : BodyObligation (dats (F := F) m 0 c) (defs₀ (F := F)) Variants.none () Set.univ := fun t => by
  rw [bigSep_W0, bigSep_W0, defs₀_row]
  exact triple_restated (sound_body m hs c t) rfl .rfl fun _ => .rfl

set_option backward.isDefEq.respectTransparency.types false in
theorem run_main (hs : Same F) : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m hs c).loose) (hshare := fun c => (dats m 0 c).share_full fun _ => rfl)
    (howed := fun _ _ => rfl) (V := V m) (hmain := hmainD m Variants.none) (hA := A_eq m) (G := G m)
    (hin := fun c => by rw [phi_in m c 0 rfl])
    (hout := fun c => by rw [phi_out m c (Fin.last cfg0.N) (by decide)])

/-- The program runs, leaves its arguments, leaves every counter at zero, and its result is `yOut`. -/
theorem frame_value (hs : Same F) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, r.2.mem ((c.tc : Thread nD τ).loc main_v2)
          = yOut (V m c main_v0) (V m c main_arg2) (V m c main_arg1) (gainIn m c)) :=
  (θ_run defs _ _).mono (fun _ h => ⟨⟨fun c => ⟨
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩, h.2⟩,
    fun c => (h.1.written c (b := main_v2) (by decide)).trans (G_v2 m c)⟩) (run_main m ρ hs)

end Cert.Kernel
-- ==== Proof.KMain.lean ====
module

public import proofs.«01_k».proof.Proof.KEq
public import proofs.«01_k».proof.Proof.KFrame

@[expose] public section

noncomputable section

namespace Cert.Kernel

open Idealize.ShloMosaic

/-- The printed body is the body the run is proved of. -/
theorem same : Same Bits := fun t => by
  unfold Gen.bodyAt0
  rw [body_eq]

end Cert.Kernel

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.IMain
public import proofs.«01_k».proof.Proof.IVz
public import proofs.«01_k».proof.Proof.KMain
public import Idealize.ShloMosaic.Adequacy
public import Idealize.ShloMosaic.Init

@[expose] public section

noncomputable section

namespace Cert.Proof

open Idealize.ShloMosaic Idealize.SL.Sem

theorem frame_kernel : Cert.quiescent_Kernel := fun m g _ =>
  (θ_run Cert.Kernel.defs _ _).mono (fun _ h => h.1) (Cert.Kernel.frame_value m g Cert.Kernel.same)

theorem frame_kernelIdeal : Cert.quiescent_KernelIdeal := fun m g _ =>
  (θ_run Cert.KernelIdeal.defs _ _).mono (fun _ h => h.1) (Cert.KernelIdeal.frame_value m g Cert.KernelIdeal.same)

theorem frame_referenceIdeal : Cert.quiescent_ReferenceIdeal := fun m g _ => Cert.ReferenceIdeal.Gen.frame m g

theorem claim : Cert.Claim := ⟨Cert.Kernel.Gen.facts, Cert.KernelIdeal.Gen.facts, Cert.ReferenceIdeal.Gen.facts,
  frame_kernel, frame_kernelIdeal, frame_referenceIdeal, trivial, Cert.KernelIdeal.algebraic_proof⟩

end Cert.Proof

end
